-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_ln_finite [hPre_ln_finite : Cert.Pre_ln_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_ln_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_ln_finite [hPre_ln_finite : Cert.Pre_ln_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_ln_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9))) = (fun _ => 1#1)

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_DiscKernel (m : (ℓ : Loc Cert.DiscKernel.nD Cert.DiscKernel.τ Cert.DiscKernel.sig) → Buf (Elt Bits) ℓ) : Prop :=
  True

def Pre_DiscKernelIdeal (m : (ℓ : Loc Cert.DiscKernelIdeal.nD Cert.DiscKernelIdeal.τ Cert.DiscKernelIdeal.sig) → Buf (Elt Ideal) ℓ) : Prop :=
  True

def Pre_DiscReferenceIdeal (m : (ℓ : Loc Cert.DiscReferenceIdeal.nD Cert.DiscReferenceIdeal.τ Cert.DiscReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_ln_finite [hNormKernelIdeal : Cert.NormKernelIdeal.Facts] [hPre_ln_finite : Cert.Pre_ln_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_ln_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_ln_finite [hNormReferenceIdeal : Cert.NormReferenceIdeal.Facts] [hPre_ln_finite : Cert.Pre_ln_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_ln_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8))
      ∧ r.2.sem = fun _ => 0)

def quiescent_DiscKernel [hDiscKernel : Cert.DiscKernel.Facts] : Prop :=
  ∀ (m : (ℓ : Loc Cert.DiscKernel.nD Cert.DiscKernel.τ Cert.DiscKernel.sig) → Buf (Elt Bits) ℓ) (g : Dev Cert.DiscKernel.nD → PrngReg), Pre_DiscKernel m →
    θ_run (Cert.DiscKernel.defs (F := Bits)) (onTc (τ := Cert.DiscKernel.τ) (Cert.DiscKernel.main (F := Bits))) ⟨m, fun _ => 0, g⟩ (fun r => (∀ c : Dev Cert.DiscKernel.nD,
      r.2.mem ((c.tc : Thread Cert.DiscKernel.nD Cert.DiscKernel.τ).loc Cert.DiscKernel.main_arg0) = m ((c.tc : Thread Cert.DiscKernel.nD Cert.DiscKernel.τ).loc Cert.DiscKernel.main_arg0)
      ∧ r.2.mem ((c.tc : Thread Cert.DiscKernel.nD Cert.DiscKernel.τ).loc Cert.DiscKernel.main_arg1) = m ((c.tc : Thread Cert.DiscKernel.nD Cert.DiscKernel.τ).loc Cert.DiscKernel.main_arg1)
      ∧ r.2.mem ((c.tc : Thread Cert.DiscKernel.nD Cert.DiscKernel.τ).loc Cert.DiscKernel.main_arg2) = m ((c.tc : Thread Cert.DiscKernel.nD Cert.DiscKernel.τ).loc Cert.DiscKernel.main_arg2)
      ∧ r.2.mem ((c.tc : Thread Cert.DiscKernel.nD Cert.DiscKernel.τ).loc Cert.DiscKernel.main_arg3) = m ((c.tc : Thread Cert.DiscKernel.nD Cert.DiscKernel.τ).loc Cert.DiscKernel.main_arg3)
      ∧ r.2.mem ((c.tc : Thread Cert.DiscKernel.nD Cert.DiscKernel.τ).loc Cert.DiscKernel.main_arg4) = m ((c.tc : Thread Cert.DiscKernel.nD Cert.DiscKernel.τ).loc Cert.DiscKernel.main_arg4))
      ∧ r.2.sem = fun _ => 0)

def quiescent_DiscKernelIdeal [hDiscKernelIdeal : Cert.DiscKernelIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg), Pre_DiscKernelIdeal m →
    θ_run (Cert.DiscKernelIdeal.defs (F := Ideal)) (onTc (τ := Cert.DiscKernelIdeal.τ) (Cert.DiscKernelIdeal.main (F := Ideal))) ⟨m, fun _ => 0, g⟩ (fun r => (∀ c : Dev Cert.DiscKernelIdeal.nD,
      r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
      ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
      ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
      ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
      ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4))
      ∧ r.2.sem = fun _ => 0)

def quiescent_DiscReferenceIdeal [hDiscReferenceIdeal : Cert.DiscReferenceIdeal.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v11_0)) (v1 : (c : Dev Cert.FfnKernelIdeal.nD) → Buf (Elt Ideal) ((c.tc : Thread Cert.FfnKernelIdeal.nD Cert.FfnKernelIdeal.τ).loc Cert.FfnKernelIdeal.main_v11_1)) (v2 : (c : Dev Cert.FfnKernelIdeal.nD) → Buf (Elt Ideal) ((c.tc : Thread Cert.FfnKernelIdeal.nD Cert.FfnKernelIdeal.τ).loc Cert.FfnKernelIdeal.main_v11_2)) (v3 : (c : Dev Cert.FfnKernelIdeal.nD) → Buf (Elt Ideal) ((c.tc : Thread Cert.FfnKernelIdeal.nD Cert.FfnKernelIdeal.τ).loc Cert.FfnKernelIdeal.main_v11_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11_0) = v0 c
          ∧ r.2.mem ((c.tc : Thread Cert.FfnKernelIdeal.nD Cert.FfnKernelIdeal.τ).loc Cert.FfnKernelIdeal.main_v11_1) = v1 c
          ∧ r.2.mem ((c.tc : Thread Cert.FfnKernelIdeal.nD Cert.FfnKernelIdeal.τ).loc Cert.FfnKernelIdeal.main_v11_2) = v2 c
          ∧ r.2.mem ((c.tc : Thread Cert.FfnKernelIdeal.nD Cert.FfnKernelIdeal.τ).loc Cert.FfnKernelIdeal.main_v11_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v23) = v0 c
          ∧ r.2.mem ((c.tc : Thread Cert.FfnReferenceIdeal.nD Cert.FfnReferenceIdeal.τ).loc Cert.FfnReferenceIdeal.main_v37) = v1 c
          ∧ r.2.mem ((c.tc : Thread Cert.FfnReferenceIdeal.nD Cert.FfnReferenceIdeal.τ).loc Cert.FfnReferenceIdeal.main_v38) = v2 c
          ∧ r.2.mem ((c.tc : Thread Cert.FfnReferenceIdeal.nD Cert.FfnReferenceIdeal.τ).loc Cert.FfnReferenceIdeal.main_v43) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v8_0)) (v1 : (c : Dev Cert.GateKernelIdeal.nD) → Buf (Elt Ideal) ((c.tc : Thread Cert.GateKernelIdeal.nD Cert.GateKernelIdeal.τ).loc Cert.GateKernelIdeal.main_v8_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v8_0) = v0 c
          ∧ r.2.mem ((c.tc : Thread Cert.GateKernelIdeal.nD Cert.GateKernelIdeal.τ).loc Cert.GateKernelIdeal.main_v8_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v14) = v0 c
          ∧ r.2.mem ((c.tc : Thread Cert.GateReferenceIdeal.nD Cert.GateReferenceIdeal.τ).loc Cert.GateReferenceIdeal.main_v15) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v41_0)) (v1 : (c : Dev Cert.AttnKernelIdeal.nD) → Buf (Elt Ideal) ((c.tc : Thread Cert.AttnKernelIdeal.nD Cert.AttnKernelIdeal.τ).loc Cert.AttnKernelIdeal.main_v41_1)) (v2 : (c : Dev Cert.AttnKernelIdeal.nD) → Buf (Elt Ideal) ((c.tc : Thread Cert.AttnKernelIdeal.nD Cert.AttnKernelIdeal.τ).loc Cert.AttnKernelIdeal.main_v41_2)) (v3 : (c : Dev Cert.AttnKernelIdeal.nD) → Buf (Elt Ideal) ((c.tc : Thread Cert.AttnKernelIdeal.nD Cert.AttnKernelIdeal.τ).loc Cert.AttnKernelIdeal.main_v41_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v41_0) = v0 c
          ∧ r.2.mem ((c.tc : Thread Cert.AttnKernelIdeal.nD Cert.AttnKernelIdeal.τ).loc Cert.AttnKernelIdeal.main_v41_1) = v1 c
          ∧ r.2.mem ((c.tc : Thread Cert.AttnKernelIdeal.nD Cert.AttnKernelIdeal.τ).loc Cert.AttnKernelIdeal.main_v41_2) = v2 c
          ∧ r.2.mem ((c.tc : Thread Cert.AttnKernelIdeal.nD Cert.AttnKernelIdeal.τ).loc Cert.AttnKernelIdeal.main_v41_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v99) = v0 c
          ∧ r.2.mem ((c.tc : Thread Cert.AttnReferenceIdeal.nD Cert.AttnReferenceIdeal.τ).loc Cert.AttnReferenceIdeal.main_v97) = v1 c
          ∧ r.2.mem ((c.tc : Thread Cert.AttnReferenceIdeal.nD Cert.AttnReferenceIdeal.τ).loc Cert.AttnReferenceIdeal.main_v70) = v2 c
          ∧ r.2.mem ((c.tc : Thread Cert.AttnReferenceIdeal.nD Cert.AttnReferenceIdeal.τ).loc Cert.AttnReferenceIdeal.main_v100) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_NormKernel_NormKernelIdeal : Prop :=
  True

def algebraic_NormKernelIdeal_NormReferenceIdeal_pre_ln_finite [hNormKernelIdeal : Cert.NormKernelIdeal.Facts] [hNormReferenceIdeal : Cert.NormReferenceIdeal.Facts] [hPre_ln_finite : Cert.Pre_ln_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_ln_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v2_0)) (v1 : (c : Dev Cert.NormKernelIdeal.nD) → Buf (Elt Ideal) ((c.tc : Thread Cert.NormKernelIdeal.nD Cert.NormKernelIdeal.τ).loc Cert.NormKernelIdeal.main_v2_1)) (v2 : (c : Dev Cert.NormKernelIdeal.nD) → Buf (Elt Ideal) ((c.tc : Thread Cert.NormKernelIdeal.nD Cert.NormKernelIdeal.τ).loc Cert.NormKernelIdeal.main_v2_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2_0) = v0 c
          ∧ r.2.mem ((c.tc : Thread Cert.NormKernelIdeal.nD Cert.NormKernelIdeal.τ).loc Cert.NormKernelIdeal.main_v2_1) = v1 c
          ∧ r.2.mem ((c.tc : Thread Cert.NormKernelIdeal.nD Cert.NormKernelIdeal.τ).loc Cert.NormKernelIdeal.main_v2_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v62) = v0 c
          ∧ r.2.mem ((c.tc : Thread Cert.NormReferenceIdeal.nD Cert.NormReferenceIdeal.τ).loc Cert.NormReferenceIdeal.main_v63) = v1 c
          ∧ r.2.mem ((c.tc : Thread Cert.NormReferenceIdeal.nD Cert.NormReferenceIdeal.τ).loc Cert.NormReferenceIdeal.main_v64) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)) (v2 : (c : Dev Cert.MixKernelIdeal.nD) → Buf (Elt Ideal) ((c.tc : Thread Cert.MixKernelIdeal.nD Cert.MixKernelIdeal.τ).loc Cert.MixKernelIdeal.main_v10_2)) (v3 : (c : Dev Cert.MixKernelIdeal.nD) → Buf (Elt Ideal) ((c.tc : Thread Cert.MixKernelIdeal.nD Cert.MixKernelIdeal.τ).loc Cert.MixKernelIdeal.main_v10_3)) (v4 : (c : Dev Cert.MixKernelIdeal.nD) → Buf (Elt Ideal) ((c.tc : Thread Cert.MixKernelIdeal.nD Cert.MixKernelIdeal.τ).loc Cert.MixKernelIdeal.main_v10_4)) (v5 : (c : Dev Cert.MixKernelIdeal.nD) → Buf (Elt Ideal) ((c.tc : Thread Cert.MixKernelIdeal.nD Cert.MixKernelIdeal.τ).loc Cert.MixKernelIdeal.main_v10_5)) (v6 : (c : Dev Cert.MixKernelIdeal.nD) → Buf (Elt Ideal) ((c.tc : Thread Cert.MixKernelIdeal.nD Cert.MixKernelIdeal.τ).loc Cert.MixKernelIdeal.main_v10_6)) (v7 : (c : Dev Cert.MixKernelIdeal.nD) → Buf (Elt Ideal) ((c.tc : Thread Cert.MixKernelIdeal.nD Cert.MixKernelIdeal.τ).loc Cert.MixKernelIdeal.main_v10_7)) (v8 : (c : Dev Cert.MixKernelIdeal.nD) → Buf (Elt Ideal) ((c.tc : Thread Cert.MixKernelIdeal.nD Cert.MixKernelIdeal.τ).loc Cert.MixKernelIdeal.main_v10_8)) (v9 : (c : Dev Cert.MixKernelIdeal.nD) → Buf (Elt Ideal) ((c.tc : Thread Cert.MixKernelIdeal.nD Cert.MixKernelIdeal.τ).loc Cert.MixKernelIdeal.main_v10_9)) (v10 : (c : Dev Cert.MixKernelIdeal.nD) → Buf (Elt Ideal) ((c.tc : Thread Cert.MixKernelIdeal.nD Cert.MixKernelIdeal.τ).loc Cert.MixKernelIdeal.main_v10_10)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_v10_2) = v2 c
          ∧ r.2.mem ((c.tc : Thread Cert.MixKernelIdeal.nD Cert.MixKernelIdeal.τ).loc Cert.MixKernelIdeal.main_v10_3) = v3 c
          ∧ r.2.mem ((c.tc : Thread Cert.MixKernelIdeal.nD Cert.MixKernelIdeal.τ).loc Cert.MixKernelIdeal.main_v10_4) = v4 c
          ∧ r.2.mem ((c.tc : Thread Cert.MixKernelIdeal.nD Cert.MixKernelIdeal.τ).loc Cert.MixKernelIdeal.main_v10_5) = v5 c
          ∧ r.2.mem ((c.tc : Thread Cert.MixKernelIdeal.nD Cert.MixKernelIdeal.τ).loc Cert.MixKernelIdeal.main_v10_6) = v6 c
          ∧ r.2.mem ((c.tc : Thread Cert.MixKernelIdeal.nD Cert.MixKernelIdeal.τ).loc Cert.MixKernelIdeal.main_v10_7) = v7 c
          ∧ r.2.mem ((c.tc : Thread Cert.MixKernelIdeal.nD Cert.MixKernelIdeal.τ).loc Cert.MixKernelIdeal.main_v10_8) = v8 c
          ∧ r.2.mem ((c.tc : Thread Cert.MixKernelIdeal.nD Cert.MixKernelIdeal.τ).loc Cert.MixKernelIdeal.main_v10_9) = v9 c
          ∧ r.2.mem ((c.tc : Thread Cert.MixKernelIdeal.nD Cert.MixKernelIdeal.τ).loc Cert.MixKernelIdeal.main_v10_10) = v10 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v218) = v0 c
          ∧ r.2.mem ((c.tc : Thread Cert.MixReferenceIdeal.nD Cert.MixReferenceIdeal.τ).loc Cert.MixReferenceIdeal.main_v198) = v1 c
          ∧ r.2.mem ((c.tc : Thread Cert.MixReferenceIdeal.nD Cert.MixReferenceIdeal.τ).loc Cert.MixReferenceIdeal.main_v238) = v2 c
          ∧ r.2.mem ((c.tc : Thread Cert.MixReferenceIdeal.nD Cert.MixReferenceIdeal.τ).loc Cert.MixReferenceIdeal.main_v155) = v3 c
          ∧ r.2.mem ((c.tc : Thread Cert.MixReferenceIdeal.nD Cert.MixReferenceIdeal.τ).loc Cert.MixReferenceIdeal.main_v242) = v4 c
          ∧ r.2.mem ((c.tc : Thread Cert.MixReferenceIdeal.nD Cert.MixReferenceIdeal.τ).loc Cert.MixReferenceIdeal.main_v243) = v5 c
          ∧ r.2.mem ((c.tc : Thread Cert.MixReferenceIdeal.nD Cert.MixReferenceIdeal.τ).loc Cert.MixReferenceIdeal.main_v244) = v6 c
          ∧ r.2.mem ((c.tc : Thread Cert.MixReferenceIdeal.nD Cert.MixReferenceIdeal.τ).loc Cert.MixReferenceIdeal.main_v224) = v7 c
          ∧ r.2.mem ((c.tc : Thread Cert.MixReferenceIdeal.nD Cert.MixReferenceIdeal.τ).loc Cert.MixReferenceIdeal.main_v152) = v8 c
          ∧ r.2.mem ((c.tc : Thread Cert.MixReferenceIdeal.nD Cert.MixReferenceIdeal.τ).loc Cert.MixReferenceIdeal.main_v245) = v9 c
          ∧ r.2.mem ((c.tc : Thread Cert.MixReferenceIdeal.nD Cert.MixReferenceIdeal.τ).loc Cert.MixReferenceIdeal.main_v246) = v10 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)) →
    ∃ (v0 : (c : Dev Cert.PrepKernelIdeal.nD) → Buf (Elt Ideal) ((c.tc : Thread Cert.PrepKernelIdeal.nD Cert.PrepKernelIdeal.τ).loc Cert.PrepKernelIdeal.main_v5_0)) (v1 : (c : Dev Cert.PrepKernelIdeal.nD) → Buf (Elt Ideal) ((c.tc : Thread Cert.PrepKernelIdeal.nD Cert.PrepKernelIdeal.τ).loc Cert.PrepKernelIdeal.main_v5_1)) (v2 : (c : Dev Cert.PrepKernelIdeal.nD) → Buf (Elt Ideal) ((c.tc : Thread Cert.PrepKernelIdeal.nD Cert.PrepKernelIdeal.τ).loc Cert.PrepKernelIdeal.main_v5_2)) (v3 : (c : Dev Cert.PrepKernelIdeal.nD) → Buf (Elt Ideal) ((c.tc : Thread Cert.PrepKernelIdeal.nD Cert.PrepKernelIdeal.τ).loc Cert.PrepKernelIdeal.main_v5_3)) (v4 : (c : Dev Cert.PrepKernelIdeal.nD) → Buf (Elt Ideal) ((c.tc : Thread Cert.PrepKernelIdeal.nD Cert.PrepKernelIdeal.τ).loc Cert.PrepKernelIdeal.main_v5_4)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v5_0) = v0 c
          ∧ r.2.mem ((c.tc : Thread Cert.PrepKernelIdeal.nD Cert.PrepKernelIdeal.τ).loc Cert.PrepKernelIdeal.main_v5_1) = v1 c
          ∧ r.2.mem ((c.tc : Thread Cert.PrepKernelIdeal.nD Cert.PrepKernelIdeal.τ).loc Cert.PrepKernelIdeal.main_v5_2) = v2 c
          ∧ r.2.mem ((c.tc : Thread Cert.PrepKernelIdeal.nD Cert.PrepKernelIdeal.τ).loc Cert.PrepKernelIdeal.main_v5_3) = v3 c
          ∧ r.2.mem ((c.tc : Thread Cert.PrepKernelIdeal.nD Cert.PrepKernelIdeal.τ).loc Cert.PrepKernelIdeal.main_v5_4) = v4 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v138) = v0 c
          ∧ r.2.mem ((c.tc : Thread Cert.PrepReferenceIdeal.nD Cert.PrepReferenceIdeal.τ).loc Cert.PrepReferenceIdeal.main_v130) = v1 c
          ∧ r.2.mem ((c.tc : Thread Cert.PrepReferenceIdeal.nD Cert.PrepReferenceIdeal.τ).loc Cert.PrepReferenceIdeal.main_v141) = v2 c
          ∧ r.2.mem ((c.tc : Thread Cert.PrepReferenceIdeal.nD Cert.PrepReferenceIdeal.τ).loc Cert.PrepReferenceIdeal.main_v142) = v3 c
          ∧ r.2.mem ((c.tc : Thread Cert.PrepReferenceIdeal.nD Cert.PrepReferenceIdeal.τ).loc Cert.PrepReferenceIdeal.main_v143) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8))

def preserves_DiscKernel_DiscKernelIdeal : Prop :=
  True

def algebraic_DiscKernelIdeal_DiscReferenceIdeal [hDiscKernelIdeal : Cert.DiscKernelIdeal.Facts] [hDiscReferenceIdeal : Cert.DiscReferenceIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg)
    (m' : (ℓ : Loc Cert.DiscReferenceIdeal.nD Cert.DiscReferenceIdeal.τ Cert.DiscReferenceIdeal.sig) → Buf (Elt Ideal) ℓ) (g' : Dev Cert.DiscReferenceIdeal.nD → PrngReg), Pre_DiscKernelIdeal m →
    (∀ c : Dev Cert.DiscKernelIdeal.nD,
      m' ((c.tc : Thread Cert.DiscReferenceIdeal.nD Cert.DiscReferenceIdeal.τ).loc Cert.DiscReferenceIdeal.main_arg0) = m ((c.tc : Thread Cert.DiscKernelIdeal.nD Cert.DiscKernelIdeal.τ).loc Cert.DiscKernelIdeal.main_arg0)
      ∧ m' ((c.tc : Thread Cert.DiscReferenceIdeal.nD Cert.DiscReferenceIdeal.τ).loc Cert.DiscReferenceIdeal.main_arg1) = m ((c.tc : Thread Cert.DiscKernelIdeal.nD Cert.DiscKernelIdeal.τ).loc Cert.DiscKernelIdeal.main_arg1)
      ∧ m' ((c.tc : Thread Cert.DiscReferenceIdeal.nD Cert.DiscReferenceIdeal.τ).loc Cert.DiscReferenceIdeal.main_arg2) = m ((c.tc : Thread Cert.DiscKernelIdeal.nD Cert.DiscKernelIdeal.τ).loc Cert.DiscKernelIdeal.main_arg2)
      ∧ m' ((c.tc : Thread Cert.DiscReferenceIdeal.nD Cert.DiscReferenceIdeal.τ).loc Cert.DiscReferenceIdeal.main_arg3) = m ((c.tc : Thread Cert.DiscKernelIdeal.nD Cert.DiscKernelIdeal.τ).loc Cert.DiscKernelIdeal.main_arg3)
      ∧ m' ((c.tc : Thread Cert.DiscReferenceIdeal.nD Cert.DiscReferenceIdeal.τ).loc Cert.DiscReferenceIdeal.main_arg4) = m ((c.tc : Thread Cert.DiscKernelIdeal.nD Cert.DiscKernelIdeal.τ).loc Cert.DiscKernelIdeal.main_arg4)) →
    ∃ (v0 : (c : Dev Cert.DiscKernelIdeal.nD) → Buf (Elt Ideal) ((c.tc : Thread Cert.DiscKernelIdeal.nD Cert.DiscKernelIdeal.τ).loc Cert.DiscKernelIdeal.main_v3_0)) (v1 : (c : Dev Cert.DiscKernelIdeal.nD) → Buf (Elt Ideal) ((c.tc : Thread Cert.DiscKernelIdeal.nD Cert.DiscKernelIdeal.τ).loc Cert.DiscKernelIdeal.main_v3_1)) (v2 : (c : Dev Cert.DiscKernelIdeal.nD) → Buf (Elt Ideal) ((c.tc : Thread Cert.DiscKernelIdeal.nD Cert.DiscKernelIdeal.τ).loc Cert.DiscKernelIdeal.main_v3_2)) (v3 : (c : Dev Cert.DiscKernelIdeal.nD) → Buf (Elt Ideal) ((c.tc : Thread Cert.DiscKernelIdeal.nD Cert.DiscKernelIdeal.τ).loc Cert.DiscKernelIdeal.main_v3_3)),
      θ_run (Cert.DiscKernelIdeal.defs (F := Ideal)) (onTc (τ := Cert.DiscKernelIdeal.τ) (Cert.DiscKernelIdeal.main (F := Ideal))) ⟨m, fun _ => 0, g⟩ (fun r => ∀ c : Dev Cert.DiscKernelIdeal.nD,
          r.2.mem ((c.tc : Thread Cert.DiscKernelIdeal.nD Cert.DiscKernelIdeal.τ).loc Cert.DiscKernelIdeal.main_v3_0) = v0 c
          ∧ r.2.mem ((c.tc : Thread Cert.DiscKernelIdeal.nD Cert.DiscKernelIdeal.τ).loc Cert.DiscKernelIdeal.main_v3_1) = v1 c
          ∧ r.2.mem ((c.tc : Thread Cert.DiscKernelIdeal.nD Cert.DiscKernelIdeal.τ).loc Cert.DiscKernelIdeal.main_v3_2) = v2 c
          ∧ r.2.mem ((c.tc : Thread Cert.DiscKernelIdeal.nD Cert.DiscKernelIdeal.τ).loc Cert.DiscKernelIdeal.main_v3_3) = v3 c
          ∧ r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
          ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
          ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
          ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
          ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4))
      ∧ θ_run (Cert.DiscReferenceIdeal.defs (F := Ideal)) (onTc (τ := Cert.DiscReferenceIdeal.τ) (Cert.DiscReferenceIdeal.main (F := Ideal))) ⟨m', fun _ => 0, g'⟩ (fun r => ∀ c : Dev Cert.DiscReferenceIdeal.nD,
          r.2.mem ((c.tc : Thread Cert.DiscReferenceIdeal.nD Cert.DiscReferenceIdeal.τ).loc Cert.DiscReferenceIdeal.main_v8) = v0 c
          ∧ r.2.mem ((c.tc : Thread Cert.DiscReferenceIdeal.nD Cert.DiscReferenceIdeal.τ).loc Cert.DiscReferenceIdeal.main_v12) = v1 c
          ∧ r.2.mem ((c.tc : Thread Cert.DiscReferenceIdeal.nD Cert.DiscReferenceIdeal.τ).loc Cert.DiscReferenceIdeal.main_v40) = v2 c
          ∧ r.2.mem ((c.tc : Thread Cert.DiscReferenceIdeal.nD Cert.DiscReferenceIdeal.τ).loc Cert.DiscReferenceIdeal.main_v41) = v3 c
          ∧ r.2.mem ((c.tc : Thread Cert.DiscReferenceIdeal.nD Cert.DiscReferenceIdeal.τ).loc Cert.DiscReferenceIdeal.main_arg0) = m' ((c.tc : Thread Cert.DiscReferenceIdeal.nD Cert.DiscReferenceIdeal.τ).loc Cert.DiscReferenceIdeal.main_arg0)
          ∧ r.2.mem ((c.tc : Thread Cert.DiscReferenceIdeal.nD Cert.DiscReferenceIdeal.τ).loc Cert.DiscReferenceIdeal.main_arg1) = m' ((c.tc : Thread Cert.DiscReferenceIdeal.nD Cert.DiscReferenceIdeal.τ).loc Cert.DiscReferenceIdeal.main_arg1)
          ∧ r.2.mem ((c.tc : Thread Cert.DiscReferenceIdeal.nD Cert.DiscReferenceIdeal.τ).loc Cert.DiscReferenceIdeal.main_arg2) = m' ((c.tc : Thread Cert.DiscReferenceIdeal.nD Cert.DiscReferenceIdeal.τ).loc Cert.DiscReferenceIdeal.main_arg2)
          ∧ r.2.mem ((c.tc : Thread Cert.DiscReferenceIdeal.nD Cert.DiscReferenceIdeal.τ).loc Cert.DiscReferenceIdeal.main_arg3) = m' ((c.tc : Thread Cert.DiscReferenceIdeal.nD Cert.DiscReferenceIdeal.τ).loc Cert.DiscReferenceIdeal.main_arg3)
          ∧ r.2.mem ((c.tc : Thread Cert.DiscReferenceIdeal.nD Cert.DiscReferenceIdeal.τ).loc Cert.DiscReferenceIdeal.main_arg4) = m' ((c.tc : Thread Cert.DiscReferenceIdeal.nD Cert.DiscReferenceIdeal.τ).loc Cert.DiscReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)) →
    ∃ (v0 : (c : Dev Cert.OutKernelIdeal.nD) → Buf (Elt Ideal) ((c.tc : Thread Cert.OutKernelIdeal.nD Cert.OutKernelIdeal.τ).loc Cert.OutKernelIdeal.main_v10)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v10) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v91) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v7_0)) (v1 : (c : Dev Cert.UpKernelIdeal.nD) → Buf (Elt Ideal) ((c.tc : Thread Cert.UpKernelIdeal.nD Cert.UpKernelIdeal.τ).loc Cert.UpKernelIdeal.main_v7_1)) (v2 : (c : Dev Cert.UpKernelIdeal.nD) → Buf (Elt Ideal) ((c.tc : Thread Cert.UpKernelIdeal.nD Cert.UpKernelIdeal.τ).loc Cert.UpKernelIdeal.main_v7_2)) (v3 : (c : Dev Cert.UpKernelIdeal.nD) → Buf (Elt Ideal) ((c.tc : Thread Cert.UpKernelIdeal.nD Cert.UpKernelIdeal.τ).loc Cert.UpKernelIdeal.main_v7_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v7_0) = v0 c
          ∧ r.2.mem ((c.tc : Thread Cert.UpKernelIdeal.nD Cert.UpKernelIdeal.τ).loc Cert.UpKernelIdeal.main_v7_1) = v1 c
          ∧ r.2.mem ((c.tc : Thread Cert.UpKernelIdeal.nD Cert.UpKernelIdeal.τ).loc Cert.UpKernelIdeal.main_v7_2) = v2 c
          ∧ r.2.mem ((c.tc : Thread Cert.UpKernelIdeal.nD Cert.UpKernelIdeal.τ).loc Cert.UpKernelIdeal.main_v7_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v33) = v0 c
          ∧ r.2.mem ((c.tc : Thread Cert.UpReferenceIdeal.nD Cert.UpReferenceIdeal.τ).loc Cert.UpReferenceIdeal.main_v9) = v1 c
          ∧ r.2.mem ((c.tc : Thread Cert.UpReferenceIdeal.nD Cert.UpReferenceIdeal.τ).loc Cert.UpReferenceIdeal.main_v34) = v2 c
          ∧ r.2.mem ((c.tc : Thread Cert.UpReferenceIdeal.nD Cert.UpReferenceIdeal.τ).loc Cert.UpReferenceIdeal.main_v35) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def Claim : Prop :=
  ∃ (hLossKernel : Cert.LossKernel.Facts) (hLossKernelIdeal : Cert.LossKernelIdeal.Facts) (hLossReferenceIdeal : Cert.LossReferenceIdeal.Facts) (hFfnKernel : Cert.FfnKernel.Facts) (hFfnKernelIdeal : Cert.FfnKernelIdeal.Facts) (hFfnReferenceIdeal : Cert.FfnReferenceIdeal.Facts) (hGateKernel : Cert.GateKernel.Facts) (hGateKernelIdeal : Cert.GateKernelIdeal.Facts) (hGateReferenceIdeal : Cert.GateReferenceIdeal.Facts) (hAttnKernel : Cert.AttnKernel.Facts) (hAttnKernelIdeal : Cert.AttnKernelIdeal.Facts) (hAttnReferenceIdeal : Cert.AttnReferenceIdeal.Facts) (hNormKernel : Cert.NormKernel.Facts) (hNormKernelIdeal : Cert.NormKernelIdeal.Facts) (hNormReferenceIdeal : Cert.NormReferenceIdeal.Facts) (hMixKernel : Cert.MixKernel.Facts) (hMixKernelIdeal : Cert.MixKernelIdeal.Facts) (hMixReferenceIdeal : Cert.MixReferenceIdeal.Facts) (hPrepKernel : Cert.PrepKernel.Facts) (hPrepKernelIdeal : Cert.PrepKernelIdeal.Facts) (hPrepReferenceIdeal : Cert.PrepReferenceIdeal.Facts) (hDiscKernel : Cert.DiscKernel.Facts) (hDiscKernelIdeal : Cert.DiscKernelIdeal.Facts) (hDiscReferenceIdeal : Cert.DiscReferenceIdeal.Facts) (hOutKernel : Cert.OutKernel.Facts) (hOutKernelIdeal : Cert.OutKernelIdeal.Facts) (hOutReferenceIdeal : Cert.OutReferenceIdeal.Facts) (hUpKernel : Cert.UpKernel.Facts) (hUpKernelIdeal : Cert.UpKernelIdeal.Facts) (hUpReferenceIdeal : Cert.UpReferenceIdeal.Facts) (hPre_ffn_finite : Cert.Pre_ffn_finite.Facts) (hPre_attn_finite : Cert.Pre_attn_finite.Facts) (hPre_ln_finite : Cert.Pre_ln_finite.Facts) (hPre_mix_finite : Cert.Pre_mix_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_NormKernel (hNormKernel := hNormKernel)
    ∧ quiescent_NormKernelIdeal (hNormKernelIdeal := hNormKernelIdeal)
    ∧ quiescent_NormKernelIdeal_pre_ln_finite (hNormKernelIdeal := hNormKernelIdeal) (hPre_ln_finite := hPre_ln_finite)
    ∧ quiescent_NormReferenceIdeal (hNormReferenceIdeal := hNormReferenceIdeal)
    ∧ quiescent_NormReferenceIdeal_pre_ln_finite (hNormReferenceIdeal := hNormReferenceIdeal) (hPre_ln_finite := hPre_ln_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_DiscKernel (hDiscKernel := hDiscKernel)
    ∧ quiescent_DiscKernelIdeal (hDiscKernelIdeal := hDiscKernelIdeal)
    ∧ quiescent_DiscReferenceIdeal (hDiscReferenceIdeal := hDiscReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ preserves_LossKernel_LossKernelIdeal
    ∧ algebraic_LossKernelIdeal_LossReferenceIdeal (hLossKernelIdeal := hLossKernelIdeal) (hLossReferenceIdeal := hLossReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_GateKernel_GateKernelIdeal
    ∧ algebraic_GateKernelIdeal_GateReferenceIdeal (hGateKernelIdeal := hGateKernelIdeal) (hGateReferenceIdeal := hGateReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_NormKernel_NormKernelIdeal
    ∧ algebraic_NormKernelIdeal_NormReferenceIdeal_pre_ln_finite (hNormKernelIdeal := hNormKernelIdeal) (hNormReferenceIdeal := hNormReferenceIdeal) (hPre_ln_finite := hPre_ln_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_PrepKernel_PrepKernelIdeal
    ∧ algebraic_PrepKernelIdeal_PrepReferenceIdeal (hPrepKernelIdeal := hPrepKernelIdeal) (hPrepReferenceIdeal := hPrepReferenceIdeal)
    ∧ preserves_DiscKernel_DiscKernelIdeal
    ∧ algebraic_DiscKernelIdeal_DiscReferenceIdeal (hDiscKernelIdeal := hDiscKernelIdeal) (hDiscReferenceIdeal := hDiscReferenceIdeal)
    ∧ preserves_OutKernel_OutKernelIdeal
    ∧ algebraic_OutKernelIdeal_OutReferenceIdeal (hOutKernelIdeal := hOutKernelIdeal) (hOutReferenceIdeal := hOutReferenceIdeal)
    ∧ preserves_UpKernel_UpKernelIdeal
    ∧ algebraic_UpKernelIdeal_UpReferenceIdeal (hUpKernelIdeal := hUpKernelIdeal) (hUpReferenceIdeal := hUpReferenceIdeal)
-- ==== Pre_attn_finite.lean ====
abbrev S4096x2182 : Shape := ⟨2, ![4096, 2182]⟩
abbrev S6 : Shape := ⟨1, ![6]⟩
abbrev S4096x384 : Shape := ⟨2, ![4096, 384]⟩
abbrev S_ : Shape := ⟨0, ![]⟩

class Facts : Prop where
  bcast_S_S4096x2182 : S_.BroadcastsInDim S4096x2182 (![] : Fin 0 → Fin S4096x2182.rank)
  reducesTo_S4096x2182_S_d0_1 : S4096x2182.ReducesTo [0, 1] S_
  h_S_ : 0 < S_.numel
  bcast_S_S6 : S_.BroadcastsInDim S6 (![] : Fin 0 → Fin S6.rank)
  reducesTo_S6_S_d0 : S6.ReducesTo [0] S_
  bcast_S_S4096x384 : S_.BroadcastsInDim S4096x384 (![] : Fin 0 → Fin S4096x384.rank)
  reducesTo_S4096x384_S_d0_1 : S4096x384.ReducesTo [0, 1] S_

variable [Facts]

def fn {F : FTy → Type} [FloatOps F] (main_arg0 : FVec F S4096x2182 .f32) (main_arg1 : FVec F S6 .f32) (main_arg2 : FVec F S4096x384 .f32) : IVec S_ 1 :=
  let main_v0 : FVec F S4096x2182 .f32 := Host.absf main_arg0
  let main_cst : FVec F S_ .f32 := constant S_ .f32 0x7F800000#32
  let main_v1 : FVec F S4096x2182 .f32 := broadcastInDim S4096x2182 ![] bcast_S_S4096x2182 main_cst
  let main_v2 : IVec S4096x2182 1 := cmpf .olt main_v0 main_v1
  let main_c : IVec S_ 1 := constantI S_ 1 1#1
  let main_v3 : IVec S_ 1 := (fun x v => Host.reduce IntOp.andi x v reducesTo_S4096x2182_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S4096x384 .f32 := Host.absf main_arg2
  let main_cst_2 : FVec F S_ .f32 := constant S_ .f32 0x7F800000#32
  let main_v10 : FVec F S4096x384 .f32 := broadcastInDim S4096x384 ![] bcast_S_S4096x384 main_cst_2
  let main_v11 : IVec S4096x384 1 := cmpf .olt main_v9 main_v10
  let main_c_3 : IVec S_ 1 := constantI S_ 1 1#1
  let main_v12 : IVec S_ 1 := (fun x v => Host.reduce IntOp.andi x v reducesTo_S4096x384_S_d0_1 h_S_) main_v11 main_c_3
  let main_v13 : IVec S_ 1 := andi main_v8 main_v12
  main_v13
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_ln_finite.lean ====
abbrev S4096x1024 : Shape := ⟨2, ![4096, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S1024 .f32) (main_arg2 : FVec F S1024 .f32) (main_arg3 : FVec F S4096x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4096x1024 .f32 := Host.absf main_arg3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_mix_finite.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x384 .f32) (main_arg1 : FVec F S4096x384 .f32) (main_arg2 : FVec F S4096x256 .f32) (main_arg3 : FVec F S4096x1024 .f32) (main_arg4 : FVec F S1024 .f32) (main_arg5 : FVec F S256x256 .f32) (main_arg6 : FVec F S1024x1024 .f32) (main_arg7 : FVec F S1024 .f32) (main_arg8 : FVec F S1024 .f32) (main_arg9 : FVec F S4096x1024 .f32) : IVec S_ 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4096x1024 .f32 := Host.absf main_arg9
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== LossKernel.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_10 : BitVec 32 := 0#32
  let v22 : BitVec 1 := Scalar.cmpi .eq arg0 c0_i32_10
  let v23 : BitVec 32 := Scalar.extui v22
  let c0_i32_11 : BitVec 32 := 0#32
  let v24 : BitVec 1 := Scalar.cmpi .ne v23 c0_i32_11
  v24

def k0_cond2 (i : grid0.Coords) : BitVec 1 :=
  let arg0 : BitVec 32 := BitVec.ofNat 32 (i 0).val
  let c0_i32_12 : BitVec 32 := 0#32
  let v25 : BitVec 1 := Scalar.cmpi .sgt arg0 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S128 : Shape := ⟨1, ![128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S128, .i32⟩
  | .hbm, ⟨26, _⟩ => ⟨S1x128, .i32⟩
  | .hbm, ⟨27, _⟩ => ⟨S_, .i32⟩
  | .hbm, ⟨28, _⟩ => ⟨S1x128, .i32⟩
  | .hbm, ⟨29, _⟩ => ⟨S1x128, .i1⟩
  | .hbm, ⟨30, _⟩ => ⟨S_, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== FfnKernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S4096x1024, .bf16⟩
  | .hbm, ⟨11, _⟩ => ⟨S4096x2816, .f32⟩
  | .hbm, ⟨12, _⟩ => ⟨S4096x2816, .bf16⟩
  | .hbm, ⟨13, _⟩ => ⟨S4096x1024, .bf16⟩
  | .hbm, ⟨14, _⟩ => ⟨S4096x2816, .f32⟩
  | .hbm, ⟨15, _⟩ => ⟨S4096x2816, .bf16⟩
  | .hbm, ⟨16, _⟩ => ⟨S4096x1024, .f32⟩
  | .hbm, ⟨17, _⟩ => ⟨S4096x2816, .bf16⟩
  | .hbm, ⟨18, _⟩ => ⟨S4096x2816, .bf16⟩
  | .hbm, ⟨19, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v52 : BitVec 1 := Scalar.cmpi .eq arg1 c1_i32
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S_, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S4096x1024, .f32⟩
  | .hbm, ⟨68, _⟩ => ⟨S4096x2816, .f32⟩
  | .hbm, ⟨69, _⟩ => ⟨S_, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .bf16⟩
  | .hbm, ⟨79, _⟩ => ⟨S4096x2816, .bf16⟩
  | .hbm, ⟨80, _⟩ => ⟨S4096x2816, .f32⟩
  | .hbm, ⟨81, _⟩ => ⟨S4096x2816, .f32⟩
  | .hbm, ⟨82, _⟩ => ⟨S_, .f32⟩
  | .hbm, ⟨83, _⟩ => ⟨S4096x2816, .f32⟩
  | .hbm, ⟨84, _⟩ => ⟨S4096x2816, .f32⟩
  | .hbm, ⟨85, _⟩ => ⟨S_, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S_, .f32⟩
  | .hbm, ⟨91, _⟩ => ⟨S4096x2816, .f32⟩
  | .hbm, ⟨92, _⟩ => ⟨S4096x2816, .f32⟩
  | .hbm, ⟨93, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_v26_2 : Ref sig .tc := ⟨.hbm, 57, rfl⟩
abbrev main_call2_cst_1 : Ref sig .tc := ⟨.hbm, 58, rfl⟩
abbrev main_call2_v6 : Ref sig .tc := ⟨.hbm, 59, rfl⟩
abbrev main_call2_v7 : Ref sig .tc := ⟨.hbm, 60, rfl⟩
abbrev main_v26_1 : Ref sig .tc := ⟨.hbm, 61, rfl⟩
abbrev main_v26_0 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v39 : Ref sig .tc := ⟨.hbm, 88, rfl⟩
abbrev main_v40 : Ref sig .tc := ⟨.hbm, 89, rfl⟩
abbrev main_cst_5 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]
-- ==== GateKernel.lean ====
abbrev S4096x2182 : Shape := ⟨2, ![4096, 2182]⟩
abbrev S6 : Shape := ⟨1, ![6]⟩
abbrev S6x4096 : Shape := ⟨2, ![6, 4096]⟩
abbrev S1x6 : Shape := ⟨2, ![1, 6]⟩
abbrev S_ : Shape := ⟨0, ![]⟩
abbrev S1x128 : Shape := ⟨2, ![1, 128]⟩
abbrev S4096x6 : Shape := ⟨2, ![4096, 6]⟩
abbrev S4096x128 : Shape := ⟨2, ![4096, 128]⟩
abbrev S4096x1926 : Shape := ⟨2, ![4096, 1926]⟩
abbrev S4096x122 : Shape := ⟨2, ![4096, 122]⟩
abbrev S4096x256 : Shape := ⟨2, ![4096, 256]⟩
abbrev S4096x2304 : Shape := ⟨2, ![4096, 2304]⟩
abbrev S8x128 : Shape := ⟨2, ![8, 128]⟩
abbrev S128 : Shape := ⟨1, ![128]⟩

abbrev nBuf : Space → Nat
  | .hbm => 18
  | .vmem => 5
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S6x4096, .f32⟩
  | .hbm, ⟨3, _⟩ => ⟨S1x6, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S4096x6, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x1926, .f32⟩
  | .hbm, ⟨12, _⟩ => ⟨S_, .f32⟩
  | .hbm, ⟨13, _⟩ => ⟨S4096x122, .f32⟩
  | .hbm, ⟨14, _⟩ => ⟨S4096x256, .f32⟩
  | .hbm, ⟨15, _⟩ => ⟨S4096x2304, .f32⟩
  | .hbm, ⟨16, _⟩ => ⟨S4096x128, .f32⟩
  | .hbm, ⟨17, _⟩ => ⟨S1x128, .f32⟩
  | .local _ .vmem, ⟨0, _⟩ => ⟨S4096x128, .f32⟩
  | .local _ .vmem, ⟨1, _⟩ => ⟨S1x128, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | _, _ => ⟨S4096x2182, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c512_i32 : BitVec 32 := 512#32
  let v2 : BitVec 32 := Scalar.addi c0_i32 c512_i32
  let c1_i32 : BitVec 32 := 1#32
  ⟨c0_i32, v2, c1_i32⟩
def k0_mult1 (k0_t1 : Fin k0_t1_loop.trips) : BitVec 32 :=
  let c511_i32 : BitVec 32 := 511#32
  let c0_i32 : BitVec 32 := 0#32
  let c1_i32 : BitVec 32 := 1#32
  let arg6 : BitVec 32 := Scf.iv c0_i32 c1_i32 k0_t1
  let v26 : BitVec 32 := Scalar.subi c511_i32 arg6
  let c8_i32 : BitVec 32 := 8#32
  let v27 : BitVec 32 := Scalar.muli v26 c8_i32
  v27
def k0_off1 (k0_t1 : Fin k0_t1_loop.trips) : Fin 2 → Nat :=
  let c511_i32 : BitVec 32 := 511#32
  let c0_i32 : BitVec 32 := 0#32
  let c1_i32 : BitVec 32 := 1#32
  let arg6 : BitVec 32 := Scf.iv c0_i32 c1_i32 k0_t1
  let v26 : BitVec 32 := Scalar.subi c511_i32 arg6
  let c8_i32 : BitVec 32 := 8#32
  let v27 : BitVec 32 := Scalar.muli v26 c8_i32
  let v28 : BitVec 32 := v27
  let v29 : Index := Scalar.indexCast v28
  let c0_15 : Index := 0#32
  ![v29.toNat, 0]
def cc0_transform_0 (i : grid0.Coords) : Fin 2 → Nat :=
  let arg0 : BitVec 32 := BitVec.ofNat 32 (i 0).val
  let c0_i32 : BitVec 32 := 0#32
  let c15_i32 : BitVec 32 := 15#32
  let c0_i32_0 : BitVec 32 := 0#32
  ![c0_i32.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateReferenceIdeal.lean ====
abbrev S4096x2182 : Shape := ⟨2, ![4096, 2182]⟩
abbrev S6 : Shape := ⟨1, ![6]⟩
abbrev S6x4096 : Shape := ⟨2, ![6, 4096]⟩
abbrev S4096x6 : Shape := ⟨2, ![4096, 6]⟩
abbrev S1x6 : Shape := ⟨2, ![1, 6]⟩
abbrev S_ : Shape := ⟨0, ![]⟩
abbrev S4096x128 : Shape := ⟨2, ![4096, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S6x4096, .f32⟩
  | .hbm, ⟨3, _⟩ => ⟨S4096x6, .f32⟩
  | .hbm, ⟨4, _⟩ => ⟨S1x6, .f32⟩
  | .hbm, ⟨5, _⟩ => ⟨S4096x6, .f32⟩
  | .hbm, ⟨6, _⟩ => ⟨S4096x6, .f32⟩
  | .hbm, ⟨7, _⟩ => ⟨S4096x6, .f32⟩
  | .hbm, ⟨8, _⟩ => ⟨S_, .f32⟩
  | .hbm, ⟨9, _⟩ => ⟨S4096x6, .f32⟩
  | .hbm, ⟨10, _⟩ => ⟨S4096x6, .f32⟩
  | .hbm, ⟨11, _⟩ => ⟨S4096x6, .f32⟩
  | .hbm, ⟨12, _⟩ => ⟨S4096x6, .f32⟩
  | .hbm, ⟨13, _⟩ => ⟨S4096x6, .i1⟩
  | .hbm, ⟨14, _⟩ => ⟨S4096x6, .f32⟩
  | .hbm, ⟨15, _⟩ => ⟨S4096x6, .f32⟩
  | .hbm, ⟨16, _⟩ => ⟨S4096x6, .f32⟩
  | .hbm, ⟨17, _⟩ => ⟨S4096x6, .f32⟩
  | .hbm, ⟨18, _⟩ => ⟨S4096x6, .f32⟩
  | .hbm, ⟨19, _⟩ => ⟨S4096x6, .f32⟩
  | .hbm, ⟨20, _⟩ => ⟨S4096x6, .f32⟩
  | .hbm, ⟨21, _⟩ => ⟨S4096x6, .f32⟩
  | .hbm, ⟨22, _⟩ => ⟨S_, .f32⟩
  | .hbm, ⟨23, _⟩ => ⟨S4096x6, .f32⟩
  | .hbm, ⟨24, _⟩ => ⟨S4096x6, .i1⟩
  | .hbm, ⟨25, _⟩ => ⟨S_, .f32⟩
  | .hbm, ⟨26, _⟩ => ⟨S4096x6, .f32⟩
  | .hbm, ⟨27, _⟩ => ⟨S4096x6, .f32⟩
  | .hbm, ⟨28, _⟩ => ⟨S_, .f32⟩
  | .hbm, ⟨29, _⟩ => ⟨S4096x6, .f32⟩
  | .hbm, ⟨30, _⟩ => ⟨S4096x6, .i1⟩
  | .hbm, ⟨31, _⟩ => ⟨S_, .f32⟩
  | .hbm, ⟨32, _⟩ => ⟨S4096x6, .f32⟩
  | .hbm, ⟨33, _⟩ => ⟨S4096x6, .f32⟩
  | .hbm, ⟨34, _⟩ => ⟨S4096x6, .f32⟩
  | .hbm, ⟨35, _⟩ => ⟨S4096x6, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x6, .f32⟩
  | .hbm, ⟨44, _⟩ => ⟨S4096x6, .i1⟩
  | .hbm, ⟨45, _⟩ => ⟨S_, .f32⟩
  | .hbm, ⟨46, _⟩ => ⟨S4096x6, .f32⟩
  | .hbm, ⟨47, _⟩ => ⟨S4096x6, .f32⟩
  | .hbm, ⟨48, _⟩ => ⟨S4096x6, .f32⟩
  | .hbm, ⟨49, _⟩ => ⟨S4096x6, .f32⟩
  | .hbm, ⟨50, _⟩ => ⟨S4096x6, .f32⟩
  | .hbm, ⟨51, _⟩ => ⟨S_, .f32⟩
  | .hbm, ⟨52, _⟩ => ⟨S4096x6, .f32⟩
  | .hbm, ⟨53, _⟩ => ⟨S4096x6, .f32⟩
  | .hbm, ⟨54, _⟩ => ⟨S4096x6, .f32⟩
  | .hbm, ⟨55, _⟩ => ⟨S6x4096, .f32⟩
  | .hbm, ⟨56, _⟩ => ⟨S_, .f32⟩
  | .hbm, ⟨57, _⟩ => ⟨S_, .f32⟩
  | .hbm, ⟨58, _⟩ => ⟨S6x4096, .f32⟩
  | .hbm, ⟨59, _⟩ => ⟨S_, .f32⟩
  | .hbm, ⟨60, _⟩ => ⟨S_, .f32⟩
  | .hbm, ⟨61, _⟩ => ⟨S6x4096, .f32⟩
  | .hbm, ⟨62, _⟩ => ⟨S4096x6, .f32⟩
  | .hbm, ⟨63, _⟩ => ⟨S4096x6, .f32⟩
  | .hbm, ⟨64, _⟩ => ⟨S4096x6, .f32⟩
  | .hbm, ⟨65, _⟩ => ⟨S4096x6, .f32⟩
  | .hbm, ⟨66, _⟩ => ⟨S_, .f32⟩
  | .hbm, ⟨67, _⟩ => ⟨S6, .f32⟩
  | .hbm, ⟨68, _⟩ => ⟨S1x6, .f32⟩
  | .hbm, ⟨69, _⟩ => ⟨S_, .f32⟩
  | .hbm, ⟨70, _⟩ => ⟨S6, .f32⟩
  | .hbm, ⟨71, _⟩ => ⟨S1x6, .f32⟩
  | .hbm, ⟨72, _⟩ => ⟨S_, .i32⟩
  | .hbm, ⟨73, _⟩ => ⟨S_, .f32⟩
  | .hbm, ⟨74, _⟩ => ⟨S4096x128, .f32⟩
  | .hbm, ⟨75, _⟩ => ⟨S_, .i32⟩
  | .hbm, ⟨76, _⟩ => ⟨S_, .f32⟩
  | .hbm, ⟨77, _⟩ => ⟨S1x128, .f32⟩
  | _, _ => ⟨S4096x2182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_v5 : Ref sig .tc := ⟨.hbm, 55, rfl⟩
abbrev main_call1_call0_cst : Ref sig .tc := ⟨.hbm, 56, rfl⟩
abbrev main_call1_call0_v0 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_c : Ref sig .tc := ⟨.hbm, 72, rfl⟩
abbrev main_call4_v0 : Ref sig .tc := ⟨.hbm, 73, rfl⟩
abbrev main_v14 : Ref sig .tc := ⟨.hbm, 74, rfl⟩
abbrev main_c_1 : Ref sig .tc := ⟨.hbm, 75, rfl⟩
abbrev main_call5_v0 : Ref sig .tc := ⟨.hbm, 76, rfl⟩
abbrev main_v15 : Ref sig .tc := ⟨.hbm, 77, rfl⟩

abbrev nD : Nat := 1
abbrev τ : Topo := Topo.v7x

variable {F : FTy → Type} [FloatOps F]
-- ==== AttnKernel.lean ====
abbrev S4096x2182 : Shape := ⟨2, ![4096, 2182]⟩
abbrev S6 : Shape := ⟨1, ![6]⟩
abbrev S4096x384 : Shape := ⟨2, ![4096, 384]⟩
abbrev S4096x6 : Shape := ⟨2, ![4096, 6]⟩
abbrev S1x6 : Shape := ⟨2, ![1, 6]⟩
abbrev S_ : Shape := ⟨0, ![]⟩
abbrev S6x4096 : Shape := ⟨2, ![6, 4096]⟩
abbrev S4096x6x64 : Shape := ⟨3, ![4096, 6, 64]⟩
abbrev S6x4096x64 : Shape := ⟨3, ![6, 4096, 64]⟩
abbrev S6x4096x4096 : Shape := ⟨3, ![6, 4096, 4096]⟩
abbrev S6x1x4096 : Shape := ⟨3, ![6, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S6x4096x1 : Shape := ⟨3, ![6, 4096, 1]⟩
abbrev S4096x1926 : Shape := ⟨2, ![4096, 1926]⟩
abbrev S4096x122 : Shape := ⟨2, ![4096, 122]⟩
abbrev S4096x256 : Shape := ⟨2, ![4096, 256]⟩
abbrev S4096x2304 : Shape := ⟨2, ![4096, 2304]⟩
abbrev S4096x128 : Shape := ⟨2, ![4096, 128]⟩
abbrev S2x1x4096 : Shape := ⟨3, ![2, 1, 4096]⟩
abbrev S2x4096x1 : Shape := ⟨3, ![2, 4096, 1]⟩
abbrev S2x4096x128 : Shape := ⟨3, ![2, 4096, 128]⟩
abbrev S1x128 : Shape := ⟨2, ![1, 128]⟩
abbrev S256x128 : Shape := ⟨2, ![256, 128]⟩
abbrev S1x4096x128 : Shape := ⟨3, ![1, 4096, 128]⟩
abbrev S1x256x128 : Shape := ⟨3, ![1, 256, 128]⟩
abbrev S256x1 : Shape := ⟨2, ![256, 1]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1x256x1 : Shape := ⟨3, ![1, 256, 1]⟩
abbrev S256 : Shape := ⟨1, ![256]⟩
abbrev S256x256 : Shape := ⟨2, ![256, 256]⟩
abbrev S1x1x256 : Shape := ⟨3, ![1, 1, 256]⟩
abbrev S1x256 : Shape := ⟨2, ![1, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S1x1024x128 : Shape := ⟨3, ![1, 1024, 128]⟩
abbrev S1024x256 : Shape := ⟨2, ![1024, 256]⟩
abbrev S1x1024x1 : Shape := ⟨3, ![1, 1024, 1]⟩
abbrev S1024x1 : Shape := ⟨2, ![1024, 1]⟩
abbrev S1x768x128 : Shape := ⟨3, ![1, 768, 128]⟩
abbrev S768x256 : Shape := ⟨2, ![768, 256]⟩
abbrev S1x768x1 : Shape := ⟨3, ![1, 768, 1]⟩
abbrev S768x1 : Shape := ⟨2, ![768, 1]⟩
abbrev S1x512x128 : Shape := ⟨3, ![1, 512, 128]⟩
abbrev S512x256 : Shape := ⟨2, ![512, 256]⟩
abbrev S1x512x1 : Shape := ⟨3, ![1, 512, 1]⟩
abbrev S512x1 : Shape := ⟨2, ![512, 1]⟩

abbrev nBuf : Space → Nat
  | .hbm => 73
  | .vmem => 25
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S4096x384, .f32⟩
  | .hbm, ⟨3, _⟩ => ⟨S4096x6, .f32⟩
  | .hbm, ⟨4, _⟩ => ⟨S1x6, .f32⟩
  | .hbm, ⟨5, _⟩ => ⟨S4096x6, .f32⟩
  | .hbm, ⟨6, _⟩ => ⟨S4096x6, .f32⟩
  | .hbm, ⟨7, _⟩ => ⟨S4096x6, .f32⟩
  | .hbm, ⟨8, _⟩ => ⟨S_, .f32⟩
  | .hbm, ⟨9, _⟩ => ⟨S4096x6, .f32⟩
  | .hbm, ⟨10, _⟩ => ⟨S4096x6, .f32⟩
  | .hbm, ⟨11, _⟩ => ⟨S4096x6, .f32⟩
  | .hbm, ⟨12, _⟩ => ⟨S4096x6, .f32⟩
  | .hbm, ⟨13, _⟩ => ⟨S4096x6, .i1⟩
  | .hbm, ⟨14, _⟩ => ⟨S4096x6, .f32⟩
  | .hbm, ⟨15, _⟩ => ⟨S4096x6, .f32⟩
  | .hbm, ⟨16, _⟩ => ⟨S4096x6, .f32⟩
  | .hbm, ⟨17, _⟩ => ⟨S4096x6, .f32⟩
  | .hbm, ⟨18, _⟩ => ⟨S4096x6, .f32⟩
  | .hbm, ⟨19, _⟩ => ⟨S4096x6, .f32⟩
  | .hbm, ⟨20, _⟩ => ⟨S4096x6, .f32⟩
  | .hbm, ⟨21, _⟩ => ⟨S4096x6, .f32⟩
  | .hbm, ⟨22, _⟩ => ⟨S4096x6, .f32⟩
  | .hbm, ⟨23, _⟩ => ⟨S6x4096, .f32⟩
  | .hbm, ⟨24, _⟩ => ⟨S_, .f32⟩
  | .hbm, ⟨25, _⟩ => ⟨S_, .f32⟩
  | .hbm, ⟨26, _⟩ => ⟨S6x4096, .f32⟩
  | .hbm, ⟨27, _⟩ => ⟨S4096x384, .f32⟩
  | .hbm, ⟨28, _⟩ => ⟨S4096x6x64, .f32⟩
  | .hbm, ⟨29, _⟩ => ⟨S6x4096x64, .f32⟩
  | .hbm, ⟨30, _⟩ => ⟨S_, .f32⟩
  | .hbm, ⟨31, _⟩ => ⟨S6x4096x64, .f32⟩
  | .hbm, ⟨32, _⟩ => ⟨S6x4096x64, .f32⟩
  | .hbm, ⟨33, _⟩ => ⟨S4096x384, .f32⟩
  | .hbm, ⟨34, _⟩ => ⟨S4096x6x64, .f32⟩
  | .hbm, ⟨35, _⟩ => ⟨S6x4096x64, .f32⟩
  | .hbm, ⟨36, _⟩ => ⟨S6x4096x4096, .f32⟩
  | .hbm, ⟨37, _⟩ => ⟨S6x1x4096, .f32⟩
  | .hbm, ⟨38, _⟩ => ⟨S6x4096x4096, .f32⟩
  | .hbm, ⟨39, _⟩ => ⟨S6x4096x4096, .f32⟩
  | .hbm, ⟨40, _⟩ => ⟨S4096, .i32⟩
  | .hbm, ⟨41, _⟩ => ⟨S4096x1, .i32⟩
  | .hbm, ⟨42, _⟩ => ⟨S4096, .i32⟩
  | .hbm, ⟨43, _⟩ => ⟨S1x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S6x4096x4096, .i1⟩
  | .hbm, ⟨50, _⟩ => ⟨S6x4096x4096, .f32⟩
  | .hbm, ⟨51, _⟩ => ⟨S6x4096x4096, .f32⟩
  | .hbm, ⟨52, _⟩ => ⟨S_, .f32⟩
  | .hbm, ⟨53, _⟩ => ⟨S6x4096, .f32⟩
  | .hbm, ⟨54, _⟩ => ⟨S6x4096x1, .f32⟩
  | .hbm, ⟨55, _⟩ => ⟨S6x4096x4096, .f32⟩
  | .hbm, ⟨56, _⟩ => ⟨S6x4096x4096, .f32⟩
  | .hbm, ⟨57, _⟩ => ⟨S6x4096x4096, .f32⟩
  | .hbm, ⟨58, _⟩ => ⟨S_, .f32⟩
  | .hbm, ⟨59, _⟩ => ⟨S6x4096, .f32⟩
  | .hbm, ⟨60, _⟩ => ⟨S6x4096x1, .f32⟩
  | .hbm, ⟨61, _⟩ => ⟨S6x4096x1, .f32⟩
  | .hbm, ⟨62, _⟩ => ⟨S6x4096x1, .f32⟩
  | .hbm, ⟨63, _⟩ => ⟨S4096x1926, .f32⟩
  | .hbm, ⟨64, _⟩ => ⟨S_, .f32⟩
  | .hbm, ⟨65, _⟩ => ⟨S4096x122, .f32⟩
  | .hbm, ⟨66, _⟩ => ⟨S4096x256, .f32⟩
  | .hbm, ⟨67, _⟩ => ⟨S4096x2304, .f32⟩
  | .hbm, ⟨68, _⟩ => ⟨S6x1x4096, .f32⟩
  | .hbm, ⟨69, _⟩ => ⟨S4096x384, .f32⟩
  | .hbm, ⟨70, _⟩ => ⟨S4096x384, .f32⟩
  | .hbm, ⟨71, _⟩ => ⟨S4096x384, .f32⟩
  | .hbm, ⟨72, _⟩ => ⟨S6x1x4096, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S2x1x4096, .f32⟩
  | .local _ .vmem, ⟨7, _⟩ => ⟨S2x1x4096, .f32⟩
  | .local _ .vmem, ⟨8, _⟩ => ⟨S2x4096x1, .f32⟩
  | .local _ .vmem, ⟨9, _⟩ => ⟨S2x4096x1, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S2x1x4096, .f32⟩
  | .local _ .vmem, ⟨19, _⟩ => ⟨S2x1x4096, .f32⟩
  | .local _ .vmem, ⟨20, _⟩ => ⟨S2x4096x128, .bf16⟩
  | .local _ .vmem, ⟨21, _⟩ => ⟨S2x4096x128, .bf16⟩
  | .local _ .vmem, ⟨22, _⟩ => ⟨S4096x128, .bf16⟩
  | .local _ .vmem, ⟨23, _⟩ => ⟨S4096x128, .bf16⟩
  | .local _ .vmem, ⟨24, _⟩ => ⟨S2x4096x1, .f32⟩
  | _, _ => ⟨S4096x2182, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v4 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_3 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41_0 : Ref sig .tc := ⟨.hbm, 69, rfl⟩
abbrev main_v41_1 : Ref sig .tc := ⟨.hbm, 70, rfl⟩
abbrev main_v41_2 : Ref sig .tc := ⟨.hbm, 71, rfl⟩
abbrev main_v41_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32_13 : BitVec 32 := 0#32
  let c16_i32 : BitVec 32 := 16#32
  let v53 : BitVec 32 := Scalar.addi c0_i32_13 c16_i32
  let c1_i32_14 : BitVec 32 := 1#32
  ⟨c0_i32_13, v53, c1_i32_14⟩
def k0_mult1 (k0_t1 : Fin k0_t1_loop.trips) : BitVec 32 :=
  let c0_i32_13 : BitVec 32 := 0#32
  let c1_i32_14 : BitVec 32 := 1#32
  let arg16 : BitVec 32 := Scf.iv c0_i32_13 c1_i32_14 k0_t1
  let c256_i32 : BitVec 32 := 256#32
  let v62 : BitVec 32 := Scalar.muli arg16 c256_i32
  v62
def k0_off1 (k0_t1 : Fin k0_t1_loop.trips) : Fin 2 → Nat :=
  let c0_i32_13 : BitVec 32 := 0#32
  let c1_i32_14 : BitVec 32 := 1#32
  let arg16 : BitVec 32 := Scf.iv c0_i32_13 c1_i32_14 k0_t1
  let c256_i32 : BitVec 32 := 256#32
  let v62 : BitVec 32 := Scalar.muli arg16 c256_i32
  let v63 : BitVec 32 := v62
  let v64 : Index := Scalar.indexCast v63
  let c0 : Index := 0#32
  ![v64.toNat, 0]
@[reducible] def k0_t2_loop : Scf.Loop 32 :=
  let c0_i32_16 : BitVec 32 := 0#32
  let c16_i32_17 : BitVec 32 := 16#32
  let v54 : BitVec 32 := Scalar.addi c0_i32_16 c16_i32_17
  let c1_i32_18 : BitVec 32 := 1#32
  ⟨c0_i32_16, v54, c1_i32_18⟩
def k0_mult2 (k0_t2 : Fin k0_t2_loop.trips) : BitVec 32 :=
  let c0_i32_16 : BitVec 32 := 0#32
  let c1_i32_18 : BitVec 32 := 1#32
  let arg16 : BitVec 32 := Scf.iv c0_i32_16 c1_i32_18 k0_t2
  let c256_i32 : BitVec 32 := 256#32
  let v62 : BitVec 32 := Scalar.muli arg16 c256_i32
  v62
def k0_off2 (k0_t2 : Fin k0_t2_loop.trips) : Fin 2 → Nat :=
  let c0_i32_16 : BitVec 32 := 0#32
  let c1_i32_18 : BitVec 32 := 1#32
  let arg16 : BitVec 32 := Scf.iv c0_i32_16 c1_i32_18 k0_t2
  let c256_i32 : BitVec 32 := 256#32
  let v62 : BitVec 32 := Scalar.muli arg16 c256_i32
  let v63 : BitVec 32 := v62
  let v64 : Index := Scalar.indexCast v63
  let c0 : Index := 0#32
  ![v64.toNat, 0]
@[reducible] def k0_t3_loop : Scf.Loop 32 :=
  let c0_i32_21 : BitVec 32 := 0#32
  let c16_i32_22 : BitVec 32 := 16#32
  let v55 : BitVec 32 := Scalar.addi c0_i32_21 c16_i32_22
  let c1_i32_23 : BitVec 32 := 1#32
  ⟨c0_i32_21, v55, c1_i32_23⟩
def k0_mult3 (k0_t3 : Fin k0_t3_loop.trips) : BitVec 32 :=
  let c0_i32_21 : BitVec 32 := 0#32
  let c1_i32_23 : BitVec 32 := 1#32
  let arg16 : BitVec 32 := Scf.iv c0_i32_21 c1_i32_23 k0_t3
  let c256_i32 : BitVec 32 := 256#32
  let v62 : BitVec 32 := Scalar.muli arg16 c256_i32
  v62
def k0_off3 (k0_t3 : Fin k0_t3_loop.trips) : Fin 2 → Nat :=
  let c0_i32_21 : BitVec 32 := 0#32
  let c1_i32_23 : BitVec 32 := 1#32
  let arg16 : BitVec 32 := Scf.iv c0_i32_21 c1_i32_23 k0_t3
  let c256_i32 : BitVec 32 := 256#32
  let v62 : BitVec 32 := Scalar.muli arg16 c256_i32
  let v63 : BitVec 32 := v62
  let v64 : Index := Scalar.indexCast v63
  let c0 : Index := 0#32
  ![v64.toNat, 0]
def k0_off4 (k0_t3 : Fin k0_t3_loop.trips) : Fin 3 → Nat :=
  let c0_i32_20 : BitVec 32 := 0#32
  let c0_i32_21 : BitVec 32 := 0#32
  let c1_i32_23 : BitVec 32 := 1#32
  let arg16 : BitVec 32 := Scf.iv c0_i32_21 c1_i32_23 k0_t3
  let c256_i32 : BitVec 32 := 256#32
  let v62 : BitVec 32 := Scalar.muli arg16 c256_i32
  let v63 : BitVec 32 := v62
  let v76 : Index := Scalar.indexCast v63
  let c0_i32_53 : BitVec 32 := 0#32
  ![0, v76.toNat, 0]
@[reducible] def k0_t4_loop : Scf.Loop 32 :=
  let c0_i32_26 : BitVec 32 := 0#32
  let c16_i32_27 : BitVec 32 := 16#32
  let v56 : BitVec 32 := Scalar.addi c0_i32_26 c16_i32_27
  let c1_i32_28 : BitVec 32 := 1#32
  ⟨c0_i32_26, v56, c1_i32_28⟩
def k0_mult4 (k0_t4 : Fin k0_t4_loop.trips) : BitVec 32 :=
  let c0_i32_26 : BitVec 32 := 0#32
  let c1_i32_28 : BitVec 32 := 1#32
  let arg16 : BitVec 32 := Scf.iv c0_i32_26 c1_i32_28 k0_t4
  let c256_i32 : BitVec 32 := 256#32
  let v62 : BitVec 32 := Scalar.muli arg16 c256_i32
  v62
def k0_off5 (k0_t4 : Fin k0_t4_loop.trips) : Fin 2 → Nat :=
  let c0_i32_26 : BitVec 32 := 0#32
  let c1_i32_28 : BitVec 32 := 1#32
  let arg16 : BitVec 32 := Scf.iv c0_i32_26 c1_i32_28 k0_t4
  let c256_i32 : BitVec 32 := 256#32
  let v62 : BitVec 32 := Scalar.muli arg16 c256_i32
  let v63 : BitVec 32 := v62
  let v64 : Index := Scalar.indexCast v63
  let c0 : Index := 0#32
  ![v64.toNat, 0]
def k0_off6 (k0_t4 : Fin k0_t4_loop.trips) : Fin 3 → Nat :=
  let c0_i32_25 : BitVec 32 := 0#32
  let c0_i32_26 : BitVec 32 := 0#32
  let c1_i32_28 : BitVec 32 := 1#32
  let arg16 : BitVec 32 := Scf.iv c0_i32_26 c1_i32_28 k0_t4
  let c256_i32 : BitVec 32 := 256#32
  let v62 : BitVec 32 := Scalar.muli arg16 c256_i32
  let v63 : BitVec 32 := v62
  let v73 : Index := Scalar.indexCast v63
  let c0_i32_52 : BitVec 32 := 0#32
  ![0, v73.toNat, 0]
@[reducible] def k0_t5_loop : Scf.Loop 32 :=
  let c0_i32_31 : BitVec 32 := 0#32
  let c16_i32_32 : BitVec 32 := 16#32
  let v57 : BitVec 32 := Scalar.addi c0_i32_31 c16_i32_32
  let c1_i32_33 : BitVec 32 := 1#32
  ⟨c0_i32_31, v57, c1_i32_33⟩
def k0_mult5 (k0_t5 : Fin k0_t5_loop.trips) : BitVec 32 :=
  let c0_i32_31 : BitVec 32 := 0#32
  let c1_i32_33 : BitVec 32 := 1#32
  let arg16 : BitVec 32 := Scf.iv c0_i32_31 c1_i32_33 k0_t5
  let c256_i32 : BitVec 32 := 256#32
  let v62 : BitVec 32 := Scalar.muli arg16 c256_i32
  v62
def k0_off7 (k0_t5 : Fin k0_t5_loop.trips) : Fin 2 → Nat :=
  let c0_i32_31 : BitVec 32 := 0#32
  let c1_i32_33 : BitVec 32 := 1#32
  let arg16 : BitVec 32 := Scf.iv c0_i32_31 c1_i32_33 k0_t5
  let c256_i32 : BitVec 32 := 256#32
  let v62 : BitVec 32 := Scalar.muli arg16 c256_i32
  let v63 : BitVec 32 := v62
  let v64 : Index := Scalar.indexCast v63
  let c0 : Index := 0#32
  ![v64.toNat, 0]
def k0_off8 (k0_t5 : Fin k0_t5_loop.trips) : Fin 3 → Nat :=
  let c1_i32_30 : BitVec 32 := 1#32
  let c0_i32_31 : BitVec 32 := 0#32
  let c1_i32_33 : BitVec 32 := 1#32
  let arg16 : BitVec 32 := Scf.iv c0_i32_31 c1_i32_33 k0_t5
  let c256_i32 : BitVec 32 := 256#32
  let v62 : BitVec 32 := Scalar.muli arg16 c256_i32
  let v63 : BitVec 32 := v62
  let v76 : Index := Scalar.indexCast v63
  let c0_i32_53 : BitVec 32 := 0#32
  ![1, v76.toNat, 0]
@[reducible] def k0_t6_loop : Scf.Loop 32 :=
  let c0_i32_36 : BitVec 32 := 0#32
  let c16_i32_37 : BitVec 32 := 16#32
  let v58 : BitVec 32 := Scalar.addi c0_i32_36 c16_i32_37
  let c1_i32_38 : BitVec 32 := 1#32
  ⟨c0_i32_36, v58, c1_i32_38⟩
def k0_mult6 (k0_t6 : Fin k0_t6_loop.trips) : BitVec 32 :=
  let c0_i32_36 : BitVec 32 := 0#32
  let c1_i32_38 : BitVec 32 := 1#32
  let arg16 : BitVec 32 := Scf.iv c0_i32_36 c1_i32_38 k0_t6
  let c256_i32 : BitVec 32 := 256#32
  let v62 : BitVec 32 := Scalar.muli arg16 c256_i32
  v62
def k0_off9 (k0_t6 : Fin k0_t6_loop.trips) : Fin 2 → Nat :=
  let c0_i32_36 : BitVec 32 := 0#32
  let c1_i32_38 : BitVec 32 := 1#32
  let arg16 : BitVec 32 := Scf.iv c0_i32_36 c1_i32_38 k0_t6
  let c256_i32 : BitVec 32 := 256#32
  let v62 : BitVec 32 := Scalar.muli arg16 c256_i32
  let v63 : BitVec 32 := v62
  let v64 : Index := Scalar.indexCast v63
  let c0 : Index := 0#32
  ![v64.toNat, 0]
def k0_off10 (k0_t6 : Fin k0_t6_loop.trips) : Fin 3 → Nat :=
  let c1_i32_35 : BitVec 32 := 1#32
  let c0_i32_36 : BitVec 32 := 0#32
  let c1_i32_38 : BitVec 32 := 1#32
  let arg16 : BitVec 32 := Scf.iv c0_i32_36 c1_i32_38 k0_t6
  let c256_i32 : BitVec 32 := 256#32
  let v62 : BitVec 32 := Scalar.muli arg16 c256_i32
  let v63 : BitVec 32 := v62
  let v73 : Index := Scalar.indexCast v63
  let c0_i32_52 : BitVec 32 := 0#32
  ![1, v73.toNat, 0]
@[reducible] def k0_t7_loop : Scf.Loop 32 :=
  let c0_i32_40 : BitVec 32 := 0#32
  let c16_i32_41 : BitVec 32 := 16#32
  let v59 : BitVec 32 := Scalar.addi c0_i32_40 c16_i32_41
  let c1_i32_42 : BitVec 32 := 1#32
  ⟨c0_i32_40, v59, c1_i32_42⟩
def k0_mult7 (k0_t7 : Fin k0_t7_loop.trips) : BitVec 32 :=
  let c0_i32_40 : BitVec 32 := 0#32
  let c1_i32_42 : BitVec 32 := 1#32
  let arg16 : BitVec 32 := Scf.iv c0_i32_40 c1_i32_42 k0_t7
  let c256_i32 : BitVec 32 := 256#32
  let v62 : BitVec 32 := Scalar.muli arg16 c256_i32
  v62
def k0_off11 (k0_t7 : Fin k0_t7_loop.trips) : Fin 2 → Nat :=
  let c0_i32_40 : BitVec 32 := 0#32
  let c1_i32_42 : BitVec 32 := 1#32
  let arg16 : BitVec 32 := Scf.iv c0_i32_40 c1_i32_42 k0_t7
  let c256_i32 : BitVec 32 := 256#32
  let v62 : BitVec 32 := Scalar.muli arg16 c256_i32
  let v63 : BitVec 32 := v62
  let v65 : Index := Scalar.indexCast v63
  let c0 : Index := 0#32
  ![v65.toNat, 0]
@[reducible] def k0_t8_loop : Scf.Loop 32 :=
  let c0_i32_44 : BitVec 32 := 0#32
  let c4_i32 : BitVec 32 := 4#32
  let v60 : BitVec 32 := Scalar.addi c0_i32_44 c4_i32
  let c1_i32_45 : BitVec 32 := 1#32
  ⟨c0_i32_44, v60, c1_i32_45⟩
def k0_mult8 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  v64
@[reducible] def k0_t9_loop (k0_t8 : Fin k0_t8_loop.trips) : Scf.Loop 32 :=
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let c1_i32_55 : BitVec 32 := 1#32
  ⟨c0_i32_53, v71, c1_i32_55⟩
def k0_mult9 (k0_t8 : Fin k0_t8_loop.trips) (k0_t9 : Fin (k0_t9_loop k0_t8).trips) : BitVec 32 :=
  let c0_i32_53 : BitVec 32 := 0#32
  let c1_i32_55 : BitVec 32 := 1#32
  let arg17 : BitVec 32 := Scf.iv c0_i32_53 c1_i32_55 k0_t9
  let c1024_i32_214 : BitVec 32 := 1024#32
  let v422 : BitVec 32 := Scalar.muli arg17 c1024_i32_214
  v422
def k0_off12 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v424 : Index := Scalar.indexCast v65
  let c0_216 : Index := 0#32
  ![0, v424.toNat, 0]
def k0_off13 (k0_t8 : Fin k0_t8_loop.trips) (k0_t9 : Fin (k0_t9_loop k0_t8).trips) : Fin 2 → Nat :=
  let c0_i32_53 : BitVec 32 := 0#32
  let c1_i32_55 : BitVec 32 := 1#32
  let arg17 : BitVec 32 := Scf.iv c0_i32_53 c1_i32_55 k0_t9
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off14 (k0_t8 : Fin k0_t8_loop.trips) (k0_t9 : Fin (k0_t9_loop k0_t8).trips) : Fin 3 → Nat :=
  let c0_219 : Index := 0#32
  let c0_220 : Index := 0#32
  let c0_i32_53 : BitVec 32 := 0#32
  let c1_i32_55 : BitVec 32 := 1#32
  let arg17 : BitVec 32 := Scf.iv c0_i32_53 c1_i32_55 k0_t9
  let c1024_i32_214 : BitVec 32 := 1024#32
  let v422 : BitVec 32 := Scalar.muli arg17 c1024_i32_214
  let v423 : BitVec 32 := v422
  let v430 : Index := Scalar.indexCast v423
  ![0, 0, v430.toNat]
def k0_off15 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v435 : Index := Scalar.indexCast v65
  let c0_222 : Index := 0#32
  ![0, v435.toNat, 0]
def k0_off16 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v451 : Index := Scalar.indexCast v65
  let c0_229 : Index := 0#32
  ![1, v451.toNat, 0]
def k0_off17 (k0_t8 : Fin k0_t8_loop.trips) (k0_t9 : Fin (k0_t9_loop k0_t8).trips) : Fin 3 → Nat :=
  let c1_232 : Index := 1#32
  let c0_233 : Index := 0#32
  let c0_i32_53 : BitVec 32 := 0#32
  let c1_i32_55 : BitVec 32 := 1#32
  let arg17 : BitVec 32 := Scf.iv c0_i32_53 c1_i32_55 k0_t9
  let c1024_i32_214 : BitVec 32 := 1024#32
  let v422 : BitVec 32 := Scalar.muli arg17 c1024_i32_214
  let v423 : BitVec 32 := v422
  let v457 : Index := Scalar.indexCast v423
  ![1, 0, v457.toNat]
def k0_off18 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v462 : Index := Scalar.indexCast v65
  let c0_235 : Index := 0#32
  ![1, v462.toNat, 0]
@[reducible] def k0_t10_loop (k0_t8 : Fin k0_t8_loop.trips) : Scf.Loop 32 :=
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let v68 : BitVec 32 := Scalar.addi c0_i32_53 v67
  let c1_i32_56 : BitVec 32 := 1#32
  ⟨v71, v68, c1_i32_56⟩
def k0_mult10 (k0_t8 : Fin k0_t8_loop.trips) (k0_t10 : Fin (k0_t10_loop k0_t8).trips) : BitVec 32 :=
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let c1_i32_56 : BitVec 32 := 1#32
  let arg17 : BitVec 32 := Scf.iv v71 c1_i32_56 k0_t10
  let c1024_i32_214 : BitVec 32 := 1024#32
  let v422 : BitVec 32 := Scalar.muli arg17 c1024_i32_214
  v422
def k0_off19 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v424 : Index := Scalar.indexCast v65
  let c0_216 : Index := 0#32
  ![0, v424.toNat, 0]
def k0_off20 (k0_t8 : Fin k0_t8_loop.trips) (k0_t10 : Fin (k0_t10_loop k0_t8).trips) : Fin 2 → Nat :=
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let c1_i32_56 : BitVec 32 := 1#32
  let arg17 : BitVec 32 := Scf.iv v71 c1_i32_56 k0_t10
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off21 (k0_t8 : Fin k0_t8_loop.trips) (k0_t10 : Fin (k0_t10_loop k0_t8).trips) : Fin 3 → Nat :=
  let c0_219 : Index := 0#32
  let c0_220 : Index := 0#32
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let c1_i32_56 : BitVec 32 := 1#32
  let arg17 : BitVec 32 := Scf.iv v71 c1_i32_56 k0_t10
  let c1024_i32_214 : BitVec 32 := 1024#32
  let v422 : BitVec 32 := Scalar.muli arg17 c1024_i32_214
  let v423 : BitVec 32 := v422
  let v430 : Index := Scalar.indexCast v423
  ![0, 0, v430.toNat]
def k0_off22 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v435 : Index := Scalar.indexCast v65
  let c0_222 : Index := 0#32
  ![0, v435.toNat, 0]
def k0_off23 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v451 : Index := Scalar.indexCast v65
  let c0_229 : Index := 0#32
  ![1, v451.toNat, 0]
def k0_off24 (k0_t8 : Fin k0_t8_loop.trips) (k0_t10 : Fin (k0_t10_loop k0_t8).trips) : Fin 3 → Nat :=
  let c1_232 : Index := 1#32
  let c0_233 : Index := 0#32
  let c0_i32_53 : BitVec 32 := 0#32
  let c0_i32_44 : BitVec 32 := 0#32
  let c1_i32_45 : BitVec 32 := 1#32
  let arg16 : BitVec 32 := Scf.iv c0_i32_44 c1_i32_45 k0_t8
  let v67 : BitVec 32 := Scalar.subi arg16 c0_i32_53
  let c1_i32_54 : BitVec 32 := 1#32
  let v69 : BitVec 32 := Scalar.divsi v67 c1_i32_54
  let v70 : BitVec 32 := Scalar.muli v69 c1_i32_54
  let v71 : BitVec 32 := Scalar.addi c0_i32_53 v70
  let c1_i32_56 : BitVec 32 := 1#32
  let arg17 : BitVec 32 := Scf.iv v71 c1_i32_56 k0_t10
  let c1024_i32_214 : BitVec 32 := 1024#32
  let v422 : BitVec 32 := Scalar.muli arg17 c1024_i32_214
  let v423 : BitVec 32 := v422
  let v457 : Index := Scalar.indexCast v423
  ![1, 0, v457.toNat]
def k0_off25 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v462 : Index := Scalar.indexCast v65
  let c0_235 : Index := 0#32
  ![1, v462.toNat, 0]
def k0_mult11 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c1024_i32 : BitVec 32 := 1024#32
  let v74 : BitVec 32 := Scalar.muli arg16 c1024_i32
  v74
def k0_off26 (k0_t8 : Fin k0_t8_loop.trips) (c0_i32_52 : BitVec 32) : Fin 3 → Nat :=
  let c0 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v76 : Index := Scalar.indexCast v65
  let c0_57 : Index := 0#32
  ![0, v76.toNat, 0]
def k0_off27 (k0_t8 : Fin k0_t8_loop.trips) : Fin 2 → Nat :=
  let c0_i32_44 : BitVec 32 := 0#32
  let c1_i32_45 : BitVec 32 := 1#32
  let arg16 : BitVec 32 := Scf.iv c0_i32_44 c1_i32_45 k0_t8
  let c1024_i32 : BitVec 32 := 1024#32
  let v74 : BitVec 32 := Scalar.muli arg16 c1024_i32
  let v75 : BitVec 32 := v74
  let v79 : Index := Scalar.indexCast v75
  let c0_58 : Index := 0#32
  ![v79.toNat, 0]
def k0_off28 (k0_t8 : Fin k0_t8_loop.trips) : Fin 3 → Nat :=
  let c0_60 : Index := 0#32
  let c0_61 : Index := 0#32
  let c0_i32_44 : BitVec 32 := 0#32
  let c1_i32_45 : BitVec 32 := 1#32
  let arg16 : BitVec 32 := Scf.iv c0_i32_44 c1_i32_45 k0_t8
  let c1024_i32 : BitVec 32 := 1024#32
  let v74 : BitVec 32 := Scalar.muli arg16 c1024_i32
  let v75 : BitVec 32 := v74
  let v82 : Index := Scalar.indexCast v75
  ![0, 0, v82.toNat]
def k0_off29 (k0_t8 : Fin k0_t8_loop.trips) (c0_i32_52 : BitVec 32) : Fin 3 → Nat :=
  let c0_62 : Index := 0#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v87 : Index := Scalar.indexCast v65
  let c0_63 : Index := 0#32
  ![0, v87.toNat, 0]
def k0_off30 (k0_t8 : Fin k0_t8_loop.trips) (c0_i32_52 : BitVec 32) : Fin 3 → Nat :=
  let c1 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v110 : Index := Scalar.indexCast v65
  let c0_71 : Index := 0#32
  ![1, v110.toNat, 0]
def k0_off31 (k0_t8 : Fin k0_t8_loop.trips) : Fin 3 → Nat :=
  let c1_74 : Index := 1#32
  let c0_75 : Index := 0#32
  let c0_i32_44 : BitVec 32 := 0#32
  let c1_i32_45 : BitVec 32 := 1#32
  let arg16 : BitVec 32 := Scf.iv c0_i32_44 c1_i32_45 k0_t8
  let c1024_i32 : BitVec 32 := 1024#32
  let v74 : BitVec 32 := Scalar.muli arg16 c1024_i32
  let v75 : BitVec 32 := v74
  let v116 : Index := Scalar.indexCast v75
  ![1, 0, v116.toNat]
def k0_off32 (k0_t8 : Fin k0_t8_loop.trips) (c0_i32_52 : BitVec 32) : Fin 3 → Nat :=
  let c1_76 : Index := 1#32
  let c0_i32_44 : BitVec 32 := 0#32
  let c1_i32_45 : BitVec 32 := 1#32
  let arg16 : BitVec 32 := Scf.iv c0_i32_44 c1_i32_45 k0_t8
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v121 : Index := Scalar.indexCast v65
  let c0_77 : Index := 0#32
  ![1, v121.toNat, 0]
def k0_mult12 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  v154
@[reducible] def k0_t11_loop (k0_t8 : Fin k0_t8_loop.trips) : Scf.Loop 32 :=
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let c1_i32_95 : BitVec 32 := 1#32
  ⟨c0_i32_93, v161, c1_i32_95⟩
def k0_mult13 (k0_t8 : Fin k0_t8_loop.trips) (k0_t11 : Fin (k0_t11_loop k0_t8).trips) : BitVec 32 :=
  let c0_i32_93 : BitVec 32 := 0#32
  let c1_i32_95 : BitVec 32 := 1#32
  let arg17 : BitVec 32 := Scf.iv c0_i32_93 c1_i32_95 k0_t11
  let c1024_i32_214 : BitVec 32 := 1024#32
  let v422 : BitVec 32 := Scalar.muli arg17 c1024_i32_214
  v422
def k0_off33 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v424 : Index := Scalar.indexCast v155
  let c0_216 : Index := 0#32
  ![0, v424.toNat, 0]
def k0_off34 (k0_t8 : Fin k0_t8_loop.trips) (k0_t11 : Fin (k0_t11_loop k0_t8).trips) : Fin 2 → Nat :=
  let c0_i32_93 : BitVec 32 := 0#32
  let c1_i32_95 : BitVec 32 := 1#32
  let arg17 : BitVec 32 := Scf.iv c0_i32_93 c1_i32_95 k0_t11
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off35 (k0_t8 : Fin k0_t8_loop.trips) (k0_t11 : Fin (k0_t11_loop k0_t8).trips) : Fin 3 → Nat :=
  let c0_219 : Index := 0#32
  let c0_220 : Index := 0#32
  let c0_i32_93 : BitVec 32 := 0#32
  let c1_i32_95 : BitVec 32 := 1#32
  let arg17 : BitVec 32 := Scf.iv c0_i32_93 c1_i32_95 k0_t11
  let c1024_i32_214 : BitVec 32 := 1024#32
  let v422 : BitVec 32 := Scalar.muli arg17 c1024_i32_214
  let v423 : BitVec 32 := v422
  let v430 : Index := Scalar.indexCast v423
  ![0, 0, v430.toNat]
def k0_off36 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v435 : Index := Scalar.indexCast v155
  let c0_222 : Index := 0#32
  ![0, v435.toNat, 0]
def k0_off37 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v451 : Index := Scalar.indexCast v155
  let c0_229 : Index := 0#32
  ![1, v451.toNat, 0]
def k0_off38 (k0_t8 : Fin k0_t8_loop.trips) (k0_t11 : Fin (k0_t11_loop k0_t8).trips) : Fin 3 → Nat :=
  let c1_232 : Index := 1#32
  let c0_233 : Index := 0#32
  let c0_i32_93 : BitVec 32 := 0#32
  let c1_i32_95 : BitVec 32 := 1#32
  let arg17 : BitVec 32 := Scf.iv c0_i32_93 c1_i32_95 k0_t11
  let c1024_i32_214 : BitVec 32 := 1024#32
  let v422 : BitVec 32 := Scalar.muli arg17 c1024_i32_214
  let v423 : BitVec 32 := v422
  let v457 : Index := Scalar.indexCast v423
  ![1, 0, v457.toNat]
def k0_off39 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v462 : Index := Scalar.indexCast v155
  let c0_235 : Index := 0#32
  ![1, v462.toNat, 0]
@[reducible] def k0_t12_loop (k0_t8 : Fin k0_t8_loop.trips) : Scf.Loop 32 :=
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let v158 : BitVec 32 := Scalar.addi c0_i32_93 v157
  let c1_i32_96 : BitVec 32 := 1#32
  ⟨v161, v158, c1_i32_96⟩
def k0_mult14 (k0_t8 : Fin k0_t8_loop.trips) (k0_t12 : Fin (k0_t12_loop k0_t8).trips) : BitVec 32 :=
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let c1_i32_96 : BitVec 32 := 1#32
  let arg17 : BitVec 32 := Scf.iv v161 c1_i32_96 k0_t12
  let c1024_i32_214 : BitVec 32 := 1024#32
  let v422 : BitVec 32 := Scalar.muli arg17 c1024_i32_214
  v422
def k0_off40 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v424 : Index := Scalar.indexCast v155
  let c0_216 : Index := 0#32
  ![0, v424.toNat, 0]
def k0_off41 (k0_t8 : Fin k0_t8_loop.trips) (k0_t12 : Fin (k0_t12_loop k0_t8).trips) : Fin 2 → Nat :=
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let c1_i32_96 : BitVec 32 := 1#32
  let arg17 : BitVec 32 := Scf.iv v161 c1_i32_96 k0_t12
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off42 (k0_t8 : Fin k0_t8_loop.trips) (k0_t12 : Fin (k0_t12_loop k0_t8).trips) : Fin 3 → Nat :=
  let c0_219 : Index := 0#32
  let c0_220 : Index := 0#32
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let c1_i32_96 : BitVec 32 := 1#32
  let arg17 : BitVec 32 := Scf.iv v161 c1_i32_96 k0_t12
  let c1024_i32_214 : BitVec 32 := 1024#32
  let v422 : BitVec 32 := Scalar.muli arg17 c1024_i32_214
  let v423 : BitVec 32 := v422
  let v430 : Index := Scalar.indexCast v423
  ![0, 0, v430.toNat]
def k0_off43 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v435 : Index := Scalar.indexCast v155
  let c0_222 : Index := 0#32
  ![0, v435.toNat, 0]
def k0_off44 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v451 : Index := Scalar.indexCast v155
  let c0_229 : Index := 0#32
  ![1, v451.toNat, 0]
def k0_off45 (k0_t8 : Fin k0_t8_loop.trips) (k0_t12 : Fin (k0_t12_loop k0_t8).trips) : Fin 3 → Nat :=
  let c1_232 : Index := 1#32
  let c0_233 : Index := 0#32
  let c0_i32_93 : BitVec 32 := 0#32
  let c0_i32_44 : BitVec 32 := 0#32
  let c1_i32_45 : BitVec 32 := 1#32
  let arg16 : BitVec 32 := Scf.iv c0_i32_44 c1_i32_45 k0_t8
  let v157 : BitVec 32 := Scalar.subi arg16 c0_i32_93
  let c1_i32_94 : BitVec 32 := 1#32
  let v159 : BitVec 32 := Scalar.divsi v157 c1_i32_94
  let v160 : BitVec 32 := Scalar.muli v159 c1_i32_94
  let v161 : BitVec 32 := Scalar.addi c0_i32_93 v160
  let c1_i32_96 : BitVec 32 := 1#32
  let arg17 : BitVec 32 := Scf.iv v161 c1_i32_96 k0_t12
  let c1024_i32_214 : BitVec 32 := 1024#32
  let v422 : BitVec 32 := Scalar.muli arg17 c1024_i32_214
  let v423 : BitVec 32 := v422
  let v457 : Index := Scalar.indexCast v423
  ![1, 0, v457.toNat]
def k0_off46 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_89 : BitVec 32 := 4#32
  let v152 : BitVec 32 := Scalar.muli arg16 c4_i32_89
  let c1_i32_90 : BitVec 32 := 1#32
  let v153 : BitVec 32 := Scalar.addi v152 c1_i32_90
  let c256_i32_91 : BitVec 32 := 256#32
  let v154 : BitVec 32 := Scalar.muli v153 c256_i32_91
  let v155 : BitVec 32 := v154
  let v462 : Index := Scalar.indexCast v155
  let c0_235 : Index := 0#32
  ![1, v462.toNat, 0]
def k0_mult15 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c1024_i32_97 : BitVec 32 := 1024#32
  let v164 : BitVec 32 := Scalar.muli arg16 c1024_i32_97
  v164
def k0_off47 (k0_t8 : Fin k0_t8_loop.trips) : Fin 2 → Nat :=
  let c0_i32_44 : BitVec 32 := 0#32
  let c1_i32_45 : BitVec 32 := 1#32
  let arg16 : BitVec 32 := Scf.iv c0_i32_44 c1_i32_45 k0_t8
  let c1024_i32_97 : BitVec 32 := 1024#32
  let v164 : BitVec 32 := Scalar.muli arg16 c1024_i32_97
  let v165 : BitVec 32 := v164
  let v169 : Index := Scalar.indexCast v165
  let c0_100 : Index := 0#32
  ![v169.toNat, 0]
def k0_off48 (k0_t8 : Fin k0_t8_loop.trips) : Fin 3 → Nat :=
  let c0_102 : Index := 0#32
  let c0_103 : Index := 0#32
  let c0_i32_44 : BitVec 32 := 0#32
  let c1_i32_45 : BitVec 32 := 1#32
  let arg16 : BitVec 32 := Scf.iv c0_i32_44 c1_i32_45 k0_t8
  let c1024_i32_97 : BitVec 32 := 1024#32
  let v164 : BitVec 32 := Scalar.muli arg16 c1024_i32_97
  let v165 : BitVec 32 := v164
  let v172 : Index := Scalar.indexCast v165
  ![0, 0, v172.toNat]
def k0_off49 (k0_t8 : Fin k0_t8_loop.trips) : Fin 3 → Nat :=
  let c1_117 : Index := 1#32
  let c0_118 : Index := 0#32
  let c0_i32_44 : BitVec 32 := 0#32
  let c1_i32_45 : BitVec 32 := 1#32
  let arg16 : BitVec 32 := Scf.iv c0_i32_44 c1_i32_45 k0_t8
  let c1024_i32_97 : BitVec 32 := 1024#32
  let v164 : BitVec 32 := Scalar.muli arg16 c1024_i32_97
  let v165 : BitVec 32 := v164
  let v206 : Index := Scalar.indexCast v165
  ![1, 0, v206.toNat]
def k0_mult16 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  v244
@[reducible] def k0_t13_loop (k0_t8 : Fin k0_t8_loop.trips) : Scf.Loop 32 :=
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let c1_i32_137 : BitVec 32 := 1#32
  ⟨c0_i32_135, v251, c1_i32_137⟩
def k0_mult17 (k0_t8 : Fin k0_t8_loop.trips) (k0_t13 : Fin (k0_t13_loop k0_t8).trips) : BitVec 32 :=
  let c0_i32_135 : BitVec 32 := 0#32
  let c1_i32_137 : BitVec 32 := 1#32
  let arg17 : BitVec 32 := Scf.iv c0_i32_135 c1_i32_137 k0_t13
  let c1024_i32_214 : BitVec 32 := 1024#32
  let v422 : BitVec 32 := Scalar.muli arg17 c1024_i32_214
  v422
def k0_off50 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v424 : Index := Scalar.indexCast v245
  let c0_216 : Index := 0#32
  ![0, v424.toNat, 0]
def k0_off51 (k0_t8 : Fin k0_t8_loop.trips) (k0_t13 : Fin (k0_t13_loop k0_t8).trips) : Fin 2 → Nat :=
  let c0_i32_135 : BitVec 32 := 0#32
  let c1_i32_137 : BitVec 32 := 1#32
  let arg17 : BitVec 32 := Scf.iv c0_i32_135 c1_i32_137 k0_t13
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off52 (k0_t8 : Fin k0_t8_loop.trips) (k0_t13 : Fin (k0_t13_loop k0_t8).trips) : Fin 3 → Nat :=
  let c0_219 : Index := 0#32
  let c0_220 : Index := 0#32
  let c0_i32_135 : BitVec 32 := 0#32
  let c1_i32_137 : BitVec 32 := 1#32
  let arg17 : BitVec 32 := Scf.iv c0_i32_135 c1_i32_137 k0_t13
  let c1024_i32_214 : BitVec 32 := 1024#32
  let v422 : BitVec 32 := Scalar.muli arg17 c1024_i32_214
  let v423 : BitVec 32 := v422
  let v430 : Index := Scalar.indexCast v423
  ![0, 0, v430.toNat]
def k0_off53 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v435 : Index := Scalar.indexCast v245
  let c0_222 : Index := 0#32
  ![0, v435.toNat, 0]
def k0_off54 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v451 : Index := Scalar.indexCast v245
  let c0_229 : Index := 0#32
  ![1, v451.toNat, 0]
def k0_off55 (k0_t8 : Fin k0_t8_loop.trips) (k0_t13 : Fin (k0_t13_loop k0_t8).trips) : Fin 3 → Nat :=
  let c1_232 : Index := 1#32
  let c0_233 : Index := 0#32
  let c0_i32_135 : BitVec 32 := 0#32
  let c1_i32_137 : BitVec 32 := 1#32
  let arg17 : BitVec 32 := Scf.iv c0_i32_135 c1_i32_137 k0_t13
  let c1024_i32_214 : BitVec 32 := 1024#32
  let v422 : BitVec 32 := Scalar.muli arg17 c1024_i32_214
  let v423 : BitVec 32 := v422
  let v457 : Index := Scalar.indexCast v423
  ![1, 0, v457.toNat]
def k0_off56 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v462 : Index := Scalar.indexCast v245
  let c0_235 : Index := 0#32
  ![1, v462.toNat, 0]
@[reducible] def k0_t14_loop (k0_t8 : Fin k0_t8_loop.trips) : Scf.Loop 32 :=
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let v248 : BitVec 32 := Scalar.addi c0_i32_135 v247
  let c1_i32_138 : BitVec 32 := 1#32
  ⟨v251, v248, c1_i32_138⟩
def k0_mult18 (k0_t8 : Fin k0_t8_loop.trips) (k0_t14 : Fin (k0_t14_loop k0_t8).trips) : BitVec 32 :=
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let c1_i32_138 : BitVec 32 := 1#32
  let arg17 : BitVec 32 := Scf.iv v251 c1_i32_138 k0_t14
  let c1024_i32_214 : BitVec 32 := 1024#32
  let v422 : BitVec 32 := Scalar.muli arg17 c1024_i32_214
  v422
def k0_off57 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v424 : Index := Scalar.indexCast v245
  let c0_216 : Index := 0#32
  ![0, v424.toNat, 0]
def k0_off58 (k0_t8 : Fin k0_t8_loop.trips) (k0_t14 : Fin (k0_t14_loop k0_t8).trips) : Fin 2 → Nat :=
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let c1_i32_138 : BitVec 32 := 1#32
  let arg17 : BitVec 32 := Scf.iv v251 c1_i32_138 k0_t14
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off59 (k0_t8 : Fin k0_t8_loop.trips) (k0_t14 : Fin (k0_t14_loop k0_t8).trips) : Fin 3 → Nat :=
  let c0_219 : Index := 0#32
  let c0_220 : Index := 0#32
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let c1_i32_138 : BitVec 32 := 1#32
  let arg17 : BitVec 32 := Scf.iv v251 c1_i32_138 k0_t14
  let c1024_i32_214 : BitVec 32 := 1024#32
  let v422 : BitVec 32 := Scalar.muli arg17 c1024_i32_214
  let v423 : BitVec 32 := v422
  let v430 : Index := Scalar.indexCast v423
  ![0, 0, v430.toNat]
def k0_off60 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v435 : Index := Scalar.indexCast v245
  let c0_222 : Index := 0#32
  ![0, v435.toNat, 0]
def k0_off61 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v451 : Index := Scalar.indexCast v245
  let c0_229 : Index := 0#32
  ![1, v451.toNat, 0]
def k0_off62 (k0_t8 : Fin k0_t8_loop.trips) (k0_t14 : Fin (k0_t14_loop k0_t8).trips) : Fin 3 → Nat :=
  let c1_232 : Index := 1#32
  let c0_233 : Index := 0#32
  let c0_i32_135 : BitVec 32 := 0#32
  let c0_i32_44 : BitVec 32 := 0#32
  let c1_i32_45 : BitVec 32 := 1#32
  let arg16 : BitVec 32 := Scf.iv c0_i32_44 c1_i32_45 k0_t8
  let v247 : BitVec 32 := Scalar.subi arg16 c0_i32_135
  let c1_i32_136 : BitVec 32 := 1#32
  let v249 : BitVec 32 := Scalar.divsi v247 c1_i32_136
  let v250 : BitVec 32 := Scalar.muli v249 c1_i32_136
  let v251 : BitVec 32 := Scalar.addi c0_i32_135 v250
  let c1_i32_138 : BitVec 32 := 1#32
  let arg17 : BitVec 32 := Scf.iv v251 c1_i32_138 k0_t14
  let c1024_i32_214 : BitVec 32 := 1024#32
  let v422 : BitVec 32 := Scalar.muli arg17 c1024_i32_214
  let v423 : BitVec 32 := v422
  let v457 : Index := Scalar.indexCast v423
  ![1, 0, v457.toNat]
def k0_off63 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_132 : BitVec 32 := 4#32
  let v242 : BitVec 32 := Scalar.muli arg16 c4_i32_132
  let c2_i32 : BitVec 32 := 2#32
  let v243 : BitVec 32 := Scalar.addi v242 c2_i32
  let c256_i32_133 : BitVec 32 := 256#32
  let v244 : BitVec 32 := Scalar.muli v243 c256_i32_133
  let v245 : BitVec 32 := v244
  let v462 : Index := Scalar.indexCast v245
  let c0_235 : Index := 0#32
  ![1, v462.toNat, 0]
def k0_mult19 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c1024_i32_139 : BitVec 32 := 1024#32
  let v254 : BitVec 32 := Scalar.muli arg16 c1024_i32_139
  v254
def k0_off64 (k0_t8 : Fin k0_t8_loop.trips) : Fin 2 → Nat :=
  let c0_i32_44 : BitVec 32 := 0#32
  let c1_i32_45 : BitVec 32 := 1#32
  let arg16 : BitVec 32 := Scf.iv c0_i32_44 c1_i32_45 k0_t8
  let c1024_i32_139 : BitVec 32 := 1024#32
  let v254 : BitVec 32 := Scalar.muli arg16 c1024_i32_139
  let v255 : BitVec 32 := v254
  let v259 : Index := Scalar.indexCast v255
  let c0_142 : Index := 0#32
  ![v259.toNat, 0]
def k0_off65 (k0_t8 : Fin k0_t8_loop.trips) : Fin 3 → Nat :=
  let c0_144 : Index := 0#32
  let c0_145 : Index := 0#32
  let c0_i32_44 : BitVec 32 := 0#32
  let c1_i32_45 : BitVec 32 := 1#32
  let arg16 : BitVec 32 := Scf.iv c0_i32_44 c1_i32_45 k0_t8
  let c1024_i32_139 : BitVec 32 := 1024#32
  let v254 : BitVec 32 := Scalar.muli arg16 c1024_i32_139
  let v255 : BitVec 32 := v254
  let v262 : Index := Scalar.indexCast v255
  ![0, 0, v262.toNat]
def k0_off66 (k0_t8 : Fin k0_t8_loop.trips) : Fin 3 → Nat :=
  let c1_158 : Index := 1#32
  let c0_159 : Index := 0#32
  let c0_i32_44 : BitVec 32 := 0#32
  let c1_i32_45 : BitVec 32 := 1#32
  let arg16 : BitVec 32 := Scf.iv c0_i32_44 c1_i32_45 k0_t8
  let c1024_i32_139 : BitVec 32 := 1024#32
  let v254 : BitVec 32 := Scalar.muli arg16 c1024_i32_139
  let v255 : BitVec 32 := v254
  let v296 : Index := Scalar.indexCast v255
  ![1, 0, v296.toNat]
def k0_mult20 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  v334
@[reducible] def k0_t15_loop (k0_t8 : Fin k0_t8_loop.trips) : Scf.Loop 32 :=
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let c1_i32_178 : BitVec 32 := 1#32
  ⟨c0_i32_176, v341, c1_i32_178⟩
def k0_mult21 (k0_t8 : Fin k0_t8_loop.trips) (k0_t15 : Fin (k0_t15_loop k0_t8).trips) : BitVec 32 :=
  let c0_i32_176 : BitVec 32 := 0#32
  let c1_i32_178 : BitVec 32 := 1#32
  let arg17 : BitVec 32 := Scf.iv c0_i32_176 c1_i32_178 k0_t15
  let c1024_i32_214 : BitVec 32 := 1024#32
  let v422 : BitVec 32 := Scalar.muli arg17 c1024_i32_214
  v422
def k0_off67 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v424 : Index := Scalar.indexCast v335
  let c0_216 : Index := 0#32
  ![0, v424.toNat, 0]
def k0_off68 (k0_t8 : Fin k0_t8_loop.trips) (k0_t15 : Fin (k0_t15_loop k0_t8).trips) : Fin 2 → Nat :=
  let c0_i32_176 : BitVec 32 := 0#32
  let c1_i32_178 : BitVec 32 := 1#32
  let arg17 : BitVec 32 := Scf.iv c0_i32_176 c1_i32_178 k0_t15
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off69 (k0_t8 : Fin k0_t8_loop.trips) (k0_t15 : Fin (k0_t15_loop k0_t8).trips) : Fin 3 → Nat :=
  let c0_219 : Index := 0#32
  let c0_220 : Index := 0#32
  let c0_i32_176 : BitVec 32 := 0#32
  let c1_i32_178 : BitVec 32 := 1#32
  let arg17 : BitVec 32 := Scf.iv c0_i32_176 c1_i32_178 k0_t15
  let c1024_i32_214 : BitVec 32 := 1024#32
  let v422 : BitVec 32 := Scalar.muli arg17 c1024_i32_214
  let v423 : BitVec 32 := v422
  let v430 : Index := Scalar.indexCast v423
  ![0, 0, v430.toNat]
def k0_off70 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v435 : Index := Scalar.indexCast v335
  let c0_222 : Index := 0#32
  ![0, v435.toNat, 0]
def k0_off71 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v451 : Index := Scalar.indexCast v335
  let c0_229 : Index := 0#32
  ![1, v451.toNat, 0]
def k0_off72 (k0_t8 : Fin k0_t8_loop.trips) (k0_t15 : Fin (k0_t15_loop k0_t8).trips) : Fin 3 → Nat :=
  let c1_232 : Index := 1#32
  let c0_233 : Index := 0#32
  let c0_i32_176 : BitVec 32 := 0#32
  let c1_i32_178 : BitVec 32 := 1#32
  let arg17 : BitVec 32 := Scf.iv c0_i32_176 c1_i32_178 k0_t15
  let c1024_i32_214 : BitVec 32 := 1024#32
  let v422 : BitVec 32 := Scalar.muli arg17 c1024_i32_214
  let v423 : BitVec 32 := v422
  let v457 : Index := Scalar.indexCast v423
  ![1, 0, v457.toNat]
def k0_off73 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v462 : Index := Scalar.indexCast v335
  let c0_235 : Index := 0#32
  ![1, v462.toNat, 0]
@[reducible] def k0_t16_loop (k0_t8 : Fin k0_t8_loop.trips) : Scf.Loop 32 :=
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let v338 : BitVec 32 := Scalar.addi c0_i32_176 v337
  let c1_i32_179 : BitVec 32 := 1#32
  ⟨v341, v338, c1_i32_179⟩
def k0_mult22 (k0_t8 : Fin k0_t8_loop.trips) (k0_t16 : Fin (k0_t16_loop k0_t8).trips) : BitVec 32 :=
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let c1_i32_179 : BitVec 32 := 1#32
  let arg17 : BitVec 32 := Scf.iv v341 c1_i32_179 k0_t16
  let c1024_i32_214 : BitVec 32 := 1024#32
  let v422 : BitVec 32 := Scalar.muli arg17 c1024_i32_214
  v422
def k0_off74 (k0_t8 : Fin k0_t8_loop.trips) : Fin 3 → Nat :=
  let c0_215 : Index := 0#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v424 : Index := Scalar.indexCast v335
  let c0_216 : Index := 0#32
  ![0, v424.toNat, 0]
def k0_off75 (k0_t8 : Fin k0_t8_loop.trips) (k0_t16 : Fin (k0_t16_loop k0_t8).trips) : Fin 2 → Nat :=
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let c1_i32_179 : BitVec 32 := 1#32
  let arg17 : BitVec 32 := Scf.iv v341 c1_i32_179 k0_t16
  let c1024_i32_214 : BitVec 32 := 1024#32
  let v422 : BitVec 32 := Scalar.muli arg17 c1024_i32_214
  let v423 : BitVec 32 := v422
  let v427 : Index := Scalar.indexCast v423
  let c0_217 : Index := 0#32
  ![v427.toNat, 0]
def k0_off76 (k0_t8 : Fin k0_t8_loop.trips) (k0_t16 : Fin (k0_t16_loop k0_t8).trips) : Fin 3 → Nat :=
  let c0_219 : Index := 0#32
  let c0_220 : Index := 0#32
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let c1_i32_179 : BitVec 32 := 1#32
  let arg17 : BitVec 32 := Scf.iv v341 c1_i32_179 k0_t16
  let c1024_i32_214 : BitVec 32 := 1024#32
  let v422 : BitVec 32 := Scalar.muli arg17 c1024_i32_214
  let v423 : BitVec 32 := v422
  let v430 : Index := Scalar.indexCast v423
  ![0, 0, v430.toNat]
def k0_off77 (k0_t8 : Fin k0_t8_loop.trips) : Fin 3 → Nat :=
  let c0_221 : Index := 0#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v435 : Index := Scalar.indexCast v335
  let c0_222 : Index := 0#32
  ![0, v435.toNat, 0]
def k0_off78 (k0_t8 : Fin k0_t8_loop.trips) : Fin 3 → Nat :=
  let c1_228 : Index := 1#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v451 : Index := Scalar.indexCast v335
  let c0_229 : Index := 0#32
  ![1, v451.toNat, 0]
def k0_off79 (k0_t8 : Fin k0_t8_loop.trips) (k0_t16 : Fin (k0_t16_loop k0_t8).trips) : Fin 3 → Nat :=
  let c1_232 : Index := 1#32
  let c0_233 : Index := 0#32
  let c0_i32_176 : BitVec 32 := 0#32
  let c0_i32_44 : BitVec 32 := 0#32
  let c1_i32_45 : BitVec 32 := 1#32
  let arg16 : BitVec 32 := Scf.iv c0_i32_44 c1_i32_45 k0_t8
  let v337 : BitVec 32 := Scalar.subi arg16 c0_i32_176
  let c1_i32_177 : BitVec 32 := 1#32
  let v339 : BitVec 32 := Scalar.divsi v337 c1_i32_177
  let v340 : BitVec 32 := Scalar.muli v339 c1_i32_177
  let v341 : BitVec 32 := Scalar.addi c0_i32_176 v340
  let c1_i32_179 : BitVec 32 := 1#32
  let arg17 : BitVec 32 := Scf.iv v341 c1_i32_179 k0_t16
  let c1024_i32_214 : BitVec 32 := 1024#32
  let v422 : BitVec 32 := Scalar.muli arg17 c1024_i32_214
  let v423 : BitVec 32 := v422
  let v457 : Index := Scalar.indexCast v423
  ![1, 0, v457.toNat]
def k0_off80 (k0_t8 : Fin k0_t8_loop.trips) : Fin 3 → Nat :=
  let c1_234 : Index := 1#32
  let c0_i32_44 : BitVec 32 := 0#32
  let c1_i32_45 : BitVec 32 := 1#32
  let arg16 : BitVec 32 := Scf.iv c0_i32_44 c1_i32_45 k0_t8
  let c4_i32_173 : BitVec 32 := 4#32
  let v332 : BitVec 32 := Scalar.muli arg16 c4_i32_173
  let c3_i32 : BitVec 32 := 3#32
  let v333 : BitVec 32 := Scalar.addi v332 c3_i32
  let c256_i32_174 : BitVec 32 := 256#32
  let v334 : BitVec 32 := Scalar.muli v333 c256_i32_174
  let v335 : BitVec 32 := v334
  let v462 : Index := Scalar.indexCast v335
  let c0_235 : Index := 0#32
  ![1, v462.toNat, 0]
def k0_mult23 (k0_t8 : Fin k0_t8_loop.trips) : BitVec 32 :=
  let c0_i32_44 : BitVec 32 := 0#32
  let c1_i32_45 : BitVec 32 := 1#32
  let arg16 : BitVec 32 := Scf.iv c0_i32_44 c1_i32_45 k0_t8
  let c1024_i32_180 : BitVec 32 := 1024#32
  let v344 : BitVec 32 := Scalar.muli arg16 c1024_i32_180
  v344
def k0_off81 (k0_t8 : Fin k0_t8_loop.trips) : Fin 2 → Nat :=
  let c0_i32_44 : BitVec 32 := 0#32
  let c1_i32_45 : BitVec 32 := 1#32
  let arg16 : BitVec 32 := Scf.iv c0_i32_44 c1_i32_45 k0_t8
  let c1024_i32_180 : BitVec 32 := 1024#32
  let v344 : BitVec 32 := Scalar.muli arg16 c1024_i32_180
  let v345 : BitVec 32 := v344
  let v349 : Index := Scalar.indexCast v345
  let c0_183 : Index := 0#32
  ![v349.toNat, 0]
def k0_off82 (k0_t8 : Fin k0_t8_loop.trips) : Fin 3 → Nat :=
  let c0_185 : Index := 0#32
  let c0_186 : Index := 0#32
  let c0_i32_44 : BitVec 32 := 0#32
  let c1_i32_45 : BitVec 32 := 1#32
  let arg16 : BitVec 32 := Scf.iv c0_i32_44 c1_i32_45 k0_t8
  let c1024_i32_180 : BitVec 32 := 1024#32
  let v344 : BitVec 32 := Scalar.muli arg16 c1024_i32_180
  let v345 : BitVec 32 := v344
  let v352 : Index := Scalar.indexCast v345
  ![0, 0, v352.toNat]
def k0_off83 (k0_t8 : Fin k0_t8_loop.trips) : Fin 3 → Nat :=
  let c1_199 : Index := 1#32
  let c0_200 : Index := 0#32
  let c0_i32_44 : BitVec 32 := 0#32
  let c1_i32_45 : BitVec 32 := 1#32
  let arg16 : BitVec 32 := Scf.iv c0_i32_44 c1_i32_45 k0_t8
  let c1024_i32_180 : BitVec 32 := 1024#32
  let v344 : BitVec 32 := Scalar.muli arg16 c1024_i32_180
  let v345 : BitVec 32 := v344
  let v386 : Index := Scalar.indexCast v345
  ![1, 0, v386.toNat]
@[reducible] def k0_t17_loop : Scf.Loop 32 :=
  let c0_i32_47 : BitVec 32 := 0#32
  let c4_i32_48 : BitVec 32 := 4#32
  let v61 : BitVec 32 := Scalar.addi c0_i32_47 c4_i32_48
  let c1_i32_49 : BitVec 32 := 1#32
  ⟨c0_i32_47, v61, c1_i32_49⟩
def k0_mult24 (k0_t17 : Fin k0_t17_loop.trips) : BitVec 32 :=
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  v64
def k0_off84 (k0_t17 : Fin k0_t17_loop.trips) (c0_i32_52 : BitVec 32) : Fin 2 → Nat :=
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v66 : Index := Scalar.indexCast v65
  let c0 : Index := 0#32
  ![v66.toNat, 0]
def k0_off85 (k0_t17 : Fin k0_t17_loop.trips) : Fin 3 → Nat :=
  let c0_54 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v70 : Index := Scalar.indexCast v65
  let c0_55 : Index := 0#32
  ![0, v70.toNat, 0]
def k0_off86 (k0_t17 : Fin k0_t17_loop.trips) (c0_i32_52 : BitVec 32) : Fin 3 → Nat :=
  let c0_58 : Index := 0#32
  let c0_59 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v76 : Index := Scalar.indexCast v65
  ![0, 0, v76.toNat]
def k0_off87 (k0_t17 : Fin k0_t17_loop.trips) : Fin 3 → Nat :=
  let c0_60 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v81 : Index := Scalar.indexCast v65
  let c0_61 : Index := 0#32
  ![0, v81.toNat, 0]
def k0_off88 (k0_t17 : Fin k0_t17_loop.trips) : Fin 3 → Nat :=
  let c1 : Index := 1#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v123 : Index := Scalar.indexCast v65
  let c0_78 : Index := 0#32
  ![1, v123.toNat, 0]
def k0_off89 (k0_t17 : Fin k0_t17_loop.trips) (c0_i32_52 : BitVec 32) : Fin 3 → Nat :=
  let c1_81 : Index := 1#32
  let c0_82 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let v63 : BitVec 32 := Scalar.addi v62 c0_i32_52
  let c256_i32 : BitVec 32 := 256#32
  let v64 : BitVec 32 := Scalar.muli v63 c256_i32
  let v65 : BitVec 32 := v64
  let v129 : Index := Scalar.indexCast v65
  ![1, 0, v129.toNat]
def k0_off90 (k0_t17 : Fin k0_t17_loop.trips) : Fin 3 → Nat :=
  let c1_83 : Index := 1#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v134 : Index := Scalar.indexCast v65
  let c0_84 : Index := 0#32
  ![1, v134.toNat, 0]
def k0_off91 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v176 : Index := Scalar.indexCast v65
  let c0_101 : Index := 0#32
  ![v176.toNat, 0]
@[reducible] def k0_t18_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_107 : BitVec 32 := 1#32
  ⟨v187, v192, c1_i32_107⟩
def k0_mult25 (k0_t17 : Fin k0_t17_loop.trips) (k0_t18 : Fin (k0_t18_loop k0_t17).trips) : BitVec 32 :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  v642
def k0_off92 (k0_t17 : Fin k0_t17_loop.trips) (k0_t18 : Fin (k0_t18_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off93 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v647 : Index := Scalar.indexCast v65
  let c0_319 : Index := 0#32
  ![v647.toNat, 0]
def k0_off94 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v650 : Index := Scalar.indexCast v65
  ![0, 0, v650.toNat]
def k0_off95 (k0_t17 : Fin k0_t17_loop.trips) (k0_t18 : Fin (k0_t18_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off96 (k0_t17 : Fin k0_t17_loop.trips) (k0_t18 : Fin (k0_t18_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off97 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v696 : Index := Scalar.indexCast v65
  ![1, 0, v696.toNat]
def k0_off98 (k0_t17 : Fin k0_t17_loop.trips) (k0_t18 : Fin (k0_t18_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off99 (k0_t17 : Fin k0_t17_loop.trips) (k0_t18 : Fin (k0_t18_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c1_i32_107 : BitVec 32 := 1#32
  let arg17 : BitVec 32 := Scf.iv v187 c1_i32_107 k0_t18
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
@[reducible] def k0_t19_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let v189 : BitVec 32 := Scalar.addi v187 v188
  let c1_i32_108 : BitVec 32 := 1#32
  ⟨v192, v189, c1_i32_108⟩
def k0_mult26 (k0_t17 : Fin k0_t17_loop.trips) (k0_t19 : Fin (k0_t19_loop k0_t17).trips) : BitVec 32 :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  v642
def k0_off100 (k0_t17 : Fin k0_t17_loop.trips) (k0_t19 : Fin (k0_t19_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off101 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v647 : Index := Scalar.indexCast v65
  let c0_319 : Index := 0#32
  ![v647.toNat, 0]
def k0_off102 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v650 : Index := Scalar.indexCast v65
  ![0, 0, v650.toNat]
def k0_off103 (k0_t17 : Fin k0_t17_loop.trips) (k0_t19 : Fin (k0_t19_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off104 (k0_t17 : Fin k0_t17_loop.trips) (k0_t19 : Fin (k0_t19_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off105 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_51 : BitVec 32 := 4#32
  let v62 : BitVec 32 := Scalar.muli arg16 c4_i32_51
  let c0_i32_52 : BitVec 32 := 0#32
  let v63 : BitVec 32 := Scalar.addi v62 c0_i32_52
  let c256_i32 : BitVec 32 := 256#32
  let v64 : BitVec 32 := Scalar.muli v63 c256_i32
  let v65 : BitVec 32 := v64
  let v696 : Index := Scalar.indexCast v65
  ![1, 0, v696.toNat]
def k0_off106 (k0_t17 : Fin k0_t17_loop.trips) (k0_t19 : Fin (k0_t19_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off107 (k0_t17 : Fin k0_t17_loop.trips) (k0_t19 : Fin (k0_t19_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_104 : BitVec 32 := 1#32
  let v187 : BitVec 32 := Scalar.addi arg16 c1_i32_104
  let c4_i32_105 : BitVec 32 := 4#32
  let v188 : BitVec 32 := Scalar.subi c4_i32_105 v187
  let c1_i32_106 : BitVec 32 := 1#32
  let v190 : BitVec 32 := Scalar.divsi v188 c1_i32_106
  let v191 : BitVec 32 := Scalar.muli v190 c1_i32_106
  let v192 : BitVec 32 := Scalar.addi v187 v191
  let c1_i32_108 : BitVec 32 := 1#32
  let arg17 : BitVec 32 := Scf.iv v192 c1_i32_108 k0_t19
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
def k0_mult27 (k0_t17 : Fin k0_t17_loop.trips) : BitVec 32 :=
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  v209
def k0_off108 (k0_t17 : Fin k0_t17_loop.trips) : Fin 3 → Nat :=
  let c0_121 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v215 : Index := Scalar.indexCast v210
  let c0_122 : Index := 0#32
  ![0, v215.toNat, 0]
def k0_off109 (k0_t17 : Fin k0_t17_loop.trips) : Fin 3 → Nat :=
  let c0_127 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v226 : Index := Scalar.indexCast v210
  let c0_128 : Index := 0#32
  ![0, v226.toNat, 0]
def k0_off110 (k0_t17 : Fin k0_t17_loop.trips) : Fin 3 → Nat :=
  let c1_145 : Index := 1#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v268 : Index := Scalar.indexCast v210
  let c0_146 : Index := 0#32
  ![1, v268.toNat, 0]
def k0_off111 (k0_t17 : Fin k0_t17_loop.trips) : Fin 3 → Nat :=
  let c1_151 : Index := 1#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v279 : Index := Scalar.indexCast v210
  let c0_152 : Index := 0#32
  ![1, v279.toNat, 0]
def k0_off112 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v321 : Index := Scalar.indexCast v210
  let c0_169 : Index := 0#32
  ![v321.toNat, 0]
@[reducible] def k0_t20_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_175 : BitVec 32 := 1#32
  ⟨v332, v337, c1_i32_175⟩
def k0_mult28 (k0_t17 : Fin k0_t17_loop.trips) (k0_t20 : Fin (k0_t20_loop k0_t17).trips) : BitVec 32 :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  v642
def k0_off113 (k0_t17 : Fin k0_t17_loop.trips) (k0_t20 : Fin (k0_t20_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off114 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v647 : Index := Scalar.indexCast v210
  let c0_319 : Index := 0#32
  ![v647.toNat, 0]
def k0_off115 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v650 : Index := Scalar.indexCast v210
  ![0, 0, v650.toNat]
def k0_off116 (k0_t17 : Fin k0_t17_loop.trips) (k0_t20 : Fin (k0_t20_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off117 (k0_t17 : Fin k0_t17_loop.trips) (k0_t20 : Fin (k0_t20_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off118 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v696 : Index := Scalar.indexCast v210
  ![1, 0, v696.toNat]
def k0_off119 (k0_t17 : Fin k0_t17_loop.trips) (k0_t20 : Fin (k0_t20_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off120 (k0_t17 : Fin k0_t17_loop.trips) (k0_t20 : Fin (k0_t20_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c1_i32_175 : BitVec 32 := 1#32
  let arg17 : BitVec 32 := Scf.iv v332 c1_i32_175 k0_t20
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
@[reducible] def k0_t21_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let v334 : BitVec 32 := Scalar.addi v332 v333
  let c1_i32_176 : BitVec 32 := 1#32
  ⟨v337, v334, c1_i32_176⟩
def k0_mult29 (k0_t17 : Fin k0_t17_loop.trips) (k0_t21 : Fin (k0_t21_loop k0_t17).trips) : BitVec 32 :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  v642
def k0_off121 (k0_t17 : Fin k0_t17_loop.trips) (k0_t21 : Fin (k0_t21_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off122 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v647 : Index := Scalar.indexCast v210
  let c0_319 : Index := 0#32
  ![v647.toNat, 0]
def k0_off123 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v650 : Index := Scalar.indexCast v210
  ![0, 0, v650.toNat]
def k0_off124 (k0_t17 : Fin k0_t17_loop.trips) (k0_t21 : Fin (k0_t21_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off125 (k0_t17 : Fin k0_t17_loop.trips) (k0_t21 : Fin (k0_t21_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off126 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_115 : BitVec 32 := 4#32
  let v207 : BitVec 32 := Scalar.muli arg16 c4_i32_115
  let c1_i32_116 : BitVec 32 := 1#32
  let v208 : BitVec 32 := Scalar.addi v207 c1_i32_116
  let c256_i32_117 : BitVec 32 := 256#32
  let v209 : BitVec 32 := Scalar.muli v208 c256_i32_117
  let v210 : BitVec 32 := v209
  let v696 : Index := Scalar.indexCast v210
  ![1, 0, v696.toNat]
def k0_off127 (k0_t17 : Fin k0_t17_loop.trips) (k0_t21 : Fin (k0_t21_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off128 (k0_t17 : Fin k0_t17_loop.trips) (k0_t21 : Fin (k0_t21_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_172 : BitVec 32 := 1#32
  let v332 : BitVec 32 := Scalar.addi arg16 c1_i32_172
  let c4_i32_173 : BitVec 32 := 4#32
  let v333 : BitVec 32 := Scalar.subi c4_i32_173 v332
  let c1_i32_174 : BitVec 32 := 1#32
  let v335 : BitVec 32 := Scalar.divsi v333 c1_i32_174
  let v336 : BitVec 32 := Scalar.muli v335 c1_i32_174
  let v337 : BitVec 32 := Scalar.addi v332 v336
  let c1_i32_176 : BitVec 32 := 1#32
  let arg17 : BitVec 32 := Scf.iv v337 c1_i32_176 k0_t21
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
def k0_mult30 (k0_t17 : Fin k0_t17_loop.trips) : BitVec 32 :=
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  v354
def k0_off129 (k0_t17 : Fin k0_t17_loop.trips) : Fin 3 → Nat :=
  let c0_188 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v360 : Index := Scalar.indexCast v355
  let c0_189 : Index := 0#32
  ![0, v360.toNat, 0]
def k0_off130 (k0_t17 : Fin k0_t17_loop.trips) : Fin 3 → Nat :=
  let c0_194 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v371 : Index := Scalar.indexCast v355
  let c0_195 : Index := 0#32
  ![0, v371.toNat, 0]
def k0_off131 (k0_t17 : Fin k0_t17_loop.trips) : Fin 3 → Nat :=
  let c1_212 : Index := 1#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v413 : Index := Scalar.indexCast v355
  let c0_213 : Index := 0#32
  ![1, v413.toNat, 0]
def k0_off132 (k0_t17 : Fin k0_t17_loop.trips) : Fin 3 → Nat :=
  let c1_218 : Index := 1#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v424 : Index := Scalar.indexCast v355
  let c0_219 : Index := 0#32
  ![1, v424.toNat, 0]
def k0_off133 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v466 : Index := Scalar.indexCast v355
  let c0_236 : Index := 0#32
  ![v466.toNat, 0]
@[reducible] def k0_t22_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_242 : BitVec 32 := 1#32
  ⟨v477, v482, c1_i32_242⟩
def k0_mult31 (k0_t17 : Fin k0_t17_loop.trips) (k0_t22 : Fin (k0_t22_loop k0_t17).trips) : BitVec 32 :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  v642
def k0_off134 (k0_t17 : Fin k0_t17_loop.trips) (k0_t22 : Fin (k0_t22_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off135 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v647 : Index := Scalar.indexCast v355
  let c0_319 : Index := 0#32
  ![v647.toNat, 0]
def k0_off136 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v650 : Index := Scalar.indexCast v355
  ![0, 0, v650.toNat]
def k0_off137 (k0_t17 : Fin k0_t17_loop.trips) (k0_t22 : Fin (k0_t22_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off138 (k0_t17 : Fin k0_t17_loop.trips) (k0_t22 : Fin (k0_t22_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off139 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v696 : Index := Scalar.indexCast v355
  ![1, 0, v696.toNat]
def k0_off140 (k0_t17 : Fin k0_t17_loop.trips) (k0_t22 : Fin (k0_t22_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off141 (k0_t17 : Fin k0_t17_loop.trips) (k0_t22 : Fin (k0_t22_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c1_i32_242 : BitVec 32 := 1#32
  let arg17 : BitVec 32 := Scf.iv v477 c1_i32_242 k0_t22
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
@[reducible] def k0_t23_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let v479 : BitVec 32 := Scalar.addi v477 v478
  let c1_i32_243 : BitVec 32 := 1#32
  ⟨v482, v479, c1_i32_243⟩
def k0_mult32 (k0_t17 : Fin k0_t17_loop.trips) (k0_t23 : Fin (k0_t23_loop k0_t17).trips) : BitVec 32 :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  v642
def k0_off142 (k0_t17 : Fin k0_t17_loop.trips) (k0_t23 : Fin (k0_t23_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off143 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v647 : Index := Scalar.indexCast v355
  let c0_319 : Index := 0#32
  ![v647.toNat, 0]
def k0_off144 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v650 : Index := Scalar.indexCast v355
  ![0, 0, v650.toNat]
def k0_off145 (k0_t17 : Fin k0_t17_loop.trips) (k0_t23 : Fin (k0_t23_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off146 (k0_t17 : Fin k0_t17_loop.trips) (k0_t23 : Fin (k0_t23_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off147 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_183 : BitVec 32 := 4#32
  let v352 : BitVec 32 := Scalar.muli arg16 c4_i32_183
  let c2_i32 : BitVec 32 := 2#32
  let v353 : BitVec 32 := Scalar.addi v352 c2_i32
  let c256_i32_184 : BitVec 32 := 256#32
  let v354 : BitVec 32 := Scalar.muli v353 c256_i32_184
  let v355 : BitVec 32 := v354
  let v696 : Index := Scalar.indexCast v355
  ![1, 0, v696.toNat]
def k0_off148 (k0_t17 : Fin k0_t17_loop.trips) (k0_t23 : Fin (k0_t23_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off149 (k0_t17 : Fin k0_t17_loop.trips) (k0_t23 : Fin (k0_t23_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_239 : BitVec 32 := 1#32
  let v477 : BitVec 32 := Scalar.addi arg16 c1_i32_239
  let c4_i32_240 : BitVec 32 := 4#32
  let v478 : BitVec 32 := Scalar.subi c4_i32_240 v477
  let c1_i32_241 : BitVec 32 := 1#32
  let v480 : BitVec 32 := Scalar.divsi v478 c1_i32_241
  let v481 : BitVec 32 := Scalar.muli v480 c1_i32_241
  let v482 : BitVec 32 := Scalar.addi v477 v481
  let c1_i32_243 : BitVec 32 := 1#32
  let arg17 : BitVec 32 := Scf.iv v482 c1_i32_243 k0_t23
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
def k0_mult33 (k0_t17 : Fin k0_t17_loop.trips) : BitVec 32 :=
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  v499
def k0_off150 (k0_t17 : Fin k0_t17_loop.trips) : Fin 3 → Nat :=
  let c0_255 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v505 : Index := Scalar.indexCast v500
  let c0_256 : Index := 0#32
  ![0, v505.toNat, 0]
def k0_off151 (k0_t17 : Fin k0_t17_loop.trips) : Fin 3 → Nat :=
  let c0_261 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v516 : Index := Scalar.indexCast v500
  let c0_262 : Index := 0#32
  ![0, v516.toNat, 0]
def k0_off152 (k0_t17 : Fin k0_t17_loop.trips) : Fin 3 → Nat :=
  let c1_279 : Index := 1#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v558 : Index := Scalar.indexCast v500
  let c0_280 : Index := 0#32
  ![1, v558.toNat, 0]
def k0_off153 (k0_t17 : Fin k0_t17_loop.trips) : Fin 3 → Nat :=
  let c1_285 : Index := 1#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v569 : Index := Scalar.indexCast v500
  let c0_286 : Index := 0#32
  ![1, v569.toNat, 0]
@[reducible] def k0_t24_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_309 : BitVec 32 := 1#32
  ⟨v622, v627, c1_i32_309⟩
def k0_mult34 (k0_t17 : Fin k0_t17_loop.trips) (k0_t24 : Fin (k0_t24_loop k0_t17).trips) : BitVec 32 :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  v642
def k0_off154 (k0_t17 : Fin k0_t17_loop.trips) (k0_t24 : Fin (k0_t24_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off155 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v647 : Index := Scalar.indexCast v500
  let c0_319 : Index := 0#32
  ![v647.toNat, 0]
def k0_off156 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v650 : Index := Scalar.indexCast v500
  ![0, 0, v650.toNat]
def k0_off157 (k0_t17 : Fin k0_t17_loop.trips) (k0_t24 : Fin (k0_t24_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off158 (k0_t17 : Fin k0_t17_loop.trips) (k0_t24 : Fin (k0_t24_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off159 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v696 : Index := Scalar.indexCast v500
  ![1, 0, v696.toNat]
def k0_off160 (k0_t17 : Fin k0_t17_loop.trips) (k0_t24 : Fin (k0_t24_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off161 (k0_t17 : Fin k0_t17_loop.trips) (k0_t24 : Fin (k0_t24_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c1_i32_309 : BitVec 32 := 1#32
  let arg17 : BitVec 32 := Scf.iv v622 c1_i32_309 k0_t24
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
@[reducible] def k0_t25_loop (k0_t17 : Fin k0_t17_loop.trips) : Scf.Loop 32 :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let v624 : BitVec 32 := Scalar.addi v622 v623
  let c1_i32_310 : BitVec 32 := 1#32
  ⟨v627, v624, c1_i32_310⟩
def k0_mult35 (k0_t17 : Fin k0_t17_loop.trips) (k0_t25 : Fin (k0_t25_loop k0_t17).trips) : BitVec 32 :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  v642
def k0_off162 (k0_t17 : Fin k0_t17_loop.trips) (k0_t25 : Fin (k0_t25_loop k0_t17).trips) : Fin 3 → Nat :=
  let c0_317 : Index := 0#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  let v643 : BitVec 32 := v642
  let v644 : Index := Scalar.indexCast v643
  let c0_318 : Index := 0#32
  ![0, v644.toNat, 0]
def k0_off163 (k0_t17 : Fin k0_t17_loop.trips) : Fin 2 → Nat :=
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v647 : Index := Scalar.indexCast v500
  let c0_319 : Index := 0#32
  ![v647.toNat, 0]
def k0_off164 (k0_t17 : Fin k0_t17_loop.trips) : Fin 3 → Nat :=
  let c0_321 : Index := 0#32
  let c0_322 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v650 : Index := Scalar.indexCast v500
  ![0, 0, v650.toNat]
def k0_off165 (k0_t17 : Fin k0_t17_loop.trips) (k0_t25 : Fin (k0_t25_loop k0_t17).trips) : Fin 3 → Nat :=
  let c0_323 : Index := 0#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  let v643 : BitVec 32 := v642
  let v655 : Index := Scalar.indexCast v643
  let c0_324 : Index := 0#32
  ![0, v655.toNat, 0]
def k0_off166 (k0_t17 : Fin k0_t17_loop.trips) (k0_t25 : Fin (k0_t25_loop k0_t17).trips) : Fin 3 → Nat :=
  let c1_339 : Index := 1#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  let v643 : BitVec 32 := v642
  let v690 : Index := Scalar.indexCast v643
  let c0_340 : Index := 0#32
  ![1, v690.toNat, 0]
def k0_off167 (k0_t17 : Fin k0_t17_loop.trips) : Fin 3 → Nat :=
  let c1_343 : Index := 1#32
  let c0_344 : Index := 0#32
  let c0_i32_47 : BitVec 32 := 0#32
  let c1_i32_49 : BitVec 32 := 1#32
  let arg16 : BitVec 32 := Scf.iv c0_i32_47 c1_i32_49 k0_t17
  let c4_i32_250 : BitVec 32 := 4#32
  let v497 : BitVec 32 := Scalar.muli arg16 c4_i32_250
  let c3_i32 : BitVec 32 := 3#32
  let v498 : BitVec 32 := Scalar.addi v497 c3_i32
  let c256_i32_251 : BitVec 32 := 256#32
  let v499 : BitVec 32 := Scalar.muli v498 c256_i32_251
  let v500 : BitVec 32 := v499
  let v696 : Index := Scalar.indexCast v500
  ![1, 0, v696.toNat]
def k0_off168 (k0_t17 : Fin k0_t17_loop.trips) (k0_t25 : Fin (k0_t25_loop k0_t17).trips) : Fin 3 → Nat :=
  let c1_345 : Index := 1#32
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  let v643 : BitVec 32 := v642
  let v701 : Index := Scalar.indexCast v643
  let c0_346 : Index := 0#32
  ![1, v701.toNat, 0]
def k0_off169 (k0_t17 : Fin k0_t17_loop.trips) (k0_t25 : Fin (k0_t25_loop k0_t17).trips) : Fin 2 → Nat :=
  let c0_i32_47 : BitVec 32 := 0#32
  let c1_i32_49 : BitVec 32 := 1#32
  let arg16 : BitVec 32 := Scf.iv c0_i32_47 c1_i32_49 k0_t17
  let c1_i32_306 : BitVec 32 := 1#32
  let v622 : BitVec 32 := Scalar.addi arg16 c1_i32_306
  let c4_i32_307 : BitVec 32 := 4#32
  let v623 : BitVec 32 := Scalar.subi c4_i32_307 v622
  let c1_i32_308 : BitVec 32 := 1#32
  let v625 : BitVec 32 := Scalar.divsi v623 c1_i32_308
  let v626 : BitVec 32 := Scalar.muli v625 c1_i32_308
  let v627 : BitVec 32 := Scalar.addi v622 v626
  let c1_i32_310 : BitVec 32 := 1#32
  let arg17 : BitVec 32 := Scf.iv v627 c1_i32_310 k0_t25
  let c1024_i32 : BitVec 32 := 1024#32
  let v642 : BitVec 32 := Scalar.muli arg17 c1024_i32
  let v643 : BitVec 32 := v642
  let v736 : Index := Scalar.indexCast v643
  let c0_361 : Index := 0#32
  ![v736.toNat, 0]
def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnReferenceIdeal.lean ====
abbrev S4096x2182 : Shape := ⟨2, ![4096, 2182]⟩
abbrev S6 : Shape := ⟨1, ![6]⟩
abbrev S4096x384 : Shape := ⟨2, ![4096, 384]⟩
abbrev S4096x6 : Shape := ⟨2, ![4096, 6]⟩
abbrev S1x6 : Shape := ⟨2, ![1, 6]⟩
abbrev S_ : Shape := ⟨0, ![]⟩
abbrev S6x4096 : Shape := ⟨2, ![6, 4096]⟩
abbrev S4096x6x64 : Shape := ⟨3, ![4096, 6, 64]⟩
abbrev S6x4096x64 : Shape := ⟨3, ![6, 4096, 64]⟩
abbrev S6x4096x4096 : Shape := ⟨3, ![6, 4096, 4096]⟩
abbrev S6x4096x1 : Shape := ⟨3, ![6, 4096, 1]⟩
abbrev S6x1x4096 : Shape := ⟨3, ![6, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S6x64x4096 : Shape := ⟨3, ![6, 64, 4096]⟩

abbrev nBuf : Space → Nat
  | .hbm => 147
  | .vmem => 0
  | .smem => 0
  | _ => 0

abbrev hbmTy0_0 (i : Nat) : BufTy := match i % 128 with
  | 0 => ⟨S4096x2182, .f32⟩
  | 1 => ⟨S6, .f32⟩
  | 2 => ⟨S4096x384, .f32⟩
  | 3 => ⟨S4096x384, .f32⟩
  | 4 => ⟨S4096x384, .f32⟩
  | 5 => ⟨S4096x384, .f32⟩
  | 6 => ⟨S4096x6, .f32⟩
  | 7 => ⟨S1x6, .f32⟩
  | 8 => ⟨S4096x6, .f32⟩
  | 9 => ⟨S4096x6, .f32⟩
  | 10 => ⟨S4096x6, .f32⟩
  | 11 => ⟨S_, .f32⟩
  | 12 => ⟨S4096x6, .f32⟩
  | 13 => ⟨S4096x6, .f32⟩
  | 14 => ⟨S4096x6, .f32⟩
  | 15 => ⟨S4096x6, .f32⟩
  | 16 => ⟨S4096x6, .i1⟩
  | 17 => ⟨S4096x6, .f32⟩
  | 18 => ⟨S4096x6, .f32⟩
  | 19 => ⟨S4096x6, .f32⟩
  | 20 => ⟨S4096x6, .f32⟩
  | 21 => ⟨S4096x6, .f32⟩
  | 22 => ⟨S4096x6, .f32⟩
  | 23 => ⟨S4096x6, .f32⟩
  | 24 => ⟨S4096x6, .f32⟩
  | 25 => ⟨S4096x6, .f32⟩
  | 26 => ⟨S6x4096, .f32⟩
  | 27 => ⟨S_, .f32⟩
  | 28 => ⟨S_, .f32⟩
  | 29 => ⟨S6x4096, .f32⟩
  | 30 => ⟨S4096x6x64, .f32⟩
  | 31 => ⟨S6x4096x64, .f32⟩
  | 32 => ⟨S4096x6x64, .f32⟩
  | 33 => ⟨S6x4096x64, .f32⟩
  | 34 => ⟨S6x4096x4096, .f32⟩
  | 35 => ⟨S_, .f32⟩
  | 36 => ⟨S6x4096x4096, .f32⟩
  | 37 => ⟨S6x4096x4096, .f32⟩
  | 38 => ⟨S6x4096x1, .f32⟩
  | 39 => ⟨S6x1x4096, .f32⟩
  | 40 => ⟨S6x4096x4096, .f32⟩
  | 41 => ⟨S6x4096x4096, .f32⟩
  | 42 => ⟨S6x4096x4096, .f32⟩
  | 43 => ⟨S6x4096x4096, .f32⟩
  | 44 => ⟨S4096, .i32⟩
  | 45 => ⟨S4096x1, .i32⟩
  | 46 => ⟨S4096, .i32⟩
  | 47 => ⟨S1x4096, .i32⟩
  | 48 => ⟨S4096x4096, .i32⟩
  | 49 => ⟨S4096x4096, .i32⟩
  | 50 => ⟨S4096x4096, .i1⟩
  | 51 => ⟨S_, .f32⟩
  | 52 => ⟨S_, .f32⟩
  | 53 => ⟨S6x4096x4096, .i1⟩
  | 54 => ⟨S6x4096x4096, .f32⟩
  | 55 => ⟨S6x4096x4096, .f32⟩
  | 56 => ⟨S_, .f32⟩
  | 57 => ⟨S6x4096x4096, .f32⟩
  | 58 => ⟨S_, .f32⟩
  | 59 => ⟨S6x4096, .f32⟩
  | 60 => ⟨S6x4096x1, .f32⟩
  | 61 => ⟨S6x4096x4096, .f32⟩
  | 62 => ⟨S6x4096x4096, .i1⟩
  | 63 => ⟨S6x4096x4096, .f32⟩
  | 64 => ⟨S_, .f32⟩
  | 65 => ⟨S6x4096, .f32⟩
  | 66 => ⟨S_, .f32⟩
  | 67 => ⟨S6x4096, .f32⟩
  | 68 => ⟨S6x4096, .f32⟩
  | 69 => ⟨S_, .f32⟩
  | 70 => ⟨S6x4096, .f32⟩
  | 71 => ⟨S6x4096, .i1⟩
  | 72 => ⟨S_, .f32⟩
  | 73 => ⟨S6x4096, .f32⟩
  | 74 => ⟨S6x4096, .i1⟩
  | 75 => ⟨S_, .f32⟩
  | 76 => ⟨S6x4096, .f32⟩
  | 77 => ⟨S_, .f32⟩
  | 78 => ⟨S6x4096, .f32⟩
  | 79 => ⟨S_, .f32⟩
  | 80 => ⟨S6x4096, .f32⟩
  | 81 => ⟨S6x4096, .f32⟩
  | 82 => ⟨S6x4096, .f32⟩
  | 83 => ⟨S6x4096x1, .f32⟩
  | 84 => ⟨S6x4096x4096, .f32⟩
  | 85 => ⟨S6x4096x4096, .f32⟩
  | 86 => ⟨S6x4096x4096, .f32⟩
  | 87 => ⟨S_, .f32⟩
  | 88 => ⟨S6x4096, .f32⟩
  | 89 => ⟨S6x4096x1, .f32⟩
  | 90 => ⟨S6x4096x4096, .f32⟩
  | 91 => ⟨S6x4096x4096, .f32⟩
  | 92 => ⟨S6x4096x1, .f32⟩
  | 93 => ⟨S_, .f32⟩
  | 94 => ⟨S6x4096x1, .f32⟩
  | 95 => ⟨S6x4096x1, .f32⟩
  | 96 => ⟨S4096x6x64, .f32⟩
  | 97 => ⟨S6x4096x64, .f32⟩
  | 98 => ⟨S6x4096x64, .f32⟩
  | 99 => ⟨S4096x6x64, .f32⟩
  | 100 => ⟨S4096x384, .f32⟩
  | 101 => ⟨S4096x6x64, .f32⟩
  | 102 => ⟨S6x4096x64, .f32⟩
  | 103 => ⟨S6x64x4096, .f32⟩
  | 104 => ⟨S6x4096x64, .f32⟩
  | 105 => ⟨S6x4096x4096, .f32⟩
  | 106 => ⟨S4096x6x64, .f32⟩
  | 107 => ⟨S4096x384, .f32⟩
  | 108 => ⟨S6x4096x4096, .f32⟩
  | 109 => ⟨S6x4096x4096, .f32⟩
  | 110 => ⟨S6x4096x4096, .f32⟩
  | 111 => ⟨S_, .f32⟩
  | 112 => ⟨S6x4096, .f32⟩
  | 113 => ⟨S6x4096x1, .f32⟩
  | 114 => ⟨S6x4096x1, .f32⟩
  | 115 => ⟨S6x4096x4096, .f32⟩
  | 116 => ⟨S6x4096x4096, .f32⟩
  | 117 => ⟨S_, .f32⟩
  | 118 => ⟨S6x4096, .f32⟩
  | 119 => ⟨S6x4096x4096, .f32⟩
  | 120 => ⟨S6x4096x4096, .f32⟩
  | 121 => ⟨S6x4096x4096, .f32⟩
  | 122 => ⟨S_, .f32⟩
  | 123 => ⟨S6x4096x4096, .f32⟩
  | 124 => ⟨S6x4096x4096, .f32⟩
  | 125 => ⟨S_, .f32⟩
  | 126 => ⟨S6x4096, .f32⟩
  | 127 => ⟨S6x4096x1, .f32⟩
  | _ => ⟨S4096x2182, .f32⟩

abbrev hbmTy0_1 (i : Nat) : BufTy := match i % 128 with
  | 0 => ⟨S6x4096x4096, .f32⟩
  | 1 => ⟨S_, .f32⟩
  | 2 => ⟨S6x4096, .f32⟩
  | 3 => ⟨S6x1x4096, .f32⟩
  | 4 => ⟨S_, .f32⟩
  | 5 => ⟨S6x4096, .f32⟩
  | 6 => ⟨S_, .f32⟩
  | 7 => ⟨S6x4096, .f32⟩
  | 8 => ⟨S6x4096, .f32⟩
  | 9 => ⟨S_, .f32⟩
  | 10 => ⟨S6x4096x4096, .f32⟩
  | 11 => ⟨S6x4096x4096, .f32⟩
  | 12 => ⟨S6x4096x64, .f32⟩
  | 13 => ⟨S6x4096x64, .f32⟩
  | 14 => ⟨S4096x6x64, .f32⟩
  | 15 => ⟨S4096x384, .f32⟩
  | 16 => ⟨S4096x6x64, .f32⟩
  | 17 => ⟨S4096x384, .f32⟩
  | 18 => ⟨S6x1x4096, .f32⟩
  | _ => ⟨S4096x2182, .f32⟩

abbrev hbmTy (i : Nat) : BufTy := match i / 128 with
  | 0 => hbmTy0_0 i
  | 1 => hbmTy0_1 i
  | _ => ⟨S4096x2182, .f32⟩

abbrev bufTy : (tb : Table) → Fin (tcTables nBuf tb) → BufTy
  | .hbm, ⟨i, _⟩ => hbmTy i
  | _, _ => ⟨S4096x2182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_call1_call0_cst : Ref sig .tc := ⟨.hbm, 27, rfl⟩
abbrev main_call1_call0_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_0 : Ref sig .tc := ⟨.hbm, 51, rfl⟩
abbrev main_call2_v0 : Ref sig .tc := ⟨.hbm, 52, rfl⟩
abbrev main_v30_1 : Ref sig .tc := ⟨.hbm, 53, rfl⟩
abbrev main_call2_v2 : Ref sig .tc := ⟨.hbm, 54, rfl⟩
abbrev main_v30_0 : Ref sig .tc := ⟨.hbm, 55, rfl⟩
abbrev main_call2_cst : Ref sig .tc := ⟨.hbm, 56, rfl⟩
abbrev main_v30_2 : Ref sig .tc := ⟨.hbm, 57, rfl⟩
abbrev main_cst_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_cst_13 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_14 : Ref sig .tc := ⟨.hbm, 129, rfl⟩
abbrev main_v87 : Ref sig .tc := ⟨.hbm, 130, rfl⟩
abbrev main_v88 : Ref sig .tc := ⟨.hbm, 131, rfl⟩
abbrev main_cst_15 : Ref sig .tc := ⟨.hbm, 132, rfl⟩
abbrev main_v89 : Ref sig .tc := ⟨.hbm, 133, rfl⟩
abbrev main_cst_16 : Ref sig .tc := ⟨.hbm, 134, rfl⟩
abbrev main_v90 : Ref sig .tc := ⟨.hbm, 135, rfl⟩
abbrev main_v91 : Ref sig .tc := ⟨.hbm, 136, rfl⟩
abbrev main_cst_17 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]
-- ==== NormKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_21 : BitVec 32 := 0#32
  let v59 : BitVec 1 := Scalar.cmpi .ne v58 c0_i32_21
  v59

def k0_cond2 (i : grid0.Coords) : BitVec 1 :=
  let arg0 : BitVec 32 := BitVec.ofNat 32 (i 0).val
  let c0_i32_22 : BitVec 32 := 0#32
  let v60 : BitVec 1 := Scalar.cmpi .sgt arg0 c0_i32_22
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== MixKernel.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S1x1024 : Shape := ⟨2, ![1, 1024]⟩
abbrev S1x384 : Shape := ⟨2, ![1, 384]⟩
abbrev S1x256 : Shape := ⟨2, ![1, 256]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S384 : Shape := ⟨1, ![384]⟩

abbrev nBuf : Space → Nat
  | .hbm => 31
  | .vmem => 32
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S1x384, .f32⟩
  | .hbm, ⟨12, _⟩ => ⟨S1x384, .f32⟩
  | .hbm, ⟨13, _⟩ => ⟨S1x256, .f32⟩
  | .hbm, ⟨14, _⟩ => ⟨S256x256, .bf16⟩
  | .hbm, ⟨15, _⟩ => ⟨S256x256, .f32⟩
  | .hbm, ⟨16, _⟩ => ⟨S1024x1024, .bf16⟩
  | .hbm, ⟨17, _⟩ => ⟨S1024x1024, .f32⟩
  | .hbm, ⟨18, _⟩ => ⟨S1x1024, .f32⟩
  | .hbm, ⟨19, _⟩ => ⟨S1x1024, .f32⟩
  | .hbm, ⟨20, _⟩ => ⟨S4096x384, .f32⟩
  | .hbm, ⟨21, _⟩ => ⟨S4096x384, .f32⟩
  | .hbm, ⟨22, _⟩ => ⟨S4096x256, .f32⟩
  | .hbm, ⟨23, _⟩ => ⟨S4096x1024, .f32⟩
  | .hbm, ⟨24, _⟩ => ⟨S1x384, .f32⟩
  | .hbm, ⟨25, _⟩ => ⟨S1x384, .f32⟩
  | .hbm, ⟨26, _⟩ => ⟨S1x256, .f32⟩
  | .hbm, ⟨27, _⟩ => ⟨S256x256, .f32⟩
  | .hbm, ⟨28, _⟩ => ⟨S1024x1024, .f32⟩
  | .hbm, ⟨29, _⟩ => ⟨S1x1024, .f32⟩
  | .hbm, ⟨30, _⟩ => ⟨S1x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S256x256, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S512x1024, .f32⟩
  | .local _ .vmem, ⟨25, _⟩ => ⟨S1x384, .f32⟩
  | .local _ .vmem, ⟨26, _⟩ => ⟨S1x384, .f32⟩
  | .local _ .vmem, ⟨27, _⟩ => ⟨S1x256, .f32⟩
  | .local _ .vmem, ⟨28, _⟩ => ⟨S256x256, .f32⟩
  | .local _ .vmem, ⟨29, _⟩ => ⟨S1024x1024, .f32⟩
  | .local _ .vmem, ⟨30, _⟩ => ⟨S1x1024, .f32⟩
  | .local _ .vmem, ⟨31, _⟩ => ⟨S1x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev main_v10_10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v262 : BitVec 1 := Scalar.cmpi .eq arg0 c0_i32
  let v263 : BitVec 32 := Scalar.extui v262
  let c0_i32_91 : BitVec 32 := 0#32
  let v264 : BitVec 1 := Scalar.cmpi .ne v263 c0_i32_91
  v264

def k0_cond2 (i : grid0.Coords) : BitVec 1 :=
  let arg0 : BitVec 32 := BitVec.ofNat 32 (i 0).val
  let c0_i32_92 : BitVec 32 := 0#32
  let v265 : BitVec 1 := Scalar.cmpi .sgt arg0 c0_i32_92
  let v266 : BitVec 32 := Scalar.extui v265
  let c0_i32_93 : BitVec 32 := 0#32
  let v267 : BitVec 1 := Scalar.cmpi .ne v266 c0_i32_93
  v267

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixReferenceIdeal.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S_ : Shape := ⟨0, ![]⟩
abbrev S384 : Shape := ⟨1, ![384]⟩
abbrev S256 : Shape := ⟨1, ![256]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S1x1024 : Shape := ⟨2, ![1, 1024]⟩

abbrev nBuf : Space → Nat
  | .hbm => 317
  | .vmem => 0
  | .smem => 0
  | _ => 0

abbrev hbmTy0_0 (i : Nat) : BufTy := match i % 128 with
  | 0 => ⟨S4096x384, .f32⟩
  | 1 => ⟨S4096x384, .f32⟩
  | 2 => ⟨S4096x256, .f32⟩
  | 3 => ⟨S4096x1024, .f32⟩
  | 4 => ⟨S1024, .f32⟩
  | 5 => ⟨S256x256, .f32⟩
  | 6 => ⟨S1024x1024, .f32⟩
  | 7 => ⟨S1024, .f32⟩
  | 8 => ⟨S1024, .f32⟩
  | 9 => ⟨S4096x1024, .f32⟩
  | 10 => ⟨S4096x256, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S_, .f32⟩
  | 25 => ⟨S4096x256, .f32⟩
  | 26 => ⟨S4096x256, .f32⟩
  | 27 => ⟨S_, .f32⟩
  | 28 => ⟨S4096x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S_, .f32⟩
  | 48 => ⟨S4096x256, .f32⟩
  | 49 => ⟨S4096x256, .f32⟩
  | 50 => ⟨S4096x256, .f32⟩
  | 51 => ⟨S4096x256, .f32⟩
  | 52 => ⟨S384, .f32⟩
  | 53 => ⟨S384, .f32⟩
  | 54 => ⟨S256, .f32⟩
  | 55 => ⟨S4096x384, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x384, .f32⟩
  | 71 => ⟨S4096x384, .f32⟩
  | 72 => ⟨S1x384, .f32⟩
  | 73 => ⟨S4096x384, .f32⟩
  | 74 => ⟨S4096x384, .f32⟩
  | 75 => ⟨S4096x384, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x384, .f32⟩
  | 91 => ⟨S4096x384, .f32⟩
  | 92 => ⟨S1x384, .f32⟩
  | 93 => ⟨S4096x384, .f32⟩
  | 94 => ⟨S4096x384, .f32⟩
  | 95 => ⟨S4096x256, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x256, .f32⟩
  | 111 => ⟨S4096x256, .f32⟩
  | 112 => ⟨S1x256, .f32⟩
  | 113 => ⟨S4096x256, .f32⟩
  | 114 => ⟨S4096x256, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S4096x1024, .f32⟩
  | _ => ⟨S4096x384, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S4096x1024, .f32⟩
  | 12 => ⟨S4096x1024, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S_, .f32⟩
  | 31 => ⟨S1024, .f32⟩
  | 32 => ⟨S1x1024, .f32⟩
  | 33 => ⟨S_, .f32⟩
  | 34 => ⟨S1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S4096x1024, .f32⟩
  | 41 => ⟨S_, .f32⟩
  | 42 => ⟨S1024, .f32⟩
  | 43 => ⟨S4096x1024, .f32⟩
  | 44 => ⟨S_, .f32⟩
  | 45 => ⟨S4096, .f32⟩
  | 46 => ⟨S4096x1, .f32⟩
  | 47 => ⟨S4096x1024, .f32⟩
  | 48 => ⟨S4096x1024, .f32⟩
  | 49 => ⟨S4096x1, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S1024x1024, .f32⟩
  | 75 => ⟨S1024x1024, .f32⟩
  | 76 => ⟨S4096x1024, .f32⟩
  | 77 => ⟨S_, .f32⟩
  | 78 => ⟨S4096x1024, .f32⟩
  | 79 => ⟨S4096x1024, .f32⟩
  | 80 => ⟨S4096x384, .f32⟩
  | 81 => ⟨S4096x384, .f32⟩
  | 82 => ⟨S4096x256, .f32⟩
  | 83 => ⟨S4096x256, .f32⟩
  | 84 => ⟨S_, .f32⟩
  | 85 => ⟨S256, .f32⟩
  | 86 => ⟨S1x256, .f32⟩
  | 87 => ⟨S4096x256, .f32⟩
  | 88 => ⟨S4096x256, .f32⟩
  | 89 => ⟨S_, .f32⟩
  | 90 => ⟨S256, .f32⟩
  | 91 => ⟨S4096x256, .f32⟩
  | 92 => ⟨S_, .f32⟩
  | 93 => ⟨S4096, .f32⟩
  | 94 => ⟨S4096x1, .f32⟩
  | 95 => ⟨S4096x256, .f32⟩
  | 96 => ⟨S4096x256, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x384, .f32⟩
  | 109 => ⟨S_, .f32⟩
  | 110 => ⟨S384, .f32⟩
  | 111 => ⟨S1x384, .f32⟩
  | 112 => ⟨S4096x384, .f32⟩
  | 113 => ⟨S4096x384, .f32⟩
  | 114 => ⟨S_, .f32⟩
  | 115 => ⟨S384, .f32⟩
  | 116 => ⟨S4096x384, .f32⟩
  | 117 => ⟨S_, .f32⟩
  | 118 => ⟨S4096, .f32⟩
  | 119 => ⟨S4096x1, .f32⟩
  | 120 => ⟨S4096x384, .f32⟩
  | 121 => ⟨S4096x384, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x384, .f32⟩

abbrev hbmTy0_2 (i : Nat) : BufTy := match i % 128 with
  | 0 => ⟨S4096x384, .f32⟩
  | 1 => ⟨S4096x384, .f32⟩
  | 2 => ⟨S4096x384, .f32⟩
  | 3 => ⟨S4096x384, .f32⟩
  | 4 => ⟨S4096x384, .f32⟩
  | 5 => ⟨S4096x384, .f32⟩
  | 6 => ⟨S_, .f32⟩
  | 7 => ⟨S384, .f32⟩
  | 8 => ⟨S1x384, .f32⟩
  | 9 => ⟨S4096x384, .f32⟩
  | 10 => ⟨S4096x384, .f32⟩
  | 11 => ⟨S_, .f32⟩
  | 12 => ⟨S384, .f32⟩
  | 13 => ⟨S4096x384, .f32⟩
  | 14 => ⟨S_, .f32⟩
  | 15 => ⟨S4096, .f32⟩
  | 16 => ⟨S4096x1, .f32⟩
  | 17 => ⟨S4096x384, .f32⟩
  | 18 => ⟨S4096x384, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x384, .f32⟩
  | 26 => ⟨S4096x384, .f32⟩
  | 27 => ⟨S4096x384, .f32⟩
  | 28 => ⟨S4096x384, .f32⟩
  | 29 => ⟨S4096x384, .f32⟩
  | 30 => ⟨S1024, .f32⟩
  | 31 => ⟨S4096x256, .f32⟩
  | 32 => ⟨S4096x256, .f32⟩
  | 33 => ⟨S4096x256, .f32⟩
  | 34 => ⟨S256x256, .f32⟩
  | 35 => ⟨S256x256, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S4096x256, .f32⟩
  | 48 => ⟨S_, .f32⟩
  | 49 => ⟨S4096x256, .f32⟩
  | 50 => ⟨S4096x256, .f32⟩
  | 51 => ⟨S4096x256, .f32⟩
  | 52 => ⟨S4096x256, .f32⟩
  | 53 => ⟨S384, .f32⟩
  | 54 => ⟨S384, .f32⟩
  | 55 => ⟨S256, .f32⟩
  | 56 => ⟨S1x384, .f32⟩
  | 57 => ⟨S1x384, .f32⟩
  | 58 => ⟨S1x256, .f32⟩
  | 59 => ⟨S1x1024, .f32⟩
  | 60 => ⟨S1x1024, .f32⟩
  | _ => ⟨S4096x384, .f32⟩

abbrev hbmTy (i : Nat) : BufTy := match i / 128 with
  | 0 => hbmTy0_0 i
  | 1 => hbmTy0_1 i
  | 2 => hbmTy0_2 i
  | _ => ⟨S4096x384, .f32⟩

abbrev bufTy : (tb : Table) → Fin (tcTables nBuf tb) → BufTy
  | .hbm, ⟨i, _⟩ => hbmTy i
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_27 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_28 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_29 : Ref sig .tc := ⟨.hbm, 158, rfl⟩
abbrev main_v118 : Ref sig .tc := ⟨.hbm, 159, rfl⟩
abbrev main_v119 : Ref sig .tc := ⟨.hbm, 160, rfl⟩
abbrev main_cst_30 : Ref sig .tc := ⟨.hbm, 161, rfl⟩
abbrev main_v120 : Ref sig .tc := ⟨.hbm, 162, rfl⟩
abbrev main_v121 : Ref sig .tc := ⟨.hbm, 163, rfl⟩
abbrev main_cst_31 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_cst_33 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_34 : Ref sig .tc := ⟨.hbm, 179, rfl⟩
abbrev main_v134 : Ref sig .tc := ⟨.hbm, 180, rfl⟩
abbrev main_v135 : Ref sig .tc := ⟨.hbm, 181, rfl⟩
abbrev main_cst_35 : Ref sig .tc := ⟨.hbm, 182, rfl⟩
abbrev main_v136 : Ref sig .tc := ⟨.hbm, 183, rfl⟩
abbrev main_v137 : Ref sig .tc := ⟨.hbm, 184, rfl⟩
abbrev main_cst_36 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_37 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_38 : Ref sig .tc := ⟨.hbm, 195, rfl⟩
abbrev main_v146 : Ref sig .tc := ⟨.hbm, 196, rfl⟩
abbrev main_v147 : Ref sig .tc := ⟨.hbm, 197, rfl⟩
abbrev main_cst_39 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_40 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_41 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_42 : Ref sig .tc := ⟨.hbm, 217, rfl⟩
abbrev main_v164 : Ref sig .tc := ⟨.hbm, 218, rfl⟩
abbrev main_v165 : Ref sig .tc := ⟨.hbm, 219, rfl⟩
abbrev main_cst_43 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_44 : Ref sig .tc := ⟨.hbm, 226, rfl⟩
abbrev main_v171 : Ref sig .tc := ⟨.hbm, 227, rfl⟩
abbrev main_v172 : Ref sig .tc := ⟨.hbm, 228, rfl⟩
abbrev main_cst_45 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_46 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_47 : Ref sig .tc := ⟨.hbm, 242, rfl⟩
abbrev main_v184 : Ref sig .tc := ⟨.hbm, 243, rfl⟩
abbrev main_v185 : Ref sig .tc := ⟨.hbm, 244, rfl⟩
abbrev main_cst_48 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_49 : Ref sig .tc := ⟨.hbm, 251, rfl⟩
abbrev main_v191 : Ref sig .tc := ⟨.hbm, 252, rfl⟩
abbrev main_v192 : Ref sig .tc := ⟨.hbm, 253, rfl⟩
abbrev main_cst_50 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_51 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_52 : Ref sig .tc := ⟨.hbm, 267, rfl⟩
abbrev main_v204 : Ref sig .tc := ⟨.hbm, 268, rfl⟩
abbrev main_v205 : Ref sig .tc := ⟨.hbm, 269, rfl⟩
abbrev main_cst_53 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_54 : Ref sig .tc := ⟨.hbm, 276, rfl⟩
abbrev main_v211 : Ref sig .tc := ⟨.hbm, 277, rfl⟩
abbrev main_v212 : Ref sig .tc := ⟨.hbm, 278, rfl⟩
abbrev main_cst_55 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_cst_56 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_57 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_cst_58 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩

abbrev nD : Nat := 1
abbrev τ : Topo := Topo.v7x

variable {F : FTy → Type} [FloatOps F]
-- ==== PrepKernel.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S16x16x64 : Shape := ⟨3, ![16, 16, 64]⟩
abbrev S16x1x64 : Shape := ⟨3, ![16, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x64, .f32⟩
  | .hbm, ⟨6, _⟩ => ⟨S16x64, .f32⟩
  | .hbm, ⟨7, _⟩ => ⟨S16x64x16, .f32⟩
  | .hbm, ⟨8, _⟩ => ⟨S16x64x16, .f32⟩
  | .hbm, ⟨9, _⟩ => ⟨S16x1, .f32⟩
  | .hbm, ⟨10, _⟩ => ⟨S16x16x64, .f32⟩
  | .hbm, ⟨11, _⟩ => ⟨S16x16x64, .f32⟩
  | .hbm, ⟨12, _⟩ => ⟨S16x16x64, .f32⟩
  | .hbm, ⟨13, _⟩ => ⟨S16x16x64, .f32⟩
  | .hbm, ⟨14, _⟩ => ⟨S16x64, .f32⟩
  | .hbm, ⟨15, _⟩ => ⟨S16x64, .f32⟩
  | .hbm, ⟨16, _⟩ => ⟨S16x1, .f32⟩
  | .hbm, ⟨17, _⟩ => ⟨S16x16x64, .f32⟩
  | .hbm, ⟨18, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | .local _ .vmem, ⟨9, _⟩ => ⟨S16x64, .f32⟩
  | .local _ .vmem, ⟨10, _⟩ => ⟨S16x64, .f32⟩
  | .local _ .vmem, ⟨11, _⟩ => ⟨S16x1, .f32⟩
  | .local _ .vmem, ⟨12, _⟩ => ⟨S16x16x64, .f32⟩
  | .local _ .vmem, ⟨13, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepReferenceIdeal.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S_ : Shape := ⟨0, ![]⟩
abbrev S16x64x1 : Shape := ⟨3, ![16, 64, 1]⟩
abbrev S16x16x64 : Shape := ⟨3, ![16, 16, 64]⟩

abbrev nBuf : Space → Nat
  | .hbm => 167
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x64, .f32⟩
  | 6 => ⟨S16x64, .f32⟩
  | 7 => ⟨S16x64x16, .f32⟩
  | 8 => ⟨S16x64x16, .f32⟩
  | 9 => ⟨S16, .f32⟩
  | 10 => ⟨S16x1, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S_, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S_, .f32⟩
  | 36 => ⟨S16x64, .f32⟩
  | 37 => ⟨S16x64, .f32⟩
  | 38 => ⟨S16x64, .f32⟩
  | 39 => ⟨S_, .f32⟩
  | 40 => ⟨S16x64, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S_, .f32⟩
  | 47 => ⟨S16x64, .f32⟩
  | 48 => ⟨S16x64, .f32⟩
  | 49 => ⟨S16x64x1, .f32⟩
  | 50 => ⟨S16x64x1, .f32⟩
  | 51 => ⟨S16x64x16, .f32⟩
  | 52 => ⟨S16x64x16, .f32⟩
  | 53 => ⟨S16x64x16, .f32⟩
  | 54 => ⟨S16x64x16, .f32⟩
  | 55 => ⟨S16x64x16, .f32⟩
  | 56 => ⟨S16x64x16, .f32⟩
  | 57 => ⟨S16x64x16, .f32⟩
  | 58 => ⟨S16x64x16, .f32⟩
  | 59 => ⟨S16x64x16, .f32⟩
  | 60 => ⟨S16x64x16, .f32⟩
  | 61 => ⟨S16x64x16, .f32⟩
  | 62 => ⟨S16x64x16, .f32⟩
  | 63 => ⟨S16x64x16, .f32⟩
  | 64 => ⟨S16x64x16, .f32⟩
  | 65 => ⟨S16x64x16, .f32⟩
  | 66 => ⟨S_, .f32⟩
  | 67 => ⟨S16x64, .f32⟩
  | 68 => ⟨S16x64x1, .f32⟩
  | 69 => ⟨S16x64x16, .f32⟩
  | 70 => ⟨S16x64x16, .f32⟩
  | 71 => ⟨S16x64x16, .f32⟩
  | 72 => ⟨S_, .f32⟩
  | 73 => ⟨S16x64, .f32⟩
  | 74 => ⟨S16x64x1, .f32⟩
  | 75 => ⟨S16x64x16, .f32⟩
  | 76 => ⟨S16x64x16, .f32⟩
  | 77 => ⟨S16x64x16, .f32⟩
  | 78 => ⟨S16x64x16, .f32⟩
  | 79 => ⟨S16x64x16, .f32⟩
  | 80 => ⟨S16x64x16, .f32⟩
  | 81 => ⟨S_, .f32⟩
  | 82 => ⟨S16x64, .f32⟩
  | 83 => ⟨S16x64x1, .f32⟩
  | 84 => ⟨S16x64x1, .f32⟩
  | 85 => ⟨S16x64x16, .f32⟩
  | 86 => ⟨S16x64x16, .f32⟩
  | 87 => ⟨S16x64x16, .f32⟩
  | 88 => ⟨S16x64x16, .f32⟩
  | 89 => ⟨S_, .f32⟩
  | 90 => ⟨S16x64, .f32⟩
  | 91 => ⟨S16x64x1, .f32⟩
  | 92 => ⟨S16x64x1, .f32⟩
  | 93 => ⟨S_, .f32⟩
  | 94 => ⟨S16x64, .f32⟩
  | 95 => ⟨S_, .f32⟩
  | 96 => ⟨S16x64, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S16x64, .f32⟩
  | 107 => ⟨S16x64, .f32⟩
  | 108 => ⟨S16x64, .f32⟩
  | 109 => ⟨S16x64, .f32⟩
  | 110 => ⟨S16x64, .f32⟩
  | 111 => ⟨S16x64, .f32⟩
  | 112 => ⟨S16x64, .f32⟩
  | 113 => ⟨S16x64, .f32⟩
  | 114 => ⟨S16x64, .f32⟩
  | 115 => ⟨S16x64, .f32⟩
  | 116 => ⟨S16x64, .f32⟩
  | 117 => ⟨S16x64, .f32⟩
  | 118 => ⟨S16x64, .f32⟩
  | 119 => ⟨S16x64, .f32⟩
  | 120 => ⟨S16x64, .f32⟩
  | 121 => ⟨S16x64, .f32⟩
  | 122 => ⟨S16x64, .f32⟩
  | 123 => ⟨S16x64, .f32⟩
  | 124 => ⟨S16x64, .f32⟩
  | 125 => ⟨S16x64, .f32⟩
  | 126 => ⟨S16x64, .f32⟩
  | 127 => ⟨S16x64, .f32⟩
  | _ => ⟨S16x64, .f32⟩

abbrev hbmTy0_1 (i : Nat) : BufTy := match i % 128 with
  | 0 => ⟨S16x64, .f32⟩
  | 1 => ⟨S16x64, .f32⟩
  | 2 => ⟨S16x64, .f32⟩
  | 3 => ⟨S16x64, .f32⟩
  | 4 => ⟨S16x64, .f32⟩
  | 5 => ⟨S_, .f32⟩
  | 6 => ⟨S16, .f32⟩
  | 7 => ⟨S16x1, .f32⟩
  | 8 => ⟨S16x64, .f32⟩
  | 9 => ⟨S16x64, .f32⟩
  | 10 => ⟨S16x64, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S_, .f32⟩
  | 18 => ⟨S16, .f32⟩
  | 19 => ⟨S16x1, .f32⟩
  | 20 => ⟨S16x1, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S_, .f32⟩
  | 27 => ⟨S16, .f32⟩
  | 28 => ⟨S16x1, .f32⟩
  | 29 => ⟨S16x1, .f32⟩
  | 30 => ⟨S16x64, .f32⟩
  | 31 => ⟨S16x64, .f32⟩
  | 32 => ⟨S16x64, .f32⟩
  | 33 => ⟨S_, .f32⟩
  | 34 => ⟨S16, .f32⟩
  | 35 => ⟨S16, .f32⟩
  | 36 => ⟨S16x1, .f32⟩
  | 37 => ⟨S16x16x64, .f32⟩
  | 38 => ⟨S16x16x64, .f32⟩
  | _ => ⟨S16x64, .f32⟩

abbrev hbmTy (i : Nat) : BufTy := match i / 128 with
  | 0 => hbmTy0_0 i
  | 1 => hbmTy0_1 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩

abbrev nD : Nat := 1
abbrev τ : Topo := Topo.v7x

variable {F : FTy → Type} [FloatOps F]
-- ==== DiscKernel.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S16x16x64 : Shape := ⟨3, ![16, 16, 64]⟩
abbrev S16x1x64 : Shape := ⟨3, ![16, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x1, .f32⟩
  | .hbm, ⟨6, _⟩ => ⟨S16x16x64, .f32⟩
  | .hbm, ⟨7, _⟩ => ⟨S16x16x64, .f32⟩
  | .hbm, ⟨8, _⟩ => ⟨S16x64, .f32⟩
  | .hbm, ⟨9, _⟩ => ⟨S16x64, .f32⟩
  | .hbm, ⟨10, _⟩ => ⟨S16x16x64, .f32⟩
  | .hbm, ⟨11, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscReferenceIdeal.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S_ : Shape := ⟨0, ![]⟩
abbrev S16x64x1 : Shape := ⟨3, ![16, 64, 1]⟩
abbrev S16x16x64 : Shape := ⟨3, ![16, 16, 64]⟩

abbrev nBuf : Space → Nat
  | .hbm => 49
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16, .f32⟩
  | .hbm, ⟨6, _⟩ => ⟨S16x1, .f32⟩
  | .hbm, ⟨7, _⟩ => ⟨S16x64, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S_, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64x1, .f32⟩
  | .hbm, ⟨36, _⟩ => ⟨S16x64x1, .f32⟩
  | .hbm, ⟨37, _⟩ => ⟨S16x64x16, .f32⟩
  | .hbm, ⟨38, _⟩ => ⟨S16x64x16, .f32⟩
  | .hbm, ⟨39, _⟩ => ⟨S16x64x16, .f32⟩
  | .hbm, ⟨40, _⟩ => ⟨S16x64x16, .f32⟩
  | .hbm, ⟨41, _⟩ => ⟨S16x64x16, .f32⟩
  | .hbm, ⟨42, _⟩ => ⟨S16x64x16, .f32⟩
  | .hbm, ⟨43, _⟩ => ⟨S16x64x16, .f32⟩
  | .hbm, ⟨44, _⟩ => ⟨S16x64x16, .f32⟩
  | .hbm, ⟨45, _⟩ => ⟨S16x64x16, .f32⟩
  | .hbm, ⟨46, _⟩ => ⟨S16x64x16, .f32⟩
  | .hbm, ⟨47, _⟩ => ⟨S16x16x64, .f32⟩
  | .hbm, ⟨48, _⟩ => ⟨S16x16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== OutKernel.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S1x1024 : Shape := ⟨2, ![1, 1024]⟩
abbrev S1x384 : Shape := ⟨2, ![1, 384]⟩
abbrev S1x256 : Shape := ⟨2, ![1, 256]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x384, .f32⟩
  | .hbm, ⟨11, _⟩ => ⟨S1x384, .f32⟩
  | .hbm, ⟨12, _⟩ => ⟨S1x256, .f32⟩
  | .hbm, ⟨13, _⟩ => ⟨S256x256, .bf16⟩
  | .hbm, ⟨14, _⟩ => ⟨S256x256, .f32⟩
  | .hbm, ⟨15, _⟩ => ⟨S1024x1024, .bf16⟩
  | .hbm, ⟨16, _⟩ => ⟨S1024x1024, .f32⟩
  | .hbm, ⟨17, _⟩ => ⟨S1x1024, .f32⟩
  | .hbm, ⟨18, _⟩ => ⟨S1x1024, .f32⟩
  | .hbm, ⟨19, _⟩ => ⟨S4096x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S256x256, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutReferenceIdeal.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S_ : Shape := ⟨0, ![]⟩
abbrev S384 : Shape := ⟨1, ![384]⟩
abbrev S256 : Shape := ⟨1, ![256]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S1x1024 : Shape := ⟨2, ![1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S384, .f32⟩
  | .hbm, ⟨37, _⟩ => ⟨S384, .f32⟩
  | .hbm, ⟨38, _⟩ => ⟨S256, .f32⟩
  | .hbm, ⟨39, _⟩ => ⟨S4096x384, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x384, .f32⟩
  | .hbm, ⟨51, _⟩ => ⟨S4096x384, .f32⟩
  | .hbm, ⟨52, _⟩ => ⟨S1x384, .f32⟩
  | .hbm, ⟨53, _⟩ => ⟨S4096x384, .f32⟩
  | .hbm, ⟨54, _⟩ => ⟨S4096x384, .f32⟩
  | .hbm, ⟨55, _⟩ => ⟨S4096x384, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x384, .f32⟩
  | .hbm, ⟨67, _⟩ => ⟨S4096x384, .f32⟩
  | .hbm, ⟨68, _⟩ => ⟨S1x384, .f32⟩
  | .hbm, ⟨69, _⟩ => ⟨S4096x384, .f32⟩
  | .hbm, ⟨70, _⟩ => ⟨S4096x384, .f32⟩
  | .hbm, ⟨71, _⟩ => ⟨S4096x256, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x256, .f32⟩
  | .hbm, ⟨83, _⟩ => ⟨S4096x256, .f32⟩
  | .hbm, ⟨84, _⟩ => ⟨S1x256, .f32⟩
  | .hbm, ⟨85, _⟩ => ⟨S4096x256, .f32⟩
  | .hbm, ⟨86, _⟩ => ⟨S4096x256, .f32⟩
  | .hbm, ⟨87, _⟩ => ⟨S4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x1024, .f32⟩
  | .hbm, ⟨115, _⟩ => ⟨S4096x1024, .f32⟩
  | .hbm, ⟨116, _⟩ => ⟨S1x1024, .f32⟩
  | .hbm, ⟨117, _⟩ => ⟨S4096x1024, .f32⟩
  | .hbm, ⟨118, _⟩ => ⟨S4096x1024, .f32⟩
  | .hbm, ⟨119, _⟩ => ⟨S1x1024, .f32⟩
  | .hbm, ⟨120, _⟩ => ⟨S4096x1024, .f32⟩
  | .hbm, ⟨121, _⟩ => ⟨S4096x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== UpKernel.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpReferenceIdeal.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x2816, .bf16⟩
  | .hbm, ⟨56, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.AttnFrame.lean ====
/-
  The attention's backward body leaves its inputs alone: its two outer loops by what they touch, the body from them, and the
  whole program's run, of whose four results nothing is said here.
-/
module

public import proofs.«01_k».proof.Proof.Gen.AttnKernelIdeal.Frame
public import proofs.«01_k».proof.Proof.Gen.AttnKernelIdeal.Loops
public import proofs.«01_k».proof.Proof.Gen.AttnKernelIdeal.Skeleton
public import proofs.«01_k».proof.Proof.Gen.AttnKernel
public import proofs.«01_k».proof.Proof.Gen.AttnReferenceIdeal
public import Idealize.ShloMosaic.Lib.WholeRead
public import Idealize.ShloMosaic.Lib.Claim
public import Idealize.ShloMosaic.Lib.Pipeline.Value

@[expose] public section

set_option maxRecDepth 16384

noncomputable section

namespace Cert.AttnKernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen

variable {F : FTy → Type} [FloatOps F]

local notation "𝕄" => MT nD τ sig Unit (Elt F) ℕ (UR sig nD τ) ℕ

/-- The loop over the groups of delta rows: it reads what the operands and their casts hold and writes the rows of delta. -/
abbrev inv8 (c : Dev nD) (arg4 : Memref sig .tc .vmem S2x1x4096 .f32) (arg5 : Memref sig .tc .vmem S2x4096x1 .f32) (arg11 : Memref sig .tc .vmem S2x4096x128 .bf16) (arg12 : Memref sig .tc .vmem S2x4096x128 .bf16) (arg13 : Memref sig .tc .vmem S4096x128 .bf16) (arg14 : Memref sig .tc .vmem S4096x128 .bf16) (arg15 : Memref sig .tc .vmem S2x4096x1 .f32) (X4 : BufTy.Contents (Elt F) arg4.view.ty) (X5 : BufTy.Contents (Elt F) arg5.view.ty) (X11 : BufTy.Contents (Elt F) arg11.view.ty) (X12 : BufTy.Contents (Elt F) arg12.view.ty) (X13 : BufTy.Contents (Elt F) arg13.view.ty) (X14 : BufTy.Contents (Elt F) arg14.view.ty) (k : ℕ) (acc : Unit) : sProp 𝕄 :=
  iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f)))

set_option warn.classDefReducibility false in
/-- That loop by its invariant. -/
@[sl_loop] def loopInv8 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (c0_i32_44 : BitVec 32) (c1_i32_45 : BitVec 32) (X4 : BufTy.Contents (Elt F) arg4.view.ty) (X5 : BufTy.Contents (Elt F) arg5.view.ty) (X11 : BufTy.Contents (Elt F) arg11.view.ty) (X12 : BufTy.Contents (Elt F) arg12.view.ty) (X13 : BufTy.Contents (Elt F) arg13.view.ty) (X14 : BufTy.Contents (Elt F) arg14.view.ty) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44 c1_i32_45 where
  inv := inv8 c arg4 arg5 arg11 arg12 arg13 arg14 arg15 X4 X5 X11 X12 X13 X14
  step k acc := by
    unfold k0_t8_body
    iintro ⟨H4, H5, H11, H12, H13, H14, ⟨%f15, H15⟩⟩
    sl_exec
    sl_step
    isplitl [H4]; · iexact H4
    isplitl [H5]; · iexact H5
    isplitl [H11]; · iexact H11
    isplitl [H12]; · iexact H12
    isplitl [H13]; · iexact H13
    isplitl [H14]; · iexact H14
    iexists _; iexact H15

/-- The loop over the groups of key rows: it reads these and delta, and writes the four results. -/
abbrev inv17 (c : Dev nD) (arg4 : Memref sig .tc .vmem S2x1x4096 .f32) (arg5 : Memref sig .tc .vmem S2x4096x1 .f32) (arg7 : Memref sig .tc .vmem S4096x128 .f32) (arg8 : Memref sig .tc .vmem S4096x128 .f32) (arg9 : Memref sig .tc .vmem S4096x128 .f32) (arg10 : Memref sig .tc .vmem S2x1x4096 .f32) (arg11 : Memref sig .tc .vmem S2x4096x128 .bf16) (arg12 : Memref sig .tc .vmem S2x4096x128 .bf16) (arg13 : Memref sig .tc .vmem S4096x128 .bf16) (arg14 : Memref sig .tc .vmem S4096x128 .bf16) (arg15 : Memref sig .tc .vmem S2x4096x1 .f32) (X4 : BufTy.Contents (Elt F) arg4.view.ty) (X5 : BufTy.Contents (Elt F) arg5.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (k : ℕ) (acc : Unit) : sProp 𝕄 :=
  iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))

set_option warn.classDefReducibility false in
/-- That loop by its invariant. -/
@[sl_loop] def loopInv17 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (X4 : BufTy.Contents (Elt F) arg4.view.ty) (X5 : BufTy.Contents (Elt F) arg5.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    LoopInvTy_k0_t17 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 where
  inv := inv17 c arg4 arg5 arg7 arg8 arg9 arg10 arg11 arg12 arg13 arg14 arg15 X4 X5 X11 X12 X13 X14 X15
  step k acc := by
    unfold k0_t17_body
    iintro ⟨H4, H5, H11, H12, H13, H14, H15, ⟨%f7, H7⟩, ⟨%f8, H8⟩, ⟨%f9, H9⟩, ⟨%f10, H10⟩⟩
    sl_exec
    sl_step
    isplitl [H4]; · iexact H4
    isplitl [H5]; · iexact H5
    isplitl [H11]; · iexact H11
    isplitl [H12]; · iexact H12
    isplitl [H13]; · iexact H13
    isplitl [H14]; · iexact H14
    isplitl [H15]; · iexact H15
    isplitl [H7]; · iexists _; iexact H7
    isplitl [H8]; · iexists _; iexact H8
    isplitl [H9]; · iexists _; iexact H9
    iexists _; iexact H10

/-- The body's triple: the six inputs are left as they are, the results and the scratch at some contents. -/
theorem run (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole)
    (x1 : Vec F S4096x128 .f32) (x2 : Vec F S4096x128 .f32) (x3 : Vec F S4096x128 .f32) (x4 : Vec F S2x1x4096 .f32) (x5 : Vec F S2x4096x1 .f32) (x6 : Vec F S4096x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

variable (m : (ℓ : Loc nD τ sig) → Buf (Elt F) ℓ) (ρ : Dev nD → PrngReg)

/-- The four results are the windows of which nothing is said. -/
def forgets : Fin 10 → Bool := fun w => decide (6 ≤ w.val)

/-- The region's data: every input window at its block, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The scratch as memrefs owned at some contents. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- The body at a point of the grid. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq, after0, after1, after2, after3, after4, after5]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, H6, H7, H8, H9⟩
  iapply ((run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  iintro ⟨H0, H1, H2, H3, H4, H5, H6, H7, H8, H9, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, defs_row]
  exact triple_restated (sound m c t) rfl .rfl fun _ => .rfl

set_option backward.isDefEq.respectTransparency.types false in
/-- The whole program's run: everything but the results as it was, no semaphore held. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hΦ := fun _ _ => rfl)

/-- The arguments are left as they were and no semaphore is held. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 5 rfl).trans ((A_eq m c 5).trans (V_main_arg2 m c))⟩, h.2⟩) (run_main m ρ)

end Cert.AttnKernelIdeal.Frame

end
-- ==== Proof.Reals.lean ====
/-
  Extended-real arithmetic the value claims share: a finite nonnegative factor moves through a sum, and the
  constants the programs carry.
-/
module

public import Idealize.ShloMosaic.PureOps.Ideal
public import Idealize.ShloMosaic.Lib.Pointwise
public import Idealize.ShloMosaic.Lib.ReduceAll
public import Mathlib.Data.EReal.Inv

@[expose] public section

noncomputable section

namespace Cert.Reals

open Idealize.ShloMosaic
open scoped BigOperators

/-- A nonnegative real factor distributes over any finite sum of extended reals. -/
theorem mul_sum {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The same with the factor on the right. -/
theorem sum_mul {ι : Type*} (s : Finset ι) (f : ι → EReal) {a : ℝ} (ha : 0 ≤ a) :
    (∑ i ∈ s, f i) * (a : EReal) = ∑ i ∈ s, f i * (a : EReal) := by
  rw [mul_comm, mul_sum s f ha]; simp only [mul_comm]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_sum {ι : Type*} (s : Finset ι) (f : ι → EReal) (h : ∀ i, IsReal (f i)) : IsReal (∑ i ∈ s, f i) := by
  classical
  induction s using Finset.induction_on with
  | empty => simpa using isReal_zero
  | insert i s hi ih => rw [Finset.sum_insert hi]; exact (h i).add ih

theorem isReal_of_abs_lt {x : EReal} (h : max x (-x) < ⊤) : IsReal x := by
  induction x with
  | bot => simp at h
  | top => simp at h
  | coe r => exact ⟨r, rfl⟩

theorem inf : Ideal.ofBits .f32 0x7F800000#32 = ⊤ := by
  simp [Ideal.ofBits, Ideal.ieee]

theorem one : Ideal.ofBits .f32 0x3F800000#32 = 1 := by
  simp [Ideal.ofBits, Ideal.ieee, -EReal.coe_mul]; norm_num

theorem exp_bot : Ideal.exp ⊥ = 0 := rfl

theorem exp_top : Ideal.exp ⊤ = ⊤ := rfl

theorem exp_coe (r : ℝ) : Ideal.exp (r : EReal) = ((Real.exp r : ℝ) : EReal) := rfl

theorem one_sub_one : (1 : EReal) - 1 = 0 := by
  rw [← EReal.coe_one, ← EReal.coe_sub]; simp

/-- What `jnp.all(jnp.abs(x) < jnp.inf)` says: every element is a real number. -/
theorem all_real {s t u z : Shape} {axes : List (Fin s.rank)} [Subsingleton t.Idx] (x : FVec Ideal s .f32)
    {d : Fin z.rank → Fin s.rank} (hb : z.BroadcastsInDim s d) (init : u.Idx → BitVec 1) (h : s.ReducesTo axes t)
    (hu : 0 < u.numel) (j : t.Idx)
    (e : Host.reduce IntOp.andi (cmpf .olt (Host.absf x) (broadcastInDim s d hb (constant z .f32 0x7F800000#32))) init h hu j = 1#1)
    (i : s.Idx) : IsReal (x i) := by
  have e1 := Host.reduce_andi_all _ init h hu j e i
  have e2 : Ideal.cmp .olt (max (x i) (-(x i))) (Ideal.ofBits .f32 0x7F800000#32) = 1#1 := e1
  rw [inf] at e2
  refine isReal_of_abs_lt ?_
  by_contra hn
  simp [Ideal.cmp, hn] at e2

theorem andi_one {a b : BitVec 1} (h : IntOp.andi a b = 1#1) : a = 1#1 ∧ b = 1#1 := by
  revert a b; decide

end Cert.Reals

end
-- ==== Proof.AttnMath.lean ====
/-
  The attention's backward pass in plain mathematics over the extended reals: what the kernel computes of one pair of
  heads from the tables it reads, row by row, and how its sums over row blocks fit together.
-/
module

public import proofs.«01_k».proof.Proof.Gen.AttnKernelIdeal
public import proofs.«01_k».proof.Proof.Reals
public import Idealize.ShloMosaic.Lib.Pointwise

@[expose] public section

noncomputable section

namespace Cert.AttnKernelIdeal.Math

open Idealize.ShloMosaic
open Finset

/-- The tables of one pair of heads: masked queries and upstream gradients (head, row, lane), keys and values (row, lane),
    the cumulated log gates of the keys and the log-sum-exps of the queries (head, row). -/
structure Tabs where
  Q : ℕ → ℕ → ℕ → EReal
  D : ℕ → ℕ → ℕ → EReal
  K : ℕ → ℕ → EReal
  V : ℕ → ℕ → EReal
  C : ℕ → ℕ → EReal
  L : ℕ → ℕ → EReal

variable (T : Tabs) (E : ℕ → ℕ → EReal)

/-- The weight of key `j` for query `i`, the mask left out. -/
def ex (h i j : ℕ) : EReal := Ideal.exp ((∑ x : Fin 128, T.Q h i x * T.K j x) - T.C h j - T.L h i)

/-- The weight under the causal mask. -/
def pr (h i j : ℕ) : EReal := if j ≤ i then ex T h i j else 0

/-- The gradient of that weight. -/
def dp (h i j : ℕ) : EReal := ∑ x : Fin 128, T.D h i x * T.V j x

/-- A query's sum of the weights' gradients, weighted, over its first `n` keys; -/
def del (h i n : ℕ) : EReal := ∑ j ∈ range n, pr T h i j * dp T h i j

/-- over all the keys it sees. -/
def delta (h i : ℕ) : EReal := del T h i (256 * (i / 256 + 1))

/-- The gradient of the logit, `E` the table of the row sums. -/
def ds (h i j : ℕ) : EReal := pr T h i j * (dp T h i j - E h i)

theorem pr_of_le {h i j : ℕ} (hij : j ≤ i) : pr T h i j = ex T h i j := if_pos hij

theorem del_add (h i n w : ℕ) :
    del T h i n + ∑ x : Fin w, pr T h i (n + x) * dp T h i (n + x) = del T h i (n + w) := by
  unfold del
  rw [sum_range_add, Fin.sum_univ_eq_sum_range (fun x => pr T h i (n + x) * dp T h i (n + x)) w]

/-- The value's gradient from the query rows `[a, b)`, -/
def dvS (j d a b : ℕ) : EReal := ∑ i ∈ Ico a b, (pr T 0 i j * T.D 0 i d + pr T 1 i j * T.D 1 i d)

/-- the key's, -/
def dkS (j d a b : ℕ) : EReal := ∑ i ∈ Ico a b, (ds T E 0 i j * T.Q 0 i d + ds T E 1 i j * T.Q 1 i d)

/-- and the sum of the logits' gradients. -/
def dsS (h j a b : ℕ) : EReal := ∑ i ∈ Ico a b, ds T E h i j

theorem sum_Ico_add (f : ℕ → EReal) (a b w : ℕ) (hab : a ≤ b) :
    ∑ i ∈ Ico a b, f i + ∑ x : Fin w, f (b + x) = ∑ i ∈ Ico a (b + w), f i := by
  rw [← sum_Ico_consecutive f hab (Nat.le_add_right b w), sum_Ico_eq_sum_range f b, Nat.add_sub_cancel_left,
    Fin.sum_univ_eq_sum_range (fun x => f (b + x)) w]

theorem dvS_add (j d a b w : ℕ) (hab : a ≤ b) :
    dvS T j d a b + ∑ x : Fin w, pr T 0 (b + x) j * T.D 0 (b + x) d + ∑ x : Fin w, pr T 1 (b + x) j * T.D 1 (b + x) d
      = dvS T j d a (b + w) := by
  rw [add_assoc, ← sum_add_distrib]; exact sum_Ico_add _ a b w hab

theorem dkS_add (j d a b w : ℕ) (hab : a ≤ b) :
    dkS T E j d a b + ∑ x : Fin w, ds T E 0 (b + x) j * T.Q 0 (b + x) d + ∑ x : Fin w, ds T E 1 (b + x) j * T.Q 1 (b + x) d
      = dkS T E j d a (b + w) := by
  rw [add_assoc, ← sum_add_distrib]; exact sum_Ico_add _ a b w hab

theorem sum_tile (f : ℕ → EReal) (a w : ℕ) : ∑ x : Fin w, f (a + x) = ∑ i ∈ Ico a (a + w), f i := by
  rw [sum_Ico_eq_sum_range f a, Nat.add_sub_cancel_left, Fin.sum_univ_eq_sum_range (fun x => f (a + x)) w]

/-- The gate's gradient of a key: what the queries of its own row group give, and then those of every later group. -/
def dcS (h j a g : ℕ) : ℕ → EReal
  | 0 => 0 - dsS T E h j a (1024 * g + 1024)
  | n + 1 => dcS h j a g n - dsS T E h j (1024 * g + 1024 + 1024 * n) (1024 * g + 1024 + 1024 * n + 1024)

/-- What the 256 keys from `j` on give a query's gradient; the lane `d` says of which head. -/
def dqB (M : ℕ → BitVec 1) (j i d : ℕ) : EReal :=
  Scalar.select (M d) (∑ x : Fin 256, ds T E 0 i (j + x) * T.K (j + x) d) (∑ x : Fin 256, ds T E 1 i (j + x) * T.K (j + x) d)
    * Ideal.ofBits .f32 0x3E000000#32

/-- The query's gradient from the first `b` such blocks of keys. -/
def dqS (M : ℕ → BitVec 1) (i d b : ℕ) : EReal := ∑ n ∈ range b, dqB T E M (256 * n) i d

end Cert.AttnKernelIdeal.Math

end
-- ==== Proof.AttnDelta.lean ====
/-
  The backward pass's loads, and its row sums of the weighted weight gradients: what the loop over the groups of query rows
  leaves in the scratch it writes.
-/
module

public import proofs.«01_k».proof.Proof.AttnMath
public import proofs.«01_k».proof.Proof.Gen.AttnKernelIdeal.Frame
public import proofs.«01_k».proof.Proof.Gen.AttnKernelIdeal.Loops
public import proofs.«01_k».proof.Proof.Gen.AttnKernelIdeal.Skeleton
public import Idealize.ShloMosaic.Lib.WholeRead
public import Idealize.ShloMosaic.Lib.Pipeline.Value
public import Idealize.ShloMosaic.Lib.Pointwise
public import Idealize.ShloMosaic.Lib.Tactic
public import Idealize.ShloMosaic.Lib.Claim

@[expose] public section

set_option maxRecDepth 65536

noncomputable section

namespace Cert.AttnKernelIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

local notation "𝕄" => MT nD τ sig Unit (Elt Ideal) ℕ (UR sig nD τ) ℕ

section Loads

variable {sig : RefSig} {κ : Kind} {sp : Space}

/-- A load of a block of a matrix whose contents are a table. -/
theorem load2 {a b p q : ℕ} {e : EltTy} {v : View sig κ sp ⟨2, ![a, b]⟩ e} {f : v.ty.Contents (Elt Ideal)} {R : ℕ → ℕ → Elt Ideal e}
    (h : ∀ y : (⟨2, ![a, b]⟩ : Shape).Idx, v.read (Elt Ideal) f y = R (y 0).val (y 1).val) (off : Fin 2 → ℕ)
    (inb : ∀ x, off x + (![p, q] : Fin 2 → ℕ) x ≤ (⟨2, ![a, b]⟩ : Shape).size x) (i : Fin p) (j : Fin q) :
    v.readAt (Elt Ideal) (Rect.unit (s := ⟨2, ![a, b]⟩) off ![p, q] inb).toLoadRect f (ix2 i j) = R (off 0 + i.val) (off 1 + j.val) := by
  rw [View.readAt_eq_ld]
  refine (h _).trans ?_
  show R (off 0 + 1 * i.val) (off 1 + 1 * j.val) = _
  rw [Nat.one_mul, Nat.one_mul]

/-- A load of a block of a pair of matrices whose contents are a table. -/
theorem load3 {a b d p q r : ℕ} {e : EltTy} {v : View sig κ sp ⟨3, ![a, b, d]⟩ e} {f : v.ty.Contents (Elt Ideal)} {R : ℕ → ℕ → ℕ → Elt Ideal e}
    (h : ∀ y : (⟨3, ![a, b, d]⟩ : Shape).Idx, v.read (Elt Ideal) f y = R (y 0).val (y 1).val (y 2).val) (off : Fin 3 → ℕ)
    (inb : ∀ x, off x + (![p, q, r] : Fin 3 → ℕ) x ≤ (⟨3, ![a, b, d]⟩ : Shape).size x) (i : Fin p) (j : Fin q) (k : Fin r) :
    v.readAt (Elt Ideal) (Rect.unit (s := ⟨3, ![a, b, d]⟩) off ![p, q, r] inb).toLoadRect f (ix3 i j k)
      = R (off 0 + i.val) (off 1 + j.val) (off 2 + k.val) := by
  rw [View.readAt_eq_ld]
  refine (h _).trans ?_
  show R (off 0 + 1 * i.val) (off 1 + 1 * j.val) (off 2 + 1 * k.val) = _
  rw [Nat.one_mul, Nat.one_mul, Nat.one_mul]

end Loads

/-- What the six memrefs hold that both passes read. -/
structure Reads (T : Tabs) (v4 : View sig .tc .vmem S2x1x4096 .f32) (v5 : View sig .tc .vmem S2x4096x1 .f32)
    (v11 v12 : View sig .tc .vmem S2x4096x128 .bf16) (v13 v14 : View sig .tc .vmem S4096x128 .bf16)
    (X4 : v4.ty.Contents (Elt Ideal)) (X5 : v5.ty.Contents (Elt Ideal)) (X11 : v11.ty.Contents (Elt Ideal)) (X12 : v12.ty.Contents (Elt Ideal))
    (X13 : v13.ty.Contents (Elt Ideal)) (X14 : v14.ty.Contents (Elt Ideal)) : Prop where
  c : ∀ y : (⟨3, ![2, 1, 4096]⟩ : Shape).Idx, v4.read (Elt Ideal) X4 y = T.C (y 0).val (y 2).val
  l : ∀ y : (⟨3, ![2, 4096, 1]⟩ : Shape).Idx, v5.read (Elt Ideal) X5 y = T.L (y 0).val (y 1).val
  q : ∀ y : (⟨3, ![2, 4096, 128]⟩ : Shape).Idx, v11.read (Elt Ideal) X11 y = T.Q (y 0).val (y 1).val (y 2).val
  d : ∀ y : (⟨3, ![2, 4096, 128]⟩ : Shape).Idx, v12.read (Elt Ideal) X12 y = T.D (y 0).val (y 1).val (y 2).val
  k : ∀ y : (⟨2, ![4096, 128]⟩ : Shape).Idx, v13.read (Elt Ideal) X13 y = T.K (y 0).val (y 1).val
  v : ∀ y : (⟨2, ![4096, 128]⟩ : Shape).Idx, v14.read (Elt Ideal) X14 y = T.V (y 0).val (y 1).val

namespace Reads

variable {T : Tabs} {v4 : View sig .tc .vmem S2x1x4096 .f32} {v5 : View sig .tc .vmem S2x4096x1 .f32}
    {v11 v12 : View sig .tc .vmem S2x4096x128 .bf16} {v13 v14 : View sig .tc .vmem S4096x128 .bf16}
    {X4 : v4.ty.Contents (Elt Ideal)} {X5 : v5.ty.Contents (Elt Ideal)} {X11 : v11.ty.Contents (Elt Ideal)} {X12 : v12.ty.Contents (Elt Ideal)}
    {X13 : v13.ty.Contents (Elt Ideal)} {X14 : v14.ty.Contents (Elt Ideal)}
    (h : Reads T v4 v5 v11 v12 v13 v14 X4 X5 X11 X12 X13 X14) {w : ℕ}

include h

theorem ldC (off : Fin 3 → ℕ) (inb) (x : Fin w) :
    v4.readAt (Elt Ideal) (Rect.unit (s := S2x1x4096) off ![1, 1, w] inb).toLoadRect X4 (ix3 0 0 x) = T.C (off 0) (off 2 + x.val) :=
  load3 (v := v4) (f := X4) (R := fun a _ b => T.C a b) h.c off inb (0 : Fin 1) (0 : Fin 1) x

theorem ldL (off : Fin 3 → ℕ) (inb) (x : Fin w) :
    v5.readAt (Elt Ideal) (Rect.unit (s := S2x4096x1) off ![1, w, 1] inb).toLoadRect X5 (ix3 0 x 0) = T.L (off 0) (off 1 + x.val) :=
  load3 (v := v5) (f := X5) (R := fun a b _ => T.L a b) h.l off inb (0 : Fin 1) x (0 : Fin 1)

theorem ldQ (off : Fin 3 → ℕ) (inb) (x : Fin w) (y : Fin 128) :
    v11.readAt (Elt Ideal) (Rect.unit (s := S2x4096x128) off ![1, w, 128] inb).toLoadRect X11 (ix3 0 x y)
      = T.Q (off 0) (off 1 + x.val) (off 2 + y.val) := load3 h.q off inb (0 : Fin 1) x y

theorem ldD (off : Fin 3 → ℕ) (inb) (x : Fin w) (y : Fin 128) :
    v12.readAt (Elt Ideal) (Rect.unit (s := S2x4096x128) off ![1, w, 128] inb).toLoadRect X12 (ix3 0 x y)
      = T.D (off 0) (off 1 + x.val) (off 2 + y.val) := load3 h.d off inb (0 : Fin 1) x y

theorem ldK (off : Fin 2 → ℕ) (inb) (x : Fin w) (y : Fin 128) :
    v13.readAt (Elt Ideal) (Rect.unit (s := S4096x128) off ![w, 128] inb).toLoadRect X13 (ix2 x y) = T.K (off 0 + x.val) (off 1 + y.val) :=
  load2 h.k off inb x y

theorem ldV (off : Fin 2 → ℕ) (inb) (x : Fin w) (y : Fin 128) :
    v14.readAt (Elt Ideal) (Rect.unit (s := S4096x128) off ![w, 128] inb).toLoadRect X14 (ix2 x y) = T.V (off 0 + x.val) (off 1 + y.val) :=
  load2 h.v off inb x y

end Reads

section Rows

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole)

/-- The carried sums before a trip over whole key groups: over the first `n` keys, of the query rows from `q0` on. -/
structure Row (T : Tabs) (q0 n : ℕ) (acc : FVec Ideal S256x1 .f32 × FVec Ideal S256x1 .f32) : Prop where
  a : ∀ x : Fin 256, acc.1 (ix2 x 0) = del T 0 (q0 + x) n
  b : ∀ x : Fin 256, acc.2 (ix2 x 0) = del T 1 (q0 + x) n

theorem Row.cast {T : Tabs} {q0 n n' : ℕ} {acc : FVec Ideal S256x1 .f32 × FVec Ideal S256x1 .f32} (h : Row T q0 n acc) (e : n = n') :
    Row T q0 n' acc := e ▸ h

/-- One trip: the sums over the next 1024 keys, none of them masked, are added. -/
theorem Row.step {T : Tabs} {q0 n : ℕ} {acc : FVec Ideal S256x1 .f32 × FVec Ideal S256x1 .f32} (h : Row T q0 n acc) (hn : n + 1024 ≤ q0)
    {A B : FVec Ideal S256x1 .f32}
    (hA : ∀ x : Fin 256, A (ix2 x 0) = acc.1 (ix2 x 0) + ∑ y : Fin 1024, ex T 0 (q0 + x) (n + y) * dp T 0 (q0 + x) (n + y))
    (hB : ∀ x : Fin 256, B (ix2 x 0) = acc.2 (ix2 x 0) + ∑ y : Fin 1024, ex T 1 (q0 + x) (n + y) * dp T 1 (q0 + x) (n + y)) :
    Row T q0 (n + 1024) (A, B) := by
  have key (z : ℕ) (x : Fin 256) : ∑ y : Fin 1024, ex T z (q0 + x) (n + y) * dp T z (q0 + x) (n + y)
      = ∑ y : Fin 1024, pr T z (q0 + x) (n + y) * dp T z (q0 + x) (n + y) :=
    Finset.sum_congr rfl fun y _ => by rw [pr_of_le T (by omega)]
  exact ⟨fun x => (hA x).trans (by rw [h.a, key, del_add]), fun x => (hB x).trans (by rw [h.b, key, del_add])⟩

/-- A counted loop of such trips. -/
theorem Row.trips {T : Tabs} {q0 N : ℕ} (f : ℕ → FVec Ideal S256x1 .f32 × FVec Ideal S256x1 .f32) (h0 : Row T q0 (1024 * 0) (f 0))
    (hs : ∀ k : Fin N, Row T q0 (1024 * k) (f k) → Row T q0 (1024 * k + 1024) (f (k + 1))) : Row T q0 (1024 * N) (f N) := by
  have : ∀ n, n ≤ N → Row T q0 (1024 * n) (f n) := by
    intro n
    induction n with
    | zero => exact fun _ => h0
    | succ n ih => exact fun hn => (hs ⟨n, hn⟩ (ih (Nat.le_of_lt hn))).cast (Nat.mul_succ 1024 n).symm
  exact this N le_rfl

/-- The trips over whole key groups, for the first block of a group's query rows. -/
theorem row9 (T : Tabs) (c0_i32_44 : BitVec 32) (c1_i32_45 : BitVec 32) (k0_t8 : Fin k0_t8_loop.trips) (v65 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32)
    (h : Reads T arg4.view arg5.view arg11.view arg12.view arg13.view arg14.view X_arg4 X_arg5 X_arg11 X_arg12 X_arg13 X_arg14)
    (hi : Row T (1024 * k0_t8) 0 init) :
    Row T (1024 * k0_t8) (1024 * k0_t8) (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44 c1_i32_45 k0_t8 v65 X_arg4 X_arg5 X_arg11 X_arg12 X_arg13 X_arg14 init (k0_t9_loop k0_t8).trips) := by
  have e : ∀ g : Fin k0_t8_loop.trips, (k0_t9_loop g).trips = g.val := by decide +kernel
  refine (Row.trips (N := (k0_t9_loop k0_t8).trips) _ (hi.cast rfl) fun k hr => ?_).cast (congrArg _ (e k0_t8))
  have hk := lt_of_lt_of_eq k.isLt (e k0_t8)
  rw [st_k0_t9_succ]
  unfold tripR_k0_t9 trip_k0_t9
  refine hr.step (by omega) (fun x => ?_) (fun x => ?_)
  · unfold trip_k0_t9.sl.r
    unfold_payloads
    pointwise [ex, dp]
    simp only [h.ldK, h.ldV, h.ldQ, h.ldD, h.ldC, h.ldL, k0_off12_eq, k0_off13_eq, k0_off14_eq, k0_off15_eq, k0_off16_eq, k0_off17_eq, k0_off18_eq, Matrix.cons_val, Nat.zero_add]
  · unfold trip_k0_t9.sl.r_1 trip_k0_t9.sl.r_2
    unfold_payloads
    pointwise [ex, dp]
    simp only [h.ldK, h.ldV, h.ldQ, h.ldD, h.ldC, h.ldL, k0_off12_eq, k0_off13_eq, k0_off14_eq, k0_off15_eq, k0_off16_eq, k0_off17_eq, k0_off18_eq, Matrix.cons_val, Nat.zero_add]

/-- The trips over whole key groups, for the second block of a group's query rows. -/
theorem row11 (T : Tabs) (k0_t8 : Fin k0_t8_loop.trips) (arg16 : BitVec 32) (v65 : BitVec 32) (v73_1 : FVec Ideal S256x1 .f32) (v109 : FVec Ideal S256x1 .f32) (v141 : FVec Ideal S256 .f32) (v155 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32)
    (h : Reads T arg4.view arg5.view arg11.view arg12.view arg13.view arg14.view X_arg4 X_arg5 X_arg11 X_arg12 X_arg13 X_arg14)
    (hi : Row T (1024 * k0_t8 + 256) 0 init) :
    Row T (1024 * k0_t8 + 256) (1024 * k0_t8) (st_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v65 v73_1 v109 v141 v155 X_arg4 X_arg5 X_arg11 X_arg12 X_arg13 X_arg14 init (k0_t11_loop k0_t8).trips) := by
  have e : ∀ g : Fin k0_t8_loop.trips, (k0_t11_loop g).trips = g.val := by decide +kernel
  refine (Row.trips (N := (k0_t11_loop k0_t8).trips) _ (hi.cast rfl) fun k hr => ?_).cast (congrArg _ (e k0_t8))
  have hk := lt_of_lt_of_eq k.isLt (e k0_t8)
  rw [st_k0_t11_succ]
  unfold tripR_k0_t11 trip_k0_t11
  refine hr.step (by omega) (fun x => ?_) (fun x => ?_)
  · unfold trip_k0_t11.sl.r
    unfold_payloads
    pointwise [ex, dp]
    simp only [h.ldK, h.ldV, h.ldQ, h.ldD, h.ldC, h.ldL, k0_off33_eq, k0_off34_eq, k0_off35_eq, k0_off36_eq, k0_off37_eq, k0_off38_eq, k0_off39_eq, Matrix.cons_val, Nat.zero_add]
  · unfold trip_k0_t11.sl.r_1 trip_k0_t11.sl.r_2
    unfold_payloads
    pointwise [ex, dp]
    simp only [h.ldK, h.ldV, h.ldQ, h.ldD, h.ldC, h.ldL, k0_off33_eq, k0_off34_eq, k0_off35_eq, k0_off36_eq, k0_off37_eq, k0_off38_eq, k0_off39_eq, Matrix.cons_val, Nat.zero_add]

/-- The trips over whole key groups, for the third block of a group's query rows. -/
theorem row13 (T : Tabs) (k0_t8 : Fin k0_t8_loop.trips) (arg16 : BitVec 32) (v155 : BitVec 32) (v163_1 : FVec Ideal S256x1 .f32) (v165 : BitVec 32) (v199 : FVec Ideal S256x1 .f32) (v216 : FVec Ideal S256x512 .f32) (v221 : IVec S256x512 1) (cst_122 : Ideal .f32) (v245 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32)
    (h : Reads T arg4.view arg5.view arg11.view arg12.view arg13.view arg14.view X_arg4 X_arg5 X_arg11 X_arg12 X_arg13 X_arg14)
    (hi : Row T (1024 * k0_t8 + 512) 0 init) :
    Row T (1024 * k0_t8 + 512) (1024 * k0_t8) (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v155 v163_1 v165 v199 v216 v221 cst_122 v245 X_arg4 X_arg5 X_arg11 X_arg12 X_arg13 X_arg14 init (k0_t13_loop k0_t8).trips) := by
  have e : ∀ g : Fin k0_t8_loop.trips, (k0_t13_loop g).trips = g.val := by decide +kernel
  refine (Row.trips (N := (k0_t13_loop k0_t8).trips) _ (hi.cast rfl) fun k hr => ?_).cast (congrArg _ (e k0_t8))
  have hk := lt_of_lt_of_eq k.isLt (e k0_t8)
  rw [st_k0_t13_succ]
  unfold tripR_k0_t13 trip_k0_t13
  refine hr.step (by omega) (fun x => ?_) (fun x => ?_)
  · unfold trip_k0_t13.sl.r
    unfold_payloads
    pointwise [ex, dp]
    simp only [h.ldK, h.ldV, h.ldQ, h.ldD, h.ldC, h.ldL, k0_off50_eq, k0_off51_eq, k0_off52_eq, k0_off53_eq, k0_off54_eq, k0_off55_eq, k0_off56_eq, Matrix.cons_val, Nat.zero_add]
  · unfold trip_k0_t13.sl.r_1 trip_k0_t13.sl.r_2
    unfold_payloads
    pointwise [ex, dp]
    simp only [h.ldK, h.ldV, h.ldQ, h.ldD, h.ldC, h.ldL, k0_off50_eq, k0_off51_eq, k0_off52_eq, k0_off53_eq, k0_off54_eq, k0_off55_eq, k0_off56_eq, Matrix.cons_val, Nat.zero_add]

/-- The trips over whole key groups, for the fourth block of a group's query rows. -/
theorem row15 (T : Tabs) (k0_t8 : Fin k0_t8_loop.trips) (arg16 : BitVec 32) (v335 : BitVec 32) (v336 : FVec Ideal S256x1 .f32) (c0_i32_176 : BitVec 32) (c1_i32_177 : BitVec 32) (v339 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32)
    (h : Reads T arg4.view arg5.view arg11.view arg12.view arg13.view arg14.view X_arg4 X_arg5 X_arg11 X_arg12 X_arg13 X_arg14)
    (hi : Row T (1024 * k0_t8 + 768) 0 init) :
    Row T (1024 * k0_t8 + 768) (1024 * k0_t8) (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v335 v336 c0_i32_176 c1_i32_177 v339 X_arg4 X_arg5 X_arg11 X_arg12 X_arg13 X_arg14 init (k0_t15_loop k0_t8).trips) := by
  have e : ∀ g : Fin k0_t8_loop.trips, (k0_t15_loop g).trips = g.val := by decide +kernel
  refine (Row.trips (N := (k0_t15_loop k0_t8).trips) _ (hi.cast rfl) fun k hr => ?_).cast (congrArg _ (e k0_t8))
  have hk := lt_of_lt_of_eq k.isLt (e k0_t8)
  rw [st_k0_t15_succ]
  unfold tripR_k0_t15 trip_k0_t15
  refine hr.step (by omega) (fun x => ?_) (fun x => ?_)
  · unfold trip_k0_t15.sl.r
    unfold_payloads
    pointwise [ex, dp]
    simp only [h.ldK, h.ldV, h.ldQ, h.ldD, h.ldC, h.ldL, k0_off67_eq, k0_off68_eq, k0_off69_eq, k0_off70_eq, k0_off71_eq, k0_off72_eq, k0_off73_eq, Matrix.cons_val, Nat.zero_add]
  · unfold trip_k0_t15.sl.r_1 trip_k0_t15.sl.r_2
    unfold_payloads
    pointwise [ex, dp]
    simp only [h.ldK, h.ldV, h.ldQ, h.ldD, h.ldC, h.ldL, k0_off67_eq, k0_off68_eq, k0_off69_eq, k0_off70_eq, k0_off71_eq, k0_off72_eq, k0_off73_eq, Matrix.cons_val, Nat.zero_add]

/-- The carried sums of the first block of query rows before its diagonal tile: the loop over what is left of whole
    key groups makes no trip. -/
theorem acc9 (T : Tabs) (c0_i32_44 : BitVec 32) (c1_i32_45 : BitVec 32) (k0_t8 : Fin k0_t8_loop.trips) (v65 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32) (c0_i32_44' : BitVec 32) (c1_i32_45' : BitVec 32) (v65' : BitVec 32) (v71' : BitVec 32)
    (h : Reads T arg4.view arg5.view arg11.view arg12.view arg13.view arg14.view X_arg4 X_arg5 X_arg11 X_arg12 X_arg13 X_arg14)
    (hi : Row T (1024 * k0_t8) 0 init) :
    Row T (1024 * k0_t8) (1024 * k0_t8) (st_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44' c1_i32_45' k0_t8 v65' v71' X_arg4 X_arg5 X_arg11 X_arg12 X_arg13 X_arg14
      ((st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44 c1_i32_45 k0_t8 v65 X_arg4 X_arg5 X_arg11 X_arg12 X_arg13 X_arg14 init (k0_t9_loop k0_t8).trips).1, (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44 c1_i32_45 k0_t8 v65 X_arg4 X_arg5 X_arg11 X_arg12 X_arg13 X_arg14 init (k0_t9_loop k0_t8).trips).2)
      (k0_t10_loop k0_t8).trips) := by
  rw [Nat.le_zero.mp (k0_t10_abs k0_t8).2.1]
  exact row9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 T c0_i32_44 c1_i32_45 k0_t8 v65 X_arg4 X_arg5 X_arg11 X_arg12 X_arg13 X_arg14 init h hi

/-- The carried sums of the second block of query rows before its diagonal tile: the loop over what is left of whole
    key groups makes no trip. -/
theorem acc11 (T : Tabs) (k0_t8 : Fin k0_t8_loop.trips) (arg16 : BitVec 32) (v65 : BitVec 32) (v73_1 : FVec Ideal S256x1 .f32) (v109 : FVec Ideal S256x1 .f32) (v141 : FVec Ideal S256 .f32) (v155 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32) (arg16' : BitVec 32) (v65' : BitVec 32) (v73_1' : FVec Ideal S256x1 .f32) (v109' : FVec Ideal S256x1 .f32) (v141' : FVec Ideal S256 .f32) (v155' : BitVec 32) (v161' : BitVec 32)
    (h : Reads T arg4.view arg5.view arg11.view arg12.view arg13.view arg14.view X_arg4 X_arg5 X_arg11 X_arg12 X_arg13 X_arg14)
    (hi : Row T (1024 * k0_t8 + 256) 0 init) :
    Row T (1024 * k0_t8 + 256) (1024 * k0_t8) (st_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16' v65' v73_1' v109' v141' v155' v161' X_arg4 X_arg5 X_arg11 X_arg12 X_arg13 X_arg14
      ((st_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v65 v73_1 v109 v141 v155 X_arg4 X_arg5 X_arg11 X_arg12 X_arg13 X_arg14 init (k0_t11_loop k0_t8).trips).1, (st_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v65 v73_1 v109 v141 v155 X_arg4 X_arg5 X_arg11 X_arg12 X_arg13 X_arg14 init (k0_t11_loop k0_t8).trips).2)
      (k0_t12_loop k0_t8).trips) := by
  rw [Nat.le_zero.mp (k0_t12_abs k0_t8).2.1]
  exact row11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 T k0_t8 arg16 v65 v73_1 v109 v141 v155 X_arg4 X_arg5 X_arg11 X_arg12 X_arg13 X_arg14 init h hi

/-- The carried sums of the third block of query rows before its diagonal tile: the loop over what is left of whole
    key groups makes no trip. -/
theorem acc13 (T : Tabs) (k0_t8 : Fin k0_t8_loop.trips) (arg16 : BitVec 32) (v155 : BitVec 32) (v163_1 : FVec Ideal S256x1 .f32) (v165 : BitVec 32) (v199 : FVec Ideal S256x1 .f32) (v216 : FVec Ideal S256x512 .f32) (v221 : IVec S256x512 1) (cst_122 : Ideal .f32) (v245 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32) (arg16' : BitVec 32) (v155' : BitVec 32) (v163_1' : FVec Ideal S256x1 .f32) (v165' : BitVec 32) (v199' : FVec Ideal S256x1 .f32) (v216' : FVec Ideal S256x512 .f32) (v221' : IVec S256x512 1) (cst_122' : Ideal .f32) (v245' : BitVec 32) (v251' : BitVec 32)
    (h : Reads T arg4.view arg5.view arg11.view arg12.view arg13.view arg14.view X_arg4 X_arg5 X_arg11 X_arg12 X_arg13 X_arg14)
    (hi : Row T (1024 * k0_t8 + 512) 0 init) :
    Row T (1024 * k0_t8 + 512) (1024 * k0_t8) (st_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16' v155' v163_1' v165' v199' v216' v221' cst_122' v245' v251' X_arg4 X_arg5 X_arg11 X_arg12 X_arg13 X_arg14
      ((st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v155 v163_1 v165 v199 v216 v221 cst_122 v245 X_arg4 X_arg5 X_arg11 X_arg12 X_arg13 X_arg14 init (k0_t13_loop k0_t8).trips).1, (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v155 v163_1 v165 v199 v216 v221 cst_122 v245 X_arg4 X_arg5 X_arg11 X_arg12 X_arg13 X_arg14 init (k0_t13_loop k0_t8).trips).2)
      (k0_t14_loop k0_t8).trips) := by
  rw [Nat.le_zero.mp (k0_t14_abs k0_t8).2.1]
  exact row13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 T k0_t8 arg16 v155 v163_1 v165 v199 v216 v221 cst_122 v245 X_arg4 X_arg5 X_arg11 X_arg12 X_arg13 X_arg14 init h hi

/-- The carried sums of the fourth block of query rows before its diagonal tile: the loop over what is left of whole
    key groups makes no trip. -/
theorem acc15 (T : Tabs) (k0_t8 : Fin k0_t8_loop.trips) (arg16 : BitVec 32) (v335 : BitVec 32) (v336 : FVec Ideal S256x1 .f32) (c0_i32_176 : BitVec 32) (c1_i32_177 : BitVec 32) (v339 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (init : FVec Ideal S256x1 .f32 × FVec Ideal S256x1 .f32) (arg16' : BitVec 32) (v335' : BitVec 32) (v336' : FVec Ideal S256x1 .f32) (c0_i32_176' : BitVec 32) (c1_i32_177' : BitVec 32) (v339' : BitVec 32) (v341' : BitVec 32)
    (h : Reads T arg4.view arg5.view arg11.view arg12.view arg13.view arg14.view X_arg4 X_arg5 X_arg11 X_arg12 X_arg13 X_arg14)
    (hi : Row T (1024 * k0_t8 + 768) 0 init) :
    Row T (1024 * k0_t8 + 768) (1024 * k0_t8) (st_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16' v335' v336' c0_i32_176' c1_i32_177' v339' v341' X_arg4 X_arg5 X_arg11 X_arg12 X_arg13 X_arg14
      ((st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v335 v336 c0_i32_176 c1_i32_177 v339 X_arg4 X_arg5 X_arg11 X_arg12 X_arg13 X_arg14 init (k0_t15_loop k0_t8).trips).1, (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t8 arg16 v335 v336 c0_i32_176 c1_i32_177 v339 X_arg4 X_arg5 X_arg11 X_arg12 X_arg13 X_arg14 init (k0_t15_loop k0_t8).trips).2)
      (k0_t16_loop k0_t8).trips) := by
  rw [Nat.le_zero.mp (k0_t16_abs k0_t8).2.1]
  exact row15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 T k0_t8 arg16 v335 v336 c0_i32_176 c1_i32_177 v339 X_arg4 X_arg5 X_arg11 X_arg12 X_arg13 X_arg14 init h hi

end Rows

/-- Where the first head's query rows are read. -/
theorem off26 (k : Fin k0_t8_loop.trips) : k0_off26 k 0#32 = ![0, 1024 * k.val, 0] ∧ k0_off26 k 1#32 = ![0, 1024 * k.val + 256, 0]
    ∧ k0_off26 k 2#32 = ![0, 1024 * k.val + 512, 0] ∧ k0_off26 k 3#32 = ![0, 1024 * k.val + 768, 0] :=
  ⟨k0_off26_eq k 0, k0_off26_eq k 1, k0_off26_eq k 2, k0_off26_eq k 3⟩

/-- Where the second head's query rows are read. -/
theorem off30 (k : Fin k0_t8_loop.trips) : k0_off30 k 0#32 = ![1, 1024 * k.val, 0] ∧ k0_off30 k 1#32 = ![1, 1024 * k.val + 256, 0]
    ∧ k0_off30 k 2#32 = ![1, 1024 * k.val + 512, 0] ∧ k0_off30 k 3#32 = ![1, 1024 * k.val + 768, 0] :=
  ⟨k0_off30_eq k 0, k0_off30_eq k 1, k0_off30_eq k 2, k0_off30_eq k 3⟩

/-- Where the first head's row sums are stored. -/
theorem off29 (k : Fin k0_t8_loop.trips) : k0_off29 k 0#32 = ![0, 1024 * k.val, 0] ∧ k0_off29 k 1#32 = ![0, 1024 * k.val + 256, 0]
    ∧ k0_off29 k 2#32 = ![0, 1024 * k.val + 512, 0] ∧ k0_off29 k 3#32 = ![0, 1024 * k.val + 768, 0] :=
  ⟨k0_off29_eq k 0, k0_off29_eq k 1, k0_off29_eq k 2, k0_off29_eq k 3⟩

/-- Where the second head's row sums are stored. -/
theorem off32 (k : Fin k0_t8_loop.trips) : k0_off32 k 0#32 = ![1, 1024 * k.val, 0] ∧ k0_off32 k 1#32 = ![1, 1024 * k.val + 256, 0]
    ∧ k0_off32 k 2#32 = ![1, 1024 * k.val + 512, 0] ∧ k0_off32 k 3#32 = ![1, 1024 * k.val + 768, 0] :=
  ⟨k0_off32_eq k 0, k0_off32_eq k 1, k0_off32_eq k 2, k0_off32_eq k 3⟩

/-- The elements of a block of a pair of matrices. -/
theorem mem_set3 {a b d p q r : ℕ} (off : Fin 3 → ℕ) (inb : ∀ x, off x + (![p, q, r] : Fin 3 → ℕ) x ≤ (⟨3, ![a, b, d]⟩ : Shape).size x)
    (y : (⟨3, ![a, b, d]⟩ : Shape).Idx) :
    y ∈ (Rect.unit (s := ⟨3, ![a, b, d]⟩) off ![p, q, r] inb).set ↔ (off 0 ≤ (y 0).val ∧ (y 0).val < off 0 + p)
      ∧ (off 1 ≤ (y 1).val ∧ (y 1).val < off 1 + q) ∧ (off 2 ≤ (y 2).val ∧ (y 2).val < off 2 + r) := by
  rw [Rect.mem_set_unit]
  refine ⟨fun h => ⟨h 0, h 1, h 2⟩, fun h x => ?_⟩
  obtain ⟨h0, h1, h2⟩ := h
  fin_cases x
  exacts [h0, h1, h2]

/-- A block of a pair of matrices whose entries are those of a table at its place. -/
theorem piece3 {a b d p q r : ℕ} {α : Type} {off : Fin 3 → ℕ} {inb : ∀ x, off x + (![p, q, r] : Fin 3 → ℕ) x ≤ (⟨3, ![a, b, d]⟩ : Shape).size x}
    {w : (⟨3, ![p, q, r]⟩ : Shape).Idx → α} (G : ℕ → ℕ → ℕ → α)
    (h : ∀ (i : Fin p) (j : Fin q) (k : Fin r), w (ix3 i j k) = G (off 0 + i) (off 1 + j) (off 2 + k)) (x : (⟨3, ![p, q, r]⟩ : Shape).Idx) :
    w x = G ((Rect.unit (s := ⟨3, ![a, b, d]⟩) off ![p, q, r] inb).emb x 0).val ((Rect.unit (s := ⟨3, ![a, b, d]⟩) off ![p, q, r] inb).emb x 1).val
      ((Rect.unit (s := ⟨3, ![a, b, d]⟩) off ![p, q, r] inb).emb x 2).val := by
  obtain ⟨i, j, k, rfl⟩ : ∃ i j k, x = ix3 i j k := ⟨x 0, x 1, x 2, by funext a; fin_cases a <;> rfl⟩
  refine (h _ _ _).trans ?_
  show _ = G (off 0 + 1 * _) (off 1 + 1 * _) (off 2 + 1 * _)
  rw [Nat.one_mul, Nat.one_mul, Nat.one_mul]
  rfl

/-- The tables that six contents hold. -/
def tabs (v4 : View sig .tc .vmem S2x1x4096 .f32) (v5 : View sig .tc .vmem S2x4096x1 .f32)
    (v11 v12 : View sig .tc .vmem S2x4096x128 .bf16) (v13 v14 : View sig .tc .vmem S4096x128 .bf16)
    (X4 : v4.ty.Contents (Elt Ideal)) (X5 : v5.ty.Contents (Elt Ideal)) (X11 : v11.ty.Contents (Elt Ideal)) (X12 : v12.ty.Contents (Elt Ideal))
    (X13 : v13.ty.Contents (Elt Ideal)) (X14 : v14.ty.Contents (Elt Ideal)) : Tabs where
  Q h i x := v11.read (Elt Ideal) X11 (ix3 (Fin.ofNat 2 h) (Fin.ofNat 4096 i) (Fin.ofNat 128 x))
  D h i x := v12.read (Elt Ideal) X12 (ix3 (Fin.ofNat 2 h) (Fin.ofNat 4096 i) (Fin.ofNat 128 x))
  K j x := v13.read (Elt Ideal) X13 (ix2 (Fin.ofNat 4096 j) (Fin.ofNat 128 x))
  V j x := v14.read (Elt Ideal) X14 (ix2 (Fin.ofNat 4096 j) (Fin.ofNat 128 x))
  C h j := v4.read (Elt Ideal) X4 (ix3 (Fin.ofNat 2 h) 0 (Fin.ofNat 4096 j))
  L h i := v5.read (Elt Ideal) X5 (ix3 (Fin.ofNat 2 h) (Fin.ofNat 4096 i) 0)

/-- Those contents are read by those tables. -/
theorem reads_tabs {v4 : View sig .tc .vmem S2x1x4096 .f32} {v5 : View sig .tc .vmem S2x4096x1 .f32}
    {v11 v12 : View sig .tc .vmem S2x4096x128 .bf16} {v13 v14 : View sig .tc .vmem S4096x128 .bf16}
    {X4 : v4.ty.Contents (Elt Ideal)} {X5 : v5.ty.Contents (Elt Ideal)} {X11 : v11.ty.Contents (Elt Ideal)} {X12 : v12.ty.Contents (Elt Ideal)}
    {X13 : v13.ty.Contents (Elt Ideal)} {X14 : v14.ty.Contents (Elt Ideal)} :
    Reads (tabs v4 v5 v11 v12 v13 v14 X4 X5 X11 X12 X13 X14) v4 v5 v11 v12 v13 v14 X4 X5 X11 X12 X13 X14 := by
  constructor <;> intro y <;> idx_vars y <;> simp [tabs, Subsingleton.elim _ (0 : Fin 1)]

/-- One group's eight stores: the row sums of both heads, block by block. -/
theorem delta_pieces {T : Tabs} {M : Memref sig .tc .vmem S2x4096x1 .f32} {f : BufTy.Contents (Elt Ideal) M.view.ty} (k : Fin k0_t8_loop.trips)
    (hf : ∀ y : S2x4096x1.Idx, (y 1).val < 1024 * k.val → M.view.read (Elt Ideal) f y = delta T (y 0).val (y 1).val)
    {w13 w03 w12 w02 w11 w01 w10 w00 : Vec Ideal S1x256x1 .f32}
    {i13 : ∀ a, k0_off32 k 3#32 a + (![1, 256, 1] : Fin 3 → ℕ) a ≤ S2x4096x1.size a} {i03 : ∀ a, k0_off29 k 3#32 a + (![1, 256, 1] : Fin 3 → ℕ) a ≤ S2x4096x1.size a} {i12 : ∀ a, k0_off32 k 2#32 a + (![1, 256, 1] : Fin 3 → ℕ) a ≤ S2x4096x1.size a} {i02 : ∀ a, k0_off29 k 2#32 a + (![1, 256, 1] : Fin 3 → ℕ) a ≤ S2x4096x1.size a} {i11 : ∀ a, k0_off32 k 1#32 a + (![1, 256, 1] : Fin 3 → ℕ) a ≤ S2x4096x1.size a} {i01 : ∀ a, k0_off29 k 1#32 a + (![1, 256, 1] : Fin 3 → ℕ) a ≤ S2x4096x1.size a} {i10 : ∀ a, k0_off32 k 0#32 a + (![1, 256, 1] : Fin 3 → ℕ) a ≤ S2x4096x1.size a} {i00 : ∀ a, k0_off29 k 0#32 a + (![1, 256, 1] : Fin 3 → ℕ) a ≤ S2x4096x1.size a}
    (h13 : ∀ x : Fin 256, w13 (ix3 0 x 0) = delta T 1 (1024 * k.val + 768 + x.val))
    (h03 : ∀ x : Fin 256, w03 (ix3 0 x 0) = delta T 0 (1024 * k.val + 768 + x.val))
    (h12 : ∀ x : Fin 256, w12 (ix3 0 x 0) = delta T 1 (1024 * k.val + 512 + x.val))
    (h02 : ∀ x : Fin 256, w02 (ix3 0 x 0) = delta T 0 (1024 * k.val + 512 + x.val))
    (h11 : ∀ x : Fin 256, w11 (ix3 0 x 0) = delta T 1 (1024 * k.val + 256 + x.val))
    (h01 : ∀ x : Fin 256, w01 (ix3 0 x 0) = delta T 0 (1024 * k.val + 256 + x.val))
    (h10 : ∀ x : Fin 256, w10 (ix3 0 x 0) = delta T 1 (1024 * k.val + x.val))
    (h00 : ∀ x : Fin 256, w00 (ix3 0 x 0) = delta T 0 (1024 * k.val + x.val)) (y : S2x4096x1.Idx) (hy : (y 1).val < 1024 * (k.val + 1)) :
    M.view.read (Elt Ideal) (M.view.writes (Elt Ideal) f [
      ⟨Rect.unit (s := S2x4096x1) (k0_off32 k 3#32) ![1, 256, 1] i13, w13⟩,
      ⟨Rect.unit (s := S2x4096x1) (k0_off29 k 3#32) ![1, 256, 1] i03, w03⟩,
      ⟨Rect.unit (s := S2x4096x1) (k0_off32 k 2#32) ![1, 256, 1] i12, w12⟩,
      ⟨Rect.unit (s := S2x4096x1) (k0_off29 k 2#32) ![1, 256, 1] i02, w02⟩,
      ⟨Rect.unit (s := S2x4096x1) (k0_off32 k 1#32) ![1, 256, 1] i11, w11⟩,
      ⟨Rect.unit (s := S2x4096x1) (k0_off29 k 1#32) ![1, 256, 1] i01, w01⟩,
      ⟨Rect.unit (s := S2x4096x1) (k0_off32 k 0#32) ![1, 256, 1] i10, w10⟩,
      ⟨Rect.unit (s := S2x4096x1) (k0_off29 k 0#32) ![1, 256, 1] i00, w00⟩]) y = delta T (y 0).val (y 1).val := by
  by_cases hlt : (y 1).val < 1024 * k.val
  · rw [View.read_writes_apply_of_forall_not_mem]
    · exact hf y hlt
    · simp only [List.forall_mem_cons, mem_set3]
      simp only [off29 k, off32 k, Matrix.cons_val]
      refine ⟨by omega, by omega, by omega, by omega, by omega, by omega, by omega, by omega, fun _ h => absurd h List.not_mem_nil⟩
  · have hk : k.val < 4 := lt_of_lt_of_eq k.isLt (by decide +kernel)
    refine View.read_writes_apply_of_pieces (s := S2x4096x1) (e := .f32) M.view f (fun y => delta T (y 0).val (y 1).val) _ ?_ y ?_
    · simp only [List.forall_mem_cons]
      refine ⟨piece3 (fun a b _ => delta T a b) fun i j x => ?_, piece3 (fun a b _ => delta T a b) fun i j x => ?_, piece3 (fun a b _ => delta T a b) fun i j x => ?_, piece3 (fun a b _ => delta T a b) fun i j x => ?_, piece3 (fun a b _ => delta T a b) fun i j x => ?_, piece3 (fun a b _ => delta T a b) fun i j x => ?_, piece3 (fun a b _ => delta T a b) fun i j x => ?_, piece3 (fun a b _ => delta T a b) fun i j x => ?_,
          fun _ h => absurd h List.not_mem_nil⟩
      · obtain ⟨rfl, rfl⟩ : i = 0 ∧ x = 0 := ⟨Subsingleton.elim _ _, Subsingleton.elim _ _⟩
        simp only [off29 k, off32 k, Matrix.cons_val, Fin.val_zero, Nat.add_zero]
        exact h13 j
      · obtain ⟨rfl, rfl⟩ : i = 0 ∧ x = 0 := ⟨Subsingleton.elim _ _, Subsingleton.elim _ _⟩
        simp only [off29 k, off32 k, Matrix.cons_val, Fin.val_zero, Nat.add_zero]
        exact h03 j
      · obtain ⟨rfl, rfl⟩ : i = 0 ∧ x = 0 := ⟨Subsingleton.elim _ _, Subsingleton.elim _ _⟩
        simp only [off29 k, off32 k, Matrix.cons_val, Fin.val_zero, Nat.add_zero]
        exact h12 j
      · obtain ⟨rfl, rfl⟩ : i = 0 ∧ x = 0 := ⟨Subsingleton.elim _ _, Subsingleton.elim _ _⟩
        simp only [off29 k, off32 k, Matrix.cons_val, Fin.val_zero, Nat.add_zero]
        exact h02 j
      · obtain ⟨rfl, rfl⟩ : i = 0 ∧ x = 0 := ⟨Subsingleton.elim _ _, Subsingleton.elim _ _⟩
        simp only [off29 k, off32 k, Matrix.cons_val, Fin.val_zero, Nat.add_zero]
        exact h11 j
      · obtain ⟨rfl, rfl⟩ : i = 0 ∧ x = 0 := ⟨Subsingleton.elim _ _, Subsingleton.elim _ _⟩
        simp only [off29 k, off32 k, Matrix.cons_val, Fin.val_zero, Nat.add_zero]
        exact h01 j
      · obtain ⟨rfl, rfl⟩ : i = 0 ∧ x = 0 := ⟨Subsingleton.elim _ _, Subsingleton.elim _ _⟩
        simp only [off29 k, off32 k, Matrix.cons_val, Fin.val_zero, Nat.add_zero]
        exact h10 j
      · obtain ⟨rfl, rfl⟩ : i = 0 ∧ x = 0 := ⟨Subsingleton.elim _ _, Subsingleton.elim _ _⟩
        simp only [off29 k, off32 k, Matrix.cons_val, Fin.val_zero, Nat.add_zero]
        exact h00 j
    · have h0 : (y 0).val < 2 := (y 0).isLt
      have h2 : (y 2).val < 1 := (y 2).isLt
      simp only [List.exists_mem_cons_iff, mem_set3, off29 k, off32 k, Matrix.cons_val]
      omega

/-- The mask of a tile's diagonal, as a comparison of numbers. -/
theorem keep {α : Type} {a b c : ℕ} (ha : a < 1024) (hb : b < 1024) (hc : c < 2048) (p q : α) :
    Scalar.select (IntOp.cmpi .sge (IntOp.addi (BitVec.ofNat 32 a) (BitVec.ofNat 32 b)) (BitVec.ofNat 32 c)) p q = if c ≤ a + b then p else q := by
  have e : IntOp.addi (BitVec.ofNat 32 a) (BitVec.ofNat 32 b) = BitVec.ofNat 32 (a + b) := (BitVec.ofNat_add _ _).symm
  rw [e, WordCmp.cmpi_sge_ofNat (by omega) (by omega)]
  by_cases h : c ≤ a + b <;> simp [h, Scalar.select]

/-- The carried sum and the diagonal tile's: a row sum of the weighted weight gradients. -/
theorem tile_sum (T : Tabs) (h n R : ℕ) (x : Fin 256) {i w : ℕ} {A : EReal} (hi : i = n + R + x.val) (hw : R + 256 = w) (hn : 256 ∣ n)
    (hR : 256 ∣ R) (hR' : R < 1024) (hA : A = del T h i n) :
    A + ∑ y : Fin w, Scalar.select (IntOp.cmpi .sge (IntOp.addi (BitVec.ofNat 32 x.val) (BitVec.ofNat 32 R)) (BitVec.ofNat 32 y.val))
      (ex T h i (n + y.val) * dp T h i (n + y.val)) 0 = delta T h i := by
  have hx := x.isLt
  have e : ∑ y : Fin w, Scalar.select (IntOp.cmpi .sge (IntOp.addi (BitVec.ofNat 32 x.val) (BitVec.ofNat 32 R)) (BitVec.ofNat 32 y.val))
      (ex T h i (n + y.val) * dp T h i (n + y.val)) 0 = ∑ y : Fin w, pr T h i (n + y.val) * dp T h i (n + y.val) := by
    refine Finset.sum_congr rfl fun y _ => ?_
    have hy := y.isLt
    rw [keep (by omega) hR' (by omega)]
    by_cases hk : y.val ≤ x.val + R
    · rw [if_pos hk, pr_of_le T (by omega)]
    · rw [if_neg hk, pr, if_neg (by omega), zero_mul]
  rw [e, hA, del_add, delta]
  congr 1
  obtain ⟨a, rfl⟩ := hn
  obtain ⟨b, rfl⟩ := hR
  omega

/-- Before the first key group nothing is summed. -/
theorem Row.init (T : Tabs) (q0 : ℕ) (z z' : EReal) (hz : z = 0) (hz' : z' = 0) : Row T q0 0 (broadcast S256x1 z, broadcast S256x1 z') := by
  subst hz hz'
  exact ⟨fun x => Finset.sum_range_zero _ |>.symm, fun x => Finset.sum_range_zero _ |>.symm⟩

/-- The loop over the groups of delta rows: it reads what the operands and their casts hold and writes the rows of delta. -/
abbrev inv8 (c : Dev nD) (arg4 : Memref sig .tc .vmem S2x1x4096 .f32) (arg5 : Memref sig .tc .vmem S2x4096x1 .f32) (arg11 : Memref sig .tc .vmem S2x4096x128 .bf16) (arg12 : Memref sig .tc .vmem S2x4096x128 .bf16) (arg13 : Memref sig .tc .vmem S4096x128 .bf16) (arg14 : Memref sig .tc .vmem S4096x128 .bf16) (arg15 : Memref sig .tc .vmem S2x4096x1 .f32) (X4 : BufTy.Contents (Elt Ideal) arg4.view.ty) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (k : ℕ) (acc : Unit) : sProp 𝕄 :=
  iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, ⌜∀ y : S2x4096x1.Idx, (y 1).val < 1024 * k → arg15.view.read (Elt Ideal) f y = delta (tabs arg4.view arg5.view arg11.view arg12.view arg13.view arg14.view X4 X5 X11 X12 X13 X14) (y 0).val (y 1).val⌝ ∗ (arg15.view.loc (c : Thread nD τ) ↦[arg15.view.set]{fullShare} f)))

set_option maxHeartbeats 2000000 in
set_option warn.classDefReducibility false in
/-- That loop by its invariant. -/
@[sl_loop] def loopInv8 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (c0_i32_44 : BitVec 32) (c1_i32_45 : BitVec 32) (X4 : BufTy.Contents (Elt Ideal) arg4.view.ty) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) :
    LoopInvTy_k0_t8 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_44 c1_i32_45 where
  inv := inv8 c arg4 arg5 arg11 arg12 arg13 arg14 arg15 X4 X5 X11 X12 X13 X14
  step k acc := by
    unfold k0_t8_body
    iintro ⟨H4, H5, H11, H12, H13, H14, ⟨%f15, %hf, H15⟩⟩
    sl_exec
    sl_step
    isplitl [H4]; · iexact H4
    isplitl [H5]; · iexact H5
    isplitl [H11]; · iexact H11
    isplitl [H12]; · iexact H12
    isplitl [H13]; · iexact H13
    isplitl [H14]; · iexact H14
    iexists _; isplitr
    rotate_left
    · iexact H15
    ipureintro
    have hr := @reads_tabs arg4.view arg5.view arg11.view arg12.view arg13.view arg14.view X4 X5 X11 X12 X13 X14
    generalize tabs arg4.view arg5.view arg11.view arg12.view arg13.view arg14.view X4 X5 X11 X12 X13 X14 = T at *
    have hk : k.val < 4 := lt_of_lt_of_eq k.isLt (by decide +kernel)
    refine delta_pieces k hf (fun x => ?_) (fun x => ?_) (fun x => ?_) (fun x => ?_) (fun x => ?_) (fun x => ?_) (fun x => ?_) (fun x => ?_)
    all_goals
      try unfold loopInv8.sl.r_18
      try unfold loopInv8.sl.r_17
      try unfold loopInv8.sl.r_15
      try unfold loopInv8.sl.r_14
      try unfold loopInv8.sl.r_13
      try unfold loopInv8.sl.r_10
      try unfold loopInv8.sl.r_9
      try unfold loopInv8.sl.r_8
      try unfold loopInv8.sl.r_7
      try unfold loopInv8.sl.r_4
      try unfold loopInv8.sl.r_3
      try unfold loopInv8.sl.r_2
      try unfold loopInv8.sl.cst_122
      unfold_payloads
      pointwise []
      simp only [hr.ldK, hr.ldV, hr.ldQ, hr.ldD, hr.ldC, hr.ldL, off26 k, off29 k, off30 k, off32 k, k0_off27_eq, k0_off28_eq, k0_off31_eq, k0_off47_eq, k0_off48_eq, k0_off49_eq, k0_off64_eq, k0_off65_eq, k0_off66_eq, k0_off81_eq, k0_off82_eq, k0_off83_eq, Matrix.cons_val, Nat.zero_add]
    · refine tile_sum T 1 (1024 * k.val) 768 x (by omega) rfl ⟨4 * k.val, by omega⟩ ⟨3, rfl⟩ (by omega) ?_
      unfold loopInv8.sl.r_16
      exact (acc15 (h := hr) (hi := Row.init T _ _ _ Ideal.ofBits_zero_f32 Ideal.ofBits_zero_f32) ..).b x
    · refine tile_sum T 0 (1024 * k.val) 768 x (by omega) rfl ⟨4 * k.val, by omega⟩ ⟨3, rfl⟩ (by omega) ?_
      exact (acc15 (h := hr) (hi := Row.init T _ _ _ rfl rfl) ..).a x
    · refine tile_sum T 1 (1024 * k.val) 512 x (by omega) rfl ⟨4 * k.val, by omega⟩ ⟨2, rfl⟩ (by omega) ?_
      unfold loopInv8.sl.r_12
      exact (acc13 (h := hr) (hi := Row.init T _ _ _ Ideal.ofBits_zero_f32 Ideal.ofBits_zero_f32) ..).b x
    · refine tile_sum T 0 (1024 * k.val) 512 x (by omega) rfl ⟨4 * k.val, by omega⟩ ⟨2, rfl⟩ (by omega) ?_
      unfold loopInv8.sl.r_11
      exact (acc13 (h := hr) (hi := Row.init T _ _ _ Ideal.ofBits_zero_f32 Ideal.ofBits_zero_f32) ..).a x
    · refine tile_sum T 1 (1024 * k.val) 256 x (by omega) rfl ⟨4 * k.val, by omega⟩ ⟨1, rfl⟩ (by omega) ?_
      unfold loopInv8.sl.r_6
      exact (acc11 (h := hr) (hi := Row.init T _ _ _ Ideal.ofBits_zero_f32 Ideal.ofBits_zero_f32) ..).b x
    · refine tile_sum T 0 (1024 * k.val) 256 x (by omega) rfl ⟨4 * k.val, by omega⟩ ⟨1, rfl⟩ (by omega) ?_
      unfold loopInv8.sl.r_5
      exact (acc11 (h := hr) (hi := Row.init T _ _ _ Ideal.ofBits_zero_f32 Ideal.ofBits_zero_f32) ..).a x
    · refine tile_sum T 1 (1024 * k.val) 0 x (by omega) rfl ⟨4 * k.val, by omega⟩ ⟨0, rfl⟩ (by omega) ?_
      unfold loopInv8.sl.r_1
      exact (acc9 (h := hr) (hi := Row.init T _ _ _ Ideal.ofBits_zero_f32 Ideal.ofBits_zero_f32) ..).b x
    · refine tile_sum T 0 (1024 * k.val) 0 x (by omega) rfl ⟨4 * k.val, by omega⟩ ⟨0, rfl⟩ (by omega) ?_
      unfold loopInv8.sl.r
      exact (acc9 (h := hr) (hi := Row.init T _ _ _ Ideal.ofBits_zero_f32 Ideal.ofBits_zero_f32) ..).a x

end Cert.AttnKernelIdeal.Math

end
-- ==== Proof.AttnCols.lean ====
/-
  The backward pass over one group of key rows: what the loops over the later query groups carry, and what they add to the
  query's gradient.
-/
module

public import proofs.«01_k».proof.Proof.AttnDelta

@[expose] public section

set_option maxRecDepth 65536

noncomputable section

namespace Cert.AttnKernelIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

/-- The elements of a block of a matrix. -/
theorem mem_set2 {a b p q : ℕ} (off : Fin 2 → ℕ) (inb : ∀ x, off x + (![p, q] : Fin 2 → ℕ) x ≤ (⟨2, ![a, b]⟩ : Shape).size x)
    (y : (⟨2, ![a, b]⟩ : Shape).Idx) :
    y ∈ (Rect.unit (s := ⟨2, ![a, b]⟩) off ![p, q] inb).set ↔ (off 0 ≤ (y 0).val ∧ (y 0).val < off 0 + p)
      ∧ (off 1 ≤ (y 1).val ∧ (y 1).val < off 1 + q) := by
  rw [Rect.mem_set_unit]
  refine ⟨fun h => ⟨h 0, h 1⟩, fun h x => ?_⟩
  obtain ⟨h0, h1⟩ := h
  fin_cases x
  exacts [h0, h1]

/-- A block of a matrix whose entries are those of a table at its place. -/
theorem piece2 {a b p q : ℕ} {α : Type} {off : Fin 2 → ℕ} {inb : ∀ x, off x + (![p, q] : Fin 2 → ℕ) x ≤ (⟨2, ![a, b]⟩ : Shape).size x}
    {w : (⟨2, ![p, q]⟩ : Shape).Idx → α} (G : ℕ → ℕ → α)
    (h : ∀ (i : Fin p) (j : Fin q), w (ix2 i j) = G (off 0 + i) (off 1 + j)) (x : (⟨2, ![p, q]⟩ : Shape).Idx) :
    w x = G ((Rect.unit (s := ⟨2, ![a, b]⟩) off ![p, q] inb).emb x 0).val ((Rect.unit (s := ⟨2, ![a, b]⟩) off ![p, q] inb).emb x 1).val := by
  obtain ⟨i, j, rfl⟩ : ∃ i j, x = ix2 i j := ⟨x 0, x 1, by funext a; fin_cases a <;> rfl⟩
  refine (h _ _).trans ?_
  show _ = G (off 0 + 1 * _) (off 1 + 1 * _)
  rw [Nat.one_mul, Nat.one_mul]
  rfl

/-- A load of the row sums. -/
theorem ldE {E : ℕ → ℕ → EReal} {v15 : View sig .tc .vmem S2x4096x1 .f32} {X15 : v15.ty.Contents (Elt Ideal)}
    (h : ∀ y : (⟨3, ![2, 4096, 1]⟩ : Shape).Idx, v15.read (Elt Ideal) X15 y = E (y 0).val (y 1).val) {w : ℕ} (off : Fin 3 → ℕ) (inb) (x : Fin w) :
    v15.readAt (Elt Ideal) (Rect.unit (s := S2x4096x1) off ![1, w, 1] inb).toLoadRect X15 (ix3 0 x 0) = E (off 0) (off 1 + x.val) :=
  load3 (v := v15) (f := X15) (R := fun a b _ => E a b) h off inb (0 : Fin 1) x (0 : Fin 1)

/-- The carried gradients of 256 keys from `j` on, key group `g`: of the queries of their own group, and of the next `n`. -/
structure Col (T : Tabs) (E : ℕ → ℕ → EReal) (j g n : ℕ)
    (acc : FVec Ideal S256x128 .f32 × FVec Ideal S256x128 .f32 × FVec Ideal S1x256 .f32 × FVec Ideal S1x256 .f32) : Prop where
  k : ∀ (x : Fin 256) (d : Fin 128), acc.1 (ix2 x d) = dkS T E (j + x) d j (1024 * g + 1024 + 1024 * n)
  v : ∀ (x : Fin 256) (d : Fin 128), acc.2.1 (ix2 x d) = dvS T (j + x) d j (1024 * g + 1024 + 1024 * n)
  a : ∀ x : Fin 256, acc.2.2.1 (ix2 0 x) = dcS T E 0 (j + x) j g n
  b : ∀ x : Fin 256, acc.2.2.2 (ix2 0 x) = dcS T E 1 (j + x) j g n

/-- One trip: the next 1024 queries' parts, none of them masked. -/
theorem Col.step {T : Tabs} {E : ℕ → ℕ → EReal} {j g n : ℕ}
    {acc : FVec Ideal S256x128 .f32 × FVec Ideal S256x128 .f32 × FVec Ideal S1x256 .f32 × FVec Ideal S1x256 .f32} (h : Col T E j g n acc)
    (hj : j + 256 ≤ 1024 * g + 1024) {K V : FVec Ideal S256x128 .f32} {A B : FVec Ideal S1x256 .f32}
    (hK : ∀ (x : Fin 256) (d : Fin 128), K (ix2 x d) = acc.1 (ix2 x d)
      + ∑ y : Fin 1024, ex T 0 (1024 * g + 1024 * n + 1024 + y) (j + x) * (dp T 0 (1024 * g + 1024 * n + 1024 + y) (j + x) - E 0 (1024 * g + 1024 * n + 1024 + y)) * T.Q 0 (1024 * g + 1024 * n + 1024 + y) d
      + ∑ y : Fin 1024, ex T 1 (1024 * g + 1024 * n + 1024 + y) (j + x) * (dp T 1 (1024 * g + 1024 * n + 1024 + y) (j + x) - E 1 (1024 * g + 1024 * n + 1024 + y)) * T.Q 1 (1024 * g + 1024 * n + 1024 + y) d)
    (hV : ∀ (x : Fin 256) (d : Fin 128), V (ix2 x d) = acc.2.1 (ix2 x d)
      + ∑ y : Fin 1024, ex T 0 (1024 * g + 1024 * n + 1024 + y) (j + x) * T.D 0 (1024 * g + 1024 * n + 1024 + y) d
      + ∑ y : Fin 1024, ex T 1 (1024 * g + 1024 * n + 1024 + y) (j + x) * T.D 1 (1024 * g + 1024 * n + 1024 + y) d)
    (hA : ∀ x : Fin 256, A (ix2 0 x) = acc.2.2.1 (ix2 0 x)
      - ∑ y : Fin 1024, ex T 0 (1024 * g + 1024 * n + 1024 + y) (j + x) * (dp T 0 (1024 * g + 1024 * n + 1024 + y) (j + x) - E 0 (1024 * g + 1024 * n + 1024 + y)))
    (hB : ∀ x : Fin 256, B (ix2 0 x) = acc.2.2.2 (ix2 0 x)
      - ∑ y : Fin 1024, ex T 1 (1024 * g + 1024 * n + 1024 + y) (j + x) * (dp T 1 (1024 * g + 1024 * n + 1024 + y) (j + x) - E 1 (1024 * g + 1024 * n + 1024 + y))) :
    Col T E j g (n + 1) (K, V, A, B) := by
  have e : 1024 * g + 1024 * n + 1024 = 1024 * g + 1024 + 1024 * n := by omega
  have e' : 1024 * g + 1024 + 1024 * n + 1024 = 1024 * g + 1024 + 1024 * (n + 1) := by omega
  have p (z : ℕ) (x : Fin 256) (y : Fin 1024) : ex T z (1024 * g + 1024 + 1024 * n + y) (j + x) = pr T z (1024 * g + 1024 + 1024 * n + y) (j + x) :=
    (pr_of_le T (by omega)).symm
  simp only [e, p] at hK hV hA hB
  refine ⟨fun x d => (hK x d).trans ?_, fun x d => (hV x d).trans ?_, fun x => (hA x).trans ?_, fun x => (hB x).trans ?_⟩
  · rw [h.k, ← e', ← dkS_add T E (j + x) d j _ 1024 (by omega)]; rfl
  · rw [h.v, ← e', ← dvS_add T (j + x) d j _ 1024 (by omega)]
  · rw [h.a]
    show _ - _ = dcS T E 0 (j + x) j g n - dsS T E 0 (j + x) (1024 * g + 1024 + 1024 * n) (1024 * g + 1024 + 1024 * n + 1024)
    rw [dsS, ← sum_tile]; rfl
  · rw [h.b]
    show _ - _ = dcS T E 1 (j + x) j g n - dsS T E 1 (j + x) (1024 * g + 1024 + 1024 * n) (1024 * g + 1024 + 1024 * n + 1024)
    rw [dsS, ← sum_tile]; rfl

/-- The query's gradients held while the key block `B` is under way: the rows below `b` have its part. -/
def DQ (T : Tabs) (E : ℕ → ℕ → EReal) (M : ℕ → BitVec 1) (v7 : View sig .tc .vmem S4096x128 .f32) (z : ℕ → ℕ → EReal) (B b : ℕ)
    (f : v7.ty.Contents (Elt Ideal)) : Prop :=
  ∀ y : (⟨2, ![4096, 128]⟩ : Shape).Idx, v7.read (Elt Ideal) f y
    = z (y 0).val (y 1).val + dqS T E M (y 0).val (y 1).val (min ((y 0).val / 256 + 1) (if (y 0).val < b then B + 1 else B))

namespace DQ

variable {T : Tabs} {E : ℕ → ℕ → EReal} {M : ℕ → BitVec 1} {v7 : View sig .tc .vmem S4096x128 .f32} {z : ℕ → ℕ → EReal} {B b : ℕ}
    {f : v7.ty.Contents (Elt Ideal)}

/-- The rows before the block's own see none of it. -/
theorem start (h : DQ T E M v7 z B 0 f) : DQ T E M v7 z B (256 * B) f := fun y => by
  rw [h y]
  congr 2
  rw [if_neg (Nat.not_lt_zero _)]
  split <;> omega

/-- After the last row the block is done. -/
theorem finish (h : DQ T E M v7 z B 4096 f) : DQ T E M v7 z (B + 1) 0 f := fun y => by
  have hy : (y 0).val < 4096 := (y 0).isLt
  rw [h y, if_pos hy, if_neg (Nat.not_lt_zero _)]

/-- The next `w` rows are given the block's part. -/
theorem step (h : DQ T E M v7 z B b f) {w j : ℕ} (hj : j = 256 * B) (hb : j ≤ b) {off : Fin 2 → ℕ} (hoff : off = ![b, 0])
    {inb : ∀ x, off x + (![w, 128] : Fin 2 → ℕ) x ≤ S4096x128.size x} {A : Vec Ideal ⟨2, ![w, 128]⟩ .f32}
    (hA : ∀ (x : Fin w) (d : Fin 128), A (ix2 x d)
      = v7.readAt (Elt Ideal) (Rect.unit (s := S4096x128) off ![w, 128] inb).toLoadRect f (ix2 x d) + dqB T E M j (b + x) d) :
    DQ T E M v7 z B (b + w) (v7.writes (Elt Ideal) f [⟨Rect.unit (s := S4096x128) off ![w, 128] inb, A⟩]) := by
  subst hoff hj
  intro y
  have hy1 : (y 1).val < 128 := (y 1).isLt
  by_cases hc : b ≤ (y 0).val ∧ (y 0).val < b + w
  · refine View.read_writes_apply_of_pieces (s := S4096x128) (e := .f32) v7 f (fun y => z (y 0).val (y 1).val
      + dqS T E M (y 0).val (y 1).val (min ((y 0).val / 256 + 1) (if (y 0).val < b + w then B + 1 else B))) _ ?_ y ?_
    · refine List.forall_mem_cons.mpr ⟨piece2 (inb := inb) (fun i d => z i d + dqS T E M i d (min (i / 256 + 1) (if i < b + w then B + 1 else B)))
        fun i d => ?_, fun _ h => absurd h List.not_mem_nil⟩
      have e := load2 (v := v7) (f := f) (R := fun i d => z i d + dqS T E M i d (min (i / 256 + 1) (if i < b then B + 1 else B))) h ![b, 0] inb i d
      refine (hA i d).trans ((congrArg (· + dqB T E M (256 * B) (b + i) d) e).trans ?_)
      show z (b + i) (0 + d) + dqS T E M (b + i) (0 + d) (min ((b + i) / 256 + 1) (if b + i.val < b then B + 1 else B)) + dqB T E M (256 * B) (b + i) d
        = z (b + i) (0 + d) + dqS T E M (b + i) (0 + d) (min ((b + i) / 256 + 1) (if b + i.val < b + w then B + 1 else B))
      have hi := i.isLt
      rw [if_neg (by omega), if_pos (by omega), Nat.min_eq_right (by omega), Nat.min_eq_right (by omega), Nat.zero_add, add_assoc, dqS, dqS,
        Finset.sum_range_succ]
    · exact ⟨_, List.mem_singleton_self _, (mem_set2 (a := 4096) (b := 128) ![b, 0] inb y).mpr ⟨hc, Nat.zero_le _, by show _ < 0 + 128; omega⟩⟩
  · rw [View.read_writes_apply_of_forall_not_mem, h y]
    · congr 2
      by_cases h1 : (y 0).val < b
      · rw [if_pos h1, if_pos (by omega)]
      · rw [if_neg h1, if_neg (by omega)]
    · refine List.forall_mem_cons.mpr ⟨fun hm => hc ((mem_set2 (a := 4096) (b := 128) ![b, 0] inb y).mp hm).1, fun _ h => absurd h List.not_mem_nil⟩

end DQ

/-- The row sums read off the buffer that holds them. -/
def sums (v15 : View sig .tc .vmem S2x4096x1 .f32) (X15 : v15.ty.Contents (Elt Ideal)) (h i : ℕ) : EReal :=
  v15.read (Elt Ideal) X15 (ix3 (Fin.ofNat 2 h) (Fin.ofNat 4096 i) (0 : Fin 1))

theorem sums_read {v15 : View sig .tc .vmem S2x4096x1 .f32} {X15 : v15.ty.Contents (Elt Ideal)} (y : (⟨3, ![2, 4096, 1]⟩ : Shape).Idx) :
    v15.read (Elt Ideal) X15 y = sums v15 X15 (y 0).val (y 1).val := by
  idx_vars y
  simp [sums, Subsingleton.elim _ (0 : Fin 1)]

/-- The lanes of the first head. -/
def lane (v26 : IVec S1x128 1) (d : ℕ) : BitVec 1 := v26 (ix2 (0 : Fin 1) (Fin.ofNat 128 d))

theorem lane_read {v26 : IVec S1x128 1} (d : Fin 128) : v26 (ix2 0 d) = lane v26 d := by
  simp [lane]

/-- The query's gradients under way, from one state (groups done and contents) to another: each part of the buffer grows as told. -/
def Grows (T : Tabs) (E : ℕ → ℕ → EReal) (M : ℕ → BitVec 1) (v7 : View sig .tc .vmem S4096x128 .f32) (hv : Prop) (B b : ℕ → ℕ)
    (p q : ℕ × v7.ty.Contents (Elt Ideal)) : Prop :=
  hv → ∀ z : ℕ → ℕ → EReal, DQ T E M v7 z (B p.1) (b p.1) p.2 → DQ T E M v7 z (B q.1) (b q.1) q.2

@[refl] theorem Grows.refl {T : Tabs} {E : ℕ → ℕ → EReal} {M : ℕ → BitVec 1} {v7 : View sig .tc .vmem S4096x128 .f32} {hv : Prop} {B b : ℕ → ℕ}
    (p : ℕ × v7.ty.Contents (Elt Ideal)) : Grows T E M v7 hv B b p p := fun _ _ h => h

/-- The carried gradients, from one state to another. -/
def Carries (T : Tabs) (E : ℕ → ℕ → EReal) (j g : ℕ)
    (p q : ℕ × (FVec Ideal S256x128 .f32 × FVec Ideal S256x128 .f32 × FVec Ideal S1x256 .f32 × FVec Ideal S1x256 .f32)) : Prop :=
  Col T E j g p.1 p.2 → Col T E j g q.1 q.2

@[refl] theorem Carries.refl {T : Tabs} {E : ℕ → ℕ → EReal} {j g : ℕ}
    (p : ℕ × (FVec Ideal S256x128 .f32 × FVec Ideal S256x128 .f32 × FVec Ideal S1x256 .f32 × FVec Ideal S1x256 .f32)) : Carries T E j g p p := fun h => h

/-- The contents a loop is entered with, at its entry; later the contents themselves. -/
abbrev from0 {α : Type} : ℕ → α → α → α
  | 0, x, _ => x
  | _ + 1, _, f => f

/-- The key's gradient: over the queries from the block's first row on. -/
def dkT (T : Tabs) (E : ℕ → ℕ → EReal) (j d : ℕ) : EReal := dkS T E j d (256 * (j / 256)) 4096

/-- The value's gradient, likewise. -/
def dvT (T : Tabs) (j d : ℕ) : EReal := dvS T j d (256 * (j / 256)) 4096

/-- The cumulative gate's gradient, likewise. -/
def dcT (T : Tabs) (E : ℕ → ℕ → EReal) (h j : ℕ) : EReal := dcS T E h j (256 * (j / 256)) (j / 1024) (3 - j / 1024)

local notation "𝕄" => MT nD τ sig Unit (Elt Ideal) ℕ (UR sig nD τ) ℕ

section Cols

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole)

/-- One trip over a later query group, for the first block of a group's key rows: what is carried. -/
theorem tripC18 (T : Tabs) (E : ℕ → ℕ → EReal) (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v187 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (k : Fin (k0_t18_loop k0_t17).trips) (acc : FVec Ideal S256x128 .f32 × FVec Ideal S256x128 .f32 × FVec Ideal S1x256 .f32 × FVec Ideal S1x256 .f32) (f : BufTy.Contents (Elt Ideal) arg7.view.ty)
    (hi : Col T E (1024 * k0_t17.val) k0_t17 k.val acc) :
    Col T E (1024 * k0_t17.val) k0_t17 (k.val + 1) (tripR_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v65 v67 v122 v164 v170 v175 v184 v187 X_arg4 X_arg5 X_arg11 X_arg12 X_arg13 X_arg14 X_arg15 k acc f) := by
  have hg : k0_t17.val < 4 := lt_of_lt_of_eq k0_t17.isLt (by decide +kernel)
  unfold tripR_k0_t18 trip_k0_t18
  refine hi.step (by omega) (fun x d => ?_) (fun x d => ?_) (fun x => ?_) (fun x => ?_)
  all_goals
    try unfold trip_k0_t18.sl.r_16
    try unfold trip_k0_t18.sl.r_15
    try unfold trip_k0_t18.sl.r_14
    try unfold trip_k0_t18.sl.r_13
    try unfold trip_k0_t18.sl.r_12
    try unfold trip_k0_t18.sl.r_11
    try unfold trip_k0_t18.sl.r_10
    try unfold trip_k0_t18.sl.r_9
    try unfold trip_k0_t18.sl.r_8
    try unfold trip_k0_t18.sl.r_7
    try unfold trip_k0_t18.sl.r_6
    try unfold trip_k0_t18.sl.r_5
    try unfold trip_k0_t18.sl.r_4
    try unfold trip_k0_t18.sl.r_3
    try unfold trip_k0_t18.sl.r_2
    try unfold trip_k0_t18.sl.r_1
    try unfold trip_k0_t18.sl.r
    unfold_payloads
    pointwise [ex, dp]
    simp only [h.ldK, h.ldV, h.ldQ, h.ldD, h.ldC, h.ldL, ldE hE, k0_off92_eq, k0_off93_eq, k0_off94_eq, k0_off95_eq, k0_off96_eq, k0_off97_eq, k0_off98_eq, k0_off99_eq, Matrix.cons_val, Nat.zero_add]

/-- Likewise: the query's gradient. -/
theorem tripQ18 (T : Tabs) (E : ℕ → ℕ → EReal) (M : ℕ → BitVec 1) (z : ℕ → ℕ → EReal) (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v187 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (hM : ∀ d : Fin 128, v26 (ix2 0 d) = M d)
    (hv : ∀ (x : Fin 256) (d : Fin 128), v67 (ix2 x d) = T.K (1024 * k0_t17.val + x) d)
    (k : Fin (k0_t18_loop k0_t17).trips) (acc : FVec Ideal S256x128 .f32 × FVec Ideal S256x128 .f32 × FVec Ideal S1x256 .f32 × FVec Ideal S1x256 .f32) (f : BufTy.Contents (Elt Ideal) arg7.view.ty)
    (hG : DQ T E M arg7.view z (4 * k0_t17.val) (1024 * k0_t17.val + 1024 * k.val + 1024) f) :
    DQ T E M arg7.view z (4 * k0_t17.val) (1024 * k0_t17.val + 1024 * k.val + 1024 + 1024) (arg7.view.writes (Elt Ideal) f (tripL_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v65 v67 v122 v164 v170 v175 v184 v187 X_arg4 X_arg5 X_arg11 X_arg12 X_arg13 X_arg14 X_arg15 k acc f)) := by
  have hg : k0_t17.val < 4 := lt_of_lt_of_eq k0_t17.isLt (by decide +kernel)
  unfold tripL_k0_t18 trip_k0_t18
  refine hG.step (j := 1024 * k0_t17.val) (by omega) (by omega) (k0_off99_eq k0_t17 k) (fun x d => ?_)
  have p (z : ℕ) (y : Fin 256) : pr T z (1024 * k0_t17.val + 1024 * k.val + 1024 + x.val) (1024 * k0_t17.val + y.val)
      = ex T z (1024 * k0_t17.val + 1024 * k.val + 1024 + x.val) (1024 * k0_t17.val + y.val) := pr_of_le T (by omega)
  try unfold trip_k0_t18.sl.r_16
  try unfold trip_k0_t18.sl.r_15
  try unfold trip_k0_t18.sl.r_14
  try unfold trip_k0_t18.sl.r_13
  try unfold trip_k0_t18.sl.r_12
  try unfold trip_k0_t18.sl.r_11
  try unfold trip_k0_t18.sl.r_10
  try unfold trip_k0_t18.sl.r_9
  try unfold trip_k0_t18.sl.r_8
  try unfold trip_k0_t18.sl.r_7
  try unfold trip_k0_t18.sl.r_6
  try unfold trip_k0_t18.sl.r_5
  try unfold trip_k0_t18.sl.r_4
  try unfold trip_k0_t18.sl.r_3
  try unfold trip_k0_t18.sl.r_2
  try unfold trip_k0_t18.sl.r_1
  try unfold trip_k0_t18.sl.r
  unfold_payloads
  pointwise [dp, dqB, ds]
  simp only [h.ldK, h.ldV, h.ldQ, h.ldD, h.ldC, h.ldL, ldE hE, hv, hM, k0_off92_eq, k0_off93_eq, k0_off94_eq, k0_off95_eq, k0_off96_eq, k0_off97_eq, k0_off98_eq, k0_off99_eq, Matrix.cons_val, Nat.zero_add]
  simp only [p, ex]

/-- One trip over a later query group, for the second block of a group's key rows: what is carried. -/
theorem tripC20 (T : Tabs) (E : ℕ → ℕ → EReal) (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v332 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (k : Fin (k0_t20_loop k0_t17).trips) (acc : FVec Ideal S256x128 .f32 × FVec Ideal S256x128 .f32 × FVec Ideal S1x256 .f32 × FVec Ideal S1x256 .f32) (f : BufTy.Contents (Elt Ideal) arg7.view.ty)
    (hi : Col T E (1024 * k0_t17.val + 256) k0_t17 k.val acc) :
    Col T E (1024 * k0_t17.val + 256) k0_t17 (k.val + 1) (tripR_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v210 v212 v214 v256 v262 v264 v267 v291 v297 v301 v332 X_arg4 X_arg5 X_arg11 X_arg12 X_arg13 X_arg14 X_arg15 k acc f) := by
  have hg : k0_t17.val < 4 := lt_of_lt_of_eq k0_t17.isLt (by decide +kernel)
  unfold tripR_k0_t20 trip_k0_t20
  refine hi.step (by omega) (fun x d => ?_) (fun x d => ?_) (fun x => ?_) (fun x => ?_)
  all_goals
    try unfold trip_k0_t20.sl.r_16
    try unfold trip_k0_t20.sl.r_15
    try unfold trip_k0_t20.sl.r_14
    try unfold trip_k0_t20.sl.r_13
    try unfold trip_k0_t20.sl.r_12
    try unfold trip_k0_t20.sl.r_11
    try unfold trip_k0_t20.sl.r_10
    try unfold trip_k0_t20.sl.r_9
    try unfold trip_k0_t20.sl.r_8
    try unfold trip_k0_t20.sl.r_7
    try unfold trip_k0_t20.sl.r_6
    try unfold trip_k0_t20.sl.r_5
    try unfold trip_k0_t20.sl.r_4
    try unfold trip_k0_t20.sl.r_3
    try unfold trip_k0_t20.sl.r_2
    try unfold trip_k0_t20.sl.r_1
    try unfold trip_k0_t20.sl.r
    unfold_payloads
    pointwise [ex, dp]
    simp only [h.ldK, h.ldV, h.ldQ, h.ldD, h.ldC, h.ldL, ldE hE, k0_off113_eq, k0_off114_eq, k0_off115_eq, k0_off116_eq, k0_off117_eq, k0_off118_eq, k0_off119_eq, k0_off120_eq, Matrix.cons_val, Nat.zero_add]

/-- Likewise: the query's gradient. -/
theorem tripQ20 (T : Tabs) (E : ℕ → ℕ → EReal) (M : ℕ → BitVec 1) (z : ℕ → ℕ → EReal) (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v332 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (hM : ∀ d : Fin 128, v26 (ix2 0 d) = M d)
    (hv : ∀ (x : Fin 256) (d : Fin 128), v212 (ix2 x d) = T.K (1024 * k0_t17.val + 256 + x) d)
    (k : Fin (k0_t20_loop k0_t17).trips) (acc : FVec Ideal S256x128 .f32 × FVec Ideal S256x128 .f32 × FVec Ideal S1x256 .f32 × FVec Ideal S1x256 .f32) (f : BufTy.Contents (Elt Ideal) arg7.view.ty)
    (hG : DQ T E M arg7.view z (4 * k0_t17.val + 1) (1024 * k0_t17.val + 1024 * k.val + 1024) f) :
    DQ T E M arg7.view z (4 * k0_t17.val + 1) (1024 * k0_t17.val + 1024 * k.val + 1024 + 1024) (arg7.view.writes (Elt Ideal) f (tripL_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v210 v212 v214 v256 v262 v264 v267 v291 v297 v301 v332 X_arg4 X_arg5 X_arg11 X_arg12 X_arg13 X_arg14 X_arg15 k acc f)) := by
  have hg : k0_t17.val < 4 := lt_of_lt_of_eq k0_t17.isLt (by decide +kernel)
  unfold tripL_k0_t20 trip_k0_t20
  refine hG.step (j := 1024 * k0_t17.val + 256) (by omega) (by omega) (k0_off120_eq k0_t17 k) (fun x d => ?_)
  have p (z : ℕ) (y : Fin 256) : pr T z (1024 * k0_t17.val + 1024 * k.val + 1024 + x.val) (1024 * k0_t17.val + 256 + y.val)
      = ex T z (1024 * k0_t17.val + 1024 * k.val + 1024 + x.val) (1024 * k0_t17.val + 256 + y.val) := pr_of_le T (by omega)
  try unfold trip_k0_t20.sl.r_16
  try unfold trip_k0_t20.sl.r_15
  try unfold trip_k0_t20.sl.r_14
  try unfold trip_k0_t20.sl.r_13
  try unfold trip_k0_t20.sl.r_12
  try unfold trip_k0_t20.sl.r_11
  try unfold trip_k0_t20.sl.r_10
  try unfold trip_k0_t20.sl.r_9
  try unfold trip_k0_t20.sl.r_8
  try unfold trip_k0_t20.sl.r_7
  try unfold trip_k0_t20.sl.r_6
  try unfold trip_k0_t20.sl.r_5
  try unfold trip_k0_t20.sl.r_4
  try unfold trip_k0_t20.sl.r_3
  try unfold trip_k0_t20.sl.r_2
  try unfold trip_k0_t20.sl.r_1
  try unfold trip_k0_t20.sl.r
  unfold_payloads
  pointwise [dp, dqB, ds]
  simp only [h.ldK, h.ldV, h.ldQ, h.ldD, h.ldC, h.ldL, ldE hE, hv, hM, k0_off113_eq, k0_off114_eq, k0_off115_eq, k0_off116_eq, k0_off117_eq, k0_off118_eq, k0_off119_eq, k0_off120_eq, Matrix.cons_val, Nat.zero_add]
  simp only [p, ex]

/-- One trip over a later query group, for the third block of a group's key rows: what is carried. -/
theorem tripC22 (T : Tabs) (E : ℕ → ℕ → EReal) (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v477 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (k : Fin (k0_t22_loop k0_t17).trips) (acc : FVec Ideal S256x128 .f32 × FVec Ideal S256x128 .f32 × FVec Ideal S1x256 .f32 × FVec Ideal S1x256 .f32) (f : BufTy.Contents (Elt Ideal) arg7.view.ty)
    (hi : Col T E (1024 * k0_t17.val + 512) k0_t17 k.val acc) :
    Col T E (1024 * k0_t17.val + 512) k0_t17 (k.val + 1) (tripR_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v355 v357 v359 v409 v412 v448 v454 v460 v461 cst_234 v477 X_arg4 X_arg5 X_arg11 X_arg12 X_arg13 X_arg14 X_arg15 k acc f) := by
  have hg : k0_t17.val < 4 := lt_of_lt_of_eq k0_t17.isLt (by decide +kernel)
  unfold tripR_k0_t22 trip_k0_t22
  refine hi.step (by omega) (fun x d => ?_) (fun x d => ?_) (fun x => ?_) (fun x => ?_)
  all_goals
    try unfold trip_k0_t22.sl.r_16
    try unfold trip_k0_t22.sl.r_15
    try unfold trip_k0_t22.sl.r_14
    try unfold trip_k0_t22.sl.r_13
    try unfold trip_k0_t22.sl.r_12
    try unfold trip_k0_t22.sl.r_11
    try unfold trip_k0_t22.sl.r_10
    try unfold trip_k0_t22.sl.r_9
    try unfold trip_k0_t22.sl.r_8
    try unfold trip_k0_t22.sl.r_7
    try unfold trip_k0_t22.sl.r_6
    try unfold trip_k0_t22.sl.r_5
    try unfold trip_k0_t22.sl.r_4
    try unfold trip_k0_t22.sl.r_3
    try unfold trip_k0_t22.sl.r_2
    try unfold trip_k0_t22.sl.r_1
    try unfold trip_k0_t22.sl.r
    unfold_payloads
    pointwise [ex, dp]
    simp only [h.ldK, h.ldV, h.ldQ, h.ldD, h.ldC, h.ldL, ldE hE, k0_off134_eq, k0_off135_eq, k0_off136_eq, k0_off137_eq, k0_off138_eq, k0_off139_eq, k0_off140_eq, k0_off141_eq, Matrix.cons_val, Nat.zero_add]

/-- Likewise: the query's gradient. -/
theorem tripQ22 (T : Tabs) (E : ℕ → ℕ → EReal) (M : ℕ → BitVec 1) (z : ℕ → ℕ → EReal) (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v477 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (hM : ∀ d : Fin 128, v26 (ix2 0 d) = M d)
    (hv : ∀ (x : Fin 256) (d : Fin 128), v357 (ix2 x d) = T.K (1024 * k0_t17.val + 512 + x) d)
    (k : Fin (k0_t22_loop k0_t17).trips) (acc : FVec Ideal S256x128 .f32 × FVec Ideal S256x128 .f32 × FVec Ideal S1x256 .f32 × FVec Ideal S1x256 .f32) (f : BufTy.Contents (Elt Ideal) arg7.view.ty)
    (hG : DQ T E M arg7.view z (4 * k0_t17.val + 2) (1024 * k0_t17.val + 1024 * k.val + 1024) f) :
    DQ T E M arg7.view z (4 * k0_t17.val + 2) (1024 * k0_t17.val + 1024 * k.val + 1024 + 1024) (arg7.view.writes (Elt Ideal) f (tripL_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v355 v357 v359 v409 v412 v448 v454 v460 v461 cst_234 v477 X_arg4 X_arg5 X_arg11 X_arg12 X_arg13 X_arg14 X_arg15 k acc f)) := by
  have hg : k0_t17.val < 4 := lt_of_lt_of_eq k0_t17.isLt (by decide +kernel)
  unfold tripL_k0_t22 trip_k0_t22
  refine hG.step (j := 1024 * k0_t17.val + 512) (by omega) (by omega) (k0_off141_eq k0_t17 k) (fun x d => ?_)
  have p (z : ℕ) (y : Fin 256) : pr T z (1024 * k0_t17.val + 1024 * k.val + 1024 + x.val) (1024 * k0_t17.val + 512 + y.val)
      = ex T z (1024 * k0_t17.val + 1024 * k.val + 1024 + x.val) (1024 * k0_t17.val + 512 + y.val) := pr_of_le T (by omega)
  try unfold trip_k0_t22.sl.r_16
  try unfold trip_k0_t22.sl.r_15
  try unfold trip_k0_t22.sl.r_14
  try unfold trip_k0_t22.sl.r_13
  try unfold trip_k0_t22.sl.r_12
  try unfold trip_k0_t22.sl.r_11
  try unfold trip_k0_t22.sl.r_10
  try unfold trip_k0_t22.sl.r_9
  try unfold trip_k0_t22.sl.r_8
  try unfold trip_k0_t22.sl.r_7
  try unfold trip_k0_t22.sl.r_6
  try unfold trip_k0_t22.sl.r_5
  try unfold trip_k0_t22.sl.r_4
  try unfold trip_k0_t22.sl.r_3
  try unfold trip_k0_t22.sl.r_2
  try unfold trip_k0_t22.sl.r_1
  try unfold trip_k0_t22.sl.r
  unfold_payloads
  pointwise [dp, dqB, ds]
  simp only [h.ldK, h.ldV, h.ldQ, h.ldD, h.ldC, h.ldL, ldE hE, hv, hM, k0_off134_eq, k0_off135_eq, k0_off136_eq, k0_off137_eq, k0_off138_eq, k0_off139_eq, k0_off140_eq, k0_off141_eq, Matrix.cons_val, Nat.zero_add]
  simp only [p, ex]

/-- One trip over a later query group, for the fourth block of a group's key rows: what is carried. -/
theorem tripC24 (T : Tabs) (E : ℕ → ℕ → EReal) (v26 : IVec S1x128 1) (k0_t17 : Fin k0_t17_loop.trips) (v500 : BitVec 32) (v502 : Vec Ideal S256x128 .bf16) (v622 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (k : Fin (k0_t24_loop k0_t17).trips) (acc : FVec Ideal S256x128 .f32 × FVec Ideal S256x128 .f32 × FVec Ideal S1x256 .f32 × FVec Ideal S1x256 .f32) (f : BufTy.Contents (Elt Ideal) arg7.view.ty)
    (hi : Col T E (1024 * k0_t17.val + 768) k0_t17 k.val acc) :
    Col T E (1024 * k0_t17.val + 768) k0_t17 (k.val + 1) (tripR_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 v500 v502 v622 X_arg4 X_arg5 X_arg11 X_arg12 X_arg13 X_arg14 X_arg15 k acc f) := by
  have hg : k0_t17.val < 4 := lt_of_lt_of_eq k0_t17.isLt (by decide +kernel)
  unfold tripR_k0_t24 trip_k0_t24
  refine hi.step (by omega) (fun x d => ?_) (fun x d => ?_) (fun x => ?_) (fun x => ?_)
  all_goals
    try unfold trip_k0_t24.sl.r_16
    try unfold trip_k0_t24.sl.r_15
    try unfold trip_k0_t24.sl.r_14
    try unfold trip_k0_t24.sl.r_13
    try unfold trip_k0_t24.sl.r_12
    try unfold trip_k0_t24.sl.r_11
    try unfold trip_k0_t24.sl.r_10
    try unfold trip_k0_t24.sl.r_9
    try unfold trip_k0_t24.sl.r_8
    try unfold trip_k0_t24.sl.r_7
    try unfold trip_k0_t24.sl.r_6
    try unfold trip_k0_t24.sl.r_5
    try unfold trip_k0_t24.sl.r_4
    try unfold trip_k0_t24.sl.r_3
    try unfold trip_k0_t24.sl.r_2
    try unfold trip_k0_t24.sl.r_1
    try unfold trip_k0_t24.sl.r
    unfold_payloads
    pointwise [ex, dp]
    simp only [h.ldK, h.ldV, h.ldQ, h.ldD, h.ldC, h.ldL, ldE hE, k0_off154_eq, k0_off155_eq, k0_off156_eq, k0_off157_eq, k0_off158_eq, k0_off159_eq, k0_off160_eq, k0_off161_eq, Matrix.cons_val, Nat.zero_add]

/-- Likewise: the query's gradient. -/
theorem tripQ24 (T : Tabs) (E : ℕ → ℕ → EReal) (M : ℕ → BitVec 1) (z : ℕ → ℕ → EReal) (v26 : IVec S1x128 1) (k0_t17 : Fin k0_t17_loop.trips) (v500 : BitVec 32) (v502 : Vec Ideal S256x128 .bf16) (v622 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)
    (h : Reads T arg4.view arg5.view arg11.view arg12.view arg13.view arg14.view X_arg4 X_arg5 X_arg11 X_arg12 X_arg13 X_arg14)
    (hE : ∀ y : (⟨3, ![2, 4096, 1]⟩ : Shape).Idx, arg15.view.read (Elt Ideal) X_arg15 y = E (y 0).val (y 1).val)
    (hM : ∀ d : Fin 128, v26 (ix2 0 d) = M d)
    (hv : ∀ (x : Fin 256) (d : Fin 128), v502 (ix2 x d) = T.K (1024 * k0_t17.val + 768 + x) d)
    (k : Fin (k0_t24_loop k0_t17).trips) (acc : FVec Ideal S256x128 .f32 × FVec Ideal S256x128 .f32 × FVec Ideal S1x256 .f32 × FVec Ideal S1x256 .f32) (f : BufTy.Contents (Elt Ideal) arg7.view.ty)
    (hG : DQ T E M arg7.view z (4 * k0_t17.val + 3) (1024 * k0_t17.val + 1024 * k.val + 1024) f) :
    DQ T E M arg7.view z (4 * k0_t17.val + 3) (1024 * k0_t17.val + 1024 * k.val + 1024 + 1024) (arg7.view.writes (Elt Ideal) f (tripL_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 v500 v502 v622 X_arg4 X_arg5 X_arg11 X_arg12 X_arg13 X_arg14 X_arg15 k acc f)) := by
  have hg : k0_t17.val < 4 := lt_of_lt_of_eq k0_t17.isLt (by decide +kernel)
  unfold tripL_k0_t24 trip_k0_t24
  refine hG.step (j := 1024 * k0_t17.val + 768) (by omega) (by omega) (k0_off161_eq k0_t17 k) (fun x d => ?_)
  have p (z : ℕ) (y : Fin 256) : pr T z (1024 * k0_t17.val + 1024 * k.val + 1024 + x.val) (1024 * k0_t17.val + 768 + y.val)
      = ex T z (1024 * k0_t17.val + 1024 * k.val + 1024 + x.val) (1024 * k0_t17.val + 768 + y.val) := pr_of_le T (by omega)
  try unfold trip_k0_t24.sl.r_16
  try unfold trip_k0_t24.sl.r_15
  try unfold trip_k0_t24.sl.r_14
  try unfold trip_k0_t24.sl.r_13
  try unfold trip_k0_t24.sl.r_12
  try unfold trip_k0_t24.sl.r_11
  try unfold trip_k0_t24.sl.r_10
  try unfold trip_k0_t24.sl.r_9
  try unfold trip_k0_t24.sl.r_8
  try unfold trip_k0_t24.sl.r_7
  try unfold trip_k0_t24.sl.r_6
  try unfold trip_k0_t24.sl.r_5
  try unfold trip_k0_t24.sl.r_4
  try unfold trip_k0_t24.sl.r_3
  try unfold trip_k0_t24.sl.r_2
  try unfold trip_k0_t24.sl.r_1
  try unfold trip_k0_t24.sl.r
  unfold_payloads
  pointwise [dp, dqB, ds]
  simp only [h.ldK, h.ldV, h.ldQ, h.ldD, h.ldC, h.ldL, ldE hE, hv, hM, k0_off154_eq, k0_off155_eq, k0_off156_eq, k0_off157_eq, k0_off158_eq, k0_off159_eq, k0_off160_eq, k0_off161_eq, Matrix.cons_val, Nat.zero_add]
  simp only [p, ex]

/-- The loop over the later query groups, for the first block of a group's key rows: what it carries, and the query's gradient. -/
abbrev inv18 (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v187 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg7.view.loc (c : Thread nD τ) ↦[arg7.view.set]{fullShare} f) ∗ ⌜from0 k G_arg7 f = f⌝ ∗ ⌜Grows (tabs arg4.view arg5.view arg11.view arg12.view arg13.view arg14.view X_arg4 X_arg5 X_arg11 X_arg12 X_arg13 X_arg14) (sums arg15.view X_arg15) (lane v26) arg7.view (∀ (x : Fin 256) (d : Fin 128), v67 (ix2 x d) = Tabs.K (tabs arg4.view arg5.view arg11.view arg12.view arg13.view arg14.view X_arg4 X_arg5 X_arg11 X_arg12 X_arg13 X_arg14) (1024 * k0_t17.val + x) d) (fun _ => 4 * k0_t17.val) (fun n => 1024 * k0_t17.val + 1024 + 1024 * n) (0, G_arg7) (k, f)⌝) ∗ ⌜Carries (tabs arg4.view arg5.view arg11.view arg12.view arg13.view arg14.view X_arg4 X_arg5 X_arg11 X_arg12 X_arg13 X_arg14) (sums arg15.view X_arg15) (1024 * k0_t17.val) k0_t17 (0, init) (k, acc)⌝)

set_option warn.classDefReducibility false in
/-- That loop by its invariant. -/
@[sl_loop] def loopInv18 (E : Set ℕ) (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v187 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t18 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v65 v67 v122 v164 v170 v175 v184 v187 init where
  inv := inv18 c arg4 arg5 arg7 arg11 arg12 arg13 arg14 arg15 v26 k0_t17 arg16 v65 v67 v122 v164 v170 v175 v184 v187 X_arg4 X_arg5 X_arg11 X_arg12 X_arg13 X_arg14 X_arg15 G_arg7 init
  step k acc := by
    iintro ⟨H4, H5, H11, H12, H13, H14, H15, ⟨%f, H7, %h0, %hq⟩, %hc⟩
    iapply (wp_wand_r Idealize.ShloMosaic.frame (wpE (defs₀ (F := Ideal)) 𝒱 (c : Thread nD τ) bd) E)
    isplitl [H4 H5 H11 H12 H13 H14 H15 H7]
    · iapply ((trip_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v65 v67 v122 v164 v170 v175 v184 v187 X_arg4 X_arg5 X_arg11 X_arg12 X_arg13 X_arg14 X_arg15 k).2.2 E acc f)
      isplitl [H4]; · iexact H4
      isplitl [H5]; · iexact H5
      isplitl [H11]; · iexact H11
      isplitl [H12]; · iexact H12
      isplitl [H13]; · iexact H13
      isplitl [H14]; · iexact H14
      isplitl [H15]; · iexact H15
      iexact H7
    · iintro %yld ⟨%hy, H4, H5, H11, H12, H13, H14, H15, H7⟩
      isplitl [H4]; · iexact H4
      isplitl [H5]; · iexact H5
      isplitl [H11]; · iexact H11
      isplitl [H12]; · iexact H12
      isplitl [H13]; · iexact H13
      isplitl [H14]; · iexact H14
      isplitl [H15]; · iexact H15
      subst hy
      isplitl [H7]
      · iexists _; isplitl [H7]; · iexact H7
        isplitr; · ipureintro; rfl
        ipureintro
        intro hv z hz
        show DQ _ _ _ _ z _ (1024 * k0_t17.val + 1024 + 1024 * (k.val + 1)) _
        rw [show 1024 * k0_t17.val + 1024 + 1024 * (k.val + 1) = 1024 * k0_t17.val + 1024 * k.val + 1024 + 1024 by omega]
        exact tripQ18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ z v26 k0_t17 arg16 v65 v67 v122 v164 v170 v175 v184 v187 X_arg4 X_arg5 X_arg11 X_arg12 X_arg13 X_arg14 X_arg15 reads_tabs sums_read lane_read hv k acc f (by
          rw [show 1024 * k0_t17.val + 1024 * k.val + 1024 = 1024 * k0_t17.val + 1024 + 1024 * k.val by omega]; exact hq hv z hz)
      ipureintro
      intro hi
      exact tripC18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ v26 k0_t17 arg16 v65 v67 v122 v164 v170 v175 v184 v187 X_arg4 X_arg5 X_arg11 X_arg12 X_arg13 X_arg14 X_arg15 reads_tabs sums_read k acc f (hc hi)

/-- The remainder loop of the first block has no trips. -/
abbrev inv19 (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v192 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg7.view.loc (c : Thread nD τ) ↦[arg7.view.set]{fullShare} G_arg7) ∗ ⌜acc = init⌝)

set_option warn.classDefReducibility false in
/-- That loop by its invariant. -/
@[sl_loop] def loopInv19 (E : Set ℕ) (v26 : IVec S1x128 1) (k0_t17 : Fin k0_t17_loop.trips) (arg16 : BitVec 32) (v65 : BitVec 32) (v67 : Vec Ideal S256x128 .bf16) (v122 : FVec Ideal S1x256 .f32) (v164 : FVec Ideal S256x128 .f32) (v170 : FVec Ideal S256x128 .f32) (v175 : FVec Ideal S1x256 .f32) (v184 : FVec Ideal S1024x128 .f32) (v192 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t19 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v65 v67 v122 v164 v170 v175 v184 v192 init where
  inv := inv19 c arg4 arg5 arg7 arg11 arg12 arg13 arg14 arg15 v26 k0_t17 arg16 v65 v67 v122 v164 v170 v175 v184 v192 X_arg4 X_arg5 X_arg11 X_arg12 X_arg13 X_arg14 X_arg15 G_arg7 init
  step k acc := absurd k.isLt (Nat.not_lt.mpr ((k0_t19_abs k0_t17).2.1.trans (Nat.zero_le _)))

/-- The loop over the later query groups, for the second block of a group's key rows: what it carries, and the query's gradient. -/
abbrev inv20 (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v332 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg7.view.loc (c : Thread nD τ) ↦[arg7.view.set]{fullShare} f) ∗ ⌜from0 k G_arg7 f = f⌝ ∗ ⌜Grows (tabs arg4.view arg5.view arg11.view arg12.view arg13.view arg14.view X_arg4 X_arg5 X_arg11 X_arg12 X_arg13 X_arg14) (sums arg15.view X_arg15) (lane v26) arg7.view (∀ (x : Fin 256) (d : Fin 128), v212 (ix2 x d) = Tabs.K (tabs arg4.view arg5.view arg11.view arg12.view arg13.view arg14.view X_arg4 X_arg5 X_arg11 X_arg12 X_arg13 X_arg14) (1024 * k0_t17.val + 256 + x) d) (fun _ => 4 * k0_t17.val + 1) (fun n => 1024 * k0_t17.val + 1024 + 1024 * n) (0, G_arg7) (k, f)⌝) ∗ ⌜Carries (tabs arg4.view arg5.view arg11.view arg12.view arg13.view arg14.view X_arg4 X_arg5 X_arg11 X_arg12 X_arg13 X_arg14) (sums arg15.view X_arg15) (1024 * k0_t17.val + 256) k0_t17 (0, init) (k, acc)⌝)

set_option warn.classDefReducibility false in
/-- That loop by its invariant. -/
@[sl_loop] def loopInv20 (E : Set ℕ) (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v332 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t20 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v210 v212 v214 v256 v262 v264 v267 v291 v297 v301 v332 init where
  inv := inv20 c arg4 arg5 arg7 arg11 arg12 arg13 arg14 arg15 v26 k0_t17 arg16 v210 v212 v214 v256 v262 v264 v267 v291 v297 v301 v332 X_arg4 X_arg5 X_arg11 X_arg12 X_arg13 X_arg14 X_arg15 G_arg7 init
  step k acc := by
    iintro ⟨H4, H5, H11, H12, H13, H14, H15, ⟨%f, H7, %h0, %hq⟩, %hc⟩
    iapply (wp_wand_r Idealize.ShloMosaic.frame (wpE (defs₀ (F := Ideal)) 𝒱 (c : Thread nD τ) bd) E)
    isplitl [H4 H5 H11 H12 H13 H14 H15 H7]
    · iapply ((trip_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v210 v212 v214 v256 v262 v264 v267 v291 v297 v301 v332 X_arg4 X_arg5 X_arg11 X_arg12 X_arg13 X_arg14 X_arg15 k).2.2 E acc f)
      isplitl [H4]; · iexact H4
      isplitl [H5]; · iexact H5
      isplitl [H11]; · iexact H11
      isplitl [H12]; · iexact H12
      isplitl [H13]; · iexact H13
      isplitl [H14]; · iexact H14
      isplitl [H15]; · iexact H15
      iexact H7
    · iintro %yld ⟨%hy, H4, H5, H11, H12, H13, H14, H15, H7⟩
      isplitl [H4]; · iexact H4
      isplitl [H5]; · iexact H5
      isplitl [H11]; · iexact H11
      isplitl [H12]; · iexact H12
      isplitl [H13]; · iexact H13
      isplitl [H14]; · iexact H14
      isplitl [H15]; · iexact H15
      subst hy
      isplitl [H7]
      · iexists _; isplitl [H7]; · iexact H7
        isplitr; · ipureintro; rfl
        ipureintro
        intro hv z hz
        show DQ _ _ _ _ z _ (1024 * k0_t17.val + 1024 + 1024 * (k.val + 1)) _
        rw [show 1024 * k0_t17.val + 1024 + 1024 * (k.val + 1) = 1024 * k0_t17.val + 1024 * k.val + 1024 + 1024 by omega]
        exact tripQ20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ z v26 k0_t17 arg16 v210 v212 v214 v256 v262 v264 v267 v291 v297 v301 v332 X_arg4 X_arg5 X_arg11 X_arg12 X_arg13 X_arg14 X_arg15 reads_tabs sums_read lane_read hv k acc f (by
          rw [show 1024 * k0_t17.val + 1024 * k.val + 1024 = 1024 * k0_t17.val + 1024 + 1024 * k.val by omega]; exact hq hv z hz)
      ipureintro
      intro hi
      exact tripC20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ v26 k0_t17 arg16 v210 v212 v214 v256 v262 v264 v267 v291 v297 v301 v332 X_arg4 X_arg5 X_arg11 X_arg12 X_arg13 X_arg14 X_arg15 reads_tabs sums_read k acc f (hc hi)

/-- The remainder loop of the second block has no trips. -/
abbrev inv21 (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v337 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg7.view.loc (c : Thread nD τ) ↦[arg7.view.set]{fullShare} G_arg7) ∗ ⌜acc = init⌝)

set_option warn.classDefReducibility false in
/-- That loop by its invariant. -/
@[sl_loop] def loopInv21 (E : Set ℕ) (v26 : IVec S1x128 1) (k0_t17 : Fin k0_t17_loop.trips) (arg16 : BitVec 32) (v210 : BitVec 32) (v212 : Vec Ideal S256x128 .bf16) (v214 : FVec Ideal S1x256 .f32) (v256 : FVec Ideal S256x128 .f32) (v262 : FVec Ideal S256x128 .f32) (v264 : FVec Ideal S768x128 .f32) (v267 : FVec Ideal S1x256 .f32) (v291 : FVec Ideal S768x256 .f32) (v297 : FVec Ideal S768x256 .f32) (v301 : FVec Ideal S768x256 .f32) (v337 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t21 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v210 v212 v214 v256 v262 v264 v267 v291 v297 v301 v337 init where
  inv := inv21 c arg4 arg5 arg7 arg11 arg12 arg13 arg14 arg15 v26 k0_t17 arg16 v210 v212 v214 v256 v262 v264 v267 v291 v297 v301 v337 X_arg4 X_arg5 X_arg11 X_arg12 X_arg13 X_arg14 X_arg15 G_arg7 init
  step k acc := absurd k.isLt (Nat.not_lt.mpr ((k0_t21_abs k0_t17).2.1.trans (Nat.zero_le _)))

/-- The loop over the later query groups, for the third block of a group's key rows: what it carries, and the query's gradient. -/
abbrev inv22 (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v477 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg7.view.loc (c : Thread nD τ) ↦[arg7.view.set]{fullShare} f) ∗ ⌜from0 k G_arg7 f = f⌝ ∗ ⌜Grows (tabs arg4.view arg5.view arg11.view arg12.view arg13.view arg14.view X_arg4 X_arg5 X_arg11 X_arg12 X_arg13 X_arg14) (sums arg15.view X_arg15) (lane v26) arg7.view (∀ (x : Fin 256) (d : Fin 128), v357 (ix2 x d) = Tabs.K (tabs arg4.view arg5.view arg11.view arg12.view arg13.view arg14.view X_arg4 X_arg5 X_arg11 X_arg12 X_arg13 X_arg14) (1024 * k0_t17.val + 512 + x) d) (fun _ => 4 * k0_t17.val + 2) (fun n => 1024 * k0_t17.val + 1024 + 1024 * n) (0, G_arg7) (k, f)⌝) ∗ ⌜Carries (tabs arg4.view arg5.view arg11.view arg12.view arg13.view arg14.view X_arg4 X_arg5 X_arg11 X_arg12 X_arg13 X_arg14) (sums arg15.view X_arg15) (1024 * k0_t17.val + 512) k0_t17 (0, init) (k, acc)⌝)

set_option warn.classDefReducibility false in
/-- That loop by its invariant. -/
@[sl_loop] def loopInv22 (E : Set ℕ) (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v477 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t22 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v355 v357 v359 v409 v412 v448 v454 v460 v461 cst_234 v477 init where
  inv := inv22 c arg4 arg5 arg7 arg11 arg12 arg13 arg14 arg15 v26 k0_t17 arg16 v355 v357 v359 v409 v412 v448 v454 v460 v461 cst_234 v477 X_arg4 X_arg5 X_arg11 X_arg12 X_arg13 X_arg14 X_arg15 G_arg7 init
  step k acc := by
    iintro ⟨H4, H5, H11, H12, H13, H14, H15, ⟨%f, H7, %h0, %hq⟩, %hc⟩
    iapply (wp_wand_r Idealize.ShloMosaic.frame (wpE (defs₀ (F := Ideal)) 𝒱 (c : Thread nD τ) bd) E)
    isplitl [H4 H5 H11 H12 H13 H14 H15 H7]
    · iapply ((trip_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v355 v357 v359 v409 v412 v448 v454 v460 v461 cst_234 v477 X_arg4 X_arg5 X_arg11 X_arg12 X_arg13 X_arg14 X_arg15 k).2.2 E acc f)
      isplitl [H4]; · iexact H4
      isplitl [H5]; · iexact H5
      isplitl [H11]; · iexact H11
      isplitl [H12]; · iexact H12
      isplitl [H13]; · iexact H13
      isplitl [H14]; · iexact H14
      isplitl [H15]; · iexact H15
      iexact H7
    · iintro %yld ⟨%hy, H4, H5, H11, H12, H13, H14, H15, H7⟩
      isplitl [H4]; · iexact H4
      isplitl [H5]; · iexact H5
      isplitl [H11]; · iexact H11
      isplitl [H12]; · iexact H12
      isplitl [H13]; · iexact H13
      isplitl [H14]; · iexact H14
      isplitl [H15]; · iexact H15
      subst hy
      isplitl [H7]
      · iexists _; isplitl [H7]; · iexact H7
        isplitr; · ipureintro; rfl
        ipureintro
        intro hv z hz
        show DQ _ _ _ _ z _ (1024 * k0_t17.val + 1024 + 1024 * (k.val + 1)) _
        rw [show 1024 * k0_t17.val + 1024 + 1024 * (k.val + 1) = 1024 * k0_t17.val + 1024 * k.val + 1024 + 1024 by omega]
        exact tripQ22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ z v26 k0_t17 arg16 v355 v357 v359 v409 v412 v448 v454 v460 v461 cst_234 v477 X_arg4 X_arg5 X_arg11 X_arg12 X_arg13 X_arg14 X_arg15 reads_tabs sums_read lane_read hv k acc f (by
          rw [show 1024 * k0_t17.val + 1024 * k.val + 1024 = 1024 * k0_t17.val + 1024 + 1024 * k.val by omega]; exact hq hv z hz)
      ipureintro
      intro hi
      exact tripC22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ v26 k0_t17 arg16 v355 v357 v359 v409 v412 v448 v454 v460 v461 cst_234 v477 X_arg4 X_arg5 X_arg11 X_arg12 X_arg13 X_arg14 X_arg15 reads_tabs sums_read k acc f (hc hi)

/-- The remainder loop of the third block has no trips. -/
abbrev inv23 (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v482 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg7.view.loc (c : Thread nD τ) ↦[arg7.view.set]{fullShare} G_arg7) ∗ ⌜acc = init⌝)

set_option warn.classDefReducibility false in
/-- That loop by its invariant. -/
@[sl_loop] def loopInv23 (E : Set ℕ) (v26 : IVec S1x128 1) (k0_t17 : Fin k0_t17_loop.trips) (arg16 : BitVec 32) (v355 : BitVec 32) (v357 : Vec Ideal S256x128 .bf16) (v359 : FVec Ideal S1x256 .f32) (v409 : FVec Ideal S512x128 .f32) (v412 : FVec Ideal S1x256 .f32) (v448 : FVec Ideal S512x256 .f32) (v454 : FVec Ideal S256x128 .f32) (v460 : FVec Ideal S256x128 .f32) (v461 : FVec Ideal S512x256 .bf16) (cst_234 : FVec Ideal S512x128 .f32) (v482 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t23 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 arg16 v355 v357 v359 v409 v412 v448 v454 v460 v461 cst_234 v482 init where
  inv := inv23 c arg4 arg5 arg7 arg11 arg12 arg13 arg14 arg15 v26 k0_t17 arg16 v355 v357 v359 v409 v412 v448 v454 v460 v461 cst_234 v482 X_arg4 X_arg5 X_arg11 X_arg12 X_arg13 X_arg14 X_arg15 G_arg7 init
  step k acc := absurd k.isLt (Nat.not_lt.mpr ((k0_t23_abs k0_t17).2.1.trans (Nat.zero_le _)))

/-- The loop over the later query groups, for the fourth block of a group's key rows: what it carries, and the query's gradient. -/
abbrev inv24 (v26 : IVec S1x128 1) (k0_t17 : Fin k0_t17_loop.trips) (v500 : BitVec 32) (v502 : Vec Ideal S256x128 .bf16) (v622 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg7.view.loc (c : Thread nD τ) ↦[arg7.view.set]{fullShare} f) ∗ ⌜from0 k G_arg7 f = f⌝ ∗ ⌜Grows (tabs arg4.view arg5.view arg11.view arg12.view arg13.view arg14.view X_arg4 X_arg5 X_arg11 X_arg12 X_arg13 X_arg14) (sums arg15.view X_arg15) (lane v26) arg7.view (∀ (x : Fin 256) (d : Fin 128), v502 (ix2 x d) = Tabs.K (tabs arg4.view arg5.view arg11.view arg12.view arg13.view arg14.view X_arg4 X_arg5 X_arg11 X_arg12 X_arg13 X_arg14) (1024 * k0_t17.val + 768 + x) d) (fun _ => 4 * k0_t17.val + 3) (fun n => 1024 * k0_t17.val + 1024 + 1024 * n) (0, G_arg7) (k, f)⌝) ∗ ⌜Carries (tabs arg4.view arg5.view arg11.view arg12.view arg13.view arg14.view X_arg4 X_arg5 X_arg11 X_arg12 X_arg13 X_arg14) (sums arg15.view X_arg15) (1024 * k0_t17.val + 768) k0_t17 (0, init) (k, acc)⌝)

set_option warn.classDefReducibility false in
/-- That loop by its invariant. -/
@[sl_loop] def loopInv24 (E : Set ℕ) (v26 : IVec S1x128 1) (k0_t17 : Fin k0_t17_loop.trips) (v500 : BitVec 32) (v502 : Vec Ideal S256x128 .bf16) (v622 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t24 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 v500 v502 v622 init where
  inv := inv24 c arg4 arg5 arg7 arg11 arg12 arg13 arg14 arg15 v26 k0_t17 v500 v502 v622 X_arg4 X_arg5 X_arg11 X_arg12 X_arg13 X_arg14 X_arg15 G_arg7 init
  step k acc := by
    iintro ⟨H4, H5, H11, H12, H13, H14, H15, ⟨%f, H7, %h0, %hq⟩, %hc⟩
    iapply (wp_wand_r Idealize.ShloMosaic.frame (wpE (defs₀ (F := Ideal)) 𝒱 (c : Thread nD τ) bd) E)
    isplitl [H4 H5 H11 H12 H13 H14 H15 H7]
    · iapply ((trip_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 v500 v502 v622 X_arg4 X_arg5 X_arg11 X_arg12 X_arg13 X_arg14 X_arg15 k).2.2 E acc f)
      isplitl [H4]; · iexact H4
      isplitl [H5]; · iexact H5
      isplitl [H11]; · iexact H11
      isplitl [H12]; · iexact H12
      isplitl [H13]; · iexact H13
      isplitl [H14]; · iexact H14
      isplitl [H15]; · iexact H15
      iexact H7
    · iintro %yld ⟨%hy, H4, H5, H11, H12, H13, H14, H15, H7⟩
      isplitl [H4]; · iexact H4
      isplitl [H5]; · iexact H5
      isplitl [H11]; · iexact H11
      isplitl [H12]; · iexact H12
      isplitl [H13]; · iexact H13
      isplitl [H14]; · iexact H14
      isplitl [H15]; · iexact H15
      subst hy
      isplitl [H7]
      · iexists _; isplitl [H7]; · iexact H7
        isplitr; · ipureintro; rfl
        ipureintro
        intro hv z hz
        show DQ _ _ _ _ z _ (1024 * k0_t17.val + 1024 + 1024 * (k.val + 1)) _
        rw [show 1024 * k0_t17.val + 1024 + 1024 * (k.val + 1) = 1024 * k0_t17.val + 1024 * k.val + 1024 + 1024 by omega]
        exact tripQ24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ z v26 k0_t17 v500 v502 v622 X_arg4 X_arg5 X_arg11 X_arg12 X_arg13 X_arg14 X_arg15 reads_tabs sums_read lane_read hv k acc f (by
          rw [show 1024 * k0_t17.val + 1024 * k.val + 1024 = 1024 * k0_t17.val + 1024 + 1024 * k.val by omega]; exact hq hv z hz)
      ipureintro
      intro hi
      exact tripC24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ v26 k0_t17 v500 v502 v622 X_arg4 X_arg5 X_arg11 X_arg12 X_arg13 X_arg14 X_arg15 reads_tabs sums_read k acc f (hc hi)

/-- The remainder loop of the fourth block has no trips. -/
abbrev inv25 (v26 : IVec S1x128 1) (k0_t17 : Fin k0_t17_loop.trips) (v500 : BitVec 32) (v502 : Vec Ideal S256x128 .bf16) (v627 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) (k : ℕ) (acc : FVec Ideal S256x128 .f32 × FVec Ideal S256x128 .f32 × FVec Ideal S1x256 .f32 × FVec Ideal S1x256 .f32) : sProp 𝕄 :=
    iprop((arg4.view.loc (c : Thread nD τ) ↦[arg4.view.set]{fullShare} X_arg4) ∗ (arg5.view.loc (c : Thread nD τ) ↦[arg5.view.set]{fullShare} X_arg5) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg7.view.loc (c : Thread nD τ) ↦[arg7.view.set]{fullShare} G_arg7) ∗ ⌜acc = init⌝)

set_option warn.classDefReducibility false in
/-- That loop by its invariant. -/
@[sl_loop] def loopInv25 (E : Set ℕ) (v26 : IVec S1x128 1) (k0_t17 : Fin k0_t17_loop.trips) (v500 : BitVec 32) (v502 : Vec Ideal S256x128 .bf16) (v627 : BitVec 32) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg7 : BufTy.Contents (Elt Ideal) arg7.view.ty) (init : FVec Ideal S256x128 .f32 × FVec Ideal S256x128 .f32 × FVec Ideal S1x256 .f32 × FVec Ideal S1x256 .f32) :
    _root_.Cert.AttnKernelIdeal.Gen.LoopInvTy_k0_t25 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 k0_t17 v500 v502 v627 init where
  inv := inv25 c arg4 arg5 arg7 arg11 arg12 arg13 arg14 arg15 v26 k0_t17 v500 v502 v627 X_arg4 X_arg5 X_arg11 X_arg12 X_arg13 X_arg14 X_arg15 G_arg7 init
  step k acc := absurd k.isLt (Nat.not_lt.mpr ((k0_t25_abs k0_t17).2.1.trans (Nat.zero_le _)))

end Cols

end Cert.AttnKernelIdeal.Math

end
-- ==== Proof.AttnGroups.lean ====
/-
  The loop over the groups of key rows: the diagonal tiles it starts each block with, and what its four results hold after it.
-/
module

public import proofs.«01_k».proof.Proof.AttnCols

@[expose] public section

set_option maxRecDepth 65536

noncomputable section

namespace Cert.AttnKernelIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

local notation "𝕄" => MT nD τ sig Unit (Elt Ideal) ℕ (UR sig nD τ) ℕ

/-- A diagonal tile's masked weight. -/
theorem mask_pr (T : Tabs) (h j : ℕ) {w : ℕ} (hw : w ≤ 1024) (x : Fin 256) (y : Fin w) :
    Scalar.select (IntOp.cmpi .sge (IntOp.addi (BitVec.ofNat 32 y.val) 0#32) (BitVec.ofNat 32 x.val))
      (Ideal.exp (∑ c : Fin 128, T.Q h (j + y) c * T.K (j + x) c - T.C h (j + x) - T.L h (j + y))) 0 = pr T h (j + y) (j + x) := by
  rw [show (0#32 : BitVec 32) = BitVec.ofNat 32 0 from rfl, keep (by omega) (by omega) (by omega), pr, ex]
  by_cases h : x.val ≤ y.val + 0
  · rw [if_pos h, if_pos (by omega)]
  · rw [if_neg h, if_neg (by omega)]

/-- The same, times a number. -/
theorem mask_mul (T : Tabs) (h j : ℕ) {w : ℕ} (hw : w ≤ 1024) (x : Fin 256) (y : Fin w) (z : EReal) :
    Scalar.select (IntOp.cmpi .sge (IntOp.addi (BitVec.ofNat 32 y.val) 0#32) (BitVec.ofNat 32 x.val))
      (Ideal.exp (∑ c : Fin 128, T.Q h (j + y) c * T.K (j + x) c - T.C h (j + x) - T.L h (j + y)) * z) 0 = pr T h (j + y) (j + x) * z := by
  rw [← mask_pr T h j hw x y]
  simp only [Scalar.select]
  split
  · rfl
  · rw [zero_mul]

/-- The same, times two numbers. -/
theorem mask_mul2 (T : Tabs) (h j : ℕ) {w : ℕ} (hw : w ≤ 1024) (x : Fin 256) (y : Fin w) (z z' : EReal) :
    Scalar.select (IntOp.cmpi .sge (IntOp.addi (BitVec.ofNat 32 y.val) 0#32) (BitVec.ofNat 32 x.val))
      (Ideal.exp (∑ c : Fin 128, T.Q h (j + y) c * T.K (j + x) c - T.C h (j + x) - T.L h (j + y)) * z * z') 0
        = pr T h (j + y) (j + x) * z * z' := by
  rw [← mask_mul T h j hw x y]
  simp only [Scalar.select]
  split
  · rfl
  · rw [zero_mul]

/-- Where a block of key rows is. -/
theorem off84 (k : Fin k0_t17_loop.trips) : k0_off84 k 0#32 = ![1024 * k.val, 0] ∧ k0_off84 k 1#32 = ![1024 * k.val + 256, 0]
    ∧ k0_off84 k 2#32 = ![1024 * k.val + 512, 0] ∧ k0_off84 k 3#32 = ![1024 * k.val + 768, 0] :=
  ⟨k0_off84_eq k 0, k0_off84_eq k 1, k0_off84_eq k 2, k0_off84_eq k 3⟩

/-- Where its entries of the first head's row are. -/
theorem off86 (k : Fin k0_t17_loop.trips) : k0_off86 k 0#32 = ![0, 0, 1024 * k.val] ∧ k0_off86 k 1#32 = ![0, 0, 1024 * k.val + 256]
    ∧ k0_off86 k 2#32 = ![0, 0, 1024 * k.val + 512] ∧ k0_off86 k 3#32 = ![0, 0, 1024 * k.val + 768] :=
  ⟨k0_off86_eq k 0, k0_off86_eq k 1, k0_off86_eq k 2, k0_off86_eq k 3⟩

/-- Where those of the second's are. -/
theorem off89 (k : Fin k0_t17_loop.trips) : k0_off89 k 0#32 = ![1, 0, 1024 * k.val] ∧ k0_off89 k 1#32 = ![1, 0, 1024 * k.val + 256]
    ∧ k0_off89 k 2#32 = ![1, 0, 1024 * k.val + 512] ∧ k0_off89 k 3#32 = ![1, 0, 1024 * k.val + 768] :=
  ⟨k0_off89_eq k 0, k0_off89_eq k 1, k0_off89_eq k 2, k0_off89_eq k 3⟩

/-- The diagonal tile gives the carried gradients their first values. -/
theorem Col.init {T : Tabs} {E : ℕ → ℕ → EReal} {j g w : ℕ} (hj : j + w = 1024 * g + 1024) {K V : FVec Ideal S256x128 .f32} {A B : FVec Ideal S1x256 .f32}
    (hK : ∀ (x : Fin 256) (d : Fin 128), K (ix2 x d) = ∑ y : Fin w, ds T E 0 (j + y) (j + x) * T.Q 0 (j + y) d + ∑ y : Fin w, ds T E 1 (j + y) (j + x) * T.Q 1 (j + y) d)
    (hV : ∀ (x : Fin 256) (d : Fin 128), V (ix2 x d) = ∑ y : Fin w, pr T 0 (j + y) (j + x) * T.D 0 (j + y) d + ∑ y : Fin w, pr T 1 (j + y) (j + x) * T.D 1 (j + y) d)
    (hA : ∀ x : Fin 256, A (ix2 0 x) = 0 - ∑ y : Fin w, ds T E 0 (j + y) (j + x))
    (hB : ∀ x : Fin 256, B (ix2 0 x) = 0 - ∑ y : Fin w, ds T E 1 (j + y) (j + x)) : Col T E j g 0 (K, V, A, B) := by
  refine ⟨fun x d => (hK x d).trans ?_, fun x d => (hV x d).trans ?_, fun x => (hA x).trans ?_, fun x => (hB x).trans ?_⟩
  · have := dkS_add T E (j + x) d j j w le_rfl
    rwa [dkS, Finset.Ico_self, Finset.sum_empty, zero_add, hj] at this
  · have := dvS_add T (j + x) d j j w le_rfl
    rwa [dvS, Finset.Ico_self, Finset.sum_empty, zero_add, hj] at this
  · rw [dcS, dsS, ← hj, ← sum_tile]
  · rw [dcS, dsS, ← hj, ← sum_tile]

/-- When all the query groups are done the carried gradients are the tables'. -/
theorem Col.out {T : Tabs} {E : ℕ → ℕ → EReal} {j g n r : ℕ}
    {acc : FVec Ideal S256x128 .f32 × FVec Ideal S256x128 .f32 × FVec Ideal S1x256 .f32 × FVec Ideal S1x256 .f32} (h : Col T E j g n acc)
    (hj : j = 1024 * g + 256 * r) (hr : r < 4) (hg : g < 4) (hn : n = 3 - g) :
    (∀ (x : Fin 256) (d : Fin 128), acc.1 (ix2 x d) = dkT T E (j + x) d) ∧ (∀ (x : Fin 256) (d : Fin 128), acc.2.1 (ix2 x d) = dvT T (j + x) d)
      ∧ (∀ x : Fin 256, acc.2.2.1 (ix2 0 x) = dcT T E 0 (j + x)) ∧ (∀ x : Fin 256, acc.2.2.2 (ix2 0 x) = dcT T E 1 (j + x)) := by
  have a (x : Fin 256) : 256 * ((j + x.val) / 256) = j := by omega
  have b (x : Fin 256) : (j + x.val) / 1024 = g := by omega
  have e : 1024 * g + 1024 + 1024 * n = 4096 := by omega
  refine ⟨fun x d => ?_, fun x d => ?_, fun x => ?_, fun x => ?_⟩
  · rw [h.k, dkT, a, e]
  · rw [h.v, dvT, a, e]
  · rw [h.a, dcT, a, b, hn]
  · rw [h.b, dcT, a, b, hn]

/-- One group's four stores of key rows. -/
theorem rows_pieces {G : ℕ → ℕ → EReal} {M : Memref sig .tc .vmem S4096x128 .f32} {f : BufTy.Contents (Elt Ideal) M.view.ty} (k : Fin k0_t17_loop.trips)
    (hf : ∀ y : S4096x128.Idx, (y 0).val < 1024 * k.val → M.view.read (Elt Ideal) f y = G (y 0).val (y 1).val)
    {w3 w2 w1 w0 : Vec Ideal S256x128 .f32}
    {i3 : ∀ a, k0_off84 k 3#32 a + (![256, 128] : Fin 2 → ℕ) a ≤ S4096x128.size a} {i2 : ∀ a, k0_off84 k 2#32 a + (![256, 128] : Fin 2 → ℕ) a ≤ S4096x128.size a} {i1 : ∀ a, k0_off84 k 1#32 a + (![256, 128] : Fin 2 → ℕ) a ≤ S4096x128.size a} {i0 : ∀ a, k0_off84 k 0#32 a + (![256, 128] : Fin 2 → ℕ) a ≤ S4096x128.size a}
    (h3 : ∀ (x : Fin 256) (d : Fin 128), w3 (ix2 x d) = G (1024 * k.val + 768 + x.val) d.val) (h2 : ∀ (x : Fin 256) (d : Fin 128), w2 (ix2 x d) = G (1024 * k.val + 512 + x.val) d.val) (h1 : ∀ (x : Fin 256) (d : Fin 128), w1 (ix2 x d) = G (1024 * k.val + 256 + x.val) d.val) (h0 : ∀ (x : Fin 256) (d : Fin 128), w0 (ix2 x d) = G (1024 * k.val + x.val) d.val)
    (y : S4096x128.Idx) (hy : (y 0).val < 1024 * (k.val + 1)) :
    M.view.read (Elt Ideal) (M.view.writes (Elt Ideal) f [⟨Rect.unit (s := S4096x128) (k0_off84 k 3#32) ![256, 128] i3, w3⟩, ⟨Rect.unit (s := S4096x128) (k0_off84 k 2#32) ![256, 128] i2, w2⟩, ⟨Rect.unit (s := S4096x128) (k0_off84 k 1#32) ![256, 128] i1, w1⟩, ⟨Rect.unit (s := S4096x128) (k0_off84 k 0#32) ![256, 128] i0, w0⟩]) y
      = G (y 0).val (y 1).val := by
  by_cases hlt : (y 0).val < 1024 * k.val
  · rw [View.read_writes_apply_of_forall_not_mem]
    · exact hf y hlt
    · simp only [List.forall_mem_cons, mem_set2]
      simp only [off84 k, Matrix.cons_val]
      exact ⟨by omega, by omega, by omega, by omega, fun _ h => absurd h List.not_mem_nil⟩
  · refine View.read_writes_apply_of_pieces (s := S4096x128) (e := .f32) M.view f (fun y => G (y 0).val (y 1).val) _ ?_ y ?_
    · simp only [List.forall_mem_cons]
      refine ⟨piece2 G fun i j => ?_, piece2 G fun i j => ?_, piece2 G fun i j => ?_, piece2 G fun i j => ?_, fun _ h => absurd h List.not_mem_nil⟩
      all_goals simp only [off84 k, Matrix.cons_val, Nat.zero_add]
      exacts [h3 i j, h2 i j, h1 i j, h0 i j]
    · have h1 : (y 1).val < 128 := (y 1).isLt
      simp only [List.exists_mem_cons_iff, mem_set2, off84 k, Matrix.cons_val]
      omega

/-- One group's eight stores of the cumulative gate's entries. -/
theorem cums_pieces {G : ℕ → ℕ → EReal} {M : Memref sig .tc .vmem S2x1x4096 .f32} {f : BufTy.Contents (Elt Ideal) M.view.ty} (k : Fin k0_t17_loop.trips)
    (hf : ∀ y : S2x1x4096.Idx, (y 2).val < 1024 * k.val → M.view.read (Elt Ideal) f y = G (y 0).val (y 2).val)
    {w13 w03 w12 w02 w11 w01 w10 w00 : Vec Ideal S1x1x256 .f32}
    {i13 : ∀ a, k0_off89 k 3#32 a + (![1, 1, 256] : Fin 3 → ℕ) a ≤ S2x1x4096.size a} {i03 : ∀ a, k0_off86 k 3#32 a + (![1, 1, 256] : Fin 3 → ℕ) a ≤ S2x1x4096.size a} {i12 : ∀ a, k0_off89 k 2#32 a + (![1, 1, 256] : Fin 3 → ℕ) a ≤ S2x1x4096.size a} {i02 : ∀ a, k0_off86 k 2#32 a + (![1, 1, 256] : Fin 3 → ℕ) a ≤ S2x1x4096.size a} {i11 : ∀ a, k0_off89 k 1#32 a + (![1, 1, 256] : Fin 3 → ℕ) a ≤ S2x1x4096.size a} {i01 : ∀ a, k0_off86 k 1#32 a + (![1, 1, 256] : Fin 3 → ℕ) a ≤ S2x1x4096.size a} {i10 : ∀ a, k0_off89 k 0#32 a + (![1, 1, 256] : Fin 3 → ℕ) a ≤ S2x1x4096.size a} {i00 : ∀ a, k0_off86 k 0#32 a + (![1, 1, 256] : Fin 3 → ℕ) a ≤ S2x1x4096.size a}
    (h13 : ∀ x : Fin 256, w13 (ix3 0 0 x) = G 1 (1024 * k.val + 768 + x.val))
    (h03 : ∀ x : Fin 256, w03 (ix3 0 0 x) = G 0 (1024 * k.val + 768 + x.val))
    (h12 : ∀ x : Fin 256, w12 (ix3 0 0 x) = G 1 (1024 * k.val + 512 + x.val))
    (h02 : ∀ x : Fin 256, w02 (ix3 0 0 x) = G 0 (1024 * k.val + 512 + x.val))
    (h11 : ∀ x : Fin 256, w11 (ix3 0 0 x) = G 1 (1024 * k.val + 256 + x.val))
    (h01 : ∀ x : Fin 256, w01 (ix3 0 0 x) = G 0 (1024 * k.val + 256 + x.val))
    (h10 : ∀ x : Fin 256, w10 (ix3 0 0 x) = G 1 (1024 * k.val + x.val))
    (h00 : ∀ x : Fin 256, w00 (ix3 0 0 x) = G 0 (1024 * k.val + x.val))
    (y : S2x1x4096.Idx) (hy : (y 2).val < 1024 * (k.val + 1)) :
    M.view.read (Elt Ideal) (M.view.writes (Elt Ideal) f [
      ⟨Rect.unit (s := S2x1x4096) (k0_off89 k 3#32) ![1, 1, 256] i13, w13⟩,
      ⟨Rect.unit (s := S2x1x4096) (k0_off86 k 3#32) ![1, 1, 256] i03, w03⟩,
      ⟨Rect.unit (s := S2x1x4096) (k0_off89 k 2#32) ![1, 1, 256] i12, w12⟩,
      ⟨Rect.unit (s := S2x1x4096) (k0_off86 k 2#32) ![1, 1, 256] i02, w02⟩,
      ⟨Rect.unit (s := S2x1x4096) (k0_off89 k 1#32) ![1, 1, 256] i11, w11⟩,
      ⟨Rect.unit (s := S2x1x4096) (k0_off86 k 1#32) ![1, 1, 256] i01, w01⟩,
      ⟨Rect.unit (s := S2x1x4096) (k0_off89 k 0#32) ![1, 1, 256] i10, w10⟩,
      ⟨Rect.unit (s := S2x1x4096) (k0_off86 k 0#32) ![1, 1, 256] i00, w00⟩]) y = G (y 0).val (y 2).val := by
  by_cases hlt : (y 2).val < 1024 * k.val
  · rw [View.read_writes_apply_of_forall_not_mem]
    · exact hf y hlt
    · simp only [List.forall_mem_cons, mem_set3]
      simp only [off86 k, off89 k, Matrix.cons_val]
      exact ⟨by omega, by omega, by omega, by omega, by omega, by omega, by omega, by omega, fun _ h => absurd h List.not_mem_nil⟩
  · refine View.read_writes_apply_of_pieces (s := S2x1x4096) (e := .f32) M.view f (fun y => G (y 0).val (y 2).val) _ ?_ y ?_
    · simp only [List.forall_mem_cons]
      refine ⟨piece3 (fun a _ c => G a c) fun i j x => ?_, piece3 (fun a _ c => G a c) fun i j x => ?_, piece3 (fun a _ c => G a c) fun i j x => ?_, piece3 (fun a _ c => G a c) fun i j x => ?_, piece3 (fun a _ c => G a c) fun i j x => ?_, piece3 (fun a _ c => G a c) fun i j x => ?_, piece3 (fun a _ c => G a c) fun i j x => ?_, piece3 (fun a _ c => G a c) fun i j x => ?_, fun _ h => absurd h List.not_mem_nil⟩
      all_goals
        obtain ⟨rfl, rfl⟩ : i = 0 ∧ j = 0 := ⟨Subsingleton.elim _ _, Subsingleton.elim _ _⟩
        simp only [off86 k, off89 k, Matrix.cons_val, Fin.val_zero, Nat.add_zero]
      exacts [h13 x, h03 x, h12 x, h02 x, h11 x, h01 x, h10 x, h00 x]
    · have h0 : (y 0).val < 2 := (y 0).isLt
      have h1 : (y 1).val < 1 := (y 1).isLt
      simp only [List.exists_mem_cons_iff, mem_set3, off86 k, off89 k, Matrix.cons_val]
      omega

/-- The row count may be spelled otherwise. -/
theorem DQ.cast {T : Tabs} {E : ℕ → ℕ → EReal} {M : ℕ → BitVec 1} {v7 : View sig .tc .vmem S4096x128 .f32} {z : ℕ → ℕ → EReal} {B b b' : ℕ}
    {f : v7.ty.Contents (Elt Ideal)} (h : DQ T E M v7 z B b f) (e : b = b') : DQ T E M v7 z B b' f := e ▸ h

/-- The loop over the groups of key rows: it reads these and the row sums, and writes the four results. -/
abbrev inv17 (c : Dev nD) (arg4 : Memref sig .tc .vmem S2x1x4096 .f32) (arg5 : Memref sig .tc .vmem S2x4096x1 .f32) (arg7 : Memref sig .tc .vmem S4096x128 .f32) (arg8 : Memref sig .tc .vmem S4096x128 .f32) (arg9 : Memref sig .tc .vmem S4096x128 .f32) (arg10 : Memref sig .tc .vmem S2x1x4096 .f32) (arg11 : Memref sig .tc .vmem S2x4096x128 .bf16) (arg12 : Memref sig .tc .vmem S2x4096x128 .bf16) (arg13 : Memref sig .tc .vmem S4096x128 .bf16) (arg14 : Memref sig .tc .vmem S4096x128 .bf16) (arg15 : Memref sig .tc .vmem S2x4096x1 .f32) (v26 : IVec S1x128 1) (X4 : BufTy.Contents (Elt Ideal) arg4.view.ty) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X7 : BufTy.Contents (Elt Ideal) arg7.view.ty) (k : ℕ) (acc : Unit) : sProp 𝕄 :=
  iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, ⌜from0 k X7 f = f⌝ ∗ ⌜Grows (tabs arg4.view arg5.view arg11.view arg12.view arg13.view arg14.view X4 X5 X11 X12 X13 X14) (sums arg15.view X15) (lane v26) arg7.view True (fun n => 4 * n) (fun _ => 0) (0, X7) (k, f)⌝ ∗ (arg7.view.loc (c : Thread nD τ) ↦[arg7.view.set]{fullShare} f)) ∗ (∃ f, ⌜∀ y : S4096x128.Idx, (y 0).val < 1024 * k → arg8.view.read (Elt Ideal) f y = dkT (tabs arg4.view arg5.view arg11.view arg12.view arg13.view arg14.view X4 X5 X11 X12 X13 X14) (sums arg15.view X15) (y 0).val (y 1).val⌝ ∗ (arg8.view.loc (c : Thread nD τ) ↦[arg8.view.set]{fullShare} f)) ∗ (∃ f, ⌜∀ y : S4096x128.Idx, (y 0).val < 1024 * k → arg9.view.read (Elt Ideal) f y = dvT (tabs arg4.view arg5.view arg11.view arg12.view arg13.view arg14.view X4 X5 X11 X12 X13 X14) (y 0).val (y 1).val⌝ ∗ (arg9.view.loc (c : Thread nD τ) ↦[arg9.view.set]{fullShare} f)) ∗ (∃ f, ⌜∀ y : S2x1x4096.Idx, (y 2).val < 1024 * k → arg10.view.read (Elt Ideal) f y = dcT (tabs arg4.view arg5.view arg11.view arg12.view arg13.view arg14.view X4 X5 X11 X12 X13 X14) (sums arg15.view X15) (y 0).val (y 2).val⌝ ∗ (arg10.view.loc (c : Thread nD τ) ↦[arg10.view.set]{fullShare} f)))

set_option maxHeartbeats 4000000 in
set_option warn.classDefReducibility false in
/-- That loop by its invariant. -/
@[sl_loop] def loopInv17 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (X4 : BufTy.Contents (Elt Ideal) arg4.view.ty) (X5 : BufTy.Contents (Elt Ideal) arg5.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X7 : BufTy.Contents (Elt Ideal) arg7.view.ty) :
    LoopInvTy_k0_t17 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 where
  inv := inv17 c arg4 arg5 arg7 arg8 arg9 arg10 arg11 arg12 arg13 arg14 arg15 v26 X4 X5 X11 X12 X13 X14 X15 X7
  step k acc := by
    unfold k0_t17_body
    iintro ⟨H4, H5, H11, H12, H13, H14, H15, ⟨%f7, %h7, %hq, H7⟩, ⟨%f8, %h8, H8⟩, ⟨%f9, %h9, H9⟩, ⟨%f10, %h10, H10⟩⟩
    sl_exec
    rename_i A0 A1 A2 A3
    have hr := @reads_tabs arg4.view arg5.view arg11.view arg12.view arg13.view arg14.view X4 X5 X11 X12 X13 X14
    have hE := @sums_read arg15.view X15
    have hM := @lane_read v26
    have hk : k.val < 4 := lt_of_lt_of_eq k.isLt (by decide +kernel)
    have C0 := hL10 (by
      clear hL9 hL29 hL49 hL69 h8 h9 h10 hq
      generalize tabs arg4.view arg5.view arg11.view arg12.view arg13.view arg14.view X4 X5 X11 X12 X13 X14 = T at hr ⊢
      generalize sums arg15.view X15 = Es at hE ⊢
      refine Col.init (w := 1024) (by omega) (fun x d => ?_) (fun x d => ?_) (fun x => ?_) (fun x => ?_)
      all_goals
        try unfold loopInv17.sl.r_60
        try unfold loopInv17.sl.r_59
        try unfold loopInv17.sl.r_58
        try unfold loopInv17.sl.r_57
        try unfold loopInv17.sl.r_56
        try unfold loopInv17.sl.r_55
        try unfold loopInv17.sl.r_54
        try unfold loopInv17.sl.r_53
        try unfold loopInv17.sl.r_52
        try unfold loopInv17.sl.r_51
        try unfold loopInv17.sl.r_50
        try unfold loopInv17.sl.r_49
        try unfold loopInv17.sl.r_48
        try unfold loopInv17.sl.r_47
        try unfold loopInv17.sl.r_46
        try unfold loopInv17.sl.r_45
        try unfold loopInv17.sl.r_44
        try unfold loopInv17.sl.r_43
        try unfold loopInv17.sl.r_42
        try unfold loopInv17.sl.r_41
        try unfold loopInv17.sl.r_40
        try unfold loopInv17.sl.r_39
        try unfold loopInv17.sl.r_38
        try unfold loopInv17.sl.r_37
        try unfold loopInv17.sl.r_36
        try unfold loopInv17.sl.r_35
        try unfold loopInv17.sl.r_34
        try unfold loopInv17.sl.r_33
        try unfold loopInv17.sl.r_32
        try unfold loopInv17.sl.r_31
        try unfold loopInv17.sl.r_30
        try unfold loopInv17.sl.r_29
        try unfold loopInv17.sl.r_28
        try unfold loopInv17.sl.r_27
        try unfold loopInv17.sl.r_26
        try unfold loopInv17.sl.r_25
        try unfold loopInv17.sl.r_24
        try unfold loopInv17.sl.r_23
        try unfold loopInv17.sl.r_22
        try unfold loopInv17.sl.r_21
        try unfold loopInv17.sl.r_20
        try unfold loopInv17.sl.r_19
        try unfold loopInv17.sl.r_18
        try unfold loopInv17.sl.r_17
        try unfold loopInv17.sl.r_16
        try unfold loopInv17.sl.r_15
        try unfold loopInv17.sl.r_14
        try unfold loopInv17.sl.r_13
        try unfold loopInv17.sl.r_12
        try unfold loopInv17.sl.r_11
        try unfold loopInv17.sl.r_10
        try unfold loopInv17.sl.r_9
        try unfold loopInv17.sl.r_8
        try unfold loopInv17.sl.r_7
        try unfold loopInv17.sl.r_6
        try unfold loopInv17.sl.r_5
        try unfold loopInv17.sl.r_4
        try unfold loopInv17.sl.r_3
        try unfold loopInv17.sl.r_2
        try unfold loopInv17.sl.r_1
        try unfold loopInv17.sl.r
        try unfold loopInv17.sl.v140
        try unfold loopInv17.sl.cst_234
        unfold_payloads
        pointwise [ds, dp]
        simp only [hr.ldK, hr.ldV, hr.ldQ, hr.ldD, hr.ldC, hr.ldL, ldE hE, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
        simp only [mask_mul2 _ _ _ (show 1024 ≤ 1024 by decide), mask_mul _ _ _ (show 1024 ≤ 1024 by decide), mask_pr _ _ _ (show 1024 ≤ 1024 by decide)])
    have C0 := C0.out (r := 0) (by omega) (by omega) hk ((by decide +kernel : ∀ g : Fin k0_t17_loop.trips, (k0_t18_loop g).trips = 3 - g.val) k)
    have C1 := hL30 (by
      clear hL9 hL29 hL49 hL69 h8 h9 h10 hq
      generalize tabs arg4.view arg5.view arg11.view arg12.view arg13.view arg14.view X4 X5 X11 X12 X13 X14 = T at hr ⊢
      generalize sums arg15.view X15 = Es at hE ⊢
      refine Col.init (w := 768) (by omega) (fun x d => ?_) (fun x d => ?_) (fun x => ?_) (fun x => ?_)
      all_goals
        try unfold loopInv17.sl.r_60
        try unfold loopInv17.sl.r_59
        try unfold loopInv17.sl.r_58
        try unfold loopInv17.sl.r_57
        try unfold loopInv17.sl.r_56
        try unfold loopInv17.sl.r_55
        try unfold loopInv17.sl.r_54
        try unfold loopInv17.sl.r_53
        try unfold loopInv17.sl.r_52
        try unfold loopInv17.sl.r_51
        try unfold loopInv17.sl.r_50
        try unfold loopInv17.sl.r_49
        try unfold loopInv17.sl.r_48
        try unfold loopInv17.sl.r_47
        try unfold loopInv17.sl.r_46
        try unfold loopInv17.sl.r_45
        try unfold loopInv17.sl.r_44
        try unfold loopInv17.sl.r_43
        try unfold loopInv17.sl.r_42
        try unfold loopInv17.sl.r_41
        try unfold loopInv17.sl.r_40
        try unfold loopInv17.sl.r_39
        try unfold loopInv17.sl.r_38
        try unfold loopInv17.sl.r_37
        try unfold loopInv17.sl.r_36
        try unfold loopInv17.sl.r_35
        try unfold loopInv17.sl.r_34
        try unfold loopInv17.sl.r_33
        try unfold loopInv17.sl.r_32
        try unfold loopInv17.sl.r_31
        try unfold loopInv17.sl.r_30
        try unfold loopInv17.sl.r_29
        try unfold loopInv17.sl.r_28
        try unfold loopInv17.sl.r_27
        try unfold loopInv17.sl.r_26
        try unfold loopInv17.sl.r_25
        try unfold loopInv17.sl.r_24
        try unfold loopInv17.sl.r_23
        try unfold loopInv17.sl.r_22
        try unfold loopInv17.sl.r_21
        try unfold loopInv17.sl.r_20
        try unfold loopInv17.sl.r_19
        try unfold loopInv17.sl.r_18
        try unfold loopInv17.sl.r_17
        try unfold loopInv17.sl.r_16
        try unfold loopInv17.sl.r_15
        try unfold loopInv17.sl.r_14
        try unfold loopInv17.sl.r_13
        try unfold loopInv17.sl.r_12
        try unfold loopInv17.sl.r_11
        try unfold loopInv17.sl.r_10
        try unfold loopInv17.sl.r_9
        try unfold loopInv17.sl.r_8
        try unfold loopInv17.sl.r_7
        try unfold loopInv17.sl.r_6
        try unfold loopInv17.sl.r_5
        try unfold loopInv17.sl.r_4
        try unfold loopInv17.sl.r_3
        try unfold loopInv17.sl.r_2
        try unfold loopInv17.sl.r_1
        try unfold loopInv17.sl.r
        try unfold loopInv17.sl.v140
        try unfold loopInv17.sl.cst_234
        unfold_payloads
        pointwise [ds, dp]
        simp only [hr.ldK, hr.ldV, hr.ldQ, hr.ldD, hr.ldC, hr.ldL, ldE hE, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
        simp only [mask_mul2 _ _ _ (show 768 ≤ 1024 by decide), mask_mul _ _ _ (show 768 ≤ 1024 by decide), mask_pr _ _ _ (show 768 ≤ 1024 by decide)])
    have C1 := C1.out (r := 1) (by omega) (by omega) hk ((by decide +kernel : ∀ g : Fin k0_t17_loop.trips, (k0_t20_loop g).trips = 3 - g.val) k)
    have C2 := hL50 (by
      clear hL9 hL29 hL49 hL69 h8 h9 h10 hq
      generalize tabs arg4.view arg5.view arg11.view arg12.view arg13.view arg14.view X4 X5 X11 X12 X13 X14 = T at hr ⊢
      generalize sums arg15.view X15 = Es at hE ⊢
      refine Col.init (w := 512) (by omega) (fun x d => ?_) (fun x d => ?_) (fun x => ?_) (fun x => ?_)
      all_goals
        try unfold loopInv17.sl.r_60
        try unfold loopInv17.sl.r_59
        try unfold loopInv17.sl.r_58
        try unfold loopInv17.sl.r_57
        try unfold loopInv17.sl.r_56
        try unfold loopInv17.sl.r_55
        try unfold loopInv17.sl.r_54
        try unfold loopInv17.sl.r_53
        try unfold loopInv17.sl.r_52
        try unfold loopInv17.sl.r_51
        try unfold loopInv17.sl.r_50
        try unfold loopInv17.sl.r_49
        try unfold loopInv17.sl.r_48
        try unfold loopInv17.sl.r_47
        try unfold loopInv17.sl.r_46
        try unfold loopInv17.sl.r_45
        try unfold loopInv17.sl.r_44
        try unfold loopInv17.sl.r_43
        try unfold loopInv17.sl.r_42
        try unfold loopInv17.sl.r_41
        try unfold loopInv17.sl.r_40
        try unfold loopInv17.sl.r_39
        try unfold loopInv17.sl.r_38
        try unfold loopInv17.sl.r_37
        try unfold loopInv17.sl.r_36
        try unfold loopInv17.sl.r_35
        try unfold loopInv17.sl.r_34
        try unfold loopInv17.sl.r_33
        try unfold loopInv17.sl.r_32
        try unfold loopInv17.sl.r_31
        try unfold loopInv17.sl.r_30
        try unfold loopInv17.sl.r_29
        try unfold loopInv17.sl.r_28
        try unfold loopInv17.sl.r_27
        try unfold loopInv17.sl.r_26
        try unfold loopInv17.sl.r_25
        try unfold loopInv17.sl.r_24
        try unfold loopInv17.sl.r_23
        try unfold loopInv17.sl.r_22
        try unfold loopInv17.sl.r_21
        try unfold loopInv17.sl.r_20
        try unfold loopInv17.sl.r_19
        try unfold loopInv17.sl.r_18
        try unfold loopInv17.sl.r_17
        try unfold loopInv17.sl.r_16
        try unfold loopInv17.sl.r_15
        try unfold loopInv17.sl.r_14
        try unfold loopInv17.sl.r_13
        try unfold loopInv17.sl.r_12
        try unfold loopInv17.sl.r_11
        try unfold loopInv17.sl.r_10
        try unfold loopInv17.sl.r_9
        try unfold loopInv17.sl.r_8
        try unfold loopInv17.sl.r_7
        try unfold loopInv17.sl.r_6
        try unfold loopInv17.sl.r_5
        try unfold loopInv17.sl.r_4
        try unfold loopInv17.sl.r_3
        try unfold loopInv17.sl.r_2
        try unfold loopInv17.sl.r_1
        try unfold loopInv17.sl.r
        try unfold loopInv17.sl.v140
        try unfold loopInv17.sl.cst_234
        unfold_payloads
        pointwise [ds, dp]
        simp only [hr.ldK, hr.ldV, hr.ldQ, hr.ldD, hr.ldC, hr.ldL, ldE hE, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
        simp only [mask_mul2 _ _ _ (show 512 ≤ 1024 by decide), mask_mul _ _ _ (show 512 ≤ 1024 by decide), mask_pr _ _ _ (show 512 ≤ 1024 by decide)])
    have C2 := C2.out (r := 2) (by omega) (by omega) hk ((by decide +kernel : ∀ g : Fin k0_t17_loop.trips, (k0_t22_loop g).trips = 3 - g.val) k)
    have C3 := hL70 (by
      clear hL9 hL29 hL49 hL69 h8 h9 h10 hq
      generalize tabs arg4.view arg5.view arg11.view arg12.view arg13.view arg14.view X4 X5 X11 X12 X13 X14 = T at hr ⊢
      generalize sums arg15.view X15 = Es at hE ⊢
      refine Col.init (w := 256) (by omega) (fun x d => ?_) (fun x d => ?_) (fun x => ?_) (fun x => ?_)
      all_goals
        try unfold loopInv17.sl.r_60
        try unfold loopInv17.sl.r_59
        try unfold loopInv17.sl.r_58
        try unfold loopInv17.sl.r_57
        try unfold loopInv17.sl.r_56
        try unfold loopInv17.sl.r_55
        try unfold loopInv17.sl.r_54
        try unfold loopInv17.sl.r_53
        try unfold loopInv17.sl.r_52
        try unfold loopInv17.sl.r_51
        try unfold loopInv17.sl.r_50
        try unfold loopInv17.sl.r_49
        try unfold loopInv17.sl.r_48
        try unfold loopInv17.sl.r_47
        try unfold loopInv17.sl.r_46
        try unfold loopInv17.sl.r_45
        try unfold loopInv17.sl.r_44
        try unfold loopInv17.sl.r_43
        try unfold loopInv17.sl.r_42
        try unfold loopInv17.sl.r_41
        try unfold loopInv17.sl.r_40
        try unfold loopInv17.sl.r_39
        try unfold loopInv17.sl.r_38
        try unfold loopInv17.sl.r_37
        try unfold loopInv17.sl.r_36
        try unfold loopInv17.sl.r_35
        try unfold loopInv17.sl.r_34
        try unfold loopInv17.sl.r_33
        try unfold loopInv17.sl.r_32
        try unfold loopInv17.sl.r_31
        try unfold loopInv17.sl.r_30
        try unfold loopInv17.sl.r_29
        try unfold loopInv17.sl.r_28
        try unfold loopInv17.sl.r_27
        try unfold loopInv17.sl.r_26
        try unfold loopInv17.sl.r_25
        try unfold loopInv17.sl.r_24
        try unfold loopInv17.sl.r_23
        try unfold loopInv17.sl.r_22
        try unfold loopInv17.sl.r_21
        try unfold loopInv17.sl.r_20
        try unfold loopInv17.sl.r_19
        try unfold loopInv17.sl.r_18
        try unfold loopInv17.sl.r_17
        try unfold loopInv17.sl.r_16
        try unfold loopInv17.sl.r_15
        try unfold loopInv17.sl.r_14
        try unfold loopInv17.sl.r_13
        try unfold loopInv17.sl.r_12
        try unfold loopInv17.sl.r_11
        try unfold loopInv17.sl.r_10
        try unfold loopInv17.sl.r_9
        try unfold loopInv17.sl.r_8
        try unfold loopInv17.sl.r_7
        try unfold loopInv17.sl.r_6
        try unfold loopInv17.sl.r_5
        try unfold loopInv17.sl.r_4
        try unfold loopInv17.sl.r_3
        try unfold loopInv17.sl.r_2
        try unfold loopInv17.sl.r_1
        try unfold loopInv17.sl.r
        try unfold loopInv17.sl.v140
        try unfold loopInv17.sl.cst_234
        unfold_payloads
        pointwise [ds, dp]
        simp only [hr.ldK, hr.ldV, hr.ldQ, hr.ldD, hr.ldC, hr.ldL, ldE hE, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
        simp only [mask_mul2 _ _ _ (show 256 ≤ 1024 by decide), mask_mul _ _ _ (show 256 ≤ 1024 by decide), mask_pr _ _ _ (show 256 ≤ 1024 by decide)])
    have C3 := C3.out (r := 3) (by omega) (by omega) hk ((by decide +kernel : ∀ g : Fin k0_t17_loop.trips, (k0_t24_loop g).trips = 3 - g.val) k)
    sl_step
    isplitl [H4]; · iexact H4
    isplitl [H5]; · iexact H5
    isplitl [H11]; · iexact H11
    isplitl [H12]; · iexact H12
    isplitl [H13]; · iexact H13
    isplitl [H14]; · iexact H14
    isplitl [H15]; · iexact H15
    isplitl [H7]
    · iexists _; isplitr
      rotate_left; isplitr
      rotate_left
      · iexact H7
      · ipureintro; rfl
      · ipureintro
        intro _ z hz
        have Q : DQ _ _ _ _ z (4 * k.val) 0 f7 := hq trivial z hz
        have D0 : DQ _ _ _ _ z (4 * k.val) _ fL0 := hL9 (fun x d => by
          show loopInv17.sl.r _ _ _ _ = _
          unfold loopInv17.sl.r
          simp only [hr.ldK, off84 k, Matrix.cons_val, Nat.zero_add]) z (by
          show DQ _ _ _ _ z (4 * k.val) (1024 * k.val + 1024) _
          refine (DQ.step (w := 1024) (j := 1024 * k.val) (b := 1024 * k.val) ?_ (by omega) le_rfl (k0_off91_eq k) (fun x d => ?_)).cast (by omega)
          · exact Q.start.cast (by omega)
          clear hL9 hL29 hL49 hL69 h8 h9 h10 hq hL10 hL30 hL50 hL70
          try unfold loopInv17.sl.r_60
          try unfold loopInv17.sl.r_59
          try unfold loopInv17.sl.r_58
          try unfold loopInv17.sl.r_57
          try unfold loopInv17.sl.r_56
          try unfold loopInv17.sl.r_55
          try unfold loopInv17.sl.r_54
          try unfold loopInv17.sl.r_53
          try unfold loopInv17.sl.r_52
          try unfold loopInv17.sl.r_51
          try unfold loopInv17.sl.r_50
          try unfold loopInv17.sl.r_49
          try unfold loopInv17.sl.r_48
          try unfold loopInv17.sl.r_47
          try unfold loopInv17.sl.r_46
          try unfold loopInv17.sl.r_45
          try unfold loopInv17.sl.r_44
          try unfold loopInv17.sl.r_43
          try unfold loopInv17.sl.r_42
          try unfold loopInv17.sl.r_41
          try unfold loopInv17.sl.r_40
          try unfold loopInv17.sl.r_39
          try unfold loopInv17.sl.r_38
          try unfold loopInv17.sl.r_37
          try unfold loopInv17.sl.r_36
          try unfold loopInv17.sl.r_35
          try unfold loopInv17.sl.r_34
          try unfold loopInv17.sl.r_33
          try unfold loopInv17.sl.r_32
          try unfold loopInv17.sl.r_31
          try unfold loopInv17.sl.r_30
          try unfold loopInv17.sl.r_29
          try unfold loopInv17.sl.r_28
          try unfold loopInv17.sl.r_27
          try unfold loopInv17.sl.r_26
          try unfold loopInv17.sl.r_25
          try unfold loopInv17.sl.r_24
          try unfold loopInv17.sl.r_23
          try unfold loopInv17.sl.r_22
          try unfold loopInv17.sl.r_21
          try unfold loopInv17.sl.r_20
          try unfold loopInv17.sl.r_19
          try unfold loopInv17.sl.r_18
          try unfold loopInv17.sl.r_17
          try unfold loopInv17.sl.r_16
          try unfold loopInv17.sl.r_15
          try unfold loopInv17.sl.r_14
          try unfold loopInv17.sl.r_13
          try unfold loopInv17.sl.r_12
          try unfold loopInv17.sl.r_11
          try unfold loopInv17.sl.r_10
          try unfold loopInv17.sl.r_9
          try unfold loopInv17.sl.r_8
          try unfold loopInv17.sl.r_7
          try unfold loopInv17.sl.r_6
          try unfold loopInv17.sl.r_5
          try unfold loopInv17.sl.r_4
          try unfold loopInv17.sl.r_3
          try unfold loopInv17.sl.r_2
          try unfold loopInv17.sl.r_1
          try unfold loopInv17.sl.r
          try unfold loopInv17.sl.v140
          try unfold loopInv17.sl.cst_234
          unfold_payloads
          pointwise [dqB, ds, dp]
          simp only [hr.ldK, hr.ldV, hr.ldQ, hr.ldD, hr.ldC, hr.ldL, ldE hE, hM, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
          simp only [mask_mul2 _ _ _ (show 1024 ≤ 1024 by decide), mask_mul _ _ _ (show 1024 ≤ 1024 by decide), mask_pr _ _ _ (show 1024 ≤ 1024 by decide)])
        have D0 := DQ.finish (DQ.cast (b' := 4096) D0 (by
          show 1024 * k.val + 1024 + 1024 * (k0_t18_loop k).trips = 4096
          rw [(by decide +kernel : ∀ g : Fin k0_t17_loop.trips, (k0_t18_loop g).trips = 3 - g.val) k]
          omega))
        have D1 : DQ _ _ _ _ z (4 * k.val + 1) _ fL1 := hL29 (fun x d => by
          show loopInv17.sl.r_12 _ _ _ _ = _
          unfold loopInv17.sl.r_12
          simp only [hr.ldK, off84 k, Matrix.cons_val, Nat.zero_add]) z (by
          show DQ _ _ _ _ z (4 * k.val + 1) (1024 * k.val + 1024) _
          refine (DQ.step (w := 768) (j := 1024 * k.val + 256) (b := 1024 * k.val + 256) ?_ (by omega) le_rfl (k0_off112_eq k) (fun x d => ?_)).cast (by omega)
          · exact D0.start.cast (by omega)
          clear hL9 hL29 hL49 hL69 h8 h9 h10 hq hL10 hL30 hL50 hL70
          try unfold loopInv17.sl.r_60
          try unfold loopInv17.sl.r_59
          try unfold loopInv17.sl.r_58
          try unfold loopInv17.sl.r_57
          try unfold loopInv17.sl.r_56
          try unfold loopInv17.sl.r_55
          try unfold loopInv17.sl.r_54
          try unfold loopInv17.sl.r_53
          try unfold loopInv17.sl.r_52
          try unfold loopInv17.sl.r_51
          try unfold loopInv17.sl.r_50
          try unfold loopInv17.sl.r_49
          try unfold loopInv17.sl.r_48
          try unfold loopInv17.sl.r_47
          try unfold loopInv17.sl.r_46
          try unfold loopInv17.sl.r_45
          try unfold loopInv17.sl.r_44
          try unfold loopInv17.sl.r_43
          try unfold loopInv17.sl.r_42
          try unfold loopInv17.sl.r_41
          try unfold loopInv17.sl.r_40
          try unfold loopInv17.sl.r_39
          try unfold loopInv17.sl.r_38
          try unfold loopInv17.sl.r_37
          try unfold loopInv17.sl.r_36
          try unfold loopInv17.sl.r_35
          try unfold loopInv17.sl.r_34
          try unfold loopInv17.sl.r_33
          try unfold loopInv17.sl.r_32
          try unfold loopInv17.sl.r_31
          try unfold loopInv17.sl.r_30
          try unfold loopInv17.sl.r_29
          try unfold loopInv17.sl.r_28
          try unfold loopInv17.sl.r_27
          try unfold loopInv17.sl.r_26
          try unfold loopInv17.sl.r_25
          try unfold loopInv17.sl.r_24
          try unfold loopInv17.sl.r_23
          try unfold loopInv17.sl.r_22
          try unfold loopInv17.sl.r_21
          try unfold loopInv17.sl.r_20
          try unfold loopInv17.sl.r_19
          try unfold loopInv17.sl.r_18
          try unfold loopInv17.sl.r_17
          try unfold loopInv17.sl.r_16
          try unfold loopInv17.sl.r_15
          try unfold loopInv17.sl.r_14
          try unfold loopInv17.sl.r_13
          try unfold loopInv17.sl.r_12
          try unfold loopInv17.sl.r_11
          try unfold loopInv17.sl.r_10
          try unfold loopInv17.sl.r_9
          try unfold loopInv17.sl.r_8
          try unfold loopInv17.sl.r_7
          try unfold loopInv17.sl.r_6
          try unfold loopInv17.sl.r_5
          try unfold loopInv17.sl.r_4
          try unfold loopInv17.sl.r_3
          try unfold loopInv17.sl.r_2
          try unfold loopInv17.sl.r_1
          try unfold loopInv17.sl.r
          try unfold loopInv17.sl.v140
          try unfold loopInv17.sl.cst_234
          unfold_payloads
          pointwise [dqB, ds, dp]
          simp only [hr.ldK, hr.ldV, hr.ldQ, hr.ldD, hr.ldC, hr.ldL, ldE hE, hM, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
          simp only [mask_mul2 _ _ _ (show 768 ≤ 1024 by decide), mask_mul _ _ _ (show 768 ≤ 1024 by decide), mask_pr _ _ _ (show 768 ≤ 1024 by decide)])
        have D1 := DQ.finish (DQ.cast (b' := 4096) D1 (by
          show 1024 * k.val + 1024 + 1024 * (k0_t20_loop k).trips = 4096
          rw [(by decide +kernel : ∀ g : Fin k0_t17_loop.trips, (k0_t20_loop g).trips = 3 - g.val) k]
          omega))
        have D2 : DQ _ _ _ _ z (4 * k.val + 2) _ fL2 := hL49 (fun x d => by
          show loopInv17.sl.r_27 _ _ _ _ = _
          unfold loopInv17.sl.r_27
          simp only [hr.ldK, off84 k, Matrix.cons_val, Nat.zero_add]) z (by
          show DQ _ _ _ _ z (4 * k.val + 2) (1024 * k.val + 1024) _
          refine (DQ.step (w := 512) (j := 1024 * k.val + 512) (b := 1024 * k.val + 512) ?_ (by omega) le_rfl (k0_off133_eq k) (fun x d => ?_)).cast (by omega)
          · exact D1.start.cast (by omega)
          clear hL9 hL29 hL49 hL69 h8 h9 h10 hq hL10 hL30 hL50 hL70
          try unfold loopInv17.sl.r_60
          try unfold loopInv17.sl.r_59
          try unfold loopInv17.sl.r_58
          try unfold loopInv17.sl.r_57
          try unfold loopInv17.sl.r_56
          try unfold loopInv17.sl.r_55
          try unfold loopInv17.sl.r_54
          try unfold loopInv17.sl.r_53
          try unfold loopInv17.sl.r_52
          try unfold loopInv17.sl.r_51
          try unfold loopInv17.sl.r_50
          try unfold loopInv17.sl.r_49
          try unfold loopInv17.sl.r_48
          try unfold loopInv17.sl.r_47
          try unfold loopInv17.sl.r_46
          try unfold loopInv17.sl.r_45
          try unfold loopInv17.sl.r_44
          try unfold loopInv17.sl.r_43
          try unfold loopInv17.sl.r_42
          try unfold loopInv17.sl.r_41
          try unfold loopInv17.sl.r_40
          try unfold loopInv17.sl.r_39
          try unfold loopInv17.sl.r_38
          try unfold loopInv17.sl.r_37
          try unfold loopInv17.sl.r_36
          try unfold loopInv17.sl.r_35
          try unfold loopInv17.sl.r_34
          try unfold loopInv17.sl.r_33
          try unfold loopInv17.sl.r_32
          try unfold loopInv17.sl.r_31
          try unfold loopInv17.sl.r_30
          try unfold loopInv17.sl.r_29
          try unfold loopInv17.sl.r_28
          try unfold loopInv17.sl.r_27
          try unfold loopInv17.sl.r_26
          try unfold loopInv17.sl.r_25
          try unfold loopInv17.sl.r_24
          try unfold loopInv17.sl.r_23
          try unfold loopInv17.sl.r_22
          try unfold loopInv17.sl.r_21
          try unfold loopInv17.sl.r_20
          try unfold loopInv17.sl.r_19
          try unfold loopInv17.sl.r_18
          try unfold loopInv17.sl.r_17
          try unfold loopInv17.sl.r_16
          try unfold loopInv17.sl.r_15
          try unfold loopInv17.sl.r_14
          try unfold loopInv17.sl.r_13
          try unfold loopInv17.sl.r_12
          try unfold loopInv17.sl.r_11
          try unfold loopInv17.sl.r_10
          try unfold loopInv17.sl.r_9
          try unfold loopInv17.sl.r_8
          try unfold loopInv17.sl.r_7
          try unfold loopInv17.sl.r_6
          try unfold loopInv17.sl.r_5
          try unfold loopInv17.sl.r_4
          try unfold loopInv17.sl.r_3
          try unfold loopInv17.sl.r_2
          try unfold loopInv17.sl.r_1
          try unfold loopInv17.sl.r
          try unfold loopInv17.sl.v140
          try unfold loopInv17.sl.cst_234
          unfold_payloads
          pointwise [dqB, ds, dp]
          simp only [hr.ldK, hr.ldV, hr.ldQ, hr.ldD, hr.ldC, hr.ldL, ldE hE, hM, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
          simp only [mask_mul2 _ _ _ (show 512 ≤ 1024 by decide), mask_mul _ _ _ (show 512 ≤ 1024 by decide), mask_pr _ _ _ (show 512 ≤ 1024 by decide)])
        have D2 := DQ.finish (DQ.cast (b' := 4096) D2 (by
          show 1024 * k.val + 1024 + 1024 * (k0_t22_loop k).trips = 4096
          rw [(by decide +kernel : ∀ g : Fin k0_t17_loop.trips, (k0_t22_loop g).trips = 3 - g.val) k]
          omega))
        have D3 : DQ _ _ _ _ z (4 * k.val + 3) _ fL3 := hL69 (fun x d => by
          show loopInv17.sl.r_38 _ _ _ _ = _
          unfold loopInv17.sl.r_38
          simp only [hr.ldK, off84 k, Matrix.cons_val, Nat.zero_add]) z (by
          show DQ _ _ _ _ z (4 * k.val + 3) (1024 * k.val + 1024) _
          refine (DQ.step (w := 256) (j := 1024 * k.val + 768) (b := 1024 * k.val + 768) ?_ (by omega) le_rfl (off84 k).2.2.2 (fun x d => ?_)).cast (by omega)
          · exact D2.start.cast (by omega)
          clear hL9 hL29 hL49 hL69 h8 h9 h10 hq hL10 hL30 hL50 hL70
          try unfold loopInv17.sl.r_60
          try unfold loopInv17.sl.r_59
          try unfold loopInv17.sl.r_58
          try unfold loopInv17.sl.r_57
          try unfold loopInv17.sl.r_56
          try unfold loopInv17.sl.r_55
          try unfold loopInv17.sl.r_54
          try unfold loopInv17.sl.r_53
          try unfold loopInv17.sl.r_52
          try unfold loopInv17.sl.r_51
          try unfold loopInv17.sl.r_50
          try unfold loopInv17.sl.r_49
          try unfold loopInv17.sl.r_48
          try unfold loopInv17.sl.r_47
          try unfold loopInv17.sl.r_46
          try unfold loopInv17.sl.r_45
          try unfold loopInv17.sl.r_44
          try unfold loopInv17.sl.r_43
          try unfold loopInv17.sl.r_42
          try unfold loopInv17.sl.r_41
          try unfold loopInv17.sl.r_40
          try unfold loopInv17.sl.r_39
          try unfold loopInv17.sl.r_38
          try unfold loopInv17.sl.r_37
          try unfold loopInv17.sl.r_36
          try unfold loopInv17.sl.r_35
          try unfold loopInv17.sl.r_34
          try unfold loopInv17.sl.r_33
          try unfold loopInv17.sl.r_32
          try unfold loopInv17.sl.r_31
          try unfold loopInv17.sl.r_30
          try unfold loopInv17.sl.r_29
          try unfold loopInv17.sl.r_28
          try unfold loopInv17.sl.r_27
          try unfold loopInv17.sl.r_26
          try unfold loopInv17.sl.r_25
          try unfold loopInv17.sl.r_24
          try unfold loopInv17.sl.r_23
          try unfold loopInv17.sl.r_22
          try unfold loopInv17.sl.r_21
          try unfold loopInv17.sl.r_20
          try unfold loopInv17.sl.r_19
          try unfold loopInv17.sl.r_18
          try unfold loopInv17.sl.r_17
          try unfold loopInv17.sl.r_16
          try unfold loopInv17.sl.r_15
          try unfold loopInv17.sl.r_14
          try unfold loopInv17.sl.r_13
          try unfold loopInv17.sl.r_12
          try unfold loopInv17.sl.r_11
          try unfold loopInv17.sl.r_10
          try unfold loopInv17.sl.r_9
          try unfold loopInv17.sl.r_8
          try unfold loopInv17.sl.r_7
          try unfold loopInv17.sl.r_6
          try unfold loopInv17.sl.r_5
          try unfold loopInv17.sl.r_4
          try unfold loopInv17.sl.r_3
          try unfold loopInv17.sl.r_2
          try unfold loopInv17.sl.r_1
          try unfold loopInv17.sl.r
          try unfold loopInv17.sl.v140
          try unfold loopInv17.sl.cst_234
          unfold_payloads
          pointwise [dqB, ds, dp]
          simp only [hr.ldK, hr.ldV, hr.ldQ, hr.ldD, hr.ldC, hr.ldL, ldE hE, hM, off84 k, off86 k, off89 k, k0_off85_eq, k0_off87_eq, k0_off88_eq, k0_off90_eq, k0_off91_eq, k0_off93_eq, k0_off94_eq, k0_off97_eq, k0_off108_eq, k0_off109_eq, k0_off110_eq, k0_off111_eq, k0_off112_eq, k0_off129_eq, k0_off130_eq, k0_off131_eq, k0_off132_eq, k0_off133_eq, k0_off150_eq, k0_off151_eq, k0_off152_eq, k0_off153_eq, Matrix.cons_val, Nat.zero_add]
          simp only [mask_mul2 _ _ _ (show 256 ≤ 1024 by decide), mask_mul _ _ _ (show 256 ≤ 1024 by decide), mask_pr _ _ _ (show 256 ≤ 1024 by decide)])
        have D3 := DQ.finish (DQ.cast (b' := 4096) D3 (by
          show 1024 * k.val + 1024 + 1024 * (k0_t24_loop k).trips = 4096
          rw [(by decide +kernel : ∀ g : Fin k0_t17_loop.trips, (k0_t24_loop g).trips = 3 - g.val) k]
          omega))
        exact D3

    isplitl [H8]
    · iexists _; isplitr
      rotate_left
      · iexact H8
      ipureintro
      exact rows_pieces k h8 C3.1 C2.1 C1.1 C0.1

    isplitl [H9]
    · iexists _; isplitr
      rotate_left
      · iexact H9
      ipureintro
      exact rows_pieces k h9 C3.2.1 C2.2.1 C1.2.1 C0.2.1

    iexists _; isplitr
    rotate_left
    · iexact H10
    ipureintro
    refine cums_pieces k h10 (fun x => ?_) (fun x => ?_) (fun x => ?_) (fun x => ?_) (fun x => ?_) (fun x => ?_) (fun x => ?_) (fun x => ?_)
    · refine Eq.trans ?_ (C3.2.2.2 x); unfold_payloads; pointwise []
    · refine Eq.trans ?_ (C3.2.2.1 x); unfold_payloads; pointwise []
    · refine Eq.trans ?_ (C2.2.2.2 x); unfold_payloads; pointwise []
    · refine Eq.trans ?_ (C2.2.2.1 x); unfold_payloads; pointwise []
    · refine Eq.trans ?_ (C1.2.2.2 x); unfold loopInv17.sl.r_26; unfold_payloads; pointwise []
    · refine Eq.trans ?_ (C1.2.2.1 x); unfold loopInv17.sl.r_25; unfold_payloads; pointwise []
    · refine Eq.trans ?_ (C0.2.2.2 x); unfold_payloads; pointwise []
    · refine Eq.trans ?_ (C0.2.2.1 x); unfold_payloads; pointwise []

end Cert.AttnKernelIdeal.Math

end
-- ==== Proof.AttnRun.lean ====
/-
  The backward body's operand casts, its zeroed result, and with the two loops over groups the whole body: what its four
  results hold after it.
-/
module

public import proofs.«01_k».proof.Proof.AttnGroups

@[expose] public section

set_option maxRecDepth 65536

noncomputable section

namespace Cert.AttnKernelIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

local notation "𝕄" => MT nD τ sig Unit (Elt Ideal) ℕ (UR sig nD τ) ℕ

/-- The matrix a memref holds. -/
def mat {e : EltTy} (v : View sig .tc .vmem S4096x128 e) (X : v.ty.Contents (Elt Ideal)) (i d : ℕ) : Elt Ideal e :=
  v.read (Elt Ideal) X (ix2 (Fin.ofNat 4096 i) (Fin.ofNat 128 d))

theorem mat_read {e : EltTy} (v : View sig .tc .vmem S4096x128 e) (X : v.ty.Contents (Elt Ideal)) (y : (⟨2, ![4096, 128]⟩ : Shape).Idx) :
    v.read (Elt Ideal) X y = mat v X (y 0).val (y 1).val := by
  idx_vars y; simp [mat]

/-- A load of a block of it. -/
theorem ldM {e : EltTy} (v : View sig .tc .vmem S4096x128 e) (X : v.ty.Contents (Elt Ideal)) {w : ℕ} (off : Fin 2 → ℕ) (inb) (x : Fin w) (d : Fin 128) :
    v.readAt (Elt Ideal) (Rect.unit (s := S4096x128) off ![w, 128] inb).toLoadRect X (ix2 x d) = mat v X (off 0 + x.val) (off 1 + d.val) :=
  load2 (v := v) (f := X) (R := mat v X) (mat_read v X) off inb x d

/-- The next 256 rows of a matrix written. -/
theorem rows2 {e : EltTy} {v : View sig .tc .vmem S4096x128 e} {f : v.ty.Contents (Elt Ideal)} {G : ℕ → ℕ → Elt Ideal e} {k : ℕ}
    (hf : ∀ y : S4096x128.Idx, (y 0).val < 256 * k → v.read (Elt Ideal) f y = G (y 0).val (y 1).val)
    {off : Fin 2 → ℕ} (ho : off = ![256 * k, 0]) {inb : ∀ x, off x + (![256, 128] : Fin 2 → ℕ) x ≤ S4096x128.size x}
    {w : (⟨2, ![256, 128]⟩ : Shape).Idx → Elt Ideal e} (hw : ∀ (i : Fin 256) (d : Fin 128), w (ix2 i d) = G (256 * k + i) d)
    (y : S4096x128.Idx) (hy : (y 0).val < 256 * (k + 1)) :
    v.read (Elt Ideal) (v.writes (Elt Ideal) f [⟨Rect.unit (s := S4096x128) off ![256, 128] inb, w⟩]) y = G (y 0).val (y 1).val := by
  subst ho
  by_cases hc : (y 0).val < 256 * k
  · rw [View.read_writes_apply_of_forall_not_mem]
    · exact hf y hc
    · intro p hp
      rw [List.mem_singleton.mp hp]
      exact fun hm => absurd ((mem_set2 (a := 4096) (b := 128) ![256 * k, 0] inb y).mp hm).1.1 (Nat.not_le.mpr hc)
  · refine View.read_writes_apply_of_pieces (s := S4096x128) (e := e) v f (fun y => G (y 0).val (y 1).val) _ ?_ y ?_
    · refine List.forall_mem_cons.mpr ⟨piece2 (inb := inb) G fun i d => ?_, fun _ h => absurd h List.not_mem_nil⟩
      refine (hw i d).trans ?_
      show _ = G (256 * k + i) (0 + d)
      rw [Nat.zero_add]
    · have hy1 : (y 1).val < 128 := (y 1).isLt
      refine ⟨_, List.mem_singleton_self _, (mem_set2 (a := 4096) (b := 128) ![256 * k, 0] inb y).mpr ⟨⟨?_, ?_⟩, Nat.zero_le _, ?_⟩⟩
      · show 256 * k ≤ _; omega
      · show _ < 256 * k + 256; omega
      · show _ < 0 + 128; omega

/-- The next 256 rows of one of a pair of matrices written, -/
theorem rows3 {e : EltTy} {v : View sig .tc .vmem S2x4096x128 e} {f : v.ty.Contents (Elt Ideal)} {G : ℕ → ℕ → Elt Ideal e} {h k : ℕ}
    (hf : ∀ y : S2x4096x128.Idx, (y 0).val = h → (y 1).val < 256 * k → v.read (Elt Ideal) f y = G (y 1).val (y 2).val)
    {off : Fin 3 → ℕ} (ho : off = ![h, 256 * k, 0]) {inb : ∀ x, off x + (![1, 256, 128] : Fin 3 → ℕ) x ≤ S2x4096x128.size x}
    {w : (⟨3, ![1, 256, 128]⟩ : Shape).Idx → Elt Ideal e} (hw : ∀ (i : Fin 256) (d : Fin 128), w (ix3 0 i d) = G (256 * k + i) d)
    (y : S2x4096x128.Idx) (hh : (y 0).val = h) (hy : (y 1).val < 256 * (k + 1)) :
    v.read (Elt Ideal) (v.writes (Elt Ideal) f [⟨Rect.unit (s := S2x4096x128) off ![1, 256, 128] inb, w⟩]) y = G (y 1).val (y 2).val := by
  subst ho
  by_cases hc : (y 1).val < 256 * k
  · rw [View.read_writes_apply_of_forall_not_mem]
    · exact hf y hh hc
    · intro p hp
      rw [List.mem_singleton.mp hp]
      exact fun hm => absurd ((mem_set3 (a := 2) (b := 4096) (d := 128) ![h, 256 * k, 0] inb y).mp hm).2.1.1 (Nat.not_le.mpr hc)
  · refine View.read_writes_apply_of_pieces (s := S2x4096x128) (e := e) v f (fun y => G (y 1).val (y 2).val) _ ?_ y ?_
    · refine List.forall_mem_cons.mpr ⟨piece3 (inb := inb) (fun _ i d => G i d) fun z i d => ?_, fun _ h => absurd h List.not_mem_nil⟩
      obtain rfl : z = 0 := Subsingleton.elim _ _
      refine (hw i d).trans ?_
      show _ = G (256 * k + i) (0 + d)
      rw [Nat.zero_add]
    · have hy1 : (y 2).val < 128 := (y 2).isLt
      refine ⟨_, List.mem_singleton_self _, (mem_set3 (a := 2) (b := 4096) (d := 128) ![h, 256 * k, 0] inb y).mpr ⟨⟨?_, ?_⟩, ⟨?_, ?_⟩, Nat.zero_le _, ?_⟩⟩
      · show h ≤ _; omega
      · show _ < h + 1; omega
      · show 256 * k ≤ _; omega
      · show _ < 256 * k + 256; omega
      · show _ < 0 + 128; omega

/-- and the first matrix of a pair is the same before as after. -/
def Keeps {e : EltTy} (v : View sig .tc .vmem S2x4096x128 e) (p q : ℕ × v.ty.Contents (Elt Ideal)) : Prop :=
  ∀ y : S2x4096x128.Idx, (y 0).val = 0 → v.read (Elt Ideal) q.2 y = v.read (Elt Ideal) p.2 y

@[refl] theorem Keeps.refl {e : EltTy} (v : View sig .tc .vmem S2x4096x128 e) (p : ℕ × v.ty.Contents (Elt Ideal)) : Keeps v p p := fun _ _ => rfl

theorem Keeps.step {e : EltTy} {v : View sig .tc .vmem S2x4096x128 e} {p : ℕ × v.ty.Contents (Elt Ideal)} {m : ℕ} {f : v.ty.Contents (Elt Ideal)}
    (h : Keeps v p (m, f)) {n k : ℕ} {off : Fin 3 → ℕ} (ho : off = ![1, 256 * k, 0])
    {inb : ∀ x, off x + (![1, 256, 128] : Fin 3 → ℕ) x ≤ S2x4096x128.size x} {w : (⟨3, ![1, 256, 128]⟩ : Shape).Idx → Elt Ideal e} :
    Keeps v p (n, v.writes (Elt Ideal) f [⟨Rect.unit (s := S2x4096x128) off ![1, 256, 128] inb, w⟩]) := fun y hy => by
  refine Eq.trans (View.read_writes_apply_of_forall_not_mem v f y _ ?_) (h y hy)
  intro p hp hm
  rw [List.mem_singleton.mp hp] at hm
  have h1 := ((mem_set3 (a := 2) (b := 4096) (d := 128) off inb y).mp hm).1.1
  rw [ho, hy] at h1
  exact Nat.not_succ_le_zero 0 h1

/-- A matrix of zeros. -/
def zeros (_ _ : ℕ) : EReal := 0

/-- A head's lanes of a matrix, scaled, -/
def scaled (v : View sig .tc .vmem S4096x128 .f32) (X : v.ty.Contents (Elt Ideal)) (M : IVec S1x128 1) (i d : ℕ) : EReal :=
  Scalar.select (lane M d) (mat v X i d * Ideal.ofBits .f32 0x3E000000#32) 0

/-- and not. -/
def headed (v : View sig .tc .vmem S4096x128 .f32) (X : v.ty.Contents (Elt Ideal)) (M : IVec S1x128 1) (i d : ℕ) : EReal :=
  Scalar.select (lane M d) (mat v X i d) 0

/-- The loop over blocks of key rows. -/
abbrev inv1 (c : Dev nD) (arg2 : Memref sig .tc .vmem S4096x128 .f32) (arg13 : Memref sig .tc .vmem S4096x128 .bf16) (X2 : BufTy.Contents (Elt Ideal) arg2.view.ty) (k : ℕ) (acc : Unit) : sProp 𝕄 :=
  iprop((arg2.view.loc (c : Thread nD τ) ↦[arg2.view.set]{fullShare} X2) ∗ (∃ f, ⌜∀ y : S4096x128.Idx, (y 0).val < 256 * k → arg13.view.read (Elt Ideal) f y = (mat arg2.view X2) (y 0).val (y 1).val⌝ ∗ (arg13.view.loc (c : Thread nD τ) ↦[arg13.view.set]{fullShare} f)))

set_option warn.classDefReducibility false in
/-- That loop by its invariant. -/
@[sl_loop] def loopInv1 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X2 : BufTy.Contents (Elt Ideal) arg2.view.ty) :
    _root_.Cert.AttnKernelIdeal.Gen.LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv1 c arg2 arg13 X2
  step k acc := by
    unfold k0_t1_body
    iintro ⟨H2, ⟨%f, %hf, H13⟩⟩
    sl_exec
    sl_step
    isplitl [H2]; · iexact H2
    iexists _
    isplitr; rotate_left
    · iexact H13
    ipureintro
    refine rows2 hf (k0_off1_eq k) fun i d => ?_
    unfold_payloads
    pointwise [scaled, headed, zeros]
    simp only [ldM, lane_read, k0_off1_eq, Matrix.cons_val, Nat.zero_add, Ideal.ofBits_zero_f32]

/-- The loop over blocks of value rows. -/
abbrev inv2 (c : Dev nD) (arg3 : Memref sig .tc .vmem S4096x128 .f32) (arg14 : Memref sig .tc .vmem S4096x128 .bf16) (X3 : BufTy.Contents (Elt Ideal) arg3.view.ty) (k : ℕ) (acc : Unit) : sProp 𝕄 :=
  iprop((arg3.view.loc (c : Thread nD τ) ↦[arg3.view.set]{fullShare} X3) ∗ (∃ f, ⌜∀ y : S4096x128.Idx, (y 0).val < 256 * k → arg14.view.read (Elt Ideal) f y = (mat arg3.view X3) (y 0).val (y 1).val⌝ ∗ (arg14.view.loc (c : Thread nD τ) ↦[arg14.view.set]{fullShare} f)))

set_option warn.classDefReducibility false in
/-- That loop by its invariant. -/
@[sl_loop] def loopInv2 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X3 : BufTy.Contents (Elt Ideal) arg3.view.ty) :
    _root_.Cert.AttnKernelIdeal.Gen.LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv2 c arg3 arg14 X3
  step k acc := by
    unfold k0_t2_body
    iintro ⟨H3, ⟨%f, %hf, H14⟩⟩
    sl_exec
    sl_step
    isplitl [H3]; · iexact H3
    iexists _
    isplitr; rotate_left
    · iexact H14
    ipureintro
    refine rows2 hf (k0_off2_eq k) fun i d => ?_
    unfold_payloads
    pointwise [scaled, headed, zeros]
    simp only [ldM, lane_read, k0_off2_eq, Matrix.cons_val, Nat.zero_add, Ideal.ofBits_zero_f32]

/-- The loop over blocks of first head's query rows. -/
abbrev inv3 (c : Dev nD) (arg1 : Memref sig .tc .vmem S4096x128 .f32) (arg11 : Memref sig .tc .vmem S2x4096x128 .bf16) (v26 : IVec S1x128 1) (X1 : BufTy.Contents (Elt Ideal) arg1.view.ty) (k : ℕ) (acc : Unit) : sProp 𝕄 :=
  iprop((arg1.view.loc (c : Thread nD τ) ↦[arg1.view.set]{fullShare} X1) ∗ (∃ f, ⌜∀ y : S2x4096x128.Idx, (y 0).val = 0 → (y 1).val < 256 * k → arg11.view.read (Elt Ideal) f y = (scaled arg1.view X1 v26) (y 1).val (y 2).val⌝ ∗ (arg11.view.loc (c : Thread nD τ) ↦[arg11.view.set]{fullShare} f)))

set_option warn.classDefReducibility false in
/-- That loop by its invariant. -/
@[sl_loop] def loopInv3 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X1 : BufTy.Contents (Elt Ideal) arg1.view.ty) :
    _root_.Cert.AttnKernelIdeal.Gen.LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv3 c arg1 arg11 v26 X1
  step k acc := by
    unfold k0_t3_body
    iintro ⟨H1, ⟨%f, %hf, H11⟩⟩
    sl_exec
    sl_step
    isplitl [H1]; · iexact H1
    iexists _
    isplitr; rotate_left
    · iexact H11
    ipureintro
    refine rows3 hf (k0_off4_eq k) fun i d => ?_
    unfold_payloads
    pointwise [scaled, headed, zeros]
    simp only [ldM, lane_read, k0_off3_eq, Matrix.cons_val, Nat.zero_add, Ideal.ofBits_zero_f32]

/-- The loop over blocks of first head's cotangent rows. -/
abbrev inv4 (c : Dev nD) (arg6 : Memref sig .tc .vmem S4096x128 .f32) (arg12 : Memref sig .tc .vmem S2x4096x128 .bf16) (v26 : IVec S1x128 1) (X6 : BufTy.Contents (Elt Ideal) arg6.view.ty) (k : ℕ) (acc : Unit) : sProp 𝕄 :=
  iprop((arg6.view.loc (c : Thread nD τ) ↦[arg6.view.set]{fullShare} X6) ∗ (∃ f, ⌜∀ y : S2x4096x128.Idx, (y 0).val = 0 → (y 1).val < 256 * k → arg12.view.read (Elt Ideal) f y = (headed arg6.view X6 v26) (y 1).val (y 2).val⌝ ∗ (arg12.view.loc (c : Thread nD τ) ↦[arg12.view.set]{fullShare} f)))

set_option warn.classDefReducibility false in
/-- That loop by its invariant. -/
@[sl_loop] def loopInv4 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X6 : BufTy.Contents (Elt Ideal) arg6.view.ty) :
    _root_.Cert.AttnKernelIdeal.Gen.LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv4 c arg6 arg12 v26 X6
  step k acc := by
    unfold k0_t4_body
    iintro ⟨H6, ⟨%f, %hf, H12⟩⟩
    sl_exec
    sl_step
    isplitl [H6]; · iexact H6
    iexists _
    isplitr; rotate_left
    · iexact H12
    ipureintro
    refine rows3 hf (k0_off6_eq k) fun i d => ?_
    unfold_payloads
    pointwise [scaled, headed, zeros]
    simp only [ldM, lane_read, k0_off5_eq, Matrix.cons_val, Nat.zero_add, Ideal.ofBits_zero_f32]

/-- The loop over blocks of second head's query rows. -/
abbrev inv5 (c : Dev nD) (arg1 : Memref sig .tc .vmem S4096x128 .f32) (arg11 : Memref sig .tc .vmem S2x4096x128 .bf16) (v28 : IVec S1x128 32) (v42 : IVec S1x128 1) (v44 : IVec S1x128 32) (c0_i32_10 : BitVec 32) (X1 : BufTy.Contents (Elt Ideal) arg1.view.ty) (G : BufTy.Contents (Elt Ideal) arg11.view.ty) (k : ℕ) (acc : Unit) : sProp 𝕄 :=
  iprop((arg1.view.loc (c : Thread nD τ) ↦[arg1.view.set]{fullShare} X1) ∗ (∃ f, ⌜from0 k G f = f⌝ ∗ ⌜Keeps arg11.view (0, G) (k, f)⌝ ∗ ⌜∀ y : S2x4096x128.Idx, (y 0).val = 1 → (y 1).val < 256 * k → arg11.view.read (Elt Ideal) f y = (scaled arg1.view X1 (k0_pay241 v28 v42 v44 c0_i32_10)) (y 1).val (y 2).val⌝ ∗ (arg11.view.loc (c : Thread nD τ) ↦[arg11.view.set]{fullShare} f)))

set_option warn.classDefReducibility false in
/-- That loop by its invariant. -/
@[sl_loop] def loopInv5 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X1 : BufTy.Contents (Elt Ideal) arg1.view.ty) (G : BufTy.Contents (Elt Ideal) arg11.view.ty) :
    _root_.Cert.AttnKernelIdeal.Gen.LoopInvTy_k0_t5 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv5 c arg1 arg11 v28 v42 v44 c0_i32_10 X1 G
  step k acc := by
    unfold k0_t5_body
    iintro ⟨H1, ⟨%f, %hg, %hK, %hf, H11⟩⟩
    sl_exec
    sl_step
    isplitl [H1]; · iexact H1
    iexists _
    isplitr; rotate_left
    isplitr; rotate_left
    isplitr; rotate_left
    · iexact H11
    · ipureintro; rfl
    · ipureintro; exact Keeps.step hK (k0_off8_eq k)
    ipureintro
    refine rows3 hf (k0_off8_eq k) fun i d => ?_
    unfold_payloads
    pointwise [scaled, headed, zeros]
    simp only [ldM, lane_read, k0_off7_eq, Matrix.cons_val, Nat.zero_add, Ideal.ofBits_zero_f32]
    simp only [← lane_read]
    pointwise []

/-- The loop over blocks of second head's cotangent rows. -/
abbrev inv6 (c : Dev nD) (arg6 : Memref sig .tc .vmem S4096x128 .f32) (arg12 : Memref sig .tc .vmem S2x4096x128 .bf16) (v28 : IVec S1x128 32) (v42 : IVec S1x128 1) (v44 : IVec S1x128 32) (c0_i32_10 : BitVec 32) (X6 : BufTy.Contents (Elt Ideal) arg6.view.ty) (G : BufTy.Contents (Elt Ideal) arg12.view.ty) (k : ℕ) (acc : Unit) : sProp 𝕄 :=
  iprop((arg6.view.loc (c : Thread nD τ) ↦[arg6.view.set]{fullShare} X6) ∗ (∃ f, ⌜from0 k G f = f⌝ ∗ ⌜Keeps arg12.view (0, G) (k, f)⌝ ∗ ⌜∀ y : S2x4096x128.Idx, (y 0).val = 1 → (y 1).val < 256 * k → arg12.view.read (Elt Ideal) f y = (headed arg6.view X6 (k0_pay241 v28 v42 v44 c0_i32_10)) (y 1).val (y 2).val⌝ ∗ (arg12.view.loc (c : Thread nD τ) ↦[arg12.view.set]{fullShare} f)))

set_option warn.classDefReducibility false in
/-- That loop by its invariant. -/
@[sl_loop] def loopInv6 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) (X6 : BufTy.Contents (Elt Ideal) arg6.view.ty) (G : BufTy.Contents (Elt Ideal) arg12.view.ty) :
    _root_.Cert.AttnKernelIdeal.Gen.LoopInvTy_k0_t6 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv6 c arg6 arg12 v28 v42 v44 c0_i32_10 X6 G
  step k acc := by
    unfold k0_t6_body
    iintro ⟨H6, ⟨%f, %hg, %hK, %hf, H12⟩⟩
    sl_exec
    sl_step
    isplitl [H6]; · iexact H6
    iexists _
    isplitr; rotate_left
    isplitr; rotate_left
    isplitr; rotate_left
    · iexact H12
    · ipureintro; rfl
    · ipureintro; exact Keeps.step hK (k0_off10_eq k)
    ipureintro
    refine rows3 hf (k0_off10_eq k) fun i d => ?_
    unfold_payloads
    pointwise [scaled, headed, zeros]
    simp only [ldM, lane_read, k0_off9_eq, Matrix.cons_val, Nat.zero_add, Ideal.ofBits_zero_f32]
    simp only [← lane_read]
    pointwise []

/-- The loop over blocks of rows of the first result. -/
abbrev inv7 (c : Dev nD) (arg7 : Memref sig .tc .vmem S4096x128 .f32) (k : ℕ) (acc : Unit) : sProp 𝕄 :=
  iprop((∃ f, ⌜∀ y : S4096x128.Idx, (y 0).val < 256 * k → arg7.view.read (Elt Ideal) f y = (zeros) (y 0).val (y 1).val⌝ ∗ (arg7.view.loc (c : Thread nD τ) ↦[arg7.view.set]{fullShare} f)))

set_option warn.classDefReducibility false in
/-- That loop by its invariant. -/
@[sl_loop] def loopInv7 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole) (v26 : IVec S1x128 1) (v28 : IVec S1x128 32) (v42 : IVec S1x128 1) (v44 : IVec S1x128 32) (c0_i32_10 : BitVec 32) :
    _root_.Cert.AttnKernelIdeal.Gen.LoopInvTy_k0_t7 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v26 v28 v42 v44 c0_i32_10 where
  inv := inv7 c arg7
  step k acc := by
    unfold k0_t7_body
    iintro ⟨%f, %hf, H7⟩
    sl_exec
    sl_step
    iexists _
    isplitr; rotate_left
    · iexact H7
    ipureintro
    refine rows2 hf (k0_off11_eq k) fun i d => ?_
    unfold_payloads
    pointwise [scaled, headed, zeros]

/-- A head's lanes among the 128 of a pair. -/
def half (h d : ℕ) : BitVec 1 := if d % 128 / 64 = h % 2 then 1#1 else 0#1

/-- The tables of a pair of heads, of the six blocks the body reads: queries (scaled) and cotangents head by head, the other
    head's lanes zero. -/
def tabOf (x1 x2 x3 : Vec Ideal S4096x128 .f32) (x4 : Vec Ideal S2x1x4096 .f32) (x5 : Vec Ideal S2x4096x1 .f32) (x6 : Vec Ideal S4096x128 .f32) : Tabs where
  Q h i d := Scalar.select (half h d) (x1 (ix2 (Fin.ofNat 4096 i) (Fin.ofNat 128 d)) * Ideal.ofBits .f32 0x3E000000#32) 0
  D h i d := Scalar.select (half h d) (x6 (ix2 (Fin.ofNat 4096 i) (Fin.ofNat 128 d))) 0
  K j d := x2 (ix2 (Fin.ofNat 4096 j) (Fin.ofNat 128 d))
  V j d := x3 (ix2 (Fin.ofNat 4096 j) (Fin.ofNat 128 d))
  C h j := x4 (ix3 (Fin.ofNat 2 h) 0 (Fin.ofNat 4096 j))
  L h i := x5 (ix3 (Fin.ofNat 2 h) (Fin.ofNat 4096 i) 0)

/-- The row sums as the scratch holds them. -/
def deltas (T : Tabs) (h i : ℕ) : EReal := delta T (Fin.ofNat 2 h).val (Fin.ofNat 4096 i).val

/-- The body's four results. -/
def dqV (T : Tabs) : Vec Ideal S4096x128 .f32 := fun y => dqS T (deltas T) (half 0) (y 0).val (y 1).val ((y 0).val / 256 + 1)
def dkV (T : Tabs) : Vec Ideal S4096x128 .f32 := fun y => dkT T (deltas T) (y 0).val (y 1).val
def dvV (T : Tabs) : Vec Ideal S4096x128 .f32 := fun y => dvT T (y 0).val (y 1).val
def dcV (T : Tabs) : Vec Ideal S2x1x4096 .f32 := fun y => dcT T (deltas T) (y 0).val (y 2).val

theorem lane_half {M : IVec S1x128 1} {h : ℕ} (hM : ∀ d : Fin 128, M (ix2 0 d) = if d.val / 64 = h % 2 then 1#1 else 0#1) : lane M = half h :=
  funext fun d => hM (Fin.ofNat 128 d)

/-- What the casts leave are those tables. -/
theorem tabs_eq {v1 v2 v3 v6 : View sig .tc .vmem S4096x128 .f32} {v4 : View sig .tc .vmem S2x1x4096 .f32} {v5 : View sig .tc .vmem S2x4096x1 .f32}
    {v11 v12 : View sig .tc .vmem S2x4096x128 .bf16} {v13 v14 : View sig .tc .vmem S4096x128 .bf16}
    {X1 : v1.ty.Contents (Elt Ideal)} {X2 : v2.ty.Contents (Elt Ideal)} {X3 : v3.ty.Contents (Elt Ideal)} {X6 : v6.ty.Contents (Elt Ideal)}
    {X4 : v4.ty.Contents (Elt Ideal)} {X5 : v5.ty.Contents (Elt Ideal)} {X11 Y11 : v11.ty.Contents (Elt Ideal)} {X12 Y12 : v12.ty.Contents (Elt Ideal)}
    {X13 : v13.ty.Contents (Elt Ideal)} {X14 : v14.ty.Contents (Elt Ideal)} {M0 M1 : IVec S1x128 1} {n n' : ℕ}
    {x1 x2 x3 x6 : Vec Ideal S4096x128 .f32} {x4 : Vec Ideal S2x1x4096 .f32} {x5 : Vec Ideal S2x4096x1 .f32}
    (h1 : v1.read (Elt Ideal) X1 = x1) (h2 : v2.read (Elt Ideal) X2 = x2) (h3 : v3.read (Elt Ideal) X3 = x3) (h4 : v4.read (Elt Ideal) X4 = x4)
    (h5 : v5.read (Elt Ideal) X5 = x5) (h6 : v6.read (Elt Ideal) X6 = x6) (hM0 : lane M0 = half 0) (hM1 : lane M1 = half 1)
    (hk : ∀ y : S4096x128.Idx, (y 0).val < 4096 → v13.read (Elt Ideal) X13 y = mat v2 X2 (y 0).val (y 1).val)
    (hv : ∀ y : S4096x128.Idx, (y 0).val < 4096 → v14.read (Elt Ideal) X14 y = mat v3 X3 (y 0).val (y 1).val)
    (q0 : ∀ y : S2x4096x128.Idx, (y 0).val = 0 → (y 1).val < 4096 → v11.read (Elt Ideal) Y11 y = scaled v1 X1 M0 (y 1).val (y 2).val)
    (qk : Keeps v11 (0, Y11) (n, X11))
    (q1 : ∀ y : S2x4096x128.Idx, (y 0).val = 1 → (y 1).val < 4096 → v11.read (Elt Ideal) X11 y = scaled v1 X1 M1 (y 1).val (y 2).val)
    (d0 : ∀ y : S2x4096x128.Idx, (y 0).val = 0 → (y 1).val < 4096 → v12.read (Elt Ideal) Y12 y = headed v6 X6 M0 (y 1).val (y 2).val)
    (dk : Keeps v12 (0, Y12) (n', X12))
    (d1 : ∀ y : S2x4096x128.Idx, (y 0).val = 1 → (y 1).val < 4096 → v12.read (Elt Ideal) X12 y = headed v6 X6 M1 (y 1).val (y 2).val) :
    tabs v4 v5 v11 v12 v13 v14 X4 X5 X11 X12 X13 X14 = tabOf x1 x2 x3 x4 x5 x6 := by
  subst h1 h2 h3 h4 h5 h6
  have hh (h : ℕ) (d : ℕ) : half (h % 2) (d % 128) = half h d := by simp [half]
  have two (h : ℕ) : h % 2 = 0 ∨ h % 2 = 1 := by omega
  have lt (i : ℕ) : (Fin.ofNat 4096 i).val < 4096 := (Fin.ofNat 4096 i).isLt
  have mm (v : View sig .tc .vmem S4096x128 .f32) (X : v.ty.Contents (Elt Ideal)) (i d : ℕ) :
      mat v X (Fin.ofNat 4096 i).val (Fin.ofNat 128 d).val = v.read (Elt Ideal) X (ix2 (Fin.ofNat 4096 i) (Fin.ofNat 128 d)) :=
    (mat_read v X (ix2 (Fin.ofNat 4096 i) (Fin.ofNat 128 d))).symm
  unfold tabs tabOf
  congr 1
  · funext h i d
    rcases two h with e | e
    · refine (qk (ix3 (Fin.ofNat 2 h) (Fin.ofNat 4096 i) (Fin.ofNat 128 d)) e).trans ((q0 _ e (lt i)).trans ?_)
      show Scalar.select (lane M0 (Fin.ofNat 128 d).val) (mat v1 X1 (Fin.ofNat 4096 i).val (Fin.ofNat 128 d).val * _) 0 = _
      rw [mm, hM0, ← hh h d, e]; rfl
    · refine (q1 (ix3 (Fin.ofNat 2 h) (Fin.ofNat 4096 i) (Fin.ofNat 128 d)) e (lt i)).trans ?_
      show Scalar.select (lane M1 (Fin.ofNat 128 d).val) (mat v1 X1 (Fin.ofNat 4096 i).val (Fin.ofNat 128 d).val * _) 0 = _
      rw [mm, hM1, ← hh h d, e]; rfl
  · funext h i d
    rcases two h with e | e
    · refine (dk (ix3 (Fin.ofNat 2 h) (Fin.ofNat 4096 i) (Fin.ofNat 128 d)) e).trans ((d0 _ e (lt i)).trans ?_)
      show Scalar.select (lane M0 (Fin.ofNat 128 d).val) (mat v6 X6 (Fin.ofNat 4096 i).val (Fin.ofNat 128 d).val) 0 = _
      rw [mm, hM0, ← hh h d, e]; rfl
    · refine (d1 (ix3 (Fin.ofNat 2 h) (Fin.ofNat 4096 i) (Fin.ofNat 128 d)) e (lt i)).trans ?_
      show Scalar.select (lane M1 (Fin.ofNat 128 d).val) (mat v6 X6 (Fin.ofNat 4096 i).val (Fin.ofNat 128 d).val) 0 = _
      rw [mm, hM1, ← hh h d, e]; rfl
  · funext j d
    exact (hk _ (lt j)).trans (mm v2 X2 j d)
  · funext j d
    exact (hv _ (lt j)).trans (mm v3 X3 j d)

/-- The body's triple: the six inputs are left as they are, the results at those of the tables, the scratch at some contents. -/
theorem run (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x1x4096 .f32) (harg4 : arg4.IsWhole) (arg5 : Memref sig .tc .vmem S2x4096x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x1x4096 .f32) (harg10 : arg10.IsWhole) (arg11 : Memref sig .tc .vmem S2x4096x128 .bf16) (harg11 : arg11.IsWhole) (arg12 : Memref sig .tc .vmem S2x4096x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x4096x1 .f32) (harg15 : arg15.IsWhole)
    (x1 : Vec Ideal S4096x128 .f32) (x2 : Vec Ideal S4096x128 .f32) (x3 : Vec Ideal S4096x128 .f32) (x4 : Vec Ideal S2x1x4096 .f32) (x5 : Vec Ideal S2x4096x1 .f32) (x6 : Vec Ideal S4096x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (dqV (tabOf x1 x2 x3 x4 x5 x6)) ∗ owns (c : Thread nD τ) arg8 fullShare (dkV (tabOf x1 x2 x3 x4 x5 x6)) ∗ owns (c : Thread nD τ) arg9 fullShare (dvV (tabOf x1 x2 x3 x4 x5 x6)) ∗ owns (c : Thread nD τ) arg10 fullShare (dcV (tabOf x1 x2 x3 x4 x5 x6)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := Ideal)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec
  sl_step
  have hM0 : lane (cmpi .eq run.sl.v24 run.sl.v3) = half 0 := lane_half (by decide +kernel)
  have hM1 : lane (k0_pay241 (divsi run.sl.v0 run.sl.v1) run.sl.v16 (remsi run.sl.v0 run.sl.v1) 0#32) = half 1 := lane_half (by decide +kernel)
  have hT : tabs arg4.view arg5.view arg11.view arg12.view arg13.view arg14.view f4 f5 fL4 fL5 fL0 fL1 = tabOf x1 x2 x3 x4 x5 x6 :=
    tabs_eq hf1 hf2 hf3 hf4 hf5 hf6 hM0 hM1 hL1 hL4 hL7 hL14 hL15 hL10 hL19 hL20
  have hE : sums arg15.view fL7 = deltas (tabOf x1 x2 x3 x4 x5 x6) := by
    rw [← hT]
    funext h i
    exact hL30 _ (Fin.ofNat 4096 i).isLt
  rw [hT, hE, hM0] at hL40
  rw [hT, hE] at hL42 hL46
  rw [hT] at hL44
  have e7 : arg7.view.read (Elt Ideal) fL8 = dqV (tabOf x1 x2 x3 x4 x5 x6) := by
    have hz : DQ (tabOf x1 x2 x3 x4 x5 x6) (deltas (tabOf x1 x2 x3 x4 x5 x6)) (half 0) arg7.view zeros (4 * 0) 0 fL6 := fun y => by
      refine (hL22 y (y 0).isLt).trans ?_
      have : min ((y 0).val / 256 + 1) (if (y 0).val < 0 then 4 * 0 + 1 else 4 * 0) = 0 := by
        rw [if_neg (Nat.not_lt_zero _)]; omega
      rw [this]
      simp [zeros, dqS]
    have h := hL40 trivial zeros hz
    funext y
    refine (h y).trans ?_
    have hy : (y 0).val < 4096 := (y 0).isLt
    have e : min ((y 0).val / 256 + 1) (if (y 0).val < 0 then 4 * k0_t17_loop.trips + 1 else 4 * k0_t17_loop.trips) = (y 0).val / 256 + 1 := by
      have : k0_t17_loop.trips = 4 := by decide +kernel
      rw [if_neg (Nat.not_lt_zero _), this]; omega
    exact (zero_add _).trans (congrArg (dqS _ _ _ _ _) e)
  have e8 : arg8.view.read (Elt Ideal) fL9 = dkV (tabOf x1 x2 x3 x4 x5 x6) := funext fun y => hL42 y (y 0).isLt
  have e9 : arg9.view.read (Elt Ideal) fL10 = dvV (tabOf x1 x2 x3 x4 x5 x6) := funext fun y => hL44 y (y 0).isLt
  have e10 : arg10.view.read (Elt Ideal) fL11 = dcV (tabOf x1 x2 x3 x4 x5 x6) := funext fun y => hL46 y (y 2).isLt
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.AttnKernelIdeal.Math

end
-- ==== Proof.AttnBody.lean ====
/-
  The attention's backward program: its grid points' bodies, and its run with what its four results hold.
-/
module

public import proofs.«01_k».proof.Proof.AttnRun

@[expose] public section

set_option maxRecDepth 16384

noncomputable section

namespace Cert.AttnKernelIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen

local notation "𝕄" => MT nD τ sig Unit (Elt Ideal) ℕ (UR sig nD τ) ℕ

variable (m : (ℓ : Loc nD τ sig) → Buf (Elt Ideal) ℓ) (ρ : Dev nD → PrngReg)

/-- The tables of a grid point's pair of heads. -/
def T (c : Dev nD) (t : Fin cfg0.N) : Tabs := tabOf (iblk m c 0 t) (iblk m c 1 t) (iblk m c 2 t) (iblk m c 3 t) (iblk m c 4 t) (iblk m c 5 t)

/-- The region's data: every input window at its block, the results at those of the tables. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqV (T m c t)
    | ⟨7, _⟩ => dkV (T m c t)
    | ⟨8, _⟩ => dvV (T m c t)
    | ⟨9, _⟩ => dcV (T m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqV (T m c t) := by dsimp only [dats]
theorem after7 (c : Dev nD) (t : Fin cfg0.N) : (dats m 0 c).after 7 t = dkV (T m c t) := by dsimp only [dats]
theorem after8 (c : Dev nD) (t : Fin cfg0.N) : (dats m 0 c).after 8 t = dvV (T m c t) := by dsimp only [dats]
theorem after9 (c : Dev nD) (t : Fin cfg0.N) : (dats m 0 c).after 9 t = dcV (T m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The scratch as memrefs owned at some contents. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at a point of the grid. -/
theorem sound (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq, after0, after1, after2, after3, after4, after5, after6, after7, after8, after9]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  iintro ⟨H0, H1, H2, H3, H4, H5, H6, H7, H8, H9, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, defs_row]
  exact triple_restated (sound m c t) rfl .rfl fun _ => .rfl

set_option backward.isDefEq.respectTransparency.types false in
/-- The whole program's run: the four results at the region's data, everything else as it was, no semaphore held. -/
theorem run_main : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

end Cert.AttnKernelIdeal.Math

end
-- ==== Proof.AttnHost.lean ====
/-
  What the attention's backward call finds in its six argument windows: the queries, keys and values of two heads, the
  cumulative gates, the logarithms of the softmax's sums as the host lines of the forward pass leave them, and the cotangent.
-/
module

public import proofs.«01_k».proof.Proof.AttnBody
public import proofs.«01_k».proof.Proof.Gen.AttnReferenceIdeal.Read
public import Idealize.ShloMosaic.Lib.Pipeline.ValueKit

@[expose] public section

set_option maxRecDepth 65536

noncomputable section

namespace Cert.AttnKernelIdeal.Math

open Idealize.ShloMosaic Idealize.ShloMosaic.TcCoe Idealize.ShloMosaic.Tactic
open Cert.AttnKernelIdeal Cert.AttnKernelIdeal.Gen

variable (m : (ℓ : Loc nD τ sig) → Buf (Elt Ideal) ℓ)

/-- The first argument: the layer's projections. -/
def argZ (c : Dev nD) : FVec Ideal S4096x2182 .f32 := m ((c.tc : Thread nD τ).loc main_arg0)

/-- The second: the forget gates' biases. -/
def argB (c : Dev nD) : FVec Ideal S6 .f32 := m ((c.tc : Thread nD τ).loc main_arg1)

/-- The third: the cotangent of the attention's output. -/
def argD (c : Dev nD) : FVec Ideal S4096x384 .f32 := m ((c.tc : Thread nD τ).loc main_arg2)

/-- The cumulative sum of the forget gates' logarithms: the same host lines in both programs. -/
def gates (c : Dev nD) : FVec Ideal S6x4096 .f32 :=
  Cert.AttnReferenceIdeal.Read.val_main_v9 (F := Ideal) (argZ m c) (argB m c)

/-- The kernel's host computes the gates. -/
theorem V_v6 (c : Dev nD) : V m c main_v6 = gates m c := by
  unfold V
  simp only [hostOps0, hostOps0_1, hostOps0_2, hostOps0_3, hostOps0_4, hostOps0_5, hostOps0_6, List.flatten_cons, List.flatten_nil,
    List.append_nil, List.cons_append, List.nil_append]
  after_results
  simp -implicitDefEqProofs only [StableHlo.TRef.toBuf, StableHlo.TRef.ofBuf, cast_cast, cast_eq]
  rfl

/-- The widened projections, at a column before the inserted ones. -/
theorem V_v39 (c : Dev nD) (p : Fin 4096) (q : Fin 2304) (h : q.val < 1926) : V m c main_v39 (ix2 p q)
    = argZ m c (ix2 p ⟨q.val, by omega⟩) := by
  unfold V
  simp only [hostOps0, hostOps0_1, hostOps0_2, hostOps0_3, hostOps0_4, hostOps0_5, hostOps0_6, List.flatten_cons, List.flatten_nil,
    List.append_nil, List.cons_append, List.nil_append]
  after_results
  pointwise []
  simp only [↓ StableHlo.readResult, ↓ StableHlo.readPieces]
  pointwise []
  rw [dif_pos h]
  rfl

/-- The gates as rows of the kernel's window. -/
theorem V_v40 (c : Dev nD) (p : Fin 6) (q : Fin 4096) : V m c main_v40 (ix3 p 0 q) = gates m c (ix2 p q) := by
  rw [← V_v6]
  unfold V
  simp only [hostOps0, hostOps0_1, hostOps0_2, hostOps0_3, hostOps0_4, hostOps0_5, hostOps0_6, List.flatten_cons, List.flatten_nil,
    List.append_nil, List.cons_append, List.nil_append]
  after_results
  simp -implicitDefEqProofs only [StableHlo.TRef.toBuf, StableHlo.TRef.ofBuf, cast_cast, cast_eq]
  generalize @Host.reduceWindowAdd Ideal _ _ _ _ _ _ _ _ _ _ _ _ _ = y
  pointwise []

/-- One logit of a head: the query times a power of two, times the key, less the key's cumulative gate; `-∞` above the diagonal. -/
def logit (z : FVec Ideal S4096x2182 .f32) (g : FVec Ideal S6x4096 .f32) (n : Fin 6) (i j : Fin 4096) : EReal :=
  if j.val ≤ i.val then
    (∑ x : Fin 64, z (ix2 i ⟨768 + (n.val * 64 + x.val), by omega⟩) * Ideal.ofBits .f32 0x3E000000#32
      * z (ix2 j ⟨1152 + (n.val * 64 + x.val), by omega⟩)) - g (ix2 n j)
  else Ideal.ofBits .f32 0xFF800000#32

/-- The host's causal logits, from any memory. -/
theorem logits_host (U : Valuation τ sig (Elt Ideal)) (n : Fin 6) (i j : Fin 4096) :
    StableHlo.after (hostOps0_4 ++ hostOps0_5) U main_v26 (ix3 n i j)
      = logit (U (Proc.tc.devRef main_arg0)) (U (Proc.tc.devRef main_v6)) n i j := by
  simp only [hostOps0_4, hostOps0_5, List.cons_append, List.nil_append]
  after_results
  simp -implicitDefEqProofs only [StableHlo.TRef.toBuf, StableHlo.TRef.ofBuf, cast_cast, cast_eq]
  pointwise []
  rw [WordCmp.cmpi_sge_ofNat (by omega) (by omega)]
  unfold logit
  by_cases h : j.val ≤ i.val
  · rw [if_pos h]; simp only [h, decide_true]; rfl
  · rw [if_neg h]; simp only [h, decide_false]; rfl

/-- One row's logarithm of the sum of exponentials. -/
def lseOf (x : Fin 4096 → EReal) : EReal :=
  Finset.fold max (Ideal.ofBits .f32 0xFF800000#32) x Finset.univ
    + Ideal.log (∑ j, Ideal.exp (x j - Finset.fold max (Ideal.ofBits .f32 0xFF800000#32) x Finset.univ))

/-- The largest element of a row, as a fold. -/
theorem row_max (x : Vec Ideal S6x4096x4096 .f32) (n : Fin 6) (i : Fin 4096) :
    Host.reduce FloatOps.maximumf x (constant (F := Ideal) S_ FTy.f32 0xFF800000#32) reducesTo_S6x4096x4096_S6x4096_d2 h_S_ (ix2 n i)
     = Finset.fold max (Ideal.ofBits FTy.f32 0xFF800000#32) (fun j => x (ix3 n i j)) Finset.univ := by
  pointwise []

/-- The sum of a row. -/
theorem row_sum (x : Vec Ideal S6x4096x4096 .f32) (n : Fin 6) (i : Fin 4096) :
    Host.reduceAdd x (constant (F := Ideal) S_ FTy.f32 0#32) reducesTo_S6x4096x4096_S6x4096_d2 h_S_ (ix2 n i)
     = ∑ j, x (ix3 n i j) := by
  pointwise []

/-- A row's largest logit, as the host computes it. -/
def rowMax (x : FVec Ideal S6x4096x4096 .f32) : FVec Ideal S6x4096 .f32 :=
  Host.reduce FloatOps.maximumf x (constant (F := Ideal) S_ FTy.f32 0xFF800000#32) reducesTo_S6x4096x4096_S6x4096_d2 h_S_

/-- The exponentials of a row's logits less `M`. -/
def rowExp (x : FVec Ideal S6x4096x4096 .f32) (M : FVec Ideal S6x4096 .f32) : FVec Ideal S6x4096x4096 .f32 :=
  Host.exp (subf x (broadcastInDim S6x4096x4096 ![0, 1, 2] bcast_S6x4096x1_S6x4096x4096_0_1_2
    (broadcastInDim S6x4096x1 ![0, 1] bcast_S6x4096_S6x4096x1_0_1 M)))

/-- The sum of a row. -/
def rowSum (x : FVec Ideal S6x4096x4096 .f32) : FVec Ideal S6x4096 .f32 :=
  Host.reduceAdd x (constant (F := Ideal) S_ FTy.f32 0#32) reducesTo_S6x4096x4096_S6x4096_d2 h_S_

/-- The logarithm of a row's sum, with the largest logit added again. -/
def rowLse (M s : FVec Ideal S6x4096 .f32) : FVec Ideal S6x4096x1 .f32 :=
  addf (broadcastInDim S6x4096x1 ![0, 1] bcast_S6x4096_S6x4096x1_0_1 M)
    (Host.log (broadcastInDim S6x4096x1 ![0, 1] bcast_S6x4096_S6x4096x1_0_1 s))

/-- One exponential. -/
theorem rowExp_apply (x : FVec Ideal S6x4096x4096 .f32) (M : FVec Ideal S6x4096 .f32) (n : Fin 6) (i j : Fin 4096) :
    rowExp x M (ix3 n i j) = Ideal.exp (x (ix3 n i j) - M (ix2 n i)) := by
  unfold rowExp
  pointwise []

/-- One logarithm. -/
theorem rowLse_apply (M s : FVec Ideal S6x4096 .f32) (n : Fin 6) (i : Fin 4096) :
    rowLse M s (ix3 n i 0) = M (ix2 n i) + Ideal.log (s (ix2 n i)) := by
  unfold rowLse
  pointwise []

/-- The host lines after the mask, from any memory, are these four steps. -/
theorem lse_ops (U : Valuation τ sig (Elt Ideal)) :
    StableHlo.after hostOps0_6 U main_v35 = rowLse (rowMax (U (Proc.tc.devRef main_v26)))
      (rowSum (rowExp (U (Proc.tc.devRef main_v26)) (rowMax (U (Proc.tc.devRef main_v26))))) := by
  simp only [hostOps0_6]
  after_results
  rfl

/-- The host's logarithm of a row's sum, from any memory. -/
theorem lse_host (U : Valuation τ sig (Elt Ideal)) (n : Fin 6) (i : Fin 4096) :
    StableHlo.after hostOps0_6 U main_v35 (ix3 n i 0) = lseOf (fun j => U (Proc.tc.devRef main_v26) (ix3 n i j)) := by
  have e := congrFun (lse_ops U) (ix3 n i 0)
  rw [e, rowLse_apply]
  have e2 : ∀ x M, rowSum (rowExp x M) (ix2 n i) = ∑ j, Ideal.exp (x (ix3 n i j) - M (ix2 n i)) := fun x M =>
    (row_sum (rowExp x M) n i).trans (Finset.sum_congr rfl fun j _ => rowExp_apply x M n i j)
  have e3 : ∀ x, rowMax x (ix2 n i) = _ := fun x => row_max x n i
  rw [e2, e3]
  rfl

/-- The host lines, in three stretches. -/
theorem V_split (c : Dev nD) (b : Ref sig .tc) : V m c b
    = StableHlo.after hostOps0_6 (StableHlo.after (hostOps0_4 ++ hostOps0_5)
        (StableHlo.after (List.flatten [hostOps0, hostOps0_1, hostOps0_2, hostOps0_3]) (fun b => m (c, b)))) b := by
  unfold V
  rw [← StableHlo.after_append, ← StableHlo.after_append]
  simp only [List.flatten_cons, List.flatten_nil, List.append_nil, List.append_assoc]

/-- The first stretch leaves the gates, -/
theorem first_gates (c : Dev nD) :
    StableHlo.after (List.flatten [hostOps0, hostOps0_1, hostOps0_2, hostOps0_3]) (fun b => m (c, b)) main_v6 = gates m c := by
  simp only [hostOps0, hostOps0_1, hostOps0_2, hostOps0_3, List.flatten_cons, List.flatten_nil,
    List.append_nil, List.cons_append, List.nil_append]
  after_results
  simp -implicitDefEqProofs only [StableHlo.TRef.toBuf, StableHlo.TRef.ofBuf, cast_cast, cast_eq]
  rfl

/-- and the first argument as it was. -/
theorem first_arg (c : Dev nD) :
    StableHlo.after (List.flatten [hostOps0, hostOps0_1, hostOps0_2, hostOps0_3]) (fun b => m (c, b)) main_arg0 = argZ m c := by
  simp only [hostOps0, hostOps0_1, hostOps0_2, hostOps0_3, List.flatten_cons, List.flatten_nil,
    List.append_nil, List.cons_append, List.nil_append]
  after_results
  rfl

/-- The logarithms of the softmax's sums, as the kernel gets them. -/
theorem V_v35 (c : Dev nD) (n : Fin 6) (i : Fin 4096) :
    V m c main_v35 (ix3 n i 0) = lseOf (fun j => logit (argZ m c) (gates m c) n i j) := by
  rw [V_split, lse_host]
  refine congrArg lseOf (funext fun j => ?_)
  refine (logits_host _ n i j).trans ?_
  exact congrArg₂ (fun a b => logit a b n i j) (first_arg m c) (first_gates m c)

/-! ## The windows' blocks -/

theorem idx (t : Fin grid0.N) : win0_0.index t = ![0, 6 + t.val] ∧ win0_1.index t = ![0, 9 + t.val] ∧ win0_2.index t = ![0, 12 + t.val]
    ∧ win0_3.index t = ![t.val, 0, 0] ∧ win0_4.index t = ![t.val, 0, 0] ∧ win0_5.index t = ![0, t.val]
    ∧ win0_6.index t = ![0, t.val] ∧ win0_7.index t = ![0, t.val] ∧ win0_8.index t = ![0, t.val] ∧ win0_9.index t = ![t.val, 0, 0] := by
  revert t; decide +kernel

theorem t_lt (t : Fin grid0.N) : t.val < 3 := lt_of_lt_of_eq t.isLt N_0

/-- Column `q` of the pair of heads `t`. -/
def col (t : Fin grid0.N) (q : Fin 128) : Fin 384 := ⟨128 * t.val + q.val, by have := t_lt t; omega⟩

/-- Head `h` of the pair `t`. -/
def head (t : Fin grid0.N) (h : Fin 2) : Fin 6 := ⟨2 * t.val + h.val, by have := t_lt t; omega⟩

theorem blk0 (c : Dev nD) (t : Fin grid0.N) (p : Fin 4096) (q : Fin 128) :
    iblk m c 0 t (ix2 p q) = argZ m c (ix2 p ⟨768 + (col t q).val, by have := (col t q).isLt; omega⟩) := by
  have := t_lt t
  refine Eq.trans ?_ (V_v39 m c p ⟨768 + (col t q).val, by have := (col t q).isLt; omega⟩ (by have := (col t q).isLt; simp only; omega))
  blk_point [iblk, col, idx t]

theorem blk1 (c : Dev nD) (t : Fin grid0.N) (p : Fin 4096) (q : Fin 128) :
    iblk m c 1 t (ix2 p q) = argZ m c (ix2 p ⟨1152 + (col t q).val, by have := (col t q).isLt; omega⟩) := by
  have := t_lt t
  refine Eq.trans ?_ (V_v39 m c p ⟨1152 + (col t q).val, by have := (col t q).isLt; omega⟩ (by have := (col t q).isLt; simp only; omega))
  blk_point [iblk, col, idx t]

theorem blk2 (c : Dev nD) (t : Fin grid0.N) (p : Fin 4096) (q : Fin 128) :
    iblk m c 2 t (ix2 p q) = argZ m c (ix2 p ⟨1536 + (col t q).val, by have := (col t q).isLt; omega⟩) := by
  have := t_lt t
  refine Eq.trans ?_ (V_v39 m c p ⟨1536 + (col t q).val, by have := (col t q).isLt; omega⟩ (by have := (col t q).isLt; simp only; omega))
  blk_point [iblk, col, idx t]

theorem blk3 (c : Dev nD) (t : Fin grid0.N) (h : Fin 2) (j : Fin 4096) :
    iblk m c 3 t (ix3 h 0 j) = gates m c (ix2 (head t h) j) := by
  have := t_lt t
  refine Eq.trans ?_ (V_v40 m c (head t h) j)
  blk_point [iblk, head, idx t]

/-- A block of the fourth window, whatever the buffers hold. -/
theorem blk4_of (c : Dev nD) (W : (b : Ref sig .tc) → Buf (Elt Ideal) ((c : Thread nD τ).loc b)) (t : Fin grid0.N) (h : Fin 2) (i : Fin 4096) :
    ((cfg0.win 4).blk t).view.read (Elt Ideal) (W (Pipeline.arrRef spec0 4)) (ix3 h i 0) = W main_v35 (ix3 (head t h) i 0) := by
  have := t_lt t
  blk_point [head, idx t]

theorem blk4 (c : Dev nD) (t : Fin grid0.N) (h : Fin 2) (i : Fin 4096) :
    iblk m c 4 t (ix3 h i 0) = lseOf (fun j => logit (argZ m c) (gates m c) (head t h) i j) :=
  (blk4_of c (fun b => V m c b) t h i).trans (V_v35 m c (head t h) i)

theorem blk5 (c : Dev nD) (t : Fin grid0.N) (p : Fin 4096) (q : Fin 128) :
    iblk m c 5 t (ix2 p q) = argD m c (ix2 p (col t q)) := by
  have := t_lt t
  refine Eq.trans ?_ (show m ((c.tc : Thread nD τ).loc main_arg2) (ix2 p (col t q)) = _ from rfl)
  blk_point [iblk, V_main_arg2, col, idx t]

end Cert.AttnKernelIdeal.Math

end
-- ==== Proof.AttnReal.lean ====
/-
  The attention's gradients over the real numbers, head by head, and what the body's results are when its tables hold real
  numbers.
-/
module

public import proofs.«01_k».proof.Proof.AttnRun
public import proofs.«01_k».proof.Proof.Reals
public import Mathlib.Analysis.SpecialFunctions.Log.Basic

@[expose] public section

noncomputable section

namespace Cert.AttnKernelIdeal.Math

open Idealize.ShloMosaic
open Finset Cert.Reals

/-- One head: queries, cotangents, keys, values (row, lane) and the keys' cumulative gates. -/
structure Head where
  q : ℕ → ℕ → ℝ
  g : ℕ → ℕ → ℝ
  k : ℕ → ℕ → ℝ
  v : ℕ → ℕ → ℝ
  c : ℕ → ℝ

namespace Head

variable (H : Head)

/-- The logit of a key for a query, the query's own gate left out, -/
def lg (i j : ℕ) : ℝ := (∑ x ∈ range 64, H.q i x * H.k j x) / 8 - H.c j

/-- the sum of the exponentials over the keys the query sees, -/
def Z (i : ℕ) : ℝ := ∑ j ∈ range (i + 1), Real.exp (H.lg i j)

/-- the softmax's weight, -/
def p (i j : ℕ) : ℝ := if j ≤ i then Real.exp (H.lg i j) / H.Z i else 0

/-- its gradient, -/
def dp (i j : ℕ) : ℝ := ∑ x ∈ range 64, H.g i x * H.v j x

/-- the row's mean of that gradient, -/
def del (i : ℕ) : ℝ := ∑ j ∈ range 4096, H.p i j * H.dp i j

/-- and the logit's gradient. -/
def ds (i j : ℕ) : ℝ := H.p i j * (H.dp i j - H.del i)

/-- The gradients of the query, the key, the value and the cumulative gate. -/
def dq (i x : ℕ) : ℝ := (∑ j ∈ range 4096, H.ds i j * H.k j x) / 8
def dk (j x : ℕ) : ℝ := (∑ i ∈ range 4096, H.ds i j * H.q i x) / 8
def dv (j x : ℕ) : ℝ := ∑ i ∈ range 4096, H.p i j * H.g i x
def dc (j : ℕ) : ℝ := -∑ i ∈ range 4096, H.ds i j

theorem Z_pos (i : ℕ) : 0 < H.Z i := sum_pos (fun _ _ => Real.exp_pos _) ⟨0, mem_range.2 (Nat.succ_pos i)⟩

theorem p_zero {i j : ℕ} (h : i < j) : H.p i j = 0 := if_neg (Nat.not_le.2 h)

theorem ds_zero {i j : ℕ} (h : i < j) : H.ds i j = 0 := by rw [ds, H.p_zero h, zero_mul]

end Head

/-- Real sums are extended-real sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- A sum over 128 lanes of one head's lanes is a sum over its 64. -/
theorem sum_lanes {h : ℕ} (hh : h < 2) (F : Fin 128 → EReal) (f : ℕ → ℝ)
    (e : ∀ x : Fin 128, F x = if x.val / 64 = h then (f (x.val % 64) : EReal) else 0) :
    ∑ x, F x = ((∑ x ∈ range 64, f x : ℝ) : EReal) := by
  rw [sum_congr rfl fun x _ => e x,
    Fin.sum_univ_eq_sum_range (fun x => if x / 64 = h then (f (x % 64) : EReal) else 0) 128, sum_range_add _ 64 64, coe_sum]
  have e0 : ∀ x ∈ range 64, x / 64 = 0 ∧ x % 64 = x ∧ (64 + x) / 64 = 1 ∧ (64 + x) % 64 = x := by
    intro x hx; have := mem_range.1 hx; omega
  interval_cases h
  · rw [sum_congr rfl fun x hx => if_pos (e0 x hx).1, sum_congr (g := fun _ => (0 : EReal)) rfl fun x hx =>
      if_neg (by rw [(e0 x hx).2.2.1]; decide), sum_const_zero, add_zero]
    exact sum_congr rfl fun x hx => by rw [(e0 x hx).2.1]
  · rw [sum_congr (g := fun _ => (0 : EReal)) rfl fun x hx => if_neg (by rw [(e0 x hx).1]; decide), sum_const_zero, zero_add,
      sum_congr rfl fun x hx => if_pos (e0 x hx).2.2.1]
    exact sum_congr rfl fun x hx => by rw [(e0 x hx).2.2.2]

theorem eighth : Ideal.ofBits .f32 0x3E000000#32 = ((1 / 8 : ℝ) : EReal) := by
  simp [Ideal.ofBits, Ideal.ieee, -EReal.coe_mul]; norm_num

/-- The tables hold the real numbers of the two heads: the queries scaled, the other head's lanes zero. -/
structure Fits (T : Tabs) (H : ℕ → Head) : Prop where
  Q : ∀ h i d, h < 2 → i < 4096 → d < 128 → T.Q h i d = if d / 64 = h then (((H h).q i (d % 64) / 8 : ℝ) : EReal) else 0
  D : ∀ h i d, h < 2 → i < 4096 → d < 128 → T.D h i d = if d / 64 = h then ((H h).g i (d % 64) : EReal) else 0
  K : ∀ j d, j < 4096 → d < 128 → T.K j d = ((H (d / 64)).k j (d % 64) : EReal)
  V : ∀ j d, j < 4096 → d < 128 → T.V j d = ((H (d / 64)).v j (d % 64) : EReal)
  C : ∀ h j, h < 2 → j < 4096 → T.C h j = ((H h).c j : EReal)
  L : ∀ h i, h < 2 → i < 4096 → T.L h i = (Real.log ((H h).Z i) : EReal)

section
variable {T : Tabs} {H : ℕ → Head} (hT : Fits T H)
include hT

theorem pr_eq {h i j : ℕ} (hh : h < 2) (hi : i < 4096) (hj : j < 4096) : pr T h i j = ((H h).p i j : EReal) := by
  unfold pr Head.p
  split_ifs with hij
  · unfold ex
    rw [sum_lanes hh (fun x => T.Q h i x * T.K j x) (fun x => (H h).q i x / 8 * (H h).k j x) fun x => by
      rw [hT.Q h i x hh hi x.isLt, hT.K j x hj x.isLt]
      split_ifs with hx
      · rw [hx, EReal.coe_mul]
      · rw [zero_mul], hT.C h j hh hj, hT.L h i hh hi, ← EReal.coe_sub, ← EReal.coe_sub, exp_coe, Real.exp_sub,
      Real.exp_log ((H h).Z_pos i)]
    unfold Head.lg
    rw [sum_div]
    exact congrArg (fun s : ℝ => ((Real.exp (s - (H h).c j) / (H h).Z i : ℝ) : EReal)) (sum_congr rfl fun x _ => by ring)
  · rfl

theorem dp_eq {h i j : ℕ} (hh : h < 2) (hi : i < 4096) (hj : j < 4096) : dp T h i j = ((H h).dp i j : EReal) :=
  sum_lanes hh (fun x => T.D h i x * T.V j x) (fun x => (H h).g i x * (H h).v j x) fun x => by
    rw [hT.D h i x hh hi x.isLt, hT.V j x hj x.isLt]
    split_ifs with hx
    · rw [hx, EReal.coe_mul]
    · rw [zero_mul]

theorem delta_eq {h i : ℕ} (hh : h < 2) (hi : i < 4096) : delta T h i = ((H h).del i : EReal) := by
  unfold delta Math.del Head.del
  have hle : 256 * (i / 256 + 1) ≤ 4096 := by omega
  rw [← sum_subset (range_subset_range.2 hle) fun j _ hj => by
    rw [(H h).p_zero (by have := mt mem_range.2 hj; omega), zero_mul], coe_sum]
  refine sum_congr rfl fun j hj => ?_
  have : j < 4096 := lt_of_lt_of_le (mem_range.1 hj) hle
  rw [pr_eq hT hh hi this, dp_eq hT hh hi this, EReal.coe_mul]

theorem ds_eq {h i j : ℕ} (hh : h < 2) (hi : i < 4096) (hj : j < 4096) : ds T (deltas T) h i j = ((H h).ds i j : EReal) := by
  have e : deltas T h i = ((H h).del i : EReal) := by
    unfold deltas
    rw [show (Fin.ofNat 2 h).val = h from Nat.mod_eq_of_lt hh, show (Fin.ofNat 4096 i).val = i from Nat.mod_eq_of_lt hi]
    exact delta_eq hT hh hi
  unfold ds Head.ds
  rw [e, pr_eq hT hh hi hj, dp_eq hT hh hi hj, ← EReal.coe_sub, ← EReal.coe_mul]

/-- A gradient summed over the queries from a key's own block on is the sum over all of them. -/
theorem sum_from {F : ℕ → EReal} {f : ℕ → ℝ} (a j : ℕ) (ha : a ≤ j) (e : ∀ i, i < 4096 → F i = (f i : EReal))
    (z : ∀ i, i < j → f i = 0) : ∑ i ∈ Ico a 4096, F i = ((∑ i ∈ range 4096, f i : ℝ) : EReal) := by
  rw [coe_sum, ← sum_subset (s₁ := Ico a 4096) (fun i hi => mem_range.2 (mem_Ico.1 hi).2) fun i hi hn => by
    have h1 := mem_range.1 hi
    have : i < a := by by_contra h; exact hn (mem_Ico.2 ⟨Nat.not_lt.1 h, h1⟩)
    rw [z i (lt_of_lt_of_le this ha), EReal.coe_zero]]
  exact sum_congr rfl fun i hi => e i (mem_Ico.1 hi).2

/-- Of the two heads' shares in a lane only the lane's own head counts. -/
theorem own_lane {d : ℕ} (hd : d < 128) (A X : ℕ → EReal) (a x : ℕ → ℝ) (eA : ∀ h, h < 2 → A h = (a h : EReal))
    (eX : ∀ h, h < 2 → X h = if d / 64 = h then (x h : EReal) else 0) :
    A 0 * X 0 + A 1 * X 1 = ((a (d / 64) * x (d / 64) : ℝ) : EReal) := by
  rw [eA 0 (by decide), eA 1 (by decide), eX 0 (by decide), eX 1 (by decide)]
  have : d / 64 = 0 ∨ d / 64 = 1 := by omega
  rcases this with h | h <;> simp [h]

theorem dvT_eq {j d : ℕ} (hj : j < 4096) (hd : d < 128) : dvT T j d = ((H (d / 64)).dv j (d % 64) : EReal) := by
  unfold dvT dvS Head.dv
  refine sum_from hT _ j (by omega) (fun i hi => ?_) fun i hi => by rw [Head.p_zero _ hi, zero_mul]
  exact own_lane hT hd (fun h => pr T h i j) (fun h => T.D h i d) (fun h => (H h).p i j) (fun h => (H h).g i (d % 64))
    (fun h hh => pr_eq hT hh hi hj) fun h hh => hT.D h i d hh hi hd

theorem dkT_eq {j d : ℕ} (hj : j < 4096) (hd : d < 128) : dkT T (deltas T) j d = ((H (d / 64)).dk j (d % 64) : EReal) := by
  unfold dkT dkS Head.dk
  rw [sum_div]
  refine sum_from hT _ j (by omega) (fun i hi => ?_) fun i hi => by rw [Head.ds_zero _ hi, zero_mul, zero_div]
  rw [mul_div_assoc]
  exact own_lane hT hd (fun h => ds T (deltas T) h i j) (fun h => T.Q h i d) (fun h => (H h).ds i j) (fun h => (H h).q i (d % 64) / 8)
    (fun h hh => ds_eq hT hh hi hj) fun h hh => hT.Q h i d hh hi hd

theorem dcS_eq {h j a g : ℕ} (hh : h < 2) (hj : j < 4096) (ha : a ≤ 1024 * g + 1024) : ∀ n, 1024 * g + 1024 + 1024 * n ≤ 4096 →
    dcS T (deltas T) h j a g n = ((-∑ i ∈ Ico a (1024 * g + 1024 + 1024 * n), (H h).ds i j : ℝ) : EReal)
  | 0, hn => by
    unfold dcS dsS
    rw [sum_congr rfl fun i hi => ds_eq hT hh (lt_of_lt_of_le (mem_Ico.1 hi).2 hn) hj, ← coe_sum, ← EReal.coe_zero, ← EReal.coe_sub, zero_sub]
  | n + 1, hn => by
    unfold dcS dsS
    rw [dcS_eq hh hj ha n (by omega), sum_congr rfl fun i hi => ds_eq hT hh (lt_of_lt_of_le (mem_Ico.1 hi).2 (by omega)) hj, ← coe_sum,
      ← EReal.coe_sub, show 1024 * g + 1024 + 1024 * (n + 1) = 1024 * g + 1024 + 1024 * n + 1024 by ring,
      ← sum_Ico_consecutive (fun i => (H h).ds i j) (show a ≤ 1024 * g + 1024 + 1024 * n by omega) (Nat.le_add_right _ 1024), neg_add, sub_eq_add_neg]

theorem dcT_eq {h j : ℕ} (hh : h < 2) (hj : j < 4096) : dcT T (deltas T) h j = ((H h).dc j : EReal) := by
  unfold dcT Head.dc
  rw [dcS_eq hT hh hj (by omega) _ (by omega), show 1024 * (j / 1024) + 1024 + 1024 * (3 - j / 1024) = 4096 by omega, EReal.coe_neg, EReal.coe_neg]
  refine congrArg _ ?_
  rw [coe_sum]
  exact sum_from hT _ j (by omega) (fun _ _ => rfl) fun i hi => Head.ds_zero _ hi

theorem dqB_eq {n i d : ℕ} (hn : 256 * n + 256 ≤ 4096) (hi : i < 4096) (hd : d < 128) :
    dqB T (deltas T) (half 0) (256 * n) i d
      = ((∑ x ∈ range 256, (H (d / 64)).ds i (256 * n + x) * (H (d / 64)).k (256 * n + x) (d % 64) / 8 : ℝ) : EReal) := by
  have e : ∀ h, h < 2 → h = d / 64 → ∑ x : Fin 256, ds T (deltas T) h i (256 * n + x) * T.K (256 * n + x) d
      = ((∑ x ∈ range 256, (H (d / 64)).ds i (256 * n + x) * (H (d / 64)).k (256 * n + x) (d % 64) : ℝ) : EReal) := by
    rintro h hh rfl
    rw [coe_sum, ← Fin.sum_univ_eq_sum_range (fun x => (((H (d / 64)).ds i (256 * n + x) * (H (d / 64)).k (256 * n + x) (d % 64) : ℝ) : EReal)) 256]
    exact sum_congr rfl fun x _ => by
      rw [ds_eq hT hh hi (by omega), hT.K _ d (by omega) hd, EReal.coe_mul]
  have s : dqB T (deltas T) (half 0) (256 * n) i d
      = ((∑ x ∈ range 256, (H (d / 64)).ds i (256 * n + x) * (H (d / 64)).k (256 * n + x) (d % 64) : ℝ) : EReal)
        * Ideal.ofBits .f32 0x3E000000#32 := by
    unfold dqB half
    have : d / 64 = 0 ∨ d / 64 = 1 := by omega
    rcases this with h | h
    · rw [if_pos (show d % 128 / 64 = 0 % 2 by omega)]
      exact congrArg (· * _) (e 0 (by decide) h.symm)
    · rw [if_neg (show ¬ d % 128 / 64 = 0 % 2 by omega)]
      exact congrArg (· * _) (e 1 (by decide) h.symm)
  rw [s, eighth, ← EReal.coe_mul, Finset.sum_mul]
  exact congrArg _ (sum_congr rfl fun x _ => by ring)

theorem dqS_eq {i d : ℕ} (hi : i < 4096) (hd : d < 128) :
    dqS T (deltas T) (half 0) i d (i / 256 + 1) = ((H (d / 64)).dq i (d % 64) : EReal) := by
  have e : ∀ b, 256 * b ≤ 4096 → dqS T (deltas T) (half 0) i d b
      = ((∑ j ∈ range (256 * b), (H (d / 64)).ds i j * (H (d / 64)).k j (d % 64) / 8 : ℝ) : EReal) := by
    intro b
    induction b with
    | zero => intro _; simp [dqS]
    | succ b ih =>
      intro hb
      unfold dqS at ih ⊢
      rw [sum_range_succ, ih (by omega), dqB_eq hT (by omega) hi hd, ← EReal.coe_add, show 256 * (b + 1) = 256 * b + 256 by ring, sum_range_add]
  rw [e _ (by omega)]
  unfold Head.dq
  rw [sum_div, sum_subset (range_subset_range.2 (show 256 * (i / 256 + 1) ≤ 4096 by omega)) fun j _ hj => by
    rw [Head.ds_zero _ (by have := mt mem_range.2 hj; omega), zero_mul, zero_div]]

end

end Cert.AttnKernelIdeal.Math

end
-- ==== Proof.Reads.lean ====
/-
  Loads and stores that take a whole buffer: the load reads the contents, the store leaves its payload.
-/
module

public import Idealize.ShloMosaic.Lib.WholeRead
public import Idealize.ShloMosaic.Lib.Pipeline.Value

@[expose] public section

namespace Cert.Reads

open Idealize.ShloMosaic

variable {sig : RefSig} {κ : Kind} {Val : EltTy → Type} {sp : Space} {s : Shape} {e : EltTy}

/-- A load of the whole buffer reads its contents. -/
theorem load_whole (v : View sig κ sp s e) {off : Fin s.rank → Nat} (h : off = fun _ => 0)
    (inb : ∀ a, off a + s.size a ≤ s.size a) (f : v.ty.Contents Val) :
    v.readAt Val (Rect.unit off s.size inb).toLoadRect f = v.read Val f :=
  (View.readAt_eq_ld v f _).trans (View.ld_unit_zero h inb _)

/-- A store of the whole buffer leaves its payload. -/
theorem store_whole (v : View sig κ sp s e) {off : Fin s.rank → Nat} (h : off = fun _ => 0)
    (inb : ∀ a, off a + s.size a ≤ s.size a) (f : v.ty.Contents Val) (w : s.Idx → Val e) :
    v.read Val (v.writes Val f [⟨Rect.unit off s.size inb, w⟩]) = w := by
  funext y
  refine View.read_writes_apply_of_pieces v f w _ ?_ y ⟨_, List.mem_singleton_self _, View.mem_set_unit_zero h inb y⟩
  intro p hp x
  obtain rfl := List.mem_singleton.mp hp
  subst h
  exact congrArg w (Rect.emb_whole_apply (s := s) x).symm

end Cert.Reads
-- ==== Proof.GateBody.lean ====
/-
  The body of the forget gate's backward call: what its counted loop leaves in the gradient's window, block of eight rows
  by block from the last to the first, and what the two results hold when it returns.
-/
module

public import proofs.«01_k».proof.Proof.Gen.GateKernelIdeal.Frame
public import proofs.«01_k».proof.Proof.Gen.GateKernelIdeal.Loops
public import proofs.«01_k».proof.Proof.Gen.GateKernelIdeal.Skeleton
public import Idealize.ShloMosaic.Lib.Pointwise
public import proofs.«01_k».proof.Proof.Reads
public import Idealize.ShloMosaic.Lib.WholeRead
public import Idealize.ShloMosaic.Lib.Claim
public import Idealize.ShloMosaic.Lib.Pipeline.Value
public import Idealize.ShloMosaic.Lib.Pipeline.ReadBack

@[expose] public section

set_option maxRecDepth 16384

noncomputable section

namespace Cert.GateKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateKernelIdeal Cert.GateKernelIdeal.Gen

variable {F : FTy → Type} [FloatOps F]

local notation "𝕄" => MT nD τ sig Unit (Elt F) ℕ (UR sig nD τ) ℕ

/-- The eight rows the loop takes at trip `k`: it goes from the last block to the first. -/
def chunk (X : Vec F S4096x128 .f32) (k : ℕ) : Vec F S8x128 .f32 := fun x =>
  X (ix2 ⟨4088 - 8 * k + (x 0).val, by have h : (x 0).val < 8 := (x 0).isLt; omega⟩ (x 1))

/-- The row carried into trip `k`: the sums of everything the trips before it took. -/
def carry (X : Vec F S4096x128 .f32) : ℕ → FVec F S1x128 .f32
  | 0 => k0_pay1
  | k + 1 => k0_pay3 (carry X k) (chunk X k)

/-- The array the loop leaves: each row from its block's trip. -/
def scan (X : Vec F S4096x128 .f32) : Vec F S4096x128 .f32 := fun y =>
  k0_pay2 (carry X (511 - (y 0).val / 8)) (chunk X (511 - (y 0).val / 8))
    (ix2 ⟨(y 0).val % 8, Nat.mod_lt _ (by decide)⟩ (y 1))

/-- A trip's load is its chunk of the upstream gradient. -/
theorem chunk_eq (M : Memref sig .tc .vmem S4096x128 .f32) (hM : M.IsWhole) (X : Vec F S4096x128 .f32) (k : Fin k0_t1_loop.trips) :
    M.view.readAt (Elt F) (Rect.unit (s := S4096x128) (k0_off1 k) S8x128.size (k0_off1_inb k)).toLoadRect (hM.unread X) = chunk X k.val := by
  funext x
  rw [hM.readAt_unread]
  unfold chunk
  congr 1
  funext a
  apply Fin.ext
  fin_cases a
  · show k0_off1 k 0 + 1 * (x 0).val = 4088 - 8 * k.val + (x 0).val
    rw [congrFun (k0_off1_eq k) 0, Nat.one_mul]; rfl
  · show k0_off1 k 1 + 1 * (x 1).val = (x 1).val
    rw [congrFun (k0_off1_eq k) 1, Nat.one_mul]; exact Nat.zero_add _

/-- A row of the array at its trip. -/
theorem scan_eq (X : Vec F S4096x128 .f32) {k : ℕ} (hk : k < 512) (x : S8x128.Idx) (y : S4096x128.Idx)
    (h0 : (y 0).val = 4088 - 8 * k + (x 0).val) (h1 : (y 1).val = (x 1).val) : scan X y = k0_pay2 (carry X k) (chunk X k) x := by
  have hx : (x 0).val < 8 := (x 0).isLt
  have e : 511 - (y 0).val / 8 = k := by omega
  unfold scan
  rw [e]
  congr 1
  funext a
  fin_cases a
  · apply Fin.ext; show (y 0).val % 8 = (x 0).val; omega
  · exact Fin.ext h1

/-- Before trip `k` the rows from `4096 - 8 k` on are written, and the carried row is the one named. -/
structure Done (M : Memref sig .tc .vmem S4096x128 .f32) (X : Vec F S4096x128 .f32) (k : ℕ) (f : BufTy.Contents (Elt F) M.view.ty)
    (acc : FVec F S1x128 .f32) : Prop where
  rows : ∀ y : S4096x128.Idx, 4096 ≤ (y 0).val + 8 * k → M.view.read (Elt F) f y = scan X y
  acc : acc = carry X k

theorem Done.zero (M : Memref sig .tc .vmem S4096x128 .f32) (X : Vec F S4096x128 .f32) (f : BufTy.Contents (Elt F) M.view.ty) :
    Done M X 0 f k0_pay1 := ⟨fun y h => absurd (y 0).isLt (by show ¬ (y 0).val < 4096; omega), rfl⟩

/-- One trip's store. -/
theorem Done.succ {M : Memref sig .tc .vmem S4096x128 .f32} {X : Vec F S4096x128 .f32} {k : Fin k0_t1_loop.trips}
    {f : BufTy.Contents (Elt F) M.view.ty} {acc : FVec F S1x128 .f32} (h : Done M X k.val f acc) :
    Done M X (k.val + 1) (M.view.writes (Elt F) f
      [⟨Rect.unit (s := S4096x128) (k0_off1 k) S8x128.size (k0_off1_inb k), k0_pay2 acc (chunk X k.val)⟩])
      (k0_pay3 acc (chunk X k.val)) := by
  have hk : k.val < 512 := Nat.lt_of_lt_of_le k.isLt k0_t1_abs.2.1
  obtain ⟨h, rfl⟩ := h
  refine ⟨fun y hy => ?_, rfl⟩
  have hy0 : (y 0).val < 4096 := (y 0).isLt
  by_cases hb : (y 0).val + 8 * k.val < 4096
  · refine View.read_writes_apply_of_pieces _ f (scan X) _ ?_ y ⟨_, List.mem_singleton_self _, ?_⟩
    · intro p hp x
      obtain rfl := List.mem_singleton.mp hp
      exact (scan_eq X hk x _ (by
        show k0_off1 k 0 + 1 * _ = _
        rw [congrFun (k0_off1_eq k) 0, Nat.one_mul]; rfl) (by
        show k0_off1 k 1 + 1 * _ = _
        rw [congrFun (k0_off1_eq k) 1, Nat.one_mul]; exact Nat.zero_add _)).symm
    · rw [Rect.mem_set_unit, k0_off1_eq]
      intro a
      fin_cases a
      · exact ⟨show 4088 - 8 * k.val ≤ (y 0).val by omega, show (y 0).val < 4088 - 8 * k.val + 8 by omega⟩
      · exact ⟨Nat.zero_le _, show (y 1).val < 0 + 128 from (Nat.zero_add 128).symm ▸ (y 1).isLt⟩
  · rw [View.read_writes_apply_of_forall_not_mem]
    · exact h y (by omega)
    · intro p hp
      obtain rfl := List.mem_singleton.mp hp
      rw [Rect.mem_set_unit, k0_off1_eq]
      intro hm
      have : (y 0).val < 4088 - 8 * k.val + 8 := (hm 0).2
      omega

/-- The loop's invariant: the upstream gradient held as it is, and the result's window as far as the trips have come. -/
abbrev inv (c : Dev nD) (arg3 : Memref sig .tc .vmem S4096x128 .f32) (harg3 : arg3.IsWhole) (arg4 : Memref sig .tc .vmem S4096x128 .f32)
    (X : Vec F S4096x128 .f32) (k : ℕ) (acc : FVec F S1x128 .f32) : sProp 𝕄 :=
  iprop((arg3.view.loc (c : Thread nD τ) ↦[arg3.view.set]{fullShare} harg3.unread X)
    ∗ (∃ f, (arg4.view.loc (c : Thread nD τ) ↦[arg4.view.set]{fullShare} f) ∗ ⌜Done arg4 X k f acc⌝))

set_option warn.classDefReducibility false in
/-- The loop by its invariant. -/
@[sl_loop] def loopInv (𝒱 : Variants) (c : Dev nD) (bd : Option 𝒱.V) (E : Set ℕ) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (X : Vec F S4096x128 .f32) (init : FVec F S1x128 .f32) :
    LoopInvTy_k0_t1 (F := F) Unit ℕ (UR sig nD τ) ℕ 𝒱 c bd E i arg1 harg1 arg2 harg2 arg3 harg3 arg4 harg4 arg5 harg5 init where
  inv := inv c arg3 harg3 arg4 X
  step k acc := by
    unfold k0_t1_body
    iintro ⟨H3, ⟨%f, H4, %hd⟩⟩
    sl_exec
    sl_step
    isplitl [H3]; · iexact H3
    iexists _
    isplitl [H4]; · iexact H4
    ipureintro
    rw [chunk_eq]
    exact hd.succ

/-- The body's triple: from the three inputs it leaves the gradient and its column sums, whatever the results' windows held. -/
theorem run (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole)
    (x0 : Vec F S4096x128 .f32) (x1 : Vec F S1x128 .f32) (x2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
      ∗ (iprop(owns (c : Thread nD τ) arg1 fullShare x0 ∗ owns (c : Thread nD τ) arg2 fullShare x1 ∗ owns (c : Thread nD τ) arg3 fullShare x2 ∗ owns (c : Thread nD τ) arg4 fullShare (k0_pay4 (scan x2) x0 x1) ∗ owns (c : Thread nD τ) arg5 fullShare (k0_pay5 (scan x2) x0 x1)) -∗ K ⟨⟩))
      ⊢ wp frame (wpE (defs₀ (F := F)) Variants.none c none) E (cc0_fgate_bwd i arg1 harg1 arg2 harg2 arg3 harg3 arg4 harg4 arg5 harg5) K := by
  simp only [cc0_fgate_bwd_eq_skeleton]; unfold cc0_fgate_bwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  have hz := Done.zero arg4 x2 f3
  sl_exec
  sl_step
  have hs : arg4.view.read (Elt F) fL0 = scan x2 := by
    funext y
    refine hL2.rows y ?_
    have ht : Scf.trips k0_t1_loop.lb k0_t1_loop.ub k0_t1_loop.st = 512 := by decide +kernel
    rw [ht]; omega
  have z : (![0, 0] : Fin 2 → ℕ) = fun _ => 0 := by funext a; fin_cases a <;> rfl
  rw [Cert.Reads.load_whole arg4.view z, Cert.Reads.load_whole arg1.view z, Cert.Reads.load_whole arg2.view z, hf0, hf1, hs]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro; exact Cert.Reads.store_whole arg4.view z _ _ _
  iexists _; isplitr; swap; · iexact H4
  ipureintro; exact Cert.Reads.store_whole arg5.view z _ _ _

variable (m : (ℓ : Loc nD τ sig) → Buf (Elt F) ℓ) (ρ : Dev nD → PrngReg)

/-- The region's data: every input window at its block, the two results at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (scan (iblk m c 2 t)) (iblk m c 0 t) (iblk m c 1 t)
    | ⟨4, _⟩ => k0_pay5 (scan (iblk m c 2 t)) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay4 (scan (iblk m c 2 t)) (iblk m c 0 t) (iblk m c 1 t) := by dsimp only [dats]
theorem after4 (c : Dev nD) (t : Fin cfg0.N) :
    (dats m 0 c).after 4 t = k0_pay5 (scan (iblk m c 2 t)) (iblk m c 0 t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at the one point of the grid. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl, after0, after1, after2, after3, after4]
  iintro ⟨HΦ, Ho, ⟨%d0, H0⟩, ⟨%d1, H1⟩, ⟨%d2, H2⟩, ⟨%d3, H3⟩, ⟨%d4, H4⟩⟩
  iapply ((run c (grid0.coords t) _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

set_option backward.isDefEq.respectTransparency.types false in
/-- The whole program's run: the two results at the region's data, everything else as it was, no semaphore held. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments are left as they were and no semaphore is held. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateKernelIdeal.Body

end
-- ==== Proof.GateValue.lean ====
/-
  What the forget gate's backward call leaves in its two results, at the extended reals: every row of the loop's array is
  the sum of the upstream gradient's rows from it on, and the results are that times the logistic function and its sum.
-/
module

public import proofs.«01_k».proof.Proof.GateBody
public import proofs.«01_k».proof.Proof.Reals
public import Idealize.ShloMosaic.Lib.Pipeline.ValueKit
public import Idealize.ShloMosaic.Lib.Tactic

@[expose] public section

set_option maxRecDepth 16384

noncomputable section

namespace Cert.GateKernelIdeal.Body

open Idealize.ShloMosaic Idealize.ShloMosaic.TcCoe Idealize.SL.Sem
open Idealize.ShloMosaic.Pipeline (Dat)
open Cert.GateKernelIdeal Cert.GateKernelIdeal.Gen

/-- A column of an array by row number. -/
def column (X : Vec Ideal S4096x128 .f32) (q : Fin 128) (r : ℕ) : EReal :=
  if h : r < 4096 then X (ix2 ⟨r, h⟩ q) else 0

/-- A rotation of the eight rows. -/
theorem rot (n : BitVec 32) (x : FVec Ideal S8x128 .f32) (h : S8x128.Rotates 0 none) (p p' : Fin 8) (q : Fin 128)
    (hp : (p.val + 8 - n.toNat % 8) % 8 = p'.val) : dynamicRotate 0 n none x h (ix2 p q) = x (ix2 p' q) := by
  refine congrArg x (funext fun b => ?_)
  fin_cases b
  · exact Fin.ext hp
  · rfl

/-- One step of the doubling sum: every row below `n` takes the row `8 - n` after it. -/
def step (n : BitVec 32) (x : FVec Ideal S8x128 .f32) : FVec Ideal S8x128 .f32 :=
  addf x (select (cmpi .slt (iota .tc S8x128 32 [0] iota_S8x128_d0_w32) (broadcast S8x128 n))
    (dynamicRotate 0 n none x rotates_S8x128_d0) (broadcast S8x128 (Scalar.ofBits .f32 0x00000000#32)))

theorem step_apply (n : BitVec 32) (x : FVec Ideal S8x128 .f32) (p p' : Fin 8) (q : Fin 128)
    (hp : (p.val + 8 - n.toNat % 8) % 8 = p'.val) :
    step n x (ix2 p q) = x (ix2 p q) + if IntOp.cmpi .slt (BitVec.ofNat 32 p.val) n = 1#1 then x (ix2 p' q) else 0 := by
  have e := rot n x rotates_S8x128_d0 p p' q hp
  unfold step
  generalize dynamicRotate 0 n none x rotates_S8x128_d0 = y at e
  pointwise []
  rw [e]
  rfl

/-- The eight rows' sums from each row on, with the carried row added. -/
theorem pay2_apply (acc : FVec Ideal S1x128 .f32) (C : FVec Ideal S8x128 .f32) (p : Fin 8) (q : Fin 128) :
    k0_pay2 acc C (ix2 p q) = (∑ j : Fin 8, if p ≤ j then C (ix2 j q) else 0) + acc (ix2 0 q) := by
  have e : k0_pay2 acc C = addf (step 4#32 (step 6#32 (step 7#32 C))) (broadcastTo S8x128 acc broadcasts_S1x128_S8x128) := by
    unfold k0_pay2 step
    rw [shapeCast_self]
  have s4 := fun p p' => step_apply 4#32 (step 6#32 (step 7#32 C)) p p' q
  have s6 := fun p p' => step_apply 6#32 (step 7#32 C) p p' q
  have s7 := fun p p' => step_apply 7#32 C p p' q
  have h : k0_pay2 acc C (ix2 p q) = step 4#32 (step 6#32 (step 7#32 C)) (ix2 p q) + acc (ix2 0 q) := by
    rw [e]
    generalize step 4#32 (step 6#32 (step 7#32 C)) = y
    pointwise []
  rw [h, Fin.sum_univ_eight]
  refine congrArg₂ _ ?_ rfl
  have d4 : ∀ p : Fin 8, step 4#32 (step 6#32 (step 7#32 C)) (ix2 p q) = _ := fun p => s4 p ⟨(p.val + 8 - 4) % 8, Nat.mod_lt _ (by decide)⟩ rfl
  have d6 : ∀ p : Fin 8, step 6#32 (step 7#32 C) (ix2 p q) = _ := fun p => s6 p ⟨(p.val + 8 - 6) % 8, Nat.mod_lt _ (by decide)⟩ rfl
  have d7 : ∀ p : Fin 8, step 7#32 C (ix2 p q) = _ := fun p => s7 p ⟨(p.val + 8 - 7) % 8, Nat.mod_lt _ (by decide)⟩ rfl
  rw [d4]
  simp only [d6, d7]
  fin_cases p <;> simp [IntOp.cmpi, add_assoc]

/-- The row carried on is the first of the eight. -/
theorem pay3_apply (acc : FVec Ideal S1x128 .f32) (C : FVec Ideal S8x128 .f32) (p : Fin 1) (q : Fin 128) :
    k0_pay3 acc C (ix2 p q) = k0_pay2 acc C (ix2 0 q) := by
  unfold k0_pay3
  generalize k0_pay2 acc C = y
  pointwise []
  rw [Fin.sum_univ_eight]
  simp [IntOp.cmpi, Scalar.select]

theorem chunk_apply (X : Vec Ideal S4096x128 .f32) {k : ℕ} (hk : k < 512) (p : Fin 8) (q : Fin 128) :
    chunk X k (ix2 p q) = column X q (4088 - 8 * k + p.val) := by
  unfold chunk column
  rw [dif_pos (by have := p.isLt; omega)]
  rfl

/-- A chunk's sum from a row on. -/
theorem chunk_sum (X : Vec Ideal S4096x128 .f32) {k : ℕ} (hk : k < 512) (p : Fin 8) (q : Fin 128) :
    (∑ j : Fin 8, if p ≤ j then chunk X k (ix2 j q) else 0)
      = ∑ r ∈ Finset.Ico (4088 - 8 * k + p.val) (4096 - 8 * k), column X q r := by
  rw [show 4096 - 8 * k = 4088 - 8 * k + 8 by omega, Finset.sum_Ico_eq_sum_range]
  simp only [chunk_apply X hk, Fin.sum_univ_eight]
  generalize 4088 - 8 * k = a
  fin_cases p <;> simp [Finset.sum_range_succ, add_assoc]

/-- The carried row: the sum of all rows of the trips before. -/
theorem carry_apply (X : Vec Ideal S4096x128 .f32) (k : ℕ) (hk : k ≤ 512) (p : Fin 1) (q : Fin 128) :
    carry X k (ix2 p q) = ∑ r ∈ Finset.Ico (4096 - 8 * k) 4096, column X q r := by
  induction k with
  | zero =>
    show (k0_pay1 : FVec Ideal S1x128 .f32) _ = _
    unfold k0_pay1
    pointwise []
    simp
  | succ k ih =>
    obtain rfl : p = 0 := Subsingleton.elim _ _
    show k0_pay3 (carry X k) (chunk X k) _ = _
    rw [pay3_apply, pay2_apply, ih (by omega), chunk_sum X (by omega)]
    rw [Finset.sum_Ico_consecutive _ (by simp; omega) (by omega)]
    rw [show 4088 - 8 * k + (0 : Fin 8).val = 4096 - 8 * (k + 1) by simp; omega]

/-- The loop's array, row by row. -/
theorem scan_apply (X : Vec Ideal S4096x128 .f32) (r : Fin 4096) (q : Fin 128) :
    scan X (ix2 r q) = ∑ j ∈ Finset.Ico r.val 4096, column X q j := by
  have hr := r.isLt
  rw [scan_eq X (k := 511 - r.val / 8) (by omega) (ix2 ⟨r.val % 8, Nat.mod_lt _ (by decide)⟩ q) (ix2 r q)
    (by show r.val = 4088 - 8 * (511 - r.val / 8) + r.val % 8; omega) rfl, pay2_apply, chunk_sum X (by omega),
    carry_apply X _ (by omega), Finset.sum_Ico_consecutive _ (by show 4088 - 8 * (511 - r.val / 8) + r.val % 8 ≤ _; omega) (by omega)]
  rw [show 4088 - 8 * (511 - r.val / 8) + (⟨r.val % 8, Nat.mod_lt _ (by decide)⟩ : Fin 8).val = r.val by
    show 4088 - 8 * (511 - r.val / 8) + r.val % 8 = r.val; omega]

variable (m : (ℓ : Loc nD τ sig) → Buf (Elt Ideal) ℓ)

/-- The gates' argument, upstream gradient and bias as the kernel is handed them: six lanes of the 128. -/
def gateIn (z : Vec Ideal S4096x2182 .f32) (r : Fin 4096) (q : Fin 128) : EReal :=
  if h : q.val < 6 then z (ix2 r ⟨1920 + q.val, by omega⟩) else 0
def upIn (d : Vec Ideal S6x4096 .f32) (r : Fin 4096) (q : Fin 128) : EReal :=
  if h : q.val < 6 then d (ix2 ⟨q.val, h⟩ r) else 0
def biasIn (b : Vec Ideal S6 .f32) (q : Fin 128) : EReal :=
  if h : q.val < 6 then b (ix1 ⟨q.val, h⟩) else 0

theorem sitofp_zero : (FloatOps.sitofp .f32 (0#32 : BitVec 32) : Ideal .f32) = (0 : EReal) := by
  show (((0#32 : BitVec 32).toInt : ℝ) : EReal) = 0
  simp

theorem V_v7 (c : Dev nD) (i : S4096x2304.Idx) (q : Fin 128) (h : (i 1).val = 1920 + q.val) : V m c main_v7 i
    = gateIn (m ((c.tc : Thread nD τ).loc main_arg0)) (i 0) q := by
  idx_vars i
  unfold_abbrev_sides
  simp only [hostOps0, hostOps0_1, hostOps0_2, hostOps0_3, hostOps0_4, List.flatten_cons, List.flatten_nil, List.append_nil,
    List.cons_append, List.nil_append]
  after_results
  pointwise [gateIn]
  simp only [↓ StableHlo.readResult, ↓ StableHlo.readPieces]
  pointwise []
  have hq := q.isLt
  by_cases h6 : q.val < 6
  · rw [dif_pos (by omega), dif_pos h6]
    simp only [h]
  · rw [dif_neg (by omega), dif_neg h6, dif_pos (by omega)]

theorem V_v1 (c : Dev nD) (i : S1x128.Idx) : V m c main_v1 i = biasIn (m ((c.tc : Thread nD τ).loc main_arg1)) (i 1) := by
  idx_vars i
  unfold_abbrev_sides
  simp only [hostOps0, hostOps0_1, hostOps0_2, hostOps0_3, hostOps0_4, List.flatten_cons, List.flatten_nil, List.append_nil,
    List.cons_append, List.nil_append]
  after_results
  simp -implicitDefEqProofs only [StableHlo.TRef.toBuf, StableHlo.TRef.ofBuf, cast_cast, cast_eq]
  pointwise [biasIn]
  rw [sitofp_zero]

theorem V_v3 (c : Dev nD) (i : S4096x128.Idx) : V m c main_v3 i = upIn (m ((c.tc : Thread nD τ).loc main_arg2)) (i 0) (i 1) := by
  idx_vars i
  unfold_abbrev_sides
  simp only [hostOps0, hostOps0_1, hostOps0_2, hostOps0_3, hostOps0_4, List.flatten_cons, List.flatten_nil, List.append_nil,
    List.cons_append, List.nil_append]
  after_results
  simp -implicitDefEqProofs only [StableHlo.TRef.toBuf, StableHlo.TRef.ofBuf, cast_cast, cast_eq]
  pointwise [upIn]
  rw [sitofp_zero]

/-- The logistic function as the kernel spells it. -/
def logi (g : EReal) : EReal :=
  Ideal.div (Ideal.ofBits .f32 0x3F800000#32) (Ideal.ofBits .f32 0x3F800000#32
    + Ideal.exp (Ideal.ofBits .f32 0x00000000#32 - (Ideal.ofBits .f32 0x00000000#32 - g)))

/-- The upstream gradient summed over the rows from one on. -/
def later (d : Vec Ideal S6x4096 .f32) (r : Fin 4096) (q : Fin 128) : EReal :=
  ∑ j : Fin 4096, if r ≤ j then upIn d j q else 0

/-- The gradient of the gates' argument. -/
def gateGrad (z : Vec Ideal S4096x2182 .f32) (b : Vec Ideal S6 .f32) (d : Vec Ideal S6x4096 .f32) (r : Fin 4096) (q : Fin 128) : EReal :=
  later d r q * logi (gateIn z r q + biasIn b q)

theorem idx : ∀ t : Fin cfg0.N, win0_0.index t = ![0, 15] ∧ win0_1.index t = ![0, 0]
    ∧ win0_2.index t = ![0, 0] ∧ win0_3.index t = ![0, 0] ∧ win0_4.index t = ![0, 0] :=
  (by decide +kernel : ∀ t : Fin grid0.N, win0_0.index t = ![0, 15] ∧ win0_1.index t = ![0, 0]
    ∧ win0_2.index t = ![0, 0] ∧ win0_3.index t = ![0, 0] ∧ win0_4.index t = ![0, 0])

theorem blk0 (c : Dev nD) (t : Fin cfg0.N) (r : Fin 4096) (q : Fin 128) :
    iblk m c 0 t (ix2 r q) = gateIn (m ((c.tc : Thread nD τ).loc main_arg0)) r q := by
  refine Eq.trans ?_ (V_v7 m c (ix2 r ⟨1920 + q.val, by omega⟩) q rfl)
  blk_point [iblk, idx t]

theorem blk1 (c : Dev nD) (t : Fin cfg0.N) (p : Fin 1) (q : Fin 128) :
    iblk m c 1 t (ix2 p q) = biasIn (m ((c.tc : Thread nD τ).loc main_arg1)) q := by
  refine Eq.trans ?_ (V_v1 m c (ix2 p q))
  blk_point [iblk, idx t]

theorem blk2 (c : Dev nD) (t : Fin cfg0.N) (r : Fin 4096) (q : Fin 128) :
    iblk m c 2 t (ix2 r q) = upIn (m ((c.tc : Thread nD τ).loc main_arg2)) r q := by
  refine Eq.trans ?_ (V_v3 m c (ix2 r q))
  blk_point [iblk, idx t]

theorem scan_blk (c : Dev nD) (t : Fin cfg0.N) (r : Fin 4096) (q : Fin 128) :
    scan (iblk m c 2 t : Vec Ideal S4096x128 .f32) (ix2 r q) = later (m ((c.tc : Thread nD τ).loc main_arg2)) r q := by
  rw [scan_apply, later]
  have e : ∀ j : Fin 4096, (if r ≤ j then upIn (m ((c.tc : Thread nD τ).loc main_arg2)) j q else 0)
      = if r.val ≤ j.val then column (iblk m c 2 t) q j.val else 0 := fun j => by
    unfold column
    rw [dif_pos j.isLt, blk2]; rfl
  simp only [e]
  rw [Fin.sum_univ_eq_sum_range (fun j => if r.val ≤ j then column (iblk m c 2 t) q j else 0) 4096, ← Finset.sum_filter]
  refine Finset.sum_congr (Finset.ext fun j => ?_) fun _ _ => rfl
  simp only [Finset.mem_Ico, Finset.mem_filter, Finset.mem_range]
  exact and_comm

theorem pay4 (c : Dev nD) (t : Fin cfg0.N) (r : Fin 4096) (q : Fin 128) :
    k0_pay4 (scan (iblk m c 2 t)) (iblk m c 0 t) (iblk m c 1 t) (ix2 r q) = gateGrad (m ((c.tc : Thread nD τ).loc main_arg0))
      (m ((c.tc : Thread nD τ).loc main_arg1)) (m ((c.tc : Thread nD τ).loc main_arg2)) r q := by
  have e := scan_blk m c t r q
  generalize scan (iblk m c 2 t : Vec Ideal S4096x128 .f32) = X at e
  unfold_payloads
  pointwise [gateGrad, logi]
  rw [e, blk0, blk1]

theorem pay5 (c : Dev nD) (t : Fin cfg0.N) (p : Fin 1) (q : Fin 128) :
    k0_pay5 (scan (iblk m c 2 t)) (iblk m c 0 t) (iblk m c 1 t) (ix2 p q) = ∑ r : Fin 4096, gateGrad (m ((c.tc : Thread nD τ).loc main_arg0))
      (m ((c.tc : Thread nD τ).loc main_arg1)) (m ((c.tc : Thread nD τ).loc main_arg2)) r q := by
  have e := fun r => pay4 m c t r q
  unfold k0_pay5
  generalize k0_pay4 (scan (iblk m c 2 t)) (iblk m c 0 t) (iblk m c 1 t) = y at e
  pointwise []
  simp only [e]

/-- The first result: the gradient of the gates' argument. -/
theorem arr3 (c : Dev nD) : (dats m 0 c).arrAt 3 cfg0.N = fun i => gateGrad (m ((c.tc : Thread nD τ).loc main_arg0))
      (m ((c.tc : Thread nD τ).loc main_arg1)) (m ((c.tc : Thread nD τ).loc main_arg2)) (i 0) (i 1) := by
  generalize hX : (fun i : S4096x128.Idx => gateGrad (m ((c.tc : Thread nD τ).loc main_arg0))
      (m ((c.tc : Thread nD τ).loc main_arg1)) (m ((c.tc : Thread nD τ).loc main_arg2)) (i 0) (i 1)) = X
  refine (dats m 0 c).arrAt_eq_of_covers 3 _ (by decide +kernel) fun t hf y => ?_
  blk_simp
  rw [after3]
  idx_vars y
  refine (pay4 m c t _ _).trans ((congrFun hX (ix2 y0 y1)).trans ?_)
  blk_point [idx t]

/-- The second result: the gradient of their bias. -/
theorem arr4 (c : Dev nD) : (dats m 0 c).arrAt 4 cfg0.N = fun i => ∑ r : Fin 4096, gateGrad (m ((c.tc : Thread nD τ).loc main_arg0))
      (m ((c.tc : Thread nD τ).loc main_arg1)) (m ((c.tc : Thread nD τ).loc main_arg2)) r (i 1) := by
  generalize hX : (fun i : S1x128.Idx => ∑ r : Fin 4096, gateGrad (m ((c.tc : Thread nD τ).loc main_arg0))
      (m ((c.tc : Thread nD τ).loc main_arg1)) (m ((c.tc : Thread nD τ).loc main_arg2)) r (i 1)) = X
  refine (dats m 0 c).arrAt_eq_of_covers 4 _ (by decide +kernel) fun t hf y => ?_
  blk_simp
  rw [after4]
  idx_vars y
  refine (pay5 m c t _ _).trans ((congrFun hX (ix2 y0 y1)).trans ?_)
  blk_point [idx t]

end Cert.GateKernelIdeal.Body

end
-- ==== Proof.GateEquation.lean ====
/-
  The two results of the forget gate's backward call are the reference's: its reversed running sum is the sum of the later
  rows, and the derivative of the logarithm of the logistic function is the logistic function of the negated argument.
-/
module

public import proofs.«01_k».proof.Defs
public import proofs.«01_k».proof.Proof.GateValue
public import Idealize.ShloMosaic.Lib.Quiescent
public import proofs.«01_k».proof.Proof.Gen.GateKernel
public import proofs.«01_k».proof.Proof.Gen.GateReferenceIdeal.Run
public import proofs.«01_k».proof.Proof.Gen.GateReferenceIdeal.Read

@[expose] public section

set_option maxRecDepth 16384

noncomputable section

namespace Cert.Proof.Gate

open Idealize.ShloMosaic Idealize.ShloMosaic.TcCoe Idealize.SL.Sem
open Cert.GateKernelIdeal.Body (gateIn upIn biasIn logi later gateGrad)
open Cert.GateReferenceIdeal.Read
open Cert.Reals

abbrev Zs := Vec Ideal ⟨2, ![4096, 2182]⟩ .f32
abbrev Bs := Vec Ideal ⟨1, ![6]⟩ .f32
abbrev Ds := Vec Ideal ⟨2, ![6, 4096]⟩ .f32

theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- A column by row number, zero past the end. -/
def past (d : Ds) (q : Fin 6) (j : ℕ) : EReal := if h : j < 4096 then d (ix2 q ⟨j, h⟩) else 0

theorem sum_past (d : Ds) (q : Fin 6) (r : Fin 4096) :
    ∑ n : Fin 4096, past d q (r.val + n.val) = ∑ j : Fin 4096, if r ≤ j then d (ix2 q j) else 0 := by
  have hr := r.isLt
  have e : ∀ j : Fin 4096, (if r ≤ j then d (ix2 q j) else 0) = if r.val ≤ j.val then past d q j.val else 0 := fun j => by
    unfold past
    rw [dif_pos j.isLt]; rfl
  simp only [e]
  rw [Fin.sum_univ_eq_sum_range (fun j => past d q (r.val + j)) 4096,
    Fin.sum_univ_eq_sum_range (fun j => if r.val ≤ j then past d q j else 0) 4096, ← Finset.sum_filter]
  have h0 : ∑ j ∈ Finset.Ico 4096 (r.val + 4096), past d q j = 0 := Finset.sum_eq_zero fun j hj => by
    unfold past
    rw [dif_neg (by have := (Finset.mem_Ico.mp hj).1; omega)]
  have h1 := Finset.sum_Ico_eq_sum_range (past d q) r.val (r.val + 4096)
  rw [Nat.add_sub_cancel_left, ← Finset.sum_Ico_consecutive _ hr.le (by omega), h0, add_zero] at h1
  rw [← h1]
  refine Finset.sum_congr (Finset.ext fun j => ?_) fun _ _ => rfl
  simp only [Finset.mem_Ico, Finset.mem_filter, Finset.mem_range]
  exact and_comm

/-- A windowed sum from zero, as a sum over the window's places. -/
theorem reduceWindow_sum {s t : Shape} (window strides lo hi : Fin s.rank → ℕ) (h : s.ReduceWindows window strides lo hi t)
    (key : HostSchedule) (x : FVec Ideal s .f32) (j : t.Idx) :
    FloatOps.hostReduceWindowAdd (F := Ideal) (φ := .f32) window strides lo hi h key x (0 : EReal) j
      = ∑ k : (⟨s.rank, window⟩ : Shape).Idx,
      if hin : ∀ a, lo a ≤ (j (a.cast h.1.symm)).val * strides a + (k a).val
          ∧ (j (a.cast h.1.symm)).val * strides a + (k a).val - lo a < s.size a then
        (x (fun a => ⟨(j (a.cast h.1.symm)).val * strides a + (k a).val - lo a, (hin a).2⟩) : EReal) else 0 := by
  show Host.reduceWindow (· + ·) window strides lo hi x (fun _ : (⟨0, ![]⟩ : Shape).Idx => (0 : EReal)) h (by decide) j = _
  unfold Host.reduceWindow
  rw [foldl_add, zero_add, ← Fin.sum_univ_def]
  refine Eq.trans (Finset.sum_congr rfl fun n _ => ?_) (Equiv.sum_comp (Shape.rowMajor ⟨s.rank, window⟩).symm (fun k => if hin : ∀ a, lo a ≤ (j (a.cast h.1.symm)).val * strides a + (k a).val
          ∧ (j (a.cast h.1.symm)).val * strides a + (k a).val - lo a < s.size a then
        (x (fun a => ⟨(j (a.cast h.1.symm)).val * strides a + (k a).val - lo a, (hin a).2⟩) : EReal) else 0))
  congr

/-- The reference's reversed running sum. -/
theorem later_eq (d : Ds) (q : Fin 6) (r : Fin 4096) :
    val_main_v7 (F := Ideal) d (ix2 q r) = ∑ j : Fin 4096, if r ≤ j then d (ix2 q j) else 0 := by
  rw [← sum_past]
  have z : (val_main_call2_call0_v0 (F := Ideal)) (Shape.Idx.first Cert.GateReferenceIdeal.Gen.facts.h_S_) = (0 : EReal) :=
    (val_main_call2_call0_v0_apply _).trans Ideal.ofBits_zero_f32
  unfold val_main_v7 Host.reduceWindowAdd
  rw [z, reduceWindow_sum]
  have hb : Function.Bijective (fun n : Fin 4096 => (ix2 0 n : (⟨2, ![1, 4096]⟩ : Shape).Idx)) := by
    refine ⟨fun a b h => congrFun h 1, fun k => ⟨k 1, ?_⟩⟩
    funext a
    fin_cases a
    · exact Subsingleton.elim (α := Fin 1) _ _
    · rfl
  refine (hb.sum_comp _).symm.trans (Finset.sum_congr rfl fun n _ => ?_)
  unfold past
  by_cases h : r.val + n.val < 4096
  · rw [dif_pos h, dif_pos]
    · refine congrArg d (funext fun a => ?_)
      fin_cases a
      · exact Fin.ext (by show q.val * 1 + 0 - 0 = q.val; omega)
      · exact Fin.ext (by show r.val * 1 + n.val - 0 = r.val + n.val; omega)
    · intro a
      fin_cases a
      · exact ⟨Nat.zero_le _, by show q.val * 1 + 0 - 0 < 6; omega⟩
      · exact ⟨Nat.zero_le _, by show r.val * 1 + n.val - 0 < 4096; omega⟩
  · rw [dif_neg h, dif_neg]
    intro hin
    have : r.val * 1 + n.val - 0 < 4096 := (hin 1).2
    omega

/-- The logarithm of one plus an exponential, as the reference spells it of a negated argument. -/
def soft (n : EReal) : EReal := max n 0 + Ideal.log (1 + Ideal.exp (-max n (-n)))

theorem logi_eq (x : EReal) : logi x = Ideal.div 1 (1 + Ideal.exp x) := by
  rw [logi, one, Ideal.ofBits_zero_f32, zero_sub, zero_sub, neg_neg]

theorem log_one : Ideal.log 1 = 0 := by
  have h : Ideal.log ((1 : ℝ) : EReal) = if (1 : ℝ) ≤ 0 then ⊥ else ((Real.log 1 : ℝ) : EReal) := rfl
  rw [if_neg (by norm_num), Real.log_one] at h
  exact h

theorem exp_zero : Ideal.exp 0 = 1 := by
  have h : Ideal.exp ((0 : ℝ) : EReal) = ((Real.exp 0 : ℝ) : EReal) := rfl
  rw [Real.exp_zero] at h
  exact h

/-- The derivative of the logarithm of the logistic function. -/
theorem dsoft (x : EReal) : Ideal.exp ((if -x = ⊤ then 0 else -x) - if soft (-x) = ⊤ then 0 else soft (-x)) = logi x := by
  rw [logi_eq]
  induction x with
  | bot =>
    have e : soft (-⊥) = ⊤ := by
      rw [soft, EReal.neg_bot, EReal.neg_top, max_eq_left bot_le, max_eq_left le_top, EReal.neg_top, exp_bot, add_zero, log_one, add_zero]
    rw [e, if_pos rfl, EReal.neg_bot, if_pos rfl, exp_bot, sub_zero, exp_zero]
    simp [Ideal.div]
  | top =>
    have e : soft (-⊤) = 0 := by
      rw [soft, EReal.neg_top, EReal.neg_bot, max_eq_right bot_le, max_eq_right bot_le, EReal.neg_top, exp_bot, add_zero, log_one, add_zero]
    rw [e, EReal.neg_top, if_neg (by decide), if_neg (by simp), sub_zero, exp_bot, exp_top, EReal.add_top_of_ne_bot (by decide)]
    simp [Ideal.div]
  | coe r =>
    have e : soft (-(r : EReal)) = ((max (-r) 0 + Real.log (1 + Real.exp (-max (-r) r)) : ℝ) : EReal) := by
      have cm : ∀ a b : ℝ, max (a : EReal) b = ((max a b : ℝ) : EReal) := fun a b => (EReal.coe_strictMono.monotone.map_max).symm
      have h : ¬ (1 + Real.exp (-max (-r) r)) ≤ 0 := not_le.mpr (by positivity)
      have hl : Ideal.log ((1 + Real.exp (-max (-r) r) : ℝ) : EReal) = ((Real.log (1 + Real.exp (-max (-r) r)) : ℝ) : EReal) := if_neg h
      rw [soft, neg_neg, ← EReal.coe_neg, ← EReal.coe_zero, cm, cm, ← EReal.coe_neg, exp_coe, ← EReal.coe_one, ← EReal.coe_add, hl,
        ← EReal.coe_add]
    have hne : (1 + Real.exp r) ≠ 0 := by positivity
    rw [e, if_neg (by exact EReal.coe_ne_top _), ← EReal.coe_neg, if_neg (EReal.coe_ne_top _), ← EReal.coe_sub, exp_coe, exp_coe,
      ← EReal.coe_one, ← EReal.coe_add, Ideal.div_coe hne, ← EReal.coe_mul]
    congr 1
    rw [one_mul, sub_add_eq_sub_sub, Real.exp_sub, Real.exp_log (by positivity)]
    rcases le_total 0 r with h | h
    · rw [max_eq_right (by linarith), max_eq_right (by linarith), sub_zero, Real.exp_neg]
      have := Real.exp_pos r
      field_simp
      ring
    · rw [max_eq_left (by linarith), max_eq_left (by linarith), sub_self, Real.exp_zero, neg_neg]

theorem v4 (z : Zs) (b : Bs) (r : Fin 4096) (q : Fin 6) :
    val_main_v4_1 (F := Ideal) z b (ix2 r q) = logi (z (ix2 r ⟨1920 + q.val, by omega⟩) + b (ix1 q)) := by
  have e : val_main_v3 (F := Ideal) z b (ix2 r q) = z (ix2 r ⟨1920 + q.val, by omega⟩) + b (ix1 q) := by
    rw [val_main_v3_apply, val_main_v0_apply, val_main_v2_apply, val_main_v1_apply]
    have e0 : idx_main_v0 (ix2 r q) = ix2 r ⟨1920 + q.val, by omega⟩ := by
      funext a; fin_cases a
      · rfl
      · exact Fin.ext (by first | rfl | exact Nat.add_comm _ _)
    have e1 : idx_main_v1 (idx_main_v2 (ix2 r q)) = ix1 q := by
      funext a; fin_cases a; rfl
    rw [e0, e1]
    rfl
  rw [← e]
  simp only [val_main_v4_1_apply, val_main_call0_v0_apply, val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v1_0_apply, val_main_call0_call0_cst_0_apply, val_main_call0_call0_v13_apply, val_main_call0_call0_v14_apply, val_main_call0_call0_cst_1_apply, val_main_call0_call0_v15_apply, val_main_call0_call0_v16_apply, val_main_call0_call0_cst_2_apply, val_main_call0_call0_v17_apply, val_main_call0_call0_v18_apply, val_main_call0_call0_cst_3_apply, val_main_call0_call0_v19_apply, val_main_call0_call0_v20_apply, val_main_call0_call0_v21_apply, val_main_call0_call0_cst_4_apply, val_main_call0_call0_cst_5_apply, val_main_call0_call0_v23_apply, val_main_call0_call0_cst_6_apply, val_main_call0_call0_cst_7_apply, val_main_call0_call0_v24_apply, val_main_call0_call0_cst_8_apply, val_main_call0_call0_v25_apply, val_main_call0_call0_v26_apply, val_main_call0_call0_cst_9_apply, val_main_call0_call0_v27_apply, val_main_call0_call0_v28_apply, val_main_call0_call0_v29_apply, val_main_call0_call0_v30_apply, val_main_call0_call0_v31_apply, val_main_call0_call0_cst_10_apply, val_main_call0_call0_v32_apply]
  generalize val_main_v3 (F := Ideal) z b (ix2 r q) = w
  rw [← dsoft]
  have u : ∀ y : EReal, Ideal.cmp .une y y = 0#1 := fun y => by simp [Ideal.cmp]
  have o : ∀ y a b : EReal, Scalar.select (Ideal.cmp .oeq y ⊤) a b = if y = ⊤ then a else b := fun y a b => by
    by_cases h : y = ⊤ <;> simp [Ideal.cmp, Scalar.select, h]
  simp only [Ideal.hostUnary_exp_def, Ideal.hostUnary_log1p_def, Ideal.subf_def, Ideal.addf_def, Ideal.maximumf_def,
    Ideal.cmpf_def, Ideal.hostNegf_def, Ideal.hostAbsf_def, Ideal.ofBits_def, inf, Ideal.ofBits_zero_f32, u, o, sub_zero, add_zero]
  rfl

theorem v9 (z : Zs) (b : Bs) (d : Ds) (r : Fin 4096) (q : Fin 6) (q' : Fin 128) (hq : q'.val = q.val) :
    val_main_v9 (F := Ideal) z b d (ix2 r q) = gateGrad z b d r q' := by
  have hq6 : q'.val < 6 := hq ▸ q.isLt
  obtain rfl : q = ⟨q'.val, hq6⟩ := Fin.ext hq.symm
  rw [val_main_v9_apply, val_main_call3_v1_apply, val_main_call3_v0_apply, v4, val_main_v8_apply]
  have e : idx_main_v8 (ix2 r ⟨q'.val, hq6⟩) = ix2 ⟨q'.val, hq6⟩ r := by
    funext a; fin_cases a <;> rfl
  rw [e, later_eq, gateGrad, later]
  simp only [gateIn, upIn, biasIn, dif_pos hq6]
  show -(-_ * _) = _
  rw [EReal.neg_mul, neg_neg]

/-- Beyond the six lanes the kernel's gradient is zero. -/
theorem gateGrad_zero (z : Zs) (b : Bs) (d : Ds) (r : Fin 4096) (q : Fin 128) (h : ¬ q.val < 6) : gateGrad z b d r q = 0 := by
  simp only [gateGrad, later, upIn, dif_neg h, ite_self, Finset.sum_const_zero, zero_mul]

theorem grad_eq (z : Zs) (b : Bs) (d : Ds) :
    val_main_v14 (F := Ideal) z b d = fun i => gateGrad z b d (i 0) (i 1) := by
  funext i
  idx_vars i
  show _ = gateGrad z b d i0 i1
  unfold val_main_v14
  have e := fun q h => v9 z b d i0 q i1 h
  generalize val_main_v9 (F := Ideal) z b d = y at e
  have hz : ∀ i, val_main_call4_v0 (F := Ideal) i = (0 : EReal) := fun i => Cert.GateKernelIdeal.Body.sitofp_zero
  generalize val_main_call4_v0 (F := Ideal) = o at hz
  pointwise []
  by_cases h : i1.val < 6
  · rw [dif_pos h]
    exact e _ rfl
  · rw [dif_neg h, hz, gateGrad_zero z b d i0 i1 h]

/-- The gradient of the bias. -/
def biasGrad (z : Zs) (b : Bs) (d : Ds) (q : Fin 128) : EReal := ∑ r : Fin 4096, gateGrad z b d r q

theorem bias_eq (z : Zs) (b : Bs) (d : Ds) :
    val_main_v15 (F := Ideal) z b d = fun i => biasGrad z b d (i 1) := by
  funext i
  idx_vars i
  show _ = ∑ r : Fin 4096, gateGrad z b d r i1
  unfold val_main_v15
  have hz : ∀ i, val_main_call5_v0 (F := Ideal) i = (0 : EReal) := fun i => Cert.GateKernelIdeal.Body.sitofp_zero
  generalize val_main_call5_v0 (F := Ideal) = o at hz
  have hs : ∀ h : i1.val < 6, val_main_v13 (F := Ideal) z b d (ix2 0 ⟨i1.val, h⟩) = ∑ r : Fin 4096, gateGrad z b d r i1 := fun h => by
    unfold val_main_v13 val_main_v12 val_main_v11 val_main_v10
    have e := fun r => v9 z b d r ⟨i1.val, h⟩ i1 rfl
    generalize val_main_v9 (F := Ideal) z b d = y at e
    pointwise [val_main_cst, val_main_cst_0]
    simp only [e, Fin.sum_univ_one]
  generalize val_main_v13 (F := Ideal) z b d = y at hs
  pointwise []
  by_cases h : i1.val < 6
  · rw [dif_pos h]
    obtain rfl : i0 = 0 := Subsingleton.elim _ _
    exact hs h
  · rw [dif_neg h, hz]
    simp only [gateGrad_zero z b d _ i1 h, Finset.sum_const_zero]

/-- The reference runs, keeps its arguments, and has no semaphore to leave raised. -/
theorem frame_reference : Cert.quiescent_GateReferenceIdeal
    (hGateReferenceIdeal := Cert.GateReferenceIdeal.Gen.facts) := fun m ρ _ =>
  (θ_run Cert.GateReferenceIdeal.defs _ _).mono (fun r h => ⟨fun c => (h c).2.2, sem_eq_zero_of_no_sems (by decide) r.2⟩)
    (Cert.GateReferenceIdeal.Value.run m ρ)

/-- The kernel before idealization runs the same operations: its frame is the run's, read at the machine's floats. -/
theorem frame_kernel : Cert.quiescent_GateKernel (hGateKernel := Cert.GateKernel.Gen.facts) := by
  have e : Cert.quiescent_GateKernel (hGateKernel := Cert.GateKernel.Gen.facts)
      = ∀ (m : (ℓ : Loc Cert.GateKernelIdeal.nD Cert.GateKernelIdeal.τ Cert.GateKernelIdeal.sig) → Buf (Elt Bits) ℓ) (ρ : Dev Cert.GateKernelIdeal.nD → PrngReg),
        Cert.Pre_GateKernel m → θ_run (Cert.GateKernelIdeal.defs (F := Bits)) (onTc (τ := Cert.GateKernelIdeal.τ) (Cert.GateKernelIdeal.main (F := Bits)))
          ⟨m, fun _ => 0, ρ⟩ (fun r => (∀ c : Dev Cert.GateKernelIdeal.nD,
            r.2.mem ((c.tc : Thread _ _).loc Cert.GateKernelIdeal.main_arg0) = m ((c.tc : Thread _ _).loc Cert.GateKernelIdeal.main_arg0)
            ∧ r.2.mem ((c.tc : Thread _ _).loc Cert.GateKernelIdeal.main_arg1) = m ((c.tc : Thread _ _).loc Cert.GateKernelIdeal.main_arg1)
            ∧ r.2.mem ((c.tc : Thread _ _).loc Cert.GateKernelIdeal.main_arg2) = m ((c.tc : Thread _ _).loc Cert.GateKernelIdeal.main_arg2))
            ∧ r.2.sem = fun _ => 0) := by sl_kernel_rfl
  rw [e]
  exact fun m ρ _ => Cert.GateKernelIdeal.Body.frame_main (F := Bits) m ρ

theorem frame_ideal : Cert.quiescent_GateKernelIdeal (hGateKernelIdeal := Cert.GateKernelIdeal.Gen.facts) := fun m ρ _ =>
  Cert.GateKernelIdeal.Body.frame_main m ρ

/-- The value claim of the forget gate's backward call. -/
theorem algebraic : Cert.algebraic_GateKernelIdeal_GateReferenceIdeal
    (hGateKernelIdeal := Cert.GateKernelIdeal.Gen.facts) (hGateReferenceIdeal := Cert.GateReferenceIdeal.Gen.facts) := by
  intro m g m' g' _ hag
  refine ⟨fun c => fun i => gateGrad (m ((c.tc : Thread _ _).loc Cert.GateKernelIdeal.main_arg0))
      (m ((c.tc : Thread _ _).loc Cert.GateKernelIdeal.main_arg1)) (m ((c.tc : Thread _ _).loc Cert.GateKernelIdeal.main_arg2)) (i 0) (i 1),
    fun c => fun i => biasGrad (m ((c.tc : Thread _ _).loc Cert.GateKernelIdeal.main_arg0))
      (m ((c.tc : Thread _ _).loc Cert.GateKernelIdeal.main_arg1)) (m ((c.tc : Thread _ _).loc Cert.GateKernelIdeal.main_arg2)) (i 1), ?_, ?_⟩
  · refine (θ_run _ _ _).mono (fun r h c => ?_) (θ_run_and (Cert.GateKernelIdeal.Body.run_main m g) (Cert.GateKernelIdeal.Body.frame_main m g))
    exact ⟨((h.1.1 c).1 3).trans (Cert.GateKernelIdeal.Body.arr3 m c), ((h.1.1 c).1 4).trans (Cert.GateKernelIdeal.Body.arr4 m c), h.2.1 c⟩
  · refine (θ_run _ _ _).mono (fun r h c => ?_) (Cert.GateReferenceIdeal.Value.run m' g')
    obtain ⟨h0, h1, hk⟩ := h c
    obtain ⟨e0, e1, e2⟩ := hag c
    refine ⟨?_, ?_, hk⟩
    · exact h0.trans ((val_main_v14_eq _ _).trans ((grad_eq _ _ _).trans (by rw [e0, e1, e2]; rfl)))
    · exact h1.trans ((val_main_v15_eq _ _).trans ((bias_eq _ _ _).trans (by rw [e0, e1, e2]; rfl)))

end Cert.Proof.Gate

end
-- ==== Proof.AttnSoft.lean ====
/-
  The attention's heads over the real numbers: the arguments' elements, the gates, and the softmax's row of logits.
-/
module

public import proofs.«01_k».proof.Proof.AttnHost
public import proofs.«01_k».proof.Proof.AttnReal
public import proofs.«01_k».proof.Proof.GateEquation

@[expose] public section

set_option maxRecDepth 65536

noncomputable section

namespace Cert.AttnKernelIdeal.Math

open Idealize.ShloMosaic Idealize.ShloMosaic.Tactic
open Cert.AttnKernelIdeal Cert.AttnKernelIdeal.Gen
open Finset Cert.Reals

/-- A head of real numbers, from the projections, the cumulative gates and the cotangent. -/
def headOf (z : FVec Ideal S4096x2182 .f32) (g : FVec Ideal S6x4096 .f32) (d : FVec Ideal S4096x384 .f32) (n : ℕ) : Head where
  q i x := EReal.toReal (z (ix2 (Fin.ofNat 4096 i) (Fin.ofNat 2182 (768 + (n * 64 + x)))))
  g i x := EReal.toReal (d (ix2 (Fin.ofNat 4096 i) (Fin.ofNat 384 (n * 64 + x))))
  k i x := EReal.toReal (z (ix2 (Fin.ofNat 4096 i) (Fin.ofNat 2182 (1152 + (n * 64 + x)))))
  v i x := EReal.toReal (z (ix2 (Fin.ofNat 4096 i) (Fin.ofNat 2182 (1536 + (n * 64 + x)))))
  c j := EReal.toReal (g (ix2 (Fin.ofNat 6 n) (Fin.ofNat 4096 j)))

theorem toReal_of {x : EReal} (h : IsReal x) : x = (x.toReal : EReal) := by
  obtain ⟨r, rfl⟩ := h
  rfl

theorem ofNat_eq {n : ℕ} [NeZero n] (i : Fin n) : Fin.ofNat n i.val = i := Fin.ext (Nat.mod_eq_of_lt i.isLt)

theorem ofNat_of {n k : ℕ} [NeZero n] (h : k < n) : Fin.ofNat n k = ⟨k, h⟩ := Fin.ext (Nat.mod_eq_of_lt h)

section
variable {z : FVec Ideal S4096x2182 .f32} {g : FVec Ideal S6x4096 .f32} {d : FVec Ideal S4096x384 .f32}

theorem q_at (hz : ∀ i, IsReal (z i)) (n i x : ℕ) (hi : i < 4096) (h : 768 + (n * 64 + x) < 2182) :
    z (ix2 ⟨i, hi⟩ ⟨768 + (n * 64 + x), h⟩) = ((headOf z g d n).q i x : EReal) := by
  rw [toReal_of (hz _)]
  dsimp only [headOf]
  rw [ofNat_of h, ofNat_of hi]

theorem k_at (hz : ∀ i, IsReal (z i)) (n i x : ℕ) (hi : i < 4096) (h : 1152 + (n * 64 + x) < 2182) :
    z (ix2 ⟨i, hi⟩ ⟨1152 + (n * 64 + x), h⟩) = ((headOf z g d n).k i x : EReal) := by
  rw [toReal_of (hz _)]
  dsimp only [headOf]
  rw [ofNat_of h, ofNat_of hi]

theorem v_at (hz : ∀ i, IsReal (z i)) (n i x : ℕ) (hi : i < 4096) (h : 1536 + (n * 64 + x) < 2182) :
    z (ix2 ⟨i, hi⟩ ⟨1536 + (n * 64 + x), h⟩) = ((headOf z g d n).v i x : EReal) := by
  rw [toReal_of (hz _)]
  dsimp only [headOf]
  rw [ofNat_of h, ofNat_of hi]

theorem g_at (hd : ∀ i, IsReal (d i)) (n i x : ℕ) (hi : i < 4096) (h : n * 64 + x < 384) :
    d (ix2 ⟨i, hi⟩ ⟨n * 64 + x, h⟩) = ((headOf z g d n).g i x : EReal) := by
  rw [toReal_of (hd _)]
  dsimp only [headOf]
  rw [ofNat_of h, ofNat_of hi]

theorem c_at (hg : ∀ i, IsReal (g i)) (n j : ℕ) (hn : n < 6) (hj : j < 4096) :
    g (ix2 ⟨n, hn⟩ ⟨j, hj⟩) = ((headOf z g d n).c j : EReal) := by
  rw [toReal_of (hg _)]
  dsimp only [headOf]
  rw [ofNat_of hn, ofNat_of hj]
end

/-- The smallest single-precision number is the bottom. -/
theorem neg_inf : Ideal.ofBits .f32 0xFF800000#32 = ⊥ := by
  simp [Ideal.ofBits, Ideal.ieee]

/-- A causal row of logits. -/
def rowOf (i : ℕ) (r : ℕ → ℝ) (j : Fin 4096) : EReal := if j.val ≤ i then (r j.val : EReal) else ⊥

/-- Its largest element is a real number. -/
theorem row_real (i : Fin 4096) (r : ℕ → ℝ) : IsReal (Finset.fold max ⊥ (rowOf i.val r) univ) := by
  have lo : (r 0 : EReal) ≤ Finset.fold max ⊥ (rowOf i.val r) univ :=
    (Finset.le_fold_max (r 0 : EReal)).2 (Or.inr ⟨0, mem_univ _, (if_pos (Nat.zero_le _) : rowOf i.val r 0 = _).ge⟩)
  have hi : Finset.fold max ⊥ (rowOf i.val r) univ < ⊤ :=
    (Finset.fold_max_lt (⊤ : EReal)).2 ⟨bot_lt_top, fun j _ => by unfold rowOf; split_ifs; exacts [EReal.coe_lt_top _, bot_lt_top]⟩
  exact ⟨_, (EReal.coe_toReal hi.ne (ne_bot_of_le_ne_bot (EReal.coe_ne_bot _) lo)).symm⟩

/-- The exponentials of its elements. -/
theorem row_exp (i : ℕ) (r : ℕ → ℝ) (μ : ℝ) (j : Fin 4096) :
    Ideal.exp (rowOf i r j - (μ : EReal)) = ((if j.val ≤ i then Real.exp (r j.val - μ) else 0 : ℝ) : EReal) := by
  unfold rowOf
  split_ifs
  · rw [← EReal.coe_sub, exp_coe]
  · rw [EReal.bot_sub, exp_bot, EReal.coe_zero]

/-- A sum over the keys a query sees. -/
theorem sum_seen (i : ℕ) (hi : i < 4096) (f : ℕ → ℝ) :
    ∑ j : Fin 4096, ((if j.val ≤ i then f j.val else 0 : ℝ) : EReal) = ((∑ j ∈ range (i + 1), f j : ℝ) : EReal) := by
  rw [← coe_sum, Fin.sum_univ_eq_sum_range (fun j => if j ≤ i then f j else 0) 4096]
  refine congrArg _ ?_
  rw [← sum_subset (range_subset_range.2 (show i + 1 ≤ 4096 by omega)) fun j _ hj => if_neg (by have := mt mem_range.2 hj; omega)]
  exact sum_congr rfl fun j hj => if_pos (by have := mem_range.1 hj; omega)

/-- The logarithm of the sum of a row's exponentials. -/
theorem lse_row (i : Fin 4096) (r : ℕ → ℝ) : lseOf (rowOf i.val r) = ((Real.log (∑ j ∈ range (i.val + 1), Real.exp (r j)) : ℝ) : EReal) := by
  obtain ⟨μ, hμ⟩ := row_real i r
  have pos : 0 < ∑ j ∈ range (i.val + 1), Real.exp (r j) := sum_pos (fun _ _ => Real.exp_pos _) ⟨0, mem_range.2 (Nat.succ_pos _)⟩
  unfold lseOf
  rw [neg_inf, hμ, sum_congr rfl fun j _ => row_exp i.val r μ j, sum_seen i.val i.isLt fun j => Real.exp (r j - μ)]
  have e : ∑ j ∈ range (i.val + 1), Real.exp (r j - μ) = (∑ j ∈ range (i.val + 1), Real.exp (r j)) / Real.exp μ := by
    rw [sum_div]
    exact sum_congr rfl fun j _ => Real.exp_sub _ _
  rw [e, Ideal.log_coe, if_neg (not_le.2 (div_pos pos (Real.exp_pos μ))), Real.log_div pos.ne' (Real.exp_pos μ).ne', Real.log_exp,
    ← EReal.coe_add, add_sub_cancel]

section
variable {z : FVec Ideal S4096x2182 .f32} {g : FVec Ideal S6x4096 .f32}

/-- The host's logits are the head's. -/
theorem logit_eq (hz : ∀ i, IsReal (z i)) (hg : ∀ i, IsReal (g i)) (d : FVec Ideal S4096x384 .f32) (n : Fin 6) (i : Fin 4096) :
    logit z g n i = rowOf i.val ((headOf z g d n.val).lg i.val) := by
  funext j
  unfold logit rowOf
  rw [neg_inf]
  refine if_congr Iff.rfl ?_ rfl
  have e : ∀ x : Fin 64, z (ix2 i ⟨768 + (n.val * 64 + x.val), by omega⟩) * Ideal.ofBits .f32 0x3E000000#32
      * z (ix2 j ⟨1152 + (n.val * 64 + x.val), by omega⟩)
      = (((headOf z g d n.val).q i.val x.val * (1 / 8) * (headOf z g d n.val).k j.val x.val : ℝ) : EReal) := fun x => by
    rw [q_at (g := g) (d := d) hz n.val i.val x.val i.isLt, k_at (g := g) (d := d) hz n.val j.val x.val j.isLt, eighth, EReal.coe_mul, EReal.coe_mul]
  rw [sum_congr rfl fun x _ => e x, c_at (z := z) (d := d) hg n.val j.val n.isLt j.isLt, ← coe_sum, ← EReal.coe_sub,
    Fin.sum_univ_eq_sum_range (fun x => (headOf z g d n.val).q i.val x * (1 / 8) * (headOf z g d n.val).k j.val x) 64]
  unfold Head.lg
  rw [sum_div]
  exact congrArg (fun s : ℝ => ((s - _ : ℝ) : EReal)) (sum_congr rfl fun x _ => by ring)
end

section
open Cert.AttnReferenceIdeal.Read

theorem soft_real (r : ℝ) : IsReal (Cert.Proof.Gate.soft (r : EReal)) := by
  have cm : ∀ a b : ℝ, max (a : EReal) b = ((max a b : ℝ) : EReal) := fun a b => (EReal.coe_strictMono.monotone.map_max).symm
  have h : ¬ (1 + Real.exp (-max r (-r))) ≤ 0 := not_le.mpr (by positivity)
  rw [Cert.Proof.Gate.soft, ← EReal.coe_neg, ← EReal.coe_zero, cm, cm, ← EReal.coe_neg, exp_coe, ← EReal.coe_one, ← EReal.coe_add, Ideal.log_coe,
    if_neg h]
  exact (isReal_coe _).add (isReal_coe _)

/-- The gates of real projections and biases are real. -/
theorem gates_real {z : FVec Ideal S4096x2182 .f32} {b : FVec Ideal S6 .f32} (hz : ∀ i, IsReal (z i)) (hb : ∀ i, IsReal (b i))
    (i : S6x4096.Idx) : IsReal (val_main_v9 (F := Ideal) z b i) := by
  have h6 : ∀ i, IsReal (val_main_v6 (F := Ideal) z b i) := fun i => by
    rw [val_main_v6_apply, val_main_v3_apply, val_main_v5_apply, val_main_v4_apply]
    exact (hz _).add (hb _)
  have h8 : ∀ i, IsReal (val_main_v8 (F := Ideal) z b i) := fun i => by
    rw [val_main_v8_apply, val_main_v7_apply]
    obtain ⟨w, hw⟩ := h6 (idx_main_v8 i)
    obtain ⟨s, hs⟩ := soft_real (-w)
    simp only [val_main_call0_v0_apply, val_main_call0_call0_cst_apply, val_main_call0_call0_v0_apply, val_main_call0_call0_v1_apply,
      val_main_call0_call0_v2_apply, val_main_call0_call0_v3_apply, val_main_call0_call0_v4_apply, val_main_call0_call0_v5_apply,
      val_main_call0_call0_v6_apply, val_main_call0_call0_v7_apply, val_main_call0_call0_v8_apply, val_main_call0_call0_v9_apply,
      val_main_call0_call0_v10_apply, val_main_call0_call0_v11_apply, val_main_call0_v1_apply, hw]
    have u : ∀ y : EReal, Ideal.cmp .une y y = 0#1 := fun y => by simp [Ideal.cmp]
    simp only [Ideal.hostUnary_exp_def, Ideal.hostUnary_log1p_def, Ideal.subf_def, Ideal.addf_def, Ideal.maximumf_def,
      Ideal.cmpf_def, Ideal.hostNegf_def, Ideal.hostAbsf_def, Ideal.ofBits_def, Ideal.ofBits_zero_f32, u, sub_zero, add_zero]
    refine ⟨-s, ?_⟩
    rw [EReal.coe_neg, ← hs, EReal.coe_neg]
    rfl
  have z0 : (val_main_call1_call0_v0 (F := Ideal)) (Shape.Idx.first Cert.AttnReferenceIdeal.Gen.facts.h_S_) = (0 : EReal) :=
    (val_main_call1_call0_v0_apply _).trans Ideal.ofBits_zero_f32
  unfold val_main_v9 Host.reduceWindowAdd
  rw [z0, Cert.Proof.Gate.reduceWindow_sum]
  refine isReal_sum _ _ fun k => ?_
  split_ifs
  · exact h8 _
  · exact isReal_zero
end

end Cert.AttnKernelIdeal.Math

end
-- ==== Proof.AttnValue.lean ====
/-
  The four results of the attention's backward call: the gradients of the queries, keys, values and cumulative gates of the
  real heads.
-/
module

public import proofs.«01_k».proof.Proof.AttnSoft
public import Idealize.ShloMosaic.Lib.Pipeline.ValueKit

@[expose] public section

set_option maxRecDepth 65536

noncomputable section

namespace Cert.AttnKernelIdeal.Math

open Idealize.ShloMosaic Idealize.ShloMosaic.TcCoe Idealize.ShloMosaic.Tactic
open Cert.AttnKernelIdeal Cert.AttnKernelIdeal.Gen
open Cert.Reals

/-- The gradients, by the results' indices. -/
def dqOut (z : FVec Ideal S4096x2182 .f32) (g : FVec Ideal S6x4096 .f32) (d : FVec Ideal S4096x384 .f32) (i : Fin 4096) (x : Fin 384) : EReal :=
  ((headOf z g d (x.val / 64)).dq i.val (x.val % 64) : EReal)
def dkOut (z : FVec Ideal S4096x2182 .f32) (g : FVec Ideal S6x4096 .f32) (d : FVec Ideal S4096x384 .f32) (i : Fin 4096) (x : Fin 384) : EReal :=
  ((headOf z g d (x.val / 64)).dk i.val (x.val % 64) : EReal)
def dvOut (z : FVec Ideal S4096x2182 .f32) (g : FVec Ideal S6x4096 .f32) (d : FVec Ideal S4096x384 .f32) (i : Fin 4096) (x : Fin 384) : EReal :=
  ((headOf z g d (x.val / 64)).dv i.val (x.val % 64) : EReal)
def dcOut (z : FVec Ideal S4096x2182 .f32) (g : FVec Ideal S6x4096 .f32) (d : FVec Ideal S4096x384 .f32) (n : Fin 6) (j : Fin 4096) : EReal :=
  ((headOf z g d n.val).dc j.val : EReal)

variable (m : (ℓ : Loc nD τ sig) → Buf (Elt Ideal) ℓ)

/-- The heads of the pair `t`. -/
def heads (c : Dev nD) (t : Fin grid0.N) (h : ℕ) : Head := headOf (argZ m c) (gates m c) (argD m c) (2 * t.val + h)

section
variable (c : Dev nD) (hz : ∀ i, IsReal (argZ m c i)) (hb : ∀ i, IsReal (argB m c i)) (hd : ∀ i, IsReal (argD m c i))

include hz in
theorem q_blk (t : Fin grid0.N) {i d : ℕ} (hi : i < 4096) (hx : d < 128) :
    iblk m c 0 t (ix2 (Fin.ofNat 4096 i) (Fin.ofNat 128 d)) = ((heads m c t (d / 64)).q i (d % 64) : EReal) := by
  have := t_lt t
  refine (blk0 m c t _ _).trans (Eq.trans (congrArg _ (congrArg₂ ix2 (ofNat_of hi) (Fin.ext ?_)))
    (q_at hz (2 * t.val + d / 64) i (d % 64) hi (by omega)))
  show 768 + (128 * t.val + d % 128) = 768 + ((2 * t.val + d / 64) * 64 + d % 64)
  omega

include hz in
theorem k_blk (t : Fin grid0.N) {i d : ℕ} (hi : i < 4096) (hx : d < 128) :
    iblk m c 1 t (ix2 (Fin.ofNat 4096 i) (Fin.ofNat 128 d)) = ((heads m c t (d / 64)).k i (d % 64) : EReal) := by
  have := t_lt t
  refine (blk1 m c t _ _).trans (Eq.trans (congrArg _ (congrArg₂ ix2 (ofNat_of hi) (Fin.ext ?_)))
    (k_at hz (2 * t.val + d / 64) i (d % 64) hi (by omega)))
  show 1152 + (128 * t.val + d % 128) = 1152 + ((2 * t.val + d / 64) * 64 + d % 64)
  omega

include hz in
theorem v_blk (t : Fin grid0.N) {i d : ℕ} (hi : i < 4096) (hx : d < 128) :
    iblk m c 2 t (ix2 (Fin.ofNat 4096 i) (Fin.ofNat 128 d)) = ((heads m c t (d / 64)).v i (d % 64) : EReal) := by
  have := t_lt t
  refine (blk2 m c t _ _).trans (Eq.trans (congrArg _ (congrArg₂ ix2 (ofNat_of hi) (Fin.ext ?_)))
    (v_at hz (2 * t.val + d / 64) i (d % 64) hi (by omega)))
  show 1536 + (128 * t.val + d % 128) = 1536 + ((2 * t.val + d / 64) * 64 + d % 64)
  omega

include hd in
theorem g_blk (t : Fin grid0.N) {i d : ℕ} (hi : i < 4096) (hx : d < 128) :
    iblk m c 5 t (ix2 (Fin.ofNat 4096 i) (Fin.ofNat 128 d)) = ((heads m c t (d / 64)).g i (d % 64) : EReal) := by
  have := t_lt t
  refine (blk5 m c t _ _).trans (Eq.trans (congrArg _ (congrArg₂ ix2 (ofNat_of hi) (Fin.ext ?_)))
    (g_at hd (2 * t.val + d / 64) i (d % 64) hi (by omega)))
  show 128 * t.val + d % 128 = (2 * t.val + d / 64) * 64 + d % 64
  omega

theorem select_half (h d : ℕ) (hd : d < 128) (hh : h < 2) (a b : EReal) : Scalar.select (half h d) a b = if d / 64 = h then a else b := by
  have e : (d % 128 / 64 = h % 2) = (d / 64 = h) := by rw [Nat.mod_eq_of_lt hd, Nat.mod_eq_of_lt hh]
  unfold half
  simp only [e]
  split_ifs <;> rfl

/-- Tables of blocks that hold two heads' numbers fit the heads. -/
theorem fits_of (x1 x2 x3 : Vec Ideal S4096x128 .f32) (x4 : Vec Ideal S2x1x4096 .f32) (x5 : Vec Ideal S2x4096x1 .f32) (x6 : Vec Ideal S4096x128 .f32)
    (H : ℕ → Head)
    (h1 : ∀ i d, i < 4096 → d < 128 → x1 (ix2 (Fin.ofNat 4096 i) (Fin.ofNat 128 d)) = ((H (d / 64)).q i (d % 64) : EReal))
    (h2 : ∀ i d, i < 4096 → d < 128 → x2 (ix2 (Fin.ofNat 4096 i) (Fin.ofNat 128 d)) = ((H (d / 64)).k i (d % 64) : EReal))
    (h3 : ∀ i d, i < 4096 → d < 128 → x3 (ix2 (Fin.ofNat 4096 i) (Fin.ofNat 128 d)) = ((H (d / 64)).v i (d % 64) : EReal))
    (h4 : ∀ h j, h < 2 → j < 4096 → x4 (ix3 (Fin.ofNat 2 h) 0 (Fin.ofNat 4096 j)) = ((H h).c j : EReal))
    (h5 : ∀ h i, h < 2 → i < 4096 → x5 (ix3 (Fin.ofNat 2 h) (Fin.ofNat 4096 i) 0) = (Real.log ((H h).Z i) : EReal))
    (h6 : ∀ i d, i < 4096 → d < 128 → x6 (ix2 (Fin.ofNat 4096 i) (Fin.ofNat 128 d)) = ((H (d / 64)).g i (d % 64) : EReal)) :
    Fits (tabOf x1 x2 x3 x4 x5 x6) H where
  Q h i d hh hi hx := by
    refine (select_half h d hx hh _ _).trans ?_
    split_ifs with e
    · rw [h1 i d hi hx, e, eighth, ← EReal.coe_mul]
      exact congrArg _ (by ring)
    · rfl
  D h i d hh hi hx := by
    refine (select_half h d hx hh _ _).trans ?_
    split_ifs with e
    · rw [h6 i d hi hx, e]
    · rfl
  K j d hj hx := h2 j d hj hx
  V j d hj hx := h3 j d hj hx
  C h j hh hj := h4 h j hh hj
  L h i hh hi := h5 h i hh hi

include hz hb in
theorem c_blk (t : Fin grid0.N) {h j : ℕ} (hh : h < 2) (hj : j < 4096) :
    iblk m c 3 t (ix3 (Fin.ofNat 2 h) 0 (Fin.ofNat 4096 j)) = ((heads m c t h).c j : EReal) := by
  have := t_lt t
  refine (blk3 m c t _ _).trans ((congrArg _ (congrArg₂ ix2 (Fin.ext ?_) (ofNat_of hj))).trans
    (c_at (gates_real hz hb) (2 * t.val + h) j (by omega) hj))
  show 2 * t.val + h % 2 = 2 * t.val + h
  omega

include hz hb in
theorem l_blk (t : Fin grid0.N) {h i : ℕ} (hh : h < 2) (hi : i < 4096) :
    iblk m c 4 t (ix3 (Fin.ofNat 2 h) (Fin.ofNat 4096 i) 0) = (Real.log ((heads m c t h).Z i) : EReal) := by
  have := t_lt t
  have e : head t (Fin.ofNat 2 h) = ⟨2 * t.val + h, by omega⟩ := Fin.ext (by show 2 * t.val + h % 2 = 2 * t.val + h; omega)
  refine (blk4 m c t _ _).trans ?_
  rw [e, ofNat_of hi]
  refine (congrArg lseOf (logit_eq hz (gates_real hz hb) (argD m c) ⟨2 * t.val + h, by omega⟩ ⟨i, hi⟩)).trans ?_
  exact lse_row ⟨i, hi⟩ _

include hz hb hd in
/-- The body's tables are those of the two heads. -/
theorem fits (t : Fin grid0.N) : Fits (T m c t) (heads m c t) :=
  fits_of _ _ _ _ _ _ _ (fun i d hi hx => q_blk m c hz t hi hx) (fun i d hi hx => k_blk m c hz t hi hx) (fun i d hi hx => v_blk m c hz t hi hx)
    (fun h j hh hj => c_blk m c hz hb t hh hj) (fun h i hh hi => l_blk m c hz hb t hh hi) fun i d hi hx => g_blk m c hd t hi hx

/-- Lane `x` of the pair `t` is a column of the heads laid side by side. -/
theorem lane_col (t : Fin grid0.N) (x : Fin 128) : (col t x).val / 64 = 2 * t.val + x.val / 64 ∧ (col t x).val % 64 = x.val % 64 := by
  simp only [col]
  omega

include hz hb hd in
theorem arr6 : (dats m 0 c).arrAt 6 cfg0.N = fun i => dqOut (argZ m c) (gates m c) (argD m c) (i 0) (i 1) := by
  generalize hX : (fun i : S4096x384.Idx => dqOut (argZ m c) (gates m c) (argD m c) (i 0) (i 1)) = X
  refine (dats m 0 c).arrAt_eq_of_covers 6 _ (by decide +kernel) fun t hf y => ?_
  blk_simp
  rw [after6]
  idx_vars y
  have e : dqOut (argZ m c) (gates m c) (argD m c) y0 (col t y1) = ((heads m c t (y1.val / 64)).dq y0.val (y1.val % 64) : EReal) := by
    rw [dqOut, (lane_col t y1).1, (lane_col t y1).2, heads]
  refine (dqS_eq (fits m c hz hb hd t) y0.isLt y1.isLt).trans (e.symm.trans ((congrFun hX (ix2 y0 (col t y1))).trans ?_))
  blk_point [col, idx t]

include hz hb hd in
theorem arr7 : (dats m 0 c).arrAt 7 cfg0.N = fun i => dkOut (argZ m c) (gates m c) (argD m c) (i 0) (i 1) := by
  generalize hX : (fun i : S4096x384.Idx => dkOut (argZ m c) (gates m c) (argD m c) (i 0) (i 1)) = X
  refine (dats m 0 c).arrAt_eq_of_covers 7 _ (by decide +kernel) fun t hf y => ?_
  blk_simp
  rw [after7]
  idx_vars y
  have e : dkOut (argZ m c) (gates m c) (argD m c) y0 (col t y1) = ((heads m c t (y1.val / 64)).dk y0.val (y1.val % 64) : EReal) := by
    rw [dkOut, (lane_col t y1).1, (lane_col t y1).2, heads]
  refine (dkT_eq (fits m c hz hb hd t) y0.isLt y1.isLt).trans (e.symm.trans ((congrFun hX (ix2 y0 (col t y1))).trans ?_))
  blk_point [col, idx t]

include hz hb hd in
theorem arr8 : (dats m 0 c).arrAt 8 cfg0.N = fun i => dvOut (argZ m c) (gates m c) (argD m c) (i 0) (i 1) := by
  generalize hX : (fun i : S4096x384.Idx => dvOut (argZ m c) (gates m c) (argD m c) (i 0) (i 1)) = X
  refine (dats m 0 c).arrAt_eq_of_covers 8 _ (by decide +kernel) fun t hf y => ?_
  blk_simp
  rw [after8]
  idx_vars y
  have e : dvOut (argZ m c) (gates m c) (argD m c) y0 (col t y1) = ((heads m c t (y1.val / 64)).dv y0.val (y1.val % 64) : EReal) := by
    rw [dvOut, (lane_col t y1).1, (lane_col t y1).2, heads]
  refine (dvT_eq (fits m c hz hb hd t) y0.isLt y1.isLt).trans (e.symm.trans ((congrFun hX (ix2 y0 (col t y1))).trans ?_))
  blk_point [col, idx t]

include hz hb hd in
theorem arr9 : (dats m 0 c).arrAt 9 cfg0.N = fun i => dcOut (argZ m c) (gates m c) (argD m c) (i 0) (i 2) := by
  generalize hX : (fun i : S6x1x4096.Idx => dcOut (argZ m c) (gates m c) (argD m c) (i 0) (i 2)) = X
  refine (dats m 0 c).arrAt_eq_of_covers 9 _ (by decide +kernel) fun t hf y => ?_
  blk_simp
  rw [after9]
  idx_vars y
  refine (dcT_eq (fits m c hz hb hd t) y0.isLt y2.isLt).trans ((congrFun hX (ix3 (head t y0) y1 y2)).trans ?_)
  blk_point [head, idx t]

end

end Cert.AttnKernelIdeal.Math

end
-- ==== Proof.AttnReference.lean ====
/-
  The attention's gradients as the reference computes them: the same gradients of the real heads.
-/
module

public import proofs.«01_k».proof.Proof.AttnValue
public import proofs.«01_k».proof.Proof.Gen.AttnReferenceIdeal.Read

@[expose] public section

set_option maxRecDepth 65536

noncomputable section

namespace Cert.AttnKernelIdeal.Math

open Idealize.ShloMosaic Idealize.ShloMosaic.Tactic
open Cert.AttnReferenceIdeal Cert.AttnReferenceIdeal.Gen Cert.AttnReferenceIdeal.Read
open Finset Cert.Reals

section
variable (z : FVec Ideal S4096x2182 .f32) (b : FVec Ideal S6 .f32) (d : FVec Ideal S4096x384 .f32)

/-- A head of the reference's arguments. -/
def refHead (n : ℕ) : Head := headOf z (val_main_v9 (F := Ideal) z b) d n

variable (hz : ∀ i, IsReal (z i)) (hb : ∀ i, IsReal (b i)) (hd : ∀ i, IsReal (d i))

include hz in
theorem r11 (n : Fin 6) (i : Fin 4096) (x : Fin 64) : val_main_v11 (F := Ideal) z (ix3 n i x) = ((refHead z b d n.val).q i.val x.val : EReal) := by
  refine Eq.trans ?_ (q_at hz n.val i.val x.val i.isLt (by omega))
  unfold val_main_v11 val_main_v10 val_main_v0
  pointwise []

include hz in
theorem r13 (n : Fin 6) (i : Fin 4096) (x : Fin 64) : val_main_v13 (F := Ideal) z (ix3 n i x) = ((refHead z b d n.val).k i.val x.val : EReal) := by
  refine Eq.trans ?_ (k_at hz n.val i.val x.val i.isLt (by omega))
  unfold val_main_v13 val_main_v12 val_main_v1
  pointwise []

include hz in
theorem r60 (n : Fin 6) (i : Fin 4096) (x : Fin 64) : val_main_v60 (F := Ideal) z (ix3 n i x) = ((refHead z b d n.val).v i.val x.val : EReal) := by
  refine Eq.trans ?_ (v_at hz n.val i.val x.val i.isLt (by omega))
  unfold val_main_v60 val_main_v59 val_main_v2
  pointwise []

include hd in
theorem r65 (n : Fin 6) (i : Fin 4096) (x : Fin 64) : val_main_v65 (F := Ideal) d (ix3 n i x) = ((refHead z b d n.val).g i.val x.val : EReal) := by
  refine Eq.trans ?_ (g_at hd n.val i.val x.val i.isLt (by omega))
  unfold val_main_v65 val_main_v64
  pointwise []

/-- The causal mask. -/
theorem mask (n : Fin 6) (i j : Fin 4096) : val_main_v30_1 (F := Ideal) (ix3 n i j) = if j.val ≤ i.val then 1#1 else 0#1 := by
  unfold val_main_v30_1 val_main_v29 val_main_v28 val_main_v27 val_main_v26 val_main_v25 val_main_v24 val_main_v23
  pointwise []
  rw [WordCmp.cmpi_sge_ofNat (w := 32) (a := i.val) (b := j.val) (by have := i.isLt; omega) (by have := j.isLt; omega)]
  by_cases h : j.val ≤ i.val <;> simp [h]

/-- Sixty-four products of real numbers. -/
theorem sum64 (f g : Fin 64 → EReal) (u v : ℕ → ℝ) (hf : ∀ x, f x = (u x.val : EReal)) (hg : ∀ x, g x = (v x.val : EReal)) :
    ∑ x, f x * g x = ((∑ x ∈ range 64, u x * v x : ℝ) : EReal) := by
  rw [coe_sum, ← Fin.sum_univ_eq_sum_range (fun x => ((u x * v x : ℝ) : EReal)) 64]
  exact sum_congr rfl fun x _ => by rw [hf, hg, EReal.coe_mul]

/-- A sum over all rows of real numbers. -/
theorem sum4096 (f : Fin 4096 → EReal) (u : ℕ → ℝ) (hf : ∀ x, f x = (u x.val : EReal)) :
    ∑ x, f x = ((∑ x ∈ range 4096, u x : ℝ) : EReal) := by
  rw [coe_sum, ← Fin.sum_univ_eq_sum_range (fun x => (u x : EReal)) 4096]
  exact sum_congr rfl fun x _ => hf x

include hz hb in
/-- The causal logits of a row. -/
theorem r30 (n : Fin 6) (i j : Fin 4096) : val_main_v30_0 (F := Ideal) z b (ix3 n i j)
    = rowOf i.val (fun j => (refHead z b d n.val).lg i.val j + (refHead z b d n.val).c i.val) j := by
  have hg := gates_real hz hb
  have e22 : val_main_v22 (F := Ideal) z b (ix3 n i j)
      = (((refHead z b d n.val).lg i.val j.val + (refHead z b d n.val).c i.val : ℝ) : EReal) := by
    unfold val_main_v22 val_main_v21 val_main_v20 val_main_v19 val_main_v18 val_main_v17 val_main_v16 val_main_v15 val_main_cst val_main_v14
    have e11 := fun n i x => r11 z b d hz n i x
    have e13 := fun n i x => r13 z b d hz n i x
    have ec : ∀ (n : Fin 6) (j : Fin 4096), val_main_v9 (F := Ideal) z b (ix2 n j) = ((refHead z b d n.val).c j.val : EReal) :=
      fun n j => c_at (z := z) (d := d) hg n.val j.val n.isLt j.isLt
    generalize val_main_v9 (F := Ideal) z b = y at hg ec
    generalize val_main_v11 (F := Ideal) z = q at e11
    generalize val_main_v13 (F := Ideal) z = k at e13
    pointwise []
    rw [ec, ec, sum64 _ _ _ _ (e11 n i) (e13 n j), eighth, ← EReal.coe_mul, ← EReal.coe_sub, ← EReal.coe_add]
    exact congrArg _ (by unfold Head.lg; ring)
  have em := mask n i j
  unfold val_main_v30_0 val_main_call2_v2 val_main_call2_v0 val_main_cst_0
  generalize val_main_v30_1 (F := Ideal) = y at em
  generalize val_main_v22 (F := Ideal) z b = w at e22
  pointwise []
  unfold rowOf
  rw [em, e22]
  split_ifs
  · rfl
  · exact neg_inf

/-- A row's largest element, as the reference reduces it. -/
theorem ref_max (x : FVec Ideal S6x4096x4096 .f32) (n : Fin 6) (i : Fin 4096) (f : Fin 4096 → EReal) (hf : ∀ j, x (ix3 n i j) = f j) :
    Host.reduce FloatOps.maximumf x (constant (F := Ideal) S_ FTy.f32 0xFF800000#32) reducesTo_S6x4096x4096_S6x4096_d2 h_S_ (ix2 n i)
     = Finset.fold max (Ideal.ofBits FTy.f32 0xFF800000#32) f Finset.univ := by
  pointwise []
  simp only [hf]

include d hz hb in
theorem r31 (n : Fin 6) (i : Fin 4096) : IsReal (val_main_v31 (F := Ideal) z b (ix2 n i)) := by
  have e30 := fun j => r30 z b d hz hb n i j
  have hr := row_real i fun j => (refHead z b d n.val).lg i.val j + (refHead z b d n.val).c i.val
  rw [← neg_inf] at hr
  unfold val_main_v31 val_main_cst_1
  generalize val_main_v30_0 (F := Ideal) z b = y at e30
  generalize hf : rowOf i.val (fun j => (refHead z b d n.val).lg i.val j + (refHead z b d n.val).c i.val) = f at e30 hr
  rw [ref_max y n i f e30]
  exact hr

include d hz hb in
/-- The largest logit of a row, as the reference computes it, is a real number. -/
theorem r38 (n : Fin 6) (i : Fin 4096) : IsReal (val_main_v38 (F := Ideal) z b (ix2 n i)) := by
  obtain ⟨μ, e31⟩ := r31 z b d hz hb n i
  refine ⟨μ, ?_⟩
  rw [val_main_v38_apply, val_main_v37_apply, val_main_cst_3_apply, e31, Ideal.maximumf_def, Ideal.ofBits_def, neg_inf]
  exact max_eq_right bot_le

include hz hb in
/-- A row's exponentials are the softmax's weights times a positive number, their sum. -/
theorem r51 (n : Fin 6) (i : Fin 4096) : ∃ W : ℝ, 0 < W ∧ val_main_v52 (F := Ideal) z b (ix2 n i) = (W : EReal)
    ∧ ∀ j : Fin 4096, val_main_v51 (F := Ideal) z b (ix3 n i j) = (((refHead z b d n.val).p i.val j.val * W : ℝ) : EReal) := by
  obtain ⟨μ, hμ⟩ := r38 z b d hz hb n i
  set H := refHead z b d n.val with hH
  have hZ := H.Z_pos i.val
  have e : ∀ j, Real.exp (H.lg i.val j + H.c i.val - μ) = Real.exp (H.lg i.val j) * Real.exp (H.c i.val - μ) := fun j => by
    rw [← Real.exp_add, add_sub_assoc]
  have e51 : ∀ j : Fin 4096, val_main_v51 (F := Ideal) z b (ix3 n i j)
      = ((if j.val ≤ i.val then Real.exp (H.lg i.val j.val) * Real.exp (H.c i.val - μ) else 0 : ℝ) : EReal) := fun j => by
    have e30 := r30 z b d hz hb n i j
    unfold val_main_v51 val_main_v50 val_main_v49 val_main_v48
    generalize val_main_v30_0 (F := Ideal) z b = y at e30
    generalize val_main_v38 (F := Ideal) z b = w at hμ
    pointwise []
    rw [e30, hμ, row_exp, e]
  refine ⟨H.Z i.val * Real.exp (H.c i.val - μ), by positivity, ?_, fun j => ?_⟩
  · unfold val_main_v52 val_main_cst_9
    generalize val_main_v51 (F := Ideal) z b = y at e51
    refine (row_sum y n i).trans ?_
    rw [sum_congr rfl fun j _ => e51 j, sum_seen i.val i.isLt fun j => Real.exp (H.lg i.val j) * Real.exp (H.c i.val - μ), ← Finset.sum_mul]
    rfl
  · rw [e51]
    refine congrArg _ ?_
    unfold Head.p
    split_ifs
    · field_simp
    · rw [zero_mul]

include hz hb in
/-- The softmax's weights. -/
theorem r55 (n : Fin 6) (i j : Fin 4096) : val_main_v55 (F := Ideal) z b (ix3 n i j) = ((refHead z b d n.val).p i.val j.val : EReal) := by
  obtain ⟨W, hW, e52, e51⟩ := r51 z b d hz hb n i
  unfold val_main_v55 val_main_v54 val_main_v53
  generalize val_main_v51 (F := Ideal) z b = y at e51
  generalize val_main_v52 (F := Ideal) z b = w at e52
  pointwise []
  rw [e51, e52, Ideal.div_coe hW.ne', ← EReal.coe_mul]
  exact congrArg _ (by field_simp)

include hz hd in
/-- Their gradients. -/
theorem r68 (n : Fin 6) (i j : Fin 4096) : val_main_v68 (F := Ideal) z d (ix3 n i j) = ((refHead z b d n.val).dp i.val j.val : EReal) := by
  have e60 := fun n i x => r60 z b d hz n i x
  have e65 := fun n i x => r65 z b d hd n i x
  unfold val_main_v68
  generalize val_main_v60 (F := Ideal) z = y at e60
  generalize val_main_v65 (F := Ideal) d = w at e65
  pointwise []
  exact sum64 _ _ _ _ (e65 n i) (e60 n j)

include hz hb hd in
/-- The logits' gradients. -/
theorem r83 (n : Fin 6) (i j : Fin 4096) : val_main_v83 (F := Ideal) z b d (ix3 n i j) = ((refHead z b d n.val).ds i.val j.val : EReal) := by
  obtain ⟨W, hW, e52, e51⟩ := r51 z b d hz hb n i
  have e68 := fun j => r68 z b d hz hd n i j
  have em := mask n i j
  set H := refHead z b d n.val with hH
  have e73 : ∀ j : Fin 4096, val_main_v73 (F := Ideal) z b d (ix3 n i j) = ((H.p i.val j.val * H.dp i.val j.val / W : ℝ) : EReal) := fun j => by
    unfold val_main_v73 val_main_v72 val_main_v71 val_main_v58 val_main_v57 val_main_v56 val_main_v53 val_main_cst_10
    generalize val_main_v51 (F := Ideal) z b = y at e51
    generalize val_main_v52 (F := Ideal) z b = w at e52
    generalize val_main_v68 (F := Ideal) z d = u at e68
    pointwise []
    rw [e51, e52, e68, ← EReal.coe_mul, Ideal.div_coe (mul_pos hW hW).ne', one_mul, ← EReal.coe_mul, ← EReal.coe_mul]
    exact congrArg _ (by field_simp)
  have e74 : val_main_v74 (F := Ideal) z b d (ix2 n i) = ((H.del i.val / W : ℝ) : EReal) := by
    unfold val_main_v74 val_main_cst_11
    generalize val_main_v73 (F := Ideal) z b d = y at e73
    refine (row_sum y n i).trans ?_
    rw [sum4096 _ (fun j => H.p i.val j * H.dp i.val j / W) e73, Head.del, sum_div]
  unfold val_main_v83 val_main_v82 val_main_v81 val_main_v80 val_main_v79 val_main_v78 val_main_v77 val_main_v76 val_main_v75 val_main_v53
    val_main_cst_12 val_main_call3_v0 val_main_call3_cst
  generalize val_main_v51 (F := Ideal) z b = y at e51
  generalize val_main_v52 (F := Ideal) z b = w at e52
  generalize val_main_v68 (F := Ideal) z d = u at e68
  generalize val_main_v74 (F := Ideal) z b d = s at e74
  generalize val_main_v30_1 (F := Ideal) = t at em
  pointwise []
  simp only [Fin.sum_univ_one]
  rw [em, e51, e52, e68, e74, Ideal.div_coe hW.ne', ← EReal.coe_mul, ← EReal.coe_neg, ← EReal.coe_add, ← EReal.coe_mul]
  split_ifs with h
  · rw [Head.ds]
    show Real.toEReal _ = Real.toEReal _
    exact congrArg _ (by field_simp; ring)
  · rw [H.ds_zero (Nat.lt_of_not_le h)]
    rfl

/-- The softmax's weights of a row sum to one, and the logits' gradients to nothing. -/
theorem sum_p (H : Head) (i : ℕ) (hi : i < 4096) : ∑ j ∈ range 4096, H.p i j = 1 := by
  rw [← sum_subset (range_subset_range.2 (show i + 1 ≤ 4096 by omega)) fun j _ hj => H.p_zero (by have := mt mem_range.2 hj; omega)]
  refine (sum_congr rfl fun j hj => (if_pos (show j ≤ i by have := mem_range.1 hj; omega) : H.p i j = Real.exp (H.lg i j) / H.Z i)).trans ?_
  rw [← sum_div]
  exact div_self (H.Z_pos i).ne'

theorem sum_ds (H : Head) (i : ℕ) (hi : i < 4096) : ∑ j ∈ range 4096, H.ds i j = 0 := by
  have e : ∀ j, H.ds i j = H.p i j * H.dp i j - H.p i j * H.del i := fun j => mul_sub _ _ _
  rw [sum_congr rfl fun j _ => e j, sum_sub_distrib, ← Finset.sum_mul, sum_p H i hi, one_mul]
  exact sub_self _

/-- Rows of real products. -/
theorem sum_rows (f g : Fin 4096 → EReal) (u v : ℕ → ℝ) (hf : ∀ x, f x = (u x.val : EReal)) (hg : ∀ x, g x = (v x.val : EReal)) :
    ∑ x, f x * g x = ((∑ x ∈ range 4096, u x * v x : ℝ) : EReal) :=
  sum4096 _ (fun x => u x * v x) fun x => by rw [hf, hg, EReal.coe_mul]

include hz hb hd in
theorem r94 (n : Fin 6) (j : Fin 4096) (x : Fin 64) : val_main_v94 (F := Ideal) z b d (ix3 n j x) = ((refHead z b d n.val).dk j.val x.val : EReal) := by
  have e83 := fun i j => r83 z b d hz hb hd n i j
  have e11 := fun i x => r11 z b d hz n i x
  have ev : val_main_v94 (F := Ideal) z b d (ix3 n j x)
      = ∑ i : Fin 4096, val_main_v83 (F := Ideal) z b d (ix3 n i j) * Ideal.ofBits .f32 0x3E000000#32 * val_main_v11 (F := Ideal) z (ix3 n i x) := by
    unfold val_main_v94 val_main_v93 val_main_v92 val_main_cst_17
    generalize val_main_v83 (F := Ideal) z b d = y
    generalize val_main_v11 (F := Ideal) z = w
    pointwise []
  rw [ev, sum_rows _ _ (fun i => (refHead z b d n.val).ds i j.val * (1 / 8)) (fun i => (refHead z b d n.val).q i x.val)
    (fun i => by rw [e83, eighth, EReal.coe_mul]) fun i => e11 i x, Head.dk, sum_div]
  exact congrArg _ (sum_congr rfl fun _ _ => by ring)

include hz hb hd in
theorem r95 (n : Fin 6) (i : Fin 4096) (x : Fin 64) : val_main_v95 (F := Ideal) z b d (ix3 n i x) = ((refHead z b d n.val).dq i.val x.val : EReal) := by
  have e83 := fun i j => r83 z b d hz hb hd n i j
  have e13 := fun i x => r13 z b d hz n i x
  have ev : val_main_v95 (F := Ideal) z b d (ix3 n i x)
      = ∑ j : Fin 4096, val_main_v83 (F := Ideal) z b d (ix3 n i j) * Ideal.ofBits .f32 0x3E000000#32 * val_main_v13 (F := Ideal) z (ix3 n j x) := by
    unfold val_main_v95 val_main_v93 val_main_v92 val_main_cst_17
    generalize val_main_v83 (F := Ideal) z b d = y
    generalize val_main_v13 (F := Ideal) z = w
    pointwise []
  rw [ev, sum_rows _ _ (fun j => (refHead z b d n.val).ds i.val j * (1 / 8)) (fun j => (refHead z b d n.val).k j x.val)
    (fun j => by rw [e83, eighth, EReal.coe_mul]) fun j => e13 j x, Head.dq, sum_div]
  exact congrArg _ (sum_congr rfl fun _ _ => by ring)

include hz hb hd in
theorem r66 (n : Fin 6) (j : Fin 4096) (x : Fin 64) : val_main_v66 (F := Ideal) z b d (ix3 n x j) = ((refHead z b d n.val).dv j.val x.val : EReal) := by
  have e55 := fun i j => r55 z b d hz hb n i j
  have e65 := fun i x => r65 z b d hd n i x
  have ev : val_main_v66 (F := Ideal) z b d (ix3 n x j)
      = ∑ i : Fin 4096, val_main_v65 (F := Ideal) d (ix3 n i x) * val_main_v55 (F := Ideal) z b (ix3 n i j) := by
    unfold val_main_v66
    generalize val_main_v65 (F := Ideal) d = y
    generalize val_main_v55 (F := Ideal) z b = w
    pointwise []
  rw [ev, sum_rows _ _ (fun i => (refHead z b d n.val).g i x.val) (fun i => (refHead z b d n.val).p i j.val)
    (fun i => e65 i x) fun i => e55 i j, Head.dv]
  exact congrArg _ (sum_congr rfl fun _ _ => mul_comm _ _)

include hz hb hd in
theorem r91 (n : Fin 6) (j : Fin 4096) : val_main_v91 (F := Ideal) z b d (ix2 n j) = ((refHead z b d n.val).dc j.val : EReal) := by
  have e83 := fun i j => r83 z b d hz hb hd n i j
  have ev : val_main_v91 (F := Ideal) z b d (ix2 n j)
      = (∑ i : Fin 4096, -val_main_v83 (F := Ideal) z b d (ix3 n i j)) + ∑ k : Fin 4096, val_main_v83 (F := Ideal) z b d (ix3 n j k) := by
    unfold val_main_v91 val_main_v90 val_main_v89 val_main_v88 val_main_v87 val_main_v86 val_main_v85 val_main_v84
      val_main_cst_13 val_main_cst_14 val_main_cst_15 val_main_cst_16
    generalize val_main_v83 (F := Ideal) z b d = y
    pointwise []
    simp only [Fin.sum_univ_one]
  rw [ev, sum4096 _ (fun i => -(refHead z b d n.val).ds i j.val) (fun i => by rw [e83, EReal.coe_neg]),
    sum4096 _ (fun k => (refHead z b d n.val).ds j.val k) (fun k => e83 j k), sum_ds _ _ j.isLt, EReal.coe_zero, add_zero, Head.dc, sum_neg_distrib]

include hz hb hd in
theorem ref_dq : val_main_v99 (F := Ideal) z b d = fun i => dqOut z (val_main_v9 (F := Ideal) z b) d (i 0) (i 1) := by
  funext i
  idx_vars i
  have e := fun n i x => r95 z b d hz hb hd n i x
  refine Eq.trans ?_ (e ⟨i1.val / 64, by omega⟩ i0 ⟨i1.val % 64, by omega⟩)
  unfold val_main_v99 val_main_v98
  generalize val_main_v95 (F := Ideal) z b d = y
  pointwise []

include hz hb hd in
theorem ref_dk : val_main_v97 (F := Ideal) z b d = fun i => dkOut z (val_main_v9 (F := Ideal) z b) d (i 0) (i 1) := by
  funext i
  idx_vars i
  have e := fun n i x => r94 z b d hz hb hd n i x
  refine Eq.trans ?_ (e ⟨i1.val / 64, by omega⟩ i0 ⟨i1.val % 64, by omega⟩)
  unfold val_main_v97 val_main_v96
  generalize val_main_v94 (F := Ideal) z b d = y
  pointwise []

include hz hb hd in
theorem ref_dv : val_main_v70 (F := Ideal) z b d = fun i => dvOut z (val_main_v9 (F := Ideal) z b) d (i 0) (i 1) := by
  funext i
  idx_vars i
  have e := fun n i x => r66 z b d hz hb hd n i x
  refine Eq.trans ?_ (e ⟨i1.val / 64, by omega⟩ i0 ⟨i1.val % 64, by omega⟩)
  unfold val_main_v70 val_main_v69 val_main_v67
  generalize val_main_v66 (F := Ideal) z b d = y
  pointwise []

include hz hb hd in
theorem ref_dc : val_main_v100 (F := Ideal) z b d = fun i => dcOut z (val_main_v9 (F := Ideal) z b) d (i 0) (i 2) := by
  funext i
  idx_vars i
  refine Eq.trans ?_ (r91 z b d hz hb hd i0 i2)
  unfold val_main_v100
  generalize val_main_v91 (F := Ideal) z b d = y
  pointwise []

end

end Cert.AttnKernelIdeal.Math

end
-- ==== Proof.AttnEquation.lean ====
/-
  The attention's backward call keeps its arguments, before and after idealization, and so does its reference; and the two
  compute the same gradients of finite arguments.
-/
module

public import proofs.«01_k».proof.Defs
public import proofs.«01_k».proof.Proof.AttnFrame
public import proofs.«01_k».proof.Proof.AttnReference
public import Idealize.ShloMosaic.Lib.Quiescent
public import proofs.«01_k».proof.Proof.Gen.AttnKernel
public import proofs.«01_k».proof.Proof.Gen.AttnReferenceIdeal.Run
public import proofs.«01_k».proof.Proof.Gen.AttnReferenceIdeal.Read

@[expose] public section

set_option maxRecDepth 16384

noncomputable section

namespace Cert.Proof.Attn

open Idealize.ShloMosaic Idealize.ShloMosaic.TcCoe Idealize.SL.Sem

/-- The reference runs, keeps its arguments, and has no semaphore to leave raised. -/
theorem frame_reference : Cert.quiescent_AttnReferenceIdeal
    (hAttnReferenceIdeal := Cert.AttnReferenceIdeal.Gen.facts) := fun m ρ _ =>
  (θ_run Cert.AttnReferenceIdeal.defs _ _).mono (fun r h => ⟨fun c => (h c).2.2.2.2, sem_eq_zero_of_no_sems (by decide) r.2⟩)
    (Cert.AttnReferenceIdeal.Value.run m ρ)

/-- The kernel before idealization runs the same operations: its frame is the run's, read at the machine's floats. -/
theorem frame_kernel : Cert.quiescent_AttnKernel (hAttnKernel := Cert.AttnKernel.Gen.facts) := by
  have e : Cert.quiescent_AttnKernel (hAttnKernel := Cert.AttnKernel.Gen.facts)
      = ∀ (m : (ℓ : Loc Cert.AttnKernelIdeal.nD Cert.AttnKernelIdeal.τ Cert.AttnKernelIdeal.sig) → Buf (Elt Bits) ℓ) (ρ : Dev Cert.AttnKernelIdeal.nD → PrngReg),
        Cert.Pre_AttnKernel m → θ_run (Cert.AttnKernelIdeal.defs (F := Bits)) (onTc (τ := Cert.AttnKernelIdeal.τ) (Cert.AttnKernelIdeal.main (F := Bits)))
          ⟨m, fun _ => 0, ρ⟩ (fun r => (∀ c : Dev Cert.AttnKernelIdeal.nD,
            r.2.mem ((c.tc : Thread _ _).loc Cert.AttnKernelIdeal.main_arg0) = m ((c.tc : Thread _ _).loc Cert.AttnKernelIdeal.main_arg0)
            ∧ r.2.mem ((c.tc : Thread _ _).loc Cert.AttnKernelIdeal.main_arg1) = m ((c.tc : Thread _ _).loc Cert.AttnKernelIdeal.main_arg1)
            ∧ r.2.mem ((c.tc : Thread _ _).loc Cert.AttnKernelIdeal.main_arg2) = m ((c.tc : Thread _ _).loc Cert.AttnKernelIdeal.main_arg2))
            ∧ r.2.sem = fun _ => 0) := by sl_kernel_rfl
  rw [e]
  exact fun m ρ _ => Cert.AttnKernelIdeal.Frame.frame_main (F := Bits) m ρ

theorem frame_ideal : Cert.quiescent_AttnKernelIdeal (hAttnKernelIdeal := Cert.AttnKernelIdeal.Gen.facts) := fun m ρ _ =>
  Cert.AttnKernelIdeal.Frame.frame_main m ρ

open Cert.Reals Cert.AttnKernelIdeal.Math Cert.AttnReferenceIdeal.Read Idealize.ShloMosaic.StableHlo

/-- The side conditions of the precondition's operations. -/
instance pre_facts : Cert.Pre_attn_finite.Facts := by
  constructor <;> decide

/-- What the precondition says of the arguments. -/
theorem finite_of (z : FVec Ideal Cert.AttnKernelIdeal.S4096x2182 .f32) (b : FVec Ideal Cert.AttnKernelIdeal.S6 .f32)
    (d : FVec Ideal Cert.AttnKernelIdeal.S4096x384 .f32) (h : Cert.Pre_attn_finite.fn (F := Ideal) z b d = fun _ => 1#1) :
    (∀ i, IsReal (z i)) ∧ (∀ i, IsReal (b i)) ∧ ∀ i, IsReal (d i) := by
  have h0 := congrFun h ix0
  obtain ⟨h1, hd⟩ := andi_one h0
  obtain ⟨hz, hb⟩ := andi_one h1
  exact ⟨all_real _ _ _ _ _ _ hz, all_real _ _ _ _ _ _ hb, all_real _ _ _ _ _ _ hd⟩

theorem finite_args (m : (ℓ : Loc Cert.AttnKernelIdeal.nD Cert.AttnKernelIdeal.τ Cert.AttnKernelIdeal.sig) → Buf (Elt Ideal) ℓ)
    (h : Cert.Pre_AttnKernelIdeal_attn_finite (hPre_attn_finite := pre_facts) m) (c : Dev Cert.AttnKernelIdeal.nD) :
    (∀ i, IsReal (argZ m c i)) ∧ (∀ i, IsReal (argB m c i)) ∧ ∀ i, IsReal (argD m c i) :=
  finite_of (argZ m c) (argB m c) (argD m c) (h c)

/-- What the reference leaves, of arguments equal to the kernel's. -/
theorem results (z z' : FVec Ideal Cert.AttnKernelIdeal.S4096x2182 .f32) (b b' : FVec Ideal Cert.AttnKernelIdeal.S6 .f32)
    (d d' : FVec Ideal Cert.AttnKernelIdeal.S4096x384 .f32) (hz : ∀ i, IsReal (z i)) (hb : ∀ i, IsReal (b i)) (hd : ∀ i, IsReal (d i))
    (ez : z' = z) (eb : b' = b) (ed : d' = d) :
    val_main_v99 (F := Ideal) z' b' d' = (fun i => dqOut z (val_main_v9 (F := Ideal) z b) d (i 0) (i 1))
    ∧ val_main_v97 (F := Ideal) z' b' d' = (fun i => dkOut z (val_main_v9 (F := Ideal) z b) d (i 0) (i 1))
    ∧ val_main_v70 (F := Ideal) z' b' d' = (fun i => dvOut z (val_main_v9 (F := Ideal) z b) d (i 0) (i 1))
    ∧ val_main_v100 (F := Ideal) z' b' d' = (fun i => dcOut z (val_main_v9 (F := Ideal) z b) d (i 0) (i 2)) := by
  subst ez eb ed
  exact ⟨ref_dq _ _ _ hz hb hd, ref_dk _ _ _ hz hb hd, ref_dv _ _ _ hz hb hd, ref_dc _ _ _ hz hb hd⟩

set_option maxHeartbeats 4000000 in
/-- The value claim of the attention's backward call. -/
theorem algebraic : Cert.algebraic_AttnKernelIdeal_AttnReferenceIdeal_pre_attn_finite
    (hAttnKernelIdeal := Cert.AttnKernelIdeal.Gen.facts) (hAttnReferenceIdeal := Cert.AttnReferenceIdeal.Gen.facts)
    (hPre_attn_finite := pre_facts) := by
  intro m g m' g' hpre hag
  refine ⟨fun c => fun i => dqOut (argZ m c) (gates m c) (argD m c) (i 0) (i 1), fun c => fun i => dkOut (argZ m c) (gates m c) (argD m c) (i 0) (i 1),
    fun c => fun i => dvOut (argZ m c) (gates m c) (argD m c) (i 0) (i 1), fun c => fun i => dcOut (argZ m c) (gates m c) (argD m c) (i 0) (i 2), ?_, ?_⟩
  · refine (θ_run _ _ _).mono (fun r h c => ?_) (θ_run_and (run_main m g) (Cert.AttnKernelIdeal.Frame.frame_main m g))
    obtain ⟨hz, hb, hd⟩ := finite_args m hpre c
    exact ⟨((h.1.1 c).1 6).trans (arr6 m c hz hb hd), ((h.1.1 c).1 7).trans (arr7 m c hz hb hd), ((h.1.1 c).1 8).trans (arr8 m c hz hb hd),
      ((h.1.1 c).1 9).trans (arr9 m c hz hb hd), h.2.1 c⟩
  · refine (θ_run _ _ _).mono (fun r h c => ?_) (Cert.AttnReferenceIdeal.Value.run m' g')
    have hf := finite_args m hpre c
    have hr := results (argZ m c) (launchContents m' c (Proc.devRef .tc Cert.AttnReferenceIdeal.main_arg0))
      (argB m c) (launchContents m' c (Proc.devRef .tc Cert.AttnReferenceIdeal.main_arg1))
      (argD m c) (launchContents m' c (Proc.devRef .tc Cert.AttnReferenceIdeal.main_arg2)) hf.1 hf.2.1 hf.2.2 (hag c).1 (hag c).2.1 (hag c).2.2
    have h0 := val_main_v99_eq (F := Ideal) (launchContents m' c)
    have h1 := val_main_v97_eq (F := Ideal) (launchContents m' c)
    have h2 := val_main_v70_eq (F := Ideal) (launchContents m' c)
    have h3 := val_main_v100_eq (F := Ideal) (launchContents m' c)
    exact ⟨(h c).1.trans (h0.trans hr.1), (h c).2.1.trans (h1.trans hr.2.1), (h c).2.2.1.trans (h2.trans hr.2.2.1),
      (h c).2.2.2.1.trans (h3.trans hr.2.2.2), (h c).2.2.2.2⟩

end Cert.Proof.Attn

end
-- ==== Proof.LossValue.lean ====
/-
  What the loss head leaves in its two results, at the extended reals: the gradient block by block, and the running
  sum of the eight row blocks' losses.
-/
module

public import proofs.«01_k».proof.Proof.Gen.LossKernelIdeal.Value
public import proofs.«01_k».proof.Proof.Reals
public import Idealize.ShloMosaic.Lib.Pointwise
public import Idealize.ShloMosaic.Lib.Pipeline.ValueKit
public import Idealize.ShloMosaic.Lib.Tactic

@[expose] public section

set_option maxRecDepth 16384

noncomputable section

namespace Cert.LossKernelIdeal.Value

open Idealize.ShloMosaic Idealize.ShloMosaic.TcCoe Idealize.SL.Sem
open Idealize.ShloMosaic.Pipeline (Dat)
open Cert.LossKernelIdeal Cert.LossKernelIdeal.Gen

variable (m : (ℓ : Loc nD τ sig) → Buf (Elt Ideal) ℓ)

/-- The gradient: the residual times the reciprocal of the row length. -/
def grad (y u : Vec Ideal S4096x1024 .f32) : Vec Ideal S4096x1024 .f32 := fun i =>
  (y i - u i) * Ideal.ofBits .f32 0x3A800000#32

/-- The square sum of one row of the residual times the reciprocal of the row length. -/
def rowMean (y u : Vec Ideal S4096x1024 .f32) (r : Fin 4096) : EReal :=
  (∑ k : Fin 1024, (y (ix2 r k) - u (ix2 r k)) * (y (ix2 r k) - u (ix2 r k))) * Ideal.ofBits .f32 0x3A800000#32

/-- The loss of one block of 512 rows. -/
def part (y u : Vec Ideal S4096x1024 .f32) (t : Fin 8) : EReal :=
  Ideal.ofBits .f32 0x3F000000#32 * ∑ r : Fin 512, rowMean y u ⟨t.val * 512 + r.val, by omega⟩

/-- Where each window's block lies at a grid point. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, win0_0.index t = ![t.val, 0] ∧ win0_1.index t = ![t.val, 0]
    ∧ win0_2.index t = ![t.val, 0] ∧ win0_3.index t = ![0, 0])

/-- The gradient array after the run. -/
theorem arr2 (c : Dev nD) : (dats m 0 c).arrAt 2 cfg0.N
    = grad (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  by_cases h0 : t.val % 8 = 0
  · have h1 : ¬1 ≤ t.val := by have := lt_of_lt_of_eq t.isLt N_0; omega
    rw [outsAt0_A m c t h0 h1]
    frame_out
    unfold_payloads
    pointwise [grad]
    blk_point [iblk, V, idx t]
  · have h1 : 1 ≤ t.val := by omega
    rw [outsAt0_B m c t h0 h1]
    frame_out
    unfold_payloads
    pointwise [grad]
    blk_point [iblk, V, idx t]

/-- The loss row after the last grid point: the sum of the eight blocks' losses in lane 0, zero in the other lanes. -/
def lossRow (y u : Vec Ideal S4096x1024 .f32) : Vec Ideal S1x128 .f32 := fun i =>
  ∑ t : Fin 8, if (i 1).val = 0 then part y u t else 0

/-- A row block's contribution, read from the point's two input blocks. -/
theorem row3 (c : Dev nD) (t : Fin cfg0.N) (j : S1x128.Idx) :
    k0_pay3 (iblk m c 0 t) (iblk m c 1 t) j
      = if (j 1).val = 0 then part (m ((c.tc : Thread nD τ).loc main_arg0)) (m ((c.tc : Thread nD τ).loc main_arg1)) (t.cast N_0) else 0 := by
  idx_vars j
  unfold_payloads
  pointwise [part, rowMean]
  by_cases h : j1.val = 0
  · have e : IntOp.cmpi .eq (BitVec.ofNat 32 j1.val) 0#32 = 1#1 := by rw [h]; rfl
    rw [e, if_pos h]
    show Ideal.ofBits FTy.f32 1056964608#32 * _ = _
    blk_point [iblk, V, idx t]
  · have e : IntOp.cmpi .eq (BitVec.ofNat 32 j1.val) 0#32 = 0#1 := by
      revert h; revert j1; decide +kernel
    rw [e, if_neg h]
    rfl

/-- The loss row after the run. -/
theorem arr3 (c : Dev nD) : (dats m 0 c).arrAt 3 cfg0.N
    = lossRow (m ((c.tc : Thread nD τ).loc main_arg0)) (m ((c.tc : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0)
    (fun t j => if (j 1).val = 0 then part (m ((c.tc : Thread nD τ).loc main_arg0)) (m ((c.tc : Thread nD τ).loc main_arg1)) (t.cast N_0) else 0)
    (fun t h j => by
      have h1 : ¬1 ≤ t.val := by have := lt_of_lt_of_eq t.isLt N_0; omega
      rw [outsAt0_A m c t h h1]; frame_out; rw [row3, zero_add])
    (fun t h j => by
      have h1 : 1 ≤ t.val := by omega
      rw [outsAt0_B m c t h h1]; frame_out; rw [← row3]; pointwise [k0_pay4])
    (le_of_eq N_0) t0_7 rfl j, zero_add]
  rfl

end Cert.LossKernelIdeal.Value

end
-- ==== Proof.LossEquation.lean ====
/-
  The loss head's two results are the reference's: the gradient and the loss row.
-/
module

public import proofs.«01_k».proof.Defs
public import proofs.«01_k».proof.Proof.LossValue
public import Idealize.ShloMosaic.Lib.Quiescent
public import proofs.«01_k».proof.Proof.Gen.LossReferenceIdeal.Run
public import proofs.«01_k».proof.Proof.Gen.LossReferenceIdeal.Read

@[expose] public section

set_option maxRecDepth 16384

noncomputable section

namespace Cert.Proof.Loss

open Idealize.ShloMosaic Idealize.ShloMosaic.TcCoe Idealize.SL.Sem
open Cert.LossKernelIdeal.Value (grad part rowMean lossRow)
open Cert.LossReferenceIdeal.Read

/-- The gradient, element by element: `(½ · 1) / 1024 · (2 · e) = e · 2⁻¹⁰`. -/
theorem grad_eq (y u : Vec Ideal ⟨2, ![4096, 1024]⟩ .f32) : val_main_v14 (F := Ideal) y u = grad y u := by
  funext i
  idx_vars i
  rw [← val_main_v14_eq]
  pointwise [grad]
  rw [Reals.half, Reals.two, Reals.c1024, Reals.inv1024, Ideal.div_coe (by norm_num), ← mul_assoc, mul_comm]
  congr 1
  rw [← EReal.coe_mul, ← EReal.coe_mul]
  norm_num

/-- The loss: half the sum of the row means, the eight blocks' sums put end to end. -/
theorem loss_eq (y u : Vec Ideal ⟨2, ![4096, 1024]⟩ .f32) : val_main_v19 (F := Ideal) y u = lossRow y u := by
  funext i
  idx_vars i
  rw [← val_main_v19_eq]
  pointwise [lossRow, part, rowMean]
  by_cases h : i1.val = 0
  · have e : IntOp.cmpi .eq (BitVec.ofNat 32 i1.val) 0#32 = 1#1 := by rw [h]; rfl
    rw [e]
    simp only [if_pos h]
    show Ideal.ofBits FTy.f32 1056964608#32 * _ = _
    rw [Reals.half, ← Reals.mul_sum _ _ (by norm_num)]
    congr 1
    symm
    refine Fin.sum_mul_add_congr fun s k hl => ?_
    rw [Reals.c1024, Reals.inv1024, Ideal.div_coe (by norm_num)]
  · have e : IntOp.cmpi .eq (BitVec.ofNat 32 i1.val) 0#32 = 0#1 := by
      revert h; revert i1; decide +kernel
    rw [e]
    simp only [if_neg h, Finset.sum_const_zero]
    exact Ideal.ofBits_zero_f32

/-- The reference runs, keeps its arguments, and has no semaphore to leave raised. -/
theorem frame_reference : Cert.quiescent_LossReferenceIdeal
    (hLossReferenceIdeal := Cert.LossReferenceIdeal.Gen.facts) := fun m ρ _ =>
  (θ_run Cert.LossReferenceIdeal.defs _ _).mono (fun r h => ⟨fun c => (h c).2.2, sem_eq_zero_of_no_sems (by decide) r.2⟩)
    (Cert.LossReferenceIdeal.Value.run m ρ)

/-- The value claim of the loss head. -/
theorem algebraic : Cert.algebraic_LossKernelIdeal_LossReferenceIdeal
    (hLossKernelIdeal := Cert.LossKernelIdeal.Gen.facts) (hLossReferenceIdeal := Cert.LossReferenceIdeal.Gen.facts) := by
  intro m g m' g' _ hag
  refine ⟨fun c => grad (m ((c.tc : Thread _ _).loc Cert.LossKernelIdeal.main_arg0)) (m ((c.tc : Thread _ _).loc Cert.LossKernelIdeal.main_arg1)),
    fun c => lossRow (m ((c.tc : Thread _ _).loc Cert.LossKernelIdeal.main_arg0)) (m ((c.tc : Thread _ _).loc Cert.LossKernelIdeal.main_arg1)), ?_, ?_⟩
  · refine (θ_run _ _ _).mono (fun r h c => ?_) (Cert.LossKernelIdeal.Value.run_blocks m g)
    obtain ⟨h0, h1, h2, h3⟩ := h c
    exact ⟨h0.trans (Cert.LossKernelIdeal.Value.arr2 m c), h1.trans (Cert.LossKernelIdeal.Value.arr3 m c), h2, h3⟩
  · refine (θ_run _ _ _).mono (fun r h c => ?_) (Cert.LossReferenceIdeal.Value.run m' g')
    obtain ⟨h0, h1, h2, h3⟩ := h c
    obtain ⟨e0, e1⟩ := hag c
    refine ⟨?_, ?_, h2, h3⟩
    · exact h0.trans ((val_main_v14_eq _ _).trans ((grad_eq _ _).trans (by rw [e0, e1])))
    · exact h1.trans ((val_main_v19_eq _ _).trans ((loss_eq _ _).trans (by rw [e0, e1])))

end Cert.Proof.Loss

end
-- ==== Proof.FfnValue.lean ====
/-
  What the feed-forward layer's backward call leaves in its four results, at the extended reals: the gradients of the
  two gate arguments, the halved hidden layer, and the gradient of the layer's input with the skip connection's share.
-/
module

public import proofs.«01_k».proof.Proof.Gen.FfnKernelIdeal.Value
public import proofs.«01_k».proof.Proof.Reals
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen

variable (m : (ℓ : Loc nD τ sig) → Buf (Elt Ideal) ℓ)

/-- A gate's argument: the layer's input times a column of the gate's weights. -/
def gateArg (x : Vec Ideal S4096x1024 .f32) (w : Vec Ideal S1024x2816 .f32) (r : Fin 4096) (f : Fin 2816) : EReal :=
  ∑ k : Fin 1024, x (ix2 r k) * w (ix2 k f)

/-- The gate's argument as the host hands it to the kernel. -/
theorem V_v7 (c : Dev nD) (i : S4096x2816.Idx) : V m c main_v7 i
    = gateArg (m ((c.tc : Thread nD τ).loc main_arg0)) (m ((c.tc : Thread nD τ).loc main_arg1)) (i 0) (i 1) := by
  idx_vars i
  unfold_abbrev_sides
  after_results
  pointwise [gateArg]

theorem V_v10 (c : Dev nD) (i : S4096x2816.Idx) : V m c main_v10 i
    = gateArg (m ((c.tc : Thread nD τ).loc main_arg0)) (m ((c.tc : Thread nD τ).loc main_arg2)) (i 0) (i 1) := by
  idx_vars i
  unfold_abbrev_sides
  after_results
  pointwise [gateArg]

theorem V_v1 (c : Dev nD) (i : S2816x1024.Idx) : V m c main_v1 i
    = m ((c.tc : Thread nD τ).loc main_arg1) (ix2 (i 1) (i 0)) := by
  idx_vars i
  unfold_abbrev_sides
  after_results
  pointwise []

theorem V_v3 (c : Dev nD) (i : S2816x1024.Idx) : V m c main_v3 i
    = m ((c.tc : Thread nD τ).loc main_arg2) (ix2 (i 1) (i 0)) := by
  idx_vars i
  unfold_abbrev_sides
  after_results
  pointwise []

theorem V_v4 (c : Dev nD) (i : S2816x1024.Idx) : V m c main_v4 i
    = m ((c.tc : Thread nD τ).loc main_arg3) (ix2 (i 0) (i 1)) := by
  idx_vars i
  unfold_abbrev_sides
  after_results
  pointwise []

/-- The gradient of the hidden layer. -/
def dHid (wd : Vec Ideal S2816x1024 .f32) (dp : Vec Ideal S4096x1024 .f32) (r : Fin 4096) (f : Fin 2816) : EReal :=
  ∑ n : Fin 1024, (Ideal.ofBits .f32 0x3F000000#32 * dp (ix2 r n)) * wd (ix2 f n)

/-- The logistic function as the kernel spells it. -/
def sgm (g : EReal) : EReal :=
  Ideal.div (Ideal.ofBits .f32 0x3F800000#32) (Ideal.ofBits .f32 0x3F800000#32 + Ideal.exp (Ideal.ofBits .f32 0x00000000#32 - g))

/-- The gradient of the first gate argument. -/
def dGate (x : Vec Ideal S4096x1024 .f32) (wg wu : Vec Ideal S1024x2816 .f32) (wd : Vec Ideal S2816x1024 .f32)
    (dp : Vec Ideal S4096x1024 .f32) (r : Fin 4096) (f : Fin 2816) : EReal :=
  dHid wd dp r f * gateArg x wu r f * (sgm (gateArg x wg r f)
    * (Ideal.ofBits .f32 0x3F800000#32 + gateArg x wg r f * (Ideal.ofBits .f32 0x3F800000#32 - sgm (gateArg x wg r f))))

/-- The gradient of the second gate argument. -/
def dUp (x : Vec Ideal S4096x1024 .f32) (wg : Vec Ideal S1024x2816 .f32) (wd : Vec Ideal S2816x1024 .f32)
    (dp : Vec Ideal S4096x1024 .f32) (r : Fin 4096) (f : Fin 2816) : EReal :=
  dHid wd dp r f * (gateArg x wg r f * sgm (gateArg x wg r f))

/-- Half the hidden layer. -/
def hid (x : Vec Ideal S4096x1024 .f32) (wg wu : Vec Ideal S1024x2816 .f32) (r : Fin 4096) (f : Fin 2816) : EReal :=
  Ideal.ofBits .f32 0x3F000000#32 * (gateArg x wg r f * sgm (gateArg x wg r f)) * gateArg x wu r f

/-- Where each window's block lies at a grid point. -/
theorem idx : ∀ t : Fin cfg0.N, win0_0.index t = ![t.val / 2, 0] ∧ win0_1.index t = ![t.val / 2, t.val % 2]
    ∧ win0_2.index t = ![t.val / 2, t.val % 2] ∧ win0_3.index t = ![t.val % 2, 0] ∧ win0_4.index t = ![t.val % 2, 0]
    ∧ win0_5.index t = ![t.val % 2, 0] ∧ win0_6.index t = ![t.val / 2, 0] ∧ win0_7.index t = ![t.val / 2, t.val % 2]
    ∧ win0_8.index t = ![t.val / 2, t.val % 2] ∧ win0_9.index t = ![t.val / 2, t.val % 2] :=
  (by decide +kernel : ∀ t : Fin grid0.N, win0_0.index t = ![t.val / 2, 0] ∧ win0_1.index t = ![t.val / 2, t.val % 2]
    ∧ win0_2.index t = ![t.val / 2, t.val % 2] ∧ win0_3.index t = ![t.val % 2, 0] ∧ win0_4.index t = ![t.val % 2, 0]
    ∧ win0_5.index t = ![t.val % 2, 0] ∧ win0_6.index t = ![t.val / 2, 0] ∧ win0_7.index t = ![t.val / 2, t.val % 2]
    ∧ win0_8.index t = ![t.val / 2, t.val % 2] ∧ win0_9.index t = ![t.val / 2, t.val % 2])

/-- A row of the array a row of a block is. -/
def row (t : Fin cfg0.N) (p : Fin 512) : Fin 4096 := ⟨t.val / 2 * 512 + p.val, by have := lt_of_lt_of_eq t.isLt N_0; omega⟩

/-- A column of the hidden layer a column of a block is. -/
def col (t : Fin cfg0.N) (q : Fin 1408) : Fin 2816 := ⟨t.val % 2 * 1408 + q.val, by omega⟩

theorem blk0 (c : Dev nD) (t : Fin cfg0.N) (p : Fin 512) (n : Fin 1024) :
    iblk m c 0 t (ix2 p n) = m ((c.tc : Thread nD τ).loc main_arg4) (ix2 (row t p) n) := by
  blk_point [iblk, V_main_arg4, row, idx t]

theorem blk1 (c : Dev nD) (t : Fin cfg0.N) (p : Fin 512) (q : Fin 1408) : iblk m c 1 t (ix2 p q)
    = gateArg (m ((c.tc : Thread nD τ).loc main_arg0)) (m ((c.tc : Thread nD τ).loc main_arg1)) (row t p) (col t q) := by
  refine Eq.trans ?_ (V_v7 m c (ix2 (row t p) (col t q)))
  blk_point [iblk, row, col, idx t]

theorem blk2 (c : Dev nD) (t : Fin cfg0.N) (p : Fin 512) (q : Fin 1408) : iblk m c 2 t (ix2 p q)
    = gateArg (m ((c.tc : Thread nD τ).loc main_arg0)) (m ((c.tc : Thread nD τ).loc main_arg2)) (row t p) (col t q) := by
  refine Eq.trans ?_ (V_v10 m c (ix2 (row t p) (col t q)))
  blk_point [iblk, row, col, idx t]

theorem blk3 (c : Dev nD) (t : Fin cfg0.N) (q : Fin 1408) (n : Fin 1024) :
    iblk m c 3 t (ix2 q n) = m ((c.tc : Thread nD τ).loc main_arg1) (ix2 n (col t q)) := by
  refine Eq.trans ?_ (V_v1 m c (ix2 (col t q) n))
  blk_point [iblk, col, idx t]

theorem blk4 (c : Dev nD) (t : Fin cfg0.N) (q : Fin 1408) (n : Fin 1024) :
    iblk m c 4 t (ix2 q n) = m ((c.tc : Thread nD τ).loc main_arg2) (ix2 n (col t q)) := by
  refine Eq.trans ?_ (V_v3 m c (ix2 (col t q) n))
  blk_point [iblk, col, idx t]

theorem blk5 (c : Dev nD) (t : Fin cfg0.N) (q : Fin 1408) (n : Fin 1024) :
    iblk m c 5 t (ix2 q n) = m ((c.tc : Thread nD τ).loc main_arg3) (ix2 (col t q) n) := by
  refine Eq.trans ?_ (V_v4 m c (ix2 (col t q) n))
  blk_point [iblk, col, idx t]

/-- What the body computes for the first gate argument's gradient from its blocks. -/
theorem pay11 (c : Dev nD) (t : Fin cfg0.N) (p : Fin 512) (q : Fin 1408) :
    k0_pay11 (iblk m c 0 t) (iblk m c 5 t) (iblk m c 1 t) (iblk m c 2 t) (ix2 p q)
      = dGate (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (row t p) (col t q) := by
  unfold_payloads
  pointwise [dGate, dHid, sgm]
  simp only [blk0, blk1, blk2, blk5]

/-- What it computes for the second gate argument's gradient. -/
theorem pay12 (c : Dev nD) (t : Fin cfg0.N) (p : Fin 512) (q : Fin 1408) :
    k0_pay12 (iblk m c 0 t) (iblk m c 5 t) (iblk m c 1 t) (ix2 p q)
      = dUp (m ((c.tc : Thread nD τ).loc main_arg0)) (m ((c.tc : Thread nD τ).loc main_arg1))
        (m ((c.tc : Thread nD τ).loc main_arg3)) (m ((c.tc : Thread nD τ).loc main_arg4)) (row t p) (col t q) := by
  unfold_payloads
  pointwise [dUp, dHid, sgm]
  simp only [blk0, blk1, blk2, blk5]

/-- What it computes for half the hidden layer. -/
theorem pay1 (c : Dev nD) (t : Fin cfg0.N) (p : Fin 512) (q : Fin 1408) :
    k0_pay1 (k0_pay8 (iblk m c 2 t)) (k0_pay13 (iblk m c 1 t)) (ix2 p q)
      = hid (m ((c.tc : Thread nD τ).loc main_arg0)) (m ((c.tc : Thread nD τ).loc main_arg1))
        (m ((c.tc : Thread nD τ).loc main_arg2)) (row t p) (col t q) := by
  unfold_payloads
  pointwise [hid, sgm]
  simp only [blk1, blk2]

/-- The first gate argument's gradient after the run. -/
theorem arr7 (c : Dev nD) : (dats m 0 c).arrAt 7 cfg0.N = (fun i => dGate (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (i 0) (i 1) : Vec Ideal S4096x2816 .bf16) := by
  refine (dats m 0 c).arrAt_eq_of_covers 7 _ (by decide +kernel) fun t hf y => ?_
  blk_simp
  rw [after0_7]
  idx_vars y
  by_cases h0 : t.val % 2 = 0
  · have h1 : ¬t.val % 2 = 1 := by omega
    rw [outsAt0_A m c t h0 h1 h1]
    frame_out
    refine (pay11 m c t y0 y1).trans ?_
    blk_point [row, col, idx t]
  · have h1 : t.val % 2 = 1 := by omega
    rw [outsAt0_B m c t h0 h1 h1]
    frame_out
    refine (pay11 m c t y0 y1).trans ?_
    blk_point [row, col, idx t]

/-- The second gate argument's gradient after the run. -/
theorem arr8 (c : Dev nD) : (dats m 0 c).arrAt 8 cfg0.N = (fun i => dUp (m ((c.tc : Thread nD τ).loc main_arg0))
    (m ((c.tc : Thread nD τ).loc main_arg1)) (m ((c.tc : Thread nD τ).loc main_arg3))
    (m ((c.tc : Thread nD τ).loc main_arg4)) (i 0) (i 1) : Vec Ideal S4096x2816 .bf16) := by
  refine (dats m 0 c).arrAt_eq_of_covers 8 _ (by decide +kernel) fun t hf y => ?_
  blk_simp
  rw [after0_8]
  idx_vars y
  by_cases h0 : t.val % 2 = 0
  · have h1 : ¬t.val % 2 = 1 := by omega
    rw [outsAt0_A m c t h0 h1 h1]
    frame_out
    refine (pay12 m c t y0 y1).trans ?_
    blk_point [row, col, idx t]
  · have h1 : t.val % 2 = 1 := by omega
    rw [outsAt0_B m c t h0 h1 h1]
    frame_out
    refine (pay12 m c t y0 y1).trans ?_
    blk_point [row, col, idx t]

/-- Half the hidden layer after the run. -/
theorem arr9 (c : Dev nD) : (dats m 0 c).arrAt 9 cfg0.N = (fun i => hid (m ((c.tc : Thread nD τ).loc main_arg0))
    (m ((c.tc : Thread nD τ).loc main_arg1))
    (m ((c.tc : Thread nD τ).loc main_arg2)) (i 0) (i 1) : Vec Ideal S4096x2816 .bf16) := by
  refine (dats m 0 c).arrAt_eq_of_covers 9 _ (by decide +kernel) fun t hf y => ?_
  blk_simp
  rw [after0_9]
  idx_vars y
  by_cases h0 : t.val % 2 = 0
  · have h1 : ¬t.val % 2 = 1 := by omega
    rw [outsAt0_A m c t h0 h1 h1]
    frame_out
    refine (pay1 m c t y0 y1).trans ?_
    blk_point [row, col, idx t]
  · have h1 : t.val % 2 = 1 := by omega
    rw [outsAt0_B m c t h0 h1 h1]
    frame_out
    refine (pay1 m c t y0 y1).trans ?_
    blk_point [row, col, idx t]

/-- One block of columns' share in the gradient of the input. -/
theorem pay2 (c : Dev nD) (t : Fin cfg0.N) (p : Fin 512) (n : Fin 1024) :
    k0_pay2 (k0_pay11 (iblk m c 0 t) (iblk m c 5 t) (iblk m c 1 t) (iblk m c 2 t))
      (k0_pay12 (iblk m c 0 t) (iblk m c 5 t) (iblk m c 1 t)) (iblk m c 3 t) (iblk m c 4 t) (ix2 p n)
      = (∑ q : Fin 1408, dGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t p) (col t q) * (m ((c.tc : Thread nD τ).loc main_arg1)) (ix2 n (col t q)))
        + ∑ q : Fin 1408, dUp (m ((c.tc : Thread nD τ).loc main_arg0)) (m ((c.tc : Thread nD τ).loc main_arg1)) (m ((c.tc : Thread nD τ).loc main_arg3)) (m ((c.tc : Thread nD τ).loc main_arg4)) (row t p) (col t q) * (m ((c.tc : Thread nD τ).loc main_arg2)) (ix2 n (col t q)) := by
  pointwise [k0_pay2]
  simp only [pay11, pay12, blk3, blk4]

/-- The gradient of the layer's input. -/
def dIn (x : Vec Ideal S4096x1024 .f32) (wg wu : Vec Ideal S1024x2816 .f32) (wd : Vec Ideal S2816x1024 .f32)
    (dp : Vec Ideal S4096x1024 .f32) : Vec Ideal S4096x1024 .f32 := fun i =>
  Ideal.ofBits .f32 0x3FB504F3#32 * dp i + ((∑ f : Fin 2816, dGate x wg wu wd dp (i 0) f * wg (ix2 (i 1) f))
    + ∑ f : Fin 2816, dUp x wg wd dp (i 0) f * wu (ix2 (i 1) f))

/-- A sum over the hidden layer, by the two blocks of columns. -/
theorem sum_halves (F : Fin 2816 → EReal) (s t : Fin cfg0.N) (hs : s.val % 2 = 0) (ht : t.val % 2 = 1) :
    ∑ f, F f = (∑ q, F (col s q)) + ∑ q, F (col t q) := by
  refine (Fin.sum_univ_add (a := 1408) (b := 1408) F).trans ?_
  congr 1 <;> refine Finset.sum_congr rfl fun q _ => congrArg F (Fin.ext ?_) <;> simp [col, hs, ht, add_comm]

/-- The gradient of the layer's input after the run. -/
theorem arr6 (c : Dev nD) : (dats m 0 c).arrAt 6 cfg0.N = dIn (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  idx_vars y
  have h1 : t.val % 2 = 1 := (flush0_6 t).mp hf
  have h0 : ¬t.val % 2 = 0 := by omega
  rw [outsAt0_B m c t h0 h1 h1]
  frame_out
  have hN := lt_of_lt_of_eq t.isLt N_0
  obtain ⟨s, hs⟩ : ∃ s : Fin cfg0.N, s.val = t.val - 1 := ⟨⟨t.val - 1, lt_of_le_of_lt (Nat.sub_le _ 1) t.isLt⟩, rfl⟩
  have e := outsAt0_A m c s (by omega) (by omega) (by omega)
  have e4 : (outsAt0 m c (t.val - 1) (lt_of_le_of_lt (Nat.sub_le _ 1) t.isLt)).2.2.2.2 = k0_pay3 (k0_pay11 (iblk m c 0 s) (iblk m c 5 s) (iblk m c 1 s) (iblk m c 2 s))
      (k0_pay12 (iblk m c 0 s) (iblk m c 5 s) (iblk m c 1 s)) (iblk m c 3 s) (iblk m c 4 s) := by
    have e' : outsAt0 m c (t.val - 1) (lt_of_le_of_lt (Nat.sub_le _ 1) t.isLt) = outsAt0 m c s.val s.isLt := by congr 1; exact hs.symm
    rw [e', e]
    frame_out
  rw [read_unread_whole, e4]
  pointwise [k0_pay5, k0_pay4, k0_pay3]
  rw [pay2 m c t, pay2 m c s, blk0]
  have er : row s y0 = row t y0 := Fin.ext (by simp only [row]; omega)
  rw [er]
  refine Eq.trans ?_ (show dIn (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (ix2 (row t y0) y1) = _ by blk_point [row, idx t])
  show _ = _ + (_ + _)
  rw [sum_halves _ s t (by omega) h1, sum_halves _ s t (by omega) h1, add_add_add_comm]
  rfl

end Cert.FfnKernelIdeal.Value

end
-- ==== Proof.FfnEquation.lean ====
/-
  The four results of the feed-forward layer's backward call are the reference's.
-/
module

public import proofs.«01_k».proof.Defs
public import proofs.«01_k».proof.Proof.FfnValue
public import Idealize.ShloMosaic.Lib.Quiescent
public import proofs.«01_k».proof.Proof.Gen.FfnKernel.Frame
public import proofs.«01_k».proof.Proof.Gen.FfnReferenceIdeal.Run
public import proofs.«01_k».proof.Proof.Gen.FfnReferenceIdeal.Read

@[expose] public section

set_option maxRecDepth 16384

noncomputable section

namespace Cert.Proof.Ffn

open Idealize.ShloMosaic Idealize.ShloMosaic.TcCoe Idealize.SL.Sem
open Cert.FfnKernelIdeal.Value (gateArg dHid sgm dGate dUp hid dIn)
open Cert.FfnReferenceIdeal.Read
open Cert.Reals

abbrev Xs := Vec Ideal ⟨2, ![4096, 1024]⟩ .f32
abbrev Ws := Vec Ideal ⟨2, ![1024, 2816]⟩ .f32
abbrev Ds := Vec Ideal ⟨2, ![2816, 1024]⟩ .f32

/-- The kernel's spelling of the logistic function. -/
theorem sgm_eq (g : EReal) : sgm g = Ideal.div 1 (1 + Ideal.exp (-g)) := by
  rw [sgm, one, Ideal.ofBits_zero_f32, zero_sub]

/-- The gate's derivative, distributed: at an infinite gate argument the logistic function is 0 or 1 and both sides agree. -/
theorem gate_distrib {d : EReal} (hd : IsReal d) (g : EReal) :
    d * (sgm g * (1 + g * (1 - sgm g))) = d * sgm g + sgm g * (1 - sgm g) * d * g := by
  obtain ⟨d, rfl⟩ := hd
  rw [sgm_eq]
  induction g with
  | bot =>
    have e : Ideal.div 1 (1 + Ideal.exp (-⊥)) = 0 := by
      rw [EReal.neg_bot, exp_top, EReal.add_top_of_ne_bot (by decide)]; simp [Ideal.div]
    rw [e]; simp
  | top =>
    have e : Ideal.div 1 (1 + Ideal.exp (-⊤)) = 1 := by
      rw [EReal.neg_top, exp_bot, add_zero]; simp [Ideal.div]
    rw [e, one_sub_one]; simp
  | coe g =>
    have e : Ideal.div 1 (1 + Ideal.exp (-(g : EReal))) = ((1 / (1 + Real.exp (-g)) : ℝ) : EReal) := by
      have hne : (1 + Real.exp (-g)) ≠ 0 := by positivity
      have : (1 : EReal) + Ideal.exp (-(g : EReal)) = ((1 + Real.exp (-g) : ℝ) : EReal) := by
        rw [← EReal.coe_neg, exp_coe]; rfl
      rw [this, Ideal.div_coe hne, one_mul]
    rw [e]
    norm_cast
    ring

/-- The gradient of the hidden layer with the half outside the sum. -/
theorem dHid_eq (wd : Ds) (dp : Xs) (r : Fin 4096) (f : Fin 2816) :
    dHid wd dp r f = Ideal.ofBits .f32 0x3F000000#32 * ∑ n : Fin 1024, dp (ix2 r n) * wd (ix2 f n) := by
  rw [dHid, half, mul_sum _ _ (by norm_num)]
  simp only [mul_assoc]

theorem dHid_real {wd : Ds} {dp : Xs} (hw : ∀ i, IsReal (wd i)) (hd : ∀ i, IsReal (dp i)) (r : Fin 4096) (f : Fin 2816) :
    IsReal (dHid wd dp r f) :=
  isReal_sum _ _ fun n => (((half ▸ isReal_coe _ : IsReal (Ideal.ofBits .f32 0x3F000000#32)).mul (hd _)).mul (hw _))

theorem gateArg_real {x : Xs} {w : Ws} (hx : ∀ i, IsReal (x i)) (hw : ∀ i, IsReal (w i)) (r : Fin 4096) (f : Fin 2816) :
    IsReal (gateArg x w r f) := isReal_sum _ _ fun k => (hx _).mul (hw _)

theorem up_eq (x : Xs) (wg : Ws) (wd : Ds) (dp : Xs) :
    val_main_v38 (F := Ideal) x wg wd dp = fun i => dUp x wg wd dp (i 0) (i 1) := by
  funext i
  idx_vars i
  rw [← val_main_v38_eq]
  pointwise [dUp]
  rw [dHid_eq, sgm_eq]
  pointwise [gateArg]
  ac_rfl

theorem gate_eq (x : Xs) (wg wu : Ws) (wd : Ds) (dp : Xs) (hx : ∀ i, IsReal (x i)) (hu : ∀ i, IsReal (wu i))
    (hw : ∀ i, IsReal (wd i)) (hd : ∀ i, IsReal (dp i)) :
    val_main_v37 (F := Ideal) x wg wu wd dp = fun i => dGate x wg wu wd dp (i 0) (i 1) := by
  funext i
  idx_vars i
  rw [← val_main_v37_eq]
  show _ = dGate x wg wu wd dp i0 i1
  rw [dGate, one, gate_distrib ((dHid_real hw hd _ _).mul (gateArg_real hx hu _ _)), dHid_eq, sgm_eq]
  pointwise [gateArg]
  ac_rfl

theorem hid_eq (x : Xs) (wg wu : Ws) :
    val_main_v43 (F := Ideal) x wg wu = fun i => hid x wg wu (i 0) (i 1) := by
  funext i
  idx_vars i
  rw [← val_main_v43_eq]
  show _ = hid x wg wu i0 i1
  rw [hid, sgm_eq]
  pointwise [gateArg]
  ac_rfl

theorem in_eq (x : Xs) (wg wu : Ws) (wd : Ds) (dp : Xs) (hx : ∀ i, IsReal (x i)) (hu : ∀ i, IsReal (wu i))
    (hw : ∀ i, IsReal (wd i)) (hd : ∀ i, IsReal (dp i)) :
    val_main_v23 (F := Ideal) x wg wu wd dp = dIn x wg wu wd dp := by
  funext i
  idx_vars i
  rw [← val_main_v23_eq]
  show _ = _ + (_ + _)
  pointwise []
  rw [add_comm, add_comm (∑ f : Fin 2816, dGate x wg wu wd dp i0 f * _)]
  refine congrArg₂ _ rfl (congrArg₂ _ (Finset.sum_congr rfl fun f _ => ?_) (Finset.sum_congr rfl fun f _ => ?_))
  · rw [dUp, sgm_eq]
    show gateArg x wg i0 f * Ideal.div 1 (1 + Ideal.exp (-gateArg x wg i0 f)) * dHid wd dp i0 f * _ = _
    ac_rfl
  · rw [dGate, one, gate_distrib ((dHid_real hw hd _ _).mul (gateArg_real hx hu _ _)), sgm_eq]
    show (dHid wd dp i0 f * gateArg x wu i0 f * Ideal.div 1 (1 + Ideal.exp (-gateArg x wg i0 f))
      + gateArg x wg i0 f * (dHid wd dp i0 f * gateArg x wu i0 f) * (Ideal.div 1 (1 + Ideal.exp (-gateArg x wg i0 f))
        * (1 - Ideal.div 1 (1 + Ideal.exp (-gateArg x wg i0 f))))) * _ = _
    ac_rfl

/-- The reference runs, keeps its arguments, and has no semaphore to leave raised. -/
theorem frame_reference : Cert.quiescent_FfnReferenceIdeal
    (hFfnReferenceIdeal := Cert.FfnReferenceIdeal.Gen.facts) := fun m ρ _ =>
  (θ_run Cert.FfnReferenceIdeal.defs _ _).mono (fun r h => ⟨fun c => (h c).2.2.2.2, sem_eq_zero_of_no_sems (by decide) r.2⟩)
    (Cert.FfnReferenceIdeal.Value.run m ρ)

/-- The side conditions of the precondition's operations. -/
instance pre_facts : Cert.Pre_ffn_finite.Facts := by
  constructor <;> decide

/-- What the precondition says of the arguments. -/
theorem finite_args (x : Xs) (wg wu : Ws) (wd : Ds) (dp : Xs)
    (h : Cert.Pre_ffn_finite.fn (F := Ideal) x wg wu wd dp = fun _ => 1#1) :
    (∀ i, IsReal (x i)) ∧ (∀ i, IsReal (wu i)) ∧ (∀ i, IsReal (wd i)) ∧ ∀ i, IsReal (dp i) := by
  have h0 := congrFun h ix0
  obtain ⟨h1, hd⟩ := andi_one h0
  obtain ⟨h2, hw⟩ := andi_one h1
  obtain ⟨hx, hu⟩ := andi_one h2
  exact ⟨all_real _ _ _ _ _ _ hx, all_real _ _ _ _ _ _ hu, all_real _ _ _ _ _ _ hw, all_real _ _ _ _ _ _ hd⟩

/-- The value claim of the feed-forward layer's backward call. -/
theorem algebraic : Cert.algebraic_FfnKernelIdeal_FfnReferenceIdeal_pre_ffn_finite
    (hFfnKernelIdeal := Cert.FfnKernelIdeal.Gen.facts) (hFfnReferenceIdeal := Cert.FfnReferenceIdeal.Gen.facts)
    (hPre_ffn_finite := pre_facts) := by
  intro m g m' g' hpre hag
  refine ⟨fun c => dIn (m ((c.tc : Thread _ _).loc Cert.FfnKernelIdeal.main_arg0)) (m ((c.tc : Thread _ _).loc Cert.FfnKernelIdeal.main_arg1)) (m ((c.tc : Thread _ _).loc Cert.FfnKernelIdeal.main_arg2))
      (m ((c.tc : Thread _ _).loc Cert.FfnKernelIdeal.main_arg3)) (m ((c.tc : Thread _ _).loc Cert.FfnKernelIdeal.main_arg4)), fun c => fun i => dGate (m ((c.tc : Thread _ _).loc Cert.FfnKernelIdeal.main_arg0)) (m ((c.tc : Thread _ _).loc Cert.FfnKernelIdeal.main_arg1))
      (m ((c.tc : Thread _ _).loc Cert.FfnKernelIdeal.main_arg2)) (m ((c.tc : Thread _ _).loc Cert.FfnKernelIdeal.main_arg3)) (m ((c.tc : Thread _ _).loc Cert.FfnKernelIdeal.main_arg4)) (i 0) (i 1),
    fun c => fun i => dUp (m ((c.tc : Thread _ _).loc Cert.FfnKernelIdeal.main_arg0)) (m ((c.tc : Thread _ _).loc Cert.FfnKernelIdeal.main_arg1))
      (m ((c.tc : Thread _ _).loc Cert.FfnKernelIdeal.main_arg3)) (m ((c.tc : Thread _ _).loc Cert.FfnKernelIdeal.main_arg4)) (i 0) (i 1),
    fun c => fun i => hid (m ((c.tc : Thread _ _).loc Cert.FfnKernelIdeal.main_arg0)) (m ((c.tc : Thread _ _).loc Cert.FfnKernelIdeal.main_arg1))
      (m ((c.tc : Thread _ _).loc Cert.FfnKernelIdeal.main_arg2)) (i 0) (i 1), ?_, ?_⟩
  · refine (θ_run _ _ _).mono (fun r h c => ?_) (Cert.FfnKernelIdeal.Value.run_blocks m g)
    obtain ⟨h0, h1, h2, h3, hk⟩ := h c
    exact ⟨h0.trans (Cert.FfnKernelIdeal.Value.arr6 m c), h1.trans (Cert.FfnKernelIdeal.Value.arr7 m c),
      h2.trans (Cert.FfnKernelIdeal.Value.arr8 m c), h3.trans (Cert.FfnKernelIdeal.Value.arr9 m c), hk⟩
  · refine (θ_run _ _ _).mono (fun r h c => ?_) (Cert.FfnReferenceIdeal.Value.run m' g')
    obtain ⟨h0, h1, h2, h3, hk⟩ := h c
    obtain ⟨e0, e1, e2, e3, e4⟩ := hag c
    obtain ⟨hx, hu, hw, hd⟩ := finite_args _ _ _ _ _ (hpre c)
    rw [← e0] at hx
    rw [← e2] at hu
    rw [← e3] at hw
    rw [← e4] at hd
    refine ⟨?_, ?_, ?_, ?_, hk⟩
    · exact h0.trans ((val_main_v23_eq _ _ _ _ _).trans ((in_eq _ _ _ _ _ hx hu hw hd).trans (by rw [e0, e1, e2, e3, e4])))
    · exact h1.trans ((val_main_v37_eq _ _ _ _ _).trans ((gate_eq _ _ _ _ _ hx hu hw hd).trans (by rw [e0, e1, e2, e3, e4]; rfl)))
    · exact h2.trans ((val_main_v38_eq _ _ _ _).trans ((up_eq _ _ _ _).trans (by rw [e0, e1, e3, e4]; rfl)))
    · exact h3.trans ((val_main_v43_eq _ _ _).trans ((hid_eq _ _ _).trans (by rw [e0, e1, e2]; rfl)))

end Cert.Proof.Ffn

end
-- ==== Proof.PrepSteps.lean ====
/-
  The payloads of the recurrence's preparation's backward call are the steps of its reference: at the extended reals each
  vector the body forms is a vector of the reference, the matrices in their other layout.
-/
module

public import proofs.«01_k».proof.Proof.Gen.PrepKernelIdeal.Frame
public import proofs.«01_k».proof.Proof.Gen.PrepReferenceIdeal.Read
public import Idealize.ShloMosaic.Lib.Pipeline.ValueKit

@[expose] public section

set_option maxRecDepth 16384

noncomputable section

namespace Cert.Proof.Prep

open Idealize.ShloMosaic Idealize.ShloMosaic.TcCoe
open Cert.PrepKernelIdeal.Gen
open Cert.PrepReferenceIdeal.Read

abbrev Mat := Vec Ideal ⟨2, ![16, 64]⟩ .f32
abbrev Col := Vec Ideal ⟨2, ![16, 1]⟩ .f32
abbrev Steps := Vec Ideal ⟨1, ![16]⟩ .f32
abbrev Cube := Vec Ideal ⟨3, ![16, 64, 16]⟩ .f32
abbrev Turned := Vec Ideal ⟨3, ![16, 16, 64]⟩ .f32

/-- The step sizes as a column. -/
def col (x : Steps) : Col := fun i => x (ix1 (i 0))

/-- A matrix per head, its two axes exchanged. -/
def turn (x : Cube) : Turned := fun i => x (ix3 (i 0) (i 2) (i 1))

/-- A number taken from zero. -/
theorem from_zero (y : Mat) : subf (F := Ideal) (broadcast Cert.PrepKernelIdeal.S16x64 (Scalar.ofBits (F := Ideal) .f32 0x00000000#32)) y
    = Host.negf (F := Ideal) y := by
  funext i
  show Ideal.ofBits .f32 0x00000000#32 - y i = -(y i)
  rw [Ideal.ofBits_zero_f32, zero_sub]

/-- A column spread over the states. -/
theorem spread (y : Col) (h) (h') : broadcastTo Cert.PrepKernelIdeal.S16x64 y h
    = broadcastInDim Cert.PrepReferenceIdeal.S16x64 ![0, 1] h' y := by
  funext i
  idx_vars i
  pointwise []

/-- The sums over the states, as a column. -/
theorem sums (y : Mat) :
    shapeCast Cert.PrepKernelIdeal.S16x1 (multiReduction (F := Ideal) .add [1] Cert.PrepKernelIdeal.S16 y 0x00000000#32 Cert.PrepKernelIdeal.Gen.reduces_S16x64_S16 (.inl rfl) rfl) Cert.PrepKernelIdeal.Gen.shapeCasts_S16_S16x1
    = shapeCast Cert.PrepReferenceIdeal.S16x1 (Host.reduceAdd (F := Ideal) y (constant Cert.PrepReferenceIdeal.S_ .f32 0x00000000#32) Cert.PrepReferenceIdeal.Gen.reducesTo_S16x64_S16_d1 Cert.PrepReferenceIdeal.Gen.h_S_) Cert.PrepReferenceIdeal.Gen.shapeCasts_S16_S16x1 := by
  funext i
  idx_vars i
  pointwise []

variable (x0 x1 : Mat) (x2 : Steps) (x3 x4 : Cube) (x5 x6 : Mat) (x7 x8 : Cube)

theorem p7 : k0_pay7 (F := Ideal) (col x2) = (val_main_v1 (F := Ideal) x2) := by
  funext i
  idx_vars i
  unfold k0_pay7 val_main_v1 val_main_v0 col
  pointwise []

theorem p8 : k0_pay8 (F := Ideal) x0 (col x2) = (val_main_v4 (F := Ideal) x0 x2) := by
  unfold k0_pay8 val_main_v4 val_main_v3 val_main_v2
  simp only [p7 x2, spread _ _ Cert.PrepReferenceIdeal.Gen.bcast_S16x1_S16x64_0_1]
  rfl

theorem p9 : k0_pay9 (F := Ideal) x1 (col x2) = (val_main_v6 (F := Ideal) x1 x2) := by
  unfold k0_pay9 val_main_v6 val_main_v5
  simp only [p7 x2, spread _ _ Cert.PrepReferenceIdeal.Gen.bcast_S16x1_S16x64_0_1]

theorem p10 : k0_pay10 (F := Ideal) x1 (col x2) = (val_main_v7 (F := Ideal) x1 x2) := by
  unfold k0_pay10 val_main_v7
  simp only [p9 x1 x2]
  rfl

theorem p11 : k0_pay11 (F := Ideal) x1 (col x2) = (val_main_v8 (F := Ideal) x1 x2) := by
  unfold k0_pay11 val_main_v8
  simp only [p9 x1 x2]
  rfl

theorem p12 : k0_pay12 (F := Ideal) x0 x1 (col x2) = (val_main_v9 (F := Ideal) x0 x1 x2) := by
  unfold k0_pay12 val_main_v9
  simp only [p8 x0 x2, p10 x1 x2]

theorem p13 : k0_pay13 (F := Ideal) x1 (col x2) = (val_main_v11 (F := Ideal) x1 x2) := by
  unfold k0_pay13 val_main_v11 val_main_v10
  simp only [p7 x2, spread _ _ Cert.PrepReferenceIdeal.Gen.bcast_S16x1_S16x64_0_1]

theorem p14 : k0_pay14 (F := Ideal) x1 (col x2) = (val_main_v12 (F := Ideal) x1 x2) := by
  unfold k0_pay14 val_main_v12
  simp only [p13 x1 x2]
  rfl

theorem p15 : k0_pay15 (F := Ideal) x1 (col x2) = (val_main_v13 (F := Ideal) x1 x2) := by
  unfold k0_pay15 val_main_v13
  simp only [p13 x1 x2]
  rfl

theorem p16 : k0_pay16 (F := Ideal) x0 x1 (col x2) = (val_main_v14 (F := Ideal) x0 x1 x2) := by
  unfold k0_pay16 val_main_v14
  simp only [p8 x0 x2, p14 x1 x2]

theorem p17 : k0_pay17 (F := Ideal) x0 x1 = (val_main_v17 (F := Ideal) x0 x1) := by
  unfold k0_pay17 val_main_v17 val_main_v16 val_main_v15
  rfl

theorem p18 : k0_pay18 (F := Ideal) x0 x1 (col x2) = (val_main_v19 (F := Ideal) x0 x1 x2) := by
  unfold k0_pay18 val_main_v19 val_main_v18 val_main_cst
  simp only [p12 x0 x1 x2]
  rfl

theorem p19 : k0_pay19 (F := Ideal) x0 x1 (col x2) = (val_main_v22 (F := Ideal) x0 x1 x2) := by
  unfold k0_pay19 val_main_v22 val_main_v21 val_main_v20
  simp only [p18 x0 x1 x2, p16 x0 x1 x2]

theorem p20 : k0_pay20 (F := Ideal) x0 x1 (col x2) = (val_main_v23 (F := Ideal) x0 x1 x2) := by
  unfold k0_pay20 val_main_v23
  simp only [p19 x0 x1 x2, p17 x0 x1]
  rfl

theorem p21 : k0_pay21 (F := Ideal) (val_main_v17 (F := Ideal) x0 x1) = (val_main_v26 (F := Ideal) x0 x1) := by
  unfold k0_pay21 val_main_v26 val_main_v25 val_main_v24 val_main_cst_0
  rfl

theorem p22 : k0_pay22 (F := Ideal) (val_main_v9 (F := Ideal) x0 x1 x2) = (val_main_v29 (F := Ideal) x0 x1 x2) := by
  unfold k0_pay22 val_main_v29 val_main_v28 val_main_cst_1
  rfl

theorem p23 : k0_pay23 (F := Ideal) x0 x1 (val_main_v9 (F := Ideal) x0 x1 x2) (val_main_v14 (F := Ideal) x0 x1 x2) = (val_main_v31 (F := Ideal) x0 x1 x2) := by
  unfold k0_pay23 val_main_v31 val_main_v30 val_main_v27
  simp only [p22 x0 x1 x2]

theorem p27 : k0_pay27 (F := Ideal) x0 x1 (turn x7) (turn x8) (val_main_v9 (F := Ideal) x0 x1 x2) (val_main_v14 (F := Ideal) x0 x1 x2) (val_main_v17 (F := Ideal) x0 x1) (val_main_v23 (F := Ideal) x0 x1 x2) = (val_main_v143 (F := Ideal) x0 x1 x2 x7 x8) := by
  have e : divf (F := Ideal) (k0_pay23 (F := Ideal) x0 x1 (val_main_v9 (F := Ideal) x0 x1 x2) (val_main_v14 (F := Ideal) x0 x1 x2)) (val_main_v17 (F := Ideal) x0 x1)
      = val_main_v32 (F := Ideal) x0 x1 x2 := by
    rw [p23 x0 x1 x2]
    rfl
  funext i
  idx_vars i
  unfold k0_pay27 k0_pay24 k0_pay25 k0_pay26 val_main_v143 val_main_v64 val_main_v56 val_main_v55 val_main_v36 val_main_v48 val_main_v63 val_main_v62 val_main_v37 val_main_v61 turn
  rw [e]
  generalize val_main_v32 (F := Ideal) x0 x1 x2 = u
  generalize val_main_v23 (F := Ideal) x0 x1 x2 = w
  pointwise [zero_sub]

theorem p28 : k0_pay28 (F := Ideal) x0 x1 (turn x7) (turn x8) (val_main_v9 (F := Ideal) x0 x1 x2) (val_main_v14 (F := Ideal) x0 x1 x2) (val_main_v17 (F := Ideal) x0 x1) (val_main_v23 (F := Ideal) x0 x1 x2) = (val_main_v142 (F := Ideal) x0 x1 x2 x7 x8) := by
  have e : divf (F := Ideal) (k0_pay23 (F := Ideal) x0 x1 (val_main_v9 (F := Ideal) x0 x1 x2) (val_main_v14 (F := Ideal) x0 x1 x2)) (val_main_v17 (F := Ideal) x0 x1)
      = val_main_v32 (F := Ideal) x0 x1 x2 := by
    rw [p23 x0 x1 x2]
    rfl
  funext i
  idx_vars i
  unfold k0_pay28 k0_pay24 k0_pay25 val_main_v142 val_main_v71 val_main_v51 val_main_v50 val_main_v37 val_main_v49 val_main_v70 val_main_v69 val_main_v36 val_main_v60 turn
  rw [e]
  generalize val_main_v32 (F := Ideal) x0 x1 x2 = u
  generalize val_main_v23 (F := Ideal) x0 x1 x2 = w
  pointwise []

theorem p29 : k0_pay29 (F := Ideal) (turn x3) (turn x4) (turn x7) (turn x8) = (val_main_v76 (F := Ideal) x3 x4 x7 x8) := by
  funext i
  idx_vars i
  unfold k0_pay29 k0_pay26 val_main_v76 val_main_v68 val_main_v67 val_main_v66 val_main_v65 val_main_v61 val_main_v54 val_main_v53 val_main_v52 val_main_v49 val_main_cst_7 val_main_cst_5 val_main_cst_3 turn
  pointwise [zero_sub]

theorem p30 : k0_pay30 (F := Ideal) (turn x3) (turn x4) (turn x7) (turn x8) = (val_main_v77 (F := Ideal) x3 x4 x7 x8) := by
  funext i
  idx_vars i
  unfold k0_pay30 val_main_v77 val_main_v75 val_main_v74 val_main_v73 val_main_v72 val_main_v60 val_main_v59 val_main_v58 val_main_v57 val_main_v48 val_main_cst_8 val_main_cst_6 val_main_cst_4 turn
  pointwise []

theorem p31 : k0_pay31 (F := Ideal) x0 x1 (turn x3) (turn x4) (turn x7) (turn x8) (val_main_v9 (F := Ideal) x0 x1 x2) (val_main_v14 (F := Ideal) x0 x1 x2) (val_main_v17 (F := Ideal) x0 x1) = (val_main_v80 (F := Ideal) x0 x1 x2 x3 x4 x7 x8) := by
  unfold k0_pay31 val_main_v80 val_main_v79 val_main_v78 val_main_v35 val_main_v34 val_main_v33 val_main_cst_2
  simp only [p29 x3 x4 x7 x8, p23 x0 x1 x2, from_zero]
  rfl

theorem p32 : k0_pay32 (F := Ideal) (turn x3) (turn x4) (turn x7) (turn x8) (val_main_v17 (F := Ideal) x0 x1) = (val_main_v81 (F := Ideal) x0 x1 x3 x4 x7 x8) := by
  unfold k0_pay32 val_main_v81
  simp only [p29 x3 x4 x7 x8]
  rfl

theorem p34 : k0_pay34 (F := Ideal) (val_main_v81 (F := Ideal) x0 x1 x3 x4 x7 x8) (k0_pay33 (F := Ideal)) = (val_main_v82 (F := Ideal) x0 x1 x3 x4 x7 x8) := by
  unfold k0_pay34 k0_pay33 val_main_v82
  simp only [from_zero]

theorem p35 : k0_pay35 (F := Ideal) (val_main_v22 (F := Ideal) x0 x1 x2) (val_main_v26 (F := Ideal) x0 x1) (val_main_v77 (F := Ideal) x3 x4 x7 x8) (val_main_v80 (F := Ideal) x0 x1 x2 x3 x4 x7 x8) = (val_main_v92 (F := Ideal) x0 x1 x2 x3 x4 x7 x8) := by
  unfold k0_pay35 val_main_v92 val_main_v91 val_main_v90 val_main_v89
  simp only [from_zero]

theorem p36 : k0_pay36 (F := Ideal) (val_main_v17 (F := Ideal) x0 x1) (val_main_v77 (F := Ideal) x3 x4 x7 x8) = (val_main_v93 (F := Ideal) x0 x1 x3 x4 x7 x8) := by
  unfold k0_pay36 val_main_v93
  rfl

theorem p37 : k0_pay37 (F := Ideal) x0 x1 x6 (val_main_v17 (F := Ideal) x0 x1) (val_main_v77 (F := Ideal) x3 x4 x7 x8) (val_main_v81 (F := Ideal) x0 x1 x3 x4 x7 x8) = (val_main_v97 (F := Ideal) x0 x1 x3 x4 x6 x7 x8) := by
  unfold k0_pay37 val_main_v97 val_main_v96 val_main_v88 val_main_v87
  simp only [p36 x0 x1 x3 x4 x7 x8]

theorem p38 : k0_pay38 (F := Ideal) x0 x1 x5 (val_main_v17 (F := Ideal) x0 x1) (val_main_v77 (F := Ideal) x3 x4 x7 x8) (val_main_v81 (F := Ideal) x0 x1 x3 x4 x7 x8) (k0_pay33 (F := Ideal)) = (val_main_v101 (F := Ideal) x0 x1 x3 x4 x5 x7 x8) := by
  unfold k0_pay38 val_main_v101 val_main_v100 val_main_v85 val_main_v84
  simp only [p36 x0 x1 x3 x4 x7 x8, p34 x0 x1 x3 x4 x7 x8]

theorem p39 : k0_pay39 (F := Ideal) x0 (val_main_v14 (F := Ideal) x0 x1 x2) (val_main_v17 (F := Ideal) x0 x1) (val_main_v19 (F := Ideal) x0 x1 x2) (val_main_v22 (F := Ideal) x0 x1 x2) (val_main_v26 (F := Ideal) x0 x1) (val_main_v77 (F := Ideal) x3 x4 x7 x8) (val_main_v80 (F := Ideal) x0 x1 x2 x3 x4 x7 x8) (val_main_v81 (F := Ideal) x0 x1 x3 x4 x7 x8) = (val_main_v109 (F := Ideal) x0 x1 x2 x3 x4 x7 x8) := by
  unfold k0_pay39 val_main_v109 val_main_v108 val_main_v107 val_main_v106 val_main_v99 val_main_v98 val_main_v86
  simp only [p35 x0 x1 x2 x3 x4 x7 x8, p36 x0 x1 x3 x4 x7 x8]

theorem p40 : k0_pay40 (F := Ideal) x0 x1 x6 (val_main_v4 (F := Ideal) x0 x2) (val_main_v13 (F := Ideal) x1 x2) (val_main_v17 (F := Ideal) x0 x1) (val_main_v77 (F := Ideal) x3 x4 x7 x8) (val_main_v81 (F := Ideal) x0 x1 x3 x4 x7 x8) = (val_main_v112 (F := Ideal) x0 x1 x2 x3 x4 x6 x7 x8) := by
  unfold k0_pay40 val_main_v112 val_main_v110
  simp only [p37 x0 x1 x3 x4 x6 x7 x8]

theorem p41 : k0_pay41 (F := Ideal) x0 x1 x5 (val_main_v4 (F := Ideal) x0 x2) (val_main_v8 (F := Ideal) x1 x2) (val_main_v17 (F := Ideal) x0 x1) (val_main_v77 (F := Ideal) x3 x4 x7 x8) (val_main_v81 (F := Ideal) x0 x1 x3 x4 x7 x8) (k0_pay33 (F := Ideal)) = (val_main_v123 (F := Ideal) x0 x1 x2 x3 x4 x5 x7 x8) := by
  unfold k0_pay41 val_main_v123 val_main_v122 val_main_v119
  simp only [p38 x0 x1 x3 x4 x5 x7 x8, from_zero]

theorem p42 : k0_pay42 (F := Ideal) x0 x1 x5 x6 (val_main_v4 (F := Ideal) x0 x2) (val_main_v8 (F := Ideal) x1 x2) (val_main_v13 (F := Ideal) x1 x2) (val_main_v17 (F := Ideal) x0 x1) (val_main_v77 (F := Ideal) x3 x4 x7 x8) (val_main_v81 (F := Ideal) x0 x1 x3 x4 x7 x8) (k0_pay33 (F := Ideal)) = (val_main_v127 (F := Ideal) x0 x1 x2 x3 x4 x5 x6 x7 x8) := by
  unfold k0_pay42 val_main_v127 val_main_v126 val_main_v125 val_main_v124 val_main_v115 val_main_v114 val_main_v113 val_main_cst_9 val_main_cst_10
  simp only [p40 x0 x1 x2 x3 x4 x6 x7 x8, p41 x0 x1 x2 x3 x4 x5 x7 x8]
  exact congrArg₂ addf (sums _) (sums _)

theorem p43 : k0_pay43 (F := Ideal) x0 x1 x5 x6 (val_main_v1 (F := Ideal) x2) (val_main_v4 (F := Ideal) x0 x2) (val_main_v8 (F := Ideal) x1 x2) (val_main_v13 (F := Ideal) x1 x2) (val_main_v14 (F := Ideal) x0 x1 x2) (val_main_v17 (F := Ideal) x0 x1) (val_main_v22 (F := Ideal) x0 x1 x2) (val_main_v26 (F := Ideal) x0 x1) (val_main_v29 (F := Ideal) x0 x1 x2) (val_main_v77 (F := Ideal) x3 x4 x7 x8) (val_main_v80 (F := Ideal) x0 x1 x2 x3 x4 x7 x8) (val_main_v81 (F := Ideal) x0 x1 x3 x4 x7 x8) (k0_pay33 (F := Ideal)) = (val_main_v130 (F := Ideal) x0 x1 x2 x3 x4 x5 x6 x7 x8) := by
  unfold k0_pay43 val_main_v130 val_main_v129 val_main_v128 val_main_v118 val_main_v117 val_main_v116 val_main_v105 val_main_v104 val_main_v103 val_main_v102 val_main_v95 val_main_v94 val_main_v83
  simp only [p34 x0 x1 x3 x4 x7 x8, p35 x0 x1 x2 x3 x4 x7 x8, p36 x0 x1 x3 x4 x7 x8, p40 x0 x1 x2 x3 x4 x6 x7 x8, p41 x0 x1 x2 x3 x4 x5 x7 x8, spread _ _ Cert.PrepReferenceIdeal.Gen.bcast_S16x1_S16x64_0_1]

theorem p44 : k0_pay44 (F := Ideal) x0 x1 x5 x6 (val_main_v4 (F := Ideal) x0 x2) (val_main_v7 (F := Ideal) x1 x2) (val_main_v12 (F := Ideal) x1 x2) (val_main_v17 (F := Ideal) x0 x1) (val_main_v77 (F := Ideal) x3 x4 x7 x8) (val_main_v81 (F := Ideal) x0 x1 x3 x4 x7 x8) (k0_pay33 (F := Ideal)) = (val_main_v131 (F := Ideal) x0 x1 x2 x3 x4 x5 x6 x7 x8) := by
  unfold k0_pay44 val_main_v131 val_main_v121 val_main_v120 val_main_v111
  simp only [p37 x0 x1 x3 x4 x6 x7 x8, p38 x0 x1 x3 x4 x5 x7 x8]

theorem p45 : k0_pay45 (F := Ideal) x0 x1 x5 x6 (val_main_v4 (F := Ideal) x0 x2) (val_main_v7 (F := Ideal) x1 x2) (val_main_v12 (F := Ideal) x1 x2) (val_main_v17 (F := Ideal) x0 x1) (val_main_v77 (F := Ideal) x3 x4 x7 x8) (val_main_v81 (F := Ideal) x0 x1 x3 x4 x7 x8) (k0_pay33 (F := Ideal)) = (val_main_v134 (F := Ideal) x0 x1 x2 x3 x4 x5 x6 x7 x8) := by
  unfold k0_pay45 val_main_v134 val_main_v133 val_main_v132 val_main_cst_11
  simp only [p44 x0 x1 x2 x3 x4 x5 x6 x7 x8]
  exact sums _

theorem p1 : k0_pay1 (F := Ideal) (val_main_v1 (F := Ideal) x2) (val_main_v109 (F := Ideal) x0 x1 x2 x3 x4 x7 x8) (val_main_v131 (F := Ideal) x0 x1 x2 x3 x4 x5 x6 x7 x8) = (val_main_v138 (F := Ideal) x0 x1 x2 x3 x4 x5 x6 x7 x8) := by
  unfold k0_pay1 val_main_v138 val_main_v137 val_main_v136
  simp only [spread _ _ Cert.PrepReferenceIdeal.Gen.bcast_S16x1_S16x64_0_1]

theorem p2 : k0_pay2 (F := Ideal) (val_main_v1 (F := Ideal) x2) (val_main_v127 (F := Ideal) x0 x1 x2 x3 x4 x5 x6 x7 x8) (val_main_v134 (F := Ideal) x0 x1 x2 x3 x4 x5 x6 x7 x8) = (val_main_v141 (F := Ideal) x0 x1 x2 x3 x4 x5 x6 x7 x8) := by
  funext i
  idx_vars i
  unfold k0_pay2 val_main_v141 val_main_v140 val_main_v139 val_main_v135 val_main_cst_12 val_main_v1
  generalize val_main_v127 (F := Ideal) x0 x1 x2 x3 x4 x5 x6 x7 x8 = u
  generalize val_main_v134 (F := Ideal) x0 x1 x2 x3 x4 x5 x6 x7 x8 = w
  generalize val_main_v0 (F := Ideal) x2 = z
  pointwise []
  rw [Subsingleton.elim i1 0, Fin.sum_univ_one]

end Cert.Proof.Prep

end
-- ==== Proof.PrepValue.lean ====
/-
  What the recurrence's preparation's backward call leaves in its five results: the reference's vectors of the arguments.
-/
module

public import proofs.«01_k».proof.Proof.PrepSteps
public import Idealize.ShloMosaic.Lib.WholeRead

@[expose] public section

set_option maxRecDepth 16384

noncomputable section

namespace Cert.Proof.Prep

open Idealize.ShloMosaic Idealize.ShloMosaic.TcCoe Idealize.ShloMosaic.Tactic
open Cert.PrepKernelIdeal Cert.PrepKernelIdeal.Gen
open Cert.PrepReferenceIdeal.Read

/-- A load of the whole of a block reads it. -/
theorem ld0 (x : Vec Ideal Cert.PrepKernelIdeal.S16x64 .f32) : View.ld x r0_0 = x := View.ld_unit_zero (by decide) _ x
theorem ld1 (x : Vec Ideal Cert.PrepKernelIdeal.S16x1 .f32) : View.ld x r0_1 = x := View.ld_unit_zero (by decide) _ x
theorem ld2 (x : Vec Ideal Cert.PrepKernelIdeal.S16x16x64 .f32) : View.ld x r0_2 = x := View.ld_unit_zero (by decide) _ x

/-- A store of the whole of a block leaves its payload. -/
theorem st {s : Shape} {off : Fin s.rank → Nat} (h : off = fun _ => 0) (inb : ∀ a, off a + s.size a ≤ s.size a)
    (w : s.Idx → Elt Ideal .f32) : View.canon [(⟨Rect.unit off s.size inb, w⟩ : View.Piece (Elt Ideal) s .f32)] = w := by
  subst h
  funext y
  have h := View.canon_cons_emb (Val := Elt Ideal) (e := .f32) (Rect.whole s) w [] y
  rw [Rect.emb_whole_apply] at h
  exact h

/-- A change to the same shape. -/
theorem same (x : Vec Ideal Cert.PrepKernelIdeal.S16x16x64 .f32) : k0_pay3 (F := Ideal) x = x ∧ k0_pay4 (F := Ideal) x = x ∧ k0_pay5 (F := Ideal) x = x
    ∧ k0_pay6 (F := Ideal) x = x := by
  have e : shapeCast Cert.PrepKernelIdeal.S16x16x64 x shapeCasts_S16x16x64_S16x16x64 = x := by
    funext i
    idx_vars i
    pointwise []
  exact ⟨e, e, e, e⟩

section
variable (x0 x1 : Mat) (x2 : Steps) (x3 x4 : Cube) (x5 x6 : Mat) (x7 x8 : Cube)

theorem out9 : out0_9 (F := Ideal) x0 x1 (col x2) (turn x3) (turn x4) x5 x6 (turn x7) (turn x8) = val_main_v138 (F := Ideal) x0 x1 x2 x3 x4 x5 x6 x7 x8 := by
  unfold out0_9 k0_pay65 k0_pay64 k0_pay63 k0_pay62 k0_pay61 k0_pay59 k0_pay58 k0_pay57 k0_pay55 k0_pay54 k0_pay52 k0_pay51 k0_pay50 k0_pay49 k0_pay48 k0_pay47 k0_pay46
  simp only [ld0, ld1, ld2, (same _).1, (same _).2.1, (same _).2.2.1, (same _).2.2.2, p7 x2, p8 x0 x2, p10 x1 x2, p12 x0 x1 x2, p14 x1 x2, p16 x0 x1 x2, p17 x0 x1, p19 x0 x1 x2, p21 x0 x1, p30 x3 x4 x7 x8, p31 x0 x1 x2 x3 x4 x7 x8, p32 x0 x1 x3 x4 x7 x8, p18 x0 x1 x2, p39 x0 x1 x2 x3 x4 x7 x8, p44 x0 x1 x2 x3 x4 x5 x6 x7 x8, p1 x0 x1 x2 x3 x4 x5 x6 x7 x8]
  exact st (by decide) _ _

theorem out10 : out0_10 (F := Ideal) x0 x1 (col x2) (turn x3) (turn x4) x5 x6 (turn x7) (turn x8) = val_main_v130 (F := Ideal) x0 x1 x2 x3 x4 x5 x6 x7 x8 := by
  unfold out0_10 k0_pay65 k0_pay64 k0_pay63 k0_pay62 k0_pay61 k0_pay59 k0_pay58 k0_pay57 k0_pay56 k0_pay54 k0_pay53 k0_pay51 k0_pay50 k0_pay49 k0_pay48 k0_pay47 k0_pay46
  simp only [ld0, ld1, ld2, (same _).1, (same _).2.1, (same _).2.2.1, (same _).2.2.2, p7 x2, p8 x0 x2, p11 x1 x2, p12 x0 x1 x2, p15 x1 x2, p16 x0 x1 x2, p17 x0 x1, p19 x0 x1 x2, p21 x0 x1, p30 x3 x4 x7 x8, p31 x0 x1 x2 x3 x4 x7 x8, p32 x0 x1 x3 x4 x7 x8, p22 x0 x1 x2, p43 x0 x1 x2 x3 x4 x5 x6 x7 x8]
  exact st (by decide) _ _

theorem out11 : out0_11 (F := Ideal) x0 x1 (col x2) (turn x3) (turn x4) x5 x6 (turn x7) (turn x8) = val_main_v141 (F := Ideal) x0 x1 x2 x3 x4 x5 x6 x7 x8 := by
  unfold out0_11 k0_pay65 k0_pay64 k0_pay62 k0_pay58 k0_pay56 k0_pay55 k0_pay53 k0_pay52 k0_pay51 k0_pay50 k0_pay49 k0_pay48 k0_pay47 k0_pay46
  simp only [ld0, ld1, ld2, (same _).1, (same _).2.1, (same _).2.2.1, (same _).2.2.2, p7 x2, p8 x0 x2, p10 x1 x2, p11 x1 x2, p14 x1 x2, p15 x1 x2, p17 x0 x1, p30 x3 x4 x7 x8, p32 x0 x1 x3 x4 x7 x8, p42 x0 x1 x2 x3 x4 x5 x6 x7 x8, p45 x0 x1 x2 x3 x4 x5 x6 x7 x8, p2 x0 x1 x2 x3 x4 x5 x6 x7 x8]
  exact st (by decide) _ _

theorem out12 : out0_12 (F := Ideal) x0 x1 (col x2) (turn x3) (turn x4) x5 x6 (turn x7) (turn x8) = val_main_v142 (F := Ideal) x0 x1 x2 x7 x8 := by
  unfold out0_12 k0_pay60 k0_pay58 k0_pay57 k0_pay54 k0_pay49 k0_pay48
  simp only [ld0, ld1, ld2, (same _).1, (same _).2.1, (same _).2.2.1, (same _).2.2.2, p12 x0 x1 x2, p16 x0 x1 x2, p17 x0 x1, p20 x0 x1 x2, p28 x0 x1 x2 x7 x8]
  exact st (by decide) _ _

theorem out13 : out0_13 (F := Ideal) x0 x1 (col x2) (turn x3) (turn x4) x5 x6 (turn x7) (turn x8) = val_main_v143 (F := Ideal) x0 x1 x2 x7 x8 := by
  unfold out0_13 k0_pay60 k0_pay58 k0_pay57 k0_pay54 k0_pay49 k0_pay48
  simp only [ld0, ld1, ld2, (same _).1, (same _).2.1, (same _).2.2.1, (same _).2.2.2, p12 x0 x1 x2, p16 x0 x1 x2, p17 x0 x1, p20 x0 x1 x2, p27 x0 x1 x2 x7 x8]
  exact st (by decide) _ _

end

variable (m : (ℓ : Loc nD τ sig) → Buf (Elt Ideal) ℓ)

/-- The host's column of step sizes and its turned matrices. -/
theorem V_v0 (c : Dev nD) (i : Cert.PrepKernelIdeal.S16x1.Idx) : V m c main_v0 i = col (m ((c.tc : Thread nD τ).loc main_arg2)) i := by
  unfold col
  idx_vars i
  unfold_abbrev_sides
  after_results
  pointwise []

theorem V_v1 (c : Dev nD) (i : Cert.PrepKernelIdeal.S16x16x64.Idx) : V m c main_v1 i = turn (m ((c.tc : Thread nD τ).loc main_arg3)) i := by
  unfold turn
  idx_vars i
  unfold_abbrev_sides
  after_results
  pointwise []

theorem V_v2 (c : Dev nD) (i : Cert.PrepKernelIdeal.S16x16x64.Idx) : V m c main_v2 i = turn (m ((c.tc : Thread nD τ).loc main_arg4)) i := by
  unfold turn
  idx_vars i
  unfold_abbrev_sides
  after_results
  pointwise []

theorem V_v3 (c : Dev nD) (i : Cert.PrepKernelIdeal.S16x16x64.Idx) : V m c main_v3 i = turn (m ((c.tc : Thread nD τ).loc main_arg7)) i := by
  unfold turn
  idx_vars i
  unfold_abbrev_sides
  after_results
  pointwise []

theorem V_v4 (c : Dev nD) (i : Cert.PrepKernelIdeal.S16x16x64.Idx) : V m c main_v4 i = turn (m ((c.tc : Thread nD τ).loc main_arg8)) i := by
  unfold turn
  idx_vars i
  unfold_abbrev_sides
  after_results
  pointwise []

/-- Every window is a whole array. -/
theorem idx2 : ∀ t : Fin cfg0.N, win0_0.index t = ![0, 0] ∧ win0_1.index t = ![0, 0] ∧ win0_2.index t = ![0, 0] ∧ win0_5.index t = ![0, 0] ∧ win0_6.index t = ![0, 0] ∧ win0_9.index t = ![0, 0] ∧ win0_10.index t = ![0, 0] ∧ win0_11.index t = ![0, 0] :=
  (by decide +kernel : ∀ t : Fin grid0.N, win0_0.index t = ![0, 0] ∧ win0_1.index t = ![0, 0] ∧ win0_2.index t = ![0, 0] ∧ win0_5.index t = ![0, 0] ∧ win0_6.index t = ![0, 0] ∧ win0_9.index t = ![0, 0] ∧ win0_10.index t = ![0, 0] ∧ win0_11.index t = ![0, 0])

theorem idx3 : ∀ t : Fin cfg0.N, win0_3.index t = ![0, 0, 0] ∧ win0_4.index t = ![0, 0, 0] ∧ win0_7.index t = ![0, 0, 0] ∧ win0_8.index t = ![0, 0, 0] ∧ win0_12.index t = ![0, 0, 0] ∧ win0_13.index t = ![0, 0, 0] :=
  (by decide +kernel : ∀ t : Fin grid0.N, win0_3.index t = ![0, 0, 0] ∧ win0_4.index t = ![0, 0, 0] ∧ win0_7.index t = ![0, 0, 0] ∧ win0_8.index t = ![0, 0, 0] ∧ win0_12.index t = ![0, 0, 0] ∧ win0_13.index t = ![0, 0, 0])

theorem blk0 (c : Dev nD) (t : Fin cfg0.N) : iblk m c 0 t = m ((c.tc : Thread nD τ).loc main_arg0) := by
  funext i
  idx_vars i
  blk_point [iblk, V_main_arg0, idx2 t]

theorem blk1 (c : Dev nD) (t : Fin cfg0.N) : iblk m c 1 t = m ((c.tc : Thread nD τ).loc main_arg1) := by
  funext i
  idx_vars i
  blk_point [iblk, V_main_arg1, idx2 t]

theorem blk5 (c : Dev nD) (t : Fin cfg0.N) : iblk m c 5 t = m ((c.tc : Thread nD τ).loc main_arg5) := by
  funext i
  idx_vars i
  blk_point [iblk, V_main_arg5, idx2 t]

theorem blk6 (c : Dev nD) (t : Fin cfg0.N) : iblk m c 6 t = m ((c.tc : Thread nD τ).loc main_arg6) := by
  funext i
  idx_vars i
  blk_point [iblk, V_main_arg6, idx2 t]

theorem blk2 (c : Dev nD) (t : Fin cfg0.N) : iblk m c 2 t = col (m ((c.tc : Thread nD τ).loc main_arg2)) := by
  funext i
  idx_vars i
  refine Eq.trans ?_ (V_v0 m c (ix2 i0 i1))
  blk_point [iblk, idx2 t]

theorem blk3 (c : Dev nD) (t : Fin cfg0.N) : iblk m c 3 t = turn (m ((c.tc : Thread nD τ).loc main_arg3)) := by
  funext i
  idx_vars i
  refine Eq.trans ?_ (V_v1 m c (ix3 i0 i1 i2))
  blk_point [iblk, idx3 t]

theorem blk4 (c : Dev nD) (t : Fin cfg0.N) : iblk m c 4 t = turn (m ((c.tc : Thread nD τ).loc main_arg4)) := by
  funext i
  idx_vars i
  refine Eq.trans ?_ (V_v2 m c (ix3 i0 i1 i2))
  blk_point [iblk, idx3 t]

theorem blk7 (c : Dev nD) (t : Fin cfg0.N) : iblk m c 7 t = turn (m ((c.tc : Thread nD τ).loc main_arg7)) := by
  funext i
  idx_vars i
  refine Eq.trans ?_ (V_v3 m c (ix3 i0 i1 i2))
  blk_point [iblk, idx3 t]

theorem blk8 (c : Dev nD) (t : Fin cfg0.N) : iblk m c 8 t = turn (m ((c.tc : Thread nD τ).loc main_arg8)) := by
  funext i
  idx_vars i
  refine Eq.trans ?_ (V_v4 m c (ix3 i0 i1 i2))
  blk_point [iblk, idx3 t]

theorem arr9 (c : Dev nD) : (dats m 0 c).arrAt 9 cfg0.N = val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  generalize hX : val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = X
  refine (dats m 0 c).arrAt_eq_of_covers 9 _ (by decide +kernel) fun t hf y => ?_
  blk_simp
  rw [after0_9, blk0, blk1, blk2, blk3, blk4, blk5, blk6, blk7, blk8, out9, hX]
  idx_vars y
  blk_point [idx2 t]

theorem arr10 (c : Dev nD) : (dats m 0 c).arrAt 10 cfg0.N = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  generalize hX : val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = X
  refine (dats m 0 c).arrAt_eq_of_covers 10 _ (by decide +kernel) fun t hf y => ?_
  blk_simp
  rw [after0_10, blk0, blk1, blk2, blk3, blk4, blk5, blk6, blk7, blk8, out10, hX]
  idx_vars y
  blk_point [idx2 t]

theorem arr11 (c : Dev nD) : (dats m 0 c).arrAt 11 cfg0.N = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  generalize hX : val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = X
  refine (dats m 0 c).arrAt_eq_of_covers 11 _ (by decide +kernel) fun t hf y => ?_
  blk_simp
  rw [after0_11, blk0, blk1, blk2, blk3, blk4, blk5, blk6, blk7, blk8, out11, hX]
  idx_vars y
  blk_point [idx2 t]

theorem arr12 (c : Dev nD) : (dats m 0 c).arrAt 12 cfg0.N = val_main_v142 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := by
  generalize hX : val_main_v142 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) = X
  refine (dats m 0 c).arrAt_eq_of_covers 12 _ (by decide +kernel) fun t hf y => ?_
  blk_simp
  rw [after0_12, blk0, blk1, blk2, blk3, blk4, blk5, blk6, blk7, blk8, out12, hX]
  idx_vars y
  blk_point [idx3 t]

theorem arr13 (c : Dev nD) : (dats m 0 c).arrAt 13 cfg0.N = val_main_v143 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := by
  generalize hX : val_main_v143 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) = X
  refine (dats m 0 c).arrAt_eq_of_covers 13 _ (by decide +kernel) fun t hf y => ?_
  blk_simp
  rw [after0_13, blk0, blk1, blk2, blk3, blk4, blk5, blk6, blk7, blk8, out13, hX]
  idx_vars y
  blk_point [idx3 t]

end Cert.Proof.Prep

end
-- ==== Proof.PrepEquation.lean ====
/-
  The recurrence's preparation's backward call and its reference.
-/
module

public import proofs.«01_k».proof.Defs
public import Idealize.ShloMosaic.Lib.Quiescent
public import proofs.«01_k».proof.Proof.Gen.PrepKernel.Frame
public import proofs.«01_k».proof.Proof.Gen.PrepKernelIdeal.Frame
public import proofs.«01_k».proof.Proof.PrepValue
public import proofs.«01_k».proof.Proof.Gen.PrepReferenceIdeal.Run
public import proofs.«01_k».proof.Proof.Gen.PrepReferenceIdeal.Read

@[expose] public section

set_option maxRecDepth 16384

noncomputable section

namespace Cert.Proof.Prep

open Idealize.ShloMosaic Idealize.ShloMosaic.TcCoe Idealize.SL.Sem

/-- The reference runs, keeps its arguments, and has no semaphore to leave raised. -/
theorem frame_reference : Cert.quiescent_PrepReferenceIdeal
    (hPrepReferenceIdeal := Cert.PrepReferenceIdeal.Gen.facts) := fun m ρ _ =>
  (θ_run Cert.PrepReferenceIdeal.defs _ _).mono (fun r h => ⟨fun c => (h c).2.2.2.2.2, sem_eq_zero_of_no_sems (by decide) r.2⟩)
    (Cert.PrepReferenceIdeal.Value.run m ρ)

open Cert.PrepReferenceIdeal.Read

/-- The reference's vectors at equal arguments. -/
theorem results (x0 y0 : Mat) (x1 y1 : Mat) (x2 y2 : Steps) (x3 y3 : Cube) (x4 y4 : Cube) (x5 y5 : Mat) (x6 y6 : Mat) (x7 y7 : Cube) (x8 y8 : Cube)
    (e0 : y0 = x0) (e1 : y1 = x1) (e2 : y2 = x2) (e3 : y3 = x3) (e4 : y4 = x4) (e5 : y5 = x5) (e6 : y6 = x6) (e7 : y7 = x7) (e8 : y8 = x8) :
    val_main_v138 (F := Ideal) y0 y1 y2 y3 y4 y5 y6 y7 y8 = val_main_v138 (F := Ideal) x0 x1 x2 x3 x4 x5 x6 x7 x8
    ∧ val_main_v130 (F := Ideal) y0 y1 y2 y3 y4 y5 y6 y7 y8 = val_main_v130 (F := Ideal) x0 x1 x2 x3 x4 x5 x6 x7 x8
    ∧ val_main_v141 (F := Ideal) y0 y1 y2 y3 y4 y5 y6 y7 y8 = val_main_v141 (F := Ideal) x0 x1 x2 x3 x4 x5 x6 x7 x8
    ∧ val_main_v142 (F := Ideal) y0 y1 y2 y7 y8 = val_main_v142 (F := Ideal) x0 x1 x2 x7 x8
    ∧ val_main_v143 (F := Ideal) y0 y1 y2 y7 y8 = val_main_v143 (F := Ideal) x0 x1 x2 x7 x8 := by
  subst e0 e1 e2 e3 e4 e5 e6 e7 e8
  exact ⟨rfl, rfl, rfl, rfl, rfl⟩

/-- The value claim of the preparation's backward call. -/
theorem algebraic : Cert.algebraic_PrepKernelIdeal_PrepReferenceIdeal
    (hPrepKernelIdeal := Cert.PrepKernelIdeal.Gen.facts) (hPrepReferenceIdeal := Cert.PrepReferenceIdeal.Gen.facts) := by
  intro m g m' g' _ hag
  refine ⟨fun c => val_main_v138 (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)),
    fun c => val_main_v130 (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)),
    fun c => val_main_v141 (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)),
    fun c => val_main_v142 (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)),
    fun c => val_main_v143 (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)), ?_, ?_⟩
  · refine (θ_run _ _ _).mono (fun r h c => ?_) (θ_run_and (Cert.PrepKernelIdeal.Gen.run_main m g) (Cert.PrepKernelIdeal.Gen.unchanged m g))
    exact ⟨((h.1 c).1 9).trans (arr9 m c), ((h.1 c).1 10).trans (arr10 m c), ((h.1 c).1 11).trans (arr11 m c),
      ((h.1 c).1 12).trans (arr12 m c), ((h.1 c).1 13).trans (arr13 m c), h.2 c⟩
  · refine (θ_run _ _ _).mono (fun r h c => ?_) (Cert.PrepReferenceIdeal.Value.run m' g')
    obtain ⟨h0, h1, h2, h3, h4, hk⟩ := h c
    obtain ⟨e0, e1, e2, e3, e4, e5, e6, e7, e8⟩ := hag c
    obtain ⟨r0, r1, r2, r3, r4⟩ := results (m ((c.tc : Thread Cert.PrepKernelIdeal.nD Cert.PrepKernelIdeal.τ).loc Cert.PrepKernelIdeal.main_arg0)) (m' ((c.tc : Thread Cert.PrepReferenceIdeal.nD Cert.PrepReferenceIdeal.τ).loc Cert.PrepReferenceIdeal.main_arg0))
      (m ((c.tc : Thread Cert.PrepKernelIdeal.nD Cert.PrepKernelIdeal.τ).loc Cert.PrepKernelIdeal.main_arg1)) (m' ((c.tc : Thread Cert.PrepReferenceIdeal.nD Cert.PrepReferenceIdeal.τ).loc Cert.PrepReferenceIdeal.main_arg1))
      (m ((c.tc : Thread Cert.PrepKernelIdeal.nD Cert.PrepKernelIdeal.τ).loc Cert.PrepKernelIdeal.main_arg2)) (m' ((c.tc : Thread Cert.PrepReferenceIdeal.nD Cert.PrepReferenceIdeal.τ).loc Cert.PrepReferenceIdeal.main_arg2))
      (m ((c.tc : Thread Cert.PrepKernelIdeal.nD Cert.PrepKernelIdeal.τ).loc Cert.PrepKernelIdeal.main_arg3)) (m' ((c.tc : Thread Cert.PrepReferenceIdeal.nD Cert.PrepReferenceIdeal.τ).loc Cert.PrepReferenceIdeal.main_arg3))
      (m ((c.tc : Thread Cert.PrepKernelIdeal.nD Cert.PrepKernelIdeal.τ).loc Cert.PrepKernelIdeal.main_arg4)) (m' ((c.tc : Thread Cert.PrepReferenceIdeal.nD Cert.PrepReferenceIdeal.τ).loc Cert.PrepReferenceIdeal.main_arg4))
      (m ((c.tc : Thread Cert.PrepKernelIdeal.nD Cert.PrepKernelIdeal.τ).loc Cert.PrepKernelIdeal.main_arg5)) (m' ((c.tc : Thread Cert.PrepReferenceIdeal.nD Cert.PrepReferenceIdeal.τ).loc Cert.PrepReferenceIdeal.main_arg5))
      (m ((c.tc : Thread Cert.PrepKernelIdeal.nD Cert.PrepKernelIdeal.τ).loc Cert.PrepKernelIdeal.main_arg6)) (m' ((c.tc : Thread Cert.PrepReferenceIdeal.nD Cert.PrepReferenceIdeal.τ).loc Cert.PrepReferenceIdeal.main_arg6))
      (m ((c.tc : Thread Cert.PrepKernelIdeal.nD Cert.PrepKernelIdeal.τ).loc Cert.PrepKernelIdeal.main_arg7)) (m' ((c.tc : Thread Cert.PrepReferenceIdeal.nD Cert.PrepReferenceIdeal.τ).loc Cert.PrepReferenceIdeal.main_arg7))
      (m ((c.tc : Thread Cert.PrepKernelIdeal.nD Cert.PrepKernelIdeal.τ).loc Cert.PrepKernelIdeal.main_arg8)) (m' ((c.tc : Thread Cert.PrepReferenceIdeal.nD Cert.PrepReferenceIdeal.τ).loc Cert.PrepReferenceIdeal.main_arg8))
      e0 e1 e2 e3 e4 e5 e6 e7 e8
    exact ⟨h0.trans ((val_main_v138_eq m' c).trans r0), h1.trans ((val_main_v130_eq m' c).trans r1), h2.trans ((val_main_v141_eq m' c).trans r2),
      h3.trans ((val_main_v142_eq _ _ _ _ _).trans r3), h4.trans ((val_main_v143_eq _ _ _ _ _).trans r4), hk⟩

end Cert.Proof.Prep

end
-- ==== Proof.NormValue.lean ====
/-
  What the layer norm's backward call leaves in its three results, at the extended reals: the input's gradient row by
  row, and the gradients of the scale and the shift, summed over the eight row blocks.
-/
module

public import proofs.«01_k».proof.Proof.Gen.NormKernelIdeal.Value
public import proofs.«01_k».proof.Proof.Reals
public import Idealize.ShloMosaic.Lib.Pointwise
public import Idealize.ShloMosaic.Lib.Pipeline.ValueKit
public import Idealize.ShloMosaic.Lib.Tactic

@[expose] public section

set_option maxRecDepth 16384

noncomputable section

namespace Cert.NormKernelIdeal.Value

open Idealize.ShloMosaic Idealize.ShloMosaic.TcCoe Idealize.SL.Sem
open Idealize.ShloMosaic.Pipeline (Dat)
open Cert.NormKernelIdeal Cert.NormKernelIdeal.Gen

variable (m : (ℓ : Loc nD τ sig) → Buf (Elt Ideal) ℓ)

/-- One row of an array. -/
abbrev Row := Fin 1024 → EReal

/-- The mean of a row. -/
def mean (x : Row) : EReal := Ideal.div (∑ k : Fin 1024, x k) (Ideal.ofBits .f32 0x44800000#32)

/-- A row less its mean. -/
def dev (x : Row) (j : Fin 1024) : EReal := x j - mean x

/-- The variance of a row plus the norm's small constant. -/
def spread (x : Row) : EReal :=
  Ideal.div (∑ k : Fin 1024, dev x k * dev x k) (Ideal.ofBits .f32 0x44800000#32) + Ideal.ofBits .f32 0x3727C5AC#32

/-- The reciprocal of its root. -/
def rinv (x : Row) : EReal := Ideal.rsqrt (spread x)

/-- The part of a row's gradient that goes past the mean and the variance. -/
def lead (x g y : Row) (j : Fin 1024) : EReal := y j * g j * rinv x

/-- The factor of the part that goes through the variance. -/
def slant (x g y : Row) : EReal :=
  Ideal.div ((∑ k : Fin 1024, dev x k * (y k * g k)) * (Ideal.ofBits .f32 0xBF000000#32 * Ideal.div (rinv x) (spread x)))
    (Ideal.ofBits .f32 0x44800000#32)

/-- The gradient of a centred row. -/
def centred (x g y : Row) (j : Fin 1024) : EReal := lead x g y j + dev x j * slant x g y + slant x g y * dev x j

/-- The gradient of a row. -/
def rowGrad (x g y : Row) (j : Fin 1024) : EReal :=
  centred x g y j + Ideal.div (∑ k : Fin 1024, (Ideal.ofBits .f32 0x00000000#32 - centred x g y k)) (Ideal.ofBits .f32 0x44800000#32)

/-- A row's contribution to the scale's gradient. -/
def scale (x y : Row) (j : Fin 1024) : EReal := dev x j * rinv x * y j

theorem V_v0 (c : Dev nD) (i : S1x1024.Idx) : V m c main_v0 i = m ((c.tc : Thread nD τ).loc main_arg1) (ix1 (i 1)) := by
  idx_vars i
  unfold_abbrev_sides
  after_results
  pointwise []

/-- Where each window's block lies at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0])

/-- A row of the array a row of a block is. -/
def row (t : Fin cfg0.N) (p : Fin 512) : Fin 4096 := ⟨t.val * 512 + p.val, by have := lt_of_lt_of_eq t.isLt N_0; omega⟩

/-- A row of the norm's input. -/
def xs (c : Dev nD) (r : Fin 4096) : Row := fun k => m ((c.tc : Thread nD τ).loc main_arg0) (ix2 r k)

/-- The norm's scale. -/
def gs (c : Dev nD) : Row := fun k => m ((c.tc : Thread nD τ).loc main_arg1) (ix1 k)

/-- A row of the gradient that comes in. -/
def ys (c : Dev nD) (r : Fin 4096) : Row := fun k => m ((c.tc : Thread nD τ).loc main_arg3) (ix2 r k)

theorem blk0 (c : Dev nD) (t : Fin cfg0.N) (p : Fin 512) : (fun k => iblk m c 0 t (ix2 p k)) = xs m c (row t p) := by
  funext k
  show iblk m c 0 t (ix2 p k) = m ((c.tc : Thread nD τ).loc main_arg0) (ix2 (row t p) k)
  blk_point [iblk, V_main_arg0, row, idx t]

theorem blk1 (c : Dev nD) (t : Fin cfg0.N) : (fun k => iblk m c 1 t (ix2 0 k)) = gs m c := by
  funext k
  refine Eq.trans ?_ (V_v0 m c (ix2 0 k))
  blk_point [iblk, idx t]

theorem blk3 (c : Dev nD) (t : Fin cfg0.N) (p : Fin 512) : (fun k => iblk m c 3 t (ix2 p k)) = ys m c (row t p) := by
  funext k
  show iblk m c 3 t (ix2 p k) = m ((c.tc : Thread nD τ).loc main_arg3) (ix2 (row t p) k)
  blk_point [iblk, V_main_arg3, row, idx t]

section Blocks

variable (x : Vec Ideal S512x1024 .f32) (g : Vec Ideal S1x1024 .f32) (y : Vec Ideal S512x1024 .f32)

theorem dev_at (p : Fin 512) (j : Fin 1024) : k0_pay4 x (ix2 p j) = dev (fun k => x (ix2 p k)) j := by
  unfold_payloads
  pointwise [dev, mean]

theorem spread_at (p : Fin 512) : k0_pay5 x (ix2 p 0) = spread (fun k => x (ix2 p k)) := by
  unfold k0_pay5
  pointwise [spread, dev_at]

theorem rinv_at (p : Fin 512) : k0_pay6 x (ix2 p 0) = rinv (fun k => x (ix2 p k)) := by
  unfold k0_pay6
  pointwise [rinv, spread_at]

theorem shift_at (j : Fin 1024) : k0_pay8 y (ix2 0 j) = ∑ p : Fin 512, y (ix2 p j) := by
  unfold_payloads
  pointwise []

theorem scale_at (j : Fin 1024) : k0_pay9 x y (ix2 0 j) = ∑ p : Fin 512, scale (fun k => x (ix2 p k)) (fun k => y (ix2 p k)) j := by
  unfold k0_pay9 k0_pay7
  pointwise [scale, dev_at, rinv_at]

theorem gy_at (p : Fin 512) (j : Fin 1024) : k0_pay10 g y (ix2 p j) = y (ix2 p j) * g (ix2 0 j) := by
  unfold k0_pay10 k0_pay7
  pointwise []

theorem lead_at (p : Fin 512) (j : Fin 1024) : k0_pay11 x g y (ix2 p j)
    = lead (fun k => x (ix2 p k)) (fun k => g (ix2 0 k)) (fun k => y (ix2 p k)) j := by
  unfold k0_pay11
  pointwise [lead, gy_at, rinv_at]

theorem slant_at (p : Fin 512) (j : Fin 1024) : k0_pay12 x g y (ix2 p j)
    = slant (fun k => x (ix2 p k)) (fun k => g (ix2 0 k)) (fun k => y (ix2 p k)) := by
  unfold k0_pay12
  pointwise [slant, gy_at, rinv_at, spread_at, dev_at]
  simp only [Fin.sum_univ_one, rinv_at, spread_at]

theorem grad_at (p : Fin 512) (j : Fin 1024) : k0_pay1 (k0_pay4 x) (k0_pay11 x g y) (k0_pay12 x g y) (ix2 p j)
    = rowGrad (fun k => x (ix2 p k)) (fun k => g (ix2 0 k)) (fun k => y (ix2 p k)) j := by
  unfold k0_pay1
  pointwise [rowGrad, centred, lead_at, slant_at, dev_at]
  simp only [Fin.sum_univ_one]

end Blocks

/-- The input's gradient. -/
def gradArr (c : Dev nD) : Vec Ideal S4096x1024 .f32 := fun i => rowGrad (xs m c (i 0)) (gs m c) (ys m c (i 0)) (i 1)

/-- The scale's gradient. -/
def scaleArr (c : Dev nD) : Vec Ideal S1x1024 .f32 := fun i =>
  ∑ t : Fin 8, ∑ p : Fin 512, scale (xs m c ⟨t.val * 512 + p.val, by omega⟩) (ys m c ⟨t.val * 512 + p.val, by omega⟩) (i 1)

/-- The shift's gradient. -/
def shiftArr (c : Dev nD) : Vec Ideal S1x1024 .f32 := fun i =>
  ∑ t : Fin 8, ∑ p : Fin 512, ys m c ⟨t.val * 512 + p.val, by omega⟩ (i 1)

theorem arr4 (c : Dev nD) : (dats m 0 c).arrAt 4 cfg0.N = gradArr m c := by
  refine (dats m 0 c).arrAt_eq_of_covers 4 _ (by decide +kernel) fun t hf y => ?_
  blk_simp
  rw [after0_4]
  idx_vars y
  have e : k0_pay1 (k0_pay4 (iblk m c 0 t)) (k0_pay11 (iblk m c 0 t) (iblk m c 1 t) (iblk m c 3 t))
      (k0_pay12 (iblk m c 0 t) (iblk m c 1 t) (iblk m c 3 t)) (ix2 y0 y1) = gradArr m c (ix2 (row t y0) y1) := by
    rw [grad_at, blk0, blk1, blk3]
    rfl
  generalize gradArr m c = X at e ⊢
  by_cases h0 : t.val % 8 = 0
  · have h1 : ¬1 ≤ t.val := by have := lt_of_lt_of_eq t.isLt N_0; omega
    rw [outsAt0_A m c t h0 h1]
    frame_out
    refine e.trans ?_
    blk_point [row, idx t]
  · have h1 : 1 ≤ t.val := by omega
    rw [outsAt0_B m c t h0 h1]
    frame_out
    refine e.trans ?_
    blk_point [row, idx t]

theorem arr5 (c : Dev nD) : (dats m 0 c).arrAt 5 cfg0.N = scaleArr m c := by
  refine (dats m 0 c).arrAt_eq_of_after_last 5 t0_7 (by decide +kernel) _ fun j => ?_
  blk_simp
  have e : ∀ (t : Fin cfg0.N) (j : S1x1024.Idx), k0_pay9 (iblk m c 0 t) (iblk m c 3 t) j
      = ∑ p : Fin 512, scale (xs m c (row t p)) (ys m c (row t p)) (j 1) := fun t j => by
    idx_vars j
    rw [Subsingleton.elim j0 0, scale_at]
    exact Finset.sum_congr rfl fun p _ => by rw [blk0, blk3]
  rw [after0_5, Pipeline.eq_sum_fin_of_reset_step_apply_last (fun n h => (outsAt0 m c n h).2.1) 8 (fun _ => 0)
    (fun t j => ∑ p : Fin 512, scale (xs m c (row t p)) (ys m c (row t p)) (j 1))
    (fun t h j => by
      have h1 : ¬1 ≤ t.val := by have := lt_of_lt_of_eq t.isLt N_0; omega
      rw [outsAt0_A m c t h h1]; frame_out; rw [e, zero_add])
    (fun t h j => by
      have h1 : 1 ≤ t.val := by omega
      rw [outsAt0_B m c t h h1]; frame_out; rw [← e]; pointwise [k0_pay2])
    (le_of_eq N_0) t0_7 rfl j, zero_add]
  rfl

theorem arr6 (c : Dev nD) : (dats m 0 c).arrAt 6 cfg0.N = shiftArr m c := by
  refine (dats m 0 c).arrAt_eq_of_after_last 6 t0_7 (by decide +kernel) _ fun j => ?_
  blk_simp
  have e : ∀ (t : Fin cfg0.N) (j : S1x1024.Idx), k0_pay8 (iblk m c 3 t) j
      = ∑ p : Fin 512, ys m c (row t p) (j 1) := fun t j => by
    idx_vars j
    rw [Subsingleton.elim j0 0, shift_at]
    exact Finset.sum_congr rfl fun p _ => congrFun (blk3 m c t p) j1
  rw [after0_6, Pipeline.eq_sum_fin_of_reset_step_apply_last (fun n h => (outsAt0 m c n h).2.2) 8 (fun _ => 0)
    (fun t j => ∑ p : Fin 512, ys m c (row t p) (j 1))
    (fun t h j => by
      have h1 : ¬1 ≤ t.val := by have := lt_of_lt_of_eq t.isLt N_0; omega
      rw [outsAt0_A m c t h h1]; frame_out; rw [e, zero_add])
    (fun t h j => by
      have h1 : 1 ≤ t.val := by omega
      rw [outsAt0_B m c t h h1]; frame_out; rw [← e]; pointwise [k0_pay3])
    (le_of_eq N_0) t0_7 rfl j, zero_add]
  rfl

end Cert.NormKernelIdeal.Value

end
-- ==== Proof.MixRows.lean ====
/-
  The mixing output's gradient, one row at a time, at the extended reals: the gated branch, the three root-mean-square
  norms, the joined row, and what the gradient of the row is at each of them.
-/
module

public import proofs.«01_k».proof.Proof.NormValue

@[expose] public section

noncomputable section

namespace Cert.Mix

open Idealize.ShloMosaic
open Cert.NormKernelIdeal.Value (Row rowGrad scale)

/-- What does not change from row to row: the scales of the three norms, the gate's weights, the output weights and the
    scale of the layer norm. -/
structure Par where
  ga : Fin 384 → EReal
  gb : Fin 384 → EReal
  gc : Fin 256 → EReal
  w : Fin 256 → Fin 256 → EReal
  o : Fin 1024 → Fin 1024 → EReal
  lg : Row

/-- A row of each array: the three branches, the residual input, and the gradient that comes in. -/
structure Inp where
  a : Fin 384 → EReal
  b : Fin 384 → EReal
  y : Fin 256 → EReal
  x : Row
  d : Row

/-- The hyperbolic tangent in the activation. -/
def bend (x : EReal) : EReal :=
  Ideal.tanh (Ideal.ofBits .f32 0x3F4C422A#32 * (x + Ideal.ofBits .f32 0x3D372713#32 * (x * x * x)))

/-- The activation. -/
def act (x : EReal) : EReal := Ideal.ofBits .f32 0x3F000000#32 * x * (Ideal.ofBits .f32 0x3F800000#32 + bend x)

/-- The mean square of a row plus the norm's small constant. -/
def square {n : Nat} (c : BitVec 32) (x : Fin n → EReal) : EReal :=
  Ideal.div (∑ k : Fin n, x k * x k) (Ideal.ofBits .f32 c) + Ideal.ofBits .f32 0x358637BD#32

/-- The reciprocal of its root. -/
def unroot {n : Nat} (c : BitVec 32) (x : Fin n → EReal) : EReal := Ideal.rsqrt (square c x)

/-- A row over its root mean square. -/
def unit {n : Nat} (c : BitVec 32) (x : Fin n → EReal) (j : Fin n) : EReal := x j * unroot c x

/-- The factor of the part of a row's gradient that goes through the mean square. -/
def tilt {n : Nat} (c : BitVec 32) (x g d : Fin n → EReal) : EReal :=
  Ideal.div ((∑ k : Fin n, x k * (d k * g k)) * (Ideal.ofBits .f32 0xBF000000#32 * Ideal.div (unroot c x) (square c x)))
    (Ideal.ofBits .f32 c)

/-- The gradient of a row under the root-mean-square norm. -/
def unitGrad {n : Nat} (c : BitVec 32) (x g d : Fin n → EReal) (j : Fin n) : EReal :=
  d j * g j * unroot c x + x j * tilt c x g d + tilt c x g d * x j

/-- Three rows one after another. -/
def cat (a b : Fin 384 → EReal) (c : Fin 256 → EReal) (j : Fin 1024) : EReal :=
  if h : j.val < 384 then a ⟨j.val, h⟩
  else if h' : j.val - 384 < 384 then b ⟨j.val - 384, h'⟩
  else c ⟨j.val - 384 - 384, by omega⟩

section

variable (q : Par) (r : Inp)

/-- The exponential in the gate. -/
def expo (j : Fin 256) : EReal := Ideal.exp (Ideal.ofBits .f32 0x00000000#32 - ∑ k : Fin 256, act (r.y k) * q.w k j)

/-- The gate. -/
def gate (j : Fin 256) : EReal :=
  Ideal.div (Ideal.ofBits .f32 0x3F800000#32) (Ideal.ofBits .f32 0x3F800000#32 + expo q r j)

/-- The gated branch. -/
def gated (j : Fin 256) : EReal := act (r.y j) * gate q r j

/-- The three norms' rows, joined. -/
def joined (j : Fin 1024) : EReal :=
  cat (fun k => unit 0x43C00000#32 r.a k * q.ga k) (fun k => unit 0x43C00000#32 r.b k * q.gb k)
    (fun k => unit 0x43800000#32 (gated q r) k * q.gc k) j

/-- The row the layer norm takes. -/
def sum : Row := fun j => Ideal.ofBits .f32 0x3FB504F3#32 * r.x j + ∑ k : Fin 1024, joined q r k * q.o k j

/-- The gradient of that row. -/
def sumGrad : Row := rowGrad (sum q r) q.lg r.d

/-- The gradient of the residual input. -/
def xGrad (j : Fin 1024) : EReal := Ideal.ofBits .f32 0x3FB504F3#32 * sumGrad q r j

/-- The gradient of the joined row. -/
def joinGrad (j : Fin 1024) : EReal := ∑ k : Fin 1024, sumGrad q r k * q.o j k

/-- Its three parts. -/
def joinA (j : Fin 384) : EReal := joinGrad q r ⟨j.val, by omega⟩
def joinB (j : Fin 384) : EReal := joinGrad q r ⟨384 + j.val, by omega⟩
def joinC (j : Fin 256) : EReal := joinGrad q r ⟨768 + j.val, by omega⟩

/-- The gradients of the first two branches. -/
def aGrad (j : Fin 384) : EReal := unitGrad 0x43C00000#32 r.a q.ga (joinA q r) j
def bGrad (j : Fin 384) : EReal := unitGrad 0x43C00000#32 r.b q.gb (joinB q r) j

/-- A row's part in the gradients of the norms' scales. -/
def gaPart (j : Fin 384) : EReal := unit 0x43C00000#32 r.a j * joinA q r j
def gbPart (j : Fin 384) : EReal := unit 0x43C00000#32 r.b j * joinB q r j
def gcPart (j : Fin 256) : EReal := unit 0x43800000#32 (gated q r) j * joinC q r j

/-- The gradient of the gated branch. -/
def gatedGrad (j : Fin 256) : EReal := unitGrad 0x43800000#32 (gated q r) q.gc (joinC q r) j

/-- The gradient of the gate's argument, as the kernel has it. -/
def argGrad (j : Fin 256) : EReal :=
  Ideal.ofBits .f32 0x00000000#32
    - (Ideal.ofBits .f32 0x00000000#32
        - act (r.y j) * gatedGrad q r j
          * Ideal.div (Ideal.ofBits .f32 0x3F800000#32)
              ((Ideal.ofBits .f32 0x3F800000#32 + expo q r j) * (Ideal.ofBits .f32 0x3F800000#32 + expo q r j))
          * Ideal.ofBits .f32 0x3F800000#32)
      * expo q r j

/-- The gradient of the activation. -/
def actGrad (j : Fin 256) : EReal := gatedGrad q r j * gate q r j + ∑ k : Fin 256, argGrad q r k * q.w j k

/-- What reaches the argument of the hyperbolic tangent. -/
def core (j : Fin 256) : EReal :=
  Ideal.ofBits .f32 0x3F4C422A#32
    * (Ideal.ofBits .f32 0x3F000000#32 * r.y j * actGrad q r j
      * ((Ideal.ofBits .f32 0x3F800000#32 + bend (r.y j)) * (Ideal.ofBits .f32 0x3F800000#32 - bend (r.y j))))

/-- The gradient of the third branch, as the kernel has it. -/
def yGrad (j : Fin 256) : EReal :=
  core q r j + r.y j * r.y j * (Ideal.ofBits .f32 0x3D372713#32 * core q r j)
    + r.y j * (Ideal.ofBits .f32 0x3D372713#32 * core q r j * r.y j)
    + Ideal.ofBits .f32 0x3D372713#32 * core q r j * r.y j * r.y j
    + Ideal.ofBits .f32 0x3F000000#32 * (actGrad q r j * (Ideal.ofBits .f32 0x3F800000#32 + bend (r.y j)))

end

end Cert.Mix

end
-- ==== Proof.MixBody.lean ====
/-
  What the body of the mixing output's backward call computes on a block of 512 rows, value by value.
-/
module

public import proofs.«01_k».proof.Proof.Gen.MixKernelIdeal.Value
public import proofs.«01_k».proof.Proof.MixRows
public import proofs.«01_k».proof.Proof.Reals
public import Idealize.ShloMosaic.Lib.Pointwise
public import Idealize.ShloMosaic.Lib.Tactic

@[expose] public section

set_option maxRecDepth 16384

noncomputable section

namespace Cert.MixKernelIdeal.Value

open Idealize.ShloMosaic Idealize.ShloMosaic.TcCoe
open Cert.MixKernelIdeal Cert.MixKernelIdeal.Gen
open Cert.Mix
open Cert.NormKernelIdeal.Value (Row mean dev spread rinv lead slant centred rowGrad scale)

/-- The blocks the body reads. -/
structure Blocks where
  v0 : Vec Ideal S512x384 .f32
  v1 : Vec Ideal S512x384 .f32
  v2 : Vec Ideal S512x256 .f32
  v3 : Vec Ideal S512x1024 .f32
  v4 : Vec Ideal S1x384 .f32
  v6 : Vec Ideal S1x384 .f32
  v8 : Vec Ideal S1x256 .f32
  v10 : Vec Ideal S256x256 .f32
  v12 : Vec Ideal S1024x1024 .f32
  v14 : Vec Ideal S1x1024 .f32
  v16 : Vec Ideal S512x1024 .f32

/-- What they hold: the parameters, and the rows. -/
structure Holds (q : Par) (r : Fin 512 → Inp) (u : Blocks) : Prop where
  a : ∀ p j, u.v0 (ix2 p j) = (r p).a j
  b : ∀ p j, u.v1 (ix2 p j) = (r p).b j
  y : ∀ p j, u.v2 (ix2 p j) = (r p).y j
  x : ∀ p j, u.v3 (ix2 p j) = (r p).x j
  ga : ∀ j, u.v4 (ix2 0 j) = q.ga j
  gb : ∀ j, u.v6 (ix2 0 j) = q.gb j
  gc : ∀ j, u.v8 (ix2 0 j) = q.gc j
  w : ∀ i j, u.v10 (ix2 i j) = q.w i j
  o : ∀ i j, u.v12 (ix2 i j) = q.o i j
  lg : ∀ j, u.v14 (ix2 0 j) = q.lg j
  d : ∀ p j, u.v16 (ix2 p j) = (r p).d j

section Values

variable {q : Par} {r : Fin 512 → Inp}

theorem p8 {v : Vec Ideal S1x384 .f32} (h : ∀ j, v (ix2 0 j) = q.ga j) (j : Fin 384) : k0_pay8 (F := Ideal) v (ix2 0 j) = q.ga j := by
  unfold k0_pay8; pointwise [h]

theorem p9 {v : Vec Ideal S1x384 .f32} (h : ∀ j, v (ix2 0 j) = q.gb j) (j : Fin 384) : k0_pay9 (F := Ideal) v (ix2 0 j) = q.gb j := by
  unfold k0_pay9; pointwise [h]

theorem p10 {v : Vec Ideal S1x256 .f32} (h : ∀ j, v (ix2 0 j) = q.gc j) (j : Fin 256) : k0_pay10 (F := Ideal) v (ix2 0 j) = q.gc j := by
  unfold k0_pay10; pointwise [h]

theorem p11 {v : Vec Ideal S256x256 .f32} (h : ∀ i j, v (ix2 i j) = q.w i j) (i j : Fin 256) : k0_pay11 (F := Ideal) v (ix2 i j) = q.w i j := by
  unfold k0_pay11; pointwise [h]

theorem p12 {v : Vec Ideal S1024x1024 .f32} (h : ∀ i j, v (ix2 i j) = q.o i j) (i j : Fin 1024) :
    k0_pay12 (F := Ideal) v (ix2 i j) = q.o i j := by
  unfold k0_pay12; pointwise [h]

theorem p13 {v : Vec Ideal S1x1024 .f32} (h : ∀ j, v (ix2 0 j) = q.lg j) (j : Fin 1024) : k0_pay13 (F := Ideal) v (ix2 0 j) = q.lg j := by
  unfold k0_pay13; pointwise [h]

section Gated

variable {v2 : Vec Ideal S512x256 .f32} (h2 : ∀ p j, v2 (ix2 p j) = (r p).y j)
include h2

theorem p14 (p : Fin 512) (j : Fin 256) : k0_pay14 (F := Ideal) v2 (ix2 p j) = Ideal.ofBits .f32 0x3F000000#32 * (r p).y j := by
  unfold k0_pay14; pointwise [h2]

theorem p15 (p : Fin 512) (j : Fin 256) : k0_pay15 (F := Ideal) v2 (ix2 p j) = (r p).y j * (r p).y j := by
  unfold k0_pay15; pointwise [h2]

theorem p16 (p : Fin 512) (j : Fin 256) : k0_pay16 (F := Ideal) v2 (ix2 p j) = bend ((r p).y j) := by
  unfold k0_pay16; pointwise [h2, p15 h2, bend]

theorem p17 (p : Fin 512) (j : Fin 256) : k0_pay17 (F := Ideal) v2 (ix2 p j)
    = (Ideal.ofBits .f32 0x3F800000#32 + bend ((r p).y j)) * (Ideal.ofBits .f32 0x3F800000#32 - bend ((r p).y j)) := by
  unfold k0_pay17; pointwise [p16 h2]

end Gated

section Gate

variable {v18 v26 : Vec Ideal S512x256 .f32} {v11 : Vec Ideal S256x256 .f32}
  (h18 : ∀ p j, v18 (ix2 p j) = Ideal.ofBits .f32 0x3F000000#32 * (r p).y j)
  (h26 : ∀ p j, v26 (ix2 p j) = bend ((r p).y j)) (h11 : ∀ i j, v11 (ix2 i j) = q.w i j)

include h26 in
theorem p18 (p : Fin 512) (j : Fin 256) : k0_pay18 (F := Ideal) v26 (ix2 p j) = Ideal.ofBits .f32 0x3F800000#32 + bend ((r p).y j) := by
  unfold k0_pay18; pointwise [h26]

include h18 h26 in
theorem p19 (p : Fin 512) (j : Fin 256) : k0_pay19 (F := Ideal) v18 v26 (ix2 p j) = act ((r p).y j) := by
  unfold k0_pay19; pointwise [h18, p18 h26, act]

include h18 h26 h11

theorem p20 (p : Fin 512) (j : Fin 256) : k0_pay20 (F := Ideal) v11 v18 v26 (ix2 p j) = expo q (r p) j := by
  unfold k0_pay20; pointwise [p19 h18 h26, h11, expo]

theorem p21 (p : Fin 512) (j : Fin 256) : k0_pay21 (F := Ideal) v11 v18 v26 (ix2 p j) = Ideal.ofBits .f32 0x3F800000#32 + expo q (r p) j := by
  unfold k0_pay21; pointwise [p20 h18 h26 h11]

theorem p22 (p : Fin 512) (j : Fin 256) : k0_pay22 (F := Ideal) v11 v18 v26 (ix2 p j) = gate q (r p) j := by
  unfold k0_pay22; pointwise [p21 h18 h26 h11, gate]

theorem p23 (p : Fin 512) (j : Fin 256) : k0_pay23 (F := Ideal) v11 v18 v26 (ix2 p j)
    = Ideal.div (Ideal.ofBits .f32 0x3F800000#32)
        ((Ideal.ofBits .f32 0x3F800000#32 + expo q (r p) j) * (Ideal.ofBits .f32 0x3F800000#32 + expo q (r p) j)) := by
  unfold k0_pay23; pointwise [p21 h18 h26 h11]

theorem p24 (p : Fin 512) (j : Fin 256) : k0_pay24 (F := Ideal) v11 v18 v26 (ix2 p j) = gated q (r p) j := by
  unfold k0_pay24; pointwise [p19 h18 h26, p22 h18 h26 h11, gated]

end Gate

section Norms

variable {v0 v1 : Vec Ideal S512x384 .f32} (h0 : ∀ p j, v0 (ix2 p j) = (r p).a j) (h1 : ∀ p j, v1 (ix2 p j) = (r p).b j)
  {v48 : Vec Ideal S512x256 .f32} (h48 : ∀ p j, v48 (ix2 p j) = gated q (r p) j)
  {v5 v7 : Vec Ideal S1x384 .f32} (h5 : ∀ j, v5 (ix2 0 j) = q.ga j) (h7 : ∀ j, v7 (ix2 0 j) = q.gb j)

include h0 in
theorem p25 (p : Fin 512) : k0_pay25 (F := Ideal) v0 (ix2 p 0) = square 0x43C00000#32 (r p).a := by
  unfold k0_pay25; pointwise [h0, square]

include h0 in
theorem p26 (p : Fin 512) : k0_pay26 (F := Ideal) v0 (ix2 p 0) = unroot 0x43C00000#32 (r p).a := by
  unfold k0_pay26; pointwise [p25 h0, unroot]

include h0 in
theorem p27 (p : Fin 512) : k0_pay27 (F := Ideal) v0 (ix2 p 0)
    = Ideal.ofBits .f32 0xBF000000#32 * Ideal.div (unroot 0x43C00000#32 (r p).a) (square 0x43C00000#32 (r p).a) := by
  unfold k0_pay27; pointwise [p25 h0, p26 h0]

include h0 in
theorem p28 (p : Fin 512) (j : Fin 384) : k0_pay28 (F := Ideal) v0 (ix2 p j) = unit 0x43C00000#32 (r p).a j := by
  unfold k0_pay28; pointwise [h0, p26 h0, unit]

include h0 h5 in
theorem p29 (p : Fin 512) (j : Fin 384) : k0_pay29 (F := Ideal) v0 v5 (ix2 p j) = unit 0x43C00000#32 (r p).a j * q.ga j := by
  unfold k0_pay29; pointwise [p28 h0, h5]

include h1 in
theorem p30 (p : Fin 512) : k0_pay30 (F := Ideal) v1 (ix2 p 0) = square 0x43C00000#32 (r p).b := by
  unfold k0_pay30; pointwise [h1, square]

include h1 in
theorem p31 (p : Fin 512) : k0_pay31 (F := Ideal) v1 (ix2 p 0) = unroot 0x43C00000#32 (r p).b := by
  unfold k0_pay31; pointwise [p30 h1, unroot]

include h1 in
theorem p32 (p : Fin 512) : k0_pay32 (F := Ideal) v1 (ix2 p 0)
    = Ideal.ofBits .f32 0xBF000000#32 * Ideal.div (unroot 0x43C00000#32 (r p).b) (square 0x43C00000#32 (r p).b) := by
  unfold k0_pay32; pointwise [p30 h1, p31 h1]

include h1 in
theorem p33 (p : Fin 512) (j : Fin 384) : k0_pay33 (F := Ideal) v1 (ix2 p j) = unit 0x43C00000#32 (r p).b j := by
  unfold k0_pay33; pointwise [h1, p31 h1, unit]

include h7 in
theorem p34 (p : Fin 512) (j : Fin 384) : k0_pay34 (F := Ideal) v7 (ix2 p j) = q.gb j := by
  unfold k0_pay34; pointwise [h7]

include h48 in
theorem p35 (p : Fin 512) : k0_pay35 (F := Ideal) v48 (ix2 p 0) = square 0x43800000#32 (gated q (r p)) := by
  unfold k0_pay35; pointwise [h48, square]

include h48 in
theorem p36 (p : Fin 512) : k0_pay36 (F := Ideal) v48 (ix2 p 0) = unroot 0x43800000#32 (gated q (r p)) := by
  unfold k0_pay36; pointwise [p35 h48, unroot]

include h48 in
theorem p37 (p : Fin 512) : k0_pay37 (F := Ideal) v48 (ix2 p 0)
    = Ideal.ofBits .f32 0xBF000000#32 * Ideal.div (unroot 0x43800000#32 (gated q (r p))) (square 0x43800000#32 (gated q (r p))) := by
  unfold k0_pay37; pointwise [p35 h48, p36 h48]

include h48 in
theorem p38 (p : Fin 512) (j : Fin 256) : k0_pay38 (F := Ideal) v48 (ix2 p j) = unit 0x43800000#32 (gated q (r p)) j := by
  unfold k0_pay38; pointwise [h48, p36 h48, unit]

end Norms

section Sum

variable {v3 : Vec Ideal S512x1024 .f32} (h3 : ∀ p j, v3 (ix2 p j) = (r p).x j)
  {v9 : Vec Ideal S1x256 .f32} (h9 : ∀ j, v9 (ix2 0 j) = q.gc j)
  {v13 : Vec Ideal S1024x1024 .f32} (h13 : ∀ i j, v13 (ix2 i j) = q.o i j)
  {v16 : Vec Ideal S512x1024 .f32} (h16 : ∀ p j, v16 (ix2 p j) = (r p).d j)
  {v48 : Vec Ideal S512x256 .f32} (h48 : ∀ p j, v48 (ix2 p j) = gated q (r p) j)
  {v63 v76 v77 : Vec Ideal S512x384 .f32} (h63 : ∀ p j, v63 (ix2 p j) = unit 0x43C00000#32 (r p).a j * q.ga j)
  (h76 : ∀ p j, v76 (ix2 p j) = unit 0x43C00000#32 (r p).b j) (h77 : ∀ p j, v77 (ix2 p j) = q.gb j)

include h9 h48 h63 h76 h77

theorem p39 (p : Fin 512) (j : Fin 1024) : k0_pay39 (F := Ideal) v9 v48 v63 v76 v77 (ix2 p j) = joined q (r p) j := by
  unfold k0_pay39; pointwise [h9, p38 h48, h63, h76, h77, joined, cat]

include h3 h13

theorem p40 (p : Fin 512) (j : Fin 1024) : k0_pay40 (F := Ideal) v3 v9 v13 v48 v63 v76 v77 (ix2 p j) = dev (sum q (r p)) j := by
  unfold k0_pay40; pointwise [h3, h13, p39 h9 h48 h63 h76 h77, dev, mean, sum]

theorem p41 (p : Fin 512) : k0_pay41 (F := Ideal) v3 v9 v13 v48 v63 v76 v77 (ix2 p 0) = spread (sum q (r p)) := by
  unfold k0_pay41; pointwise [p40 h3 h9 h13 h48 h63 h76 h77, spread]

theorem p42 (p : Fin 512) : k0_pay42 (F := Ideal) v3 v9 v13 v48 v63 v76 v77 (ix2 p 0) = rinv (sum q (r p)) := by
  unfold k0_pay42; pointwise [p41 h3 h9 h13 h48 h63 h76 h77, rinv]

theorem p43 (p : Fin 512) : k0_pay43 (F := Ideal) v3 v9 v13 v48 v63 v76 v77 (ix2 p 0)
    = Ideal.ofBits .f32 0xBF000000#32 * Ideal.div (rinv (sum q (r p))) (spread (sum q (r p))) := by
  unfold k0_pay43; pointwise [p41 h3 h9 h13 h48 h63 h76 h77, p42 h3 h9 h13 h48 h63 h76 h77]

omit h9 h48 h63 h76 h77 h3 h13 in
include h16 in
theorem p44 (p : Fin 512) (j : Fin 1024) : k0_pay44 (F := Ideal) v16 (ix2 p j) = (r p).d j := by
  unfold k0_pay44; pointwise [h16]

omit h9 h48 h63 h76 h77 h3 h13 in
include h16 in
theorem p45 (j : Fin 1024) : k0_pay45 (F := Ideal) v16 (ix2 0 j) = ∑ p : Fin 512, (r p).d j := by
  unfold k0_pay45; pointwise [h16]

include h16 in
theorem p46 (p : Fin 512) (j : Fin 1024) : k0_pay46 (F := Ideal) v3 v9 v13 v16 v48 v63 v76 v77 (ix2 p j) = scale (sum q (r p)) (r p).d j := by
  unfold k0_pay46; pointwise [p40 h3 h9 h13 h48 h63 h76 h77, p42 h3 h9 h13 h48 h63 h76 h77, p44 h16, scale]

omit h9 h48 h63 h76 h77 h3 h13 in
theorem p47 {v : Vec Ideal S512x1024 .f32} (h : ∀ p j, v (ix2 p j) = scale (sum q (r p)) (r p).d j) (j : Fin 1024) :
    k0_pay47 (F := Ideal) v (ix2 0 j) = ∑ p : Fin 512, scale (sum q (r p)) (r p).d j := by
  unfold k0_pay47; pointwise [h]

end Sum

section Grads

variable {v13 : Vec Ideal S1024x1024 .f32} (h13 : ∀ i j, v13 (ix2 i j) = q.o i j)
  {v15 : Vec Ideal S1x1024 .f32} (h15 : ∀ j, v15 (ix2 0 j) = q.lg j)
  {v94 v106 v120 : Vec Ideal S512x1024 .f32} (h94 : ∀ p j, v94 (ix2 p j) = joined q (r p) j)
  (h106 : ∀ p j, v106 (ix2 p j) = dev (sum q (r p)) j) (h120 : ∀ p j, v120 (ix2 p j) = (r p).d j)
  {v114 v117 : Vec Ideal S512x1 .f32} (h114 : ∀ p, v114 (ix2 p 0) = rinv (sum q (r p)))
  (h117 : ∀ p, v117 (ix2 p 0) = Ideal.ofBits .f32 0xBF000000#32 * Ideal.div (rinv (sum q (r p))) (spread (sum q (r p))))
include h15 h106 h114 h117 h120

theorem p48 (p : Fin 512) (j : Fin 1024) : k0_pay48 (F := Ideal) v15 v106 v114 v117 v120 (ix2 p j) = sumGrad q (r p) j := by
  unfold k0_pay48; pointwise [h15, h106, h120, h114, h117, sumGrad, rowGrad, centred, lead, slant]
  simp only [Fin.sum_univ_one, h114, h117]

include h94 in
theorem p50 (i j : Fin 1024) : k0_pay50 (F := Ideal) v15 v94 v106 v114 v117 v120 (ix2 i j)
    = ∑ p : Fin 512, joined q (r p) i * sumGrad q (r p) j := by
  unfold k0_pay50; pointwise [h94, p48 h15 h106 h120 h114 h117]

theorem p51 (p : Fin 512) (j : Fin 1024) : k0_pay51 (F := Ideal) v15 v106 v114 v117 v120 (ix2 p j) = xGrad q (r p) j := by
  unfold k0_pay51; pointwise [p48 h15 h106 h120 h114 h117, xGrad]

include h13

theorem p49 (p : Fin 512) (j : Fin 1024) : k0_pay49 (F := Ideal) v13 v15 v106 v114 v117 v120 (ix2 p j) = joinGrad q (r p) j := by
  unfold k0_pay49; pointwise [h13, p48 h15 h106 h120 h114 h117, joinGrad]

theorem p52 (p : Fin 512) (j : Fin 384) : k0_pay52 (F := Ideal) v13 v15 v106 v114 v117 v120 (ix2 p j) = joinA q (r p) j := by
  unfold k0_pay52; pointwise [p49 h13 h15 h106 h120 h114 h117, joinA]

theorem p53 (p : Fin 512) (j : Fin 384) : k0_pay53 (F := Ideal) v13 v15 v106 v114 v117 v120 (ix2 p j) = joinB q (r p) j := by
  unfold k0_pay53; pointwise [p49 h13 h15 h106 h120 h114 h117, joinB]

theorem p54 (p : Fin 512) (j : Fin 256) : k0_pay54 (F := Ideal) v13 v15 v106 v114 v117 v120 (ix2 p j) = joinC q (r p) j := by
  unfold k0_pay54; pointwise [p49 h13 h15 h106 h120 h114 h117, joinC]

variable {v48 v91 : Vec Ideal S512x256 .f32} (h48 : ∀ p j, v48 (ix2 p j) = gated q (r p) j)
  (h91 : ∀ p j, v91 (ix2 p j) = unit 0x43800000#32 (gated q (r p)) j)
  {v9 : Vec Ideal S1x256 .f32} (h9 : ∀ j, v9 (ix2 0 j) = q.gc j)

include h91 in
theorem p55 (j : Fin 256) : k0_pay55 (F := Ideal) v13 v15 v91 v106 v114 v117 v120 (ix2 0 j) = ∑ p : Fin 512, gcPart q (r p) j := by
  unfold k0_pay55; pointwise [h91, p54 h13 h15 h106 h120 h114 h117, gcPart]

include h9

theorem p56 (p : Fin 512) (j : Fin 256) : k0_pay56 (F := Ideal) v9 v13 v15 v106 v114 v117 v120 (ix2 p j) = joinC q (r p) j * q.gc j := by
  unfold k0_pay56; pointwise [h9, p54 h13 h15 h106 h120 h114 h117]

include h48 in
theorem p57 (p : Fin 512) : k0_pay57 (F := Ideal) v9 v13 v15 v48 v106 v114 v117 v120 (ix2 p 0)
    = ∑ k : Fin 256, gated q (r p) k * (joinC q (r p) k * q.gc k) := by
  unfold k0_pay57; pointwise [h48, p56 h13 h15 h106 h120 h114 h117 h9]

end Grads

section Branches

variable {v48 v168 : Vec Ideal S512x256 .f32} (h48 : ∀ p j, v48 (ix2 p j) = gated q (r p) j)
  (h168 : ∀ p j, v168 (ix2 p j) = joinC q (r p) j * q.gc j)
  {v86 v89 v171 : Vec Ideal S512x1 .f32} (h86 : ∀ p, v86 (ix2 p 0) = unroot 0x43800000#32 (gated q (r p)))
  (h89 : ∀ p, v89 (ix2 p 0) = Ideal.ofBits .f32 0xBF000000#32
    * Ideal.div (unroot 0x43800000#32 (gated q (r p))) (square 0x43800000#32 (gated q (r p))))
  (h171 : ∀ p, v171 (ix2 p 0) = ∑ k : Fin 256, gated q (r p) k * (joinC q (r p) k * q.gc k))

include h48 h168 h86 h89 h171 in
theorem p58 (p : Fin 512) (j : Fin 256) : k0_pay58 (F := Ideal) v48 v86 v89 v168 v171 (ix2 p j) = gatedGrad q (r p) j := by
  unfold k0_pay58; pointwise [h48, h168, h86, h89, h171, gatedGrad, unitGrad, tilt]
  simp only [Fin.sum_univ_one, h86, h89, h171]

variable {v0 v1 v61 v76 v161 v162 : Vec Ideal S512x384 .f32} (h0 : ∀ p j, v0 (ix2 p j) = (r p).a j)
  (h1 : ∀ p j, v1 (ix2 p j) = (r p).b j) (h61 : ∀ p j, v61 (ix2 p j) = unit 0x43C00000#32 (r p).a j)
  (h76 : ∀ p j, v76 (ix2 p j) = unit 0x43C00000#32 (r p).b j) (h161 : ∀ p j, v161 (ix2 p j) = joinA q (r p) j)
  (h162 : ∀ p j, v162 (ix2 p j) = joinB q (r p) j)
  {v5 v7 : Vec Ideal S1x384 .f32} (h5 : ∀ j, v5 (ix2 0 j) = q.ga j) (h7 : ∀ j, v7 (ix2 0 j) = q.gb j)
  {v56 v59 v71 v74 : Vec Ideal S512x1 .f32} (h56 : ∀ p, v56 (ix2 p 0) = unroot 0x43C00000#32 (r p).a)
  (h59 : ∀ p, v59 (ix2 p 0) = Ideal.ofBits .f32 0xBF000000#32
    * Ideal.div (unroot 0x43C00000#32 (r p).a) (square 0x43C00000#32 (r p).a))
  (h71 : ∀ p, v71 (ix2 p 0) = unroot 0x43C00000#32 (r p).b)
  (h74 : ∀ p, v74 (ix2 p 0) = Ideal.ofBits .f32 0xBF000000#32
    * Ideal.div (unroot 0x43C00000#32 (r p).b) (square 0x43C00000#32 (r p).b))

include h76 h162 in
theorem p59 (j : Fin 384) : k0_pay59 (F := Ideal) v76 v162 (ix2 0 j) = ∑ p : Fin 512, gbPart q (r p) j := by
  unfold k0_pay59; pointwise [h76, h162, gbPart]

include h1 h7 h71 h74 h162 in
theorem p60 (p : Fin 512) (j : Fin 384) : k0_pay60 (F := Ideal) v1 v7 v71 v74 v162 (ix2 p j) = bGrad q (r p) j := by
  unfold k0_pay60; pointwise [h1, h7, h71, h74, h162, bGrad, unitGrad, tilt]
  simp only [Fin.sum_univ_one, h71, h74]

include h61 h161 in
theorem p61 (j : Fin 384) : k0_pay61 (F := Ideal) v61 v161 (ix2 0 j) = ∑ p : Fin 512, gaPart q (r p) j := by
  unfold k0_pay61; pointwise [h61, h161, gaPart]

include h5 h161 in
theorem p62 (p : Fin 512) (j : Fin 384) : k0_pay62 (F := Ideal) v5 v161 (ix2 p j) = joinA q (r p) j * q.ga j := by
  unfold k0_pay62; pointwise [h5, h161]

include h0 h5 h59 h161 in
theorem p63 (p : Fin 512) (j : Fin 384) : k0_pay63 (F := Ideal) v0 v5 v59 v161 (ix2 p j)
    = tilt 0x43C00000#32 (r p).a q.ga (joinA q (r p)) := by
  unfold k0_pay63; pointwise [h0, h59, p62 h161 h5, tilt]
  simp only [Fin.sum_univ_one, h59]

include h0 h5 h56 h59 h161 in
theorem p64 (p : Fin 512) (j : Fin 384) : k0_pay64 (F := Ideal) v0 v5 v56 v59 v161 (ix2 p j)
    = joinA q (r p) j * q.ga j * unroot 0x43C00000#32 (r p).a + (r p).a j * tilt 0x43C00000#32 (r p).a q.ga (joinA q (r p)) := by
  unfold k0_pay64; pointwise [h0, h56, p62 h161 h5, p63 h0 h161 h5 h59]

include h0 in
theorem p65 {v219 v221 : Vec Ideal S512x384 .f32}
    (h219 : ∀ p j, v219 (ix2 p j) = tilt 0x43C00000#32 (r p).a q.ga (joinA q (r p)))
    (h221 : ∀ p j, v221 (ix2 p j) = joinA q (r p) j * q.ga j * unroot 0x43C00000#32 (r p).a
      + (r p).a j * tilt 0x43C00000#32 (r p).a q.ga (joinA q (r p))) (p : Fin 512) (j : Fin 384) :
    k0_pay65 (F := Ideal) v0 v219 v221 (ix2 p j) = aGrad q (r p) j := by
  unfold k0_pay65; pointwise [h0, h219, h221, aGrad, unitGrad]

end Branches

section Third

variable {v34 v40 v47 v183 : Vec Ideal S512x256 .f32} (h34 : ∀ p j, v34 (ix2 p j) = act ((r p).y j))
  (h40 : ∀ p j, v40 (ix2 p j) = expo q (r p) j)
  (h47 : ∀ p j, v47 (ix2 p j) = Ideal.div (Ideal.ofBits .f32 0x3F800000#32)
    ((Ideal.ofBits .f32 0x3F800000#32 + expo q (r p) j) * (Ideal.ofBits .f32 0x3F800000#32 + expo q (r p) j)))
  (h183 : ∀ p j, v183 (ix2 p j) = gatedGrad q (r p) j)
include h34 h40 h47 h183

theorem p66 (p : Fin 512) (j : Fin 256) : k0_pay66 (F := Ideal) v34 v40 v47 v183 (ix2 p j) = argGrad q (r p) j := by
  unfold k0_pay66; pointwise [h34, h40, h47, h183, argGrad]

theorem p67 (i j : Fin 256) : k0_pay67 (F := Ideal) v34 v40 v47 v183 (ix2 i j) = ∑ p : Fin 512, act ((r p).y i) * argGrad q (r p) j := by
  unfold k0_pay67; pointwise [h34, p66 h34 h40 h47 h183]

theorem p68 {v2 v18 v19 v31 v33 v44 : Vec Ideal S512x256 .f32} {v11 : Vec Ideal S256x256 .f32}
    (h2 : ∀ p j, v2 (ix2 p j) = (r p).y j) (h11 : ∀ i j, v11 (ix2 i j) = q.w i j)
    (h18 : ∀ p j, v18 (ix2 p j) = Ideal.ofBits .f32 0x3F000000#32 * (r p).y j)
    (h19 : ∀ p j, v19 (ix2 p j) = (r p).y j * (r p).y j)
    (h31 : ∀ p j, v31 (ix2 p j)
      = (Ideal.ofBits .f32 0x3F800000#32 + bend ((r p).y j)) * (Ideal.ofBits .f32 0x3F800000#32 - bend ((r p).y j)))
    (h33 : ∀ p j, v33 (ix2 p j) = Ideal.ofBits .f32 0x3F800000#32 + bend ((r p).y j))
    (h44 : ∀ p j, v44 (ix2 p j) = gate q (r p) j) (p : Fin 512) (j : Fin 256) :
    k0_pay68 (F := Ideal) v2 v11 v18 v19 v31 v33 v34 v40 v44 v47 v183 (ix2 p j) = yGrad q (r p) j := by
  unfold k0_pay68; pointwise [h2, h11, h18, h19, h31, h33, h44, h183, p66 h34 h40 h47 h183, yGrad, core, actGrad]

end Third

end Values

section Body

variable (u : Blocks)

/-- The values the body computes from the blocks, named by what they are. -/
def bAct : FVec Ideal S512x256 .f32 := k0_pay19 (k0_pay14 u.v2) (k0_pay16 u.v2)
def bExpo : FVec Ideal S512x256 .f32 := k0_pay20 (k0_pay11 u.v10) (k0_pay14 u.v2) (k0_pay16 u.v2)
def bGate : FVec Ideal S512x256 .f32 := k0_pay22 (k0_pay11 u.v10) (k0_pay14 u.v2) (k0_pay16 u.v2)
def bSlope : FVec Ideal S512x256 .f32 := k0_pay23 (k0_pay11 u.v10) (k0_pay14 u.v2) (k0_pay16 u.v2)
def bGated : FVec Ideal S512x256 .f32 := k0_pay24 (k0_pay11 u.v10) (k0_pay14 u.v2) (k0_pay16 u.v2)
def bJoined : FVec Ideal S512x1024 .f32 :=
  k0_pay39 (k0_pay10 u.v8) (bGated u) (k0_pay29 u.v0 (k0_pay8 u.v4)) (k0_pay33 u.v1) (k0_pay34 (k0_pay9 u.v6))
def bDev : FVec Ideal S512x1024 .f32 :=
  k0_pay40 u.v3 (k0_pay10 u.v8) (k0_pay12 u.v12) (bGated u) (k0_pay29 u.v0 (k0_pay8 u.v4)) (k0_pay33 u.v1) (k0_pay34 (k0_pay9 u.v6))
def bInv : FVec Ideal S512x1 .f32 :=
  k0_pay42 u.v3 (k0_pay10 u.v8) (k0_pay12 u.v12) (bGated u) (k0_pay29 u.v0 (k0_pay8 u.v4)) (k0_pay33 u.v1) (k0_pay34 (k0_pay9 u.v6))
def bFall : FVec Ideal S512x1 .f32 :=
  k0_pay43 u.v3 (k0_pay10 u.v8) (k0_pay12 u.v12) (bGated u) (k0_pay29 u.v0 (k0_pay8 u.v4)) (k0_pay33 u.v1) (k0_pay34 (k0_pay9 u.v6))
def bJoinA : FVec Ideal S512x384 .f32 :=
  k0_pay52 (k0_pay12 u.v12) (k0_pay13 u.v14) (bDev u) (bInv u) (bFall u) (k0_pay44 u.v16)
def bJoinB : FVec Ideal S512x384 .f32 :=
  k0_pay53 (k0_pay12 u.v12) (k0_pay13 u.v14) (bDev u) (bInv u) (bFall u) (k0_pay44 u.v16)
def bGatedGrad : FVec Ideal S512x256 .f32 :=
  k0_pay58 (bGated u) (k0_pay36 (bGated u)) (k0_pay37 (bGated u))
    (k0_pay56 (k0_pay10 u.v8) (k0_pay12 u.v12) (k0_pay13 u.v14) (bDev u) (bInv u) (bFall u) (k0_pay44 u.v16))
    (k0_pay57 (k0_pay10 u.v8) (k0_pay12 u.v12) (k0_pay13 u.v14) (bGated u) (bDev u) (bInv u) (bFall u) (k0_pay44 u.v16))

/-- What the body stores or adds to what is stored. -/
def outA : FVec Ideal S512x384 .f32 :=
  k0_pay65 u.v0 (k0_pay63 u.v0 (k0_pay8 u.v4) (k0_pay27 u.v0) (bJoinA u))
    (k0_pay64 u.v0 (k0_pay8 u.v4) (k0_pay26 u.v0) (k0_pay27 u.v0) (bJoinA u))
def outB : FVec Ideal S512x384 .f32 := k0_pay60 u.v1 (k0_pay9 u.v6) (k0_pay31 u.v1) (k0_pay32 u.v1) (bJoinB u)
def outY : FVec Ideal S512x256 .f32 :=
  k0_pay68 u.v2 (k0_pay11 u.v10) (k0_pay14 u.v2) (k0_pay15 u.v2) (k0_pay17 u.v2) (k0_pay18 (k0_pay16 u.v2)) (bAct u) (bExpo u)
    (bGate u) (bSlope u) (bGatedGrad u)
def outX : FVec Ideal S512x1024 .f32 := k0_pay51 (k0_pay13 u.v14) (bDev u) (bInv u) (bFall u) (k0_pay44 u.v16)
def outGa : FVec Ideal S1x384 .f32 := k0_pay61 (k0_pay28 u.v0) (bJoinA u)
def outGb : FVec Ideal S1x384 .f32 := k0_pay59 (k0_pay33 u.v1) (bJoinB u)
def outGc : FVec Ideal S1x256 .f32 :=
  k0_pay55 (k0_pay12 u.v12) (k0_pay13 u.v14) (k0_pay38 (bGated u)) (bDev u) (bInv u) (bFall u) (k0_pay44 u.v16)
def outW : FVec Ideal S256x256 .f32 := k0_pay67 (bAct u) (bExpo u) (bSlope u) (bGatedGrad u)
def outO : FVec Ideal S1024x1024 .f32 :=
  k0_pay50 (k0_pay13 u.v14) (bJoined u) (bDev u) (bInv u) (bFall u) (k0_pay44 u.v16)
def outLg : FVec Ideal S1x1024 .f32 :=
  k0_pay47 (k0_pay46 u.v3 (k0_pay10 u.v8) (k0_pay12 u.v12) u.v16 (bGated u) (k0_pay29 u.v0 (k0_pay8 u.v4)) (k0_pay33 u.v1)
    (k0_pay34 (k0_pay9 u.v6)))
def outLb : FVec Ideal S1x1024 .f32 := k0_pay45 u.v16

variable {u} {q : Par} {r : Fin 512 → Inp} (h : Holds q r u)
include h

theorem act_at (p : Fin 512) (j : Fin 256) : bAct u (ix2 p j) = act ((r p).y j) := p19 (p14 h.y) (p16 h.y) p j

theorem expo_at (p : Fin 512) (j : Fin 256) : bExpo u (ix2 p j) = expo q (r p) j :=
  p20 (p14 h.y) (p16 h.y) (p11 h.w) p j

theorem gate_at (p : Fin 512) (j : Fin 256) : bGate u (ix2 p j) = gate q (r p) j :=
  p22 (p14 h.y) (p16 h.y) (p11 h.w) p j

theorem gated_at (p : Fin 512) (j : Fin 256) : bGated u (ix2 p j) = gated q (r p) j :=
  p24 (p14 h.y) (p16 h.y) (p11 h.w) p j

theorem joined_at (p : Fin 512) (j : Fin 1024) : bJoined u (ix2 p j) = joined q (r p) j :=
  p39 (p10 h.gc) (gated_at h) (p29 h.a (p8 h.ga)) (p33 h.b) (p34 (p9 h.gb)) p j

theorem dev_at (p : Fin 512) (j : Fin 1024) : bDev u (ix2 p j) = dev (sum q (r p)) j :=
  p40 h.x (p10 h.gc) (p12 h.o) (gated_at h) (p29 h.a (p8 h.ga)) (p33 h.b) (p34 (p9 h.gb)) p j

theorem inv_at (p : Fin 512) : bInv u (ix2 p 0) = rinv (sum q (r p)) :=
  p42 h.x (p10 h.gc) (p12 h.o) (gated_at h) (p29 h.a (p8 h.ga)) (p33 h.b) (p34 (p9 h.gb)) p

theorem fall_at (p : Fin 512) :
    bFall u (ix2 p 0) = Ideal.ofBits .f32 0xBF000000#32 * Ideal.div (rinv (sum q (r p))) (spread (sum q (r p))) :=
  p43 h.x (p10 h.gc) (p12 h.o) (gated_at h) (p29 h.a (p8 h.ga)) (p33 h.b) (p34 (p9 h.gb)) p

theorem joinA_at (p : Fin 512) (j : Fin 384) : bJoinA u (ix2 p j) = joinA q (r p) j :=
  p52 (p12 h.o) (p13 h.lg) (dev_at h) (p44 h.d) (inv_at h) (fall_at h) p j

theorem joinB_at (p : Fin 512) (j : Fin 384) : bJoinB u (ix2 p j) = joinB q (r p) j :=
  p53 (p12 h.o) (p13 h.lg) (dev_at h) (p44 h.d) (inv_at h) (fall_at h) p j

theorem gatedGrad_at (p : Fin 512) (j : Fin 256) : bGatedGrad u (ix2 p j) = gatedGrad q (r p) j :=
  p58 (gated_at h) (p56 (p12 h.o) (p13 h.lg) (dev_at h) (p44 h.d) (inv_at h) (fall_at h) (p10 h.gc)) (p36 (gated_at h))
    (p37 (gated_at h)) (p57 (p12 h.o) (p13 h.lg) (dev_at h) (p44 h.d) (inv_at h) (fall_at h) (gated_at h) (p10 h.gc)) p j

theorem outA_at (p : Fin 512) (j : Fin 384) : outA u (ix2 p j) = aGrad q (r p) j :=
  p65 h.a (p63 h.a (joinA_at h) (p8 h.ga) (p27 h.a)) (p64 h.a (joinA_at h) (p8 h.ga) (p26 h.a) (p27 h.a)) p j

theorem outB_at (p : Fin 512) (j : Fin 384) : outB u (ix2 p j) = bGrad q (r p) j :=
  p60 h.b (joinB_at h) (p9 h.gb) (p31 h.b) (p32 h.b) p j

theorem outY_at (p : Fin 512) (j : Fin 256) : outY u (ix2 p j) = yGrad q (r p) j :=
  p68 (act_at h) (expo_at h) (p23 (p14 h.y) (p16 h.y) (p11 h.w)) (gatedGrad_at h) h.y (p11 h.w) (p14 h.y) (p15 h.y) (p17 h.y)
    (p18 (p16 h.y)) (gate_at h) p j

theorem outX_at (p : Fin 512) (j : Fin 1024) : outX u (ix2 p j) = xGrad q (r p) j :=
  p51 (p13 h.lg) (dev_at h) (p44 h.d) (inv_at h) (fall_at h) p j

theorem outGa_at (j : Fin 384) : outGa u (ix2 0 j) = ∑ p : Fin 512, gaPart q (r p) j := p61 (p28 h.a) (joinA_at h) j

theorem outGb_at (j : Fin 384) : outGb u (ix2 0 j) = ∑ p : Fin 512, gbPart q (r p) j := p59 (p33 h.b) (joinB_at h) j

theorem outGc_at (j : Fin 256) : outGc u (ix2 0 j) = ∑ p : Fin 512, gcPart q (r p) j :=
  p55 (p12 h.o) (p13 h.lg) (dev_at h) (p44 h.d) (inv_at h) (fall_at h) (p38 (gated_at h)) j

theorem outW_at (i j : Fin 256) : outW u (ix2 i j) = ∑ p : Fin 512, act ((r p).y i) * argGrad q (r p) j :=
  p67 (act_at h) (expo_at h) (p23 (p14 h.y) (p16 h.y) (p11 h.w)) (gatedGrad_at h) i j

theorem outO_at (i j : Fin 1024) : outO u (ix2 i j) = ∑ p : Fin 512, joined q (r p) i * sumGrad q (r p) j :=
  p50 (p13 h.lg) (joined_at h) (dev_at h) (p44 h.d) (inv_at h) (fall_at h) i j

theorem outLg_at (j : Fin 1024) : outLg u (ix2 0 j) = ∑ p : Fin 512, scale (sum q (r p)) (r p).d j :=
  p47 (p46 h.x (p10 h.gc) (p12 h.o) h.d (gated_at h) (p29 h.a (p8 h.ga)) (p33 h.b) (p34 (p9 h.gb))) j

theorem outLb_at (j : Fin 1024) : outLb u (ix2 0 j) = ∑ p : Fin 512, (r p).d j := p45 h.d j

end Body

end Cert.MixKernelIdeal.Value

end
-- ==== Proof.MixValue.lean ====
/-
  What the mixing output's backward call leaves in its eleven results, at the extended reals: the gradients of the three
  branches and of the residual input row by row, and those of the parameters, summed over the eight row blocks.
-/
module

public import proofs.«01_k».proof.Proof.MixBody
public import Idealize.ShloMosaic.Lib.Pipeline.ValueKit

@[expose] public section

set_option maxRecDepth 16384

noncomputable section

namespace Cert.MixKernelIdeal.Value

open Idealize.ShloMosaic Idealize.ShloMosaic.TcCoe Idealize.SL.Sem
open Idealize.ShloMosaic.Pipeline (Dat)
open Cert.MixKernelIdeal Cert.MixKernelIdeal.Gen
open Cert.Mix
open Cert.NormKernelIdeal.Value (Row scale)

variable (m : (ℓ : Loc nD τ sig) → Buf (Elt Ideal) ℓ)

theorem V_v1 (c : Dev nD) (i : S1x384.Idx) :
    V m c main_v1 i = m ((c.tc : Thread nD τ).loc main_arg4) (ix1 ⟨(i 1).val, by have := (i 1).isLt; simp at this; omega⟩) := by
  idx_vars i
  unfold_abbrev_sides
  after_results
  pointwise []

theorem V_v2 (c : Dev nD) (i : S1x384.Idx) :
    V m c main_v2 i = m ((c.tc : Thread nD τ).loc main_arg4) (ix1 ⟨384 + (i 1).val, by have := (i 1).isLt; simp at this; omega⟩) := by
  idx_vars i
  unfold_abbrev_sides
  after_results
  pointwise []

theorem V_v3 (c : Dev nD) (i : S1x256.Idx) :
    V m c main_v3 i = m ((c.tc : Thread nD τ).loc main_arg4) (ix1 ⟨768 + (i 1).val, by have := (i 1).isLt; simp at this; omega⟩) := by
  idx_vars i
  unfold_abbrev_sides
  after_results
  pointwise []

theorem V_v5 (c : Dev nD) (i : S256x256.Idx) : V m c main_v5 i = m ((c.tc : Thread nD τ).loc main_arg5) i := by
  idx_vars i
  unfold_abbrev_sides
  after_results
  pointwise []

theorem V_v7 (c : Dev nD) (i : S1024x1024.Idx) : V m c main_v7 i = m ((c.tc : Thread nD τ).loc main_arg6) i := by
  idx_vars i
  unfold_abbrev_sides
  after_results
  pointwise []

theorem V_v8 (c : Dev nD) (i : S1x1024.Idx) : V m c main_v8 i = m ((c.tc : Thread nD τ).loc main_arg7) (ix1 (i 1)) := by
  idx_vars i
  unfold_abbrev_sides
  after_results
  pointwise []

/-- Where the blocks of the row windows lie at a grid point. -/
theorem idxRows : ∀ t : Fin cfg0.N, win0_0.index t = ![t.val, 0] ∧ win0_1.index t = ![t.val, 0] ∧ win0_2.index t = ![t.val, 0]
    ∧ win0_3.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_11.index t = ![t.val, 0]
    ∧ win0_12.index t = ![t.val, 0] ∧ win0_13.index t = ![t.val, 0] ∧ win0_14.index t = ![t.val, 0]
    ∧ win0_15.index t = ![t.val, 0])

/-- Where the parameters' windows lie. -/
theorem idxPars : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0])

/-- A row of the array a row of a block is. -/
def row (t : Fin cfg0.N) (p : Fin 512) : Fin 4096 := ⟨t.val * 512 + p.val, by have := lt_of_lt_of_eq t.isLt N_0; omega⟩

/-- The parameters the call is given. -/
def par (c : Dev nD) : Par where
  ga := fun j => m ((c.tc : Thread nD τ).loc main_arg4) (ix1 ⟨j.val, by omega⟩)
  gb := fun j => m ((c.tc : Thread nD τ).loc main_arg4) (ix1 ⟨384 + j.val, by omega⟩)
  gc := fun j => m ((c.tc : Thread nD τ).loc main_arg4) (ix1 ⟨768 + j.val, by omega⟩)
  w := fun i j => m ((c.tc : Thread nD τ).loc main_arg5) (ix2 i j)
  o := fun i j => m ((c.tc : Thread nD τ).loc main_arg6) (ix2 i j)
  lg := fun j => m ((c.tc : Thread nD τ).loc main_arg7) (ix1 j)

/-- The rows it is given. -/
def inp (c : Dev nD) (r : Fin 4096) : Inp where
  a := fun j => m ((c.tc : Thread nD τ).loc main_arg0) (ix2 r j)
  b := fun j => m ((c.tc : Thread nD τ).loc main_arg1) (ix2 r j)
  y := fun j => m ((c.tc : Thread nD τ).loc main_arg2) (ix2 r j)
  x := fun j => m ((c.tc : Thread nD τ).loc main_arg3) (ix2 r j)
  d := fun j => m ((c.tc : Thread nD τ).loc main_arg9) (ix2 r j)

theorem blk0 (c : Dev nD) (t : Fin cfg0.N) (p : Fin 512) (k : Fin 384) : iblk m c 0 t (ix2 p k) = (inp m c (row t p)).a k := by
  show iblk m c 0 t (ix2 p k) = m ((c.tc : Thread nD τ).loc main_arg0) (ix2 (row t p) k)
  blk_point [iblk, V_main_arg0, row, idxRows t]

theorem blk1 (c : Dev nD) (t : Fin cfg0.N) (p : Fin 512) (k : Fin 384) : iblk m c 1 t (ix2 p k) = (inp m c (row t p)).b k := by
  show iblk m c 1 t (ix2 p k) = m ((c.tc : Thread nD τ).loc main_arg1) (ix2 (row t p) k)
  blk_point [iblk, V_main_arg1, row, idxRows t]

theorem blk2 (c : Dev nD) (t : Fin cfg0.N) (p : Fin 512) (k : Fin 256) : iblk m c 2 t (ix2 p k) = (inp m c (row t p)).y k := by
  show iblk m c 2 t (ix2 p k) = m ((c.tc : Thread nD τ).loc main_arg2) (ix2 (row t p) k)
  blk_point [iblk, V_main_arg2, row, idxRows t]

theorem blk3 (c : Dev nD) (t : Fin cfg0.N) (p : Fin 512) (k : Fin 1024) : iblk m c 3 t (ix2 p k) = (inp m c (row t p)).x k := by
  show iblk m c 3 t (ix2 p k) = m ((c.tc : Thread nD τ).loc main_arg3) (ix2 (row t p) k)
  blk_point [iblk, V_main_arg3, row, idxRows t]

theorem blk4 (c : Dev nD) (t : Fin cfg0.N) (k : Fin 384) : iblk m c 4 t (ix2 0 k) = (par m c).ga k := by
  refine Eq.trans ?_ (V_v1 m c (ix2 0 k))
  blk_point [iblk, idxPars t]

theorem blk5 (c : Dev nD) (t : Fin cfg0.N) (k : Fin 384) : iblk m c 5 t (ix2 0 k) = (par m c).gb k := by
  refine Eq.trans ?_ (V_v2 m c (ix2 0 k))
  blk_point [iblk, idxPars t]

theorem blk6 (c : Dev nD) (t : Fin cfg0.N) (k : Fin 256) : iblk m c 6 t (ix2 0 k) = (par m c).gc k := by
  refine Eq.trans ?_ (V_v3 m c (ix2 0 k))
  blk_point [iblk, idxPars t]

theorem blk7 (c : Dev nD) (t : Fin cfg0.N) (i k : Fin 256) : iblk m c 7 t (ix2 i k) = (par m c).w i k := by
  refine Eq.trans ?_ (V_v5 m c (ix2 i k))
  blk_point [iblk, idxPars t]

theorem blk8 (c : Dev nD) (t : Fin cfg0.N) (i k : Fin 1024) : iblk m c 8 t (ix2 i k) = (par m c).o i k := by
  refine Eq.trans ?_ (V_v7 m c (ix2 i k))
  blk_point [iblk, idxPars t]

theorem blk9 (c : Dev nD) (t : Fin cfg0.N) (k : Fin 1024) : iblk m c 9 t (ix2 0 k) = (par m c).lg k := by
  refine Eq.trans ?_ (V_v8 m c (ix2 0 k))
  blk_point [iblk, idxPars t]

theorem blk11 (c : Dev nD) (t : Fin cfg0.N) (p : Fin 512) (k : Fin 1024) : iblk m c 11 t (ix2 p k) = (inp m c (row t p)).d k := by
  show iblk m c 11 t (ix2 p k) = m ((c.tc : Thread nD τ).loc main_arg9) (ix2 (row t p) k)
  blk_point [iblk, V_main_arg9, row, idxRows t]

section Steps

theorem step1 (u v : FVec Ideal S1x384 .f32) (j : S1x384.Idx) : k0_pay1 (F := Ideal) u v j = v j + u j := by
  unfold k0_pay1; pointwise []

theorem step2 (u v : FVec Ideal S1x384 .f32) (j : S1x384.Idx) : k0_pay2 (F := Ideal) u v j = v j + u j := by
  unfold k0_pay2; pointwise []

theorem step3 (u v : FVec Ideal S1x256 .f32) (j : S1x256.Idx) : k0_pay3 (F := Ideal) u v j = v j + u j := by
  unfold k0_pay3; pointwise []

theorem step4 (u v : FVec Ideal S256x256 .f32) (j : S256x256.Idx) : k0_pay4 (F := Ideal) u v j = v j + u j := by
  unfold k0_pay4; pointwise []

theorem step5 (u v : FVec Ideal S1024x1024 .f32) (j : S1024x1024.Idx) : k0_pay5 (F := Ideal) u v j = v j + u j := by
  unfold k0_pay5; pointwise []

theorem step6 (u v : FVec Ideal S1x1024 .f32) (j : S1x1024.Idx) : k0_pay6 (F := Ideal) u v j = v j + u j := by
  unfold k0_pay6; pointwise []

theorem step7 (u v : FVec Ideal S1x1024 .f32) (j : S1x1024.Idx) : k0_pay7 (F := Ideal) u v j = v j + u j := by
  unfold k0_pay7; pointwise []

end Steps

/-- The blocks at a grid point. -/
def blks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t,
    iblk m c 9 t, iblk m c 11 t⟩

theorem holds (c : Dev nD) (t : Fin cfg0.N) : Holds (par m c) (fun p => inp m c (row t p)) (blks m c t) :=
  ⟨blk0 m c t, blk1 m c t, blk2 m c t, blk3 m c t, blk4 m c t, blk5 m c t, blk6 m c t, blk7 m c t, blk8 m c t, blk9 m c t,
    blk11 m c t⟩

/-- What the first grid point leaves. -/
theorem outs_A (c : Dev nD) (t : Fin cfg0.N) (h0 : t.val % 8 = 0) (h1 : ¬1 ≤ t.val) : outsAt0 m c t.val t.isLt
    = (outA (blks m c t),
      outB (blks m c t),
      outY (blks m c t),
      outX (blks m c t),
      outGa (blks m c t),
      outGb (blks m c t),
      outGc (blks m c t),
      outW (blks m c t),
      outO (blks m c t),
      outLg (blks m c t),
      outLb (blks m c t)) := by
  rw [outsAt0_A m c t h0 h1]
  frame_out
  simp only [outA, outB, outY, outX, outGa, outGb, outGc, outW, outO, outLg, outLb, bAct, bExpo, bGate, bSlope, bGated, bJoined,
    bDev, bInv, bFall, bJoinA, bJoinB, bGatedGrad, blks]

/-- What each later grid point leaves. -/
theorem outs_B (c : Dev nD) (t : Fin cfg0.N) (h0 : ¬t.val % 8 = 0) (h1 : 1 ≤ t.val) : outsAt0 m c t.val t.isLt
    = (outA (blks m c t),
      outB (blks m c t),
      outY (blks m c t),
      outX (blks m c t),
      k0_pay1 (F := Ideal) (outGa (blks m c t)) (outsAt0 m c (t.val - 1) (by omega)).2.2.2.2.1,
      k0_pay2 (F := Ideal) (outGb (blks m c t)) (outsAt0 m c (t.val - 1) (by omega)).2.2.2.2.2.1,
      k0_pay3 (F := Ideal) (outGc (blks m c t)) (outsAt0 m c (t.val - 1) (by omega)).2.2.2.2.2.2.1,
      k0_pay4 (F := Ideal) (outW (blks m c t)) (outsAt0 m c (t.val - 1) (by omega)).2.2.2.2.2.2.2.1,
      k0_pay5 (F := Ideal) (outO (blks m c t)) (outsAt0 m c (t.val - 1) (by omega)).2.2.2.2.2.2.2.2.1,
      k0_pay6 (F := Ideal) (outLg (blks m c t)) (outsAt0 m c (t.val - 1) (by omega)).2.2.2.2.2.2.2.2.2.1,
      k0_pay7 (F := Ideal) (outLb (blks m c t)) (outsAt0 m c (t.val - 1) (by omega)).2.2.2.2.2.2.2.2.2.2) := by
  rw [outsAt0_B m c t h0 h1]
  frame_out
  simp only [outA, outB, outY, outX, outGa, outGb, outGc, outW, outO, outLg, outLb, bAct, bExpo, bGate, bSlope, bGated, bJoined,
    bDev, bInv, bFall, bJoinA, bJoinB, bGatedGrad, blks]

/-- The gradient of the first branch. -/
def arrA (c : Dev nD) : Vec Ideal S4096x384 .f32 := fun i => aGrad (par m c) (inp m c (i 0)) (i 1)

/-- The gradient of the second branch. -/
def arrB (c : Dev nD) : Vec Ideal S4096x384 .f32 := fun i => bGrad (par m c) (inp m c (i 0)) (i 1)

/-- The gradient of the third branch. -/
def arrY (c : Dev nD) : Vec Ideal S4096x256 .f32 := fun i => yGrad (par m c) (inp m c (i 0)) (i 1)

/-- The gradient of the residual input. -/
def arrX (c : Dev nD) : Vec Ideal S4096x1024 .f32 := fun i => xGrad (par m c) (inp m c (i 0)) (i 1)

/-- A row's part in the gradient of the first norm's scale. -/
def partGa (c : Dev nD) (r : Fin 4096) (i : S1x384.Idx) : EReal := gaPart (par m c) (inp m c r) (i 1)

/-- The gradient of the first norm's scale. -/
def arrGa (c : Dev nD) : Vec Ideal S1x384 .f32 := fun i =>
  ∑ t : Fin 8, ∑ p : Fin 512, partGa m c ⟨t.val * 512 + p.val, by omega⟩ i

/-- A row's part in the gradient of the second norm's scale. -/
def partGb (c : Dev nD) (r : Fin 4096) (i : S1x384.Idx) : EReal := gbPart (par m c) (inp m c r) (i 1)

/-- The gradient of the second norm's scale. -/
def arrGb (c : Dev nD) : Vec Ideal S1x384 .f32 := fun i =>
  ∑ t : Fin 8, ∑ p : Fin 512, partGb m c ⟨t.val * 512 + p.val, by omega⟩ i

/-- A row's part in the gradient of the third norm's scale. -/
def partGc (c : Dev nD) (r : Fin 4096) (i : S1x256.Idx) : EReal := gcPart (par m c) (inp m c r) (i 1)

/-- The gradient of the third norm's scale. -/
def arrGc (c : Dev nD) : Vec Ideal S1x256 .f32 := fun i =>
  ∑ t : Fin 8, ∑ p : Fin 512, partGc m c ⟨t.val * 512 + p.val, by omega⟩ i

/-- A row's part in the gradient of the gate's weights. -/
def partW (c : Dev nD) (r : Fin 4096) (i : S256x256.Idx) : EReal := act ((inp m c r).y (i 0)) * argGrad (par m c) (inp m c r) (i 1)

/-- The gradient of the gate's weights. -/
def arrW (c : Dev nD) : Vec Ideal S256x256 .f32 := fun i =>
  ∑ t : Fin 8, ∑ p : Fin 512, partW m c ⟨t.val * 512 + p.val, by omega⟩ i

/-- A row's part in the gradient of the output weights. -/
def partO (c : Dev nD) (r : Fin 4096) (i : S1024x1024.Idx) : EReal := joined (par m c) (inp m c r) (i 0) * sumGrad (par m c) (inp m c r) (i 1)

/-- The gradient of the output weights. -/
def arrO (c : Dev nD) : Vec Ideal S1024x1024 .f32 := fun i =>
  ∑ t : Fin 8, ∑ p : Fin 512, partO m c ⟨t.val * 512 + p.val, by omega⟩ i

/-- A row's part in the gradient of the layer norm's scale. -/
def partLg (c : Dev nD) (r : Fin 4096) (i : S1x1024.Idx) : EReal := scale (sum (par m c) (inp m c r)) (inp m c r).d (i 1)

/-- The gradient of the layer norm's scale. -/
def arrLg (c : Dev nD) : Vec Ideal S1x1024 .f32 := fun i =>
  ∑ t : Fin 8, ∑ p : Fin 512, partLg m c ⟨t.val * 512 + p.val, by omega⟩ i

/-- A row's part in the gradient of the layer norm's shift. -/
def partLb (c : Dev nD) (r : Fin 4096) (i : S1x1024.Idx) : EReal := (inp m c r).d (i 1)

/-- The gradient of the layer norm's shift. -/
def arrLb (c : Dev nD) : Vec Ideal S1x1024 .f32 := fun i =>
  ∑ t : Fin 8, ∑ p : Fin 512, partLb m c ⟨t.val * 512 + p.val, by omega⟩ i

theorem arr12 (c : Dev nD) : (dats m 0 c).arrAt 12 cfg0.N = arrA m c := by
  refine (dats m 0 c).arrAt_eq_of_covers 12 _ (by decide +kernel) fun t hf y => ?_
  blk_simp
  rw [after0_12]
  idx_vars y
  have e : outA (blks m c t) (ix2 y0 y1) = arrA m c (ix2 (row t y0) y1) := outA_at (holds m c t) y0 y1
  generalize arrA m c = X at e ⊢
  by_cases h0 : t.val % 8 = 0
  · have h1 : ¬1 ≤ t.val := by have := lt_of_lt_of_eq t.isLt N_0; omega
    rw [outs_A m c t h0 h1]
    refine e.trans ?_
    blk_point [row, idxRows t]
  · have h1 : 1 ≤ t.val := by omega
    rw [outs_B m c t h0 h1]
    refine e.trans ?_
    blk_point [row, idxRows t]

theorem arr13 (c : Dev nD) : (dats m 0 c).arrAt 13 cfg0.N = arrB m c := by
  refine (dats m 0 c).arrAt_eq_of_covers 13 _ (by decide +kernel) fun t hf y => ?_
  blk_simp
  rw [after0_13]
  idx_vars y
  have e : outB (blks m c t) (ix2 y0 y1) = arrB m c (ix2 (row t y0) y1) := outB_at (holds m c t) y0 y1
  generalize arrB m c = X at e ⊢
  by_cases h0 : t.val % 8 = 0
  · have h1 : ¬1 ≤ t.val := by have := lt_of_lt_of_eq t.isLt N_0; omega
    rw [outs_A m c t h0 h1]
    refine e.trans ?_
    blk_point [row, idxRows t]
  · have h1 : 1 ≤ t.val := by omega
    rw [outs_B m c t h0 h1]
    refine e.trans ?_
    blk_point [row, idxRows t]

theorem arr14 (c : Dev nD) : (dats m 0 c).arrAt 14 cfg0.N = arrY m c := by
  refine (dats m 0 c).arrAt_eq_of_covers 14 _ (by decide +kernel) fun t hf y => ?_
  blk_simp
  rw [after0_14]
  idx_vars y
  have e : outY (blks m c t) (ix2 y0 y1) = arrY m c (ix2 (row t y0) y1) := outY_at (holds m c t) y0 y1
  generalize arrY m c = X at e ⊢
  by_cases h0 : t.val % 8 = 0
  · have h1 : ¬1 ≤ t.val := by have := lt_of_lt_of_eq t.isLt N_0; omega
    rw [outs_A m c t h0 h1]
    refine e.trans ?_
    blk_point [row, idxRows t]
  · have h1 : 1 ≤ t.val := by omega
    rw [outs_B m c t h0 h1]
    refine e.trans ?_
    blk_point [row, idxRows t]

theorem arr15 (c : Dev nD) : (dats m 0 c).arrAt 15 cfg0.N = arrX m c := by
  refine (dats m 0 c).arrAt_eq_of_covers 15 _ (by decide +kernel) fun t hf y => ?_
  blk_simp
  rw [after0_15]
  idx_vars y
  have e : outX (blks m c t) (ix2 y0 y1) = arrX m c (ix2 (row t y0) y1) := outX_at (holds m c t) y0 y1
  generalize arrX m c = X at e ⊢
  by_cases h0 : t.val % 8 = 0
  · have h1 : ¬1 ≤ t.val := by have := lt_of_lt_of_eq t.isLt N_0; omega
    rw [outs_A m c t h0 h1]
    refine e.trans ?_
    blk_point [row, idxRows t]
  · have h1 : 1 ≤ t.val := by omega
    rw [outs_B m c t h0 h1]
    refine e.trans ?_
    blk_point [row, idxRows t]

theorem arr16 (c : Dev nD) : (dats m 0 c).arrAt 16 cfg0.N = arrGa m c := by
  refine (dats m 0 c).arrAt_eq_of_after_last 16 t0_7 (by decide +kernel) _ fun j => ?_
  blk_simp
  have e : ∀ (t : Fin cfg0.N) (j : S1x384.Idx), outGa (blks m c t) j = ∑ p : Fin 512, partGa m c (row t p) j := fun t j => by
    idx_vars j
    rw [Subsingleton.elim j0 0]
    exact outGa_at (holds m c t) j1
  rw [after0_16, Pipeline.eq_sum_fin_of_reset_step_apply_last (fun n h => (outsAt0 m c n h).2.2.2.2.1) 8 (fun _ => 0)
    (fun t j => ∑ p : Fin 512, partGa m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partGa m c (row t p) j) = X at e' ⊢
      rw [outs_B m c t h h1]; rw [← e']; exact step1 _ _ j)
    (le_of_eq N_0) t0_7 rfl j, zero_add]
  rfl

theorem arr17 (c : Dev nD) : (dats m 0 c).arrAt 17 cfg0.N = arrGb m c := by
  refine (dats m 0 c).arrAt_eq_of_after_last 17 t0_7 (by decide +kernel) _ fun j => ?_
  blk_simp
  have e : ∀ (t : Fin cfg0.N) (j : S1x384.Idx), outGb (blks m c t) j = ∑ p : Fin 512, partGb m c (row t p) j := fun t j => by
    idx_vars j
    rw [Subsingleton.elim j0 0]
    exact outGb_at (holds m c t) j1
  rw [after0_17, Pipeline.eq_sum_fin_of_reset_step_apply_last (fun n h => (outsAt0 m c n h).2.2.2.2.2.1) 8 (fun _ => 0)
    (fun t j => ∑ p : Fin 512, partGb m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partGb m c (row t p) j) = X at e' ⊢
      rw [outs_B m c t h h1]; rw [← e']; exact step2 _ _ j)
    (le_of_eq N_0) t0_7 rfl j, zero_add]
  rfl

theorem arr18 (c : Dev nD) : (dats m 0 c).arrAt 18 cfg0.N = arrGc m c := by
  refine (dats m 0 c).arrAt_eq_of_after_last 18 t0_7 (by decide +kernel) _ fun j => ?_
  blk_simp
  have e : ∀ (t : Fin cfg0.N) (j : S1x256.Idx), outGc (blks m c t) j = ∑ p : Fin 512, partGc m c (row t p) j := fun t j => by
    idx_vars j
    rw [Subsingleton.elim j0 0]
    exact outGc_at (holds m c t) j1
  rw [after0_18, Pipeline.eq_sum_fin_of_reset_step_apply_last (fun n h => (outsAt0 m c n h).2.2.2.2.2.2.1) 8 (fun _ => 0)
    (fun t j => ∑ p : Fin 512, partGc m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partGc m c (row t p) j) = X at e' ⊢
      rw [outs_B m c t h h1]; rw [← e']; exact step3 _ _ j)
    (le_of_eq N_0) t0_7 rfl j, zero_add]
  rfl

theorem arr19 (c : Dev nD) : (dats m 0 c).arrAt 19 cfg0.N = arrW m c := by
  refine (dats m 0 c).arrAt_eq_of_after_last 19 t0_7 (by decide +kernel) _ fun j => ?_
  blk_simp
  have e : ∀ (t : Fin cfg0.N) (j : S256x256.Idx), outW (blks m c t) j = ∑ p : Fin 512, partW m c (row t p) j := fun t j => by
    idx_vars j
    exact outW_at (holds m c t) j0 j1
  rw [after0_19, Pipeline.eq_sum_fin_of_reset_step_apply_last (fun n h => (outsAt0 m c n h).2.2.2.2.2.2.2.1) 8 (fun _ => 0)
    (fun t j => ∑ p : Fin 512, partW m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partW m c (row t p) j) = X at e' ⊢
      rw [outs_B m c t h h1]; rw [← e']; exact step4 _ _ j)
    (le_of_eq N_0) t0_7 rfl j, zero_add]
  rfl

theorem arr20 (c : Dev nD) : (dats m 0 c).arrAt 20 cfg0.N = arrO m c := by
  refine (dats m 0 c).arrAt_eq_of_after_last 20 t0_7 (by decide +kernel) _ fun j => ?_
  blk_simp
  have e : ∀ (t : Fin cfg0.N) (j : S1024x1024.Idx), outO (blks m c t) j = ∑ p : Fin 512, partO m c (row t p) j := fun t j => by
    idx_vars j
    exact outO_at (holds m c t) j0 j1
  rw [after0_20, Pipeline.eq_sum_fin_of_reset_step_apply_last (fun n h => (outsAt0 m c n h).2.2.2.2.2.2.2.2.1) 8 (fun _ => 0)
    (fun t j => ∑ p : Fin 512, partO m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partO m c (row t p) j) = X at e' ⊢
      rw [outs_B m c t h h1]; rw [← e']; exact step5 _ _ j)
    (le_of_eq N_0) t0_7 rfl j, zero_add]
  rfl

theorem arr21 (c : Dev nD) : (dats m 0 c).arrAt 21 cfg0.N = arrLg m c := by
  refine (dats m 0 c).arrAt_eq_of_after_last 21 t0_7 (by decide +kernel) _ fun j => ?_
  blk_simp
  have e : ∀ (t : Fin cfg0.N) (j : S1x1024.Idx), outLg (blks m c t) j = ∑ p : Fin 512, partLg m c (row t p) j := fun t j => by
    idx_vars j
    rw [Subsingleton.elim j0 0]
    exact outLg_at (holds m c t) j1
  rw [after0_21, Pipeline.eq_sum_fin_of_reset_step_apply_last (fun n h => (outsAt0 m c n h).2.2.2.2.2.2.2.2.2.1) 8 (fun _ => 0)
    (fun t j => ∑ p : Fin 512, partLg m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partLg m c (row t p) j) = X at e' ⊢
      rw [outs_B m c t h h1]; rw [← e']; exact step6 _ _ j)
    (le_of_eq N_0) t0_7 rfl j, zero_add]
  rfl

theorem arr22 (c : Dev nD) : (dats m 0 c).arrAt 22 cfg0.N = arrLb m c := by
  refine (dats m 0 c).arrAt_eq_of_after_last 22 t0_7 (by decide +kernel) _ fun j => ?_
  blk_simp
  have e : ∀ (t : Fin cfg0.N) (j : S1x1024.Idx), outLb (blks m c t) j = ∑ p : Fin 512, partLb m c (row t p) j := fun t j => by
    idx_vars j
    rw [Subsingleton.elim j0 0]
    exact outLb_at (holds m c t) j1
  rw [after0_22, Pipeline.eq_sum_fin_of_reset_step_apply_last (fun n h => (outsAt0 m c n h).2.2.2.2.2.2.2.2.2.2) 8 (fun _ => 0)
    (fun t j => ∑ p : Fin 512, partLb m c (row t p) j)
    (fun t h j => by
      have h1 : ¬1 ≤ t.val := by have := lt_of_lt_of_eq t.isLt N_0; omega
      rw [outs_A m c t h h1]; exact (e t j).trans (zero_add _).symm)
    (fun t h j => by
      have h1 : 1 ≤ t.val := by omega
      have e' := e t j
      generalize (∑ p : Fin 512, partLb m c (row t p) j) = X at e' ⊢
      rw [outs_B m c t h h1]; rw [← e']; exact step7 _ _ j)
    (le_of_eq N_0) t0_7 rfl j, zero_add]
  rfl

end Cert.MixKernelIdeal.Value

end
-- ==== Proof.NormReference.lean ====
/-
  The derivative of the layer norm at the extended reals, element by element, and its agreement with what the kernel
  computes where the incoming gradient and the scale are finite.
-/
module

public import proofs.«01_k».proof.Proof.NormValue
public import proofs.«01_k».proof.Proof.Gen.NormReferenceIdeal.Read

@[expose] public section

set_option maxRecDepth 16384

noncomputable section

namespace Cert.Proof.Norm

open Idealize.ShloMosaic Idealize.ShloMosaic.TcCoe
open Cert.NormKernelIdeal.Value (Row mean dev spread rinv lead slant centred rowGrad scale)
open Cert.NormReferenceIdeal.Read
open Cert.Reals

abbrev Xs := Vec Ideal ⟨2, ![4096, 1024]⟩ .f32
abbrev Gs := Vec Ideal ⟨1, ![1024]⟩ .f32

/-- A row of an array. -/
def rowAt (x : Xs) (r : Fin 4096) : Row := fun k => x (ix2 r k)

/-- A vector as a row. -/
def vec (g : Gs) : Row := fun k => g (ix1 k)

/-- The norm's small constant is a positive real number. -/
theorem eps : Ideal.ofBits .f32 0x3727C5AC#32 = ((10995116 / 2 ^ 40 : ℝ) : EReal) := by
  simp [Ideal.ofBits, Ideal.ieee, -EReal.coe_mul]; norm_num

/-- A square is not negative. -/
theorem sq_nonneg' (a : EReal) : 0 ≤ a * a := by
  induction a with
  | bot => simp
  | top => simp
  | coe a => exact_mod_cast mul_self_nonneg a

/-- The spread of a row is positive, whatever the row. -/
theorem spread_pos (x : Row) : 0 < spread x := by
  have h : 0 ≤ Ideal.div (∑ k : Fin 1024, dev x k * dev x k) (Ideal.ofBits .f32 0x44800000#32) := by
    rw [c1024, Ideal.div_coe (by norm_num)]
    exact mul_nonneg (Finset.sum_nonneg fun k _ => sq_nonneg' _) (by exact_mod_cast (by norm_num : (0 : ℝ) ≤ 1 / 1024))
  have he : (0 : EReal) < Ideal.ofBits .f32 0x3727C5AC#32 := by
    rw [eps]; exact_mod_cast (by norm_num : (0 : ℝ) < 10995116 / 2 ^ 40)
  exact lt_of_lt_of_le he (le_add_of_nonneg_left h)

/-- So the reciprocal of its root is a real number. -/
theorem inv_real (x : Row) : IsReal (rinv x) := by
  have h := spread_pos x
  unfold rinv
  generalize spread x = s at h
  induction s with
  | bot => exact absurd h (by simp)
  | top => exact ⟨0, rfl⟩
  | coe s =>
    have hs : 0 < s := by exact_mod_cast h
    exact ⟨(Real.sqrt s)⁻¹, by rw [Ideal.rsqrt_coe, if_neg hs.not_gt, if_neg hs.ne']⟩

/-- Twice a number is the number added to itself. -/
theorem twice (a : EReal) : ((2 : ℝ) : EReal) * a = a + a := by
  induction a with
  | bot => rw [EReal.coe_mul_bot_of_pos (by norm_num)]; rfl
  | top => rw [EReal.coe_mul_top_of_pos (by norm_num)]; rfl
  | coe a => rw [← EReal.coe_mul, two_mul, EReal.coe_add]

/-- The part of the gradient through the variance, as the derivative of the square has it. -/
def through (x g y : Row) (j : Fin 1024) : EReal := slant x g y * (Ideal.ofBits .f32 0x40000000#32 * dev x j)

theorem through_eq (x g y : Row) (j : Fin 1024) : through x g y j = dev x j * slant x g y + slant x g y * dev x j := by
  rw [through, two, mul_left_comm, twice, mul_comm (dev x j)]

/-- The kernel's row gradient with the mean's two parts summed apart. -/
theorem rowGrad_eq (x g y : Row) (j : Fin 1024) (hg : ∀ k, IsReal (g k)) (hy : ∀ k, IsReal (y k)) :
    rowGrad x g y j = lead x g y j + through x g y j
      + Ideal.div (∑ k : Fin 1024, -lead x g y k + ∑ k : Fin 1024, -through x g y k) (Ideal.ofBits .f32 0x44800000#32) := by
  have hi : ∀ k, centred x g y k = lead x g y k + through x g y k := fun k => by rw [centred, through_eq, add_assoc]
  rw [rowGrad, hi, ← Finset.sum_add_distrib]
  refine congrArg _ (congrArg (fun s => Ideal.div s _) (Finset.sum_congr rfl fun k _ => ?_))
  obtain ⟨l, hl⟩ : IsReal (lead x g y k) := ((hy k).mul (hg k)).mul (inv_real x)
  rw [hi, Ideal.ofBits_zero_f32, zero_sub, hl,
    EReal.neg_add (.inl (EReal.coe_ne_bot l)) (.inl (EReal.coe_ne_top l)), sub_eq_add_neg]

variable (x : Xs) (g : Gs) (y : Xs)

theorem r3 (r : Fin 4096) : val_main_v3 (F := Ideal) x (ix2 r 0) = mean (rowAt x r) := by
  unfold val_main_v3 val_main_v2 val_main_v1 val_main_v0 val_main_cst val_main_cst_0
  pointwise [mean, rowAt]

theorem r5 (r : Fin 4096) (j : Fin 1024) : val_main_v5 (F := Ideal) x (ix2 r j) = dev (rowAt x r) j := by
  have e := r3 x r
  unfold val_main_v5 val_main_v4
  generalize val_main_v3 (F := Ideal) x = u at e
  pointwise [dev]
  rw [e]; rfl

theorem r14 (r : Fin 4096) (j : Fin 1024) : val_main_v14 (F := Ideal) x (ix2 r j) = dev (rowAt x r) j := r5 x r j

theorem r16 (r : Fin 4096) : val_main_v16 (F := Ideal) x (ix2 r 0) = spread (rowAt x r) := by
  have e := r5 x r
  unfold val_main_v16 val_main_v15 val_main_v12 val_main_v11 val_main_v10 val_main_v9 val_main_v6 val_main_cst_2 val_main_cst_3
    val_main_cst_4
  generalize val_main_v5 (F := Ideal) x = u at e
  pointwise [spread]
  simp only [e]

theorem r17 (r : Fin 4096) : val_main_v17 (F := Ideal) x (ix2 r 0) = rinv (rowAt x r) := by
  have e := r16 x r
  unfold val_main_v17
  generalize val_main_v16 (F := Ideal) x = u at e
  pointwise [rinv]
  rw [e]

theorem r22 (r : Fin 4096) (j : Fin 1024) : val_main_v22 (F := Ideal) x (ix2 r j) = dev (rowAt x r) j * rinv (rowAt x r) := by
  have e := r14 x r j
  have e' := r17 x r
  unfold val_main_v22 val_main_v21
  generalize val_main_v14 (F := Ideal) x = u at e
  generalize val_main_v17 (F := Ideal) x = v at e'
  pointwise []
  rw [e, e']

theorem r37 (r : Fin 4096) (j : Fin 1024) : val_main_v37 (F := Ideal) g y (ix2 r j) = rowAt y r j * vec g j := by
  unfold val_main_v37 val_main_v36 val_main_v29 val_main_v23
  pointwise [rowAt, vec]

theorem r43 (r : Fin 4096) (j : Fin 1024) : val_main_v43 (F := Ideal) x g y (ix2 r j) = lead (rowAt x r) (vec g) (rowAt y r) j := by
  have e := r37 g y r j
  have e' := r17 x r
  unfold val_main_v43 val_main_v42
  generalize val_main_v37 (F := Ideal) g y = u at e
  generalize val_main_v17 (F := Ideal) x = v at e'
  pointwise [lead]
  rw [e, e']

theorem r50 (r : Fin 4096) : val_main_v50 (F := Ideal) x g y (ix1 r) = slant (rowAt x r) (vec g) (rowAt y r) := by
  have e := r37 g y r
  have e' := r17 x r
  have e16 := r16 x r
  have e14 := r14 x r
  unfold val_main_v50 val_main_v49 val_main_v48 val_main_v44 val_main_v41 val_main_v40 val_main_v39 val_main_v20 val_main_v19
    val_main_v18 val_main_cst_5 val_main_cst_10 val_main_cst_12 val_main_cst_13
  generalize val_main_v37 (F := Ideal) g y = u at e
  generalize val_main_v17 (F := Ideal) x = v at e'
  generalize val_main_v16 (F := Ideal) x = v16 at e16
  generalize val_main_v14 (F := Ideal) x = v14 at e14
  pointwise [slant]
  simp only [Fin.sum_univ_one, e, e', e16, e14]

theorem r52 (r : Fin 4096) (j : Fin 1024) : val_main_v52 (F := Ideal) x g y (ix2 r j) = through (rowAt x r) (vec g) (rowAt y r) j := by
  have e := r50 x g y r
  have e' := r5 x r j
  unfold val_main_v52 val_main_v51 val_main_v8 val_main_v7 val_main_cst_1
  generalize val_main_v50 (F := Ideal) x g y = u at e
  generalize val_main_v5 (F := Ideal) x = v at e'
  pointwise [through]
  rw [e, e']

theorem r59 (r : Fin 4096) : val_main_v60 (F := Ideal) x g y (ix1 r)
    = Ideal.div (∑ k : Fin 1024, -lead (rowAt x r) (vec g) (rowAt y r) k + ∑ k : Fin 1024, -through (rowAt x r) (vec g) (rowAt y r) k)
      (Ideal.ofBits .f32 0x44800000#32) := by
  have e := r43 x g y r
  have e' := r52 x g y r
  unfold val_main_v60 val_main_v59 val_main_v58 val_main_v57 val_main_v55 val_main_v54 val_main_v53 val_main_v47 val_main_v46
    val_main_v45 val_main_cst_11 val_main_cst_14 val_main_cst_15 val_main_cst_16
  generalize val_main_v43 (F := Ideal) x g y = u at e
  generalize val_main_v52 (F := Ideal) x g y = v at e'
  pointwise []
  simp only [Fin.sum_univ_one, e, e']

/-- The input's gradient. -/
theorem grad_eq (r : Fin 4096) (j : Fin 1024) (hg : ∀ i, IsReal (g i)) (hy : ∀ i, IsReal (y i)) :
    val_main_v62 (F := Ideal) x g y (ix2 r j) = rowGrad (rowAt x r) (vec g) (rowAt y r) j := by
  rw [rowGrad_eq (rowAt x r) (vec g) (rowAt y r) j (fun k => hg (ix1 k)) (fun k => hy (ix2 r k))]
  have e := r43 x g y r j
  have e' := r52 x g y r j
  have e60 := r59 x g y r
  unfold val_main_v62 val_main_v61 val_main_v56
  generalize val_main_v43 (F := Ideal) x g y = u at e
  generalize val_main_v52 (F := Ideal) x g y = v at e'
  generalize val_main_v60 (F := Ideal) x g y = w at e60
  pointwise []
  rw [e, e', e60]

/-- The scale's gradient. -/
theorem scale_eq (j : Fin 1024) : val_main_v63 (F := Ideal) x y (ix2 0 j)
    = ∑ t : Fin 8, ∑ p : Fin 512, scale (rowAt x ⟨t.val * 512 + p.val, by omega⟩) (rowAt y ⟨t.val * 512 + p.val, by omega⟩) j := by
  have e := fun r => r22 x r j
  unfold val_main_v63 val_main_v38 val_main_v35 val_main_v34 val_main_v33 val_main_v29 val_main_cst_8 val_main_cst_9
  generalize val_main_v22 (F := Ideal) x = u at e
  pointwise []
  simp only [Fin.sum_univ_one, e]
  symm
  exact Fin.sum_mul_add_congr fun s k hl => rfl

/-- The shift's gradient. -/
theorem shift_eq (j : Fin 1024) : val_main_v64 (F := Ideal) y (ix2 0 j)
    = ∑ t : Fin 8, ∑ p : Fin 512, rowAt y ⟨t.val * 512 + p.val, by omega⟩ j := by
  unfold val_main_v64 val_main_v32 val_main_v31 val_main_v30 val_main_cst_6 val_main_cst_7
  pointwise []
  simp only [Fin.sum_univ_one]
  symm
  exact Fin.sum_mul_add_congr fun s k hl => rfl

end Cert.Proof.Norm

end
-- ==== Proof.MixReference.lean ====
/-
  The derivative of the mixing output at the extended reals, element by element, and its agreement with what the kernel
  computes where the incoming gradient and the layer norm's scale are finite.
-/
module

public import proofs.«01_k».proof.Proof.MixRows
public import proofs.«01_k».proof.Proof.NormReference
public import proofs.«01_k».proof.Proof.Gen.MixReferenceIdeal.Read

@[expose] public section

set_option maxRecDepth 16384

noncomputable section

namespace Cert.Proof.Mix

open Idealize.ShloMosaic Idealize.ShloMosaic.TcCoe
open Cert.NormKernelIdeal.Value (Row mean dev spread rinv lead slant centred rowGrad scale)
open Cert.Proof.Norm (through rowGrad_eq)
open Cert.MixReferenceIdeal.Read
open Cert.Mix
open Cert.Reals

/-- The activation with its half on the other factor. -/
theorem act_eq (x : EReal) :
    x * (Ideal.ofBits .f32 0x3F000000#32 * (Ideal.ofBits .f32 0x3F800000#32 + bend x)) = act x := by
  rw [act, mul_assoc, mul_left_comm]

/-- The derivative of the logistic function in its two forms. -/
theorem slope_eq (s : EReal) :
    Ideal.div 1 ((1 + Ideal.exp (-s)) * (1 + Ideal.exp (-s))) * Ideal.exp (-s)
      = Ideal.div 1 (1 + Ideal.exp (-s)) * (1 - Ideal.div 1 (1 + Ideal.exp (-s))) := by
  induction s with
  | bot =>
    have h : (1 : EReal) + ⊤ = ⊤ := rfl
    have hd : Ideal.div 1 ⊤ = 0 := by simp [Ideal.div]
    rw [EReal.neg_bot, exp_top, h, EReal.top_mul_top, hd, zero_mul, zero_mul]
  | top =>
    have hd : Ideal.div 1 1 = 1 := by
      rw [← EReal.coe_one, Ideal.div_coe one_ne_zero]; simp
    rw [EReal.neg_top, exp_bot, add_zero, mul_one, mul_zero, hd, one_sub_one, mul_zero]
  | coe s =>
    have h0 : (0 : ℝ) < Real.exp (-s) := Real.exp_pos _
    have e : Ideal.exp (-(s : EReal)) = ((Real.exp (-s) : ℝ) : EReal) := by rw [← EReal.coe_neg, exp_coe]
    rw [e]
    generalize Real.exp (-s) = a at h0
    have h1 : 1 + a ≠ 0 := by positivity
    rw [← EReal.coe_one, ← EReal.coe_add, ← EReal.coe_mul, Ideal.div_coe h1, Ideal.div_coe (mul_ne_zero h1 h1)]
    norm_cast
    field_simp
    ring

/-- The gradient of the gate's argument through the logistic function's own value. -/
theorem argGrad_eq (q : Par) (r : Inp) (j : Fin 256) : argGrad q r j
    = act (r.y j) * gatedGrad q r j * (gate q r j * (Ideal.ofBits .f32 0x3F800000#32 - gate q r j)) := by
  unfold argGrad gate expo
  rw [Ideal.ofBits_zero_f32, one]
  simp only [zero_sub, neg_mul, neg_neg, mul_one]
  rw [mul_assoc, slope_eq]

/-- Three times a number is the number added twice to itself. -/
theorem triple (a : EReal) : ((3 : ℝ) : EReal) * a = a + a + a := by
  induction a with
  | bot => rw [EReal.coe_mul_bot_of_pos (by norm_num)]; rfl
  | top => rw [EReal.coe_mul_top_of_pos (by norm_num)]; rfl
  | coe a => rw [← EReal.coe_mul, ← EReal.coe_add, ← EReal.coe_add]; congr 1; ring

theorem three : Ideal.ofBits .f32 0x40400000#32 = ((3 : ℝ) : EReal) := by
  simp [Ideal.ofBits, Ideal.ieee, -EReal.coe_mul]; norm_num

/-- The gradient of the third branch with the cube's derivative in one term. -/
theorem yGrad_eq (q : Par) (r : Inp) (j : Fin 256) : yGrad q r j
    = actGrad q r j * (Ideal.ofBits .f32 0x3F000000#32 * (Ideal.ofBits .f32 0x3F800000#32 + bend (r.y j)))
      + Ideal.ofBits .f32 0x3F4C422A#32 * (Ideal.ofBits .f32 0x3F000000#32 * (r.y j * actGrad q r j)
        * ((Ideal.ofBits .f32 0x3F800000#32 + bend (r.y j)) * (Ideal.ofBits .f32 0x3F800000#32 - bend (r.y j))))
      + Ideal.ofBits .f32 0x3D372713#32 * (Ideal.ofBits .f32 0x3F4C422A#32 * (Ideal.ofBits .f32 0x3F000000#32 * (r.y j * actGrad q r j)
        * ((Ideal.ofBits .f32 0x3F800000#32 + bend (r.y j)) * (Ideal.ofBits .f32 0x3F800000#32 - bend (r.y j)))))
        * (Ideal.ofBits .f32 0x40400000#32 * (r.y j * r.y j)) := by
  have hc : Ideal.ofBits .f32 0x3F4C422A#32 * (Ideal.ofBits .f32 0x3F000000#32 * (r.y j * actGrad q r j)
      * ((Ideal.ofBits .f32 0x3F800000#32 + bend (r.y j)) * (Ideal.ofBits .f32 0x3F800000#32 - bend (r.y j)))) = core q r j := by
    rw [core, mul_assoc (Ideal.ofBits .f32 0x3F000000#32) (r.y j)]
  rw [hc, three, yGrad, mul_left_comm (actGrad q r j)]
  generalize Ideal.ofBits .f32 0x3D372713#32 * core q r j = b
  generalize core q r j = a
  generalize Ideal.ofBits .f32 0x3F000000#32 * _ = d
  generalize r.y j = x
  have h1 : x * x * b = b * (x * x) := mul_comm _ _
  have h2 : x * (b * x) = b * (x * x) := mul_left_comm _ _ _
  rw [h1, h2, mul_assoc b x x, mul_left_comm b ((3 : ℝ) : EReal), triple]
  generalize b * (x * x) = z
  ac_rfl

/-- The parameters the reference is given. -/
def par (x4 : Vec Ideal ⟨1, ![1024]⟩ .f32) (x5 : Vec Ideal ⟨2, ![256, 256]⟩ .f32) (x6 : Vec Ideal ⟨2, ![1024, 1024]⟩ .f32)
    (x7 : Vec Ideal ⟨1, ![1024]⟩ .f32) : Par where
  ga := fun j => x4 (ix1 ⟨j.val, by omega⟩)
  gb := fun j => x4 (ix1 ⟨384 + j.val, by omega⟩)
  gc := fun j => x4 (ix1 ⟨768 + j.val, by omega⟩)
  w := fun i j => x5 (ix2 i j)
  o := fun i j => x6 (ix2 i j)
  lg := fun j => x7 (ix1 j)

/-- The rows it is given. -/
def inp (x0 x1 : Vec Ideal ⟨2, ![4096, 384]⟩ .f32) (x2 : Vec Ideal ⟨2, ![4096, 256]⟩ .f32)
    (x3 x9 : Vec Ideal ⟨2, ![4096, 1024]⟩ .f32) (r : Fin 4096) : Inp where
  a := fun j => x0 (ix2 r j)
  b := fun j => x1 (ix2 r j)
  y := fun j => x2 (ix2 r j)
  x := fun j => x3 (ix2 r j)
  d := fun j => x9 (ix2 r j)

theorem rowA (x0 x1 : Vec Ideal ⟨2, ![4096, 384]⟩ .f32) (x2 : Vec Ideal ⟨2, ![4096, 256]⟩ .f32)
    (x3 x9 : Vec Ideal ⟨2, ![4096, 1024]⟩ .f32) (r : Fin 4096) (j : Fin 384) : x0 (ix2 r j) = (inp x0 x1 x2 x3 x9 r).a j := rfl

theorem rowB (x0 x1 : Vec Ideal ⟨2, ![4096, 384]⟩ .f32) (x2 : Vec Ideal ⟨2, ![4096, 256]⟩ .f32)
    (x3 x9 : Vec Ideal ⟨2, ![4096, 1024]⟩ .f32) (r : Fin 4096) (j : Fin 384) : x1 (ix2 r j) = (inp x0 x1 x2 x3 x9 r).b j := rfl

variable (x0 x1 : Vec Ideal ⟨2, ![4096, 384]⟩ .f32) (x2 : Vec Ideal ⟨2, ![4096, 256]⟩ .f32) (x3 : Vec Ideal ⟨2, ![4096, 1024]⟩ .f32)
  (x4 : Vec Ideal ⟨1, ![1024]⟩ .f32) (x5 : Vec Ideal ⟨2, ![256, 256]⟩ .f32) (x6 : Vec Ideal ⟨2, ![1024, 1024]⟩ .f32)
  (x7 : Vec Ideal ⟨1, ![1024]⟩ .f32) (x9 : Vec Ideal ⟨2, ![4096, 1024]⟩ .f32)
include x0 x1 x2 x3 x4 x5 x6 x7 x9

theorem r10 (r : Fin 4096) (j : Fin 256) :
    val_main_v10 (F := Ideal) x2 (ix2 r j)
      = bend ((inp x0 x1 x2 x3 x9 r).y j) := by
  unfold val_main_v10 val_main_v9 val_main_v8 val_main_v7 val_main_v6 val_main_v5 val_main_v1 val_main_v0 val_main_cst_0
    val_main_cst_1
  pointwise [bend, inp]

theorem r15 (r : Fin 4096) (j : Fin 256) :
    val_main_v15 (F := Ideal) x2 (ix2 r j)
      = (Ideal.ofBits .f32 0x3F800000#32 + bend ((inp x0 x1 x2 x3 x9 r).y j)) * (Ideal.ofBits .f32 0x3F800000#32 - bend ((inp x0 x1 x2 x3 x9 r).y j)) := by
  have e10 := r10 x0 x1 x2 x3 x4 x5 x6 x7 x9 r
  unfold val_main_v15 val_main_v14 val_main_v13 val_main_v12 val_main_v11 val_main_cst_2 val_main_cst_3
  generalize val_main_v10 (F := Ideal) x2 = u10 at e10
  pointwise [e10]

theorem r19 (r : Fin 4096) (j : Fin 256) :
    val_main_v19 (F := Ideal) x2 (ix2 r j)
      = Ideal.ofBits .f32 0x3F000000#32 * (Ideal.ofBits .f32 0x3F800000#32 + bend ((inp x0 x1 x2 x3 x9 r).y j)) := by
  have e10 := r10 x0 x1 x2 x3 x4 x5 x6 x7 x9 r
  unfold val_main_v19 val_main_v18 val_main_v17 val_main_v16 val_main_cst_4 val_main_cst_5
  generalize val_main_v10 (F := Ideal) x2 = u10 at e10
  pointwise [e10]

theorem r20 (r : Fin 4096) (j : Fin 256) :
    val_main_v20 (F := Ideal) x2 (ix2 r j)
      = act ((inp x0 x1 x2 x3 x9 r).y j) := by
  have e19 := r19 x0 x1 x2 x3 x4 x5 x6 x7 x9 r
  unfold val_main_v20
  generalize val_main_v19 (F := Ideal) x2 = u19 at e19
  refine (congrArg (x2 (ix2 r j) * ·) (e19 j)).trans (act_eq _)

theorem r23 (r : Fin 4096) (j : Fin 256) :
    val_main_v23 (F := Ideal) x2 x5 (ix2 r j)
      = expo (par x4 x5 x6 x7) (inp x0 x1 x2 x3 x9 r) j := by
  have e20 := r20 x0 x1 x2 x3 x4 x5 x6 x7 x9 r
  unfold val_main_v23 val_main_v22 val_main_v21
  generalize val_main_v20 (F := Ideal) x2 = u20 at e20
  pointwise [expo, par, e20]
  simp only [zero_sub]

theorem r27 (r : Fin 4096) (j : Fin 256) :
    val_main_v27 (F := Ideal) x2 x5 (ix2 r j)
      = gate (par x4 x5 x6 x7) (inp x0 x1 x2 x3 x9 r) j := by
  have e23 := r23 x0 x1 x2 x3 x4 x5 x6 x7 x9 r
  unfold val_main_v27 val_main_v26 val_main_v25 val_main_v24 val_main_cst_6 val_main_cst_7
  generalize val_main_v23 (F := Ideal) x2 x5 = u23 at e23
  pointwise [gate, e23]

theorem r30 (r : Fin 4096) (j : Fin 256) :
    val_main_v30 (F := Ideal) x2 x5 (ix2 r j)
      = gate (par x4 x5 x6 x7) (inp x0 x1 x2 x3 x9 r) j * (Ideal.ofBits .f32 0x3F800000#32 - gate (par x4 x5 x6 x7) (inp x0 x1 x2 x3 x9 r) j) := by
  have e27 := r27 x0 x1 x2 x3 x4 x5 x6 x7 x9 r
  unfold val_main_v30 val_main_v29 val_main_v28 val_main_cst_8
  generalize val_main_v27 (F := Ideal) x2 x5 = u27 at e27
  pointwise [e27]

theorem r31 (r : Fin 4096) (j : Fin 256) :
    val_main_v31 (F := Ideal) x2 x5 (ix2 r j)
      = gated (par x4 x5 x6 x7) (inp x0 x1 x2 x3 x9 r) j := by
  have e20 := r20 x0 x1 x2 x3 x4 x5 x6 x7 x9 r
  have e27 := r27 x0 x1 x2 x3 x4 x5 x6 x7 x9 r
  unfold val_main_v31
  generalize val_main_v20 (F := Ideal) x2 = u20 at e20
  generalize val_main_v27 (F := Ideal) x2 x5 = u27 at e27
  pointwise [gated, e20, e27]

theorem r41 (r : Fin 4096) :
    val_main_v41 (F := Ideal) x0 (ix2 r 0)
      = square 0x43C00000#32 (inp x0 x1 x2 x3 x9 r).a := by
  unfold val_main_v41 val_main_v40 val_main_v39 val_main_v38 val_main_v37 val_main_v36 val_main_v35 val_main_cst_9
    val_main_cst_10 val_main_cst_11
  pointwise [square, inp]

theorem r42 (r : Fin 4096) :
    val_main_v42 (F := Ideal) x0 (ix2 r 0)
      = unroot 0x43C00000#32 (inp x0 x1 x2 x3 x9 r).a := by
  have e41 := r41 x0 x1 x2 x3 x4 x5 x6 x7 x9 r
  unfold val_main_v42
  generalize val_main_v41 (F := Ideal) x0 = u41 at e41
  pointwise [unroot, e41]

theorem r45 (r : Fin 4096) :
    val_main_v45 (F := Ideal) x0 (ix2 r 0)
      = Ideal.ofBits .f32 0xBF000000#32 * Ideal.div (unroot 0x43C00000#32 (inp x0 x1 x2 x3 x9 r).a) (square 0x43C00000#32 (inp x0 x1 x2 x3 x9 r).a) := by
  have e41 := r41 x0 x1 x2 x3 x4 x5 x6 x7 x9 r
  have e42 := r42 x0 x1 x2 x3 x4 x5 x6 x7 x9 r
  unfold val_main_v45 val_main_v44 val_main_v43 val_main_cst_12
  generalize val_main_v41 (F := Ideal) x0 = u41 at e41
  generalize val_main_v42 (F := Ideal) x0 = u42 at e42
  pointwise [e41, e42]

theorem r47 (r : Fin 4096) (j : Fin 384) :
    val_main_v47 (F := Ideal) x0 (ix2 r j)
      = unit 0x43C00000#32 (inp x0 x1 x2 x3 x9 r).a j := by
  have e42 := r42 x0 x1 x2 x3 x4 x5 x6 x7 x9 r
  unfold val_main_v47 val_main_v46
  generalize val_main_v42 (F := Ideal) x0 = u42 at e42
  pointwise [unit, inp, e42]

theorem r57 (r : Fin 4096) :
    val_main_v57 (F := Ideal) x1 (ix2 r 0)
      = square 0x43C00000#32 (inp x0 x1 x2 x3 x9 r).b := by
  unfold val_main_v57 val_main_v56 val_main_v55 val_main_v54 val_main_v53 val_main_v52 val_main_v51 val_main_cst_13
    val_main_cst_14 val_main_cst_15
  pointwise [square, inp]

theorem r58 (r : Fin 4096) :
    val_main_v58 (F := Ideal) x1 (ix2 r 0)
      = unroot 0x43C00000#32 (inp x0 x1 x2 x3 x9 r).b := by
  have e57 := r57 x0 x1 x2 x3 x4 x5 x6 x7 x9 r
  unfold val_main_v58
  generalize val_main_v57 (F := Ideal) x1 = u57 at e57
  pointwise [unroot, e57]

theorem r61 (r : Fin 4096) :
    val_main_v61 (F := Ideal) x1 (ix2 r 0)
      = Ideal.ofBits .f32 0xBF000000#32 * Ideal.div (unroot 0x43C00000#32 (inp x0 x1 x2 x3 x9 r).b) (square 0x43C00000#32 (inp x0 x1 x2 x3 x9 r).b) := by
  have e57 := r57 x0 x1 x2 x3 x4 x5 x6 x7 x9 r
  have e58 := r58 x0 x1 x2 x3 x4 x5 x6 x7 x9 r
  unfold val_main_v61 val_main_v60 val_main_v59 val_main_cst_16
  generalize val_main_v57 (F := Ideal) x1 = u57 at e57
  generalize val_main_v58 (F := Ideal) x1 = u58 at e58
  pointwise [e57, e58]

theorem r63 (r : Fin 4096) (j : Fin 384) :
    val_main_v63 (F := Ideal) x1 (ix2 r j)
      = unit 0x43C00000#32 (inp x0 x1 x2 x3 x9 r).b j := by
  have e58 := r58 x0 x1 x2 x3 x4 x5 x6 x7 x9 r
  unfold val_main_v63 val_main_v62
  generalize val_main_v58 (F := Ideal) x1 = u58 at e58
  pointwise [unit, inp, e58]

theorem r73 (r : Fin 4096) :
    val_main_v73 (F := Ideal) x2 x5 (ix2 r 0)
      = square 0x43800000#32 (gated (par x4 x5 x6 x7) (inp x0 x1 x2 x3 x9 r)) := by
  have e31 := r31 x0 x1 x2 x3 x4 x5 x6 x7 x9 r
  unfold val_main_v73 val_main_v72 val_main_v71 val_main_v70 val_main_v69 val_main_v68 val_main_v67 val_main_cst_17
    val_main_cst_18 val_main_cst_19
  generalize val_main_v31 (F := Ideal) x2 x5 = u31 at e31
  pointwise [square, e31]

theorem r74 (r : Fin 4096) :
    val_main_v74 (F := Ideal) x2 x5 (ix2 r 0)
      = unroot 0x43800000#32 (gated (par x4 x5 x6 x7) (inp x0 x1 x2 x3 x9 r)) := by
  have e73 := r73 x0 x1 x2 x3 x4 x5 x6 x7 x9 r
  unfold val_main_v74
  generalize val_main_v73 (F := Ideal) x2 x5 = u73 at e73
  pointwise [unroot, e73]

theorem r77 (r : Fin 4096) :
    val_main_v77 (F := Ideal) x2 x5 (ix2 r 0)
      = Ideal.ofBits .f32 0xBF000000#32 * Ideal.div (unroot 0x43800000#32 (gated (par x4 x5 x6 x7) (inp x0 x1 x2 x3 x9 r))) (square 0x43800000#32 (gated (par x4 x5 x6 x7) (inp x0 x1 x2 x3 x9 r))) := by
  have e73 := r73 x0 x1 x2 x3 x4 x5 x6 x7 x9 r
  have e74 := r74 x0 x1 x2 x3 x4 x5 x6 x7 x9 r
  unfold val_main_v77 val_main_v76 val_main_v75 val_main_cst_20
  generalize val_main_v73 (F := Ideal) x2 x5 = u73 at e73
  generalize val_main_v74 (F := Ideal) x2 x5 = u74 at e74
  pointwise [e73, e74]

theorem r79 (r : Fin 4096) (j : Fin 256) :
    val_main_v79 (F := Ideal) x2 x5 (ix2 r j)
      = unit 0x43800000#32 (gated (par x4 x5 x6 x7) (inp x0 x1 x2 x3 x9 r)) j := by
  have e31 := r31 x0 x1 x2 x3 x4 x5 x6 x7 x9 r
  have e74 := r74 x0 x1 x2 x3 x4 x5 x6 x7 x9 r
  unfold val_main_v79 val_main_v78
  generalize val_main_v31 (F := Ideal) x2 x5 = u31 at e31
  generalize val_main_v74 (F := Ideal) x2 x5 = u74 at e74
  pointwise [unit, e31, e74]

/-- The joined row. -/
theorem r83 (r : Fin 4096) (j : Fin 1024) :
    val_main_v83 (F := Ideal) x0 x1 x2 x4 x5 (ix2 r j)
      = joined (par x4 x5 x6 x7) (inp x0 x1 x2 x3 x9 r) j := by
  have e47 := r47 x0 x1 x2 x3 x4 x5 x6 x7 x9 r
  have e63 := r63 x0 x1 x2 x3 x4 x5 x6 x7 x9 r
  have e79 := r79 x0 x1 x2 x3 x4 x5 x6 x7 x9 r
  unfold val_main_v83 val_main_v82 val_main_v81 val_main_v80 val_main_v66 val_main_v65 val_main_v64 val_main_v50 val_main_v49
    val_main_v48 val_main_v34 val_main_v33 val_main_v32
  generalize val_main_v47 (F := Ideal) x0 = u47 at e47
  generalize val_main_v63 (F := Ideal) x1 = u63 at e63
  generalize val_main_v79 (F := Ideal) x2 x5 = u79 at e79
  pointwise [joined, cat, par, e47, e63, e79]

/-- The row the layer norm takes. -/
theorem r87 (r : Fin 4096) (j : Fin 1024) :
    val_main_v87 (F := Ideal) x0 x1 x2 x3 x4 x5 x6 (ix2 r j)
      = sum (par x4 x5 x6 x7) (inp x0 x1 x2 x3 x9 r) j := by
  have e83 := r83 x0 x1 x2 x3 x4 x5 x6 x7 x9 r
  unfold val_main_v87 val_main_v86 val_main_v85 val_main_v84 val_main_cst_21
  generalize val_main_v83 (F := Ideal) x0 x1 x2 x4 x5 = u83 at e83
  pointwise [sum, par, inp, e83]

theorem r91 (r : Fin 4096) :
    val_main_v91 (F := Ideal) x0 x1 x2 x3 x4 x5 x6 (ix2 r 0)
      = mean (sum (par x4 x5 x6 x7) (inp x0 x1 x2 x3 x9 r)) := by
  have e87 := r87 x0 x1 x2 x3 x4 x5 x6 x7 x9 r
  unfold val_main_v91 val_main_v90 val_main_v89 val_main_v88 val_main_cst_22 val_main_cst_23
  generalize val_main_v87 (F := Ideal) x0 x1 x2 x3 x4 x5 x6 = u87 at e87
  pointwise [mean, e87]

theorem r93 (r : Fin 4096) (j : Fin 1024) :
    val_main_v93 (F := Ideal) x0 x1 x2 x3 x4 x5 x6 (ix2 r j)
      = dev (sum (par x4 x5 x6 x7) (inp x0 x1 x2 x3 x9 r)) j := by
  have e87 := r87 x0 x1 x2 x3 x4 x5 x6 x7 x9 r
  have e91 := r91 x0 x1 x2 x3 x4 x5 x6 x7 x9 r
  unfold val_main_v93 val_main_v92
  generalize val_main_v87 (F := Ideal) x0 x1 x2 x3 x4 x5 x6 = u87 at e87
  generalize val_main_v91 (F := Ideal) x0 x1 x2 x3 x4 x5 x6 = u91 at e91
  pointwise [dev, e87, e91]

theorem r104 (r : Fin 4096) :
    val_main_v104 (F := Ideal) x0 x1 x2 x3 x4 x5 x6 (ix2 r 0)
      = spread (sum (par x4 x5 x6 x7) (inp x0 x1 x2 x3 x9 r)) := by
  have e93 := r93 x0 x1 x2 x3 x4 x5 x6 x7 x9 r
  unfold val_main_v104 val_main_v103 val_main_v100 val_main_v99 val_main_v98 val_main_v97 val_main_v94 val_main_cst_25
    val_main_cst_26 val_main_cst_27
  generalize val_main_v93 (F := Ideal) x0 x1 x2 x3 x4 x5 x6 = u93 at e93
  pointwise [spread, e93]

theorem r105 (r : Fin 4096) :
    val_main_v105 (F := Ideal) x0 x1 x2 x3 x4 x5 x6 (ix2 r 0)
      = rinv (sum (par x4 x5 x6 x7) (inp x0 x1 x2 x3 x9 r)) := by
  have e104 := r104 x0 x1 x2 x3 x4 x5 x6 x7 x9 r
  unfold val_main_v105
  generalize val_main_v104 (F := Ideal) x0 x1 x2 x3 x4 x5 x6 = u104 at e104
  pointwise [rinv, e104]

theorem r102 (r : Fin 4096) (j : Fin 1024) :
    val_main_v102 (F := Ideal) x0 x1 x2 x3 x4 x5 x6 (ix2 r j)
      = dev (sum (par x4 x5 x6 x7) (inp x0 x1 x2 x3 x9 r)) j := by
  have e87 := r87 x0 x1 x2 x3 x4 x5 x6 x7 x9 r
  have e91 := r91 x0 x1 x2 x3 x4 x5 x6 x7 x9 r
  unfold val_main_v102 val_main_v101
  generalize val_main_v87 (F := Ideal) x0 x1 x2 x3 x4 x5 x6 = u87 at e87
  generalize val_main_v91 (F := Ideal) x0 x1 x2 x3 x4 x5 x6 = u91 at e91
  pointwise [dev, e87, e91]

theorem r110 (r : Fin 4096) (j : Fin 1024) :
    val_main_v110 (F := Ideal) x0 x1 x2 x3 x4 x5 x6 (ix2 r j)
      = dev (sum (par x4 x5 x6 x7) (inp x0 x1 x2 x3 x9 r)) j * rinv (sum (par x4 x5 x6 x7) (inp x0 x1 x2 x3 x9 r)) := by
  have e102 := r102 x0 x1 x2 x3 x4 x5 x6 x7 x9 r
  have e105 := r105 x0 x1 x2 x3 x4 x5 x6 x7 x9 r
  unfold val_main_v110 val_main_v109
  generalize val_main_v102 (F := Ideal) x0 x1 x2 x3 x4 x5 x6 = u102 at e102
  generalize val_main_v105 (F := Ideal) x0 x1 x2 x3 x4 x5 x6 = u105 at e105
  pointwise [e102, e105]

theorem r125 (r : Fin 4096) (j : Fin 1024) :
    val_main_v125 (F := Ideal) x7 x9 (ix2 r j)
      = (inp x0 x1 x2 x3 x9 r).d j * (par x4 x5 x6 x7).lg j := by
  unfold val_main_v125 val_main_v124 val_main_v117 val_main_v111
  pointwise [par, inp]

theorem r131 (r : Fin 4096) (j : Fin 1024) :
    val_main_v131 (F := Ideal) x0 x1 x2 x3 x4 x5 x6 x7 x9 (ix2 r j)
      = lead (sum (par x4 x5 x6 x7) (inp x0 x1 x2 x3 x9 r)) (par x4 x5 x6 x7).lg (inp x0 x1 x2 x3 x9 r).d j := by
  have e125 := r125 x0 x1 x2 x3 x4 x5 x6 x7 x9 r
  have e105 := r105 x0 x1 x2 x3 x4 x5 x6 x7 x9 r
  unfold val_main_v131 val_main_v130
  generalize val_main_v125 (F := Ideal) x7 x9 = u125 at e125
  generalize val_main_v105 (F := Ideal) x0 x1 x2 x3 x4 x5 x6 = u105 at e105
  pointwise [lead, e125, e105]

theorem r138 (r : Fin 4096) :
    val_main_v138 (F := Ideal) x0 x1 x2 x3 x4 x5 x6 x7 x9 (ix1 r)
      = slant (sum (par x4 x5 x6 x7) (inp x0 x1 x2 x3 x9 r)) (par x4 x5 x6 x7).lg (inp x0 x1 x2 x3 x9 r).d := by
  have e125 := r125 x0 x1 x2 x3 x4 x5 x6 x7 x9 r
  have e105 := r105 x0 x1 x2 x3 x4 x5 x6 x7 x9 r
  have e104 := r104 x0 x1 x2 x3 x4 x5 x6 x7 x9 r
  have e102 := r102 x0 x1 x2 x3 x4 x5 x6 x7 x9 r
  unfold val_main_v138 val_main_v137 val_main_v136 val_main_v132 val_main_v129 val_main_v128 val_main_v127 val_main_v108
    val_main_v107 val_main_v106 val_main_cst_28 val_main_cst_33 val_main_cst_35 val_main_cst_36
  generalize val_main_v125 (F := Ideal) x7 x9 = u125 at e125
  generalize val_main_v105 (F := Ideal) x0 x1 x2 x3 x4 x5 x6 = u105 at e105
  generalize val_main_v104 (F := Ideal) x0 x1 x2 x3 x4 x5 x6 = u104 at e104
  generalize val_main_v102 (F := Ideal) x0 x1 x2 x3 x4 x5 x6 = u102 at e102
  pointwise [slant, e125, e105, e104, e102]
  simp only [Fin.sum_univ_one, e125, e105, e104, e102]

theorem r140 (r : Fin 4096) (j : Fin 1024) :
    val_main_v140 (F := Ideal) x0 x1 x2 x3 x4 x5 x6 x7 x9 (ix2 r j)
      = through (sum (par x4 x5 x6 x7) (inp x0 x1 x2 x3 x9 r)) (par x4 x5 x6 x7).lg (inp x0 x1 x2 x3 x9 r).d j := by
  have e138 := r138 x0 x1 x2 x3 x4 x5 x6 x7 x9 r
  have e93 := r93 x0 x1 x2 x3 x4 x5 x6 x7 x9 r
  unfold val_main_v140 val_main_v139 val_main_v96 val_main_v95 val_main_cst_24
  generalize val_main_v138 (F := Ideal) x0 x1 x2 x3 x4 x5 x6 x7 x9 = u138 at e138
  generalize val_main_v93 (F := Ideal) x0 x1 x2 x3 x4 x5 x6 = u93 at e93
  pointwise [through, e138, e93]

theorem r148 (r : Fin 4096) :
    val_main_v148 (F := Ideal) x0 x1 x2 x3 x4 x5 x6 x7 x9 (ix1 r)
      = Ideal.div (∑ k : Fin 1024, -lead (sum (par x4 x5 x6 x7) (inp x0 x1 x2 x3 x9 r)) (par x4 x5 x6 x7).lg (inp x0 x1 x2 x3 x9 r).d k + ∑ k : Fin 1024, -through (sum (par x4 x5 x6 x7) (inp x0 x1 x2 x3 x9 r)) (par x4 x5 x6 x7).lg (inp x0 x1 x2 x3 x9 r).d k)
        (Ideal.ofBits .f32 0x44800000#32) := by
  have e131 := r131 x0 x1 x2 x3 x4 x5 x6 x7 x9 r
  have e140 := r140 x0 x1 x2 x3 x4 x5 x6 x7 x9 r
  unfold val_main_v148 val_main_v147 val_main_v146 val_main_v145 val_main_v143 val_main_v142 val_main_v141 val_main_v135
    val_main_v134 val_main_v133 val_main_cst_34 val_main_cst_37 val_main_cst_38 val_main_cst_39
  generalize val_main_v131 (F := Ideal) x0 x1 x2 x3 x4 x5 x6 x7 x9 = u131 at e131
  generalize val_main_v140 (F := Ideal) x0 x1 x2 x3 x4 x5 x6 x7 x9 = u140 at e140
  pointwise [e131, e140]
  simp only [Fin.sum_univ_one, e131, e140]

/-- The gradient of the layer norm's scale. -/
theorem r245 (j : Fin 1024) :
    val_main_v245 (F := Ideal) x0 x1 x2 x3 x4 x5 x6 x9 (ix2 0 j)
      = ∑ t : Fin 8, ∑ p : Fin 512, scale (sum (par x4 x5 x6 x7) (inp x0 x1 x2 x3 x9 ⟨t.val * 512 + p.val, by omega⟩))
        (inp x0 x1 x2 x3 x9 ⟨t.val * 512 + p.val, by omega⟩).d j := by
  have e110 := r110 x0 x1 x2 x3 x4 x5 x6 x7 x9
  unfold val_main_v245 val_main_v126 val_main_v123 val_main_v122 val_main_v121 val_main_v117 val_main_cst_31 val_main_cst_32
  generalize val_main_v110 (F := Ideal) x0 x1 x2 x3 x4 x5 x6 = u110 at e110
  pointwise [e110]
  simp only [Fin.sum_univ_one, e110]
  symm
  exact Fin.sum_mul_add_congr fun s k hl => rfl

/-- The gradient of the layer norm's shift. -/
theorem r246 (j : Fin 1024) :
    val_main_v246 (F := Ideal) x9 (ix2 0 j)
      = ∑ t : Fin 8, ∑ p : Fin 512, (inp x0 x1 x2 x3 x9 ⟨t.val * 512 + p.val, by omega⟩).d j := by
  unfold val_main_v246 val_main_v120 val_main_v119 val_main_v118 val_main_cst_29 val_main_cst_30
  pointwise []
  simp only [Fin.sum_univ_one]
  symm
  exact Fin.sum_mul_add_congr fun s k hl => rfl

variable (hg : ∀ i, IsReal (x7 i)) (hd : ∀ i, IsReal (x9 i))
include hg hd

/-- The gradient of the row the layer norm takes. -/
theorem r150 (r : Fin 4096) (j : Fin 1024) :
    val_main_v150 (F := Ideal) x0 x1 x2 x3 x4 x5 x6 x7 x9 (ix2 r j)
      = sumGrad (par x4 x5 x6 x7) (inp x0 x1 x2 x3 x9 r) j := by
  have e131 := r131 x0 x1 x2 x3 x4 x5 x6 x7 x9 r
  have e140 := r140 x0 x1 x2 x3 x4 x5 x6 x7 x9 r
  have e148 := r148 x0 x1 x2 x3 x4 x5 x6 x7 x9 r
  unfold val_main_v150 val_main_v149 val_main_v144
  generalize val_main_v131 (F := Ideal) x0 x1 x2 x3 x4 x5 x6 x7 x9 = u131 at e131
  generalize val_main_v140 (F := Ideal) x0 x1 x2 x3 x4 x5 x6 x7 x9 = u140 at e140
  generalize val_main_v148 (F := Ideal) x0 x1 x2 x3 x4 x5 x6 x7 x9 = u148 at e148
  rw [sumGrad, rowGrad_eq (sum (par x4 x5 x6 x7) (inp x0 x1 x2 x3 x9 r)) (par x4 x5 x6 x7).lg (inp x0 x1 x2 x3 x9 r).d j
    (fun k => hg (ix1 k)) (fun k => hd (ix2 r k))]
  pointwise [e131, e140, e148]

/-- The gradient of the output weights. -/
theorem r152 (i j : Fin 1024) :
    val_main_v152 (F := Ideal) x0 x1 x2 x3 x4 x5 x6 x7 x9 (ix2 i j)
      = ∑ t : Fin 8, ∑ p : Fin 512, (joined (par x4 x5 x6 x7) (inp x0 x1 x2 x3 x9 ⟨t.val * 512 + p.val, by omega⟩) i * sumGrad (par x4 x5 x6 x7) (inp x0 x1 x2 x3 x9 ⟨t.val * 512 + p.val, by omega⟩) j) := by
  have e83 := r83 x0 x1 x2 x3 x4 x5 x6 x7 x9
  have e150 := r150 x0 x1 x2 x3 x4 x5 x6 x7 x9 hg hd
  unfold val_main_v152 val_main_v151
  generalize val_main_v83 (F := Ideal) x0 x1 x2 x4 x5 = u83 at e83
  generalize val_main_v150 (F := Ideal) x0 x1 x2 x3 x4 x5 x6 x7 x9 = u150 at e150
  pointwise [e83, e150]
  simp only [mul_comm (sumGrad _ _ _)]
  symm
  exact Fin.sum_mul_add_congr fun s k hl => rfl

/-- The gradient of the joined row. -/
theorem r153 (r : Fin 4096) (j : Fin 1024) :
    val_main_v153 (F := Ideal) x0 x1 x2 x3 x4 x5 x6 x7 x9 (ix2 r j)
      = joinGrad (par x4 x5 x6 x7) (inp x0 x1 x2 x3 x9 r) j := by
  have e150 := r150 x0 x1 x2 x3 x4 x5 x6 x7 x9 hg hd r
  unfold val_main_v153
  generalize val_main_v150 (F := Ideal) x0 x1 x2 x3 x4 x5 x6 x7 x9 = u150 at e150
  pointwise [joinGrad, par, e150]

/-- The gradient of the residual input. -/
theorem r155 (r : Fin 4096) (j : Fin 1024) :
    val_main_v155 (F := Ideal) x0 x1 x2 x3 x4 x5 x6 x7 x9 (ix2 r j)
      = xGrad (par x4 x5 x6 x7) (inp x0 x1 x2 x3 x9 r) j := by
  have e150 := r150 x0 x1 x2 x3 x4 x5 x6 x7 x9 hg hd r
  unfold val_main_v155 val_main_v154 val_main_cst_40
  generalize val_main_v150 (F := Ideal) x0 x1 x2 x3 x4 x5 x6 x7 x9 = u150 at e150
  pointwise [xGrad, e150]

theorem r156 (r : Fin 4096) (j : Fin 384) :
    val_main_v156 (F := Ideal) x0 x1 x2 x3 x4 x5 x6 x7 x9 (ix2 r j)
      = joinA (par x4 x5 x6 x7) (inp x0 x1 x2 x3 x9 r) j := by
  have e153 := r153 x0 x1 x2 x3 x4 x5 x6 x7 x9 hg hd r
  unfold val_main_v156
  generalize val_main_v153 (F := Ideal) x0 x1 x2 x3 x4 x5 x6 x7 x9 = u153 at e153
  pointwise [joinA, e153]

theorem r157 (r : Fin 4096) (j : Fin 384) :
    val_main_v157 (F := Ideal) x0 x1 x2 x3 x4 x5 x6 x7 x9 (ix2 r j)
      = joinB (par x4 x5 x6 x7) (inp x0 x1 x2 x3 x9 r) j := by
  have e153 := r153 x0 x1 x2 x3 x4 x5 x6 x7 x9 hg hd r
  unfold val_main_v157
  generalize val_main_v153 (F := Ideal) x0 x1 x2 x3 x4 x5 x6 x7 x9 = u153 at e153
  pointwise [joinB, e153]

theorem r158 (r : Fin 4096) (j : Fin 256) :
    val_main_v158 (F := Ideal) x0 x1 x2 x3 x4 x5 x6 x7 x9 (ix2 r j)
      = joinC (par x4 x5 x6 x7) (inp x0 x1 x2 x3 x9 r) j := by
  have e153 := r153 x0 x1 x2 x3 x4 x5 x6 x7 x9 hg hd r
  unfold val_main_v158
  generalize val_main_v153 (F := Ideal) x0 x1 x2 x3 x4 x5 x6 x7 x9 = u153 at e153
  pointwise [joinC, e153]

theorem r163 (r : Fin 4096) (j : Fin 256) :
    val_main_v163 (F := Ideal) x0 x1 x2 x3 x4 x5 x6 x7 x9 (ix2 r j)
      = joinC (par x4 x5 x6 x7) (inp x0 x1 x2 x3 x9 r) j * (par x4 x5 x6 x7).gc j := by
  have e158 := r158 x0 x1 x2 x3 x4 x5 x6 x7 x9 hg hd r
  unfold val_main_v163 val_main_v162 val_main_v80 val_main_v34
  generalize val_main_v158 (F := Ideal) x0 x1 x2 x3 x4 x5 x6 x7 x9 = u158 at e158
  pointwise [par, e158]

theorem r173 (r : Fin 4096) :
    val_main_v173 (F := Ideal) x0 x1 x2 x3 x4 x5 x6 x7 x9 (ix1 r)
      = tilt 0x43800000#32 (gated (par x4 x5 x6 x7) (inp x0 x1 x2 x3 x9 r)) (par x4 x5 x6 x7).gc (joinC (par x4 x5 x6 x7) (inp x0 x1 x2 x3 x9 r)) := by
  have e31 := r31 x0 x1 x2 x3 x4 x5 x6 x7 x9 r
  have e163 := r163 x0 x1 x2 x3 x4 x5 x6 x7 x9 hg hd r
  have e77 := r77 x0 x1 x2 x3 x4 x5 x6 x7 x9 r
  unfold val_main_v173 val_main_v172 val_main_v171 val_main_v170 val_main_v167 val_main_v166 val_main_v165 val_main_cst_43
    val_main_cst_44 val_main_cst_45
  generalize val_main_v31 (F := Ideal) x2 x5 = u31 at e31
  generalize val_main_v163 (F := Ideal) x0 x1 x2 x3 x4 x5 x6 x7 x9 = u163 at e163
  generalize val_main_v77 (F := Ideal) x2 x5 = u77 at e77
  pointwise [tilt, e31, e163, e77]
  simp only [Fin.sum_univ_one, e31, e163, e77]

/-- The gradient of the gated branch. -/
theorem r178 (r : Fin 4096) (j : Fin 256) :
    val_main_v178 (F := Ideal) x0 x1 x2 x3 x4 x5 x6 x7 x9 (ix2 r j)
      = gatedGrad (par x4 x5 x6 x7) (inp x0 x1 x2 x3 x9 r) j := by
  have e31 := r31 x0 x1 x2 x3 x4 x5 x6 x7 x9 r
  have e163 := r163 x0 x1 x2 x3 x4 x5 x6 x7 x9 hg hd r
  have e74 := r74 x0 x1 x2 x3 x4 x5 x6 x7 x9 r
  have e173 := r173 x0 x1 x2 x3 x4 x5 x6 x7 x9 hg hd r
  unfold val_main_v178 val_main_v177 val_main_v176 val_main_v175 val_main_v174 val_main_v169 val_main_v168
  generalize val_main_v31 (F := Ideal) x2 x5 = u31 at e31
  generalize val_main_v163 (F := Ideal) x0 x1 x2 x3 x4 x5 x6 x7 x9 = u163 at e163
  generalize val_main_v74 (F := Ideal) x2 x5 = u74 at e74
  generalize val_main_v173 (F := Ideal) x0 x1 x2 x3 x4 x5 x6 x7 x9 = u173 at e173
  pointwise [gatedGrad, unitGrad, e31, e163, e74, e173]

theorem r183 (r : Fin 4096) (j : Fin 384) :
    val_main_v183 (F := Ideal) x0 x1 x2 x3 x4 x5 x6 x7 x9 (ix2 r j)
      = joinB (par x4 x5 x6 x7) (inp x0 x1 x2 x3 x9 r) j * (par x4 x5 x6 x7).gb j := by
  have e157 := r157 x0 x1 x2 x3 x4 x5 x6 x7 x9 hg hd r
  unfold val_main_v183 val_main_v182 val_main_v64 val_main_v33
  generalize val_main_v157 (F := Ideal) x0 x1 x2 x3 x4 x5 x6 x7 x9 = u157 at e157
  pointwise [par, e157]

theorem r193 (r : Fin 4096) :
    val_main_v193 (F := Ideal) x0 x1 x2 x3 x4 x5 x6 x7 x9 (ix1 r)
      = tilt 0x43C00000#32 (inp x0 x1 x2 x3 x9 r).b (par x4 x5 x6 x7).gb (joinB (par x4 x5 x6 x7) (inp x0 x1 x2 x3 x9 r)) := by
  have e183 := r183 x0 x1 x2 x3 x4 x5 x6 x7 x9 hg hd r
  have e61 := r61 x0 x1 x2 x3 x4 x5 x6 x7 x9 r
  unfold val_main_v193 val_main_v192 val_main_v191 val_main_v190 val_main_v187 val_main_v186 val_main_v185 val_main_cst_48
    val_main_cst_49 val_main_cst_50
  generalize val_main_v183 (F := Ideal) x0 x1 x2 x3 x4 x5 x6 x7 x9 = u183 at e183
  generalize val_main_v61 (F := Ideal) x1 = u61 at e61
  pointwise [tilt, rowB x0 x1 x2 x3 x9, e183, e61]
  simp only [Fin.sum_univ_one, e183, e61]

/-- The gradient of the second branch. -/
theorem r198 (r : Fin 4096) (j : Fin 384) :
    val_main_v198 (F := Ideal) x0 x1 x2 x3 x4 x5 x6 x7 x9 (ix2 r j)
      = bGrad (par x4 x5 x6 x7) (inp x0 x1 x2 x3 x9 r) j := by
  have e183 := r183 x0 x1 x2 x3 x4 x5 x6 x7 x9 hg hd r
  have e58 := r58 x0 x1 x2 x3 x4 x5 x6 x7 x9 r
  have e193 := r193 x0 x1 x2 x3 x4 x5 x6 x7 x9 hg hd r
  unfold val_main_v198 val_main_v197 val_main_v196 val_main_v195 val_main_v194 val_main_v189 val_main_v188
  generalize val_main_v183 (F := Ideal) x0 x1 x2 x3 x4 x5 x6 x7 x9 = u183 at e183
  generalize val_main_v58 (F := Ideal) x1 = u58 at e58
  generalize val_main_v193 (F := Ideal) x0 x1 x2 x3 x4 x5 x6 x7 x9 = u193 at e193
  pointwise [bGrad, unitGrad, rowB x0 x1 x2 x3 x9, e183, e58, e193]

theorem r203 (r : Fin 4096) (j : Fin 384) :
    val_main_v203 (F := Ideal) x0 x1 x2 x3 x4 x5 x6 x7 x9 (ix2 r j)
      = joinA (par x4 x5 x6 x7) (inp x0 x1 x2 x3 x9 r) j * (par x4 x5 x6 x7).ga j := by
  have e156 := r156 x0 x1 x2 x3 x4 x5 x6 x7 x9 hg hd r
  unfold val_main_v203 val_main_v202 val_main_v48 val_main_v32
  generalize val_main_v156 (F := Ideal) x0 x1 x2 x3 x4 x5 x6 x7 x9 = u156 at e156
  pointwise [par, e156]

theorem r213 (r : Fin 4096) :
    val_main_v213 (F := Ideal) x0 x1 x2 x3 x4 x5 x6 x7 x9 (ix1 r)
      = tilt 0x43C00000#32 (inp x0 x1 x2 x3 x9 r).a (par x4 x5 x6 x7).ga (joinA (par x4 x5 x6 x7) (inp x0 x1 x2 x3 x9 r)) := by
  have e203 := r203 x0 x1 x2 x3 x4 x5 x6 x7 x9 hg hd r
  have e45 := r45 x0 x1 x2 x3 x4 x5 x6 x7 x9 r
  unfold val_main_v213 val_main_v212 val_main_v211 val_main_v210 val_main_v207 val_main_v206 val_main_v205 val_main_cst_53
    val_main_cst_54 val_main_cst_55
  generalize val_main_v203 (F := Ideal) x0 x1 x2 x3 x4 x5 x6 x7 x9 = u203 at e203
  generalize val_main_v45 (F := Ideal) x0 = u45 at e45
  pointwise [tilt, rowA x0 x1 x2 x3 x9, e203, e45]
  simp only [Fin.sum_univ_one, e203, e45]

/-- The gradient of the first branch. -/
theorem r218 (r : Fin 4096) (j : Fin 384) :
    val_main_v218 (F := Ideal) x0 x1 x2 x3 x4 x5 x6 x7 x9 (ix2 r j)
      = aGrad (par x4 x5 x6 x7) (inp x0 x1 x2 x3 x9 r) j := by
  have e203 := r203 x0 x1 x2 x3 x4 x5 x6 x7 x9 hg hd r
  have e42 := r42 x0 x1 x2 x3 x4 x5 x6 x7 x9 r
  have e213 := r213 x0 x1 x2 x3 x4 x5 x6 x7 x9 hg hd r
  unfold val_main_v218 val_main_v217 val_main_v216 val_main_v215 val_main_v214 val_main_v209 val_main_v208
  generalize val_main_v203 (F := Ideal) x0 x1 x2 x3 x4 x5 x6 x7 x9 = u203 at e203
  generalize val_main_v42 (F := Ideal) x0 = u42 at e42
  generalize val_main_v213 (F := Ideal) x0 x1 x2 x3 x4 x5 x6 x7 x9 = u213 at e213
  pointwise [aGrad, unitGrad, rowA x0 x1 x2 x3 x9, e203, e42, e213]

theorem r164 (j : Fin 256) :
    val_main_v164 (F := Ideal) x0 x1 x2 x3 x4 x5 x6 x7 x9 (ix1 j)
      = ∑ t : Fin 8, ∑ p : Fin 512, gcPart (par x4 x5 x6 x7) (inp x0 x1 x2 x3 x9 ⟨t.val * 512 + p.val, by omega⟩) j := by
  have e79 := r79 x0 x1 x2 x3 x4 x5 x6 x7 x9
  have e158 := r158 x0 x1 x2 x3 x4 x5 x6 x7 x9 hg hd
  unfold val_main_v164 val_main_v161 val_main_v160 val_main_v159 val_main_cst_41 val_main_cst_42
  generalize val_main_v79 (F := Ideal) x2 x5 = u79 at e79
  generalize val_main_v158 (F := Ideal) x0 x1 x2 x3 x4 x5 x6 x7 x9 = u158 at e158
  pointwise [e79, e158]
  simp only [Fin.sum_univ_one, e79, e158]
  symm
  exact Fin.sum_mul_add_congr fun s k hl => rfl

theorem r184 (j : Fin 384) :
    val_main_v184 (F := Ideal) x0 x1 x2 x3 x4 x5 x6 x7 x9 (ix1 j)
      = ∑ t : Fin 8, ∑ p : Fin 512, gbPart (par x4 x5 x6 x7) (inp x0 x1 x2 x3 x9 ⟨t.val * 512 + p.val, by omega⟩) j := by
  have e63 := r63 x0 x1 x2 x3 x4 x5 x6 x7 x9
  have e157 := r157 x0 x1 x2 x3 x4 x5 x6 x7 x9 hg hd
  unfold val_main_v184 val_main_v181 val_main_v180 val_main_v179 val_main_cst_46 val_main_cst_47
  generalize val_main_v63 (F := Ideal) x1 = u63 at e63
  generalize val_main_v157 (F := Ideal) x0 x1 x2 x3 x4 x5 x6 x7 x9 = u157 at e157
  pointwise [e63, e157]
  simp only [Fin.sum_univ_one, e63, e157]
  symm
  exact Fin.sum_mul_add_congr fun s k hl => rfl

theorem r204 (j : Fin 384) :
    val_main_v204 (F := Ideal) x0 x1 x2 x3 x4 x5 x6 x7 x9 (ix1 j)
      = ∑ t : Fin 8, ∑ p : Fin 512, gaPart (par x4 x5 x6 x7) (inp x0 x1 x2 x3 x9 ⟨t.val * 512 + p.val, by omega⟩) j := by
  have e47 := r47 x0 x1 x2 x3 x4 x5 x6 x7 x9
  have e156 := r156 x0 x1 x2 x3 x4 x5 x6 x7 x9 hg hd
  unfold val_main_v204 val_main_v201 val_main_v200 val_main_v199 val_main_cst_51 val_main_cst_52
  generalize val_main_v47 (F := Ideal) x0 = u47 at e47
  generalize val_main_v156 (F := Ideal) x0 x1 x2 x3 x4 x5 x6 x7 x9 = u156 at e156
  pointwise [e47, e156]
  simp only [Fin.sum_univ_one, e47, e156]
  symm
  exact Fin.sum_mul_add_congr fun s k hl => rfl

/-- The gradient of the first norm's scale. -/
theorem r242 (j : Fin 384) :
    val_main_v242 (F := Ideal) x0 x1 x2 x3 x4 x5 x6 x7 x9 (ix2 0 j)
      = ∑ t : Fin 8, ∑ p : Fin 512, gaPart (par x4 x5 x6 x7) (inp x0 x1 x2 x3 x9 ⟨t.val * 512 + p.val, by omega⟩) j := by
  have e204 := r204 x0 x1 x2 x3 x4 x5 x6 x7 x9 hg hd
  have e184 := r184 x0 x1 x2 x3 x4 x5 x6 x7 x9 hg hd
  have e164 := r164 x0 x1 x2 x3 x4 x5 x6 x7 x9 hg hd
  unfold val_main_v242 val_main_v239 val_main_v219
  generalize val_main_v204 (F := Ideal) x0 x1 x2 x3 x4 x5 x6 x7 x9 = u204 at e204
  generalize val_main_v184 (F := Ideal) x0 x1 x2 x3 x4 x5 x6 x7 x9 = u184 at e184
  generalize val_main_v164 (F := Ideal) x0 x1 x2 x3 x4 x5 x6 x7 x9 = u164 at e164
  pointwise []
  exact e204 j

/-- The gradient of the second norm's scale. -/
theorem r243 (j : Fin 384) :
    val_main_v243 (F := Ideal) x0 x1 x2 x3 x4 x5 x6 x7 x9 (ix2 0 j)
      = ∑ t : Fin 8, ∑ p : Fin 512, gbPart (par x4 x5 x6 x7) (inp x0 x1 x2 x3 x9 ⟨t.val * 512 + p.val, by omega⟩) j := by
  have e204 := r204 x0 x1 x2 x3 x4 x5 x6 x7 x9 hg hd
  have e184 := r184 x0 x1 x2 x3 x4 x5 x6 x7 x9 hg hd
  have e164 := r164 x0 x1 x2 x3 x4 x5 x6 x7 x9 hg hd
  unfold val_main_v243 val_main_v240 val_main_v219
  generalize val_main_v204 (F := Ideal) x0 x1 x2 x3 x4 x5 x6 x7 x9 = u204 at e204
  generalize val_main_v184 (F := Ideal) x0 x1 x2 x3 x4 x5 x6 x7 x9 = u184 at e184
  generalize val_main_v164 (F := Ideal) x0 x1 x2 x3 x4 x5 x6 x7 x9 = u164 at e164
  pointwise []
  exact e184 j

/-- The gradient of the third norm's scale. -/
theorem r244 (j : Fin 256) :
    val_main_v244 (F := Ideal) x0 x1 x2 x3 x4 x5 x6 x7 x9 (ix2 0 j)
      = ∑ t : Fin 8, ∑ p : Fin 512, gcPart (par x4 x5 x6 x7) (inp x0 x1 x2 x3 x9 ⟨t.val * 512 + p.val, by omega⟩) j := by
  have e204 := r204 x0 x1 x2 x3 x4 x5 x6 x7 x9 hg hd
  have e184 := r184 x0 x1 x2 x3 x4 x5 x6 x7 x9 hg hd
  have e164 := r164 x0 x1 x2 x3 x4 x5 x6 x7 x9 hg hd
  unfold val_main_v244 val_main_v241 val_main_v219
  generalize val_main_v204 (F := Ideal) x0 x1 x2 x3 x4 x5 x6 x7 x9 = u204 at e204
  generalize val_main_v184 (F := Ideal) x0 x1 x2 x3 x4 x5 x6 x7 x9 = u184 at e184
  generalize val_main_v164 (F := Ideal) x0 x1 x2 x3 x4 x5 x6 x7 x9 = u164 at e164
  pointwise []
  rw [dif_neg (by omega), dif_neg (by omega)]
  exact (congrArg (fun k => u164 (ix1 k)) (Fin.ext (show 768 + j.val - 384 - 384 = j.val by omega))).trans (e164 j)

/-- The gradient of the gate's argument. -/
theorem r222 (r : Fin 4096) (j : Fin 256) :
    val_main_v222 (F := Ideal) x0 x1 x2 x3 x4 x5 x6 x7 x9 (ix2 r j)
      = argGrad (par x4 x5 x6 x7) (inp x0 x1 x2 x3 x9 r) j := by
  have e20 := r20 x0 x1 x2 x3 x4 x5 x6 x7 x9 r
  have e30 := r30 x0 x1 x2 x3 x4 x5 x6 x7 x9 r
  have e178 := r178 x0 x1 x2 x3 x4 x5 x6 x7 x9 hg hd r
  unfold val_main_v222 val_main_v220
  generalize val_main_v20 (F := Ideal) x2 = u20 at e20
  generalize val_main_v30 (F := Ideal) x2 x5 = u30 at e30
  generalize val_main_v178 (F := Ideal) x0 x1 x2 x3 x4 x5 x6 x7 x9 = u178 at e178
  rw [argGrad_eq]
  pointwise [e20, e30, e178]

/-- The gradient of the gate's weights. -/
theorem r224 (i j : Fin 256) :
    val_main_v224 (F := Ideal) x0 x1 x2 x3 x4 x5 x6 x7 x9 (ix2 i j)
      = ∑ t : Fin 8, ∑ p : Fin 512, (act ((inp x0 x1 x2 x3 x9 ⟨t.val * 512 + p.val, by omega⟩).y i) * argGrad (par x4 x5 x6 x7) (inp x0 x1 x2 x3 x9 ⟨t.val * 512 + p.val, by omega⟩) j) := by
  have e20 := r20 x0 x1 x2 x3 x4 x5 x6 x7 x9
  have e222 := r222 x0 x1 x2 x3 x4 x5 x6 x7 x9 hg hd
  unfold val_main_v224 val_main_v223
  generalize val_main_v20 (F := Ideal) x2 = u20 at e20
  generalize val_main_v222 (F := Ideal) x0 x1 x2 x3 x4 x5 x6 x7 x9 = u222 at e222
  pointwise [e20, e222]
  simp only [mul_comm (argGrad _ _ _)]
  symm
  exact Fin.sum_mul_add_congr fun s k hl => rfl

/-- The gradient of the activation. -/
theorem r226 (r : Fin 4096) (j : Fin 256) :
    val_main_v226 (F := Ideal) x0 x1 x2 x3 x4 x5 x6 x7 x9 (ix2 r j)
      = actGrad (par x4 x5 x6 x7) (inp x0 x1 x2 x3 x9 r) j := by
  have e27 := r27 x0 x1 x2 x3 x4 x5 x6 x7 x9 r
  have e178 := r178 x0 x1 x2 x3 x4 x5 x6 x7 x9 hg hd r
  have e222 := r222 x0 x1 x2 x3 x4 x5 x6 x7 x9 hg hd r
  unfold val_main_v226 val_main_v225 val_main_v221
  generalize val_main_v27 (F := Ideal) x2 x5 = u27 at e27
  generalize val_main_v178 (F := Ideal) x0 x1 x2 x3 x4 x5 x6 x7 x9 = u178 at e178
  generalize val_main_v222 (F := Ideal) x0 x1 x2 x3 x4 x5 x6 x7 x9 = u222 at e222
  pointwise [actGrad, par, e27, e178, e222]

/-- The gradient of the third branch. -/
theorem r238 (r : Fin 4096) (j : Fin 256) :
    val_main_v238 (F := Ideal) x0 x1 x2 x3 x4 x5 x6 x7 x9 (ix2 r j)
      = yGrad (par x4 x5 x6 x7) (inp x0 x1 x2 x3 x9 r) j := by
  have e15 := r15 x0 x1 x2 x3 x4 x5 x6 x7 x9 r
  have e19 := r19 x0 x1 x2 x3 x4 x5 x6 x7 x9 r
  have e226 := r226 x0 x1 x2 x3 x4 x5 x6 x7 x9 hg hd r
  unfold val_main_v238 val_main_v237 val_main_v236 val_main_v235 val_main_v234 val_main_v233 val_main_v232 val_main_v231
    val_main_v230 val_main_v229 val_main_v228 val_main_v227 val_main_v4 val_main_v3 val_main_v2 val_main_cst val_main_cst_56
    val_main_cst_57 val_main_cst_58
  generalize val_main_v15 (F := Ideal) x2 = u15 at e15
  generalize val_main_v19 (F := Ideal) x2 = u19 at e19
  generalize val_main_v226 (F := Ideal) x0 x1 x2 x3 x4 x5 x6 x7 x9 = u226 at e226
  rw [yGrad_eq]
  pointwise [e15, e19, e226, inp]

end Cert.Proof.Mix

end
-- ==== Proof.MixEquation.lean ====
/-
  The mixing output's backward call and its reference.
-/
module

public import proofs.«01_k».proof.Defs
public import Idealize.ShloMosaic.Lib.Quiescent
public import proofs.«01_k».proof.Proof.Gen.MixKernel.Frame
public import proofs.«01_k».proof.Proof.Gen.MixKernelIdeal.Frame
public import proofs.«01_k».proof.Proof.MixValue
public import proofs.«01_k».proof.Proof.MixReference
public import proofs.«01_k».proof.Proof.Gen.MixReferenceIdeal.Run
public import proofs.«01_k».proof.Proof.Gen.MixReferenceIdeal.Read

@[expose] public section

set_option maxRecDepth 16384

noncomputable section

namespace Cert.Proof.Mix

open Idealize.ShloMosaic Idealize.ShloMosaic.TcCoe Idealize.SL.Sem
open Cert.MixKernelIdeal.Value (arrA arrB arrY arrX arrGa arrGb arrGc arrW arrO arrLg arrLb arr12 arr13 arr14 arr15 arr16 arr17 arr18
  arr19 arr20 arr21 arr22)
open Cert.MixReferenceIdeal.Read
open Cert.Reals Idealize.ShloMosaic.StableHlo
open Cert.Mix
open Cert.NormKernelIdeal.Value (scale)

/-- The reference runs, keeps its arguments, and has no semaphore to leave raised. -/
theorem frame_reference : Cert.quiescent_MixReferenceIdeal
    (hMixReferenceIdeal := Cert.MixReferenceIdeal.Gen.facts) := fun m ρ _ =>
  (θ_run Cert.MixReferenceIdeal.defs _ _).mono (fun r h => ⟨fun c => (h c).2.2.2.2.2.2.2.2.2.2.2, sem_eq_zero_of_no_sems (by decide) r.2⟩)
    (Cert.MixReferenceIdeal.Value.run m ρ)

/-- The side conditions of the precondition's operations. -/
instance pre_facts : Cert.Pre_mix_finite.Facts := by
  constructor <;> decide

/-- What the precondition says of the arguments. -/
theorem finite_args (x0 x1 : Vec Ideal ⟨2, ![4096, 384]⟩ .f32) (x2 : Vec Ideal ⟨2, ![4096, 256]⟩ .f32) (x3 : Vec Ideal ⟨2, ![4096, 1024]⟩ .f32)
    (x4 : Vec Ideal ⟨1, ![1024]⟩ .f32) (x5 : Vec Ideal ⟨2, ![256, 256]⟩ .f32) (x6 : Vec Ideal ⟨2, ![1024, 1024]⟩ .f32)
    (x7 x8 : Vec Ideal ⟨1, ![1024]⟩ .f32) (x9 : Vec Ideal ⟨2, ![4096, 1024]⟩ .f32)
    (h : Cert.Pre_mix_finite.fn (F := Ideal) x0 x1 x2 x3 x4 x5 x6 x7 x8 x9 = fun _ => 1#1) :
    (∀ i, IsReal (x7 i)) ∧ ∀ i, IsReal (x9 i) := by
  obtain ⟨hg, hd⟩ := andi_one (congrFun h ix0)
  exact ⟨all_real _ _ _ _ _ _ hg, all_real _ _ _ _ _ _ hd⟩

/-- What the reference leaves, of arguments equal to the kernel's. -/
theorem results (x0 y0 x1 y1 : Vec Ideal ⟨2, ![4096, 384]⟩ .f32)
    (x2 y2 : Vec Ideal ⟨2, ![4096, 256]⟩ .f32)
    (x3 y3 x9 y9 : Vec Ideal ⟨2, ![4096, 1024]⟩ .f32)
    (x4 y4 x7 y7 : Vec Ideal ⟨1, ![1024]⟩ .f32)
    (x5 y5 : Vec Ideal ⟨2, ![256, 256]⟩ .f32)
    (x6 y6 : Vec Ideal ⟨2, ![1024, 1024]⟩ .f32)
    (hg : ∀ i, IsReal (x7 i)) (hd : ∀ i, IsReal (x9 i))
    (e0 : y0 = x0) (e1 : y1 = x1) (e2 : y2 = x2) (e3 : y3 = x3) (e4 : y4 = x4) (e5 : y5 = x5) (e6 : y6 = x6) (e7 : y7 = x7) (e9 : y9 = x9) :
    val_main_v218 (F := Ideal) y0 y1 y2 y3 y4 y5 y6 y7 y9
      = (fun i => aGrad (par x4 x5 x6 x7) (inp x0 x1 x2 x3 x9 (i 0)) (i 1))
    ∧ val_main_v198 (F := Ideal) y0 y1 y2 y3 y4 y5 y6 y7 y9
      = (fun i => bGrad (par x4 x5 x6 x7) (inp x0 x1 x2 x3 x9 (i 0)) (i 1))
    ∧ val_main_v238 (F := Ideal) y0 y1 y2 y3 y4 y5 y6 y7 y9
      = (fun i => yGrad (par x4 x5 x6 x7) (inp x0 x1 x2 x3 x9 (i 0)) (i 1))
    ∧ val_main_v155 (F := Ideal) y0 y1 y2 y3 y4 y5 y6 y7 y9
      = (fun i => xGrad (par x4 x5 x6 x7) (inp x0 x1 x2 x3 x9 (i 0)) (i 1))
    ∧ val_main_v242 (F := Ideal) y0 y1 y2 y3 y4 y5 y6 y7 y9
      = (fun i => ∑ t : Fin 8, ∑ p : Fin 512, gaPart (par x4 x5 x6 x7) (inp x0 x1 x2 x3 x9 ⟨t.val * 512 + p.val, by omega⟩) (i 1))
    ∧ val_main_v243 (F := Ideal) y0 y1 y2 y3 y4 y5 y6 y7 y9
      = (fun i => ∑ t : Fin 8, ∑ p : Fin 512, gbPart (par x4 x5 x6 x7) (inp x0 x1 x2 x3 x9 ⟨t.val * 512 + p.val, by omega⟩) (i 1))
    ∧ val_main_v244 (F := Ideal) y0 y1 y2 y3 y4 y5 y6 y7 y9
      = (fun i => ∑ t : Fin 8, ∑ p : Fin 512, gcPart (par x4 x5 x6 x7) (inp x0 x1 x2 x3 x9 ⟨t.val * 512 + p.val, by omega⟩) (i 1))
    ∧ val_main_v224 (F := Ideal) y0 y1 y2 y3 y4 y5 y6 y7 y9
      = (fun i => ∑ t : Fin 8, ∑ p : Fin 512, act ((inp x0 x1 x2 x3 x9 ⟨t.val * 512 + p.val, by omega⟩).y (i 0)) * argGrad (par x4 x5 x6 x7) (inp x0 x1 x2 x3 x9 ⟨t.val * 512 + p.val, by omega⟩) (i 1))
    ∧ val_main_v152 (F := Ideal) y0 y1 y2 y3 y4 y5 y6 y7 y9
      = (fun i => ∑ t : Fin 8, ∑ p : Fin 512, joined (par x4 x5 x6 x7) (inp x0 x1 x2 x3 x9 ⟨t.val * 512 + p.val, by omega⟩) (i 0) * sumGrad (par x4 x5 x6 x7) (inp x0 x1 x2 x3 x9 ⟨t.val * 512 + p.val, by omega⟩) (i 1))
    ∧ val_main_v245 (F := Ideal) y0 y1 y2 y3 y4 y5 y6 y9
      = (fun i => ∑ t : Fin 8, ∑ p : Fin 512, scale (sum (par x4 x5 x6 x7) (inp x0 x1 x2 x3 x9 ⟨t.val * 512 + p.val, by omega⟩)) (inp x0 x1 x2 x3 x9 ⟨t.val * 512 + p.val, by omega⟩).d (i 1))
    ∧ val_main_v246 (F := Ideal) y9
      = (fun i => ∑ t : Fin 8, ∑ p : Fin 512, (inp x0 x1 x2 x3 x9 ⟨t.val * 512 + p.val, by omega⟩).d (i 1)) := by
  subst e0 e1 e2 e3 e4 e5 e6 e7 e9
  refine ⟨?_, ?_, ?_, ?_, ?_, ?_, ?_, ?_, ?_, ?_, ?_⟩
  · funext i
    idx_vars i
    exact r218 _ _ _ _ _ _ _ _ _ hg hd i0 i1
  · funext i
    idx_vars i
    exact r198 _ _ _ _ _ _ _ _ _ hg hd i0 i1
  · funext i
    idx_vars i
    exact r238 _ _ _ _ _ _ _ _ _ hg hd i0 i1
  · funext i
    idx_vars i
    exact r155 _ _ _ _ _ _ _ _ _ hg hd i0 i1
  · funext i
    idx_vars i
    rw [Subsingleton.elim i0 0]
    exact r242 _ _ _ _ _ _ _ _ _ hg hd i1
  · funext i
    idx_vars i
    rw [Subsingleton.elim i0 0]
    exact r243 _ _ _ _ _ _ _ _ _ hg hd i1
  · funext i
    idx_vars i
    rw [Subsingleton.elim i0 0]
    exact r244 _ _ _ _ _ _ _ _ _ hg hd i1
  · funext i
    idx_vars i
    exact r224 _ _ _ _ _ _ _ _ _ hg hd i0 i1
  · funext i
    idx_vars i
    exact r152 _ _ _ _ _ _ _ _ _ hg hd i0 i1
  · funext i
    idx_vars i
    rw [Subsingleton.elim i0 0]
    exact r245 y0 y1 y2 y3 y4 y5 y6 y7 y9 i1
  · funext i
    idx_vars i
    rw [Subsingleton.elim i0 0]
    exact r246 y0 y1 y2 y3 y4 y5 y6 y7 y9 i1

set_option maxHeartbeats 800000 in
/-- The value claim of the mixing output's backward call. -/
theorem algebraic : Cert.algebraic_MixKernelIdeal_MixReferenceIdeal_pre_mix_finite
    (hMixKernelIdeal := Cert.MixKernelIdeal.Gen.facts) (hMixReferenceIdeal := Cert.MixReferenceIdeal.Gen.facts)
    (hPre_mix_finite := pre_facts) := by
  intro m g m' g' hpre hag
  refine ⟨fun c => arrA m c, fun c => arrB m c, fun c => arrY m c, fun c => arrX m c, fun c => arrGa m c, fun c => arrGb m c,
    fun c => arrGc m c, fun c => arrW m c, fun c => arrO m c, fun c => arrLg m c, fun c => arrLb m c, ?_, ?_⟩
  · refine (θ_run _ _ _).mono (fun r h c => ?_) (Cert.MixKernelIdeal.Value.run_blocks m g)
    obtain ⟨h0, h1, h2, h3, h4, h5, h6, h7, h8, h9, h10, hk⟩ := h c
    exact ⟨h0.trans (arr12 m c), h1.trans (arr13 m c), h2.trans (arr14 m c), h3.trans (arr15 m c), h4.trans (arr16 m c),
      h5.trans (arr17 m c), h6.trans (arr18 m c), h7.trans (arr19 m c), h8.trans (arr20 m c), h9.trans (arr21 m c),
      h10.trans (arr22 m c), hk⟩
  · refine (θ_run _ _ _).mono (fun r h c => ?_) (Cert.MixReferenceIdeal.Value.run m' g')
    obtain ⟨h0, h1, h2, h3, h4, h5, h6, h7, h8, h9, h10, hk⟩ := h c
    obtain ⟨e0, e1, e2, e3, e4, e5, e6, e7, e8, e9⟩ := hag c
    have hf := finite_args
      (m ((c.tc : Thread Cert.MixKernelIdeal.nD Cert.MixKernelIdeal.τ).loc Cert.MixKernelIdeal.main_arg0))
      (m ((c.tc : Thread Cert.MixKernelIdeal.nD Cert.MixKernelIdeal.τ).loc Cert.MixKernelIdeal.main_arg1))
      (m ((c.tc : Thread Cert.MixKernelIdeal.nD Cert.MixKernelIdeal.τ).loc Cert.MixKernelIdeal.main_arg2))
      (m ((c.tc : Thread Cert.MixKernelIdeal.nD Cert.MixKernelIdeal.τ).loc Cert.MixKernelIdeal.main_arg3))
      (m ((c.tc : Thread Cert.MixKernelIdeal.nD Cert.MixKernelIdeal.τ).loc Cert.MixKernelIdeal.main_arg4))
      (m ((c.tc : Thread Cert.MixKernelIdeal.nD Cert.MixKernelIdeal.τ).loc Cert.MixKernelIdeal.main_arg5))
      (m ((c.tc : Thread Cert.MixKernelIdeal.nD Cert.MixKernelIdeal.τ).loc Cert.MixKernelIdeal.main_arg6))
      (m ((c.tc : Thread Cert.MixKernelIdeal.nD Cert.MixKernelIdeal.τ).loc Cert.MixKernelIdeal.main_arg7))
      (m ((c.tc : Thread Cert.MixKernelIdeal.nD Cert.MixKernelIdeal.τ).loc Cert.MixKernelIdeal.main_arg8))
      (m ((c.tc : Thread Cert.MixKernelIdeal.nD Cert.MixKernelIdeal.τ).loc Cert.MixKernelIdeal.main_arg9))
      (hpre c)
    have hr := results
      (m ((c.tc : Thread Cert.MixKernelIdeal.nD Cert.MixKernelIdeal.τ).loc Cert.MixKernelIdeal.main_arg0)) (launchContents m' c (Proc.devRef .tc Cert.MixReferenceIdeal.main_arg0))
      (m ((c.tc : Thread Cert.MixKernelIdeal.nD Cert.MixKernelIdeal.τ).loc Cert.MixKernelIdeal.main_arg1)) (launchContents m' c (Proc.devRef .tc Cert.MixReferenceIdeal.main_arg1))
      (m ((c.tc : Thread Cert.MixKernelIdeal.nD Cert.MixKernelIdeal.τ).loc Cert.MixKernelIdeal.main_arg2)) (launchContents m' c (Proc.devRef .tc Cert.MixReferenceIdeal.main_arg2))
      (m ((c.tc : Thread Cert.MixKernelIdeal.nD Cert.MixKernelIdeal.τ).loc Cert.MixKernelIdeal.main_arg3)) (launchContents m' c (Proc.devRef .tc Cert.MixReferenceIdeal.main_arg3))
      (m ((c.tc : Thread Cert.MixKernelIdeal.nD Cert.MixKernelIdeal.τ).loc Cert.MixKernelIdeal.main_arg9)) (launchContents m' c (Proc.devRef .tc Cert.MixReferenceIdeal.main_arg9))
      (m ((c.tc : Thread Cert.MixKernelIdeal.nD Cert.MixKernelIdeal.τ).loc Cert.MixKernelIdeal.main_arg4)) (launchContents m' c (Proc.devRef .tc Cert.MixReferenceIdeal.main_arg4))
      (m ((c.tc : Thread Cert.MixKernelIdeal.nD Cert.MixKernelIdeal.τ).loc Cert.MixKernelIdeal.main_arg7)) (launchContents m' c (Proc.devRef .tc Cert.MixReferenceIdeal.main_arg7))
      (m ((c.tc : Thread Cert.MixKernelIdeal.nD Cert.MixKernelIdeal.τ).loc Cert.MixKernelIdeal.main_arg5)) (launchContents m' c (Proc.devRef .tc Cert.MixReferenceIdeal.main_arg5))
      (m ((c.tc : Thread Cert.MixKernelIdeal.nD Cert.MixKernelIdeal.τ).loc Cert.MixKernelIdeal.main_arg6)) (launchContents m' c (Proc.devRef .tc Cert.MixReferenceIdeal.main_arg6))
      hf.1 hf.2 e0 e1 e2 e3 e4 e5 e6 e7 e9
    obtain ⟨r0, r1, r2, r3, r4, r5, r6, r7, r8, r9, r10⟩ := hr
    have v0 := val_main_v218_eq (F := Ideal) (launchContents m' c)
    have v1 := val_main_v198_eq (F := Ideal) (launchContents m' c)
    have v2 := val_main_v238_eq (F := Ideal) (launchContents m' c)
    have v3 := val_main_v155_eq (F := Ideal) (launchContents m' c)
    have v4 := val_main_v242_eq (F := Ideal) (launchContents m' c)
    have v5 := val_main_v243_eq (F := Ideal) (launchContents m' c)
    have v6 := val_main_v244_eq (F := Ideal) (launchContents m' c)
    have v7 := val_main_v224_eq (F := Ideal) (launchContents m' c)
    have v8 := val_main_v152_eq (F := Ideal) (launchContents m' c)
    have v9 := val_main_v245_eq (F := Ideal) (launchContents m' c)
    have v10 := val_main_v246_eq (F := Ideal) (launchContents m' c)
    exact ⟨h0.trans (v0.trans r0),
      h1.trans (v1.trans r1),
      h2.trans (v2.trans r2),
      h3.trans (v3.trans r3),
      h4.trans (v4.trans r4),
      h5.trans (v5.trans r5),
      h6.trans (v6.trans r6),
      h7.trans (v7.trans r7),
      h8.trans (v8.trans r8),
      h9.trans (v9.trans r9),
      h10.trans (v10.trans r10), hk⟩

end Cert.Proof.Mix

end
-- ==== Proof.NormEquation.lean ====
/-
  The layer norm's backward call and its reference.
-/
module

public import proofs.«01_k».proof.Defs
public import Idealize.ShloMosaic.Lib.Quiescent
public import proofs.«01_k».proof.Proof.Gen.NormKernel.Frame
public import proofs.«01_k».proof.Proof.Gen.NormKernelIdeal.Frame
public import proofs.«01_k».proof.Proof.NormValue
public import proofs.«01_k».proof.Proof.NormReference
public import proofs.«01_k».proof.Proof.Gen.NormReferenceIdeal.Run
public import proofs.«01_k».proof.Proof.Gen.NormReferenceIdeal.Read

@[expose] public section

set_option maxRecDepth 16384

noncomputable section

namespace Cert.Proof.Norm

open Idealize.ShloMosaic Idealize.ShloMosaic.TcCoe Idealize.SL.Sem
open Cert.NormKernelIdeal.Value (gradArr scaleArr shiftArr arr4 arr5 arr6)
open Cert.NormReferenceIdeal.Read
open Cert.Reals

/-- The reference runs, keeps its arguments, and has no semaphore to leave raised. -/
theorem frame_reference : Cert.quiescent_NormReferenceIdeal
    (hNormReferenceIdeal := Cert.NormReferenceIdeal.Gen.facts) := fun m ρ _ =>
  (θ_run Cert.NormReferenceIdeal.defs _ _).mono (fun r h => ⟨fun c => (h c).2.2.2, sem_eq_zero_of_no_sems (by decide) r.2⟩)
    (Cert.NormReferenceIdeal.Value.run m ρ)

/-- The side conditions of the precondition's operations. -/
instance pre_facts : Cert.Pre_ln_finite.Facts := by
  constructor <;> decide

/-- What the precondition says of the arguments. -/
theorem finite_args (x : Xs) (g b : Gs) (y : Xs) (h : Cert.Pre_ln_finite.fn (F := Ideal) x g b y = fun _ => 1#1) :
    (∀ i, IsReal (g i)) ∧ ∀ i, IsReal (y i) := by
  obtain ⟨hg, hy⟩ := andi_one (congrFun h ix0)
  exact ⟨all_real _ _ _ _ _ _ hg, all_real _ _ _ _ _ _ hy⟩

/-- The value claim of the layer norm's backward call. -/
theorem algebraic : Cert.algebraic_NormKernelIdeal_NormReferenceIdeal_pre_ln_finite
    (hNormKernelIdeal := Cert.NormKernelIdeal.Gen.facts) (hNormReferenceIdeal := Cert.NormReferenceIdeal.Gen.facts)
    (hPre_ln_finite := pre_facts) := by
  intro m g m' g' hpre hag
  refine ⟨fun c => gradArr m c, fun c => scaleArr m c, fun c => shiftArr m c, ?_, ?_⟩
  · refine (θ_run _ _ _).mono (fun r h c => ?_) (Cert.NormKernelIdeal.Value.run_blocks m g)
    obtain ⟨h0, h1, h2, hk⟩ := h c
    exact ⟨h0.trans (arr4 m c), h1.trans (arr5 m c), h2.trans (arr6 m c), hk⟩
  · refine (θ_run _ _ _).mono (fun r h c => ?_) (Cert.NormReferenceIdeal.Value.run m' g')
    obtain ⟨h0, h1, h2, hk⟩ := h c
    obtain ⟨e0, e1, e2, e3⟩ := hag c
    obtain ⟨hg, hy⟩ := finite_args _ _ _ _ (hpre c)
    rw [← e1] at hg
    rw [← e3] at hy
    refine ⟨h0.trans ((val_main_v62_eq m' c).trans ?_), h1.trans ((val_main_v63_eq _ _).trans ?_),
      h2.trans ((val_main_v64_eq _).trans ?_), hk⟩
    · funext i
      idx_vars i
      refine (grad_eq _ _ _ i0 i1 hg hy).trans ?_
      rw [e0, e1, e3]
      rfl
    · funext i
      idx_vars i
      rw [Subsingleton.elim i0 0]
      refine (scale_eq _ _ i1).trans ?_
      rw [e0, e3]
      rfl
    · funext i
      idx_vars i
      rw [Subsingleton.elim i0 0]
      refine (shift_eq _ i1).trans ?_
      rw [e3]
      rfl

end Cert.Proof.Norm

end
-- ==== Proof.DiscSteps.lean ====
/-
  The payloads of the discretisation of the S5 recurrence are the steps of its reference: at the extended reals each vector
  the body forms is a vector of the reference, the matrices in their other layout.
-/
module

public import proofs.«01_k».proof.Proof.Gen.DiscKernelIdeal.Frame
public import proofs.«01_k».proof.Proof.Gen.DiscReferenceIdeal.Read
public import Idealize.ShloMosaic.Lib.Pipeline.ValueKit

@[expose] public section

set_option maxRecDepth 16384

noncomputable section

namespace Cert.Proof.Disc

open Idealize.ShloMosaic Idealize.ShloMosaic.TcCoe
open Cert.DiscKernelIdeal.Gen
open Cert.DiscReferenceIdeal.Read

abbrev Mat := Vec Ideal ⟨2, ![16, 64]⟩ .f32
abbrev Col := Vec Ideal ⟨2, ![16, 1]⟩ .f32
abbrev Steps := Vec Ideal ⟨1, ![16]⟩ .f32
abbrev Cube := Vec Ideal ⟨3, ![16, 64, 16]⟩ .f32
abbrev Turned := Vec Ideal ⟨3, ![16, 16, 64]⟩ .f32

/-- The step sizes as a column. -/
def col (x : Steps) : Col := fun i => x (ix1 (i 0))

/-- A matrix per head, its two axes exchanged. -/
def turn (x : Cube) : Turned := fun i => x (ix3 (i 0) (i 2) (i 1))

/-- A column spread over the states. -/
theorem spread (y : Col) (h) (h') : broadcastTo Cert.DiscKernelIdeal.S16x64 y h
    = broadcastInDim Cert.DiscReferenceIdeal.S16x64 ![0, 1] h' y := by
  funext i
  idx_vars i
  pointwise []

variable (x0 x1 : Mat) (x2 : Steps) (x3 x4 : Cube)

theorem p4 : k0_pay4 (F := Ideal) (col x2) = (val_main_v1 (F := Ideal) x2) := by
  funext i
  idx_vars i
  unfold k0_pay4 val_main_v1 val_main_v0 col
  pointwise []

theorem p5 : k0_pay5 (F := Ideal) x0 (col x2) = (val_main_v4 (F := Ideal) x0 x2) := by
  unfold k0_pay5 val_main_v4 val_main_v3 val_main_v2
  simp only [p4 x2, spread _ _ Cert.DiscReferenceIdeal.Gen.bcast_S16x1_S16x64_0_1]
  rfl

theorem p6 : k0_pay6 (F := Ideal) x0 x1 (col x2) = (val_main_v8 (F := Ideal) x0 x1 x2) := by
  unfold k0_pay6 val_main_v8 val_main_v7 val_main_v6 val_main_v5
  simp only [p4 x2, p5 x0 x2, spread _ _ Cert.DiscReferenceIdeal.Gen.bcast_S16x1_S16x64_0_1]
  rfl

theorem p7 : k0_pay7 (F := Ideal) x0 x1 (col x2) = (val_main_v12 (F := Ideal) x0 x1 x2) := by
  unfold k0_pay7 val_main_v12 val_main_v11 val_main_v10 val_main_v9
  simp only [p4 x2, p5 x0 x2, spread _ _ Cert.DiscReferenceIdeal.Gen.bcast_S16x1_S16x64_0_1]
  rfl

theorem p8 : k0_pay8 (F := Ideal) x0 x1 = (val_main_v15 (F := Ideal) x0 x1) := by
  unfold k0_pay8 val_main_v15 val_main_v14 val_main_v13
  rfl

/-- The two factors of the matrices, each with an axis of one entry. -/
theorem p9 : k0_pay9 (F := Ideal) x0 x1 (col x2) = shapeCast Cert.DiscKernelIdeal.S16x1x64 (val_main_v21 (F := Ideal) x0 x1 x2) Cert.DiscKernelIdeal.Gen.shapeCasts_S16x64_S16x1x64 := by
  unfold k0_pay9 val_main_v21 val_main_v20 val_main_v19 val_main_v18 val_main_v17 val_main_v16 val_main_cst
  simp only [p6 x0 x1 x2, p7 x0 x1 x2, p8 x0 x1]
  rfl

theorem p10 : k0_pay10 (F := Ideal) x0 x1 (col x2) = shapeCast Cert.DiscKernelIdeal.S16x1x64 (val_main_v27 (F := Ideal) x0 x1 x2) Cert.DiscKernelIdeal.Gen.shapeCasts_S16x64_S16x1x64 := by
  unfold k0_pay10 val_main_v27 val_main_v26 val_main_v25 val_main_v24 val_main_v23 val_main_v22 val_main_cst_0
  simp only [p6 x0 x1 x2, p7 x0 x1 x2, p8 x0 x1]
  rfl

theorem p11 : k0_pay11 (F := Ideal) x0 x1 (col x2) (turn x3) (turn x4) = (val_main_v40 (F := Ideal) x0 x1 x2 x3 x4) := by
  funext i
  idx_vars i
  unfold k0_pay11 k0_pay2 k0_pay3 val_main_v40 val_main_v34 val_main_v33 val_main_v32 val_main_v31 val_main_v30 val_main_v29 val_main_v28 turn
  rw [p9 x0 x1 x2, p10 x0 x1 x2]
  generalize val_main_v21 (F := Ideal) x0 x1 x2 = u
  generalize val_main_v27 (F := Ideal) x0 x1 x2 = w
  pointwise []

theorem p1 : k0_pay1 (F := Ideal) (k0_pay12 (F := Ideal) x0 x1 (col x2) (turn x4)) (k0_pay13 (F := Ideal) x0 x1 (col x2) (turn x3)) = (val_main_v41 (F := Ideal) x0 x1 x2 x3 x4) := by
  funext i
  idx_vars i
  unfold k0_pay1 k0_pay12 k0_pay13 k0_pay2 k0_pay3 val_main_v41 val_main_v39 val_main_v38 val_main_v37 val_main_v36 val_main_v35 val_main_v29 val_main_v28 turn
  rw [p9 x0 x1 x2, p10 x0 x1 x2]
  generalize val_main_v21 (F := Ideal) x0 x1 x2 = u
  generalize val_main_v27 (F := Ideal) x0 x1 x2 = w
  pointwise []

end Cert.Proof.Disc

end
-- ==== Proof.DiscValue.lean ====
/-
  What the discretisation of the S5 recurrence leaves in its four results: the reference's vectors of the arguments.
-/
module

public import proofs.«01_k».proof.Proof.DiscSteps
public import Idealize.ShloMosaic.Lib.WholeRead

@[expose] public section

set_option maxRecDepth 16384

noncomputable section

namespace Cert.Proof.Disc

open Idealize.ShloMosaic Idealize.ShloMosaic.TcCoe Idealize.ShloMosaic.Tactic
open Cert.DiscKernelIdeal Cert.DiscKernelIdeal.Gen
open Cert.DiscReferenceIdeal.Read

/-- A load of the whole of a block reads it. -/
theorem ld0 (x : Vec Ideal Cert.DiscKernelIdeal.S16x64 .f32) : View.ld x r0_0 = x := View.ld_unit_zero (by decide) _ x
theorem ld1 (x : Vec Ideal Cert.DiscKernelIdeal.S16x1 .f32) : View.ld x r0_1 = x := View.ld_unit_zero (by decide) _ x
theorem ld2 (x : Vec Ideal Cert.DiscKernelIdeal.S16x16x64 .f32) : View.ld x r0_2 = x := View.ld_unit_zero (by decide) _ x

/-- A store of the whole of a block leaves its payload. -/
theorem st {s : Shape} {off : Fin s.rank → Nat} (h : off = fun _ => 0) (inb : ∀ a, off a + s.size a ≤ s.size a)
    (w : s.Idx → Elt Ideal .f32) : View.canon [(⟨Rect.unit off s.size inb, w⟩ : View.Piece (Elt Ideal) s .f32)] = w := by
  subst h
  funext y
  have h := View.canon_cons_emb (Val := Elt Ideal) (e := .f32) (Rect.whole s) w [] y
  rw [Rect.emb_whole_apply] at h
  exact h

section
variable (x0 x1 : Mat) (x2 : Steps) (x3 x4 : Cube)

theorem out5 : out0_5 (F := Ideal) x0 x1 (col x2) (turn x3) (turn x4) = val_main_v8 (F := Ideal) x0 x1 x2 := by
  unfold out0_5
  simp only [ld0, ld1, ld2, p6 x0 x1 x2]
  exact st (by decide) _ _

theorem out6 : out0_6 (F := Ideal) x0 x1 (col x2) (turn x3) (turn x4) = val_main_v12 (F := Ideal) x0 x1 x2 := by
  unfold out0_6
  simp only [ld0, ld1, ld2, p7 x0 x1 x2]
  exact st (by decide) _ _

theorem out7 : out0_7 (F := Ideal) x0 x1 (col x2) (turn x3) (turn x4) = val_main_v40 (F := Ideal) x0 x1 x2 x3 x4 := by
  unfold out0_7
  simp only [ld0, ld1, ld2, p11 x0 x1 x2 x3 x4]
  exact st (by decide) _ _

theorem out8 : out0_8 (F := Ideal) x0 x1 (col x2) (turn x3) (turn x4) = val_main_v41 (F := Ideal) x0 x1 x2 x3 x4 := by
  unfold out0_8
  simp only [ld0, ld1, ld2, p1 x0 x1 x2 x3 x4]
  exact st (by decide) _ _

end

variable (m : (ℓ : Loc nD τ sig) → Buf (Elt Ideal) ℓ)

/-- The host's column of step sizes and its turned matrices. -/
theorem V_v0 (c : Dev nD) (i : Cert.DiscKernelIdeal.S16x1.Idx) : V m c main_v0 i = col (m ((c.tc : Thread nD τ).loc main_arg2)) i := by
  unfold col
  idx_vars i
  unfold_abbrev_sides
  after_results
  pointwise []

theorem V_v1 (c : Dev nD) (i : Cert.DiscKernelIdeal.S16x16x64.Idx) : V m c main_v1 i = turn (m ((c.tc : Thread nD τ).loc main_arg3)) i := by
  unfold turn
  idx_vars i
  unfold_abbrev_sides
  after_results
  pointwise []

theorem V_v2 (c : Dev nD) (i : Cert.DiscKernelIdeal.S16x16x64.Idx) : V m c main_v2 i = turn (m ((c.tc : Thread nD τ).loc main_arg4)) i := by
  unfold turn
  idx_vars i
  unfold_abbrev_sides
  after_results
  pointwise []

/-- Every window is a whole array. -/
theorem idx2 : ∀ t : Fin cfg0.N, win0_0.index t = ![0, 0] ∧ win0_1.index t = ![0, 0] ∧ win0_2.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_5.index t = ![0, 0] ∧ win0_6.index t = ![0, 0])

theorem idx3 : ∀ t : Fin cfg0.N, win0_3.index t = ![0, 0, 0] ∧ win0_4.index t = ![0, 0, 0] ∧ win0_7.index t = ![0, 0, 0] ∧ win0_8.index t = ![0, 0, 0] :=
  (by decide +kernel : ∀ t : Fin grid0.N, win0_3.index t = ![0, 0, 0] ∧ win0_4.index t = ![0, 0, 0] ∧ win0_7.index t = ![0, 0, 0] ∧ win0_8.index t = ![0, 0, 0])

theorem blk0 (c : Dev nD) (t : Fin cfg0.N) : iblk m c 0 t = m ((c.tc : Thread nD τ).loc main_arg0) := by
  funext i
  idx_vars i
  blk_point [iblk, V_main_arg0, idx2 t]

theorem blk1 (c : Dev nD) (t : Fin cfg0.N) : iblk m c 1 t = m ((c.tc : Thread nD τ).loc main_arg1) := by
  funext i
  idx_vars i
  blk_point [iblk, V_main_arg1, idx2 t]

theorem blk2 (c : Dev nD) (t : Fin cfg0.N) : iblk m c 2 t = col (m ((c.tc : Thread nD τ).loc main_arg2)) := by
  funext i
  idx_vars i
  refine Eq.trans ?_ (V_v0 m c (ix2 i0 i1))
  blk_point [iblk, idx2 t]

theorem blk3 (c : Dev nD) (t : Fin cfg0.N) : iblk m c 3 t = turn (m ((c.tc : Thread nD τ).loc main_arg3)) := by
  funext i
  idx_vars i
  refine Eq.trans ?_ (V_v1 m c (ix3 i0 i1 i2))
  blk_point [iblk, idx3 t]

theorem blk4 (c : Dev nD) (t : Fin cfg0.N) : iblk m c 4 t = turn (m ((c.tc : Thread nD τ).loc main_arg4)) := by
  funext i
  idx_vars i
  refine Eq.trans ?_ (V_v2 m c (ix3 i0 i1 i2))
  blk_point [iblk, idx3 t]

theorem arr5 (c : Dev nD) : (dats m 0 c).arrAt 5 cfg0.N = val_main_v8 (F := Ideal) (m ((c.tc : Thread nD τ).loc main_arg0)) (m ((c.tc : Thread nD τ).loc main_arg1)) (m ((c.tc : Thread nD τ).loc main_arg2)) := by
  generalize hX : val_main_v8 (F := Ideal) (m ((c.tc : Thread nD τ).loc main_arg0)) (m ((c.tc : Thread nD τ).loc main_arg1)) (m ((c.tc : Thread nD τ).loc main_arg2)) = X
  refine (dats m 0 c).arrAt_eq_of_covers 5 _ (by decide +kernel) fun t hf y => ?_
  blk_simp
  rw [after0_5, blk0, blk1, blk2, blk3, blk4, out5, hX]
  idx_vars y
  blk_point [idx2 t]

theorem arr6 (c : Dev nD) : (dats m 0 c).arrAt 6 cfg0.N = val_main_v12 (F := Ideal) (m ((c.tc : Thread nD τ).loc main_arg0)) (m ((c.tc : Thread nD τ).loc main_arg1)) (m ((c.tc : Thread nD τ).loc main_arg2)) := by
  generalize hX : val_main_v12 (F := Ideal) (m ((c.tc : Thread nD τ).loc main_arg0)) (m ((c.tc : Thread nD τ).loc main_arg1)) (m ((c.tc : Thread nD τ).loc main_arg2)) = X
  refine (dats m 0 c).arrAt_eq_of_covers 6 _ (by decide +kernel) fun t hf y => ?_
  blk_simp
  rw [after0_6, blk0, blk1, blk2, blk3, blk4, out6, hX]
  idx_vars y
  blk_point [idx2 t]

theorem arr7 (c : Dev nD) : (dats m 0 c).arrAt 7 cfg0.N = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  generalize hX : val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = X
  refine (dats m 0 c).arrAt_eq_of_covers 7 _ (by decide +kernel) fun t hf y => ?_
  blk_simp
  rw [after0_7, blk0, blk1, blk2, blk3, blk4, out7, hX]
  idx_vars y
  blk_point [idx3 t]

theorem arr8 (c : Dev nD) : (dats m 0 c).arrAt 8 cfg0.N = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  generalize hX : val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = X
  refine (dats m 0 c).arrAt_eq_of_covers 8 _ (by decide +kernel) fun t hf y => ?_
  blk_simp
  rw [after0_8, blk0, blk1, blk2, blk3, blk4, out8, hX]
  idx_vars y
  blk_point [idx3 t]

end Cert.Proof.Disc

end
-- ==== Proof.DiscEquation.lean ====
/-
  The discretisation of the S5 recurrence and its reference.
-/
module

public import proofs.«01_k».proof.Defs
public import Idealize.ShloMosaic.Lib.Quiescent
public import proofs.«01_k».proof.Proof.Gen.DiscKernel.Frame
public import proofs.«01_k».proof.Proof.Gen.DiscKernelIdeal.Frame
public import proofs.«01_k».proof.Proof.DiscValue
public import proofs.«01_k».proof.Proof.Gen.DiscReferenceIdeal.Run
public import proofs.«01_k».proof.Proof.Gen.DiscReferenceIdeal.Read

@[expose] public section

set_option maxRecDepth 16384

noncomputable section

namespace Cert.Proof.Disc

open Idealize.ShloMosaic Idealize.ShloMosaic.TcCoe Idealize.SL.Sem

/-- The reference runs, keeps its arguments, and has no semaphore to leave raised. -/
theorem frame_reference : Cert.quiescent_DiscReferenceIdeal
    (hDiscReferenceIdeal := Cert.DiscReferenceIdeal.Gen.facts) := fun m ρ _ =>
  (θ_run Cert.DiscReferenceIdeal.defs _ _).mono (fun r h => ⟨fun c => (h c).2.2.2.2, sem_eq_zero_of_no_sems (by decide) r.2⟩)
    (Cert.DiscReferenceIdeal.Value.run m ρ)

open Cert.DiscReferenceIdeal.Read

/-- The reference's vectors at equal arguments. -/
theorem results (x0 y0 : Mat) (x1 y1 : Mat) (x2 y2 : Steps) (x3 y3 : Cube) (x4 y4 : Cube)
    (e0 : y0 = x0) (e1 : y1 = x1) (e2 : y2 = x2) (e3 : y3 = x3) (e4 : y4 = x4) :
    val_main_v8 (F := Ideal) y0 y1 y2 = val_main_v8 (F := Ideal) x0 x1 x2
    ∧ val_main_v12 (F := Ideal) y0 y1 y2 = val_main_v12 (F := Ideal) x0 x1 x2
    ∧ val_main_v40 (F := Ideal) y0 y1 y2 y3 y4 = val_main_v40 (F := Ideal) x0 x1 x2 x3 x4
    ∧ val_main_v41 (F := Ideal) y0 y1 y2 y3 y4 = val_main_v41 (F := Ideal) x0 x1 x2 x3 x4 := by
  subst e0 e1 e2 e3 e4
  exact ⟨rfl, rfl, rfl, rfl⟩

/-- The value claim of the discretisation of the S5 recurrence. -/
theorem algebraic : Cert.algebraic_DiscKernelIdeal_DiscReferenceIdeal
    (hDiscKernelIdeal := Cert.DiscKernelIdeal.Gen.facts) (hDiscReferenceIdeal := Cert.DiscReferenceIdeal.Gen.facts) := by
  intro m g m' g' _ hag
  refine ⟨fun c => val_main_v8 (F := Ideal) (m ((c.tc : Thread Cert.DiscKernelIdeal.nD Cert.DiscKernelIdeal.τ).loc Cert.DiscKernelIdeal.main_arg0)) (m ((c.tc : Thread Cert.DiscKernelIdeal.nD Cert.DiscKernelIdeal.τ).loc Cert.DiscKernelIdeal.main_arg1)) (m ((c.tc : Thread Cert.DiscKernelIdeal.nD Cert.DiscKernelIdeal.τ).loc Cert.DiscKernelIdeal.main_arg2)),
    fun c => val_main_v12 (F := Ideal) (m ((c.tc : Thread Cert.DiscKernelIdeal.nD Cert.DiscKernelIdeal.τ).loc Cert.DiscKernelIdeal.main_arg0)) (m ((c.tc : Thread Cert.DiscKernelIdeal.nD Cert.DiscKernelIdeal.τ).loc Cert.DiscKernelIdeal.main_arg1)) (m ((c.tc : Thread Cert.DiscKernelIdeal.nD Cert.DiscKernelIdeal.τ).loc Cert.DiscKernelIdeal.main_arg2)),
    fun c => val_main_v40 (F := Ideal) (m ((c.tc : Thread Cert.DiscKernelIdeal.nD Cert.DiscKernelIdeal.τ).loc Cert.DiscKernelIdeal.main_arg0)) (m ((c.tc : Thread Cert.DiscKernelIdeal.nD Cert.DiscKernelIdeal.τ).loc Cert.DiscKernelIdeal.main_arg1)) (m ((c.tc : Thread Cert.DiscKernelIdeal.nD Cert.DiscKernelIdeal.τ).loc Cert.DiscKernelIdeal.main_arg2)) (m ((c.tc : Thread Cert.DiscKernelIdeal.nD Cert.DiscKernelIdeal.τ).loc Cert.DiscKernelIdeal.main_arg3)) (m ((c.tc : Thread Cert.DiscKernelIdeal.nD Cert.DiscKernelIdeal.τ).loc Cert.DiscKernelIdeal.main_arg4)),
    fun c => val_main_v41 (F := Ideal) (m ((c.tc : Thread Cert.DiscKernelIdeal.nD Cert.DiscKernelIdeal.τ).loc Cert.DiscKernelIdeal.main_arg0)) (m ((c.tc : Thread Cert.DiscKernelIdeal.nD Cert.DiscKernelIdeal.τ).loc Cert.DiscKernelIdeal.main_arg1)) (m ((c.tc : Thread Cert.DiscKernelIdeal.nD Cert.DiscKernelIdeal.τ).loc Cert.DiscKernelIdeal.main_arg2)) (m ((c.tc : Thread Cert.DiscKernelIdeal.nD Cert.DiscKernelIdeal.τ).loc Cert.DiscKernelIdeal.main_arg3)) (m ((c.tc : Thread Cert.DiscKernelIdeal.nD Cert.DiscKernelIdeal.τ).loc Cert.DiscKernelIdeal.main_arg4)), ?_, ?_⟩
  · refine (θ_run _ _ _).mono (fun r h c => ?_) (θ_run_and (Cert.DiscKernelIdeal.Gen.run_main m g) (Cert.DiscKernelIdeal.Gen.unchanged m g))
    exact ⟨((h.1 c).1 5).trans (arr5 m c), ((h.1 c).1 6).trans (arr6 m c), ((h.1 c).1 7).trans (arr7 m c),
      ((h.1 c).1 8).trans (arr8 m c), h.2 c⟩
  · refine (θ_run _ _ _).mono (fun r h c => ?_) (Cert.DiscReferenceIdeal.Value.run m' g')
    obtain ⟨h0, h1, h2, h3, hk⟩ := h c
    obtain ⟨e0, e1, e2, e3, e4⟩ := hag c
    obtain ⟨r0, r1, r2, r3⟩ := results (m ((c.tc : Thread Cert.DiscKernelIdeal.nD Cert.DiscKernelIdeal.τ).loc Cert.DiscKernelIdeal.main_arg0)) (m' ((c.tc : Thread Cert.DiscReferenceIdeal.nD Cert.DiscReferenceIdeal.τ).loc Cert.DiscReferenceIdeal.main_arg0))
      (m ((c.tc : Thread Cert.DiscKernelIdeal.nD Cert.DiscKernelIdeal.τ).loc Cert.DiscKernelIdeal.main_arg1)) (m' ((c.tc : Thread Cert.DiscReferenceIdeal.nD Cert.DiscReferenceIdeal.τ).loc Cert.DiscReferenceIdeal.main_arg1))
      (m ((c.tc : Thread Cert.DiscKernelIdeal.nD Cert.DiscKernelIdeal.τ).loc Cert.DiscKernelIdeal.main_arg2)) (m' ((c.tc : Thread Cert.DiscReferenceIdeal.nD Cert.DiscReferenceIdeal.τ).loc Cert.DiscReferenceIdeal.main_arg2))
      (m ((c.tc : Thread Cert.DiscKernelIdeal.nD Cert.DiscKernelIdeal.τ).loc Cert.DiscKernelIdeal.main_arg3)) (m' ((c.tc : Thread Cert.DiscReferenceIdeal.nD Cert.DiscReferenceIdeal.τ).loc Cert.DiscReferenceIdeal.main_arg3))
      (m ((c.tc : Thread Cert.DiscKernelIdeal.nD Cert.DiscKernelIdeal.τ).loc Cert.DiscKernelIdeal.main_arg4)) (m' ((c.tc : Thread Cert.DiscReferenceIdeal.nD Cert.DiscReferenceIdeal.τ).loc Cert.DiscReferenceIdeal.main_arg4))
      e0 e1 e2 e3 e4
    exact ⟨h0.trans ((val_main_v8_eq _ _ _).trans r0), h1.trans ((val_main_v12_eq _ _ _).trans r1), h2.trans ((val_main_v40_eq _ _ _ _ _).trans r2),
      h3.trans ((val_main_v41_eq _ _ _ _ _).trans r3), hk⟩

end Cert.Proof.Disc

end
-- ==== Proof.OutBody.lean ====
/-
  What the mixing output's forward call leaves in its result, at the extended reals: the layer norm of the residual input and
  the joined branches.
-/
module

public import proofs.«01_k».proof.Proof.Gen.OutKernelIdeal.Value
public import proofs.«01_k».proof.Proof.MixRows
public import Idealize.ShloMosaic.Lib.Pipeline.ValueKit

@[expose] public section

set_option maxRecDepth 16384

noncomputable section

namespace Cert.OutKernelIdeal.Value

open Idealize.ShloMosaic Idealize.ShloMosaic.TcCoe Idealize.SL.Sem
open Idealize.ShloMosaic.Pipeline (Dat)
open Cert.OutKernelIdeal Cert.OutKernelIdeal.Gen
open Cert.Mix
open Cert.NormKernelIdeal.Value (Row mean dev spread rinv)

/-- The layer norm of a row, with a shift. -/
def normed (x g b : Row) : Row := fun j => dev x j * rinv x * g j + b j

section Body

variable {q : Par} {r : Fin 512 → Inp} {b : Row}

theorem p8 {v : Vec Ideal S512x256 .f32} (h : ∀ p j, v (ix2 p j) = (r p).y j) (p : Fin 512) (j : Fin 256) :
    k0_pay8 (F := Ideal) v (ix2 p j) = act ((r p).y j) := by
  unfold k0_pay8; pointwise [h, act, bend]

theorem p9 {v : Vec Ideal S512x256 .f32} (h : ∀ p j, v (ix2 p j) = (r p).y j) (p : Fin 512) (j : Fin 256) :
    k0_pay9 (F := Ideal) v (ix2 p j) = act ((r p).y j) := by
  unfold k0_pay9; pointwise [p8 h]

theorem p10 {v : Vec Ideal S256x256 .f32} (h : ∀ i j, v (ix2 i j) = q.w i j) (i j : Fin 256) : k0_pay10 (F := Ideal) v (ix2 i j) = q.w i j := by
  unfold k0_pay10; pointwise [h]

theorem p2 {v : Vec Ideal S1x384 .f32} (h : ∀ j, v (ix2 0 j) = q.ga j) (j : Fin 384) : k0_pay2 (F := Ideal) v (ix2 0 j) = q.ga j := by
  unfold k0_pay2; pointwise [h]

theorem p3 {v : Vec Ideal S1x384 .f32} (h : ∀ j, v (ix2 0 j) = q.gb j) (j : Fin 384) : k0_pay3 (F := Ideal) v (ix2 0 j) = q.gb j := by
  unfold k0_pay3; pointwise [h]

theorem p4 {v : Vec Ideal S1x256 .f32} (h : ∀ j, v (ix2 0 j) = q.gc j) (j : Fin 256) : k0_pay4 (F := Ideal) v (ix2 0 j) = q.gc j := by
  unfold k0_pay4; pointwise [h]

theorem p5 {v : Vec Ideal S1024x1024 .f32} (h : ∀ i j, v (ix2 i j) = q.o i j) (i j : Fin 1024) : k0_pay5 (F := Ideal) v (ix2 i j) = q.o i j := by
  unfold k0_pay5; pointwise [h]

theorem p6 {v : Vec Ideal S1x1024 .f32} {l : Row} (h : ∀ j, v (ix2 0 j) = l j) (j : Fin 1024) : k0_pay6 (F := Ideal) v (ix2 0 j) = l j := by
  unfold k0_pay6; pointwise [h]

theorem p7 {v : Vec Ideal S1x1024 .f32} {l : Row} (h : ∀ j, v (ix2 0 j) = l j) (j : Fin 1024) : k0_pay7 (F := Ideal) v (ix2 0 j) = l j := by
  unfold k0_pay7; pointwise [h]

/-- The joined row. -/
theorem p11 {v0 v1 : Vec Ideal S512x384 .f32} {v5 v7 : Vec Ideal S1x384 .f32} {v9 : Vec Ideal S1x256 .f32} {v30 : Vec Ideal S512x256 .f32}
    {v31 : Vec Ideal S512x256 .bf16} {v32 : Vec Ideal S256x256 .bf16} (h0 : ∀ p j, v0 (ix2 p j) = (r p).a j)
    (h1 : ∀ p j, v1 (ix2 p j) = (r p).b j) (h5 : ∀ j, v5 (ix2 0 j) = q.ga j) (h7 : ∀ j, v7 (ix2 0 j) = q.gb j)
    (h9 : ∀ j, v9 (ix2 0 j) = q.gc j) (h30 : ∀ p j, v30 (ix2 p j) = act ((r p).y j)) (h31 : ∀ p j, v31 (ix2 p j) = act ((r p).y j))
    (h32 : ∀ i j, v32 (ix2 i j) = q.w i j) (p : Fin 512) (j : Fin 1024) :
    k0_pay11 (F := Ideal) v0 v1 v5 v7 v9 v30 v31 v32 (ix2 p j) = joined q (r p) j := by
  unfold k0_pay11
  pointwise [h0, h1, h5, h7, h9, h30, h31, h32, joined, cat, unit, unroot, square, gated, gate, expo]

/-- The result's row. -/
theorem p1 {v3 v78 : Vec Ideal S512x1024 .f32} {v13 : Vec Ideal S1024x1024 .f32} {v15 v17 : Vec Ideal S1x1024 .f32}
    (h3 : ∀ p j, v3 (ix2 p j) = (r p).x j) (h13 : ∀ i j, v13 (ix2 i j) = q.o i j) (h15 : ∀ j, v15 (ix2 0 j) = q.lg j)
    (h17 : ∀ j, v17 (ix2 0 j) = b j) (h78 : ∀ p j, v78 (ix2 p j) = joined q (r p) j) (p : Fin 512) (j : Fin 1024) :
    k0_pay1 (F := Ideal) v3 v13 v15 v17 v78 (Scalar.ofBits .f32 0x3FB504F3#32) (ix2 p j) = normed (sum q (r p)) q.lg b j := by
  unfold k0_pay1
  pointwise [h3, h13, h15, h17, h78, normed, dev, mean, rinv, spread, sum]

end Body

end Cert.OutKernelIdeal.Value

end
-- ==== Proof.OutValue.lean ====
/-
  What the mixing output's forward call leaves in its result after the run.
-/
module

public import proofs.«01_k».proof.Proof.OutBody

@[expose] public section

set_option maxRecDepth 16384

noncomputable section

namespace Cert.OutKernelIdeal.Value

open Idealize.ShloMosaic Idealize.ShloMosaic.TcCoe Idealize.SL.Sem
open Idealize.ShloMosaic.Pipeline (Dat)
open Cert.OutKernelIdeal Cert.OutKernelIdeal.Gen
open Cert.Mix
open Cert.NormKernelIdeal.Value (Row mean dev spread rinv)

variable (m : (ℓ : Loc nD τ sig) → Buf (Elt Ideal) ℓ)

theorem V_v1 (c : Dev nD) (i : S1x384.Idx) :
    V m c main_v1 i = m ((c.tc : Thread nD τ).loc main_arg4) (ix1 ⟨(i 1).val, by have := (i 1).isLt; simp at this; omega⟩) := by
  idx_vars i
  unfold_abbrev_sides
  after_results
  pointwise []

theorem V_v2 (c : Dev nD) (i : S1x384.Idx) :
    V m c main_v2 i = m ((c.tc : Thread nD τ).loc main_arg4) (ix1 ⟨384 + (i 1).val, by have := (i 1).isLt; simp at this; omega⟩) := by
  idx_vars i
  unfold_abbrev_sides
  after_results
  pointwise []

theorem V_v3 (c : Dev nD) (i : S1x256.Idx) :
    V m c main_v3 i = m ((c.tc : Thread nD τ).loc main_arg4) (ix1 ⟨768 + (i 1).val, by have := (i 1).isLt; simp at this; omega⟩) := by
  idx_vars i
  unfold_abbrev_sides
  after_results
  pointwise []

theorem V_v5 (c : Dev nD) (i : S256x256.Idx) : V m c main_v5 i = m ((c.tc : Thread nD τ).loc main_arg5) i := by
  idx_vars i
  unfold_abbrev_sides
  after_results
  pointwise []

theorem V_v7 (c : Dev nD) (i : S1024x1024.Idx) : V m c main_v7 i = m ((c.tc : Thread nD τ).loc main_arg6) i := by
  idx_vars i
  unfold_abbrev_sides
  after_results
  pointwise []

theorem V_v8 (c : Dev nD) (i : S1x1024.Idx) : V m c main_v8 i = m ((c.tc : Thread nD τ).loc main_arg7) (ix1 (i 1)) := by
  idx_vars i
  unfold_abbrev_sides
  after_results
  pointwise []

theorem V_v9 (c : Dev nD) (i : S1x1024.Idx) : V m c main_v9 i = m ((c.tc : Thread nD τ).loc main_arg8) (ix1 (i 1)) := by
  idx_vars i
  unfold_abbrev_sides
  after_results
  pointwise []

/-- Where the blocks of the row windows lie at a grid point. -/
theorem idxRows : ∀ t : Fin cfg0.N, win0_0.index t = ![t.val, 0] ∧ win0_1.index t = ![t.val, 0] ∧ win0_2.index t = ![t.val, 0]
    ∧ win0_3.index t = ![t.val, 0] ∧ win0_11.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_11.index t = ![t.val, 0])

/-- Where the parameters' windows lie. -/
theorem idxPars : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0])

/-- A row of the array a row of a block is. -/
def row (t : Fin cfg0.N) (p : Fin 512) : Fin 4096 := ⟨t.val * 512 + p.val, by have := lt_of_lt_of_eq t.isLt N_0; omega⟩

/-- The parameters the call is given. -/
def par (c : Dev nD) : Par where
  ga := fun j => m ((c.tc : Thread nD τ).loc main_arg4) (ix1 ⟨j.val, by omega⟩)
  gb := fun j => m ((c.tc : Thread nD τ).loc main_arg4) (ix1 ⟨384 + j.val, by omega⟩)
  gc := fun j => m ((c.tc : Thread nD τ).loc main_arg4) (ix1 ⟨768 + j.val, by omega⟩)
  w := fun i j => m ((c.tc : Thread nD τ).loc main_arg5) (ix2 i j)
  o := fun i j => m ((c.tc : Thread nD τ).loc main_arg6) (ix2 i j)
  lg := fun j => m ((c.tc : Thread nD τ).loc main_arg7) (ix1 j)

/-- The rows it is given; no gradient comes in. -/
def inp (c : Dev nD) (r : Fin 4096) : Inp where
  a := fun j => m ((c.tc : Thread nD τ).loc main_arg0) (ix2 r j)
  b := fun j => m ((c.tc : Thread nD τ).loc main_arg1) (ix2 r j)
  y := fun j => m ((c.tc : Thread nD τ).loc main_arg2) (ix2 r j)
  x := fun j => m ((c.tc : Thread nD τ).loc main_arg3) (ix2 r j)
  d := fun _ => 0

theorem blk0 (c : Dev nD) (t : Fin cfg0.N) (p : Fin 512) (k : Fin 384) : iblk m c 0 t (ix2 p k) = (inp m c (row t p)).a k := by
  show iblk m c 0 t (ix2 p k) = m ((c.tc : Thread nD τ).loc main_arg0) (ix2 (row t p) k)
  blk_point [iblk, V_main_arg0, row, idxRows t]

theorem blk1 (c : Dev nD) (t : Fin cfg0.N) (p : Fin 512) (k : Fin 384) : iblk m c 1 t (ix2 p k) = (inp m c (row t p)).b k := by
  show iblk m c 1 t (ix2 p k) = m ((c.tc : Thread nD τ).loc main_arg1) (ix2 (row t p) k)
  blk_point [iblk, V_main_arg1, row, idxRows t]

theorem blk2 (c : Dev nD) (t : Fin cfg0.N) (p : Fin 512) (k : Fin 256) : iblk m c 2 t (ix2 p k) = (inp m c (row t p)).y k := by
  show iblk m c 2 t (ix2 p k) = m ((c.tc : Thread nD τ).loc main_arg2) (ix2 (row t p) k)
  blk_point [iblk, V_main_arg2, row, idxRows t]

theorem blk3 (c : Dev nD) (t : Fin cfg0.N) (p : Fin 512) (k : Fin 1024) : iblk m c 3 t (ix2 p k) = (inp m c (row t p)).x k := by
  show iblk m c 3 t (ix2 p k) = m ((c.tc : Thread nD τ).loc main_arg3) (ix2 (row t p) k)
  blk_point [iblk, V_main_arg3, row, idxRows t]

theorem blk4 (c : Dev nD) (t : Fin cfg0.N) (k : Fin 384) : iblk m c 4 t (ix2 0 k) = (par m c).ga k := by
  refine Eq.trans ?_ (V_v1 m c (ix2 0 k))
  blk_point [iblk, idxPars t]

theorem blk5 (c : Dev nD) (t : Fin cfg0.N) (k : Fin 384) : iblk m c 5 t (ix2 0 k) = (par m c).gb k := by
  refine Eq.trans ?_ (V_v2 m c (ix2 0 k))
  blk_point [iblk, idxPars t]

theorem blk6 (c : Dev nD) (t : Fin cfg0.N) (k : Fin 256) : iblk m c 6 t (ix2 0 k) = (par m c).gc k := by
  refine Eq.trans ?_ (V_v3 m c (ix2 0 k))
  blk_point [iblk, idxPars t]

theorem blk7 (c : Dev nD) (t : Fin cfg0.N) (i k : Fin 256) : iblk m c 7 t (ix2 i k) = (par m c).w i k := by
  refine Eq.trans ?_ (V_v5 m c (ix2 i k))
  blk_point [iblk, idxPars t]

theorem blk8 (c : Dev nD) (t : Fin cfg0.N) (i k : Fin 1024) : iblk m c 8 t (ix2 i k) = (par m c).o i k := by
  refine Eq.trans ?_ (V_v7 m c (ix2 i k))
  blk_point [iblk, idxPars t]

theorem blk9 (c : Dev nD) (t : Fin cfg0.N) (k : Fin 1024) : iblk m c 9 t (ix2 0 k) = (par m c).lg k := by
  refine Eq.trans ?_ (V_v8 m c (ix2 0 k))
  blk_point [iblk, idxPars t]

theorem blk10 (c : Dev nD) (t : Fin cfg0.N) (k : Fin 1024) : iblk m c 10 t (ix2 0 k) = m ((c.tc : Thread nD τ).loc main_arg8) (ix1 k) := by
  refine Eq.trans ?_ (V_v9 m c (ix2 0 k))
  blk_point [iblk, idxPars t]

/-- The layer norm of every row. -/
def arrOut (c : Dev nD) : Vec Ideal S4096x1024 .f32 := fun i =>
  normed (sum (par m c) (inp m c (i 0))) (par m c).lg (fun j => m ((c.tc : Thread nD τ).loc main_arg8) (ix1 j)) (i 1)

/-- The result after the run. -/
theorem arr11 (c : Dev nD) : (dats m 0 c).arrAt 11 cfg0.N = arrOut m c := by
  refine (dats m 0 c).arrAt_eq_of_covers 11 _ (by decide +kernel) fun t hf y => ?_
  blk_simp
  rw [after0_11]
  idx_vars y
  have e := p1 (q := par m c) (r := fun p => inp m c (row t p)) (b := fun j => m ((c.tc : Thread nD τ).loc main_arg8) (ix1 j))
    (blk3 m c t) (p5 (blk8 m c t)) (p6 (blk9 m c t)) (p7 (blk10 m c t))
    (p11 (blk0 m c t) (blk1 m c t) (p2 (blk4 m c t)) (p3 (blk5 m c t)) (p4 (blk6 m c t)) (p8 (blk2 m c t)) (p9 (blk2 m c t)) (p10 (blk7 m c t))) y0 y1
  have e1 : _ = arrOut m c (ix2 (row t y0) y1) := e
  generalize arrOut m c = X at e1 ⊢
  unfold out0_11
  frame_out
  refine e1.trans ?_
  blk_point [row, idxRows t]

end Cert.OutKernelIdeal.Value

end
-- ==== Proof.OutReference.lean ====
/-
  The mixing output at the extended reals, element by element, as the reference has it.
-/
module

public import proofs.«01_k».proof.Proof.OutBody
public import proofs.«01_k».proof.Proof.MixReference
public import proofs.«01_k».proof.Proof.Gen.OutReferenceIdeal.Read

@[expose] public section

set_option maxRecDepth 16384

noncomputable section

namespace Cert.Proof.Out

open Idealize.ShloMosaic Idealize.ShloMosaic.TcCoe
open Cert.NormKernelIdeal.Value (Row mean dev spread rinv)
open Cert.OutKernelIdeal.Value (normed)
open Cert.OutReferenceIdeal.Read
open Cert.Proof.Mix (act_eq)
open Cert.Mix

/-- The parameters the reference is given. -/
def par (x4 : Vec Ideal ⟨1, ![1024]⟩ .f32) (x5 : Vec Ideal ⟨2, ![256, 256]⟩ .f32) (x6 : Vec Ideal ⟨2, ![1024, 1024]⟩ .f32)
    (x7 : Vec Ideal ⟨1, ![1024]⟩ .f32) : Par where
  ga := fun j => x4 (ix1 ⟨j.val, by omega⟩)
  gb := fun j => x4 (ix1 ⟨384 + j.val, by omega⟩)
  gc := fun j => x4 (ix1 ⟨768 + j.val, by omega⟩)
  w := fun i j => x5 (ix2 i j)
  o := fun i j => x6 (ix2 i j)
  lg := fun j => x7 (ix1 j)

/-- The rows it is given; no gradient comes in. -/
def inp (x0 x1 : Vec Ideal ⟨2, ![4096, 384]⟩ .f32) (x2 : Vec Ideal ⟨2, ![4096, 256]⟩ .f32)
    (x3 : Vec Ideal ⟨2, ![4096, 1024]⟩ .f32) (r : Fin 4096) : Inp where
  a := fun j => x0 (ix2 r j)
  b := fun j => x1 (ix2 r j)
  y := fun j => x2 (ix2 r j)
  x := fun j => x3 (ix2 r j)
  d := fun _ => 0

variable (x0 x1 : Vec Ideal ⟨2, ![4096, 384]⟩ .f32) (x2 : Vec Ideal ⟨2, ![4096, 256]⟩ .f32) (x3 : Vec Ideal ⟨2, ![4096, 1024]⟩ .f32)
  (x4 : Vec Ideal ⟨1, ![1024]⟩ .f32) (x5 : Vec Ideal ⟨2, ![256, 256]⟩ .f32) (x6 : Vec Ideal ⟨2, ![1024, 1024]⟩ .f32)
  (x7 : Vec Ideal ⟨1, ![1024]⟩ .f32)
include x0 x1 x2 x3 x4 x5 x6 x7

theorem r7 (r : Fin 4096) (j : Fin 256) :
    val_main_v7 (F := Ideal) x2 (ix2 r j)
      = bend ((inp x0 x1 x2 x3 r).y j) := by
  unfold val_main_v7 val_main_v6 val_main_v5 val_main_v4 val_main_v3 val_main_v2 val_main_v1 val_main_v0 val_main_cst val_main_cst_0
  pointwise [bend, inp]

theorem r12 (r : Fin 4096) (j : Fin 256) :
    val_main_v12 (F := Ideal) x2 (ix2 r j)
      = act ((inp x0 x1 x2 x3 r).y j) := by
  have e7 := r7 x0 x1 x2 x3 x4 x5 x6 x7 r
  unfold val_main_v12 val_main_v11 val_main_v10 val_main_v9 val_main_v8 val_main_cst_1 val_main_cst_2
  generalize val_main_v7 (F := Ideal) x2 = u7 at e7
  rw [← act_eq]
  pointwise [e7, inp]

theorem r15 (r : Fin 4096) (j : Fin 256) :
    val_main_v15 (F := Ideal) x2 x5 (ix2 r j)
      = expo (par x4 x5 x6 x7) (inp x0 x1 x2 x3 r) j := by
  have e12 := r12 x0 x1 x2 x3 x4 x5 x6 x7 r
  unfold val_main_v15 val_main_v14 val_main_v13
  generalize val_main_v12 (F := Ideal) x2 = u12 at e12
  pointwise [expo, par, e12]
  simp only [zero_sub]

theorem r19 (r : Fin 4096) (j : Fin 256) :
    val_main_v19 (F := Ideal) x2 x5 (ix2 r j)
      = gate (par x4 x5 x6 x7) (inp x0 x1 x2 x3 r) j := by
  have e15 := r15 x0 x1 x2 x3 x4 x5 x6 x7 r
  unfold val_main_v19 val_main_v18 val_main_v17 val_main_v16 val_main_cst_3 val_main_cst_4
  generalize val_main_v15 (F := Ideal) x2 x5 = u15 at e15
  pointwise [gate, e15]

theorem r20 (r : Fin 4096) (j : Fin 256) :
    val_main_v20 (F := Ideal) x2 x5 (ix2 r j)
      = gated (par x4 x5 x6 x7) (inp x0 x1 x2 x3 r) j := by
  have e12 := r12 x0 x1 x2 x3 x4 x5 x6 x7 r
  have e19 := r19 x0 x1 x2 x3 x4 x5 x6 x7 r
  unfold val_main_v20
  generalize val_main_v12 (F := Ideal) x2 = u12 at e12
  generalize val_main_v19 (F := Ideal) x2 x5 = u19 at e19
  pointwise [gated, e12, e19]

theorem r31 (r : Fin 4096) :
    val_main_v31 (F := Ideal) x0 (ix2 r 0)
      = unroot 0x43C00000#32 (inp x0 x1 x2 x3 r).a := by
  unfold val_main_v31 val_main_v30 val_main_v28 val_main_v29 val_main_cst_7 val_main_v26 val_main_v27 val_main_cst_6 val_main_v25 val_main_v24 val_main_cst_5
  pointwise [unroot, square, inp]

theorem r33 (r : Fin 4096) (j : Fin 384) :
    val_main_v33 (F := Ideal) x0 (ix2 r j)
      = unit 0x43C00000#32 (inp x0 x1 x2 x3 r).a j := by
  have e31 := r31 x0 x1 x2 x3 x4 x5 x6 x7 r
  unfold val_main_v33 val_main_v32
  generalize val_main_v31 (F := Ideal) x0 = u31 at e31
  pointwise [unit, inp, e31]

theorem r44 (r : Fin 4096) :
    val_main_v44 (F := Ideal) x1 (ix2 r 0)
      = unroot 0x43C00000#32 (inp x0 x1 x2 x3 r).b := by
  unfold val_main_v44 val_main_v43 val_main_v41 val_main_v42 val_main_cst_10 val_main_v39 val_main_v40 val_main_cst_9 val_main_v38 val_main_v37 val_main_cst_8
  pointwise [unroot, square, inp]

theorem r46 (r : Fin 4096) (j : Fin 384) :
    val_main_v46 (F := Ideal) x1 (ix2 r j)
      = unit 0x43C00000#32 (inp x0 x1 x2 x3 r).b j := by
  have e44 := r44 x0 x1 x2 x3 x4 x5 x6 x7 r
  unfold val_main_v46 val_main_v45
  generalize val_main_v44 (F := Ideal) x1 = u44 at e44
  pointwise [unit, inp, e44]

theorem r57 (r : Fin 4096) :
    val_main_v57 (F := Ideal) x2 x5 (ix2 r 0)
      = unroot 0x43800000#32 (gated (par x4 x5 x6 x7) (inp x0 x1 x2 x3 r)) := by
  have e20 := r20 x0 x1 x2 x3 x4 x5 x6 x7 r
  unfold val_main_v57 val_main_v56 val_main_v54 val_main_v55 val_main_cst_13 val_main_v52 val_main_v53 val_main_cst_12 val_main_v51 val_main_v50 val_main_cst_11
  generalize val_main_v20 (F := Ideal) x2 x5 = u20 at e20
  pointwise [unroot, square, e20]

theorem r59 (r : Fin 4096) (j : Fin 256) :
    val_main_v59 (F := Ideal) x2 x5 (ix2 r j)
      = unit 0x43800000#32 (gated (par x4 x5 x6 x7) (inp x0 x1 x2 x3 r)) j := by
  have e20 := r20 x0 x1 x2 x3 x4 x5 x6 x7 r
  have e57 := r57 x0 x1 x2 x3 x4 x5 x6 x7 r
  unfold val_main_v59 val_main_v58
  generalize val_main_v20 (F := Ideal) x2 x5 = u20 at e20
  generalize val_main_v57 (F := Ideal) x2 x5 = u57 at e57
  pointwise [unit, e20, e57]

theorem r63 (r : Fin 4096) (j : Fin 1024) :
    val_main_v63 (F := Ideal) x0 x1 x2 x4 x5 (ix2 r j)
      = joined (par x4 x5 x6 x7) (inp x0 x1 x2 x3 r) j := by
  have e59 := r59 x0 x1 x2 x3 x4 x5 x6 x7 r
  have e46 := r46 x0 x1 x2 x3 x4 x5 x6 x7 r
  have e33 := r33 x0 x1 x2 x3 x4 x5 x6 x7 r
  unfold val_main_v63 val_main_v36 val_main_v49 val_main_v62 val_main_v61 val_main_v60 val_main_v23 val_main_v48 val_main_v47 val_main_v22 val_main_v35 val_main_v34 val_main_v21
  generalize val_main_v59 (F := Ideal) x2 x5 = u59 at e59
  generalize val_main_v46 (F := Ideal) x1 = u46 at e46
  generalize val_main_v33 (F := Ideal) x0 = u33 at e33
  pointwise [joined, cat, par, e59, e46, e33]

theorem r67 (r : Fin 4096) (j : Fin 1024) :
    val_main_v67 (F := Ideal) x0 x1 x2 x3 x4 x5 x6 (ix2 r j)
      = sum (par x4 x5 x6 x7) (inp x0 x1 x2 x3 r) j := by
  have e63 := r63 x0 x1 x2 x3 x4 x5 x6 x7 r
  unfold val_main_v67 val_main_v65 val_main_v66 val_main_v64 val_main_cst_14
  generalize val_main_v63 (F := Ideal) x0 x1 x2 x4 x5 = u63 at e63
  pointwise [sum, par, inp, e63]

theorem r71 (r : Fin 4096) :
    val_main_v71 (F := Ideal) x0 x1 x2 x3 x4 x5 x6 (ix2 r 0)
      = mean (sum (par x4 x5 x6 x7) (inp x0 x1 x2 x3 r)) := by
  have e67 := r67 x0 x1 x2 x3 x4 x5 x6 x7 r
  unfold val_main_v71 val_main_v69 val_main_v70 val_main_cst_16 val_main_v68 val_main_cst_15
  generalize val_main_v67 (F := Ideal) x0 x1 x2 x3 x4 x5 x6 = u67 at e67
  pointwise [mean, e67]

theorem r73 (r : Fin 4096) (j : Fin 1024) :
    val_main_v73 (F := Ideal) x0 x1 x2 x3 x4 x5 x6 (ix2 r j)
      = dev (sum (par x4 x5 x6 x7) (inp x0 x1 x2 x3 r)) j := by
  have e67 := r67 x0 x1 x2 x3 x4 x5 x6 x7 r
  have e71 := r71 x0 x1 x2 x3 x4 x5 x6 x7 r
  unfold val_main_v73 val_main_v72
  generalize val_main_v67 (F := Ideal) x0 x1 x2 x3 x4 x5 x6 = u67 at e67
  generalize val_main_v71 (F := Ideal) x0 x1 x2 x3 x4 x5 x6 = u71 at e71
  pointwise [dev, e67, e71]

theorem r80 (r : Fin 4096) (j : Fin 1024) :
    val_main_v80 (F := Ideal) x0 x1 x2 x3 x4 x5 x6 (ix2 r j)
      = dev (sum (par x4 x5 x6 x7) (inp x0 x1 x2 x3 r)) j := by
  have e67 := r67 x0 x1 x2 x3 x4 x5 x6 x7 r
  have e71 := r71 x0 x1 x2 x3 x4 x5 x6 x7 r
  unfold val_main_v80 val_main_v79
  generalize val_main_v67 (F := Ideal) x0 x1 x2 x3 x4 x5 x6 = u67 at e67
  generalize val_main_v71 (F := Ideal) x0 x1 x2 x3 x4 x5 x6 = u71 at e71
  pointwise [dev, e67, e71]

theorem r83 (r : Fin 4096) :
    val_main_v83 (F := Ideal) x0 x1 x2 x3 x4 x5 x6 (ix2 r 0)
      = rinv (sum (par x4 x5 x6 x7) (inp x0 x1 x2 x3 r)) := by
  have e73 := r73 x0 x1 x2 x3 x4 x5 x6 x7 r
  unfold val_main_v83 val_main_v82 val_main_v78 val_main_v81 val_main_cst_19 val_main_v76 val_main_v77 val_main_cst_18 val_main_v75 val_main_v74 val_main_cst_17
  generalize val_main_v73 (F := Ideal) x0 x1 x2 x3 x4 x5 x6 = u73 at e73
  pointwise [rinv, spread, e73]

/-- The result's row. -/
theorem r91 (x8 : Vec Ideal ⟨1, ![1024]⟩ .f32) (r : Fin 4096) (j : Fin 1024) :
    val_main_v91 (F := Ideal) x0 x1 x2 x3 x4 x5 x6 x7 x8 (ix2 r j)
      = normed (sum (par x4 x5 x6 x7) (inp x0 x1 x2 x3 r)) (par x4 x5 x6 x7).lg (fun j => x8 (ix1 j)) j := by
  have e80 := r80 x0 x1 x2 x3 x4 x5 x6 x7 r
  have e83 := r83 x0 x1 x2 x3 x4 x5 x6 x7 r
  unfold val_main_v91 val_main_v88 val_main_v90 val_main_v89 val_main_v85 val_main_v87 val_main_v86 val_main_v84
  generalize val_main_v80 (F := Ideal) x0 x1 x2 x3 x4 x5 x6 = u80 at e80
  generalize val_main_v83 (F := Ideal) x0 x1 x2 x3 x4 x5 x6 = u83 at e83
  pointwise [normed, par, e80, e83]

end Cert.Proof.Out

end
-- ==== Proof.OutEquation.lean ====
/-
  The result of the mixing output's forward call is the reference's.
-/
module

public import proofs.«01_k».proof.Defs
public import Idealize.ShloMosaic.Lib.Quiescent
public import proofs.«01_k».proof.Proof.Gen.OutKernel.Frame
public import proofs.«01_k».proof.Proof.Gen.OutKernelIdeal.Frame
public import proofs.«01_k».proof.Proof.OutValue
public import proofs.«01_k».proof.Proof.OutReference
public import proofs.«01_k».proof.Proof.Gen.OutReferenceIdeal.Run
public import proofs.«01_k».proof.Proof.Gen.OutReferenceIdeal.Read

@[expose] public section

set_option maxRecDepth 16384

noncomputable section

namespace Cert.Proof.Out

open Idealize.ShloMosaic Idealize.ShloMosaic.TcCoe Idealize.SL.Sem

/-- The reference runs, keeps its arguments, and has no semaphore to leave raised. -/
theorem frame_reference : Cert.quiescent_OutReferenceIdeal
    (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run m ρ)

/-- The value claim of the mixing output's forward call. -/
theorem algebraic : Cert.algebraic_OutKernelIdeal_OutReferenceIdeal
    (hOutKernelIdeal := Cert.OutKernelIdeal.Gen.facts) (hOutReferenceIdeal := Cert.OutReferenceIdeal.Gen.facts) := by
  intro m g m' g' _ hag
  refine ⟨fun c => Cert.OutKernelIdeal.Value.arrOut m c, ?_, ?_⟩
  · refine (θ_run _ _ _).mono (fun r h c => ?_) (Cert.OutKernelIdeal.Value.run_blocks m g)
    obtain ⟨h0, hk⟩ := h c
    exact ⟨h0.trans (Cert.OutKernelIdeal.Value.arr11 m c), hk⟩
  · refine (θ_run _ _ _).mono (fun r h c => ?_) (Cert.OutReferenceIdeal.Value.run m' g')
    obtain ⟨h0, hk⟩ := h c
    obtain ⟨e0, e1, e2, e3, e4, e5, e6, e7, e8⟩ := hag c
    refine ⟨h0.trans ((Cert.OutReferenceIdeal.Read.val_main_v91_eq m' c).trans (funext fun i => ?_)), hk⟩
    idx_vars i
    refine (r91 _ _ _ _ _ _ _ _ _ i0 i1).trans ?_
    rw [e0, e1, e2, e3, e4, e5, e6, e7, e8]
    rfl

end Cert.Proof.Out

end
-- ==== Proof.UpValue.lean ====
/-
  What the feed-forward layer's forward call leaves in its four results, at the extended reals: the two gate arguments,
  the row with the skip connection, and its layer norm.
-/
module

public import proofs.«01_k».proof.Proof.Gen.UpKernelIdeal.Value
public import proofs.«01_k».proof.Proof.FfnValue
public import proofs.«01_k».proof.Proof.NormValue

@[expose] public section

set_option maxRecDepth 16384

noncomputable section

namespace Cert.UpKernelIdeal.Value

open Idealize.ShloMosaic Idealize.ShloMosaic.TcCoe Idealize.SL.Sem
open Idealize.ShloMosaic.Pipeline (Dat)
open Cert.UpKernelIdeal Cert.UpKernelIdeal.Gen
open Cert.FfnKernelIdeal.Value (gateArg sgm)
open Cert.NormKernelIdeal.Value (Row mean dev spread rinv)

variable (m : (ℓ : Loc nD τ sig) → Buf (Elt Ideal) ℓ)

theorem V_v1 (c : Dev nD) (i : S2816x1024.Idx) : V m c main_v1 i
    = m ((c.tc : Thread nD τ).loc main_arg1) (ix2 (i 1) (i 0)) := by
  idx_vars i
  unfold_abbrev_sides
  after_results
  pointwise []

theorem V_v3 (c : Dev nD) (i : S2816x1024.Idx) : V m c main_v3 i
    = m ((c.tc : Thread nD τ).loc main_arg2) (ix2 (i 1) (i 0)) := by
  idx_vars i
  unfold_abbrev_sides
  after_results
  pointwise []

theorem V_v4 (c : Dev nD) (i : S2816x1024.Idx) : V m c main_v4 i
    = m ((c.tc : Thread nD τ).loc main_arg3) (ix2 (i 0) (i 1)) := by
  idx_vars i
  unfold_abbrev_sides
  after_results
  pointwise []

theorem V_v5 (c : Dev nD) (i : S1x1024.Idx) : V m c main_v5 i = m ((c.tc : Thread nD τ).loc main_arg4) (ix1 (i 1)) := by
  idx_vars i
  unfold_abbrev_sides
  after_results
  pointwise []

theorem V_v6 (c : Dev nD) (i : S1x1024.Idx) : V m c main_v6 i = m ((c.tc : Thread nD τ).loc main_arg5) (ix1 (i 1)) := by
  idx_vars i
  unfold_abbrev_sides
  after_results
  pointwise []

/-- The hidden layer. -/
def hidden (x : Vec Ideal S4096x1024 .f32) (wg wu : Vec Ideal S1024x2816 .f32) (r : Fin 4096) (f : Fin 2816) : EReal :=
  gateArg x wg r f * sgm (gateArg x wg r f) * gateArg x wu r f

/-- The row the layer norm takes. -/
def skip (x : Vec Ideal S4096x1024 .f32) (wg wu : Vec Ideal S1024x2816 .f32) (wd : Vec Ideal S2816x1024 .f32) (r : Fin 4096) : Row :=
  fun n => Ideal.ofBits .f32 0x3FB504F3#32 * x (ix2 r n)
    + Ideal.ofBits .f32 0x3F000000#32 * ∑ f : Fin 2816, hidden x wg wu r f * wd (ix2 f n)

/-- The layer norm of a row. -/
def normed (x g b : Row) : Row := fun j => dev x j * rinv x * g j + b j

/-- Where each window's block lies at a grid point. -/
theorem idx : ∀ t : Fin cfg0.N, win0_0.index t = ![t.val / 2, 0] ∧ win0_1.index t = ![t.val % 2, 0]
    ∧ win0_2.index t = ![t.val % 2, 0] ∧ win0_3.index t = ![t.val % 2, 0] ∧ win0_4.index t = ![0, 0]
    ∧ win0_5.index t = ![0, 0] ∧ win0_6.index t = ![t.val / 2, 0] ∧ win0_7.index t = ![t.val / 2, 0]
    ∧ win0_8.index t = ![t.val / 2, t.val % 2] ∧ win0_9.index t = ![t.val / 2, t.val % 2] :=
  (by decide +kernel : ∀ t : Fin grid0.N, win0_0.index t = ![t.val / 2, 0] ∧ win0_1.index t = ![t.val % 2, 0]
    ∧ win0_2.index t = ![t.val % 2, 0] ∧ win0_3.index t = ![t.val % 2, 0] ∧ win0_4.index t = ![0, 0]
    ∧ win0_5.index t = ![0, 0] ∧ win0_6.index t = ![t.val / 2, 0] ∧ win0_7.index t = ![t.val / 2, 0]
    ∧ win0_8.index t = ![t.val / 2, t.val % 2] ∧ win0_9.index t = ![t.val / 2, t.val % 2])

/-- A row of the array a row of a block is. -/
def row (t : Fin cfg0.N) (p : Fin 512) : Fin 4096 := ⟨t.val / 2 * 512 + p.val, by have := lt_of_lt_of_eq t.isLt N_0; omega⟩

/-- A column of the hidden layer a column of a block is. -/
def col (t : Fin cfg0.N) (q : Fin 1408) : Fin 2816 := ⟨t.val % 2 * 1408 + q.val, by omega⟩

theorem blk0 (c : Dev nD) (t : Fin cfg0.N) (p : Fin 512) (n : Fin 1024) :
    iblk m c 0 t (ix2 p n) = m ((c.tc : Thread nD τ).loc main_arg0) (ix2 (row t p) n) := by
  blk_point [iblk, V_main_arg0, row, idx t]

theorem blk1 (c : Dev nD) (t : Fin cfg0.N) (q : Fin 1408) (n : Fin 1024) :
    iblk m c 1 t (ix2 q n) = m ((c.tc : Thread nD τ).loc main_arg1) (ix2 n (col t q)) := by
  refine Eq.trans ?_ (V_v1 m c (ix2 (col t q) n))
  blk_point [iblk, col, idx t]

theorem blk2 (c : Dev nD) (t : Fin cfg0.N) (q : Fin 1408) (n : Fin 1024) :
    iblk m c 2 t (ix2 q n) = m ((c.tc : Thread nD τ).loc main_arg2) (ix2 n (col t q)) := by
  refine Eq.trans ?_ (V_v3 m c (ix2 (col t q) n))
  blk_point [iblk, col, idx t]

theorem blk3 (c : Dev nD) (t : Fin cfg0.N) (q : Fin 1408) (n : Fin 1024) :
    iblk m c 3 t (ix2 q n) = m ((c.tc : Thread nD τ).loc main_arg3) (ix2 (col t q) n) := by
  refine Eq.trans ?_ (V_v4 m c (ix2 (col t q) n))
  blk_point [iblk, col, idx t]

theorem blk4 (c : Dev nD) (t : Fin cfg0.N) (n : Fin 1024) :
    iblk m c 4 t (ix2 0 n) = m ((c.tc : Thread nD τ).loc main_arg4) (ix1 n) := by
  refine Eq.trans ?_ (V_v5 m c (ix2 0 n))
  blk_point [iblk, idx t]

theorem blk5 (c : Dev nD) (t : Fin cfg0.N) (n : Fin 1024) :
    iblk m c 5 t (ix2 0 n) = m ((c.tc : Thread nD τ).loc main_arg5) (ix1 n) := by
  refine Eq.trans ?_ (V_v6 m c (ix2 0 n))
  blk_point [iblk, idx t]

/-- What the body computes for the first gate argument from its blocks. -/
theorem pay4 (c : Dev nD) (t : Fin cfg0.N) (p : Fin 512) (q : Fin 1408) : k0_pay4 (iblk m c 0 t) (iblk m c 1 t) (ix2 p q)
    = gateArg (m ((c.tc : Thread nD τ).loc main_arg0)) (m ((c.tc : Thread nD τ).loc main_arg1)) (row t p) (col t q) := by
  unfold k0_pay4 k0_pay3
  pointwise [gateArg]
  simp only [blk0, blk1]

/-- What it computes for the second. -/
theorem pay5 (c : Dev nD) (t : Fin cfg0.N) (p : Fin 512) (q : Fin 1408) : k0_pay5 (iblk m c 0 t) (iblk m c 2 t) (ix2 p q)
    = gateArg (m ((c.tc : Thread nD τ).loc main_arg0)) (m ((c.tc : Thread nD τ).loc main_arg2)) (row t p) (col t q) := by
  unfold k0_pay5 k0_pay3
  pointwise [gateArg]
  simp only [blk0, blk2]

theorem pay6 (c : Dev nD) (t : Fin cfg0.N) (p : Fin 512) (q : Fin 1408) : k0_pay6 (iblk m c 0 t) (iblk m c 1 t) (ix2 p q)
    = gateArg (m ((c.tc : Thread nD τ).loc main_arg0)) (m ((c.tc : Thread nD τ).loc main_arg1)) (row t p) (col t q) :=
  pay4 m c t p q

theorem pay7 (c : Dev nD) (t : Fin cfg0.N) (p : Fin 512) (q : Fin 1408) : k0_pay7 (iblk m c 0 t) (iblk m c 2 t) (ix2 p q)
    = gateArg (m ((c.tc : Thread nD τ).loc main_arg0)) (m ((c.tc : Thread nD τ).loc main_arg2)) (row t p) (col t q) :=
  pay5 m c t p q

/-- One block of columns' share in the layer's output. -/
theorem pay8 (c : Dev nD) (t : Fin cfg0.N) (p : Fin 512) (n : Fin 1024) :
    k0_pay8 (iblk m c 0 t) (iblk m c 1 t) (iblk m c 2 t) (iblk m c 3 t) (ix2 p n)
      = ∑ q : Fin 1408, hidden (m ((c.tc : Thread nD τ).loc main_arg0)) (m ((c.tc : Thread nD τ).loc main_arg1)) (m ((c.tc : Thread nD τ).loc main_arg2)) (row t p) (col t q)
        * m ((c.tc : Thread nD τ).loc main_arg3) (ix2 (col t q) n) := by
  have e4 := pay4 m c t p
  have e5 := pay5 m c t p
  unfold k0_pay8
  generalize k0_pay4 (iblk m c 0 t) (iblk m c 1 t) = u at e4
  generalize k0_pay5 (iblk m c 0 t) (iblk m c 2 t) = w at e5
  pointwise [hidden, sgm, e4, e5]
  simp only [blk3]

/-- The layer norm of a block's rows. -/
theorem pay2 {v0 v36 : Vec Ideal S512x1024 .f32} {v41 v43 : Vec Ideal S1x1024 .f32} {x g b : Row} (p : Fin 512)
    (h : ∀ j, k0_pay1 (F := Ideal) v0 v36 (ix2 p j) = x j) (hg : ∀ j, v41 (ix2 0 j) = g j) (hb : ∀ j, v43 (ix2 0 j) = b j) (j : Fin 1024) :
    k0_pay2 (F := Ideal) v0 v36 v41 v43 (ix2 p j) = normed x g b j := by
  unfold k0_pay2
  generalize k0_pay1 (F := Ideal) v0 v36 = u at h
  pointwise [normed, dev, mean, rinv, spread, h, hg, hb]

/-- The first gate argument after the run. -/
theorem arr8 (c : Dev nD) : (dats m 0 c).arrAt 8 cfg0.N = (fun i => gateArg (m ((c.tc : Thread nD τ).loc main_arg0))
    (m ((c.tc : Thread nD τ).loc main_arg1)) (i 0) (i 1) : Vec Ideal S4096x2816 .bf16) := by
  refine (dats m 0 c).arrAt_eq_of_covers 8 _ (by decide +kernel) fun t hf y => ?_
  blk_simp
  rw [after0_8]
  idx_vars y
  by_cases h0 : t.val % 2 = 0
  · have h1 : ¬t.val % 2 = 1 := by omega
    rw [outsAt0_A m c t h0 h1 h1]
    frame_out
    refine (pay6 m c t y0 y1).trans ?_
    blk_point [row, col, idx t]
  · have h1 : t.val % 2 = 1 := by omega
    rw [outsAt0_B m c t h0 h1 h1]
    frame_out
    refine (pay6 m c t y0 y1).trans ?_
    blk_point [row, col, idx t]

/-- The second gate argument after the run. -/
theorem arr9 (c : Dev nD) : (dats m 0 c).arrAt 9 cfg0.N = (fun i => gateArg (m ((c.tc : Thread nD τ).loc main_arg0))
    (m ((c.tc : Thread nD τ).loc main_arg2)) (i 0) (i 1) : Vec Ideal S4096x2816 .bf16) := by
  refine (dats m 0 c).arrAt_eq_of_covers 9 _ (by decide +kernel) fun t hf y => ?_
  blk_simp
  rw [after0_9]
  idx_vars y
  by_cases h0 : t.val % 2 = 0
  · have h1 : ¬t.val % 2 = 1 := by omega
    rw [outsAt0_A m c t h0 h1 h1]
    frame_out
    refine (pay7 m c t y0 y1).trans ?_
    blk_point [row, col, idx t]
  · have h1 : t.val % 2 = 1 := by omega
    rw [outsAt0_B m c t h0 h1 h1]
    frame_out
    refine (pay7 m c t y0 y1).trans ?_
    blk_point [row, col, idx t]

/-- A sum over the hidden layer, by the two blocks of columns. -/
theorem sum_halves (F : Fin 2816 → EReal) (s t : Fin cfg0.N) (hs : s.val % 2 = 0) (ht : t.val % 2 = 1) :
    ∑ f, F f = (∑ q, F (col s q)) + ∑ q, F (col t q) := by
  refine (Fin.sum_univ_add (a := 1408) (b := 1408) F).trans ?_
  congr 1 <;> refine Finset.sum_congr rfl fun q _ => congrArg F (Fin.ext ?_) <;> simp [col, hs, ht, add_comm]

/-- What the last point of a row of blocks takes the layer norm of. -/
theorem pay1 (c : Dev nD) (s t : Fin cfg0.N) (hst : s.val = t.val - 1) (ht : t.val % 2 = 1) (p : Fin 512) (n : Fin 1024) :
    k0_pay1 (F := Ideal) (iblk m c 0 t) (k0_pay10 (iblk m c 0 t) (iblk m c 1 t) (iblk m c 2 t) (iblk m c 3 t)
      (k0_pay9 (iblk m c 0 s) (iblk m c 1 s) (iblk m c 2 s) (iblk m c 3 s))) (ix2 p n)
      = skip (m ((c.tc : Thread nD τ).loc main_arg0)) (m ((c.tc : Thread nD τ).loc main_arg1)) (m ((c.tc : Thread nD τ).loc main_arg2)) (m ((c.tc : Thread nD τ).loc main_arg3)) (row t p) n := by
  have et := pay8 m c t p n
  have es := pay8 m c s p n
  have er : row s p = row t p := Fin.ext (by simp only [row]; omega)
  rw [er] at es
  unfold k0_pay1 k0_pay10 k0_pay9
  generalize k0_pay8 (iblk m c 0 t) (iblk m c 1 t) (iblk m c 2 t) (iblk m c 3 t) = u at et
  generalize k0_pay8 (iblk m c 0 s) (iblk m c 1 s) (iblk m c 2 s) (iblk m c 3 s) = w at es
  pointwise [es, et, blk0]
  rw [skip, sum_halves _ s t (by omega) ht]

/-- The carried block before the last point of a row of blocks. -/
theorem carried (c : Dev nD) (s t : Fin cfg0.N) (hst : s.val = t.val - 1) (ht : t.val % 2 = 1) :
    (outsAt0 m c (t.val - 1) (lt_of_le_of_lt (Nat.sub_le _ 1) t.isLt)).2.2.2.2
      = k0_pay9 (iblk m c 0 s) (iblk m c 1 s) (iblk m c 2 s) (iblk m c 3 s) := by
  have e' : outsAt0 m c (t.val - 1) (lt_of_le_of_lt (Nat.sub_le _ 1) t.isLt) = outsAt0 m c s.val s.isLt := by congr 1; exact hst.symm
  rw [e', outsAt0_A m c s (by omega) (by omega) (by omega)]
  frame_out

/-- The row with the skip connection after the run. -/
theorem arr7 (c : Dev nD) : (dats m 0 c).arrAt 7 cfg0.N = (fun i => skip (m ((c.tc : Thread nD τ).loc main_arg0))
    (m ((c.tc : Thread nD τ).loc main_arg1)) (m ((c.tc : Thread nD τ).loc main_arg2)) (m ((c.tc : Thread nD τ).loc main_arg3)) (i 0) (i 1) : Vec Ideal S4096x1024 .f32) := by
  refine (dats m 0 c).arrAt_eq_of_covers 7 _ (by decide +kernel) fun t hf y => ?_
  blk_simp
  rw [after0_7]
  idx_vars y
  have h1 : t.val % 2 = 1 := (flush0_7 t).mp hf
  have h0 : ¬t.val % 2 = 0 := by omega
  rw [outsAt0_B m c t h0 h1 h1]
  frame_out
  have hN := lt_of_lt_of_eq t.isLt N_0
  obtain ⟨s, hs⟩ : ∃ s : Fin cfg0.N, s.val = t.val - 1 := ⟨⟨t.val - 1, lt_of_le_of_lt (Nat.sub_le _ 1) t.isLt⟩, rfl⟩
  rw [read_unread_whole, carried m c s t hs h1]
  refine (pay1 m c s t hs h1 y0 y1).trans ?_
  blk_point [row, idx t]

end Cert.UpKernelIdeal.Value

end
-- ==== Proof.UpNorm.lean ====
/-
  The feed-forward layer's first result after the run: the layer norm of the row with the skip connection.
-/
module

public import proofs.«01_k».proof.Proof.UpValue

@[expose] public section

set_option maxRecDepth 16384

noncomputable section

namespace Cert.UpKernelIdeal.Value

open Idealize.ShloMosaic Idealize.ShloMosaic.TcCoe Idealize.SL.Sem
open Idealize.ShloMosaic.Pipeline (Dat)
open Cert.UpKernelIdeal Cert.UpKernelIdeal.Gen
open Cert.FfnKernelIdeal.Value (gateArg sgm)
open Cert.NormKernelIdeal.Value (Row mean dev spread rinv)

variable (m : (ℓ : Loc nD τ sig) → Buf (Elt Ideal) ℓ)

/-- The layer norm of every row. -/
def arrNorm (c : Dev nD) : Vec Ideal S4096x1024 .f32 := fun i => normed (skip (m ((c.tc : Thread nD τ).loc main_arg0)) (m ((c.tc : Thread nD τ).loc main_arg1)) (m ((c.tc : Thread nD τ).loc main_arg2)) (m ((c.tc : Thread nD τ).loc main_arg3)) (i 0))
    (fun j => m ((c.tc : Thread nD τ).loc main_arg4) (ix1 j)) (fun j => m ((c.tc : Thread nD τ).loc main_arg5) (ix1 j)) (i 1)

/-- The layer norm after the run. -/
theorem arr6 (c : Dev nD) : (dats m 0 c).arrAt 6 cfg0.N = arrNorm m c := by
  refine (dats m 0 c).arrAt_eq_of_covers 6 _ (by decide +kernel) fun t hf y => ?_
  blk_simp
  rw [after0_6]
  idx_vars y
  have h1 : t.val % 2 = 1 := (flush0_6 t).mp hf
  have h0 : ¬t.val % 2 = 0 := by omega
  rw [outsAt0_B m c t h0 h1 h1]
  frame_out
  have hN := lt_of_lt_of_eq t.isLt N_0
  obtain ⟨s, hs⟩ : ∃ s : Fin cfg0.N, s.val = t.val - 1 := ⟨⟨t.val - 1, lt_of_le_of_lt (Nat.sub_le _ 1) t.isLt⟩, rfl⟩
  rw [read_unread_whole, carried m c s t hs h1]
  have e := pay2 (x := skip (m ((c.tc : Thread nD τ).loc main_arg0)) (m ((c.tc : Thread nD τ).loc main_arg1)) (m ((c.tc : Thread nD τ).loc main_arg2)) (m ((c.tc : Thread nD τ).loc main_arg3)) (row t y0))
    (g := fun j => m ((c.tc : Thread nD τ).loc main_arg4) (ix1 j)) (b := fun j => m ((c.tc : Thread nD τ).loc main_arg5) (ix1 j))
    (v41 := iblk m c 4 t) (v43 := iblk m c 5 t) y0 (fun n => pay1 m c s t hs h1 y0 n) (fun j => blk4 m c t j) (fun j => blk5 m c t j) y1
  have e1 : _ = arrNorm m c (ix2 (row t y0) y1) := e
  generalize arrNorm m c = X at e1 ⊢
  refine e1.trans ?_
  blk_point [row, idx t]

end Cert.UpKernelIdeal.Value

end
-- ==== Proof.UpEquation.lean ====
/-
  The four results of the feed-forward layer's forward call are the reference's.
-/
module

public import proofs.«01_k».proof.Defs
public import Idealize.ShloMosaic.Lib.Quiescent
public import proofs.«01_k».proof.Proof.Gen.UpKernel.Frame
public import proofs.«01_k».proof.Proof.Gen.UpKernelIdeal.Frame
public import proofs.«01_k».proof.Proof.UpNorm
public import proofs.«01_k».proof.Proof.FfnEquation
public import proofs.«01_k».proof.Proof.Gen.UpReferenceIdeal.Run
public import proofs.«01_k».proof.Proof.Gen.UpReferenceIdeal.Read

@[expose] public section

set_option maxRecDepth 16384

noncomputable section

namespace Cert.Proof.Up

open Idealize.ShloMosaic Idealize.ShloMosaic.TcCoe Idealize.SL.Sem
open Cert.FfnKernelIdeal.Value (gateArg sgm)
open Cert.NormKernelIdeal.Value (Row mean dev spread rinv)
open Cert.UpKernelIdeal.Value (skip normed)
open Cert.UpReferenceIdeal.Read
open Cert.Proof.Ffn (sgm_eq Xs Ws Ds)

abbrev Ls := Vec Ideal ⟨1, ![1024]⟩ .f32

theorem gate_eq (x : Xs) (wg : Ws) : val_main_v34 (F := Ideal) x wg = fun i => gateArg x wg (i 0) (i 1) := by
  funext i
  idx_vars i
  unfold val_main_v34 val_main_v0
  pointwise [gateArg]

theorem up_eq (x : Xs) (wu : Ws) : val_main_v35 (F := Ideal) x wu = fun i => gateArg x wu (i 0) (i 1) := by
  funext i
  idx_vars i
  unfold val_main_v35 val_main_v1
  pointwise [gateArg]

theorem hidden_eq (x : Xs) (wg wu : Ws) (r : Fin 4096) (f : Fin 2816) :
    val_main_v5 (F := Ideal) x wg wu (ix2 r f) = Cert.UpKernelIdeal.Value.hidden x wg wu r f := by
  have e : val_main_v0 (F := Ideal) x wg (ix2 r f) = gateArg x wg r f := by
    unfold val_main_v0
    pointwise [gateArg]
  have e' : val_main_v1 (F := Ideal) x wu (ix2 r f) = gateArg x wu r f := by
    unfold val_main_v1
    pointwise [gateArg]
  rw [Cert.UpKernelIdeal.Value.hidden, sgm_eq]
  unfold val_main_v5 val_main_v4 val_main_call0_v5 val_main_call0_v4 val_main_call0_v3 val_main_call0_v2 val_main_call0_v1 val_main_call0_v0
  generalize val_main_v0 (F := Ideal) x wg = u at e
  generalize val_main_v1 (F := Ideal) x wu = w at e'
  pointwise [e, e', val_main_call0_cst, val_main_call0_cst_0]

theorem skip_eq (x : Xs) (wg wu : Ws) (wd : Ds) (r : Fin 4096) (n : Fin 1024) :
    val_main_v9 (F := Ideal) x wg wu wd (ix2 r n) = skip x wg wu wd r n := by
  have e := hidden_eq x wg wu r
  unfold val_main_v9 val_main_v8 val_main_v7 val_main_v6 val_main_v3 val_main_v2
  generalize val_main_v5 (F := Ideal) x wg wu = u at e
  pointwise [e, skip, val_main_cst, val_main_cst_0]

theorem mean_eq (x : Xs) (wg wu : Ws) (wd : Ds) (r : Fin 4096) :
    val_main_v13 (F := Ideal) x wg wu wd (ix2 r 0) = mean (skip x wg wu wd r) := by
  have e := skip_eq x wg wu wd r
  unfold val_main_v13 val_main_v12 val_main_v11 val_main_v10
  generalize val_main_v9 (F := Ideal) x wg wu wd = u at e
  pointwise [e, mean, val_main_cst_1, val_main_cst_2]

theorem dev_eq (x : Xs) (wg wu : Ws) (wd : Ds) (r : Fin 4096) (n : Fin 1024) :
    val_main_v22 (F := Ideal) x wg wu wd (ix2 r n) = dev (skip x wg wu wd r) n := by
  have e := skip_eq x wg wu wd r
  have e' := mean_eq x wg wu wd r
  unfold val_main_v22 val_main_v21
  generalize val_main_v9 (F := Ideal) x wg wu wd = u at e
  generalize val_main_v13 (F := Ideal) x wg wu wd = w at e'
  pointwise [e, e', dev]

theorem rinv_eq (x : Xs) (wg wu : Ws) (wd : Ds) (r : Fin 4096) :
    val_main_v25 (F := Ideal) x wg wu wd (ix2 r 0) = rinv (skip x wg wu wd r) := by
  have e : ∀ n, val_main_v15 (F := Ideal) x wg wu wd (ix2 r n) = dev (skip x wg wu wd r) n := dev_eq x wg wu wd r
  unfold val_main_v25 val_main_v24 val_main_v23 val_main_v20 val_main_v19 val_main_v18 val_main_v17 val_main_v16
  generalize val_main_v15 (F := Ideal) x wg wu wd = u at e
  pointwise [e, rinv, spread, val_main_cst_3, val_main_cst_4, val_main_cst_5]

theorem normed_eq (x : Xs) (wg wu : Ws) (wd : Ds) (g b : Ls) : val_main_v33 (F := Ideal) x wg wu wd g b
    = fun i => normed (skip x wg wu wd (i 0)) (fun j => g (ix1 j)) (fun j => b (ix1 j)) (i 1) := by
  funext i
  idx_vars i
  have e := dev_eq x wg wu wd i0
  have e' := rinv_eq x wg wu wd i0
  unfold val_main_v33 val_main_v32 val_main_v31 val_main_v30 val_main_v29 val_main_v28 val_main_v27 val_main_v26
  generalize val_main_v22 (F := Ideal) x wg wu wd = u at e
  generalize val_main_v25 (F := Ideal) x wg wu wd = w at e'
  pointwise [e, e', normed]

/-- The reference runs, keeps its arguments, and has no semaphore to leave raised. -/
theorem frame_reference : Cert.quiescent_UpReferenceIdeal
    (hUpReferenceIdeal := Cert.UpReferenceIdeal.Gen.facts) := fun m ρ _ =>
  (θ_run Cert.UpReferenceIdeal.defs _ _).mono (fun r h => ⟨fun c => (h c).2.2.2.2, sem_eq_zero_of_no_sems (by decide) r.2⟩)
    (Cert.UpReferenceIdeal.Value.run m ρ)

/-- The value claim of the feed-forward layer's forward call. -/
theorem algebraic : Cert.algebraic_UpKernelIdeal_UpReferenceIdeal
    (hUpKernelIdeal := Cert.UpKernelIdeal.Gen.facts) (hUpReferenceIdeal := Cert.UpReferenceIdeal.Gen.facts) := by
  intro m g m' g' _ hag
  refine ⟨fun c => fun i => normed (skip (m ((c.tc : Thread _ _).loc Cert.UpKernelIdeal.main_arg0)) (m ((c.tc : Thread _ _).loc Cert.UpKernelIdeal.main_arg1)) (m ((c.tc : Thread _ _).loc Cert.UpKernelIdeal.main_arg2)) (m ((c.tc : Thread _ _).loc Cert.UpKernelIdeal.main_arg3)) (i 0))
      (fun j => m ((c.tc : Thread _ _).loc Cert.UpKernelIdeal.main_arg4) (ix1 j)) (fun j => m ((c.tc : Thread _ _).loc Cert.UpKernelIdeal.main_arg5) (ix1 j)) (i 1),
    fun c => fun i => skip (m ((c.tc : Thread _ _).loc Cert.UpKernelIdeal.main_arg0)) (m ((c.tc : Thread _ _).loc Cert.UpKernelIdeal.main_arg1)) (m ((c.tc : Thread _ _).loc Cert.UpKernelIdeal.main_arg2)) (m ((c.tc : Thread _ _).loc Cert.UpKernelIdeal.main_arg3)) (i 0) (i 1),
    fun c => fun i => gateArg (m ((c.tc : Thread _ _).loc Cert.UpKernelIdeal.main_arg0)) (m ((c.tc : Thread _ _).loc Cert.UpKernelIdeal.main_arg1)) (i 0) (i 1),
    fun c => fun i => gateArg (m ((c.tc : Thread _ _).loc Cert.UpKernelIdeal.main_arg0)) (m ((c.tc : Thread _ _).loc Cert.UpKernelIdeal.main_arg2)) (i 0) (i 1), ?_, ?_⟩
  · refine (θ_run _ _ _).mono (fun r h c => ?_) (Cert.UpKernelIdeal.Value.run_blocks m g)
    obtain ⟨h0, h1, h2, h3, hk⟩ := h c
    exact ⟨h0.trans (Cert.UpKernelIdeal.Value.arr6 m c), h1.trans (Cert.UpKernelIdeal.Value.arr7 m c),
      h2.trans (Cert.UpKernelIdeal.Value.arr8 m c), h3.trans (Cert.UpKernelIdeal.Value.arr9 m c), hk⟩
  · refine (θ_run _ _ _).mono (fun r h c => ?_) (Cert.UpReferenceIdeal.Value.run m' g')
    obtain ⟨h0, h1, h2, h3, hk⟩ := h c
    obtain ⟨e0, e1, e2, e3, e4, e5⟩ := hag c
    refine ⟨?_, ?_, ?_, ?_, hk⟩
    · exact h0.trans ((val_main_v33_eq m' c).trans ((normed_eq _ _ _ _ _ _).trans (by rw [e0, e1, e2, e3, e4, e5]; rfl)))
    · refine h1.trans ((val_main_v9_eq _ _ _ _).trans (funext fun i => ?_))
      idx_vars i
      exact (skip_eq _ _ _ _ i0 i1).trans (by rw [e0, e1, e2, e3])
    · exact h2.trans ((val_main_v34_eq _ _).trans ((gate_eq _ _).trans (by rw [e0, e1]; rfl)))
    · exact h3.trans ((val_main_v35_eq _ _).trans ((up_eq _ _).trans (by rw [e0, e2]; rfl)))

end Cert.Proof.Up

end
-- ==== Proof.lean ====
module

public import proofs.«01_k».proof.Proof.AttnEquation
public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.GateEquation
public import proofs.«01_k».proof.Proof.LossEquation
public import proofs.«01_k».proof.Proof.FfnEquation
public import proofs.«01_k».proof.Proof.PrepEquation
public import proofs.«01_k».proof.Proof.MixEquation
public import proofs.«01_k».proof.Proof.NormEquation
public import proofs.«01_k».proof.Proof.DiscEquation
public import proofs.«01_k».proof.Proof.OutEquation
public import proofs.«01_k».proof.Proof.UpEquation
public import Idealize.ShloMosaic.Adequacy
public import Idealize.ShloMosaic.Init

@[expose] public section

noncomputable section

namespace Cert.Proof

open Idealize.ShloMosaic Idealize.SL.Sem Cert.LossKernel

theorem claim : Cert.Claim := ⟨
  Cert.LossKernel.Gen.facts, Cert.LossKernelIdeal.Gen.facts, Cert.LossReferenceIdeal.Gen.facts, Cert.FfnKernel.Gen.facts,
  Cert.FfnKernelIdeal.Gen.facts, Cert.FfnReferenceIdeal.Gen.facts, Cert.GateKernel.Gen.facts, Cert.GateKernelIdeal.Gen.facts,
  Cert.GateReferenceIdeal.Gen.facts, Cert.AttnKernel.Gen.facts, Cert.AttnKernelIdeal.Gen.facts,
  Cert.AttnReferenceIdeal.Gen.facts, Cert.NormKernel.Gen.facts, Cert.NormKernelIdeal.Gen.facts,
  Cert.NormReferenceIdeal.Gen.facts, Cert.MixKernel.Gen.facts, Cert.MixKernelIdeal.Gen.facts,
  Cert.MixReferenceIdeal.Gen.facts, Cert.PrepKernel.Gen.facts, Cert.PrepKernelIdeal.Gen.facts,
  Cert.PrepReferenceIdeal.Gen.facts, Cert.DiscKernel.Gen.facts, Cert.DiscKernelIdeal.Gen.facts,
  Cert.DiscReferenceIdeal.Gen.facts, Cert.OutKernel.Gen.facts, Cert.OutKernelIdeal.Gen.facts,
  Cert.OutReferenceIdeal.Gen.facts, Cert.UpKernel.Gen.facts, Cert.UpKernelIdeal.Gen.facts, Cert.UpReferenceIdeal.Gen.facts,
  Ffn.pre_facts, Attn.pre_facts, Norm.pre_facts, Mix.pre_facts,
  fun m ρ _ => Cert.LossKernel.Gen.frame m ρ, fun m ρ _ => Cert.LossKernelIdeal.Gen.frame m ρ, Loss.frame_reference,
  fun m ρ _ => Cert.FfnKernel.Gen.frame m ρ, fun m ρ _ => Cert.FfnKernelIdeal.Gen.frame m ρ,
  fun m ρ _ => Cert.FfnKernelIdeal.Gen.frame m ρ, Ffn.frame_reference, fun m ρ _ => Ffn.frame_reference m ρ trivial,
  Gate.frame_kernel, Gate.frame_ideal, Gate.frame_reference, Attn.frame_kernel, Attn.frame_ideal,
  fun m ρ _ => Attn.frame_ideal m ρ trivial, Attn.frame_reference, fun m ρ _ => Attn.frame_reference m ρ trivial,
  fun m ρ _ => Cert.NormKernel.Gen.frame m ρ, fun m ρ _ => Cert.NormKernelIdeal.Gen.frame m ρ,
  fun m ρ _ => Cert.NormKernelIdeal.Gen.frame m ρ, Norm.frame_reference, fun m ρ _ => Norm.frame_reference m ρ trivial,
  fun m ρ _ => Cert.MixKernel.Gen.frame m ρ, fun m ρ _ => Cert.MixKernelIdeal.Gen.frame m ρ,
  fun m ρ _ => Cert.MixKernelIdeal.Gen.frame m ρ, Mix.frame_reference, fun m ρ _ => Mix.frame_reference m ρ trivial,
  fun m ρ _ => Cert.PrepKernel.Gen.frame m ρ, fun m ρ _ => Cert.PrepKernelIdeal.Gen.frame m ρ, Prep.frame_reference,
  fun m ρ _ => Cert.DiscKernel.Gen.frame m ρ, fun m ρ _ => Cert.DiscKernelIdeal.Gen.frame m ρ, Disc.frame_reference,
  fun m ρ _ => Cert.OutKernel.Gen.frame m ρ, fun m ρ _ => Cert.OutKernelIdeal.Gen.frame m ρ, Out.frame_reference,
  fun m ρ _ => Cert.UpKernel.Gen.frame m ρ, fun m ρ _ => Cert.UpKernelIdeal.Gen.frame m ρ, Up.frame_reference,
  trivial, Loss.algebraic, trivial, Ffn.algebraic, trivial, Gate.algebraic, trivial, Attn.algebraic, trivial, Norm.algebraic,
  trivial, Mix.algebraic, trivial, Prep.algebraic, trivial, Disc.algebraic, trivial, Out.algebraic, trivial, Up.algebraic⟩

end Cert.Proof

end
